-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_RefInAIdeal (m : (ℓ : Loc Cert.RefInAIdeal.nD Cert.RefInAIdeal.τ Cert.RefInAIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_RefInBIdeal (m : (ℓ : Loc Cert.RefInBIdeal.nD Cert.RefInBIdeal.τ Cert.RefInBIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_RefInCIdeal (m : (ℓ : Loc Cert.RefInCIdeal.nD Cert.RefInCIdeal.τ Cert.RefInCIdeal.sig) → Buf (Elt Ideal) ℓ) : Prop :=
  True

def Pre_InM (m : (ℓ : Loc Cert.InM.nD Cert.InM.τ Cert.InM.sig) → Buf (Elt Bits) ℓ) : Prop :=
  True

def Pre_InMIdeal (m : (ℓ : Loc Cert.InMIdeal.nD Cert.InMIdeal.τ Cert.InMIdeal.sig) → Buf (Elt Ideal) ℓ) : Prop :=
  True

def Pre_RefInMIdeal (m : (ℓ : Loc Cert.RefInMIdeal.nD Cert.RefInMIdeal.τ Cert.RefInMIdeal.sig) → Buf (Elt Ideal) ℓ) : Prop :=
  True

def Pre_BrA (m : (ℓ : Loc Cert.BrA.nD Cert.BrA.τ Cert.BrA.sig) → Buf (Elt Bits) ℓ) : Prop :=
  True

def Pre_BrAIdeal (m : (ℓ : Loc Cert.BrAIdeal.nD Cert.BrAIdeal.τ Cert.BrAIdeal.sig) → Buf (Elt Ideal) ℓ) : Prop :=
  True

def Pre_RefBrAIdeal (m : (ℓ : Loc Cert.RefBrAIdeal.nD Cert.RefBrAIdeal.τ Cert.RefBrAIdeal.sig) → Buf (Elt Ideal) ℓ) : Prop :=
  True

def Pre_BrB (m : (ℓ : Loc Cert.BrB.nD Cert.BrB.τ Cert.BrB.sig) → Buf (Elt Bits) ℓ) : Prop :=
  True

def Pre_BrBIdeal (m : (ℓ : Loc Cert.BrBIdeal.nD Cert.BrBIdeal.τ Cert.BrBIdeal.sig) → Buf (Elt Ideal) ℓ) : Prop :=
  True

def Pre_RefBrBIdeal (m : (ℓ : Loc Cert.RefBrBIdeal.nD Cert.RefBrBIdeal.τ Cert.RefBrBIdeal.sig) → Buf (Elt Ideal) ℓ) : Prop :=
  True

def Pre_BrC (m : (ℓ : Loc Cert.BrC.nD Cert.BrC.τ Cert.BrC.sig) → Buf (Elt Bits) ℓ) : Prop :=
  True

def Pre_BrCIdeal (m : (ℓ : Loc Cert.BrCIdeal.nD Cert.BrCIdeal.τ Cert.BrCIdeal.sig) → Buf (Elt Ideal) ℓ) : Prop :=
  True

def Pre_RefBrCIdeal (m : (ℓ : Loc Cert.RefBrCIdeal.nD Cert.RefBrCIdeal.τ Cert.RefBrCIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_dx [hPre_finite_dx : Cert.Pre_finite_dx.Facts] (m : (ℓ : Loc Cert.InDxIdeal.nD Cert.InDxIdeal.τ Cert.InDxIdeal.sig) → Buf (Elt Ideal) ℓ) : Prop :=
  ∀ c : Dev Cert.InDxIdeal.nD,
    (Cert.Pre_finite_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7))) = (fun _ => 1#1)

def Pre_RefInDxIdeal (m : (ℓ : Loc Cert.RefInDxIdeal.nD Cert.RefInDxIdeal.τ Cert.RefInDxIdeal.sig) → Buf (Elt Ideal) ℓ) : Prop :=
  True

def Pre_RefInDxIdeal_finite_dx [hPre_finite_dx : Cert.Pre_finite_dx.Facts] (m : (ℓ : Loc Cert.RefInDxIdeal.nD Cert.RefInDxIdeal.τ Cert.RefInDxIdeal.sig) → Buf (Elt Ideal) ℓ) : Prop :=
  ∀ c : Dev Cert.RefInDxIdeal.nD,
    (Cert.Pre_finite_dx.fn (F := Ideal) (m ((c.tc : Thread Cert.RefInDxIdeal.nD Cert.RefInDxIdeal.τ).loc Cert.RefInDxIdeal.main_arg0)) (m ((c.tc : Thread Cert.RefInDxIdeal.nD Cert.RefInDxIdeal.τ).loc Cert.RefInDxIdeal.main_arg1)) (m ((c.tc : Thread Cert.RefInDxIdeal.nD Cert.RefInDxIdeal.τ).loc Cert.RefInDxIdeal.main_arg2)) (m ((c.tc : Thread Cert.RefInDxIdeal.nD Cert.RefInDxIdeal.τ).loc Cert.RefInDxIdeal.main_arg3)) (m ((c.tc : Thread Cert.RefInDxIdeal.nD Cert.RefInDxIdeal.τ).loc Cert.RefInDxIdeal.main_arg4)) (m ((c.tc : Thread Cert.RefInDxIdeal.nD Cert.RefInDxIdeal.τ).loc Cert.RefInDxIdeal.main_arg5)) (m ((c.tc : Thread Cert.RefInDxIdeal.nD Cert.RefInDxIdeal.τ).loc Cert.RefInDxIdeal.main_arg6)) (m ((c.tc : Thread Cert.RefInDxIdeal.nD Cert.RefInDxIdeal.τ).loc Cert.RefInDxIdeal.main_arg7))) = (fun _ => 1#1)

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_RefMergeFIdeal (m : (ℓ : Loc Cert.RefMergeFIdeal.nD Cert.RefMergeFIdeal.τ Cert.RefMergeFIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_RefAdInIdeal (m : (ℓ : Loc Cert.RefAdInIdeal.nD Cert.RefAdInIdeal.τ Cert.RefAdInIdeal.sig) → Buf (Elt Ideal) ℓ) : Prop :=
  True

def Pre_AdKv (m : (ℓ : Loc Cert.AdKv.nD Cert.AdKv.τ Cert.AdKv.sig) → Buf (Elt Bits) ℓ) : Prop :=
  True

def Pre_AdKvIdeal (m : (ℓ : Loc Cert.AdKvIdeal.nD Cert.AdKvIdeal.τ Cert.AdKvIdeal.sig) → Buf (Elt Ideal) ℓ) : Prop :=
  True

def Pre_RefAdKvIdeal (m : (ℓ : Loc Cert.RefAdKvIdeal.nD Cert.RefAdKvIdeal.τ Cert.RefAdKvIdeal.sig) → Buf (Elt Ideal) ℓ) : Prop :=
  True

def Pre_AdBr (m : (ℓ : Loc Cert.AdBr.nD Cert.AdBr.τ Cert.AdBr.sig) → Buf (Elt Bits) ℓ) : Prop :=
  True

def Pre_AdBrIdeal (m : (ℓ : Loc Cert.AdBrIdeal.nD Cert.AdBrIdeal.τ Cert.AdBrIdeal.sig) → Buf (Elt Ideal) ℓ) : Prop :=
  True

def Pre_RefAdBrIdeal (m : (ℓ : Loc Cert.RefAdBrIdeal.nD Cert.RefAdBrIdeal.τ Cert.RefAdBrIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_RefAdOutIdeal (m : (ℓ : Loc Cert.RefAdOutIdeal.nD Cert.RefAdOutIdeal.τ Cert.RefAdOutIdeal.sig) → Buf (Elt Ideal) ℓ) : Prop :=
  True

def Pre_AdMix (m : (ℓ : Loc Cert.AdMix.nD Cert.AdMix.τ Cert.AdMix.sig) → Buf (Elt Bits) ℓ) : Prop :=
  True

def Pre_AdMixIdeal (m : (ℓ : Loc Cert.AdMixIdeal.nD Cert.AdMixIdeal.τ Cert.AdMixIdeal.sig) → Buf (Elt Ideal) ℓ) : Prop :=
  True

def Pre_RefAdMixIdeal (m : (ℓ : Loc Cert.RefAdMixIdeal.nD Cert.RefAdMixIdeal.τ Cert.RefAdMixIdeal.sig) → Buf (Elt Ideal) ℓ) : Prop :=
  True

def Pre_AdBias (m : (ℓ : Loc Cert.AdBias.nD Cert.AdBias.τ Cert.AdBias.sig) → Buf (Elt Bits) ℓ) : Prop :=
  True

def Pre_AdBiasIdeal (m : (ℓ : Loc Cert.AdBiasIdeal.nD Cert.AdBiasIdeal.τ Cert.AdBiasIdeal.sig) → Buf (Elt Ideal) ℓ) : Prop :=
  True

def Pre_RefAdBiasIdeal (m : (ℓ : Loc Cert.RefAdBiasIdeal.nD Cert.RefAdBiasIdeal.τ Cert.RefAdBiasIdeal.sig) → Buf (Elt Ideal) ℓ) : Prop :=
  True

def Pre_AdConv (m : (ℓ : Loc Cert.AdConv.nD Cert.AdConv.τ Cert.AdConv.sig) → Buf (Elt Bits) ℓ) : Prop :=
  True

def Pre_AdConvIdeal (m : (ℓ : Loc Cert.AdConvIdeal.nD Cert.AdConvIdeal.τ Cert.AdConvIdeal.sig) → Buf (Elt Ideal) ℓ) : Prop :=
  True

def Pre_RefAdConvIdeal (m : (ℓ : Loc Cert.RefAdConvIdeal.nD Cert.RefAdConvIdeal.τ Cert.RefAdConvIdeal.sig) → Buf (Elt Ideal) ℓ) : Prop :=
  True

def Pre_AdRow (m : (ℓ : Loc Cert.AdRow.nD Cert.AdRow.τ Cert.AdRow.sig) → Buf (Elt Bits) ℓ) : Prop :=
  True

def Pre_AdRowIdeal (m : (ℓ : Loc Cert.AdRowIdeal.nD Cert.AdRowIdeal.τ Cert.AdRowIdeal.sig) → Buf (Elt Ideal) ℓ) : Prop :=
  True

def Pre_RefAdRowIdeal (m : (ℓ : Loc Cert.RefAdRowIdeal.nD Cert.RefAdRowIdeal.τ Cert.RefAdRowIdeal.sig) → Buf (Elt Ideal) ℓ) : Prop :=
  True

def Pre_AdFinal (m : (ℓ : Loc Cert.AdFinal.nD Cert.AdFinal.τ Cert.AdFinal.sig) → Buf (Elt Bits) ℓ) : Prop :=
  True

def Pre_AdFinalIdeal (m : (ℓ : Loc Cert.AdFinalIdeal.nD Cert.AdFinalIdeal.τ Cert.AdFinalIdeal.sig) → Buf (Elt Ideal) ℓ) : Prop :=
  True

def Pre_RefAdFinalIdeal (m : (ℓ : Loc Cert.RefAdFinalIdeal.nD Cert.RefAdFinalIdeal.τ Cert.RefAdFinalIdeal.sig) → Buf (Elt Ideal) ℓ) : Prop :=
  True

def Pre_KvF (m : (ℓ : Loc Cert.KvF.nD Cert.KvF.τ Cert.KvF.sig) → Buf (Elt Bits) ℓ) : Prop :=
  True

def Pre_KvFIdeal (m : (ℓ : Loc Cert.KvFIdeal.nD Cert.KvFIdeal.τ Cert.KvFIdeal.sig) → Buf (Elt Ideal) ℓ) : Prop :=
  True

def Pre_RefKvFIdeal (m : (ℓ : Loc Cert.RefKvFIdeal.nD Cert.RefKvFIdeal.τ Cert.RefKvFIdeal.sig) → Buf (Elt Ideal) ℓ) : Prop :=
  True

def Pre_AttF (m : (ℓ : Loc Cert.AttF.nD Cert.AttF.τ Cert.AttF.sig) → Buf (Elt Bits) ℓ) : Prop :=
  True

def Pre_AttFIdeal (m : (ℓ : Loc Cert.AttFIdeal.nD Cert.AttFIdeal.τ Cert.AttFIdeal.sig) → Buf (Elt Ideal) ℓ) : Prop :=
  True

def Pre_RefAttFIdeal (m : (ℓ : Loc Cert.RefAttFIdeal.nD Cert.RefAttFIdeal.τ Cert.RefAttFIdeal.sig) → Buf (Elt Ideal) ℓ) : Prop :=
  True

def Pre_KvB (m : (ℓ : Loc Cert.KvB.nD Cert.KvB.τ Cert.KvB.sig) → Buf (Elt Bits) ℓ) : Prop :=
  True

def Pre_KvBIdeal (m : (ℓ : Loc Cert.KvBIdeal.nD Cert.KvBIdeal.τ Cert.KvBIdeal.sig) → Buf (Elt Ideal) ℓ) : Prop :=
  True

def Pre_RefKvBIdeal (m : (ℓ : Loc Cert.RefKvBIdeal.nD Cert.RefKvBIdeal.τ Cert.RefKvBIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_RefLossIdeal (m : (ℓ : Loc Cert.RefLossIdeal.nD Cert.RefLossIdeal.τ Cert.RefLossIdeal.sig) → Buf (Elt Ideal) ℓ) : Prop :=
  True

def Pre_RefLossIdeal_finite_loss [hPre_finite_loss : Cert.Pre_finite_loss.Facts] (m : (ℓ : Loc Cert.RefLossIdeal.nD Cert.RefLossIdeal.τ Cert.RefLossIdeal.sig) → Buf (Elt Ideal) ℓ) : Prop :=
  ∀ c : Dev Cert.RefLossIdeal.nD,
    (Cert.Pre_finite_loss.fn (F := Ideal) (m ((c.tc : Thread Cert.RefLossIdeal.nD Cert.RefLossIdeal.τ).loc Cert.RefLossIdeal.main_arg0)) (m ((c.tc : Thread Cert.RefLossIdeal.nD Cert.RefLossIdeal.τ).loc Cert.RefLossIdeal.main_arg1)) (m ((c.tc : Thread Cert.RefLossIdeal.nD Cert.RefLossIdeal.τ).loc Cert.RefLossIdeal.main_arg2))) = (fun _ => 1#1)

def Pre_LossAll (m : (ℓ : Loc Cert.LossAll.nD Cert.LossAll.τ Cert.LossAll.sig) → Buf (Elt Bits) ℓ) : Prop :=
  True

def Pre_LossAllIdeal (m : (ℓ : Loc Cert.LossAllIdeal.nD Cert.LossAllIdeal.τ Cert.LossAllIdeal.sig) → Buf (Elt Ideal) ℓ) : Prop :=
  True

def Pre_RefLossAllIdeal (m : (ℓ : Loc Cert.RefLossAllIdeal.nD Cert.RefLossAllIdeal.τ Cert.RefLossAllIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_RefInAIdeal [hRefInAIdeal : Cert.RefInAIdeal.Facts] : Prop :=
  ∀ (m : (ℓ : Loc Cert.RefInAIdeal.nD Cert.RefInAIdeal.τ Cert.RefInAIdeal.sig) → Buf (Elt Ideal) ℓ) (g : Dev Cert.RefInAIdeal.nD → PrngReg), Pre_RefInAIdeal m →
    θ_run (Cert.RefInAIdeal.defs (F := Ideal)) (onTc (τ := Cert.RefInAIdeal.τ) (Cert.RefInAIdeal.main (F := Ideal))) ⟨m, fun _ => 0, g⟩ (fun r => (∀ c : Dev Cert.RefInAIdeal.nD,
      r.2.mem ((c.tc : Thread Cert.RefInAIdeal.nD Cert.RefInAIdeal.τ).loc Cert.RefInAIdeal.main_arg0) = m ((c.tc : Thread Cert.RefInAIdeal.nD Cert.RefInAIdeal.τ).loc Cert.RefInAIdeal.main_arg0)
      ∧ r.2.mem ((c.tc : Thread Cert.RefInAIdeal.nD Cert.RefInAIdeal.τ).loc Cert.RefInAIdeal.main_arg1) = m ((c.tc : Thread Cert.RefInAIdeal.nD Cert.RefInAIdeal.τ).loc Cert.RefInAIdeal.main_arg1)
      ∧ r.2.mem ((c.tc : Thread Cert.RefInAIdeal.nD Cert.RefInAIdeal.τ).loc Cert.RefInAIdeal.main_arg2) = m ((c.tc : Thread Cert.RefInAIdeal.nD Cert.RefInAIdeal.τ).loc Cert.RefInAIdeal.main_arg2))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3))
      ∧ r.2.sem = fun _ => 0)

def quiescent_RefInBIdeal [hRefInBIdeal : Cert.RefInBIdeal.Facts] : Prop :=
  ∀ (m : (ℓ : Loc Cert.RefInBIdeal.nD Cert.RefInBIdeal.τ Cert.RefInBIdeal.sig) → Buf (Elt Ideal) ℓ) (g : Dev Cert.RefInBIdeal.nD → PrngReg), Pre_RefInBIdeal m →
    θ_run (Cert.RefInBIdeal.defs (F := Ideal)) (onTc (τ := Cert.RefInBIdeal.τ) (Cert.RefInBIdeal.main (F := Ideal))) ⟨m, fun _ => 0, g⟩ (fun r => (∀ c : Dev Cert.RefInBIdeal.nD,
      r.2.mem ((c.tc : Thread Cert.RefInBIdeal.nD Cert.RefInBIdeal.τ).loc Cert.RefInBIdeal.main_arg0) = m ((c.tc : Thread Cert.RefInBIdeal.nD Cert.RefInBIdeal.τ).loc Cert.RefInBIdeal.main_arg0)
      ∧ r.2.mem ((c.tc : Thread Cert.RefInBIdeal.nD Cert.RefInBIdeal.τ).loc Cert.RefInBIdeal.main_arg1) = m ((c.tc : Thread Cert.RefInBIdeal.nD Cert.RefInBIdeal.τ).loc Cert.RefInBIdeal.main_arg1)
      ∧ r.2.mem ((c.tc : Thread Cert.RefInBIdeal.nD Cert.RefInBIdeal.τ).loc Cert.RefInBIdeal.main_arg2) = m ((c.tc : Thread Cert.RefInBIdeal.nD Cert.RefInBIdeal.τ).loc Cert.RefInBIdeal.main_arg2)
      ∧ r.2.mem ((c.tc : Thread Cert.RefInBIdeal.nD Cert.RefInBIdeal.τ).loc Cert.RefInBIdeal.main_arg3) = m ((c.tc : Thread Cert.RefInBIdeal.nD Cert.RefInBIdeal.τ).loc Cert.RefInBIdeal.main_arg3))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2)
      ∧ r.2.mem ((c.tc : Thread Cert.InC.nD Cert.InC.τ).loc Cert.InC.main_arg3) = m ((c.tc : Thread Cert.InC.nD Cert.InC.τ).loc Cert.InC.main_arg3))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
      ∧ r.2.mem ((c.tc : Thread Cert.InCIdeal.nD Cert.InCIdeal.τ).loc Cert.InCIdeal.main_arg3) = m ((c.tc : Thread Cert.InCIdeal.nD Cert.InCIdeal.τ).loc Cert.InCIdeal.main_arg3))
      ∧ r.2.sem = fun _ => 0)

def quiescent_RefInCIdeal [hRefInCIdeal : Cert.RefInCIdeal.Facts] : Prop :=
  ∀ (m : (ℓ : Loc Cert.RefInCIdeal.nD Cert.RefInCIdeal.τ Cert.RefInCIdeal.sig) → Buf (Elt Ideal) ℓ) (g : Dev Cert.RefInCIdeal.nD → PrngReg), Pre_RefInCIdeal m →
    θ_run (Cert.RefInCIdeal.defs (F := Ideal)) (onTc (τ := Cert.RefInCIdeal.τ) (Cert.RefInCIdeal.main (F := Ideal))) ⟨m, fun _ => 0, g⟩ (fun r => (∀ c : Dev Cert.RefInCIdeal.nD,
      r.2.mem ((c.tc : Thread Cert.RefInCIdeal.nD Cert.RefInCIdeal.τ).loc Cert.RefInCIdeal.main_arg0) = m ((c.tc : Thread Cert.RefInCIdeal.nD Cert.RefInCIdeal.τ).loc Cert.RefInCIdeal.main_arg0)
      ∧ r.2.mem ((c.tc : Thread Cert.RefInCIdeal.nD Cert.RefInCIdeal.τ).loc Cert.RefInCIdeal.main_arg1) = m ((c.tc : Thread Cert.RefInCIdeal.nD Cert.RefInCIdeal.τ).loc Cert.RefInCIdeal.main_arg1)
      ∧ r.2.mem ((c.tc : Thread Cert.RefInCIdeal.nD Cert.RefInCIdeal.τ).loc Cert.RefInCIdeal.main_arg2) = m ((c.tc : Thread Cert.RefInCIdeal.nD Cert.RefInCIdeal.τ).loc Cert.RefInCIdeal.main_arg2)
      ∧ r.2.mem ((c.tc : Thread Cert.RefInCIdeal.nD Cert.RefInCIdeal.τ).loc Cert.RefInCIdeal.main_arg3) = m ((c.tc : Thread Cert.RefInCIdeal.nD Cert.RefInCIdeal.τ).loc Cert.RefInCIdeal.main_arg3))
      ∧ r.2.sem = fun _ => 0)

def quiescent_InM [hInM : Cert.InM.Facts] : Prop :=
  ∀ (m : (ℓ : Loc Cert.InM.nD Cert.InM.τ Cert.InM.sig) → Buf (Elt Bits) ℓ) (g : Dev Cert.InM.nD → PrngReg), Pre_InM m →
    θ_run (Cert.InM.defs (F := Bits)) (onTc (τ := Cert.InM.τ) (Cert.InM.main (F := Bits))) ⟨m, fun _ => 0, g⟩ (fun r => (∀ c : Dev Cert.InM.nD,
      r.2.mem ((c.tc : Thread Cert.InM.nD Cert.InM.τ).loc Cert.InM.main_arg0) = m ((c.tc : Thread Cert.InM.nD Cert.InM.τ).loc Cert.InM.main_arg0)
      ∧ r.2.mem ((c.tc : Thread Cert.InM.nD Cert.InM.τ).loc Cert.InM.main_arg1) = m ((c.tc : Thread Cert.InM.nD Cert.InM.τ).loc Cert.InM.main_arg1)
      ∧ r.2.mem ((c.tc : Thread Cert.InM.nD Cert.InM.τ).loc Cert.InM.main_arg2) = m ((c.tc : Thread Cert.InM.nD Cert.InM.τ).loc Cert.InM.main_arg2)
      ∧ r.2.mem ((c.tc : Thread Cert.InM.nD Cert.InM.τ).loc Cert.InM.main_arg3) = m ((c.tc : Thread Cert.InM.nD Cert.InM.τ).loc Cert.InM.main_arg3))
      ∧ r.2.sem = fun _ => 0)

def quiescent_InMIdeal [hInMIdeal : Cert.InMIdeal.Facts] : Prop :=
  ∀ (m : (ℓ : Loc Cert.InMIdeal.nD Cert.InMIdeal.τ Cert.InMIdeal.sig) → Buf (Elt Ideal) ℓ) (g : Dev Cert.InMIdeal.nD → PrngReg), Pre_InMIdeal m →
    θ_run (Cert.InMIdeal.defs (F := Ideal)) (onTc (τ := Cert.InMIdeal.τ) (Cert.InMIdeal.main (F := Ideal))) ⟨m, fun _ => 0, g⟩ (fun r => (∀ c : Dev Cert.InMIdeal.nD,
      r.2.mem ((c.tc : Thread Cert.InMIdeal.nD Cert.InMIdeal.τ).loc Cert.InMIdeal.main_arg0) = m ((c.tc : Thread Cert.InMIdeal.nD Cert.InMIdeal.τ).loc Cert.InMIdeal.main_arg0)
      ∧ r.2.mem ((c.tc : Thread Cert.InMIdeal.nD Cert.InMIdeal.τ).loc Cert.InMIdeal.main_arg1) = m ((c.tc : Thread Cert.InMIdeal.nD Cert.InMIdeal.τ).loc Cert.InMIdeal.main_arg1)
      ∧ r.2.mem ((c.tc : Thread Cert.InMIdeal.nD Cert.InMIdeal.τ).loc Cert.InMIdeal.main_arg2) = m ((c.tc : Thread Cert.InMIdeal.nD Cert.InMIdeal.τ).loc Cert.InMIdeal.main_arg2)
      ∧ r.2.mem ((c.tc : Thread Cert.InMIdeal.nD Cert.InMIdeal.τ).loc Cert.InMIdeal.main_arg3) = m ((c.tc : Thread Cert.InMIdeal.nD Cert.InMIdeal.τ).loc Cert.InMIdeal.main_arg3))
      ∧ r.2.sem = fun _ => 0)

def quiescent_RefInMIdeal [hRefInMIdeal : Cert.RefInMIdeal.Facts] : Prop :=
  ∀ (m : (ℓ : Loc Cert.RefInMIdeal.nD Cert.RefInMIdeal.τ Cert.RefInMIdeal.sig) → Buf (Elt Ideal) ℓ) (g : Dev Cert.RefInMIdeal.nD → PrngReg), Pre_RefInMIdeal m →
    θ_run (Cert.RefInMIdeal.defs (F := Ideal)) (onTc (τ := Cert.RefInMIdeal.τ) (Cert.RefInMIdeal.main (F := Ideal))) ⟨m, fun _ => 0, g⟩ (fun r => (∀ c : Dev Cert.RefInMIdeal.nD,
      r.2.mem ((c.tc : Thread Cert.RefInMIdeal.nD Cert.RefInMIdeal.τ).loc Cert.RefInMIdeal.main_arg0) = m ((c.tc : Thread Cert.RefInMIdeal.nD Cert.RefInMIdeal.τ).loc Cert.RefInMIdeal.main_arg0)
      ∧ r.2.mem ((c.tc : Thread Cert.RefInMIdeal.nD Cert.RefInMIdeal.τ).loc Cert.RefInMIdeal.main_arg1) = m ((c.tc : Thread Cert.RefInMIdeal.nD Cert.RefInMIdeal.τ).loc Cert.RefInMIdeal.main_arg1)
      ∧ r.2.mem ((c.tc : Thread Cert.RefInMIdeal.nD Cert.RefInMIdeal.τ).loc Cert.RefInMIdeal.main_arg2) = m ((c.tc : Thread Cert.RefInMIdeal.nD Cert.RefInMIdeal.τ).loc Cert.RefInMIdeal.main_arg2)
      ∧ r.2.mem ((c.tc : Thread Cert.RefInMIdeal.nD Cert.RefInMIdeal.τ).loc Cert.RefInMIdeal.main_arg3) = m ((c.tc : Thread Cert.RefInMIdeal.nD Cert.RefInMIdeal.τ).loc Cert.RefInMIdeal.main_arg3))
      ∧ r.2.sem = fun _ => 0)

def quiescent_BrA [hBrA : Cert.BrA.Facts] : Prop :=
  ∀ (m : (ℓ : Loc Cert.BrA.nD Cert.BrA.τ Cert.BrA.sig) → Buf (Elt Bits) ℓ) (g : Dev Cert.BrA.nD → PrngReg), Pre_BrA m →
    θ_run (Cert.BrA.defs (F := Bits)) (onTc (τ := Cert.BrA.τ) (Cert.BrA.main (F := Bits))) ⟨m, fun _ => 0, g⟩ (fun r => (∀ c : Dev Cert.BrA.nD,
      r.2.mem ((c.tc : Thread Cert.BrA.nD Cert.BrA.τ).loc Cert.BrA.main_arg0) = m ((c.tc : Thread Cert.BrA.nD Cert.BrA.τ).loc Cert.BrA.main_arg0)
      ∧ r.2.mem ((c.tc : Thread Cert.BrA.nD Cert.BrA.τ).loc Cert.BrA.main_arg1) = m ((c.tc : Thread Cert.BrA.nD Cert.BrA.τ).loc Cert.BrA.main_arg1))
      ∧ r.2.sem = fun _ => 0)

def quiescent_BrAIdeal [hBrAIdeal : Cert.BrAIdeal.Facts] : Prop :=
  ∀ (m : (ℓ : Loc Cert.BrAIdeal.nD Cert.BrAIdeal.τ Cert.BrAIdeal.sig) → Buf (Elt Ideal) ℓ) (g : Dev Cert.BrAIdeal.nD → PrngReg), Pre_BrAIdeal m →
    θ_run (Cert.BrAIdeal.defs (F := Ideal)) (onTc (τ := Cert.BrAIdeal.τ) (Cert.BrAIdeal.main (F := Ideal))) ⟨m, fun _ => 0, g⟩ (fun r => (∀ c : Dev Cert.BrAIdeal.nD,
      r.2.mem ((c.tc : Thread Cert.BrAIdeal.nD Cert.BrAIdeal.τ).loc Cert.BrAIdeal.main_arg0) = m ((c.tc : Thread Cert.BrAIdeal.nD Cert.BrAIdeal.τ).loc Cert.BrAIdeal.main_arg0)
      ∧ r.2.mem ((c.tc : Thread Cert.BrAIdeal.nD Cert.BrAIdeal.τ).loc Cert.BrAIdeal.main_arg1) = m ((c.tc : Thread Cert.BrAIdeal.nD Cert.BrAIdeal.τ).loc Cert.BrAIdeal.main_arg1))
      ∧ r.2.sem = fun _ => 0)

def quiescent_RefBrAIdeal [hRefBrAIdeal : Cert.RefBrAIdeal.Facts] : Prop :=
  ∀ (m : (ℓ : Loc Cert.RefBrAIdeal.nD Cert.RefBrAIdeal.τ Cert.RefBrAIdeal.sig) → Buf (Elt Ideal) ℓ) (g : Dev Cert.RefBrAIdeal.nD → PrngReg), Pre_RefBrAIdeal m →
    θ_run (Cert.RefBrAIdeal.defs (F := Ideal)) (onTc (τ := Cert.RefBrAIdeal.τ) (Cert.RefBrAIdeal.main (F := Ideal))) ⟨m, fun _ => 0, g⟩ (fun r => (∀ c : Dev Cert.RefBrAIdeal.nD,
      r.2.mem ((c.tc : Thread Cert.RefBrAIdeal.nD Cert.RefBrAIdeal.τ).loc Cert.RefBrAIdeal.main_arg0) = m ((c.tc : Thread Cert.RefBrAIdeal.nD Cert.RefBrAIdeal.τ).loc Cert.RefBrAIdeal.main_arg0)
      ∧ r.2.mem ((c.tc : Thread Cert.RefBrAIdeal.nD Cert.RefBrAIdeal.τ).loc Cert.RefBrAIdeal.main_arg1) = m ((c.tc : Thread Cert.RefBrAIdeal.nD Cert.RefBrAIdeal.τ).loc Cert.RefBrAIdeal.main_arg1))
      ∧ r.2.sem = fun _ => 0)

def quiescent_BrB [hBrB : Cert.BrB.Facts] : Prop :=
  ∀ (m : (ℓ : Loc Cert.BrB.nD Cert.BrB.τ Cert.BrB.sig) → Buf (Elt Bits) ℓ) (g : Dev Cert.BrB.nD → PrngReg), Pre_BrB m →
    θ_run (Cert.BrB.defs (F := Bits)) (onTc (τ := Cert.BrB.τ) (Cert.BrB.main (F := Bits))) ⟨m, fun _ => 0, g⟩ (fun r => (∀ c : Dev Cert.BrB.nD,
      r.2.mem ((c.tc : Thread Cert.BrB.nD Cert.BrB.τ).loc Cert.BrB.main_arg0) = m ((c.tc : Thread Cert.BrB.nD Cert.BrB.τ).loc Cert.BrB.main_arg0)
      ∧ r.2.mem ((c.tc : Thread Cert.BrB.nD Cert.BrB.τ).loc Cert.BrB.main_arg1) = m ((c.tc : Thread Cert.BrB.nD Cert.BrB.τ).loc Cert.BrB.main_arg1)
      ∧ r.2.mem ((c.tc : Thread Cert.BrB.nD Cert.BrB.τ).loc Cert.BrB.main_arg2) = m ((c.tc : Thread Cert.BrB.nD Cert.BrB.τ).loc Cert.BrB.main_arg2))
      ∧ r.2.sem = fun _ => 0)

def quiescent_BrBIdeal [hBrBIdeal : Cert.BrBIdeal.Facts] : Prop :=
  ∀ (m : (ℓ : Loc Cert.BrBIdeal.nD Cert.BrBIdeal.τ Cert.BrBIdeal.sig) → Buf (Elt Ideal) ℓ) (g : Dev Cert.BrBIdeal.nD → PrngReg), Pre_BrBIdeal m →
    θ_run (Cert.BrBIdeal.defs (F := Ideal)) (onTc (τ := Cert.BrBIdeal.τ) (Cert.BrBIdeal.main (F := Ideal))) ⟨m, fun _ => 0, g⟩ (fun r => (∀ c : Dev Cert.BrBIdeal.nD,
      r.2.mem ((c.tc : Thread Cert.BrBIdeal.nD Cert.BrBIdeal.τ).loc Cert.BrBIdeal.main_arg0) = m ((c.tc : Thread Cert.BrBIdeal.nD Cert.BrBIdeal.τ).loc Cert.BrBIdeal.main_arg0)
      ∧ r.2.mem ((c.tc : Thread Cert.BrBIdeal.nD Cert.BrBIdeal.τ).loc Cert.BrBIdeal.main_arg1) = m ((c.tc : Thread Cert.BrBIdeal.nD Cert.BrBIdeal.τ).loc Cert.BrBIdeal.main_arg1)
      ∧ r.2.mem ((c.tc : Thread Cert.BrBIdeal.nD Cert.BrBIdeal.τ).loc Cert.BrBIdeal.main_arg2) = m ((c.tc : Thread Cert.BrBIdeal.nD Cert.BrBIdeal.τ).loc Cert.BrBIdeal.main_arg2))
      ∧ r.2.sem = fun _ => 0)

def quiescent_RefBrBIdeal [hRefBrBIdeal : Cert.RefBrBIdeal.Facts] : Prop :=
  ∀ (m : (ℓ : Loc Cert.RefBrBIdeal.nD Cert.RefBrBIdeal.τ Cert.RefBrBIdeal.sig) → Buf (Elt Ideal) ℓ) (g : Dev Cert.RefBrBIdeal.nD → PrngReg), Pre_RefBrBIdeal m →
    θ_run (Cert.RefBrBIdeal.defs (F := Ideal)) (onTc (τ := Cert.RefBrBIdeal.τ) (Cert.RefBrBIdeal.main (F := Ideal))) ⟨m, fun _ => 0, g⟩ (fun r => (∀ c : Dev Cert.RefBrBIdeal.nD,
      r.2.mem ((c.tc : Thread Cert.RefBrBIdeal.nD Cert.RefBrBIdeal.τ).loc Cert.RefBrBIdeal.main_arg0) = m ((c.tc : Thread Cert.RefBrBIdeal.nD Cert.RefBrBIdeal.τ).loc Cert.RefBrBIdeal.main_arg0)
      ∧ r.2.mem ((c.tc : Thread Cert.RefBrBIdeal.nD Cert.RefBrBIdeal.τ).loc Cert.RefBrBIdeal.main_arg1) = m ((c.tc : Thread Cert.RefBrBIdeal.nD Cert.RefBrBIdeal.τ).loc Cert.RefBrBIdeal.main_arg1)
      ∧ r.2.mem ((c.tc : Thread Cert.RefBrBIdeal.nD Cert.RefBrBIdeal.τ).loc Cert.RefBrBIdeal.main_arg2) = m ((c.tc : Thread Cert.RefBrBIdeal.nD Cert.RefBrBIdeal.τ).loc Cert.RefBrBIdeal.main_arg2))
      ∧ r.2.sem = fun _ => 0)

def quiescent_BrC [hBrC : Cert.BrC.Facts] : Prop :=
  ∀ (m : (ℓ : Loc Cert.BrC.nD Cert.BrC.τ Cert.BrC.sig) → Buf (Elt Bits) ℓ) (g : Dev Cert.BrC.nD → PrngReg), Pre_BrC m →
    θ_run (Cert.BrC.defs (F := Bits)) (onTc (τ := Cert.BrC.τ) (Cert.BrC.main (F := Bits))) ⟨m, fun _ => 0, g⟩ (fun r => (∀ c : Dev Cert.BrC.nD,
      r.2.mem ((c.tc : Thread Cert.BrC.nD Cert.BrC.τ).loc Cert.BrC.main_arg0) = m ((c.tc : Thread Cert.BrC.nD Cert.BrC.τ).loc Cert.BrC.main_arg0)
      ∧ r.2.mem ((c.tc : Thread Cert.BrC.nD Cert.BrC.τ).loc Cert.BrC.main_arg1) = m ((c.tc : Thread Cert.BrC.nD Cert.BrC.τ).loc Cert.BrC.main_arg1)
      ∧ r.2.mem ((c.tc : Thread Cert.BrC.nD Cert.BrC.τ).loc Cert.BrC.main_arg2) = m ((c.tc : Thread Cert.BrC.nD Cert.BrC.τ).loc Cert.BrC.main_arg2))
      ∧ r.2.sem = fun _ => 0)

def quiescent_BrCIdeal [hBrCIdeal : Cert.BrCIdeal.Facts] : Prop :=
  ∀ (m : (ℓ : Loc Cert.BrCIdeal.nD Cert.BrCIdeal.τ Cert.BrCIdeal.sig) → Buf (Elt Ideal) ℓ) (g : Dev Cert.BrCIdeal.nD → PrngReg), Pre_BrCIdeal m →
    θ_run (Cert.BrCIdeal.defs (F := Ideal)) (onTc (τ := Cert.BrCIdeal.τ) (Cert.BrCIdeal.main (F := Ideal))) ⟨m, fun _ => 0, g⟩ (fun r => (∀ c : Dev Cert.BrCIdeal.nD,
      r.2.mem ((c.tc : Thread Cert.BrCIdeal.nD Cert.BrCIdeal.τ).loc Cert.BrCIdeal.main_arg0) = m ((c.tc : Thread Cert.BrCIdeal.nD Cert.BrCIdeal.τ).loc Cert.BrCIdeal.main_arg0)
      ∧ r.2.mem ((c.tc : Thread Cert.BrCIdeal.nD Cert.BrCIdeal.τ).loc Cert.BrCIdeal.main_arg1) = m ((c.tc : Thread Cert.BrCIdeal.nD Cert.BrCIdeal.τ).loc Cert.BrCIdeal.main_arg1)
      ∧ r.2.mem ((c.tc : Thread Cert.BrCIdeal.nD Cert.BrCIdeal.τ).loc Cert.BrCIdeal.main_arg2) = m ((c.tc : Thread Cert.BrCIdeal.nD Cert.BrCIdeal.τ).loc Cert.BrCIdeal.main_arg2))
      ∧ r.2.sem = fun _ => 0)

def quiescent_RefBrCIdeal [hRefBrCIdeal : Cert.RefBrCIdeal.Facts] : Prop :=
  ∀ (m : (ℓ : Loc Cert.RefBrCIdeal.nD Cert.RefBrCIdeal.τ Cert.RefBrCIdeal.sig) → Buf (Elt Ideal) ℓ) (g : Dev Cert.RefBrCIdeal.nD → PrngReg), Pre_RefBrCIdeal m →
    θ_run (Cert.RefBrCIdeal.defs (F := Ideal)) (onTc (τ := Cert.RefBrCIdeal.τ) (Cert.RefBrCIdeal.main (F := Ideal))) ⟨m, fun _ => 0, g⟩ (fun r => (∀ c : Dev Cert.RefBrCIdeal.nD,
      r.2.mem ((c.tc : Thread Cert.RefBrCIdeal.nD Cert.RefBrCIdeal.τ).loc Cert.RefBrCIdeal.main_arg0) = m ((c.tc : Thread Cert.RefBrCIdeal.nD Cert.RefBrCIdeal.τ).loc Cert.RefBrCIdeal.main_arg0)
      ∧ r.2.mem ((c.tc : Thread Cert.RefBrCIdeal.nD Cert.RefBrCIdeal.τ).loc Cert.RefBrCIdeal.main_arg1) = m ((c.tc : Thread Cert.RefBrCIdeal.nD Cert.RefBrCIdeal.τ).loc Cert.RefBrCIdeal.main_arg1)
      ∧ r.2.mem ((c.tc : Thread Cert.RefBrCIdeal.nD Cert.RefBrCIdeal.τ).loc Cert.RefBrCIdeal.main_arg2) = m ((c.tc : Thread Cert.RefBrCIdeal.nD Cert.RefBrCIdeal.τ).loc Cert.RefBrCIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_InDxIdeal_pre_finite_dx [hInDxIdeal : Cert.InDxIdeal.Facts] [hPre_finite_dx : Cert.Pre_finite_dx.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_dx m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1)
      ∧ r.2.mem ((c.tc : Thread Cert.RefInDxIdeal.nD Cert.RefInDxIdeal.τ).loc Cert.RefInDxIdeal.main_arg2) = m ((c.tc : Thread Cert.RefInDxIdeal.nD Cert.RefInDxIdeal.τ).loc Cert.RefInDxIdeal.main_arg2)
      ∧ r.2.mem ((c.tc : Thread Cert.RefInDxIdeal.nD Cert.RefInDxIdeal.τ).loc Cert.RefInDxIdeal.main_arg3) = m ((c.tc : Thread Cert.RefInDxIdeal.nD Cert.RefInDxIdeal.τ).loc Cert.RefInDxIdeal.main_arg3)
      ∧ r.2.mem ((c.tc : Thread Cert.RefInDxIdeal.nD Cert.RefInDxIdeal.τ).loc Cert.RefInDxIdeal.main_arg4) = m ((c.tc : Thread Cert.RefInDxIdeal.nD Cert.RefInDxIdeal.τ).loc Cert.RefInDxIdeal.main_arg4)
      ∧ r.2.mem ((c.tc : Thread Cert.RefInDxIdeal.nD Cert.RefInDxIdeal.τ).loc Cert.RefInDxIdeal.main_arg5) = m ((c.tc : Thread Cert.RefInDxIdeal.nD Cert.RefInDxIdeal.τ).loc Cert.RefInDxIdeal.main_arg5)
      ∧ r.2.mem ((c.tc : Thread Cert.RefInDxIdeal.nD Cert.RefInDxIdeal.τ).loc Cert.RefInDxIdeal.main_arg6) = m ((c.tc : Thread Cert.RefInDxIdeal.nD Cert.RefInDxIdeal.τ).loc Cert.RefInDxIdeal.main_arg6)
      ∧ r.2.mem ((c.tc : Thread Cert.RefInDxIdeal.nD Cert.RefInDxIdeal.τ).loc Cert.RefInDxIdeal.main_arg7) = m ((c.tc : Thread Cert.RefInDxIdeal.nD Cert.RefInDxIdeal.τ).loc Cert.RefInDxIdeal.main_arg7))
      ∧ r.2.sem = fun _ => 0)

def quiescent_RefInDxIdeal_pre_finite_dx [hRefInDxIdeal : Cert.RefInDxIdeal.Facts] [hPre_finite_dx : Cert.Pre_finite_dx.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal_finite_dx m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1)
      ∧ r.2.mem ((c.tc : Thread Cert.RefInDxIdeal.nD Cert.RefInDxIdeal.τ).loc Cert.RefInDxIdeal.main_arg2) = m ((c.tc : Thread Cert.RefInDxIdeal.nD Cert.RefInDxIdeal.τ).loc Cert.RefInDxIdeal.main_arg2)
      ∧ r.2.mem ((c.tc : Thread Cert.RefInDxIdeal.nD Cert.RefInDxIdeal.τ).loc Cert.RefInDxIdeal.main_arg3) = m ((c.tc : Thread Cert.RefInDxIdeal.nD Cert.RefInDxIdeal.τ).loc Cert.RefInDxIdeal.main_arg3)
      ∧ r.2.mem ((c.tc : Thread Cert.RefInDxIdeal.nD Cert.RefInDxIdeal.τ).loc Cert.RefInDxIdeal.main_arg4) = m ((c.tc : Thread Cert.RefInDxIdeal.nD Cert.RefInDxIdeal.τ).loc Cert.RefInDxIdeal.main_arg4)
      ∧ r.2.mem ((c.tc : Thread Cert.RefInDxIdeal.nD Cert.RefInDxIdeal.τ).loc Cert.RefInDxIdeal.main_arg5) = m ((c.tc : Thread Cert.RefInDxIdeal.nD Cert.RefInDxIdeal.τ).loc Cert.RefInDxIdeal.main_arg5)
      ∧ r.2.mem ((c.tc : Thread Cert.RefInDxIdeal.nD Cert.RefInDxIdeal.τ).loc Cert.RefInDxIdeal.main_arg6) = m ((c.tc : Thread Cert.RefInDxIdeal.nD Cert.RefInDxIdeal.τ).loc Cert.RefInDxIdeal.main_arg6)
      ∧ r.2.mem ((c.tc : Thread Cert.RefInDxIdeal.nD Cert.RefInDxIdeal.τ).loc Cert.RefInDxIdeal.main_arg7) = m ((c.tc : Thread Cert.RefInDxIdeal.nD Cert.RefInDxIdeal.τ).loc Cert.RefInDxIdeal.main_arg7))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4)
      ∧ r.2.mem ((c.tc : Thread Cert.MergeF.nD Cert.MergeF.τ).loc Cert.MergeF.main_arg5) = m ((c.tc : Thread Cert.MergeF.nD Cert.MergeF.τ).loc Cert.MergeF.main_arg5)
      ∧ r.2.mem ((c.tc : Thread Cert.MergeF.nD Cert.MergeF.τ).loc Cert.MergeF.main_arg6) = m ((c.tc : Thread Cert.MergeF.nD Cert.MergeF.τ).loc Cert.MergeF.main_arg6)
      ∧ r.2.mem ((c.tc : Thread Cert.MergeF.nD Cert.MergeF.τ).loc Cert.MergeF.main_arg7) = m ((c.tc : Thread Cert.MergeF.nD Cert.MergeF.τ).loc Cert.MergeF.main_arg7)
      ∧ r.2.mem ((c.tc : Thread Cert.MergeF.nD Cert.MergeF.τ).loc Cert.MergeF.main_arg8) = m ((c.tc : Thread Cert.MergeF.nD Cert.MergeF.τ).loc Cert.MergeF.main_arg8)
      ∧ r.2.mem ((c.tc : Thread Cert.MergeF.nD Cert.MergeF.τ).loc Cert.MergeF.main_arg9) = m ((c.tc : Thread Cert.MergeF.nD Cert.MergeF.τ).loc Cert.MergeF.main_arg9)
      ∧ r.2.mem ((c.tc : Thread Cert.MergeF.nD Cert.MergeF.τ).loc Cert.MergeF.main_arg10) = m ((c.tc : Thread Cert.MergeF.nD Cert.MergeF.τ).loc Cert.MergeF.main_arg10)
      ∧ r.2.mem ((c.tc : Thread Cert.MergeF.nD Cert.MergeF.τ).loc Cert.MergeF.main_arg11) = m ((c.tc : Thread Cert.MergeF.nD Cert.MergeF.τ).loc Cert.MergeF.main_arg11))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
      ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5)
      ∧ r.2.mem ((c.tc : Thread Cert.MergeFIdeal.nD Cert.MergeFIdeal.τ).loc Cert.MergeFIdeal.main_arg6) = m ((c.tc : Thread Cert.MergeFIdeal.nD Cert.MergeFIdeal.τ).loc Cert.MergeFIdeal.main_arg6)
      ∧ r.2.mem ((c.tc : Thread Cert.MergeFIdeal.nD Cert.MergeFIdeal.τ).loc Cert.MergeFIdeal.main_arg7) = m ((c.tc : Thread Cert.MergeFIdeal.nD Cert.MergeFIdeal.τ).loc Cert.MergeFIdeal.main_arg7)
      ∧ r.2.mem ((c.tc : Thread Cert.MergeFIdeal.nD Cert.MergeFIdeal.τ).loc Cert.MergeFIdeal.main_arg8) = m ((c.tc : Thread Cert.MergeFIdeal.nD Cert.MergeFIdeal.τ).loc Cert.MergeFIdeal.main_arg8)
      ∧ r.2.mem ((c.tc : Thread Cert.MergeFIdeal.nD Cert.MergeFIdeal.τ).loc Cert.MergeFIdeal.main_arg9) = m ((c.tc : Thread Cert.MergeFIdeal.nD Cert.MergeFIdeal.τ).loc Cert.MergeFIdeal.main_arg9)
      ∧ r.2.mem ((c.tc : Thread Cert.MergeFIdeal.nD Cert.MergeFIdeal.τ).loc Cert.MergeFIdeal.main_arg10) = m ((c.tc : Thread Cert.MergeFIdeal.nD Cert.MergeFIdeal.τ).loc Cert.MergeFIdeal.main_arg10)
      ∧ r.2.mem ((c.tc : Thread Cert.MergeFIdeal.nD Cert.MergeFIdeal.τ).loc Cert.MergeFIdeal.main_arg11) = m ((c.tc : Thread Cert.MergeFIdeal.nD Cert.MergeFIdeal.τ).loc Cert.MergeFIdeal.main_arg11))
      ∧ r.2.sem = fun _ => 0)

def quiescent_RefMergeFIdeal [hRefMergeFIdeal : Cert.RefMergeFIdeal.Facts] : Prop :=
  ∀ (m : (ℓ : Loc Cert.RefMergeFIdeal.nD Cert.RefMergeFIdeal.τ Cert.RefMergeFIdeal.sig) → Buf (Elt Ideal) ℓ) (g : Dev Cert.RefMergeFIdeal.nD → PrngReg), Pre_RefMergeFIdeal m →
    θ_run (Cert.RefMergeFIdeal.defs (F := Ideal)) (onTc (τ := Cert.RefMergeFIdeal.τ) (Cert.RefMergeFIdeal.main (F := Ideal))) ⟨m, fun _ => 0, g⟩ (fun r => (∀ c : Dev Cert.RefMergeFIdeal.nD,
      r.2.mem ((c.tc : Thread Cert.RefMergeFIdeal.nD Cert.RefMergeFIdeal.τ).loc Cert.RefMergeFIdeal.main_arg0) = m ((c.tc : Thread Cert.RefMergeFIdeal.nD Cert.RefMergeFIdeal.τ).loc Cert.RefMergeFIdeal.main_arg0)
      ∧ r.2.mem ((c.tc : Thread Cert.RefMergeFIdeal.nD Cert.RefMergeFIdeal.τ).loc Cert.RefMergeFIdeal.main_arg1) = m ((c.tc : Thread Cert.RefMergeFIdeal.nD Cert.RefMergeFIdeal.τ).loc Cert.RefMergeFIdeal.main_arg1)
      ∧ r.2.mem ((c.tc : Thread Cert.RefMergeFIdeal.nD Cert.RefMergeFIdeal.τ).loc Cert.RefMergeFIdeal.main_arg2) = m ((c.tc : Thread Cert.RefMergeFIdeal.nD Cert.RefMergeFIdeal.τ).loc Cert.RefMergeFIdeal.main_arg2)
      ∧ r.2.mem ((c.tc : Thread Cert.RefMergeFIdeal.nD Cert.RefMergeFIdeal.τ).loc Cert.RefMergeFIdeal.main_arg3) = m ((c.tc : Thread Cert.RefMergeFIdeal.nD Cert.RefMergeFIdeal.τ).loc Cert.RefMergeFIdeal.main_arg3)
      ∧ r.2.mem ((c.tc : Thread Cert.RefMergeFIdeal.nD Cert.RefMergeFIdeal.τ).loc Cert.RefMergeFIdeal.main_arg4) = m ((c.tc : Thread Cert.RefMergeFIdeal.nD Cert.RefMergeFIdeal.τ).loc Cert.RefMergeFIdeal.main_arg4)
      ∧ r.2.mem ((c.tc : Thread Cert.RefMergeFIdeal.nD Cert.RefMergeFIdeal.τ).loc Cert.RefMergeFIdeal.main_arg5) = m ((c.tc : Thread Cert.RefMergeFIdeal.nD Cert.RefMergeFIdeal.τ).loc Cert.RefMergeFIdeal.main_arg5)
      ∧ r.2.mem ((c.tc : Thread Cert.RefMergeFIdeal.nD Cert.RefMergeFIdeal.τ).loc Cert.RefMergeFIdeal.main_arg6) = m ((c.tc : Thread Cert.RefMergeFIdeal.nD Cert.RefMergeFIdeal.τ).loc Cert.RefMergeFIdeal.main_arg6)
      ∧ r.2.mem ((c.tc : Thread Cert.RefMergeFIdeal.nD Cert.RefMergeFIdeal.τ).loc Cert.RefMergeFIdeal.main_arg7) = m ((c.tc : Thread Cert.RefMergeFIdeal.nD Cert.RefMergeFIdeal.τ).loc Cert.RefMergeFIdeal.main_arg7)
      ∧ r.2.mem ((c.tc : Thread Cert.RefMergeFIdeal.nD Cert.RefMergeFIdeal.τ).loc Cert.RefMergeFIdeal.main_arg8) = m ((c.tc : Thread Cert.RefMergeFIdeal.nD Cert.RefMergeFIdeal.τ).loc Cert.RefMergeFIdeal.main_arg8)
      ∧ r.2.mem ((c.tc : Thread Cert.RefMergeFIdeal.nD Cert.RefMergeFIdeal.τ).loc Cert.RefMergeFIdeal.main_arg9) = m ((c.tc : Thread Cert.RefMergeFIdeal.nD Cert.RefMergeFIdeal.τ).loc Cert.RefMergeFIdeal.main_arg9)
      ∧ r.2.mem ((c.tc : Thread Cert.RefMergeFIdeal.nD Cert.RefMergeFIdeal.τ).loc Cert.RefMergeFIdeal.main_arg10) = m ((c.tc : Thread Cert.RefMergeFIdeal.nD Cert.RefMergeFIdeal.τ).loc Cert.RefMergeFIdeal.main_arg10)
      ∧ r.2.mem ((c.tc : Thread Cert.RefMergeFIdeal.nD Cert.RefMergeFIdeal.τ).loc Cert.RefMergeFIdeal.main_arg11) = m ((c.tc : Thread Cert.RefMergeFIdeal.nD Cert.RefMergeFIdeal.τ).loc Cert.RefMergeFIdeal.main_arg11))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_RefAdInIdeal [hRefAdInIdeal : Cert.RefAdInIdeal.Facts] : Prop :=
  ∀ (m : (ℓ : Loc Cert.RefAdInIdeal.nD Cert.RefAdInIdeal.τ Cert.RefAdInIdeal.sig) → Buf (Elt Ideal) ℓ) (g : Dev Cert.RefAdInIdeal.nD → PrngReg), Pre_RefAdInIdeal m →
    θ_run (Cert.RefAdInIdeal.defs (F := Ideal)) (onTc (τ := Cert.RefAdInIdeal.τ) (Cert.RefAdInIdeal.main (F := Ideal))) ⟨m, fun _ => 0, g⟩ (fun r => (∀ c : Dev Cert.RefAdInIdeal.nD,
      r.2.mem ((c.tc : Thread Cert.RefAdInIdeal.nD Cert.RefAdInIdeal.τ).loc Cert.RefAdInIdeal.main_arg0) = m ((c.tc : Thread Cert.RefAdInIdeal.nD Cert.RefAdInIdeal.τ).loc Cert.RefAdInIdeal.main_arg0)
      ∧ r.2.mem ((c.tc : Thread Cert.RefAdInIdeal.nD Cert.RefAdInIdeal.τ).loc Cert.RefAdInIdeal.main_arg1) = m ((c.tc : Thread Cert.RefAdInIdeal.nD Cert.RefAdInIdeal.τ).loc Cert.RefAdInIdeal.main_arg1)
      ∧ r.2.mem ((c.tc : Thread Cert.RefAdInIdeal.nD Cert.RefAdInIdeal.τ).loc Cert.RefAdInIdeal.main_arg2) = m ((c.tc : Thread Cert.RefAdInIdeal.nD Cert.RefAdInIdeal.τ).loc Cert.RefAdInIdeal.main_arg2)
      ∧ r.2.mem ((c.tc : Thread Cert.RefAdInIdeal.nD Cert.RefAdInIdeal.τ).loc Cert.RefAdInIdeal.main_arg3) = m ((c.tc : Thread Cert.RefAdInIdeal.nD Cert.RefAdInIdeal.τ).loc Cert.RefAdInIdeal.main_arg3))
      ∧ r.2.sem = fun _ => 0)

def quiescent_AdKv [hAdKv : Cert.AdKv.Facts] : Prop :=
  ∀ (m : (ℓ : Loc Cert.AdKv.nD Cert.AdKv.τ Cert.AdKv.sig) → Buf (Elt Bits) ℓ) (g : Dev Cert.AdKv.nD → PrngReg), Pre_AdKv m →
    θ_run (Cert.AdKv.defs (F := Bits)) (onTc (τ := Cert.AdKv.τ) (Cert.AdKv.main (F := Bits))) ⟨m, fun _ => 0, g⟩ (fun r => (∀ c : Dev Cert.AdKv.nD,
      r.2.mem ((c.tc : Thread Cert.AdKv.nD Cert.AdKv.τ).loc Cert.AdKv.main_arg0) = m ((c.tc : Thread Cert.AdKv.nD Cert.AdKv.τ).loc Cert.AdKv.main_arg0)
      ∧ r.2.mem ((c.tc : Thread Cert.AdKv.nD Cert.AdKv.τ).loc Cert.AdKv.main_arg1) = m ((c.tc : Thread Cert.AdKv.nD Cert.AdKv.τ).loc Cert.AdKv.main_arg1)
      ∧ r.2.mem ((c.tc : Thread Cert.AdKv.nD Cert.AdKv.τ).loc Cert.AdKv.main_arg2) = m ((c.tc : Thread Cert.AdKv.nD Cert.AdKv.τ).loc Cert.AdKv.main_arg2)
      ∧ r.2.mem ((c.tc : Thread Cert.AdKv.nD Cert.AdKv.τ).loc Cert.AdKv.main_arg3) = m ((c.tc : Thread Cert.AdKv.nD Cert.AdKv.τ).loc Cert.AdKv.main_arg3))
      ∧ r.2.sem = fun _ => 0)

def quiescent_AdKvIdeal [hAdKvIdeal : Cert.AdKvIdeal.Facts] : Prop :=
  ∀ (m : (ℓ : Loc Cert.AdKvIdeal.nD Cert.AdKvIdeal.τ Cert.AdKvIdeal.sig) → Buf (Elt Ideal) ℓ) (g : Dev Cert.AdKvIdeal.nD → PrngReg), Pre_AdKvIdeal m →
    θ_run (Cert.AdKvIdeal.defs (F := Ideal)) (onTc (τ := Cert.AdKvIdeal.τ) (Cert.AdKvIdeal.main (F := Ideal))) ⟨m, fun _ => 0, g⟩ (fun r => (∀ c : Dev Cert.AdKvIdeal.nD,
      r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
      ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
      ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
      ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ r.2.sem = fun _ => 0)

def quiescent_RefAdKvIdeal [hRefAdKvIdeal : Cert.RefAdKvIdeal.Facts] : Prop :=
  ∀ (m : (ℓ : Loc Cert.RefAdKvIdeal.nD Cert.RefAdKvIdeal.τ Cert.RefAdKvIdeal.sig) → Buf (Elt Ideal) ℓ) (g : Dev Cert.RefAdKvIdeal.nD → PrngReg), Pre_RefAdKvIdeal m →
    θ_run (Cert.RefAdKvIdeal.defs (F := Ideal)) (onTc (τ := Cert.RefAdKvIdeal.τ) (Cert.RefAdKvIdeal.main (F := Ideal))) ⟨m, fun _ => 0, g⟩ (fun r => (∀ c : Dev Cert.RefAdKvIdeal.nD,
      r.2.mem ((c.tc : Thread Cert.RefAdKvIdeal.nD Cert.RefAdKvIdeal.τ).loc Cert.RefAdKvIdeal.main_arg0) = m ((c.tc : Thread Cert.RefAdKvIdeal.nD Cert.RefAdKvIdeal.τ).loc Cert.RefAdKvIdeal.main_arg0)
      ∧ r.2.mem ((c.tc : Thread Cert.RefAdKvIdeal.nD Cert.RefAdKvIdeal.τ).loc Cert.RefAdKvIdeal.main_arg1) = m ((c.tc : Thread Cert.RefAdKvIdeal.nD Cert.RefAdKvIdeal.τ).loc Cert.RefAdKvIdeal.main_arg1)
      ∧ r.2.mem ((c.tc : Thread Cert.RefAdKvIdeal.nD Cert.RefAdKvIdeal.τ).loc Cert.RefAdKvIdeal.main_arg2) = m ((c.tc : Thread Cert.RefAdKvIdeal.nD Cert.RefAdKvIdeal.τ).loc Cert.RefAdKvIdeal.main_arg2)
      ∧ r.2.mem ((c.tc : Thread Cert.RefAdKvIdeal.nD Cert.RefAdKvIdeal.τ).loc Cert.RefAdKvIdeal.main_arg3) = m ((c.tc : Thread Cert.RefAdKvIdeal.nD Cert.RefAdKvIdeal.τ).loc Cert.RefAdKvIdeal.main_arg3))
      ∧ r.2.sem = fun _ => 0)

def quiescent_AdBr [hAdBr : Cert.AdBr.Facts] : Prop :=
  ∀ (m : (ℓ : Loc Cert.AdBr.nD Cert.AdBr.τ Cert.AdBr.sig) → Buf (Elt Bits) ℓ) (g : Dev Cert.AdBr.nD → PrngReg), Pre_AdBr m →
    θ_run (Cert.AdBr.defs (F := Bits)) (onTc (τ := Cert.AdBr.τ) (Cert.AdBr.main (F := Bits))) ⟨m, fun _ => 0, g⟩ (fun r => (∀ c : Dev Cert.AdBr.nD,
      r.2.mem ((c.tc : Thread Cert.AdBr.nD Cert.AdBr.τ).loc Cert.AdBr.main_arg0) = m ((c.tc : Thread Cert.AdBr.nD Cert.AdBr.τ).loc Cert.AdBr.main_arg0)
      ∧ r.2.mem ((c.tc : Thread Cert.AdBr.nD Cert.AdBr.τ).loc Cert.AdBr.main_arg1) = m ((c.tc : Thread Cert.AdBr.nD Cert.AdBr.τ).loc Cert.AdBr.main_arg1)
      ∧ r.2.mem ((c.tc : Thread Cert.AdBr.nD Cert.AdBr.τ).loc Cert.AdBr.main_arg2) = m ((c.tc : Thread Cert.AdBr.nD Cert.AdBr.τ).loc Cert.AdBr.main_arg2)
      ∧ r.2.mem ((c.tc : Thread Cert.AdBr.nD Cert.AdBr.τ).loc Cert.AdBr.main_arg3) = m ((c.tc : Thread Cert.AdBr.nD Cert.AdBr.τ).loc Cert.AdBr.main_arg3))
      ∧ r.2.sem = fun _ => 0)

def quiescent_AdBrIdeal [hAdBrIdeal : Cert.AdBrIdeal.Facts] : Prop :=
  ∀ (m : (ℓ : Loc Cert.AdBrIdeal.nD Cert.AdBrIdeal.τ Cert.AdBrIdeal.sig) → Buf (Elt Ideal) ℓ) (g : Dev Cert.AdBrIdeal.nD → PrngReg), Pre_AdBrIdeal m →
    θ_run (Cert.AdBrIdeal.defs (F := Ideal)) (onTc (τ := Cert.AdBrIdeal.τ) (Cert.AdBrIdeal.main (F := Ideal))) ⟨m, fun _ => 0, g⟩ (fun r => (∀ c : Dev Cert.AdBrIdeal.nD,
      r.2.mem ((c.tc : Thread Cert.AdBrIdeal.nD Cert.AdBrIdeal.τ).loc Cert.AdBrIdeal.main_arg0) = m ((c.tc : Thread Cert.AdBrIdeal.nD Cert.AdBrIdeal.τ).loc Cert.AdBrIdeal.main_arg0)
      ∧ r.2.mem ((c.tc : Thread Cert.AdBrIdeal.nD Cert.AdBrIdeal.τ).loc Cert.AdBrIdeal.main_arg1) = m ((c.tc : Thread Cert.AdBrIdeal.nD Cert.AdBrIdeal.τ).loc Cert.AdBrIdeal.main_arg1)
      ∧ r.2.mem ((c.tc : Thread Cert.AdBrIdeal.nD Cert.AdBrIdeal.τ).loc Cert.AdBrIdeal.main_arg2) = m ((c.tc : Thread Cert.AdBrIdeal.nD Cert.AdBrIdeal.τ).loc Cert.AdBrIdeal.main_arg2)
      ∧ r.2.mem ((c.tc : Thread Cert.AdBrIdeal.nD Cert.AdBrIdeal.τ).loc Cert.AdBrIdeal.main_arg3) = m ((c.tc : Thread Cert.AdBrIdeal.nD Cert.AdBrIdeal.τ).loc Cert.AdBrIdeal.main_arg3))
      ∧ r.2.sem = fun _ => 0)

def quiescent_RefAdBrIdeal [hRefAdBrIdeal : Cert.RefAdBrIdeal.Facts] : Prop :=
  ∀ (m : (ℓ : Loc Cert.RefAdBrIdeal.nD Cert.RefAdBrIdeal.τ Cert.RefAdBrIdeal.sig) → Buf (Elt Ideal) ℓ) (g : Dev Cert.RefAdBrIdeal.nD → PrngReg), Pre_RefAdBrIdeal m →
    θ_run (Cert.RefAdBrIdeal.defs (F := Ideal)) (onTc (τ := Cert.RefAdBrIdeal.τ) (Cert.RefAdBrIdeal.main (F := Ideal))) ⟨m, fun _ => 0, g⟩ (fun r => (∀ c : Dev Cert.RefAdBrIdeal.nD,
      r.2.mem ((c.tc : Thread Cert.RefAdBrIdeal.nD Cert.RefAdBrIdeal.τ).loc Cert.RefAdBrIdeal.main_arg0) = m ((c.tc : Thread Cert.RefAdBrIdeal.nD Cert.RefAdBrIdeal.τ).loc Cert.RefAdBrIdeal.main_arg0)
      ∧ r.2.mem ((c.tc : Thread Cert.RefAdBrIdeal.nD Cert.RefAdBrIdeal.τ).loc Cert.RefAdBrIdeal.main_arg1) = m ((c.tc : Thread Cert.RefAdBrIdeal.nD Cert.RefAdBrIdeal.τ).loc Cert.RefAdBrIdeal.main_arg1)
      ∧ r.2.mem ((c.tc : Thread Cert.RefAdBrIdeal.nD Cert.RefAdBrIdeal.τ).loc Cert.RefAdBrIdeal.main_arg2) = m ((c.tc : Thread Cert.RefAdBrIdeal.nD Cert.RefAdBrIdeal.τ).loc Cert.RefAdBrIdeal.main_arg2)
      ∧ r.2.mem ((c.tc : Thread Cert.RefAdBrIdeal.nD Cert.RefAdBrIdeal.τ).loc Cert.RefAdBrIdeal.main_arg3) = m ((c.tc : Thread Cert.RefAdBrIdeal.nD Cert.RefAdBrIdeal.τ).loc Cert.RefAdBrIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_RefAdOutIdeal [hRefAdOutIdeal : Cert.RefAdOutIdeal.Facts] : Prop :=
  ∀ (m : (ℓ : Loc Cert.RefAdOutIdeal.nD Cert.RefAdOutIdeal.τ Cert.RefAdOutIdeal.sig) → Buf (Elt Ideal) ℓ) (g : Dev Cert.RefAdOutIdeal.nD → PrngReg), Pre_RefAdOutIdeal m →
    θ_run (Cert.RefAdOutIdeal.defs (F := Ideal)) (onTc (τ := Cert.RefAdOutIdeal.τ) (Cert.RefAdOutIdeal.main (F := Ideal))) ⟨m, fun _ => 0, g⟩ (fun r => (∀ c : Dev Cert.RefAdOutIdeal.nD,
      r.2.mem ((c.tc : Thread Cert.RefAdOutIdeal.nD Cert.RefAdOutIdeal.τ).loc Cert.RefAdOutIdeal.main_arg0) = m ((c.tc : Thread Cert.RefAdOutIdeal.nD Cert.RefAdOutIdeal.τ).loc Cert.RefAdOutIdeal.main_arg0)
      ∧ r.2.mem ((c.tc : Thread Cert.RefAdOutIdeal.nD Cert.RefAdOutIdeal.τ).loc Cert.RefAdOutIdeal.main_arg1) = m ((c.tc : Thread Cert.RefAdOutIdeal.nD Cert.RefAdOutIdeal.τ).loc Cert.RefAdOutIdeal.main_arg1)
      ∧ r.2.mem ((c.tc : Thread Cert.RefAdOutIdeal.nD Cert.RefAdOutIdeal.τ).loc Cert.RefAdOutIdeal.main_arg2) = m ((c.tc : Thread Cert.RefAdOutIdeal.nD Cert.RefAdOutIdeal.τ).loc Cert.RefAdOutIdeal.main_arg2)
      ∧ r.2.mem ((c.tc : Thread Cert.RefAdOutIdeal.nD Cert.RefAdOutIdeal.τ).loc Cert.RefAdOutIdeal.main_arg3) = m ((c.tc : Thread Cert.RefAdOutIdeal.nD Cert.RefAdOutIdeal.τ).loc Cert.RefAdOutIdeal.main_arg3))
      ∧ r.2.sem = fun _ => 0)

def quiescent_AdMix [hAdMix : Cert.AdMix.Facts] : Prop :=
  ∀ (m : (ℓ : Loc Cert.AdMix.nD Cert.AdMix.τ Cert.AdMix.sig) → Buf (Elt Bits) ℓ) (g : Dev Cert.AdMix.nD → PrngReg), Pre_AdMix m →
    θ_run (Cert.AdMix.defs (F := Bits)) (onTc (τ := Cert.AdMix.τ) (Cert.AdMix.main (F := Bits))) ⟨m, fun _ => 0, g⟩ (fun r => (∀ c : Dev Cert.AdMix.nD,
      r.2.mem ((c.tc : Thread Cert.AdMix.nD Cert.AdMix.τ).loc Cert.AdMix.main_arg0) = m ((c.tc : Thread Cert.AdMix.nD Cert.AdMix.τ).loc Cert.AdMix.main_arg0)
      ∧ r.2.mem ((c.tc : Thread Cert.AdMix.nD Cert.AdMix.τ).loc Cert.AdMix.main_arg1) = m ((c.tc : Thread Cert.AdMix.nD Cert.AdMix.τ).loc Cert.AdMix.main_arg1)
      ∧ r.2.mem ((c.tc : Thread Cert.AdMix.nD Cert.AdMix.τ).loc Cert.AdMix.main_arg2) = m ((c.tc : Thread Cert.AdMix.nD Cert.AdMix.τ).loc Cert.AdMix.main_arg2)
      ∧ r.2.mem ((c.tc : Thread Cert.AdMix.nD Cert.AdMix.τ).loc Cert.AdMix.main_arg3) = m ((c.tc : Thread Cert.AdMix.nD Cert.AdMix.τ).loc Cert.AdMix.main_arg3))
      ∧ r.2.sem = fun _ => 0)

def quiescent_AdMixIdeal [hAdMixIdeal : Cert.AdMixIdeal.Facts] : Prop :=
  ∀ (m : (ℓ : Loc Cert.AdMixIdeal.nD Cert.AdMixIdeal.τ Cert.AdMixIdeal.sig) → Buf (Elt Ideal) ℓ) (g : Dev Cert.AdMixIdeal.nD → PrngReg), Pre_AdMixIdeal m →
    θ_run (Cert.AdMixIdeal.defs (F := Ideal)) (onTc (τ := Cert.AdMixIdeal.τ) (Cert.AdMixIdeal.main (F := Ideal))) ⟨m, fun _ => 0, g⟩ (fun r => (∀ c : Dev Cert.AdMixIdeal.nD,
      r.2.mem ((c.tc : Thread Cert.AdMixIdeal.nD Cert.AdMixIdeal.τ).loc Cert.AdMixIdeal.main_arg0) = m ((c.tc : Thread Cert.AdMixIdeal.nD Cert.AdMixIdeal.τ).loc Cert.AdMixIdeal.main_arg0)
      ∧ r.2.mem ((c.tc : Thread Cert.AdMixIdeal.nD Cert.AdMixIdeal.τ).loc Cert.AdMixIdeal.main_arg1) = m ((c.tc : Thread Cert.AdMixIdeal.nD Cert.AdMixIdeal.τ).loc Cert.AdMixIdeal.main_arg1)
      ∧ r.2.mem ((c.tc : Thread Cert.AdMixIdeal.nD Cert.AdMixIdeal.τ).loc Cert.AdMixIdeal.main_arg2) = m ((c.tc : Thread Cert.AdMixIdeal.nD Cert.AdMixIdeal.τ).loc Cert.AdMixIdeal.main_arg2)
      ∧ r.2.mem ((c.tc : Thread Cert.AdMixIdeal.nD Cert.AdMixIdeal.τ).loc Cert.AdMixIdeal.main_arg3) = m ((c.tc : Thread Cert.AdMixIdeal.nD Cert.AdMixIdeal.τ).loc Cert.AdMixIdeal.main_arg3))
      ∧ r.2.sem = fun _ => 0)

def quiescent_RefAdMixIdeal [hRefAdMixIdeal : Cert.RefAdMixIdeal.Facts] : Prop :=
  ∀ (m : (ℓ : Loc Cert.RefAdMixIdeal.nD Cert.RefAdMixIdeal.τ Cert.RefAdMixIdeal.sig) → Buf (Elt Ideal) ℓ) (g : Dev Cert.RefAdMixIdeal.nD → PrngReg), Pre_RefAdMixIdeal m →
    θ_run (Cert.RefAdMixIdeal.defs (F := Ideal)) (onTc (τ := Cert.RefAdMixIdeal.τ) (Cert.RefAdMixIdeal.main (F := Ideal))) ⟨m, fun _ => 0, g⟩ (fun r => (∀ c : Dev Cert.RefAdMixIdeal.nD,
      r.2.mem ((c.tc : Thread Cert.RefAdMixIdeal.nD Cert.RefAdMixIdeal.τ).loc Cert.RefAdMixIdeal.main_arg0) = m ((c.tc : Thread Cert.RefAdMixIdeal.nD Cert.RefAdMixIdeal.τ).loc Cert.RefAdMixIdeal.main_arg0)
      ∧ r.2.mem ((c.tc : Thread Cert.RefAdMixIdeal.nD Cert.RefAdMixIdeal.τ).loc Cert.RefAdMixIdeal.main_arg1) = m ((c.tc : Thread Cert.RefAdMixIdeal.nD Cert.RefAdMixIdeal.τ).loc Cert.RefAdMixIdeal.main_arg1)
      ∧ r.2.mem ((c.tc : Thread Cert.RefAdMixIdeal.nD Cert.RefAdMixIdeal.τ).loc Cert.RefAdMixIdeal.main_arg2) = m ((c.tc : Thread Cert.RefAdMixIdeal.nD Cert.RefAdMixIdeal.τ).loc Cert.RefAdMixIdeal.main_arg2)
      ∧ r.2.mem ((c.tc : Thread Cert.RefAdMixIdeal.nD Cert.RefAdMixIdeal.τ).loc Cert.RefAdMixIdeal.main_arg3) = m ((c.tc : Thread Cert.RefAdMixIdeal.nD Cert.RefAdMixIdeal.τ).loc Cert.RefAdMixIdeal.main_arg3))
      ∧ r.2.sem = fun _ => 0)

def quiescent_AdBias [hAdBias : Cert.AdBias.Facts] : Prop :=
  ∀ (m : (ℓ : Loc Cert.AdBias.nD Cert.AdBias.τ Cert.AdBias.sig) → Buf (Elt Bits) ℓ) (g : Dev Cert.AdBias.nD → PrngReg), Pre_AdBias m →
    θ_run (Cert.AdBias.defs (F := Bits)) (onTc (τ := Cert.AdBias.τ) (Cert.AdBias.main (F := Bits))) ⟨m, fun _ => 0, g⟩ (fun r => (∀ c : Dev Cert.AdBias.nD,
      r.2.mem ((c.tc : Thread Cert.AdBias.nD Cert.AdBias.τ).loc Cert.AdBias.main_arg0) = m ((c.tc : Thread Cert.AdBias.nD Cert.AdBias.τ).loc Cert.AdBias.main_arg0)
      ∧ r.2.mem ((c.tc : Thread Cert.AdBias.nD Cert.AdBias.τ).loc Cert.AdBias.main_arg1) = m ((c.tc : Thread Cert.AdBias.nD Cert.AdBias.τ).loc Cert.AdBias.main_arg1)
      ∧ r.2.mem ((c.tc : Thread Cert.AdBias.nD Cert.AdBias.τ).loc Cert.AdBias.main_arg2) = m ((c.tc : Thread Cert.AdBias.nD Cert.AdBias.τ).loc Cert.AdBias.main_arg2)
      ∧ r.2.mem ((c.tc : Thread Cert.AdBias.nD Cert.AdBias.τ).loc Cert.AdBias.main_arg3) = m ((c.tc : Thread Cert.AdBias.nD Cert.AdBias.τ).loc Cert.AdBias.main_arg3))
      ∧ r.2.sem = fun _ => 0)

def quiescent_AdBiasIdeal [hAdBiasIdeal : Cert.AdBiasIdeal.Facts] : Prop :=
  ∀ (m : (ℓ : Loc Cert.AdBiasIdeal.nD Cert.AdBiasIdeal.τ Cert.AdBiasIdeal.sig) → Buf (Elt Ideal) ℓ) (g : Dev Cert.AdBiasIdeal.nD → PrngReg), Pre_AdBiasIdeal m →
    θ_run (Cert.AdBiasIdeal.defs (F := Ideal)) (onTc (τ := Cert.AdBiasIdeal.τ) (Cert.AdBiasIdeal.main (F := Ideal))) ⟨m, fun _ => 0, g⟩ (fun r => (∀ c : Dev Cert.AdBiasIdeal.nD,
      r.2.mem ((c.tc : Thread Cert.AdBiasIdeal.nD Cert.AdBiasIdeal.τ).loc Cert.AdBiasIdeal.main_arg0) = m ((c.tc : Thread Cert.AdBiasIdeal.nD Cert.AdBiasIdeal.τ).loc Cert.AdBiasIdeal.main_arg0)
      ∧ r.2.mem ((c.tc : Thread Cert.AdBiasIdeal.nD Cert.AdBiasIdeal.τ).loc Cert.AdBiasIdeal.main_arg1) = m ((c.tc : Thread Cert.AdBiasIdeal.nD Cert.AdBiasIdeal.τ).loc Cert.AdBiasIdeal.main_arg1)
      ∧ r.2.mem ((c.tc : Thread Cert.AdBiasIdeal.nD Cert.AdBiasIdeal.τ).loc Cert.AdBiasIdeal.main_arg2) = m ((c.tc : Thread Cert.AdBiasIdeal.nD Cert.AdBiasIdeal.τ).loc Cert.AdBiasIdeal.main_arg2)
      ∧ r.2.mem ((c.tc : Thread Cert.AdBiasIdeal.nD Cert.AdBiasIdeal.τ).loc Cert.AdBiasIdeal.main_arg3) = m ((c.tc : Thread Cert.AdBiasIdeal.nD Cert.AdBiasIdeal.τ).loc Cert.AdBiasIdeal.main_arg3))
      ∧ r.2.sem = fun _ => 0)

def quiescent_RefAdBiasIdeal [hRefAdBiasIdeal : Cert.RefAdBiasIdeal.Facts] : Prop :=
  ∀ (m : (ℓ : Loc Cert.RefAdBiasIdeal.nD Cert.RefAdBiasIdeal.τ Cert.RefAdBiasIdeal.sig) → Buf (Elt Ideal) ℓ) (g : Dev Cert.RefAdBiasIdeal.nD → PrngReg), Pre_RefAdBiasIdeal m →
    θ_run (Cert.RefAdBiasIdeal.defs (F := Ideal)) (onTc (τ := Cert.RefAdBiasIdeal.τ) (Cert.RefAdBiasIdeal.main (F := Ideal))) ⟨m, fun _ => 0, g⟩ (fun r => (∀ c : Dev Cert.RefAdBiasIdeal.nD,
      r.2.mem ((c.tc : Thread Cert.RefAdBiasIdeal.nD Cert.RefAdBiasIdeal.τ).loc Cert.RefAdBiasIdeal.main_arg0) = m ((c.tc : Thread Cert.RefAdBiasIdeal.nD Cert.RefAdBiasIdeal.τ).loc Cert.RefAdBiasIdeal.main_arg0)
      ∧ r.2.mem ((c.tc : Thread Cert.RefAdBiasIdeal.nD Cert.RefAdBiasIdeal.τ).loc Cert.RefAdBiasIdeal.main_arg1) = m ((c.tc : Thread Cert.RefAdBiasIdeal.nD Cert.RefAdBiasIdeal.τ).loc Cert.RefAdBiasIdeal.main_arg1)
      ∧ r.2.mem ((c.tc : Thread Cert.RefAdBiasIdeal.nD Cert.RefAdBiasIdeal.τ).loc Cert.RefAdBiasIdeal.main_arg2) = m ((c.tc : Thread Cert.RefAdBiasIdeal.nD Cert.RefAdBiasIdeal.τ).loc Cert.RefAdBiasIdeal.main_arg2)
      ∧ r.2.mem ((c.tc : Thread Cert.RefAdBiasIdeal.nD Cert.RefAdBiasIdeal.τ).loc Cert.RefAdBiasIdeal.main_arg3) = m ((c.tc : Thread Cert.RefAdBiasIdeal.nD Cert.RefAdBiasIdeal.τ).loc Cert.RefAdBiasIdeal.main_arg3))
      ∧ r.2.sem = fun _ => 0)

def quiescent_AdConv [hAdConv : Cert.AdConv.Facts] : Prop :=
  ∀ (m : (ℓ : Loc Cert.AdConv.nD Cert.AdConv.τ Cert.AdConv.sig) → Buf (Elt Bits) ℓ) (g : Dev Cert.AdConv.nD → PrngReg), Pre_AdConv m →
    θ_run (Cert.AdConv.defs (F := Bits)) (onTc (τ := Cert.AdConv.τ) (Cert.AdConv.main (F := Bits))) ⟨m, fun _ => 0, g⟩ (fun r => (∀ c : Dev Cert.AdConv.nD,
      r.2.mem ((c.tc : Thread Cert.AdConv.nD Cert.AdConv.τ).loc Cert.AdConv.main_arg0) = m ((c.tc : Thread Cert.AdConv.nD Cert.AdConv.τ).loc Cert.AdConv.main_arg0)
      ∧ r.2.mem ((c.tc : Thread Cert.AdConv.nD Cert.AdConv.τ).loc Cert.AdConv.main_arg1) = m ((c.tc : Thread Cert.AdConv.nD Cert.AdConv.τ).loc Cert.AdConv.main_arg1)
      ∧ r.2.mem ((c.tc : Thread Cert.AdConv.nD Cert.AdConv.τ).loc Cert.AdConv.main_arg2) = m ((c.tc : Thread Cert.AdConv.nD Cert.AdConv.τ).loc Cert.AdConv.main_arg2)
      ∧ r.2.mem ((c.tc : Thread Cert.AdConv.nD Cert.AdConv.τ).loc Cert.AdConv.main_arg3) = m ((c.tc : Thread Cert.AdConv.nD Cert.AdConv.τ).loc Cert.AdConv.main_arg3))
      ∧ r.2.sem = fun _ => 0)

def quiescent_AdConvIdeal [hAdConvIdeal : Cert.AdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg), Pre_AdConvIdeal m →
    θ_run (Cert.AdConvIdeal.defs (F := Ideal)) (onTc (τ := Cert.AdConvIdeal.τ) (Cert.AdConvIdeal.main (F := Ideal))) ⟨m, fun _ => 0, g⟩ (fun r => (∀ c : Dev Cert.AdConvIdeal.nD,
      r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
      ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
      ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
      ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ r.2.sem = fun _ => 0)

def quiescent_RefAdConvIdeal [hRefAdConvIdeal : Cert.RefAdConvIdeal.Facts] : Prop :=
  ∀ (m : (ℓ : Loc Cert.RefAdConvIdeal.nD Cert.RefAdConvIdeal.τ Cert.RefAdConvIdeal.sig) → Buf (Elt Ideal) ℓ) (g : Dev Cert.RefAdConvIdeal.nD → PrngReg), Pre_RefAdConvIdeal m →
    θ_run (Cert.RefAdConvIdeal.defs (F := Ideal)) (onTc (τ := Cert.RefAdConvIdeal.τ) (Cert.RefAdConvIdeal.main (F := Ideal))) ⟨m, fun _ => 0, g⟩ (fun r => (∀ c : Dev Cert.RefAdConvIdeal.nD,
      r.2.mem ((c.tc : Thread Cert.RefAdConvIdeal.nD Cert.RefAdConvIdeal.τ).loc Cert.RefAdConvIdeal.main_arg0) = m ((c.tc : Thread Cert.RefAdConvIdeal.nD Cert.RefAdConvIdeal.τ).loc Cert.RefAdConvIdeal.main_arg0)
      ∧ r.2.mem ((c.tc : Thread Cert.RefAdConvIdeal.nD Cert.RefAdConvIdeal.τ).loc Cert.RefAdConvIdeal.main_arg1) = m ((c.tc : Thread Cert.RefAdConvIdeal.nD Cert.RefAdConvIdeal.τ).loc Cert.RefAdConvIdeal.main_arg1)
      ∧ r.2.mem ((c.tc : Thread Cert.RefAdConvIdeal.nD Cert.RefAdConvIdeal.τ).loc Cert.RefAdConvIdeal.main_arg2) = m ((c.tc : Thread Cert.RefAdConvIdeal.nD Cert.RefAdConvIdeal.τ).loc Cert.RefAdConvIdeal.main_arg2)
      ∧ r.2.mem ((c.tc : Thread Cert.RefAdConvIdeal.nD Cert.RefAdConvIdeal.τ).loc Cert.RefAdConvIdeal.main_arg3) = m ((c.tc : Thread Cert.RefAdConvIdeal.nD Cert.RefAdConvIdeal.τ).loc Cert.RefAdConvIdeal.main_arg3))
      ∧ r.2.sem = fun _ => 0)

def quiescent_AdRow [hAdRow : Cert.AdRow.Facts] : Prop :=
  ∀ (m : (ℓ : Loc Cert.AdRow.nD Cert.AdRow.τ Cert.AdRow.sig) → Buf (Elt Bits) ℓ) (g : Dev Cert.AdRow.nD → PrngReg), Pre_AdRow m →
    θ_run (Cert.AdRow.defs (F := Bits)) (onTc (τ := Cert.AdRow.τ) (Cert.AdRow.main (F := Bits))) ⟨m, fun _ => 0, g⟩ (fun r => (∀ c : Dev Cert.AdRow.nD,
      r.2.mem ((c.tc : Thread Cert.AdRow.nD Cert.AdRow.τ).loc Cert.AdRow.main_arg0) = m ((c.tc : Thread Cert.AdRow.nD Cert.AdRow.τ).loc Cert.AdRow.main_arg0)
      ∧ r.2.mem ((c.tc : Thread Cert.AdRow.nD Cert.AdRow.τ).loc Cert.AdRow.main_arg1) = m ((c.tc : Thread Cert.AdRow.nD Cert.AdRow.τ).loc Cert.AdRow.main_arg1)
      ∧ r.2.mem ((c.tc : Thread Cert.AdRow.nD Cert.AdRow.τ).loc Cert.AdRow.main_arg2) = m ((c.tc : Thread Cert.AdRow.nD Cert.AdRow.τ).loc Cert.AdRow.main_arg2)
      ∧ r.2.mem ((c.tc : Thread Cert.AdRow.nD Cert.AdRow.τ).loc Cert.AdRow.main_arg3) = m ((c.tc : Thread Cert.AdRow.nD Cert.AdRow.τ).loc Cert.AdRow.main_arg3))
      ∧ r.2.sem = fun _ => 0)

def quiescent_AdRowIdeal [hAdRowIdeal : Cert.AdRowIdeal.Facts] : Prop :=
  ∀ (m : (ℓ : Loc Cert.AdRowIdeal.nD Cert.AdRowIdeal.τ Cert.AdRowIdeal.sig) → Buf (Elt Ideal) ℓ) (g : Dev Cert.AdRowIdeal.nD → PrngReg), Pre_AdRowIdeal m →
    θ_run (Cert.AdRowIdeal.defs (F := Ideal)) (onTc (τ := Cert.AdRowIdeal.τ) (Cert.AdRowIdeal.main (F := Ideal))) ⟨m, fun _ => 0, g⟩ (fun r => (∀ c : Dev Cert.AdRowIdeal.nD,
      r.2.mem ((c.tc : Thread Cert.AdRowIdeal.nD Cert.AdRowIdeal.τ).loc Cert.AdRowIdeal.main_arg0) = m ((c.tc : Thread Cert.AdRowIdeal.nD Cert.AdRowIdeal.τ).loc Cert.AdRowIdeal.main_arg0)
      ∧ r.2.mem ((c.tc : Thread Cert.AdRowIdeal.nD Cert.AdRowIdeal.τ).loc Cert.AdRowIdeal.main_arg1) = m ((c.tc : Thread Cert.AdRowIdeal.nD Cert.AdRowIdeal.τ).loc Cert.AdRowIdeal.main_arg1)
      ∧ r.2.mem ((c.tc : Thread Cert.AdRowIdeal.nD Cert.AdRowIdeal.τ).loc Cert.AdRowIdeal.main_arg2) = m ((c.tc : Thread Cert.AdRowIdeal.nD Cert.AdRowIdeal.τ).loc Cert.AdRowIdeal.main_arg2)
      ∧ r.2.mem ((c.tc : Thread Cert.AdRowIdeal.nD Cert.AdRowIdeal.τ).loc Cert.AdRowIdeal.main_arg3) = m ((c.tc : Thread Cert.AdRowIdeal.nD Cert.AdRowIdeal.τ).loc Cert.AdRowIdeal.main_arg3))
      ∧ r.2.sem = fun _ => 0)

def quiescent_RefAdRowIdeal [hRefAdRowIdeal : Cert.RefAdRowIdeal.Facts] : Prop :=
  ∀ (m : (ℓ : Loc Cert.RefAdRowIdeal.nD Cert.RefAdRowIdeal.τ Cert.RefAdRowIdeal.sig) → Buf (Elt Ideal) ℓ) (g : Dev Cert.RefAdRowIdeal.nD → PrngReg), Pre_RefAdRowIdeal m →
    θ_run (Cert.RefAdRowIdeal.defs (F := Ideal)) (onTc (τ := Cert.RefAdRowIdeal.τ) (Cert.RefAdRowIdeal.main (F := Ideal))) ⟨m, fun _ => 0, g⟩ (fun r => (∀ c : Dev Cert.RefAdRowIdeal.nD,
      r.2.mem ((c.tc : Thread Cert.RefAdRowIdeal.nD Cert.RefAdRowIdeal.τ).loc Cert.RefAdRowIdeal.main_arg0) = m ((c.tc : Thread Cert.RefAdRowIdeal.nD Cert.RefAdRowIdeal.τ).loc Cert.RefAdRowIdeal.main_arg0)
      ∧ r.2.mem ((c.tc : Thread Cert.RefAdRowIdeal.nD Cert.RefAdRowIdeal.τ).loc Cert.RefAdRowIdeal.main_arg1) = m ((c.tc : Thread Cert.RefAdRowIdeal.nD Cert.RefAdRowIdeal.τ).loc Cert.RefAdRowIdeal.main_arg1)
      ∧ r.2.mem ((c.tc : Thread Cert.RefAdRowIdeal.nD Cert.RefAdRowIdeal.τ).loc Cert.RefAdRowIdeal.main_arg2) = m ((c.tc : Thread Cert.RefAdRowIdeal.nD Cert.RefAdRowIdeal.τ).loc Cert.RefAdRowIdeal.main_arg2)
      ∧ r.2.mem ((c.tc : Thread Cert.RefAdRowIdeal.nD Cert.RefAdRowIdeal.τ).loc Cert.RefAdRowIdeal.main_arg3) = m ((c.tc : Thread Cert.RefAdRowIdeal.nD Cert.RefAdRowIdeal.τ).loc Cert.RefAdRowIdeal.main_arg3))
      ∧ r.2.sem = fun _ => 0)

def quiescent_AdFinal [hAdFinal : Cert.AdFinal.Facts] : Prop :=
  ∀ (m : (ℓ : Loc Cert.AdFinal.nD Cert.AdFinal.τ Cert.AdFinal.sig) → Buf (Elt Bits) ℓ) (g : Dev Cert.AdFinal.nD → PrngReg), Pre_AdFinal m →
    θ_run (Cert.AdFinal.defs (F := Bits)) (onTc (τ := Cert.AdFinal.τ) (Cert.AdFinal.main (F := Bits))) ⟨m, fun _ => 0, g⟩ (fun r => (∀ c : Dev Cert.AdFinal.nD,
      r.2.mem ((c.tc : Thread Cert.AdFinal.nD Cert.AdFinal.τ).loc Cert.AdFinal.main_arg0) = m ((c.tc : Thread Cert.AdFinal.nD Cert.AdFinal.τ).loc Cert.AdFinal.main_arg0)
      ∧ r.2.mem ((c.tc : Thread Cert.AdFinal.nD Cert.AdFinal.τ).loc Cert.AdFinal.main_arg1) = m ((c.tc : Thread Cert.AdFinal.nD Cert.AdFinal.τ).loc Cert.AdFinal.main_arg1)
      ∧ r.2.mem ((c.tc : Thread Cert.AdFinal.nD Cert.AdFinal.τ).loc Cert.AdFinal.main_arg2) = m ((c.tc : Thread Cert.AdFinal.nD Cert.AdFinal.τ).loc Cert.AdFinal.main_arg2)
      ∧ r.2.mem ((c.tc : Thread Cert.AdFinal.nD Cert.AdFinal.τ).loc Cert.AdFinal.main_arg3) = m ((c.tc : Thread Cert.AdFinal.nD Cert.AdFinal.τ).loc Cert.AdFinal.main_arg3))
      ∧ r.2.sem = fun _ => 0)

def quiescent_AdFinalIdeal [hAdFinalIdeal : Cert.AdFinalIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg), Pre_AdFinalIdeal m →
    θ_run (Cert.AdFinalIdeal.defs (F := Ideal)) (onTc (τ := Cert.AdFinalIdeal.τ) (Cert.AdFinalIdeal.main (F := Ideal))) ⟨m, fun _ => 0, g⟩ (fun r => (∀ c : Dev Cert.AdFinalIdeal.nD,
      r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
      ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
      ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
      ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ r.2.sem = fun _ => 0)

def quiescent_RefAdFinalIdeal [hRefAdFinalIdeal : Cert.RefAdFinalIdeal.Facts] : Prop :=
  ∀ (m : (ℓ : Loc Cert.RefAdFinalIdeal.nD Cert.RefAdFinalIdeal.τ Cert.RefAdFinalIdeal.sig) → Buf (Elt Ideal) ℓ) (g : Dev Cert.RefAdFinalIdeal.nD → PrngReg), Pre_RefAdFinalIdeal m →
    θ_run (Cert.RefAdFinalIdeal.defs (F := Ideal)) (onTc (τ := Cert.RefAdFinalIdeal.τ) (Cert.RefAdFinalIdeal.main (F := Ideal))) ⟨m, fun _ => 0, g⟩ (fun r => (∀ c : Dev Cert.RefAdFinalIdeal.nD,
      r.2.mem ((c.tc : Thread Cert.RefAdFinalIdeal.nD Cert.RefAdFinalIdeal.τ).loc Cert.RefAdFinalIdeal.main_arg0) = m ((c.tc : Thread Cert.RefAdFinalIdeal.nD Cert.RefAdFinalIdeal.τ).loc Cert.RefAdFinalIdeal.main_arg0)
      ∧ r.2.mem ((c.tc : Thread Cert.RefAdFinalIdeal.nD Cert.RefAdFinalIdeal.τ).loc Cert.RefAdFinalIdeal.main_arg1) = m ((c.tc : Thread Cert.RefAdFinalIdeal.nD Cert.RefAdFinalIdeal.τ).loc Cert.RefAdFinalIdeal.main_arg1)
      ∧ r.2.mem ((c.tc : Thread Cert.RefAdFinalIdeal.nD Cert.RefAdFinalIdeal.τ).loc Cert.RefAdFinalIdeal.main_arg2) = m ((c.tc : Thread Cert.RefAdFinalIdeal.nD Cert.RefAdFinalIdeal.τ).loc Cert.RefAdFinalIdeal.main_arg2)
      ∧ r.2.mem ((c.tc : Thread Cert.RefAdFinalIdeal.nD Cert.RefAdFinalIdeal.τ).loc Cert.RefAdFinalIdeal.main_arg3) = m ((c.tc : Thread Cert.RefAdFinalIdeal.nD Cert.RefAdFinalIdeal.τ).loc Cert.RefAdFinalIdeal.main_arg3))
      ∧ r.2.sem = fun _ => 0)

def quiescent_KvF [hKvF : Cert.KvF.Facts] : Prop :=
  ∀ (m : (ℓ : Loc Cert.KvF.nD Cert.KvF.τ Cert.KvF.sig) → Buf (Elt Bits) ℓ) (g : Dev Cert.KvF.nD → PrngReg), Pre_KvF m →
    θ_run (Cert.KvF.defs (F := Bits)) (onTc (τ := Cert.KvF.τ) (Cert.KvF.main (F := Bits))) ⟨m, fun _ => 0, g⟩ (fun r => (∀ c : Dev Cert.KvF.nD,
      r.2.mem ((c.tc : Thread Cert.KvF.nD Cert.KvF.τ).loc Cert.KvF.main_arg0) = m ((c.tc : Thread Cert.KvF.nD Cert.KvF.τ).loc Cert.KvF.main_arg0)
      ∧ r.2.mem ((c.tc : Thread Cert.KvF.nD Cert.KvF.τ).loc Cert.KvF.main_arg1) = m ((c.tc : Thread Cert.KvF.nD Cert.KvF.τ).loc Cert.KvF.main_arg1)
      ∧ r.2.mem ((c.tc : Thread Cert.KvF.nD Cert.KvF.τ).loc Cert.KvF.main_arg2) = m ((c.tc : Thread Cert.KvF.nD Cert.KvF.τ).loc Cert.KvF.main_arg2))
      ∧ r.2.sem = fun _ => 0)

def quiescent_KvFIdeal [hKvFIdeal : Cert.KvFIdeal.Facts] : Prop :=
  ∀ (m : (ℓ : Loc Cert.KvFIdeal.nD Cert.KvFIdeal.τ Cert.KvFIdeal.sig) → Buf (Elt Ideal) ℓ) (g : Dev Cert.KvFIdeal.nD → PrngReg), Pre_KvFIdeal m →
    θ_run (Cert.KvFIdeal.defs (F := Ideal)) (onTc (τ := Cert.KvFIdeal.τ) (Cert.KvFIdeal.main (F := Ideal))) ⟨m, fun _ => 0, g⟩ (fun r => (∀ c : Dev Cert.KvFIdeal.nD,
      r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
      ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1)
      ∧ r.2.mem ((c.tc : Thread Cert.KvFIdeal.nD Cert.KvFIdeal.τ).loc Cert.KvFIdeal.main_arg2) = m ((c.tc : Thread Cert.KvFIdeal.nD Cert.KvFIdeal.τ).loc Cert.KvFIdeal.main_arg2))
      ∧ r.2.sem = fun _ => 0)

def quiescent_RefKvFIdeal [hRefKvFIdeal : Cert.RefKvFIdeal.Facts] : Prop :=
  ∀ (m : (ℓ : Loc Cert.RefKvFIdeal.nD Cert.RefKvFIdeal.τ Cert.RefKvFIdeal.sig) → Buf (Elt Ideal) ℓ) (g : Dev Cert.RefKvFIdeal.nD → PrngReg), Pre_RefKvFIdeal m →
    θ_run (Cert.RefKvFIdeal.defs (F := Ideal)) (onTc (τ := Cert.RefKvFIdeal.τ) (Cert.RefKvFIdeal.main (F := Ideal))) ⟨m, fun _ => 0, g⟩ (fun r => (∀ c : Dev Cert.RefKvFIdeal.nD,
      r.2.mem ((c.tc : Thread Cert.RefKvFIdeal.nD Cert.RefKvFIdeal.τ).loc Cert.RefKvFIdeal.main_arg0) = m ((c.tc : Thread Cert.RefKvFIdeal.nD Cert.RefKvFIdeal.τ).loc Cert.RefKvFIdeal.main_arg0)
      ∧ r.2.mem ((c.tc : Thread Cert.RefKvFIdeal.nD Cert.RefKvFIdeal.τ).loc Cert.RefKvFIdeal.main_arg1) = m ((c.tc : Thread Cert.RefKvFIdeal.nD Cert.RefKvFIdeal.τ).loc Cert.RefKvFIdeal.main_arg1)
      ∧ r.2.mem ((c.tc : Thread Cert.RefKvFIdeal.nD Cert.RefKvFIdeal.τ).loc Cert.RefKvFIdeal.main_arg2) = m ((c.tc : Thread Cert.RefKvFIdeal.nD Cert.RefKvFIdeal.τ).loc Cert.RefKvFIdeal.main_arg2))
      ∧ r.2.sem = fun _ => 0)

def quiescent_AttF [hAttF : Cert.AttF.Facts] : Prop :=
  ∀ (m : (ℓ : Loc Cert.AttF.nD Cert.AttF.τ Cert.AttF.sig) → Buf (Elt Bits) ℓ) (g : Dev Cert.AttF.nD → PrngReg), Pre_AttF m →
    θ_run (Cert.AttF.defs (F := Bits)) (onTc (τ := Cert.AttF.τ) (Cert.AttF.main (F := Bits))) ⟨m, fun _ => 0, g⟩ (fun r => (∀ c : Dev Cert.AttF.nD,
      r.2.mem ((c.tc : Thread Cert.AttF.nD Cert.AttF.τ).loc Cert.AttF.main_arg0) = m ((c.tc : Thread Cert.AttF.nD Cert.AttF.τ).loc Cert.AttF.main_arg0)
      ∧ r.2.mem ((c.tc : Thread Cert.AttF.nD Cert.AttF.τ).loc Cert.AttF.main_arg1) = m ((c.tc : Thread Cert.AttF.nD Cert.AttF.τ).loc Cert.AttF.main_arg1))
      ∧ r.2.sem = fun _ => 0)

def quiescent_AttFIdeal [hAttFIdeal : Cert.AttFIdeal.Facts] : Prop :=
  ∀ (m : (ℓ : Loc Cert.AttFIdeal.nD Cert.AttFIdeal.τ Cert.AttFIdeal.sig) → Buf (Elt Ideal) ℓ) (g : Dev Cert.AttFIdeal.nD → PrngReg), Pre_AttFIdeal m →
    θ_run (Cert.AttFIdeal.defs (F := Ideal)) (onTc (τ := Cert.AttFIdeal.τ) (Cert.AttFIdeal.main (F := Ideal))) ⟨m, fun _ => 0, g⟩ (fun r => (∀ c : Dev Cert.AttFIdeal.nD,
      r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
      ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1))
      ∧ r.2.sem = fun _ => 0)

def quiescent_RefAttFIdeal [hRefAttFIdeal : Cert.RefAttFIdeal.Facts] : Prop :=
  ∀ (m : (ℓ : Loc Cert.RefAttFIdeal.nD Cert.RefAttFIdeal.τ Cert.RefAttFIdeal.sig) → Buf (Elt Ideal) ℓ) (g : Dev Cert.RefAttFIdeal.nD → PrngReg), Pre_RefAttFIdeal m →
    θ_run (Cert.RefAttFIdeal.defs (F := Ideal)) (onTc (τ := Cert.RefAttFIdeal.τ) (Cert.RefAttFIdeal.main (F := Ideal))) ⟨m, fun _ => 0, g⟩ (fun r => (∀ c : Dev Cert.RefAttFIdeal.nD,
      r.2.mem ((c.tc : Thread Cert.RefAttFIdeal.nD Cert.RefAttFIdeal.τ).loc Cert.RefAttFIdeal.main_arg0) = m ((c.tc : Thread Cert.RefAttFIdeal.nD Cert.RefAttFIdeal.τ).loc Cert.RefAttFIdeal.main_arg0)
      ∧ r.2.mem ((c.tc : Thread Cert.RefAttFIdeal.nD Cert.RefAttFIdeal.τ).loc Cert.RefAttFIdeal.main_arg1) = m ((c.tc : Thread Cert.RefAttFIdeal.nD Cert.RefAttFIdeal.τ).loc Cert.RefAttFIdeal.main_arg1))
      ∧ r.2.sem = fun _ => 0)

def quiescent_KvB [hKvB : Cert.KvB.Facts] : Prop :=
  ∀ (m : (ℓ : Loc Cert.KvB.nD Cert.KvB.τ Cert.KvB.sig) → Buf (Elt Bits) ℓ) (g : Dev Cert.KvB.nD → PrngReg), Pre_KvB m →
    θ_run (Cert.KvB.defs (F := Bits)) (onTc (τ := Cert.KvB.τ) (Cert.KvB.main (F := Bits))) ⟨m, fun _ => 0, g⟩ (fun r => (∀ c : Dev Cert.KvB.nD,
      r.2.mem ((c.tc : Thread Cert.KvB.nD Cert.KvB.τ).loc Cert.KvB.main_arg0) = m ((c.tc : Thread Cert.KvB.nD Cert.KvB.τ).loc Cert.KvB.main_arg0)
      ∧ r.2.mem ((c.tc : Thread Cert.KvB.nD Cert.KvB.τ).loc Cert.KvB.main_arg1) = m ((c.tc : Thread Cert.KvB.nD Cert.KvB.τ).loc Cert.KvB.main_arg1)
      ∧ r.2.mem ((c.tc : Thread Cert.KvB.nD Cert.KvB.τ).loc Cert.KvB.main_arg2) = m ((c.tc : Thread Cert.KvB.nD Cert.KvB.τ).loc Cert.KvB.main_arg2)
      ∧ r.2.mem ((c.tc : Thread Cert.KvB.nD Cert.KvB.τ).loc Cert.KvB.main_arg3) = m ((c.tc : Thread Cert.KvB.nD Cert.KvB.τ).loc Cert.KvB.main_arg3)
      ∧ r.2.mem ((c.tc : Thread Cert.KvB.nD Cert.KvB.τ).loc Cert.KvB.main_arg4) = m ((c.tc : Thread Cert.KvB.nD Cert.KvB.τ).loc Cert.KvB.main_arg4))
      ∧ r.2.sem = fun _ => 0)

def quiescent_KvBIdeal [hKvBIdeal : Cert.KvBIdeal.Facts] : Prop :=
  ∀ (m : (ℓ : Loc Cert.KvBIdeal.nD Cert.KvBIdeal.τ Cert.KvBIdeal.sig) → Buf (Elt Ideal) ℓ) (g : Dev Cert.KvBIdeal.nD → PrngReg), Pre_KvBIdeal m →
    θ_run (Cert.KvBIdeal.defs (F := Ideal)) (onTc (τ := Cert.KvBIdeal.τ) (Cert.KvBIdeal.main (F := Ideal))) ⟨m, fun _ => 0, g⟩ (fun r => (∀ c : Dev Cert.KvBIdeal.nD,
      r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
      ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
      ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2)
      ∧ r.2.mem ((c.tc : Thread Cert.KvBIdeal.nD Cert.KvBIdeal.τ).loc Cert.KvBIdeal.main_arg3) = m ((c.tc : Thread Cert.KvBIdeal.nD Cert.KvBIdeal.τ).loc Cert.KvBIdeal.main_arg3)
      ∧ r.2.mem ((c.tc : Thread Cert.KvBIdeal.nD Cert.KvBIdeal.τ).loc Cert.KvBIdeal.main_arg4) = m ((c.tc : Thread Cert.KvBIdeal.nD Cert.KvBIdeal.τ).loc Cert.KvBIdeal.main_arg4))
      ∧ r.2.sem = fun _ => 0)

def quiescent_RefKvBIdeal [hRefKvBIdeal : Cert.RefKvBIdeal.Facts] : Prop :=
  ∀ (m : (ℓ : Loc Cert.RefKvBIdeal.nD Cert.RefKvBIdeal.τ Cert.RefKvBIdeal.sig) → Buf (Elt Ideal) ℓ) (g : Dev Cert.RefKvBIdeal.nD → PrngReg), Pre_RefKvBIdeal m →
    θ_run (Cert.RefKvBIdeal.defs (F := Ideal)) (onTc (τ := Cert.RefKvBIdeal.τ) (Cert.RefKvBIdeal.main (F := Ideal))) ⟨m, fun _ => 0, g⟩ (fun r => (∀ c : Dev Cert.RefKvBIdeal.nD,
      r.2.mem ((c.tc : Thread Cert.RefKvBIdeal.nD Cert.RefKvBIdeal.τ).loc Cert.RefKvBIdeal.main_arg0) = m ((c.tc : Thread Cert.RefKvBIdeal.nD Cert.RefKvBIdeal.τ).loc Cert.RefKvBIdeal.main_arg0)
      ∧ r.2.mem ((c.tc : Thread Cert.RefKvBIdeal.nD Cert.RefKvBIdeal.τ).loc Cert.RefKvBIdeal.main_arg1) = m ((c.tc : Thread Cert.RefKvBIdeal.nD Cert.RefKvBIdeal.τ).loc Cert.RefKvBIdeal.main_arg1)
      ∧ r.2.mem ((c.tc : Thread Cert.RefKvBIdeal.nD Cert.RefKvBIdeal.τ).loc Cert.RefKvBIdeal.main_arg2) = m ((c.tc : Thread Cert.RefKvBIdeal.nD Cert.RefKvBIdeal.τ).loc Cert.RefKvBIdeal.main_arg2)
      ∧ r.2.mem ((c.tc : Thread Cert.RefKvBIdeal.nD Cert.RefKvBIdeal.τ).loc Cert.RefKvBIdeal.main_arg3) = m ((c.tc : Thread Cert.RefKvBIdeal.nD Cert.RefKvBIdeal.τ).loc Cert.RefKvBIdeal.main_arg3)
      ∧ r.2.mem ((c.tc : Thread Cert.RefKvBIdeal.nD Cert.RefKvBIdeal.τ).loc Cert.RefKvBIdeal.main_arg4) = m ((c.tc : Thread Cert.RefKvBIdeal.nD Cert.RefKvBIdeal.τ).loc Cert.RefKvBIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_RefLossIdeal_pre_finite_loss [hRefLossIdeal : Cert.RefLossIdeal.Facts] [hPre_finite_loss : Cert.Pre_finite_loss.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal_finite_loss m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_LossAll [hLossAll : Cert.LossAll.Facts] : Prop :=
  ∀ (m : (ℓ : Loc Cert.LossAll.nD Cert.LossAll.τ Cert.LossAll.sig) → Buf (Elt Bits) ℓ) (g : Dev Cert.LossAll.nD → PrngReg), Pre_LossAll m →
    θ_run (Cert.LossAll.defs (F := Bits)) (onTc (τ := Cert.LossAll.τ) (Cert.LossAll.main (F := Bits))) ⟨m, fun _ => 0, g⟩ (fun r => (∀ c : Dev Cert.LossAll.nD,
      r.2.mem ((c.tc : Thread Cert.LossAll.nD Cert.LossAll.τ).loc Cert.LossAll.main_arg0) = m ((c.tc : Thread Cert.LossAll.nD Cert.LossAll.τ).loc Cert.LossAll.main_arg0)
      ∧ r.2.mem ((c.tc : Thread Cert.LossAll.nD Cert.LossAll.τ).loc Cert.LossAll.main_arg1) = m ((c.tc : Thread Cert.LossAll.nD Cert.LossAll.τ).loc Cert.LossAll.main_arg1)
      ∧ r.2.mem ((c.tc : Thread Cert.LossAll.nD Cert.LossAll.τ).loc Cert.LossAll.main_arg2) = m ((c.tc : Thread Cert.LossAll.nD Cert.LossAll.τ).loc Cert.LossAll.main_arg2))
      ∧ r.2.sem = fun _ => 0)

def quiescent_LossAllIdeal [hLossAllIdeal : Cert.LossAllIdeal.Facts] : Prop :=
  ∀ (m : (ℓ : Loc Cert.LossAllIdeal.nD Cert.LossAllIdeal.τ Cert.LossAllIdeal.sig) → Buf (Elt Ideal) ℓ) (g : Dev Cert.LossAllIdeal.nD → PrngReg), Pre_LossAllIdeal m →
    θ_run (Cert.LossAllIdeal.defs (F := Ideal)) (onTc (τ := Cert.LossAllIdeal.τ) (Cert.LossAllIdeal.main (F := Ideal))) ⟨m, fun _ => 0, g⟩ (fun r => (∀ c : Dev Cert.LossAllIdeal.nD,
      r.2.mem ((c.tc : Thread Cert.LossAllIdeal.nD Cert.LossAllIdeal.τ).loc Cert.LossAllIdeal.main_arg0) = m ((c.tc : Thread Cert.LossAllIdeal.nD Cert.LossAllIdeal.τ).loc Cert.LossAllIdeal.main_arg0)
      ∧ r.2.mem ((c.tc : Thread Cert.LossAllIdeal.nD Cert.LossAllIdeal.τ).loc Cert.LossAllIdeal.main_arg1) = m ((c.tc : Thread Cert.LossAllIdeal.nD Cert.LossAllIdeal.τ).loc Cert.LossAllIdeal.main_arg1)
      ∧ r.2.mem ((c.tc : Thread Cert.LossAllIdeal.nD Cert.LossAllIdeal.τ).loc Cert.LossAllIdeal.main_arg2) = m ((c.tc : Thread Cert.LossAllIdeal.nD Cert.LossAllIdeal.τ).loc Cert.LossAllIdeal.main_arg2))
      ∧ r.2.sem = fun _ => 0)

def quiescent_RefLossAllIdeal [hRefLossAllIdeal : Cert.RefLossAllIdeal.Facts] : Prop :=
  ∀ (m : (ℓ : Loc Cert.RefLossAllIdeal.nD Cert.RefLossAllIdeal.τ Cert.RefLossAllIdeal.sig) → Buf (Elt Ideal) ℓ) (g : Dev Cert.RefLossAllIdeal.nD → PrngReg), Pre_RefLossAllIdeal m →
    θ_run (Cert.RefLossAllIdeal.defs (F := Ideal)) (onTc (τ := Cert.RefLossAllIdeal.τ) (Cert.RefLossAllIdeal.main (F := Ideal))) ⟨m, fun _ => 0, g⟩ (fun r => (∀ c : Dev Cert.RefLossAllIdeal.nD,
      r.2.mem ((c.tc : Thread Cert.RefLossAllIdeal.nD Cert.RefLossAllIdeal.τ).loc Cert.RefLossAllIdeal.main_arg0) = m ((c.tc : Thread Cert.RefLossAllIdeal.nD Cert.RefLossAllIdeal.τ).loc Cert.RefLossAllIdeal.main_arg0)
      ∧ r.2.mem ((c.tc : Thread Cert.RefLossAllIdeal.nD Cert.RefLossAllIdeal.τ).loc Cert.RefLossAllIdeal.main_arg1) = m ((c.tc : Thread Cert.RefLossAllIdeal.nD Cert.RefLossAllIdeal.τ).loc Cert.RefLossAllIdeal.main_arg1)
      ∧ r.2.mem ((c.tc : Thread Cert.RefLossAllIdeal.nD Cert.RefLossAllIdeal.τ).loc Cert.RefLossAllIdeal.main_arg2) = m ((c.tc : Thread Cert.RefLossAllIdeal.nD Cert.RefLossAllIdeal.τ).loc Cert.RefLossAllIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InA_InAIdeal : Prop :=
  True

def algebraic_InAIdeal_RefInAIdeal [hInAIdeal : Cert.InAIdeal.Facts] [hRefInAIdeal : Cert.RefInAIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.RefInAIdeal.nD Cert.RefInAIdeal.τ Cert.RefInAIdeal.sig) → Buf (Elt Ideal) ℓ) (g' : Dev Cert.RefInAIdeal.nD → PrngReg), Pre_InAIdeal m →
    (∀ c : Dev Cert.InAIdeal.nD,
      m' ((c.tc : Thread Cert.RefInAIdeal.nD Cert.RefInAIdeal.τ).loc Cert.RefInAIdeal.main_arg0) = m ((c.tc : Thread Cert.InAIdeal.nD Cert.InAIdeal.τ).loc Cert.InAIdeal.main_arg0)
      ∧ m' ((c.tc : Thread Cert.RefInAIdeal.nD Cert.RefInAIdeal.τ).loc Cert.RefInAIdeal.main_arg1) = m ((c.tc : Thread Cert.InAIdeal.nD Cert.InAIdeal.τ).loc Cert.InAIdeal.main_arg1)
      ∧ m' ((c.tc : Thread Cert.RefInAIdeal.nD Cert.RefInAIdeal.τ).loc Cert.RefInAIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v15)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v15) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.RefInAIdeal.defs (F := Ideal)) (onTc (τ := Cert.RefInAIdeal.τ) (Cert.RefInAIdeal.main (F := Ideal))) ⟨m', fun _ => 0, g'⟩ (fun r => ∀ c : Dev Cert.RefInAIdeal.nD,
          r.2.mem ((c.tc : Thread Cert.RefInAIdeal.nD Cert.RefInAIdeal.τ).loc Cert.RefInAIdeal.main_v16) = v0 c
          ∧ r.2.mem ((c.tc : Thread Cert.RefInAIdeal.nD Cert.RefInAIdeal.τ).loc Cert.RefInAIdeal.main_arg0) = m' ((c.tc : Thread Cert.RefInAIdeal.nD Cert.RefInAIdeal.τ).loc Cert.RefInAIdeal.main_arg0)
          ∧ r.2.mem ((c.tc : Thread Cert.RefInAIdeal.nD Cert.RefInAIdeal.τ).loc Cert.RefInAIdeal.main_arg1) = m' ((c.tc : Thread Cert.RefInAIdeal.nD Cert.RefInAIdeal.τ).loc Cert.RefInAIdeal.main_arg1)
          ∧ r.2.mem ((c.tc : Thread Cert.RefInAIdeal.nD Cert.RefInAIdeal.τ).loc Cert.RefInAIdeal.main_arg2) = m' ((c.tc : Thread Cert.RefInAIdeal.nD Cert.RefInAIdeal.τ).loc Cert.RefInAIdeal.main_arg2))

def preserves_InB_InBIdeal : Prop :=
  True

def algebraic_InBIdeal_RefInBIdeal [hInBIdeal : Cert.InBIdeal.Facts] [hRefInBIdeal : Cert.RefInBIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.RefInBIdeal.nD Cert.RefInBIdeal.τ Cert.RefInBIdeal.sig) → Buf (Elt Ideal) ℓ) (g' : Dev Cert.RefInBIdeal.nD → PrngReg), Pre_InBIdeal m →
    (∀ c : Dev Cert.InBIdeal.nD,
      m' ((c.tc : Thread Cert.RefInBIdeal.nD Cert.RefInBIdeal.τ).loc Cert.RefInBIdeal.main_arg0) = m ((c.tc : Thread Cert.InBIdeal.nD Cert.InBIdeal.τ).loc Cert.InBIdeal.main_arg0)
      ∧ m' ((c.tc : Thread Cert.RefInBIdeal.nD Cert.RefInBIdeal.τ).loc Cert.RefInBIdeal.main_arg1) = m ((c.tc : Thread Cert.InBIdeal.nD Cert.InBIdeal.τ).loc Cert.InBIdeal.main_arg1)
      ∧ m' ((c.tc : Thread Cert.RefInBIdeal.nD Cert.RefInBIdeal.τ).loc Cert.RefInBIdeal.main_arg2) = m ((c.tc : Thread Cert.InBIdeal.nD Cert.InBIdeal.τ).loc Cert.InBIdeal.main_arg2)
      ∧ m' ((c.tc : Thread Cert.RefInBIdeal.nD Cert.RefInBIdeal.τ).loc Cert.RefInBIdeal.main_arg3) = m ((c.tc : Thread Cert.InBIdeal.nD Cert.InBIdeal.τ).loc Cert.InBIdeal.main_arg3)) →
    ∃ (v0 : (c : Dev Cert.InBIdeal.nD) → Buf (Elt Ideal) ((c.tc : Thread Cert.InBIdeal.nD Cert.InBIdeal.τ).loc Cert.InBIdeal.main_v13)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v13) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3))
      ∧ θ_run (Cert.RefInBIdeal.defs (F := Ideal)) (onTc (τ := Cert.RefInBIdeal.τ) (Cert.RefInBIdeal.main (F := Ideal))) ⟨m', fun _ => 0, g'⟩ (fun r => ∀ c : Dev Cert.RefInBIdeal.nD,
          r.2.mem ((c.tc : Thread Cert.RefInBIdeal.nD Cert.RefInBIdeal.τ).loc Cert.RefInBIdeal.main_v18) = v0 c
          ∧ r.2.mem ((c.tc : Thread Cert.RefInBIdeal.nD Cert.RefInBIdeal.τ).loc Cert.RefInBIdeal.main_arg0) = m' ((c.tc : Thread Cert.RefInBIdeal.nD Cert.RefInBIdeal.τ).loc Cert.RefInBIdeal.main_arg0)
          ∧ r.2.mem ((c.tc : Thread Cert.RefInBIdeal.nD Cert.RefInBIdeal.τ).loc Cert.RefInBIdeal.main_arg1) = m' ((c.tc : Thread Cert.RefInBIdeal.nD Cert.RefInBIdeal.τ).loc Cert.RefInBIdeal.main_arg1)
          ∧ r.2.mem ((c.tc : Thread Cert.RefInBIdeal.nD Cert.RefInBIdeal.τ).loc Cert.RefInBIdeal.main_arg2) = m' ((c.tc : Thread Cert.RefInBIdeal.nD Cert.RefInBIdeal.τ).loc Cert.RefInBIdeal.main_arg2)
          ∧ r.2.mem ((c.tc : Thread Cert.RefInBIdeal.nD Cert.RefInBIdeal.τ).loc Cert.RefInBIdeal.main_arg3) = m' ((c.tc : Thread Cert.RefInBIdeal.nD Cert.RefInBIdeal.τ).loc Cert.RefInBIdeal.main_arg3))

def preserves_InC_InCIdeal : Prop :=
  True

def algebraic_InCIdeal_RefInCIdeal [hInCIdeal : Cert.InCIdeal.Facts] [hRefInCIdeal : Cert.RefInCIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.RefInCIdeal.nD Cert.RefInCIdeal.τ Cert.RefInCIdeal.sig) → Buf (Elt Ideal) ℓ) (g' : Dev Cert.RefInCIdeal.nD → PrngReg), Pre_InCIdeal m →
    (∀ c : Dev Cert.InCIdeal.nD,
      m' ((c.tc : Thread Cert.RefInCIdeal.nD Cert.RefInCIdeal.τ).loc Cert.RefInCIdeal.main_arg0) = m ((c.tc : Thread Cert.InCIdeal.nD Cert.InCIdeal.τ).loc Cert.InCIdeal.main_arg0)
      ∧ m' ((c.tc : Thread Cert.RefInCIdeal.nD Cert.RefInCIdeal.τ).loc Cert.RefInCIdeal.main_arg1) = m ((c.tc : Thread Cert.InCIdeal.nD Cert.InCIdeal.τ).loc Cert.InCIdeal.main_arg1)
      ∧ m' ((c.tc : Thread Cert.RefInCIdeal.nD Cert.RefInCIdeal.τ).loc Cert.RefInCIdeal.main_arg2) = m ((c.tc : Thread Cert.InCIdeal.nD Cert.InCIdeal.τ).loc Cert.InCIdeal.main_arg2)
      ∧ m' ((c.tc : Thread Cert.RefInCIdeal.nD Cert.RefInCIdeal.τ).loc Cert.RefInCIdeal.main_arg3) = m ((c.tc : Thread Cert.InCIdeal.nD Cert.InCIdeal.τ).loc Cert.InCIdeal.main_arg3)) →
    ∃ (v0 : (c : Dev Cert.InCIdeal.nD) → Buf (Elt Ideal) ((c.tc : Thread Cert.InCIdeal.nD Cert.InCIdeal.τ).loc Cert.InCIdeal.main_v13)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v13) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
          ∧ r.2.mem ((c.tc : Thread Cert.InCIdeal.nD Cert.InCIdeal.τ).loc Cert.InCIdeal.main_arg3) = m ((c.tc : Thread Cert.InCIdeal.nD Cert.InCIdeal.τ).loc Cert.InCIdeal.main_arg3))
      ∧ θ_run (Cert.RefInCIdeal.defs (F := Ideal)) (onTc (τ := Cert.RefInCIdeal.τ) (Cert.RefInCIdeal.main (F := Ideal))) ⟨m', fun _ => 0, g'⟩ (fun r => ∀ c : Dev Cert.RefInCIdeal.nD,
          r.2.mem ((c.tc : Thread Cert.RefInCIdeal.nD Cert.RefInCIdeal.τ).loc Cert.RefInCIdeal.main_v18) = v0 c
          ∧ r.2.mem ((c.tc : Thread Cert.RefInCIdeal.nD Cert.RefInCIdeal.τ).loc Cert.RefInCIdeal.main_arg0) = m' ((c.tc : Thread Cert.RefInCIdeal.nD Cert.RefInCIdeal.τ).loc Cert.RefInCIdeal.main_arg0)
          ∧ r.2.mem ((c.tc : Thread Cert.RefInCIdeal.nD Cert.RefInCIdeal.τ).loc Cert.RefInCIdeal.main_arg1) = m' ((c.tc : Thread Cert.RefInCIdeal.nD Cert.RefInCIdeal.τ).loc Cert.RefInCIdeal.main_arg1)
          ∧ r.2.mem ((c.tc : Thread Cert.RefInCIdeal.nD Cert.RefInCIdeal.τ).loc Cert.RefInCIdeal.main_arg2) = m' ((c.tc : Thread Cert.RefInCIdeal.nD Cert.RefInCIdeal.τ).loc Cert.RefInCIdeal.main_arg2)
          ∧ r.2.mem ((c.tc : Thread Cert.RefInCIdeal.nD Cert.RefInCIdeal.τ).loc Cert.RefInCIdeal.main_arg3) = m' ((c.tc : Thread Cert.RefInCIdeal.nD Cert.RefInCIdeal.τ).loc Cert.RefInCIdeal.main_arg3))

def preserves_InM_InMIdeal : Prop :=
  True

def algebraic_InMIdeal_RefInMIdeal [hInMIdeal : Cert.InMIdeal.Facts] [hRefInMIdeal : Cert.RefInMIdeal.Facts] : Prop :=
  ∀ (m : (ℓ : Loc Cert.InMIdeal.nD Cert.InMIdeal.τ Cert.InMIdeal.sig) → Buf (Elt Ideal) ℓ) (g : Dev Cert.InMIdeal.nD → PrngReg)
    (m' : (ℓ : Loc Cert.RefInMIdeal.nD Cert.RefInMIdeal.τ Cert.RefInMIdeal.sig) → Buf (Elt Ideal) ℓ) (g' : Dev Cert.RefInMIdeal.nD → PrngReg), Pre_InMIdeal m →
    (∀ c : Dev Cert.InMIdeal.nD,
      m' ((c.tc : Thread Cert.RefInMIdeal.nD Cert.RefInMIdeal.τ).loc Cert.RefInMIdeal.main_arg0) = m ((c.tc : Thread Cert.InMIdeal.nD Cert.InMIdeal.τ).loc Cert.InMIdeal.main_arg0)
      ∧ m' ((c.tc : Thread Cert.RefInMIdeal.nD Cert.RefInMIdeal.τ).loc Cert.RefInMIdeal.main_arg1) = m ((c.tc : Thread Cert.InMIdeal.nD Cert.InMIdeal.τ).loc Cert.InMIdeal.main_arg1)
      ∧ m' ((c.tc : Thread Cert.RefInMIdeal.nD Cert.RefInMIdeal.τ).loc Cert.RefInMIdeal.main_arg2) = m ((c.tc : Thread Cert.InMIdeal.nD Cert.InMIdeal.τ).loc Cert.InMIdeal.main_arg2)
      ∧ m' ((c.tc : Thread Cert.RefInMIdeal.nD Cert.RefInMIdeal.τ).loc Cert.RefInMIdeal.main_arg3) = m ((c.tc : Thread Cert.InMIdeal.nD Cert.InMIdeal.τ).loc Cert.InMIdeal.main_arg3)) →
    ∃ (v0 : (c : Dev Cert.InMIdeal.nD) → Buf (Elt Ideal) ((c.tc : Thread Cert.InMIdeal.nD Cert.InMIdeal.τ).loc Cert.InMIdeal.main_v13)),
      θ_run (Cert.InMIdeal.defs (F := Ideal)) (onTc (τ := Cert.InMIdeal.τ) (Cert.InMIdeal.main (F := Ideal))) ⟨m, fun _ => 0, g⟩ (fun r => ∀ c : Dev Cert.InMIdeal.nD,
          r.2.mem ((c.tc : Thread Cert.InMIdeal.nD Cert.InMIdeal.τ).loc Cert.InMIdeal.main_v13) = v0 c
          ∧ r.2.mem ((c.tc : Thread Cert.InMIdeal.nD Cert.InMIdeal.τ).loc Cert.InMIdeal.main_arg0) = m ((c.tc : Thread Cert.InMIdeal.nD Cert.InMIdeal.τ).loc Cert.InMIdeal.main_arg0)
          ∧ r.2.mem ((c.tc : Thread Cert.InMIdeal.nD Cert.InMIdeal.τ).loc Cert.InMIdeal.main_arg1) = m ((c.tc : Thread Cert.InMIdeal.nD Cert.InMIdeal.τ).loc Cert.InMIdeal.main_arg1)
          ∧ r.2.mem ((c.tc : Thread Cert.InMIdeal.nD Cert.InMIdeal.τ).loc Cert.InMIdeal.main_arg2) = m ((c.tc : Thread Cert.InMIdeal.nD Cert.InMIdeal.τ).loc Cert.InMIdeal.main_arg2)
          ∧ r.2.mem ((c.tc : Thread Cert.InMIdeal.nD Cert.InMIdeal.τ).loc Cert.InMIdeal.main_arg3) = m ((c.tc : Thread Cert.InMIdeal.nD Cert.InMIdeal.τ).loc Cert.InMIdeal.main_arg3))
      ∧ θ_run (Cert.RefInMIdeal.defs (F := Ideal)) (onTc (τ := Cert.RefInMIdeal.τ) (Cert.RefInMIdeal.main (F := Ideal))) ⟨m', fun _ => 0, g'⟩ (fun r => ∀ c : Dev Cert.RefInMIdeal.nD,
          r.2.mem ((c.tc : Thread Cert.RefInMIdeal.nD Cert.RefInMIdeal.τ).loc Cert.RefInMIdeal.main_v18) = v0 c
          ∧ r.2.mem ((c.tc : Thread Cert.RefInMIdeal.nD Cert.RefInMIdeal.τ).loc Cert.RefInMIdeal.main_arg0) = m' ((c.tc : Thread Cert.RefInMIdeal.nD Cert.RefInMIdeal.τ).loc Cert.RefInMIdeal.main_arg0)
          ∧ r.2.mem ((c.tc : Thread Cert.RefInMIdeal.nD Cert.RefInMIdeal.τ).loc Cert.RefInMIdeal.main_arg1) = m' ((c.tc : Thread Cert.RefInMIdeal.nD Cert.RefInMIdeal.τ).loc Cert.RefInMIdeal.main_arg1)
          ∧ r.2.mem ((c.tc : Thread Cert.RefInMIdeal.nD Cert.RefInMIdeal.τ).loc Cert.RefInMIdeal.main_arg2) = m' ((c.tc : Thread Cert.RefInMIdeal.nD Cert.RefInMIdeal.τ).loc Cert.RefInMIdeal.main_arg2)
          ∧ r.2.mem ((c.tc : Thread Cert.RefInMIdeal.nD Cert.RefInMIdeal.τ).loc Cert.RefInMIdeal.main_arg3) = m' ((c.tc : Thread Cert.RefInMIdeal.nD Cert.RefInMIdeal.τ).loc Cert.RefInMIdeal.main_arg3))

def preserves_BrA_BrAIdeal : Prop :=
  True

def algebraic_BrAIdeal_RefBrAIdeal [hBrAIdeal : Cert.BrAIdeal.Facts] [hRefBrAIdeal : Cert.RefBrAIdeal.Facts] : Prop :=
  ∀ (m : (ℓ : Loc Cert.BrAIdeal.nD Cert.BrAIdeal.τ Cert.BrAIdeal.sig) → Buf (Elt Ideal) ℓ) (g : Dev Cert.BrAIdeal.nD → PrngReg)
    (m' : (ℓ : Loc Cert.RefBrAIdeal.nD Cert.RefBrAIdeal.τ Cert.RefBrAIdeal.sig) → Buf (Elt Ideal) ℓ) (g' : Dev Cert.RefBrAIdeal.nD → PrngReg), Pre_BrAIdeal m →
    (∀ c : Dev Cert.BrAIdeal.nD,
      m' ((c.tc : Thread Cert.RefBrAIdeal.nD Cert.RefBrAIdeal.τ).loc Cert.RefBrAIdeal.main_arg0) = m ((c.tc : Thread Cert.BrAIdeal.nD Cert.BrAIdeal.τ).loc Cert.BrAIdeal.main_arg0)
      ∧ m' ((c.tc : Thread Cert.RefBrAIdeal.nD Cert.RefBrAIdeal.τ).loc Cert.RefBrAIdeal.main_arg1) = m ((c.tc : Thread Cert.BrAIdeal.nD Cert.BrAIdeal.τ).loc Cert.BrAIdeal.main_arg1)) →
    ∃ (v0 : (c : Dev Cert.BrAIdeal.nD) → Buf (Elt Ideal) ((c.tc : Thread Cert.BrAIdeal.nD Cert.BrAIdeal.τ).loc Cert.BrAIdeal.main_v2)),
      θ_run (Cert.BrAIdeal.defs (F := Ideal)) (onTc (τ := Cert.BrAIdeal.τ) (Cert.BrAIdeal.main (F := Ideal))) ⟨m, fun _ => 0, g⟩ (fun r => ∀ c : Dev Cert.BrAIdeal.nD,
          r.2.mem ((c.tc : Thread Cert.BrAIdeal.nD Cert.BrAIdeal.τ).loc Cert.BrAIdeal.main_v2) = v0 c
          ∧ r.2.mem ((c.tc : Thread Cert.BrAIdeal.nD Cert.BrAIdeal.τ).loc Cert.BrAIdeal.main_arg0) = m ((c.tc : Thread Cert.BrAIdeal.nD Cert.BrAIdeal.τ).loc Cert.BrAIdeal.main_arg0)
          ∧ r.2.mem ((c.tc : Thread Cert.BrAIdeal.nD Cert.BrAIdeal.τ).loc Cert.BrAIdeal.main_arg1) = m ((c.tc : Thread Cert.BrAIdeal.nD Cert.BrAIdeal.τ).loc Cert.BrAIdeal.main_arg1))
      ∧ θ_run (Cert.RefBrAIdeal.defs (F := Ideal)) (onTc (τ := Cert.RefBrAIdeal.τ) (Cert.RefBrAIdeal.main (F := Ideal))) ⟨m', fun _ => 0, g'⟩ (fun r => ∀ c : Dev Cert.RefBrAIdeal.nD,
          r.2.mem ((c.tc : Thread Cert.RefBrAIdeal.nD Cert.RefBrAIdeal.τ).loc Cert.RefBrAIdeal.main_v7) = v0 c
          ∧ r.2.mem ((c.tc : Thread Cert.RefBrAIdeal.nD Cert.RefBrAIdeal.τ).loc Cert.RefBrAIdeal.main_arg0) = m' ((c.tc : Thread Cert.RefBrAIdeal.nD Cert.RefBrAIdeal.τ).loc Cert.RefBrAIdeal.main_arg0)
          ∧ r.2.mem ((c.tc : Thread Cert.RefBrAIdeal.nD Cert.RefBrAIdeal.τ).loc Cert.RefBrAIdeal.main_arg1) = m' ((c.tc : Thread Cert.RefBrAIdeal.nD Cert.RefBrAIdeal.τ).loc Cert.RefBrAIdeal.main_arg1))

def preserves_BrB_BrBIdeal : Prop :=
  True

def algebraic_BrBIdeal_RefBrBIdeal [hBrBIdeal : Cert.BrBIdeal.Facts] [hRefBrBIdeal : Cert.RefBrBIdeal.Facts] : Prop :=
  ∀ (m : (ℓ : Loc Cert.BrBIdeal.nD Cert.BrBIdeal.τ Cert.BrBIdeal.sig) → Buf (Elt Ideal) ℓ) (g : Dev Cert.BrBIdeal.nD → PrngReg)
    (m' : (ℓ : Loc Cert.RefBrBIdeal.nD Cert.RefBrBIdeal.τ Cert.RefBrBIdeal.sig) → Buf (Elt Ideal) ℓ) (g' : Dev Cert.RefBrBIdeal.nD → PrngReg), Pre_BrBIdeal m →
    (∀ c : Dev Cert.BrBIdeal.nD,
      m' ((c.tc : Thread Cert.RefBrBIdeal.nD Cert.RefBrBIdeal.τ).loc Cert.RefBrBIdeal.main_arg0) = m ((c.tc : Thread Cert.BrBIdeal.nD Cert.BrBIdeal.τ).loc Cert.BrBIdeal.main_arg0)
      ∧ m' ((c.tc : Thread Cert.RefBrBIdeal.nD Cert.RefBrBIdeal.τ).loc Cert.RefBrBIdeal.main_arg1) = m ((c.tc : Thread Cert.BrBIdeal.nD Cert.BrBIdeal.τ).loc Cert.BrBIdeal.main_arg1)
      ∧ m' ((c.tc : Thread Cert.RefBrBIdeal.nD Cert.RefBrBIdeal.τ).loc Cert.RefBrBIdeal.main_arg2) = m ((c.tc : Thread Cert.BrBIdeal.nD Cert.BrBIdeal.τ).loc Cert.BrBIdeal.main_arg2)) →
    ∃ (v0 : (c : Dev Cert.BrBIdeal.nD) → Buf (Elt Ideal) ((c.tc : Thread Cert.BrBIdeal.nD Cert.BrBIdeal.τ).loc Cert.BrBIdeal.main_v0)),
      θ_run (Cert.BrBIdeal.defs (F := Ideal)) (onTc (τ := Cert.BrBIdeal.τ) (Cert.BrBIdeal.main (F := Ideal))) ⟨m, fun _ => 0, g⟩ (fun r => ∀ c : Dev Cert.BrBIdeal.nD,
          r.2.mem ((c.tc : Thread Cert.BrBIdeal.nD Cert.BrBIdeal.τ).loc Cert.BrBIdeal.main_v0) = v0 c
          ∧ r.2.mem ((c.tc : Thread Cert.BrBIdeal.nD Cert.BrBIdeal.τ).loc Cert.BrBIdeal.main_arg0) = m ((c.tc : Thread Cert.BrBIdeal.nD Cert.BrBIdeal.τ).loc Cert.BrBIdeal.main_arg0)
          ∧ r.2.mem ((c.tc : Thread Cert.BrBIdeal.nD Cert.BrBIdeal.τ).loc Cert.BrBIdeal.main_arg1) = m ((c.tc : Thread Cert.BrBIdeal.nD Cert.BrBIdeal.τ).loc Cert.BrBIdeal.main_arg1)
          ∧ r.2.mem ((c.tc : Thread Cert.BrBIdeal.nD Cert.BrBIdeal.τ).loc Cert.BrBIdeal.main_arg2) = m ((c.tc : Thread Cert.BrBIdeal.nD Cert.BrBIdeal.τ).loc Cert.BrBIdeal.main_arg2))
      ∧ θ_run (Cert.RefBrBIdeal.defs (F := Ideal)) (onTc (τ := Cert.RefBrBIdeal.τ) (Cert.RefBrBIdeal.main (F := Ideal))) ⟨m', fun _ => 0, g'⟩ (fun r => ∀ c : Dev Cert.RefBrBIdeal.nD,
          r.2.mem ((c.tc : Thread Cert.RefBrBIdeal.nD Cert.RefBrBIdeal.τ).loc Cert.RefBrBIdeal.main_v9) = v0 c
          ∧ r.2.mem ((c.tc : Thread Cert.RefBrBIdeal.nD Cert.RefBrBIdeal.τ).loc Cert.RefBrBIdeal.main_arg0) = m' ((c.tc : Thread Cert.RefBrBIdeal.nD Cert.RefBrBIdeal.τ).loc Cert.RefBrBIdeal.main_arg0)
          ∧ r.2.mem ((c.tc : Thread Cert.RefBrBIdeal.nD Cert.RefBrBIdeal.τ).loc Cert.RefBrBIdeal.main_arg1) = m' ((c.tc : Thread Cert.RefBrBIdeal.nD Cert.RefBrBIdeal.τ).loc Cert.RefBrBIdeal.main_arg1)
          ∧ r.2.mem ((c.tc : Thread Cert.RefBrBIdeal.nD Cert.RefBrBIdeal.τ).loc Cert.RefBrBIdeal.main_arg2) = m' ((c.tc : Thread Cert.RefBrBIdeal.nD Cert.RefBrBIdeal.τ).loc Cert.RefBrBIdeal.main_arg2))

def preserves_BrC_BrCIdeal : Prop :=
  True

def algebraic_BrCIdeal_RefBrCIdeal [hBrCIdeal : Cert.BrCIdeal.Facts] [hRefBrCIdeal : Cert.RefBrCIdeal.Facts] : Prop :=
  ∀ (m : (ℓ : Loc Cert.BrCIdeal.nD Cert.BrCIdeal.τ Cert.BrCIdeal.sig) → Buf (Elt Ideal) ℓ) (g : Dev Cert.BrCIdeal.nD → PrngReg)
    (m' : (ℓ : Loc Cert.RefBrCIdeal.nD Cert.RefBrCIdeal.τ Cert.RefBrCIdeal.sig) → Buf (Elt Ideal) ℓ) (g' : Dev Cert.RefBrCIdeal.nD → PrngReg), Pre_BrCIdeal m →
    (∀ c : Dev Cert.BrCIdeal.nD,
      m' ((c.tc : Thread Cert.RefBrCIdeal.nD Cert.RefBrCIdeal.τ).loc Cert.RefBrCIdeal.main_arg0) = m ((c.tc : Thread Cert.BrCIdeal.nD Cert.BrCIdeal.τ).loc Cert.BrCIdeal.main_arg0)
      ∧ m' ((c.tc : Thread Cert.RefBrCIdeal.nD Cert.RefBrCIdeal.τ).loc Cert.RefBrCIdeal.main_arg1) = m ((c.tc : Thread Cert.BrCIdeal.nD Cert.BrCIdeal.τ).loc Cert.BrCIdeal.main_arg1)
      ∧ m' ((c.tc : Thread Cert.RefBrCIdeal.nD Cert.RefBrCIdeal.τ).loc Cert.RefBrCIdeal.main_arg2) = m ((c.tc : Thread Cert.BrCIdeal.nD Cert.BrCIdeal.τ).loc Cert.BrCIdeal.main_arg2)) →
    ∃ (v0 : (c : Dev Cert.BrCIdeal.nD) → Buf (Elt Ideal) ((c.tc : Thread Cert.BrCIdeal.nD Cert.BrCIdeal.τ).loc Cert.BrCIdeal.main_v0)),
      θ_run (Cert.BrCIdeal.defs (F := Ideal)) (onTc (τ := Cert.BrCIdeal.τ) (Cert.BrCIdeal.main (F := Ideal))) ⟨m, fun _ => 0, g⟩ (fun r => ∀ c : Dev Cert.BrCIdeal.nD,
          r.2.mem ((c.tc : Thread Cert.BrCIdeal.nD Cert.BrCIdeal.τ).loc Cert.BrCIdeal.main_v0) = v0 c
          ∧ r.2.mem ((c.tc : Thread Cert.BrCIdeal.nD Cert.BrCIdeal.τ).loc Cert.BrCIdeal.main_arg0) = m ((c.tc : Thread Cert.BrCIdeal.nD Cert.BrCIdeal.τ).loc Cert.BrCIdeal.main_arg0)
          ∧ r.2.mem ((c.tc : Thread Cert.BrCIdeal.nD Cert.BrCIdeal.τ).loc Cert.BrCIdeal.main_arg1) = m ((c.tc : Thread Cert.BrCIdeal.nD Cert.BrCIdeal.τ).loc Cert.BrCIdeal.main_arg1)
          ∧ r.2.mem ((c.tc : Thread Cert.BrCIdeal.nD Cert.BrCIdeal.τ).loc Cert.BrCIdeal.main_arg2) = m ((c.tc : Thread Cert.BrCIdeal.nD Cert.BrCIdeal.τ).loc Cert.BrCIdeal.main_arg2))
      ∧ θ_run (Cert.RefBrCIdeal.defs (F := Ideal)) (onTc (τ := Cert.RefBrCIdeal.τ) (Cert.RefBrCIdeal.main (F := Ideal))) ⟨m', fun _ => 0, g'⟩ (fun r => ∀ c : Dev Cert.RefBrCIdeal.nD,
          r.2.mem ((c.tc : Thread Cert.RefBrCIdeal.nD Cert.RefBrCIdeal.τ).loc Cert.RefBrCIdeal.main_v9) = v0 c
          ∧ r.2.mem ((c.tc : Thread Cert.RefBrCIdeal.nD Cert.RefBrCIdeal.τ).loc Cert.RefBrCIdeal.main_arg0) = m' ((c.tc : Thread Cert.RefBrCIdeal.nD Cert.RefBrCIdeal.τ).loc Cert.RefBrCIdeal.main_arg0)
          ∧ r.2.mem ((c.tc : Thread Cert.RefBrCIdeal.nD Cert.RefBrCIdeal.τ).loc Cert.RefBrCIdeal.main_arg1) = m' ((c.tc : Thread Cert.RefBrCIdeal.nD Cert.RefBrCIdeal.τ).loc Cert.RefBrCIdeal.main_arg1)
          ∧ r.2.mem ((c.tc : Thread Cert.RefBrCIdeal.nD Cert.RefBrCIdeal.τ).loc Cert.RefBrCIdeal.main_arg2) = m' ((c.tc : Thread Cert.RefBrCIdeal.nD Cert.RefBrCIdeal.τ).loc Cert.RefBrCIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v5) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_InDx_InDxIdeal : Prop :=
  True

def algebraic_InDxIdeal_RefInDxIdeal_pre_finite_dx [hInDxIdeal : Cert.InDxIdeal.Facts] [hRefInDxIdeal : Cert.RefInDxIdeal.Facts] [hPre_finite_dx : Cert.Pre_finite_dx.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal_finite_dx m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)
      ∧ m' ((c.tc : Thread Cert.RefInDxIdeal.nD Cert.RefInDxIdeal.τ).loc Cert.RefInDxIdeal.main_arg2) = m ((c.tc : Thread Cert.InDxIdeal.nD Cert.InDxIdeal.τ).loc Cert.InDxIdeal.main_arg2)
      ∧ m' ((c.tc : Thread Cert.RefInDxIdeal.nD Cert.RefInDxIdeal.τ).loc Cert.RefInDxIdeal.main_arg3) = m ((c.tc : Thread Cert.InDxIdeal.nD Cert.InDxIdeal.τ).loc Cert.InDxIdeal.main_arg3)
      ∧ m' ((c.tc : Thread Cert.RefInDxIdeal.nD Cert.RefInDxIdeal.τ).loc Cert.RefInDxIdeal.main_arg4) = m ((c.tc : Thread Cert.InDxIdeal.nD Cert.InDxIdeal.τ).loc Cert.InDxIdeal.main_arg4)
      ∧ m' ((c.tc : Thread Cert.RefInDxIdeal.nD Cert.RefInDxIdeal.τ).loc Cert.RefInDxIdeal.main_arg5) = m ((c.tc : Thread Cert.InDxIdeal.nD Cert.InDxIdeal.τ).loc Cert.InDxIdeal.main_arg5)
      ∧ m' ((c.tc : Thread Cert.RefInDxIdeal.nD Cert.RefInDxIdeal.τ).loc Cert.RefInDxIdeal.main_arg6) = m ((c.tc : Thread Cert.InDxIdeal.nD Cert.InDxIdeal.τ).loc Cert.InDxIdeal.main_arg6)
      ∧ m' ((c.tc : Thread Cert.RefInDxIdeal.nD Cert.RefInDxIdeal.τ).loc Cert.RefInDxIdeal.main_arg7) = m ((c.tc : Thread Cert.InDxIdeal.nD Cert.InDxIdeal.τ).loc Cert.InDxIdeal.main_arg7)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v40) = v0 c
          ∧ r.2.mem ((c.tc : Thread Cert.RefInDxIdeal.nD Cert.RefInDxIdeal.τ).loc Cert.RefInDxIdeal.main_v23) = v1 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1)
          ∧ r.2.mem ((c.tc : Thread Cert.RefInDxIdeal.nD Cert.RefInDxIdeal.τ).loc Cert.RefInDxIdeal.main_arg2) = m' ((c.tc : Thread Cert.RefInDxIdeal.nD Cert.RefInDxIdeal.τ).loc Cert.RefInDxIdeal.main_arg2)
          ∧ r.2.mem ((c.tc : Thread Cert.RefInDxIdeal.nD Cert.RefInDxIdeal.τ).loc Cert.RefInDxIdeal.main_arg3) = m' ((c.tc : Thread Cert.RefInDxIdeal.nD Cert.RefInDxIdeal.τ).loc Cert.RefInDxIdeal.main_arg3)
          ∧ r.2.mem ((c.tc : Thread Cert.RefInDxIdeal.nD Cert.RefInDxIdeal.τ).loc Cert.RefInDxIdeal.main_arg4) = m' ((c.tc : Thread Cert.RefInDxIdeal.nD Cert.RefInDxIdeal.τ).loc Cert.RefInDxIdeal.main_arg4)
          ∧ r.2.mem ((c.tc : Thread Cert.RefInDxIdeal.nD Cert.RefInDxIdeal.τ).loc Cert.RefInDxIdeal.main_arg5) = m' ((c.tc : Thread Cert.RefInDxIdeal.nD Cert.RefInDxIdeal.τ).loc Cert.RefInDxIdeal.main_arg5)
          ∧ r.2.mem ((c.tc : Thread Cert.RefInDxIdeal.nD Cert.RefInDxIdeal.τ).loc Cert.RefInDxIdeal.main_arg6) = m' ((c.tc : Thread Cert.RefInDxIdeal.nD Cert.RefInDxIdeal.τ).loc Cert.RefInDxIdeal.main_arg6)
          ∧ r.2.mem ((c.tc : Thread Cert.RefInDxIdeal.nD Cert.RefInDxIdeal.τ).loc Cert.RefInDxIdeal.main_arg7) = m' ((c.tc : Thread Cert.RefInDxIdeal.nD Cert.RefInDxIdeal.τ).loc Cert.RefInDxIdeal.main_arg7))

def preserves_MergeF_MergeFIdeal : Prop :=
  True

def algebraic_MergeFIdeal_RefMergeFIdeal [hMergeFIdeal : Cert.MergeFIdeal.Facts] [hRefMergeFIdeal : Cert.RefMergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.RefMergeFIdeal.nD Cert.RefMergeFIdeal.τ Cert.RefMergeFIdeal.sig) → Buf (Elt Ideal) ℓ) (g' : Dev Cert.RefMergeFIdeal.nD → PrngReg), Pre_MergeFIdeal m →
    (∀ c : Dev Cert.MergeFIdeal.nD,
      m' ((c.tc : Thread Cert.RefMergeFIdeal.nD Cert.RefMergeFIdeal.τ).loc Cert.RefMergeFIdeal.main_arg0) = m ((c.tc : Thread Cert.MergeFIdeal.nD Cert.MergeFIdeal.τ).loc Cert.MergeFIdeal.main_arg0)
      ∧ m' ((c.tc : Thread Cert.RefMergeFIdeal.nD Cert.RefMergeFIdeal.τ).loc Cert.RefMergeFIdeal.main_arg1) = m ((c.tc : Thread Cert.MergeFIdeal.nD Cert.MergeFIdeal.τ).loc Cert.MergeFIdeal.main_arg1)
      ∧ m' ((c.tc : Thread Cert.RefMergeFIdeal.nD Cert.RefMergeFIdeal.τ).loc Cert.RefMergeFIdeal.main_arg2) = m ((c.tc : Thread Cert.MergeFIdeal.nD Cert.MergeFIdeal.τ).loc Cert.MergeFIdeal.main_arg2)
      ∧ m' ((c.tc : Thread Cert.RefMergeFIdeal.nD Cert.RefMergeFIdeal.τ).loc Cert.RefMergeFIdeal.main_arg3) = m ((c.tc : Thread Cert.MergeFIdeal.nD Cert.MergeFIdeal.τ).loc Cert.MergeFIdeal.main_arg3)
      ∧ m' ((c.tc : Thread Cert.RefMergeFIdeal.nD Cert.RefMergeFIdeal.τ).loc Cert.RefMergeFIdeal.main_arg4) = m ((c.tc : Thread Cert.MergeFIdeal.nD Cert.MergeFIdeal.τ).loc Cert.MergeFIdeal.main_arg4)
      ∧ m' ((c.tc : Thread Cert.RefMergeFIdeal.nD Cert.RefMergeFIdeal.τ).loc Cert.RefMergeFIdeal.main_arg5) = m ((c.tc : Thread Cert.MergeFIdeal.nD Cert.MergeFIdeal.τ).loc Cert.MergeFIdeal.main_arg5)
      ∧ m' ((c.tc : Thread Cert.RefMergeFIdeal.nD Cert.RefMergeFIdeal.τ).loc Cert.RefMergeFIdeal.main_arg6) = m ((c.tc : Thread Cert.MergeFIdeal.nD Cert.MergeFIdeal.τ).loc Cert.MergeFIdeal.main_arg6)
      ∧ m' ((c.tc : Thread Cert.RefMergeFIdeal.nD Cert.RefMergeFIdeal.τ).loc Cert.RefMergeFIdeal.main_arg7) = m ((c.tc : Thread Cert.MergeFIdeal.nD Cert.MergeFIdeal.τ).loc Cert.MergeFIdeal.main_arg7)
      ∧ m' ((c.tc : Thread Cert.RefMergeFIdeal.nD Cert.RefMergeFIdeal.τ).loc Cert.RefMergeFIdeal.main_arg8) = m ((c.tc : Thread Cert.MergeFIdeal.nD Cert.MergeFIdeal.τ).loc Cert.MergeFIdeal.main_arg8)
      ∧ m' ((c.tc : Thread Cert.RefMergeFIdeal.nD Cert.RefMergeFIdeal.τ).loc Cert.RefMergeFIdeal.main_arg9) = m ((c.tc : Thread Cert.MergeFIdeal.nD Cert.MergeFIdeal.τ).loc Cert.MergeFIdeal.main_arg9)
      ∧ m' ((c.tc : Thread Cert.RefMergeFIdeal.nD Cert.RefMergeFIdeal.τ).loc Cert.RefMergeFIdeal.main_arg10) = m ((c.tc : Thread Cert.MergeFIdeal.nD Cert.MergeFIdeal.τ).loc Cert.MergeFIdeal.main_arg10)
      ∧ m' ((c.tc : Thread Cert.RefMergeFIdeal.nD Cert.RefMergeFIdeal.τ).loc Cert.RefMergeFIdeal.main_arg11) = m ((c.tc : Thread Cert.MergeFIdeal.nD Cert.MergeFIdeal.τ).loc Cert.MergeFIdeal.main_arg11)) →
    ∃ (v0 : (c : Dev Cert.MergeFIdeal.nD) → Buf (Elt Ideal) ((c.tc : Thread Cert.MergeFIdeal.nD Cert.MergeFIdeal.τ).loc Cert.MergeFIdeal.main_v9_0)) (v1 : (c : Dev Cert.MergeFIdeal.nD) → Buf (Elt Ideal) ((c.tc : Thread Cert.MergeFIdeal.nD Cert.MergeFIdeal.τ).loc Cert.MergeFIdeal.main_v9_1)) (v2 : (c : Dev Cert.MergeFIdeal.nD) → Buf (Elt Ideal) ((c.tc : Thread Cert.MergeFIdeal.nD Cert.MergeFIdeal.τ).loc Cert.MergeFIdeal.main_v9_2)) (v3 : (c : Dev Cert.MergeFIdeal.nD) → Buf (Elt Ideal) ((c.tc : Thread Cert.MergeFIdeal.nD Cert.MergeFIdeal.τ).loc Cert.MergeFIdeal.main_v9_3)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v9_0) = v0 c
          ∧ r.2.mem ((c.tc : Thread Cert.MergeFIdeal.nD Cert.MergeFIdeal.τ).loc Cert.MergeFIdeal.main_v9_1) = v1 c
          ∧ r.2.mem ((c.tc : Thread Cert.MergeFIdeal.nD Cert.MergeFIdeal.τ).loc Cert.MergeFIdeal.main_v9_2) = v2 c
          ∧ r.2.mem ((c.tc : Thread Cert.MergeFIdeal.nD Cert.MergeFIdeal.τ).loc Cert.MergeFIdeal.main_v9_3) = v3 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
          ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
          ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5)
          ∧ r.2.mem ((c.tc : Thread Cert.MergeFIdeal.nD Cert.MergeFIdeal.τ).loc Cert.MergeFIdeal.main_arg6) = m ((c.tc : Thread Cert.MergeFIdeal.nD Cert.MergeFIdeal.τ).loc Cert.MergeFIdeal.main_arg6)
          ∧ r.2.mem ((c.tc : Thread Cert.MergeFIdeal.nD Cert.MergeFIdeal.τ).loc Cert.MergeFIdeal.main_arg7) = m ((c.tc : Thread Cert.MergeFIdeal.nD Cert.MergeFIdeal.τ).loc Cert.MergeFIdeal.main_arg7)
          ∧ r.2.mem ((c.tc : Thread Cert.MergeFIdeal.nD Cert.MergeFIdeal.τ).loc Cert.MergeFIdeal.main_arg8) = m ((c.tc : Thread Cert.MergeFIdeal.nD Cert.MergeFIdeal.τ).loc Cert.MergeFIdeal.main_arg8)
          ∧ r.2.mem ((c.tc : Thread Cert.MergeFIdeal.nD Cert.MergeFIdeal.τ).loc Cert.MergeFIdeal.main_arg9) = m ((c.tc : Thread Cert.MergeFIdeal.nD Cert.MergeFIdeal.τ).loc Cert.MergeFIdeal.main_arg9)
          ∧ r.2.mem ((c.tc : Thread Cert.MergeFIdeal.nD Cert.MergeFIdeal.τ).loc Cert.MergeFIdeal.main_arg10) = m ((c.tc : Thread Cert.MergeFIdeal.nD Cert.MergeFIdeal.τ).loc Cert.MergeFIdeal.main_arg10)
          ∧ r.2.mem ((c.tc : Thread Cert.MergeFIdeal.nD Cert.MergeFIdeal.τ).loc Cert.MergeFIdeal.main_arg11) = m ((c.tc : Thread Cert.MergeFIdeal.nD Cert.MergeFIdeal.τ).loc Cert.MergeFIdeal.main_arg11))
      ∧ θ_run (Cert.RefMergeFIdeal.defs (F := Ideal)) (onTc (τ := Cert.RefMergeFIdeal.τ) (Cert.RefMergeFIdeal.main (F := Ideal))) ⟨m', fun _ => 0, g'⟩ (fun r => ∀ c : Dev Cert.RefMergeFIdeal.nD,
          r.2.mem ((c.tc : Thread Cert.RefMergeFIdeal.nD Cert.RefMergeFIdeal.τ).loc Cert.RefMergeFIdeal.main_v111) = v0 c
          ∧ r.2.mem ((c.tc : Thread Cert.RefMergeFIdeal.nD Cert.RefMergeFIdeal.τ).loc Cert.RefMergeFIdeal.main_v112) = v1 c
          ∧ r.2.mem ((c.tc : Thread Cert.RefMergeFIdeal.nD Cert.RefMergeFIdeal.τ).loc Cert.RefMergeFIdeal.main_v113) = v2 c
          ∧ r.2.mem ((c.tc : Thread Cert.RefMergeFIdeal.nD Cert.RefMergeFIdeal.τ).loc Cert.RefMergeFIdeal.main_v110) = v3 c
          ∧ r.2.mem ((c.tc : Thread Cert.RefMergeFIdeal.nD Cert.RefMergeFIdeal.τ).loc Cert.RefMergeFIdeal.main_arg0) = m' ((c.tc : Thread Cert.RefMergeFIdeal.nD Cert.RefMergeFIdeal.τ).loc Cert.RefMergeFIdeal.main_arg0)
          ∧ r.2.mem ((c.tc : Thread Cert.RefMergeFIdeal.nD Cert.RefMergeFIdeal.τ).loc Cert.RefMergeFIdeal.main_arg1) = m' ((c.tc : Thread Cert.RefMergeFIdeal.nD Cert.RefMergeFIdeal.τ).loc Cert.RefMergeFIdeal.main_arg1)
          ∧ r.2.mem ((c.tc : Thread Cert.RefMergeFIdeal.nD Cert.RefMergeFIdeal.τ).loc Cert.RefMergeFIdeal.main_arg2) = m' ((c.tc : Thread Cert.RefMergeFIdeal.nD Cert.RefMergeFIdeal.τ).loc Cert.RefMergeFIdeal.main_arg2)
          ∧ r.2.mem ((c.tc : Thread Cert.RefMergeFIdeal.nD Cert.RefMergeFIdeal.τ).loc Cert.RefMergeFIdeal.main_arg3) = m' ((c.tc : Thread Cert.RefMergeFIdeal.nD Cert.RefMergeFIdeal.τ).loc Cert.RefMergeFIdeal.main_arg3)
          ∧ r.2.mem ((c.tc : Thread Cert.RefMergeFIdeal.nD Cert.RefMergeFIdeal.τ).loc Cert.RefMergeFIdeal.main_arg4) = m' ((c.tc : Thread Cert.RefMergeFIdeal.nD Cert.RefMergeFIdeal.τ).loc Cert.RefMergeFIdeal.main_arg4)
          ∧ r.2.mem ((c.tc : Thread Cert.RefMergeFIdeal.nD Cert.RefMergeFIdeal.τ).loc Cert.RefMergeFIdeal.main_arg5) = m' ((c.tc : Thread Cert.RefMergeFIdeal.nD Cert.RefMergeFIdeal.τ).loc Cert.RefMergeFIdeal.main_arg5)
          ∧ r.2.mem ((c.tc : Thread Cert.RefMergeFIdeal.nD Cert.RefMergeFIdeal.τ).loc Cert.RefMergeFIdeal.main_arg6) = m' ((c.tc : Thread Cert.RefMergeFIdeal.nD Cert.RefMergeFIdeal.τ).loc Cert.RefMergeFIdeal.main_arg6)
          ∧ r.2.mem ((c.tc : Thread Cert.RefMergeFIdeal.nD Cert.RefMergeFIdeal.τ).loc Cert.RefMergeFIdeal.main_arg7) = m' ((c.tc : Thread Cert.RefMergeFIdeal.nD Cert.RefMergeFIdeal.τ).loc Cert.RefMergeFIdeal.main_arg7)
          ∧ r.2.mem ((c.tc : Thread Cert.RefMergeFIdeal.nD Cert.RefMergeFIdeal.τ).loc Cert.RefMergeFIdeal.main_arg8) = m' ((c.tc : Thread Cert.RefMergeFIdeal.nD Cert.RefMergeFIdeal.τ).loc Cert.RefMergeFIdeal.main_arg8)
          ∧ r.2.mem ((c.tc : Thread Cert.RefMergeFIdeal.nD Cert.RefMergeFIdeal.τ).loc Cert.RefMergeFIdeal.main_arg9) = m' ((c.tc : Thread Cert.RefMergeFIdeal.nD Cert.RefMergeFIdeal.τ).loc Cert.RefMergeFIdeal.main_arg9)
          ∧ r.2.mem ((c.tc : Thread Cert.RefMergeFIdeal.nD Cert.RefMergeFIdeal.τ).loc Cert.RefMergeFIdeal.main_arg10) = m' ((c.tc : Thread Cert.RefMergeFIdeal.nD Cert.RefMergeFIdeal.τ).loc Cert.RefMergeFIdeal.main_arg10)
          ∧ r.2.mem ((c.tc : Thread Cert.RefMergeFIdeal.nD Cert.RefMergeFIdeal.τ).loc Cert.RefMergeFIdeal.main_arg11) = m' ((c.tc : Thread Cert.RefMergeFIdeal.nD Cert.RefMergeFIdeal.τ).loc Cert.RefMergeFIdeal.main_arg11))

def preserves_AdIn_AdInIdeal : Prop :=
  True

def algebraic_AdInIdeal_RefAdInIdeal [hAdInIdeal : Cert.AdInIdeal.Facts] [hRefAdInIdeal : Cert.RefAdInIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.RefAdInIdeal.nD Cert.RefAdInIdeal.τ Cert.RefAdInIdeal.sig) → Buf (Elt Ideal) ℓ) (g' : Dev Cert.RefAdInIdeal.nD → PrngReg), Pre_AdInIdeal m →
    (∀ c : Dev Cert.AdInIdeal.nD,
      m' ((c.tc : Thread Cert.RefAdInIdeal.nD Cert.RefAdInIdeal.τ).loc Cert.RefAdInIdeal.main_arg0) = m ((c.tc : Thread Cert.AdInIdeal.nD Cert.AdInIdeal.τ).loc Cert.AdInIdeal.main_arg0)
      ∧ m' ((c.tc : Thread Cert.RefAdInIdeal.nD Cert.RefAdInIdeal.τ).loc Cert.RefAdInIdeal.main_arg1) = m ((c.tc : Thread Cert.AdInIdeal.nD Cert.AdInIdeal.τ).loc Cert.AdInIdeal.main_arg1)
      ∧ m' ((c.tc : Thread Cert.RefAdInIdeal.nD Cert.RefAdInIdeal.τ).loc Cert.RefAdInIdeal.main_arg2) = m ((c.tc : Thread Cert.AdInIdeal.nD Cert.AdInIdeal.τ).loc Cert.AdInIdeal.main_arg2)
      ∧ m' ((c.tc : Thread Cert.RefAdInIdeal.nD Cert.RefAdInIdeal.τ).loc Cert.RefAdInIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v4_0)) (v1 : (c : Dev Cert.AdInIdeal.nD) → Buf (Elt Ideal) ((c.tc : Thread Cert.AdInIdeal.nD Cert.AdInIdeal.τ).loc Cert.AdInIdeal.main_v4_1)) (v2 : (c : Dev Cert.AdInIdeal.nD) → Buf (Elt Ideal) ((c.tc : Thread Cert.AdInIdeal.nD Cert.AdInIdeal.τ).loc Cert.AdInIdeal.main_v4_2)) (v3 : (c : Dev Cert.AdInIdeal.nD) → Buf (Elt Ideal) ((c.tc : Thread Cert.AdInIdeal.nD Cert.AdInIdeal.τ).loc Cert.AdInIdeal.main_v4_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v4_0) = v0 c
          ∧ r.2.mem ((c.tc : Thread Cert.AdInIdeal.nD Cert.AdInIdeal.τ).loc Cert.AdInIdeal.main_v4_1) = v1 c
          ∧ r.2.mem ((c.tc : Thread Cert.AdInIdeal.nD Cert.AdInIdeal.τ).loc Cert.AdInIdeal.main_v4_2) = v2 c
          ∧ r.2.mem ((c.tc : Thread Cert.AdInIdeal.nD Cert.AdInIdeal.τ).loc Cert.AdInIdeal.main_v4_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.RefAdInIdeal.defs (F := Ideal)) (onTc (τ := Cert.RefAdInIdeal.τ) (Cert.RefAdInIdeal.main (F := Ideal))) ⟨m', fun _ => 0, g'⟩ (fun r => ∀ c : Dev Cert.RefAdInIdeal.nD,
          r.2.mem ((c.tc : Thread Cert.RefAdInIdeal.nD Cert.RefAdInIdeal.τ).loc Cert.RefAdInIdeal.main_v24) = v0 c
          ∧ r.2.mem ((c.tc : Thread Cert.RefAdInIdeal.nD Cert.RefAdInIdeal.τ).loc Cert.RefAdInIdeal.main_v25) = v1 c
          ∧ r.2.mem ((c.tc : Thread Cert.RefAdInIdeal.nD Cert.RefAdInIdeal.τ).loc Cert.RefAdInIdeal.main_v26) = v2 c
          ∧ r.2.mem ((c.tc : Thread Cert.RefAdInIdeal.nD Cert.RefAdInIdeal.τ).loc Cert.RefAdInIdeal.main_v27) = v3 c
          ∧ r.2.mem ((c.tc : Thread Cert.RefAdInIdeal.nD Cert.RefAdInIdeal.τ).loc Cert.RefAdInIdeal.main_arg0) = m' ((c.tc : Thread Cert.RefAdInIdeal.nD Cert.RefAdInIdeal.τ).loc Cert.RefAdInIdeal.main_arg0)
          ∧ r.2.mem ((c.tc : Thread Cert.RefAdInIdeal.nD Cert.RefAdInIdeal.τ).loc Cert.RefAdInIdeal.main_arg1) = m' ((c.tc : Thread Cert.RefAdInIdeal.nD Cert.RefAdInIdeal.τ).loc Cert.RefAdInIdeal.main_arg1)
          ∧ r.2.mem ((c.tc : Thread Cert.RefAdInIdeal.nD Cert.RefAdInIdeal.τ).loc Cert.RefAdInIdeal.main_arg2) = m' ((c.tc : Thread Cert.RefAdInIdeal.nD Cert.RefAdInIdeal.τ).loc Cert.RefAdInIdeal.main_arg2)
          ∧ r.2.mem ((c.tc : Thread Cert.RefAdInIdeal.nD Cert.RefAdInIdeal.τ).loc Cert.RefAdInIdeal.main_arg3) = m' ((c.tc : Thread Cert.RefAdInIdeal.nD Cert.RefAdInIdeal.τ).loc Cert.RefAdInIdeal.main_arg3))

def preserves_AdKv_AdKvIdeal : Prop :=
  True

def algebraic_AdKvIdeal_RefAdKvIdeal [hAdKvIdeal : Cert.AdKvIdeal.Facts] [hRefAdKvIdeal : Cert.RefAdKvIdeal.Facts] : Prop :=
  ∀ (m : (ℓ : Loc Cert.AdKvIdeal.nD Cert.AdKvIdeal.τ Cert.AdKvIdeal.sig) → Buf (Elt Ideal) ℓ) (g : Dev Cert.AdKvIdeal.nD → PrngReg)
    (m' : (ℓ : Loc Cert.RefAdKvIdeal.nD Cert.RefAdKvIdeal.τ Cert.RefAdKvIdeal.sig) → Buf (Elt Ideal) ℓ) (g' : Dev Cert.RefAdKvIdeal.nD → PrngReg), Pre_AdKvIdeal m →
    (∀ c : Dev Cert.AdKvIdeal.nD,
      m' ((c.tc : Thread Cert.RefAdKvIdeal.nD Cert.RefAdKvIdeal.τ).loc Cert.RefAdKvIdeal.main_arg0) = m ((c.tc : Thread Cert.AdKvIdeal.nD Cert.AdKvIdeal.τ).loc Cert.AdKvIdeal.main_arg0)
      ∧ m' ((c.tc : Thread Cert.RefAdKvIdeal.nD Cert.RefAdKvIdeal.τ).loc Cert.RefAdKvIdeal.main_arg1) = m ((c.tc : Thread Cert.AdKvIdeal.nD Cert.AdKvIdeal.τ).loc Cert.AdKvIdeal.main_arg1)
      ∧ m' ((c.tc : Thread Cert.RefAdKvIdeal.nD Cert.RefAdKvIdeal.τ).loc Cert.RefAdKvIdeal.main_arg2) = m ((c.tc : Thread Cert.AdKvIdeal.nD Cert.AdKvIdeal.τ).loc Cert.AdKvIdeal.main_arg2)
      ∧ m' ((c.tc : Thread Cert.RefAdKvIdeal.nD Cert.RefAdKvIdeal.τ).loc Cert.RefAdKvIdeal.main_arg3) = m ((c.tc : Thread Cert.AdKvIdeal.nD Cert.AdKvIdeal.τ).loc Cert.AdKvIdeal.main_arg3)) →
    ∃ (v0 : (c : Dev Cert.AdKvIdeal.nD) → Buf (Elt Ideal) ((c.tc : Thread Cert.AdKvIdeal.nD Cert.AdKvIdeal.τ).loc Cert.AdKvIdeal.main_v4_0)) (v1 : (c : Dev Cert.AdKvIdeal.nD) → Buf (Elt Ideal) ((c.tc : Thread Cert.AdKvIdeal.nD Cert.AdKvIdeal.τ).loc Cert.AdKvIdeal.main_v4_1)) (v2 : (c : Dev Cert.AdKvIdeal.nD) → Buf (Elt Ideal) ((c.tc : Thread Cert.AdKvIdeal.nD Cert.AdKvIdeal.τ).loc Cert.AdKvIdeal.main_v4_2)) (v3 : (c : Dev Cert.AdKvIdeal.nD) → Buf (Elt Ideal) ((c.tc : Thread Cert.AdKvIdeal.nD Cert.AdKvIdeal.τ).loc Cert.AdKvIdeal.main_v4_3)),
      θ_run (Cert.AdKvIdeal.defs (F := Ideal)) (onTc (τ := Cert.AdKvIdeal.τ) (Cert.AdKvIdeal.main (F := Ideal))) ⟨m, fun _ => 0, g⟩ (fun r => ∀ c : Dev Cert.AdKvIdeal.nD,
          r.2.mem ((c.tc : Thread Cert.AdKvIdeal.nD Cert.AdKvIdeal.τ).loc Cert.AdKvIdeal.main_v4_0) = v0 c
          ∧ r.2.mem ((c.tc : Thread Cert.AdKvIdeal.nD Cert.AdKvIdeal.τ).loc Cert.AdKvIdeal.main_v4_1) = v1 c
          ∧ r.2.mem ((c.tc : Thread Cert.AdKvIdeal.nD Cert.AdKvIdeal.τ).loc Cert.AdKvIdeal.main_v4_2) = v2 c
          ∧ r.2.mem ((c.tc : Thread Cert.AdKvIdeal.nD Cert.AdKvIdeal.τ).loc Cert.AdKvIdeal.main_v4_3) = v3 c
          ∧ r.2.mem ((c.tc : Thread Cert.AdKvIdeal.nD Cert.AdKvIdeal.τ).loc Cert.AdKvIdeal.main_arg0) = m ((c.tc : Thread Cert.AdKvIdeal.nD Cert.AdKvIdeal.τ).loc Cert.AdKvIdeal.main_arg0)
          ∧ r.2.mem ((c.tc : Thread Cert.AdKvIdeal.nD Cert.AdKvIdeal.τ).loc Cert.AdKvIdeal.main_arg1) = m ((c.tc : Thread Cert.AdKvIdeal.nD Cert.AdKvIdeal.τ).loc Cert.AdKvIdeal.main_arg1)
          ∧ r.2.mem ((c.tc : Thread Cert.AdKvIdeal.nD Cert.AdKvIdeal.τ).loc Cert.AdKvIdeal.main_arg2) = m ((c.tc : Thread Cert.AdKvIdeal.nD Cert.AdKvIdeal.τ).loc Cert.AdKvIdeal.main_arg2)
          ∧ r.2.mem ((c.tc : Thread Cert.AdKvIdeal.nD Cert.AdKvIdeal.τ).loc Cert.AdKvIdeal.main_arg3) = m ((c.tc : Thread Cert.AdKvIdeal.nD Cert.AdKvIdeal.τ).loc Cert.AdKvIdeal.main_arg3))
      ∧ θ_run (Cert.RefAdKvIdeal.defs (F := Ideal)) (onTc (τ := Cert.RefAdKvIdeal.τ) (Cert.RefAdKvIdeal.main (F := Ideal))) ⟨m', fun _ => 0, g'⟩ (fun r => ∀ c : Dev Cert.RefAdKvIdeal.nD,
          r.2.mem ((c.tc : Thread Cert.RefAdKvIdeal.nD Cert.RefAdKvIdeal.τ).loc Cert.RefAdKvIdeal.main_v24) = v0 c
          ∧ r.2.mem ((c.tc : Thread Cert.RefAdKvIdeal.nD Cert.RefAdKvIdeal.τ).loc Cert.RefAdKvIdeal.main_v25) = v1 c
          ∧ r.2.mem ((c.tc : Thread Cert.RefAdKvIdeal.nD Cert.RefAdKvIdeal.τ).loc Cert.RefAdKvIdeal.main_v26) = v2 c
          ∧ r.2.mem ((c.tc : Thread Cert.RefAdKvIdeal.nD Cert.RefAdKvIdeal.τ).loc Cert.RefAdKvIdeal.main_v27) = v3 c
          ∧ r.2.mem ((c.tc : Thread Cert.RefAdKvIdeal.nD Cert.RefAdKvIdeal.τ).loc Cert.RefAdKvIdeal.main_arg0) = m' ((c.tc : Thread Cert.RefAdKvIdeal.nD Cert.RefAdKvIdeal.τ).loc Cert.RefAdKvIdeal.main_arg0)
          ∧ r.2.mem ((c.tc : Thread Cert.RefAdKvIdeal.nD Cert.RefAdKvIdeal.τ).loc Cert.RefAdKvIdeal.main_arg1) = m' ((c.tc : Thread Cert.RefAdKvIdeal.nD Cert.RefAdKvIdeal.τ).loc Cert.RefAdKvIdeal.main_arg1)
          ∧ r.2.mem ((c.tc : Thread Cert.RefAdKvIdeal.nD Cert.RefAdKvIdeal.τ).loc Cert.RefAdKvIdeal.main_arg2) = m' ((c.tc : Thread Cert.RefAdKvIdeal.nD Cert.RefAdKvIdeal.τ).loc Cert.RefAdKvIdeal.main_arg2)
          ∧ r.2.mem ((c.tc : Thread Cert.RefAdKvIdeal.nD Cert.RefAdKvIdeal.τ).loc Cert.RefAdKvIdeal.main_arg3) = m' ((c.tc : Thread Cert.RefAdKvIdeal.nD Cert.RefAdKvIdeal.τ).loc Cert.RefAdKvIdeal.main_arg3))

def preserves_AdBr_AdBrIdeal : Prop :=
  True

def algebraic_AdBrIdeal_RefAdBrIdeal [hAdBrIdeal : Cert.AdBrIdeal.Facts] [hRefAdBrIdeal : Cert.RefAdBrIdeal.Facts] : Prop :=
  ∀ (m : (ℓ : Loc Cert.AdBrIdeal.nD Cert.AdBrIdeal.τ Cert.AdBrIdeal.sig) → Buf (Elt Ideal) ℓ) (g : Dev Cert.AdBrIdeal.nD → PrngReg)
    (m' : (ℓ : Loc Cert.RefAdBrIdeal.nD Cert.RefAdBrIdeal.τ Cert.RefAdBrIdeal.sig) → Buf (Elt Ideal) ℓ) (g' : Dev Cert.RefAdBrIdeal.nD → PrngReg), Pre_AdBrIdeal m →
    (∀ c : Dev Cert.AdBrIdeal.nD,
      m' ((c.tc : Thread Cert.RefAdBrIdeal.nD Cert.RefAdBrIdeal.τ).loc Cert.RefAdBrIdeal.main_arg0) = m ((c.tc : Thread Cert.AdBrIdeal.nD Cert.AdBrIdeal.τ).loc Cert.AdBrIdeal.main_arg0)
      ∧ m' ((c.tc : Thread Cert.RefAdBrIdeal.nD Cert.RefAdBrIdeal.τ).loc Cert.RefAdBrIdeal.main_arg1) = m ((c.tc : Thread Cert.AdBrIdeal.nD Cert.AdBrIdeal.τ).loc Cert.AdBrIdeal.main_arg1)
      ∧ m' ((c.tc : Thread Cert.RefAdBrIdeal.nD Cert.RefAdBrIdeal.τ).loc Cert.RefAdBrIdeal.main_arg2) = m ((c.tc : Thread Cert.AdBrIdeal.nD Cert.AdBrIdeal.τ).loc Cert.AdBrIdeal.main_arg2)
      ∧ m' ((c.tc : Thread Cert.RefAdBrIdeal.nD Cert.RefAdBrIdeal.τ).loc Cert.RefAdBrIdeal.main_arg3) = m ((c.tc : Thread Cert.AdBrIdeal.nD Cert.AdBrIdeal.τ).loc Cert.AdBrIdeal.main_arg3)) →
    ∃ (v0 : (c : Dev Cert.AdBrIdeal.nD) → Buf (Elt Ideal) ((c.tc : Thread Cert.AdBrIdeal.nD Cert.AdBrIdeal.τ).loc Cert.AdBrIdeal.main_v4_0)) (v1 : (c : Dev Cert.AdBrIdeal.nD) → Buf (Elt Ideal) ((c.tc : Thread Cert.AdBrIdeal.nD Cert.AdBrIdeal.τ).loc Cert.AdBrIdeal.main_v4_1)) (v2 : (c : Dev Cert.AdBrIdeal.nD) → Buf (Elt Ideal) ((c.tc : Thread Cert.AdBrIdeal.nD Cert.AdBrIdeal.τ).loc Cert.AdBrIdeal.main_v4_2)) (v3 : (c : Dev Cert.AdBrIdeal.nD) → Buf (Elt Ideal) ((c.tc : Thread Cert.AdBrIdeal.nD Cert.AdBrIdeal.τ).loc Cert.AdBrIdeal.main_v4_3)),
      θ_run (Cert.AdBrIdeal.defs (F := Ideal)) (onTc (τ := Cert.AdBrIdeal.τ) (Cert.AdBrIdeal.main (F := Ideal))) ⟨m, fun _ => 0, g⟩ (fun r => ∀ c : Dev Cert.AdBrIdeal.nD,
          r.2.mem ((c.tc : Thread Cert.AdBrIdeal.nD Cert.AdBrIdeal.τ).loc Cert.AdBrIdeal.main_v4_0) = v0 c
          ∧ r.2.mem ((c.tc : Thread Cert.AdBrIdeal.nD Cert.AdBrIdeal.τ).loc Cert.AdBrIdeal.main_v4_1) = v1 c
          ∧ r.2.mem ((c.tc : Thread Cert.AdBrIdeal.nD Cert.AdBrIdeal.τ).loc Cert.AdBrIdeal.main_v4_2) = v2 c
          ∧ r.2.mem ((c.tc : Thread Cert.AdBrIdeal.nD Cert.AdBrIdeal.τ).loc Cert.AdBrIdeal.main_v4_3) = v3 c
          ∧ r.2.mem ((c.tc : Thread Cert.AdBrIdeal.nD Cert.AdBrIdeal.τ).loc Cert.AdBrIdeal.main_arg0) = m ((c.tc : Thread Cert.AdBrIdeal.nD Cert.AdBrIdeal.τ).loc Cert.AdBrIdeal.main_arg0)
          ∧ r.2.mem ((c.tc : Thread Cert.AdBrIdeal.nD Cert.AdBrIdeal.τ).loc Cert.AdBrIdeal.main_arg1) = m ((c.tc : Thread Cert.AdBrIdeal.nD Cert.AdBrIdeal.τ).loc Cert.AdBrIdeal.main_arg1)
          ∧ r.2.mem ((c.tc : Thread Cert.AdBrIdeal.nD Cert.AdBrIdeal.τ).loc Cert.AdBrIdeal.main_arg2) = m ((c.tc : Thread Cert.AdBrIdeal.nD Cert.AdBrIdeal.τ).loc Cert.AdBrIdeal.main_arg2)
          ∧ r.2.mem ((c.tc : Thread Cert.AdBrIdeal.nD Cert.AdBrIdeal.τ).loc Cert.AdBrIdeal.main_arg3) = m ((c.tc : Thread Cert.AdBrIdeal.nD Cert.AdBrIdeal.τ).loc Cert.AdBrIdeal.main_arg3))
      ∧ θ_run (Cert.RefAdBrIdeal.defs (F := Ideal)) (onTc (τ := Cert.RefAdBrIdeal.τ) (Cert.RefAdBrIdeal.main (F := Ideal))) ⟨m', fun _ => 0, g'⟩ (fun r => ∀ c : Dev Cert.RefAdBrIdeal.nD,
          r.2.mem ((c.tc : Thread Cert.RefAdBrIdeal.nD Cert.RefAdBrIdeal.τ).loc Cert.RefAdBrIdeal.main_v24) = v0 c
          ∧ r.2.mem ((c.tc : Thread Cert.RefAdBrIdeal.nD Cert.RefAdBrIdeal.τ).loc Cert.RefAdBrIdeal.main_v25) = v1 c
          ∧ r.2.mem ((c.tc : Thread Cert.RefAdBrIdeal.nD Cert.RefAdBrIdeal.τ).loc Cert.RefAdBrIdeal.main_v26) = v2 c
          ∧ r.2.mem ((c.tc : Thread Cert.RefAdBrIdeal.nD Cert.RefAdBrIdeal.τ).loc Cert.RefAdBrIdeal.main_v27) = v3 c
          ∧ r.2.mem ((c.tc : Thread Cert.RefAdBrIdeal.nD Cert.RefAdBrIdeal.τ).loc Cert.RefAdBrIdeal.main_arg0) = m' ((c.tc : Thread Cert.RefAdBrIdeal.nD Cert.RefAdBrIdeal.τ).loc Cert.RefAdBrIdeal.main_arg0)
          ∧ r.2.mem ((c.tc : Thread Cert.RefAdBrIdeal.nD Cert.RefAdBrIdeal.τ).loc Cert.RefAdBrIdeal.main_arg1) = m' ((c.tc : Thread Cert.RefAdBrIdeal.nD Cert.RefAdBrIdeal.τ).loc Cert.RefAdBrIdeal.main_arg1)
          ∧ r.2.mem ((c.tc : Thread Cert.RefAdBrIdeal.nD Cert.RefAdBrIdeal.τ).loc Cert.RefAdBrIdeal.main_arg2) = m' ((c.tc : Thread Cert.RefAdBrIdeal.nD Cert.RefAdBrIdeal.τ).loc Cert.RefAdBrIdeal.main_arg2)
          ∧ r.2.mem ((c.tc : Thread Cert.RefAdBrIdeal.nD Cert.RefAdBrIdeal.τ).loc Cert.RefAdBrIdeal.main_arg3) = m' ((c.tc : Thread Cert.RefAdBrIdeal.nD Cert.RefAdBrIdeal.τ).loc Cert.RefAdBrIdeal.main_arg3))

def preserves_AdOut_AdOutIdeal : Prop :=
  True

def algebraic_AdOutIdeal_RefAdOutIdeal [hAdOutIdeal : Cert.AdOutIdeal.Facts] [hRefAdOutIdeal : Cert.RefAdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.RefAdOutIdeal.nD Cert.RefAdOutIdeal.τ Cert.RefAdOutIdeal.sig) → Buf (Elt Ideal) ℓ) (g' : Dev Cert.RefAdOutIdeal.nD → PrngReg), Pre_AdOutIdeal m →
    (∀ c : Dev Cert.AdOutIdeal.nD,
      m' ((c.tc : Thread Cert.RefAdOutIdeal.nD Cert.RefAdOutIdeal.τ).loc Cert.RefAdOutIdeal.main_arg0) = m ((c.tc : Thread Cert.AdOutIdeal.nD Cert.AdOutIdeal.τ).loc Cert.AdOutIdeal.main_arg0)
      ∧ m' ((c.tc : Thread Cert.RefAdOutIdeal.nD Cert.RefAdOutIdeal.τ).loc Cert.RefAdOutIdeal.main_arg1) = m ((c.tc : Thread Cert.AdOutIdeal.nD Cert.AdOutIdeal.τ).loc Cert.AdOutIdeal.main_arg1)
      ∧ m' ((c.tc : Thread Cert.RefAdOutIdeal.nD Cert.RefAdOutIdeal.τ).loc Cert.RefAdOutIdeal.main_arg2) = m ((c.tc : Thread Cert.AdOutIdeal.nD Cert.AdOutIdeal.τ).loc Cert.AdOutIdeal.main_arg2)
      ∧ m' ((c.tc : Thread Cert.RefAdOutIdeal.nD Cert.RefAdOutIdeal.τ).loc Cert.RefAdOutIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v4_0)) (v1 : (c : Dev Cert.AdOutIdeal.nD) → Buf (Elt Ideal) ((c.tc : Thread Cert.AdOutIdeal.nD Cert.AdOutIdeal.τ).loc Cert.AdOutIdeal.main_v4_1)) (v2 : (c : Dev Cert.AdOutIdeal.nD) → Buf (Elt Ideal) ((c.tc : Thread Cert.AdOutIdeal.nD Cert.AdOutIdeal.τ).loc Cert.AdOutIdeal.main_v4_2)) (v3 : (c : Dev Cert.AdOutIdeal.nD) → Buf (Elt Ideal) ((c.tc : Thread Cert.AdOutIdeal.nD Cert.AdOutIdeal.τ).loc Cert.AdOutIdeal.main_v4_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v4_0) = v0 c
          ∧ r.2.mem ((c.tc : Thread Cert.AdOutIdeal.nD Cert.AdOutIdeal.τ).loc Cert.AdOutIdeal.main_v4_1) = v1 c
          ∧ r.2.mem ((c.tc : Thread Cert.AdOutIdeal.nD Cert.AdOutIdeal.τ).loc Cert.AdOutIdeal.main_v4_2) = v2 c
          ∧ r.2.mem ((c.tc : Thread Cert.AdOutIdeal.nD Cert.AdOutIdeal.τ).loc Cert.AdOutIdeal.main_v4_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.RefAdOutIdeal.defs (F := Ideal)) (onTc (τ := Cert.RefAdOutIdeal.τ) (Cert.RefAdOutIdeal.main (F := Ideal))) ⟨m', fun _ => 0, g'⟩ (fun r => ∀ c : Dev Cert.RefAdOutIdeal.nD,
          r.2.mem ((c.tc : Thread Cert.RefAdOutIdeal.nD Cert.RefAdOutIdeal.τ).loc Cert.RefAdOutIdeal.main_v24) = v0 c
          ∧ r.2.mem ((c.tc : Thread Cert.RefAdOutIdeal.nD Cert.RefAdOutIdeal.τ).loc Cert.RefAdOutIdeal.main_v25) = v1 c
          ∧ r.2.mem ((c.tc : Thread Cert.RefAdOutIdeal.nD Cert.RefAdOutIdeal.τ).loc Cert.RefAdOutIdeal.main_v26) = v2 c
          ∧ r.2.mem ((c.tc : Thread Cert.RefAdOutIdeal.nD Cert.RefAdOutIdeal.τ).loc Cert.RefAdOutIdeal.main_v27) = v3 c
          ∧ r.2.mem ((c.tc : Thread Cert.RefAdOutIdeal.nD Cert.RefAdOutIdeal.τ).loc Cert.RefAdOutIdeal.main_arg0) = m' ((c.tc : Thread Cert.RefAdOutIdeal.nD Cert.RefAdOutIdeal.τ).loc Cert.RefAdOutIdeal.main_arg0)
          ∧ r.2.mem ((c.tc : Thread Cert.RefAdOutIdeal.nD Cert.RefAdOutIdeal.τ).loc Cert.RefAdOutIdeal.main_arg1) = m' ((c.tc : Thread Cert.RefAdOutIdeal.nD Cert.RefAdOutIdeal.τ).loc Cert.RefAdOutIdeal.main_arg1)
          ∧ r.2.mem ((c.tc : Thread Cert.RefAdOutIdeal.nD Cert.RefAdOutIdeal.τ).loc Cert.RefAdOutIdeal.main_arg2) = m' ((c.tc : Thread Cert.RefAdOutIdeal.nD Cert.RefAdOutIdeal.τ).loc Cert.RefAdOutIdeal.main_arg2)
          ∧ r.2.mem ((c.tc : Thread Cert.RefAdOutIdeal.nD Cert.RefAdOutIdeal.τ).loc Cert.RefAdOutIdeal.main_arg3) = m' ((c.tc : Thread Cert.RefAdOutIdeal.nD Cert.RefAdOutIdeal.τ).loc Cert.RefAdOutIdeal.main_arg3))

def preserves_AdMix_AdMixIdeal : Prop :=
  True

def algebraic_AdMixIdeal_RefAdMixIdeal [hAdMixIdeal : Cert.AdMixIdeal.Facts] [hRefAdMixIdeal : Cert.RefAdMixIdeal.Facts] : Prop :=
  ∀ (m : (ℓ : Loc Cert.AdMixIdeal.nD Cert.AdMixIdeal.τ Cert.AdMixIdeal.sig) → Buf (Elt Ideal) ℓ) (g : Dev Cert.AdMixIdeal.nD → PrngReg)
    (m' : (ℓ : Loc Cert.RefAdMixIdeal.nD Cert.RefAdMixIdeal.τ Cert.RefAdMixIdeal.sig) → Buf (Elt Ideal) ℓ) (g' : Dev Cert.RefAdMixIdeal.nD → PrngReg), Pre_AdMixIdeal m →
    (∀ c : Dev Cert.AdMixIdeal.nD,
      m' ((c.tc : Thread Cert.RefAdMixIdeal.nD Cert.RefAdMixIdeal.τ).loc Cert.RefAdMixIdeal.main_arg0) = m ((c.tc : Thread Cert.AdMixIdeal.nD Cert.AdMixIdeal.τ).loc Cert.AdMixIdeal.main_arg0)
      ∧ m' ((c.tc : Thread Cert.RefAdMixIdeal.nD Cert.RefAdMixIdeal.τ).loc Cert.RefAdMixIdeal.main_arg1) = m ((c.tc : Thread Cert.AdMixIdeal.nD Cert.AdMixIdeal.τ).loc Cert.AdMixIdeal.main_arg1)
      ∧ m' ((c.tc : Thread Cert.RefAdMixIdeal.nD Cert.RefAdMixIdeal.τ).loc Cert.RefAdMixIdeal.main_arg2) = m ((c.tc : Thread Cert.AdMixIdeal.nD Cert.AdMixIdeal.τ).loc Cert.AdMixIdeal.main_arg2)
      ∧ m' ((c.tc : Thread Cert.RefAdMixIdeal.nD Cert.RefAdMixIdeal.τ).loc Cert.RefAdMixIdeal.main_arg3) = m ((c.tc : Thread Cert.AdMixIdeal.nD Cert.AdMixIdeal.τ).loc Cert.AdMixIdeal.main_arg3)) →
    ∃ (v0 : (c : Dev Cert.AdMixIdeal.nD) → Buf (Elt Ideal) ((c.tc : Thread Cert.AdMixIdeal.nD Cert.AdMixIdeal.τ).loc Cert.AdMixIdeal.main_v4_0)) (v1 : (c : Dev Cert.AdMixIdeal.nD) → Buf (Elt Ideal) ((c.tc : Thread Cert.AdMixIdeal.nD Cert.AdMixIdeal.τ).loc Cert.AdMixIdeal.main_v4_1)) (v2 : (c : Dev Cert.AdMixIdeal.nD) → Buf (Elt Ideal) ((c.tc : Thread Cert.AdMixIdeal.nD Cert.AdMixIdeal.τ).loc Cert.AdMixIdeal.main_v4_2)) (v3 : (c : Dev Cert.AdMixIdeal.nD) → Buf (Elt Ideal) ((c.tc : Thread Cert.AdMixIdeal.nD Cert.AdMixIdeal.τ).loc Cert.AdMixIdeal.main_v4_3)),
      θ_run (Cert.AdMixIdeal.defs (F := Ideal)) (onTc (τ := Cert.AdMixIdeal.τ) (Cert.AdMixIdeal.main (F := Ideal))) ⟨m, fun _ => 0, g⟩ (fun r => ∀ c : Dev Cert.AdMixIdeal.nD,
          r.2.mem ((c.tc : Thread Cert.AdMixIdeal.nD Cert.AdMixIdeal.τ).loc Cert.AdMixIdeal.main_v4_0) = v0 c
          ∧ r.2.mem ((c.tc : Thread Cert.AdMixIdeal.nD Cert.AdMixIdeal.τ).loc Cert.AdMixIdeal.main_v4_1) = v1 c
          ∧ r.2.mem ((c.tc : Thread Cert.AdMixIdeal.nD Cert.AdMixIdeal.τ).loc Cert.AdMixIdeal.main_v4_2) = v2 c
          ∧ r.2.mem ((c.tc : Thread Cert.AdMixIdeal.nD Cert.AdMixIdeal.τ).loc Cert.AdMixIdeal.main_v4_3) = v3 c
          ∧ r.2.mem ((c.tc : Thread Cert.AdMixIdeal.nD Cert.AdMixIdeal.τ).loc Cert.AdMixIdeal.main_arg0) = m ((c.tc : Thread Cert.AdMixIdeal.nD Cert.AdMixIdeal.τ).loc Cert.AdMixIdeal.main_arg0)
          ∧ r.2.mem ((c.tc : Thread Cert.AdMixIdeal.nD Cert.AdMixIdeal.τ).loc Cert.AdMixIdeal.main_arg1) = m ((c.tc : Thread Cert.AdMixIdeal.nD Cert.AdMixIdeal.τ).loc Cert.AdMixIdeal.main_arg1)
          ∧ r.2.mem ((c.tc : Thread Cert.AdMixIdeal.nD Cert.AdMixIdeal.τ).loc Cert.AdMixIdeal.main_arg2) = m ((c.tc : Thread Cert.AdMixIdeal.nD Cert.AdMixIdeal.τ).loc Cert.AdMixIdeal.main_arg2)
          ∧ r.2.mem ((c.tc : Thread Cert.AdMixIdeal.nD Cert.AdMixIdeal.τ).loc Cert.AdMixIdeal.main_arg3) = m ((c.tc : Thread Cert.AdMixIdeal.nD Cert.AdMixIdeal.τ).loc Cert.AdMixIdeal.main_arg3))
      ∧ θ_run (Cert.RefAdMixIdeal.defs (F := Ideal)) (onTc (τ := Cert.RefAdMixIdeal.τ) (Cert.RefAdMixIdeal.main (F := Ideal))) ⟨m', fun _ => 0, g'⟩ (fun r => ∀ c : Dev Cert.RefAdMixIdeal.nD,
          r.2.mem ((c.tc : Thread Cert.RefAdMixIdeal.nD Cert.RefAdMixIdeal.τ).loc Cert.RefAdMixIdeal.main_v24) = v0 c
          ∧ r.2.mem ((c.tc : Thread Cert.RefAdMixIdeal.nD Cert.RefAdMixIdeal.τ).loc Cert.RefAdMixIdeal.main_v25) = v1 c
          ∧ r.2.mem ((c.tc : Thread Cert.RefAdMixIdeal.nD Cert.RefAdMixIdeal.τ).loc Cert.RefAdMixIdeal.main_v26) = v2 c
          ∧ r.2.mem ((c.tc : Thread Cert.RefAdMixIdeal.nD Cert.RefAdMixIdeal.τ).loc Cert.RefAdMixIdeal.main_v27) = v3 c
          ∧ r.2.mem ((c.tc : Thread Cert.RefAdMixIdeal.nD Cert.RefAdMixIdeal.τ).loc Cert.RefAdMixIdeal.main_arg0) = m' ((c.tc : Thread Cert.RefAdMixIdeal.nD Cert.RefAdMixIdeal.τ).loc Cert.RefAdMixIdeal.main_arg0)
          ∧ r.2.mem ((c.tc : Thread Cert.RefAdMixIdeal.nD Cert.RefAdMixIdeal.τ).loc Cert.RefAdMixIdeal.main_arg1) = m' ((c.tc : Thread Cert.RefAdMixIdeal.nD Cert.RefAdMixIdeal.τ).loc Cert.RefAdMixIdeal.main_arg1)
          ∧ r.2.mem ((c.tc : Thread Cert.RefAdMixIdeal.nD Cert.RefAdMixIdeal.τ).loc Cert.RefAdMixIdeal.main_arg2) = m' ((c.tc : Thread Cert.RefAdMixIdeal.nD Cert.RefAdMixIdeal.τ).loc Cert.RefAdMixIdeal.main_arg2)
          ∧ r.2.mem ((c.tc : Thread Cert.RefAdMixIdeal.nD Cert.RefAdMixIdeal.τ).loc Cert.RefAdMixIdeal.main_arg3) = m' ((c.tc : Thread Cert.RefAdMixIdeal.nD Cert.RefAdMixIdeal.τ).loc Cert.RefAdMixIdeal.main_arg3))

def preserves_AdBias_AdBiasIdeal : Prop :=
  True

def algebraic_AdBiasIdeal_RefAdBiasIdeal [hAdBiasIdeal : Cert.AdBiasIdeal.Facts] [hRefAdBiasIdeal : Cert.RefAdBiasIdeal.Facts] : Prop :=
  ∀ (m : (ℓ : Loc Cert.AdBiasIdeal.nD Cert.AdBiasIdeal.τ Cert.AdBiasIdeal.sig) → Buf (Elt Ideal) ℓ) (g : Dev Cert.AdBiasIdeal.nD → PrngReg)
    (m' : (ℓ : Loc Cert.RefAdBiasIdeal.nD Cert.RefAdBiasIdeal.τ Cert.RefAdBiasIdeal.sig) → Buf (Elt Ideal) ℓ) (g' : Dev Cert.RefAdBiasIdeal.nD → PrngReg), Pre_AdBiasIdeal m →
    (∀ c : Dev Cert.AdBiasIdeal.nD,
      m' ((c.tc : Thread Cert.RefAdBiasIdeal.nD Cert.RefAdBiasIdeal.τ).loc Cert.RefAdBiasIdeal.main_arg0) = m ((c.tc : Thread Cert.AdBiasIdeal.nD Cert.AdBiasIdeal.τ).loc Cert.AdBiasIdeal.main_arg0)
      ∧ m' ((c.tc : Thread Cert.RefAdBiasIdeal.nD Cert.RefAdBiasIdeal.τ).loc Cert.RefAdBiasIdeal.main_arg1) = m ((c.tc : Thread Cert.AdBiasIdeal.nD Cert.AdBiasIdeal.τ).loc Cert.AdBiasIdeal.main_arg1)
      ∧ m' ((c.tc : Thread Cert.RefAdBiasIdeal.nD Cert.RefAdBiasIdeal.τ).loc Cert.RefAdBiasIdeal.main_arg2) = m ((c.tc : Thread Cert.AdBiasIdeal.nD Cert.AdBiasIdeal.τ).loc Cert.AdBiasIdeal.main_arg2)
      ∧ m' ((c.tc : Thread Cert.RefAdBiasIdeal.nD Cert.RefAdBiasIdeal.τ).loc Cert.RefAdBiasIdeal.main_arg3) = m ((c.tc : Thread Cert.AdBiasIdeal.nD Cert.AdBiasIdeal.τ).loc Cert.AdBiasIdeal.main_arg3)) →
    ∃ (v0 : (c : Dev Cert.AdBiasIdeal.nD) → Buf (Elt Ideal) ((c.tc : Thread Cert.AdBiasIdeal.nD Cert.AdBiasIdeal.τ).loc Cert.AdBiasIdeal.main_v4_0)) (v1 : (c : Dev Cert.AdBiasIdeal.nD) → Buf (Elt Ideal) ((c.tc : Thread Cert.AdBiasIdeal.nD Cert.AdBiasIdeal.τ).loc Cert.AdBiasIdeal.main_v4_1)) (v2 : (c : Dev Cert.AdBiasIdeal.nD) → Buf (Elt Ideal) ((c.tc : Thread Cert.AdBiasIdeal.nD Cert.AdBiasIdeal.τ).loc Cert.AdBiasIdeal.main_v4_2)) (v3 : (c : Dev Cert.AdBiasIdeal.nD) → Buf (Elt Ideal) ((c.tc : Thread Cert.AdBiasIdeal.nD Cert.AdBiasIdeal.τ).loc Cert.AdBiasIdeal.main_v4_3)),
      θ_run (Cert.AdBiasIdeal.defs (F := Ideal)) (onTc (τ := Cert.AdBiasIdeal.τ) (Cert.AdBiasIdeal.main (F := Ideal))) ⟨m, fun _ => 0, g⟩ (fun r => ∀ c : Dev Cert.AdBiasIdeal.nD,
          r.2.mem ((c.tc : Thread Cert.AdBiasIdeal.nD Cert.AdBiasIdeal.τ).loc Cert.AdBiasIdeal.main_v4_0) = v0 c
          ∧ r.2.mem ((c.tc : Thread Cert.AdBiasIdeal.nD Cert.AdBiasIdeal.τ).loc Cert.AdBiasIdeal.main_v4_1) = v1 c
          ∧ r.2.mem ((c.tc : Thread Cert.AdBiasIdeal.nD Cert.AdBiasIdeal.τ).loc Cert.AdBiasIdeal.main_v4_2) = v2 c
          ∧ r.2.mem ((c.tc : Thread Cert.AdBiasIdeal.nD Cert.AdBiasIdeal.τ).loc Cert.AdBiasIdeal.main_v4_3) = v3 c
          ∧ r.2.mem ((c.tc : Thread Cert.AdBiasIdeal.nD Cert.AdBiasIdeal.τ).loc Cert.AdBiasIdeal.main_arg0) = m ((c.tc : Thread Cert.AdBiasIdeal.nD Cert.AdBiasIdeal.τ).loc Cert.AdBiasIdeal.main_arg0)
          ∧ r.2.mem ((c.tc : Thread Cert.AdBiasIdeal.nD Cert.AdBiasIdeal.τ).loc Cert.AdBiasIdeal.main_arg1) = m ((c.tc : Thread Cert.AdBiasIdeal.nD Cert.AdBiasIdeal.τ).loc Cert.AdBiasIdeal.main_arg1)
          ∧ r.2.mem ((c.tc : Thread Cert.AdBiasIdeal.nD Cert.AdBiasIdeal.τ).loc Cert.AdBiasIdeal.main_arg2) = m ((c.tc : Thread Cert.AdBiasIdeal.nD Cert.AdBiasIdeal.τ).loc Cert.AdBiasIdeal.main_arg2)
          ∧ r.2.mem ((c.tc : Thread Cert.AdBiasIdeal.nD Cert.AdBiasIdeal.τ).loc Cert.AdBiasIdeal.main_arg3) = m ((c.tc : Thread Cert.AdBiasIdeal.nD Cert.AdBiasIdeal.τ).loc Cert.AdBiasIdeal.main_arg3))
      ∧ θ_run (Cert.RefAdBiasIdeal.defs (F := Ideal)) (onTc (τ := Cert.RefAdBiasIdeal.τ) (Cert.RefAdBiasIdeal.main (F := Ideal))) ⟨m', fun _ => 0, g'⟩ (fun r => ∀ c : Dev Cert.RefAdBiasIdeal.nD,
          r.2.mem ((c.tc : Thread Cert.RefAdBiasIdeal.nD Cert.RefAdBiasIdeal.τ).loc Cert.RefAdBiasIdeal.main_v24) = v0 c
          ∧ r.2.mem ((c.tc : Thread Cert.RefAdBiasIdeal.nD Cert.RefAdBiasIdeal.τ).loc Cert.RefAdBiasIdeal.main_v25) = v1 c
          ∧ r.2.mem ((c.tc : Thread Cert.RefAdBiasIdeal.nD Cert.RefAdBiasIdeal.τ).loc Cert.RefAdBiasIdeal.main_v26) = v2 c
          ∧ r.2.mem ((c.tc : Thread Cert.RefAdBiasIdeal.nD Cert.RefAdBiasIdeal.τ).loc Cert.RefAdBiasIdeal.main_v27) = v3 c
          ∧ r.2.mem ((c.tc : Thread Cert.RefAdBiasIdeal.nD Cert.RefAdBiasIdeal.τ).loc Cert.RefAdBiasIdeal.main_arg0) = m' ((c.tc : Thread Cert.RefAdBiasIdeal.nD Cert.RefAdBiasIdeal.τ).loc Cert.RefAdBiasIdeal.main_arg0)
          ∧ r.2.mem ((c.tc : Thread Cert.RefAdBiasIdeal.nD Cert.RefAdBiasIdeal.τ).loc Cert.RefAdBiasIdeal.main_arg1) = m' ((c.tc : Thread Cert.RefAdBiasIdeal.nD Cert.RefAdBiasIdeal.τ).loc Cert.RefAdBiasIdeal.main_arg1)
          ∧ r.2.mem ((c.tc : Thread Cert.RefAdBiasIdeal.nD Cert.RefAdBiasIdeal.τ).loc Cert.RefAdBiasIdeal.main_arg2) = m' ((c.tc : Thread Cert.RefAdBiasIdeal.nD Cert.RefAdBiasIdeal.τ).loc Cert.RefAdBiasIdeal.main_arg2)
          ∧ r.2.mem ((c.tc : Thread Cert.RefAdBiasIdeal.nD Cert.RefAdBiasIdeal.τ).loc Cert.RefAdBiasIdeal.main_arg3) = m' ((c.tc : Thread Cert.RefAdBiasIdeal.nD Cert.RefAdBiasIdeal.τ).loc Cert.RefAdBiasIdeal.main_arg3))

def preserves_AdConv_AdConvIdeal : Prop :=
  True

def algebraic_AdConvIdeal_RefAdConvIdeal [hAdConvIdeal : Cert.AdConvIdeal.Facts] [hRefAdConvIdeal : Cert.RefAdConvIdeal.Facts] : Prop :=
  ∀ (m : (ℓ : Loc Cert.AdConvIdeal.nD Cert.AdConvIdeal.τ Cert.AdConvIdeal.sig) → Buf (Elt Ideal) ℓ) (g : Dev Cert.AdConvIdeal.nD → PrngReg)
    (m' : (ℓ : Loc Cert.RefAdConvIdeal.nD Cert.RefAdConvIdeal.τ Cert.RefAdConvIdeal.sig) → Buf (Elt Ideal) ℓ) (g' : Dev Cert.RefAdConvIdeal.nD → PrngReg), Pre_AdConvIdeal m →
    (∀ c : Dev Cert.AdConvIdeal.nD,
      m' ((c.tc : Thread Cert.RefAdConvIdeal.nD Cert.RefAdConvIdeal.τ).loc Cert.RefAdConvIdeal.main_arg0) = m ((c.tc : Thread Cert.AdConvIdeal.nD Cert.AdConvIdeal.τ).loc Cert.AdConvIdeal.main_arg0)
      ∧ m' ((c.tc : Thread Cert.RefAdConvIdeal.nD Cert.RefAdConvIdeal.τ).loc Cert.RefAdConvIdeal.main_arg1) = m ((c.tc : Thread Cert.AdConvIdeal.nD Cert.AdConvIdeal.τ).loc Cert.AdConvIdeal.main_arg1)
      ∧ m' ((c.tc : Thread Cert.RefAdConvIdeal.nD Cert.RefAdConvIdeal.τ).loc Cert.RefAdConvIdeal.main_arg2) = m ((c.tc : Thread Cert.AdConvIdeal.nD Cert.AdConvIdeal.τ).loc Cert.AdConvIdeal.main_arg2)
      ∧ m' ((c.tc : Thread Cert.RefAdConvIdeal.nD Cert.RefAdConvIdeal.τ).loc Cert.RefAdConvIdeal.main_arg3) = m ((c.tc : Thread Cert.AdConvIdeal.nD Cert.AdConvIdeal.τ).loc Cert.AdConvIdeal.main_arg3)) →
    ∃ (v0 : (c : Dev Cert.AdConvIdeal.nD) → Buf (Elt Ideal) ((c.tc : Thread Cert.AdConvIdeal.nD Cert.AdConvIdeal.τ).loc Cert.AdConvIdeal.main_v4_0)) (v1 : (c : Dev Cert.AdConvIdeal.nD) → Buf (Elt Ideal) ((c.tc : Thread Cert.AdConvIdeal.nD Cert.AdConvIdeal.τ).loc Cert.AdConvIdeal.main_v4_1)) (v2 : (c : Dev Cert.AdConvIdeal.nD) → Buf (Elt Ideal) ((c.tc : Thread Cert.AdConvIdeal.nD Cert.AdConvIdeal.τ).loc Cert.AdConvIdeal.main_v4_2)) (v3 : (c : Dev Cert.AdConvIdeal.nD) → Buf (Elt Ideal) ((c.tc : Thread Cert.AdConvIdeal.nD Cert.AdConvIdeal.τ).loc Cert.AdConvIdeal.main_v4_3)),
      θ_run (Cert.AdConvIdeal.defs (F := Ideal)) (onTc (τ := Cert.AdConvIdeal.τ) (Cert.AdConvIdeal.main (F := Ideal))) ⟨m, fun _ => 0, g⟩ (fun r => ∀ c : Dev Cert.AdConvIdeal.nD,
          r.2.mem ((c.tc : Thread Cert.AdConvIdeal.nD Cert.AdConvIdeal.τ).loc Cert.AdConvIdeal.main_v4_0) = v0 c
          ∧ r.2.mem ((c.tc : Thread Cert.AdConvIdeal.nD Cert.AdConvIdeal.τ).loc Cert.AdConvIdeal.main_v4_1) = v1 c
          ∧ r.2.mem ((c.tc : Thread Cert.AdConvIdeal.nD Cert.AdConvIdeal.τ).loc Cert.AdConvIdeal.main_v4_2) = v2 c
          ∧ r.2.mem ((c.tc : Thread Cert.AdConvIdeal.nD Cert.AdConvIdeal.τ).loc Cert.AdConvIdeal.main_v4_3) = v3 c
          ∧ r.2.mem ((c.tc : Thread Cert.AdConvIdeal.nD Cert.AdConvIdeal.τ).loc Cert.AdConvIdeal.main_arg0) = m ((c.tc : Thread Cert.AdConvIdeal.nD Cert.AdConvIdeal.τ).loc Cert.AdConvIdeal.main_arg0)
          ∧ r.2.mem ((c.tc : Thread Cert.AdConvIdeal.nD Cert.AdConvIdeal.τ).loc Cert.AdConvIdeal.main_arg1) = m ((c.tc : Thread Cert.AdConvIdeal.nD Cert.AdConvIdeal.τ).loc Cert.AdConvIdeal.main_arg1)
          ∧ r.2.mem ((c.tc : Thread Cert.AdConvIdeal.nD Cert.AdConvIdeal.τ).loc Cert.AdConvIdeal.main_arg2) = m ((c.tc : Thread Cert.AdConvIdeal.nD Cert.AdConvIdeal.τ).loc Cert.AdConvIdeal.main_arg2)
          ∧ r.2.mem ((c.tc : Thread Cert.AdConvIdeal.nD Cert.AdConvIdeal.τ).loc Cert.AdConvIdeal.main_arg3) = m ((c.tc : Thread Cert.AdConvIdeal.nD Cert.AdConvIdeal.τ).loc Cert.AdConvIdeal.main_arg3))
      ∧ θ_run (Cert.RefAdConvIdeal.defs (F := Ideal)) (onTc (τ := Cert.RefAdConvIdeal.τ) (Cert.RefAdConvIdeal.main (F := Ideal))) ⟨m', fun _ => 0, g'⟩ (fun r => ∀ c : Dev Cert.RefAdConvIdeal.nD,
          r.2.mem ((c.tc : Thread Cert.RefAdConvIdeal.nD Cert.RefAdConvIdeal.τ).loc Cert.RefAdConvIdeal.main_v24) = v0 c
          ∧ r.2.mem ((c.tc : Thread Cert.RefAdConvIdeal.nD Cert.RefAdConvIdeal.τ).loc Cert.RefAdConvIdeal.main_v25) = v1 c
          ∧ r.2.mem ((c.tc : Thread Cert.RefAdConvIdeal.nD Cert.RefAdConvIdeal.τ).loc Cert.RefAdConvIdeal.main_v26) = v2 c
          ∧ r.2.mem ((c.tc : Thread Cert.RefAdConvIdeal.nD Cert.RefAdConvIdeal.τ).loc Cert.RefAdConvIdeal.main_v27) = v3 c
          ∧ r.2.mem ((c.tc : Thread Cert.RefAdConvIdeal.nD Cert.RefAdConvIdeal.τ).loc Cert.RefAdConvIdeal.main_arg0) = m' ((c.tc : Thread Cert.RefAdConvIdeal.nD Cert.RefAdConvIdeal.τ).loc Cert.RefAdConvIdeal.main_arg0)
          ∧ r.2.mem ((c.tc : Thread Cert.RefAdConvIdeal.nD Cert.RefAdConvIdeal.τ).loc Cert.RefAdConvIdeal.main_arg1) = m' ((c.tc : Thread Cert.RefAdConvIdeal.nD Cert.RefAdConvIdeal.τ).loc Cert.RefAdConvIdeal.main_arg1)
          ∧ r.2.mem ((c.tc : Thread Cert.RefAdConvIdeal.nD Cert.RefAdConvIdeal.τ).loc Cert.RefAdConvIdeal.main_arg2) = m' ((c.tc : Thread Cert.RefAdConvIdeal.nD Cert.RefAdConvIdeal.τ).loc Cert.RefAdConvIdeal.main_arg2)
          ∧ r.2.mem ((c.tc : Thread Cert.RefAdConvIdeal.nD Cert.RefAdConvIdeal.τ).loc Cert.RefAdConvIdeal.main_arg3) = m' ((c.tc : Thread Cert.RefAdConvIdeal.nD Cert.RefAdConvIdeal.τ).loc Cert.RefAdConvIdeal.main_arg3))

def preserves_AdRow_AdRowIdeal : Prop :=
  True

def algebraic_AdRowIdeal_RefAdRowIdeal [hAdRowIdeal : Cert.AdRowIdeal.Facts] [hRefAdRowIdeal : Cert.RefAdRowIdeal.Facts] : Prop :=
  ∀ (m : (ℓ : Loc Cert.AdRowIdeal.nD Cert.AdRowIdeal.τ Cert.AdRowIdeal.sig) → Buf (Elt Ideal) ℓ) (g : Dev Cert.AdRowIdeal.nD → PrngReg)
    (m' : (ℓ : Loc Cert.RefAdRowIdeal.nD Cert.RefAdRowIdeal.τ Cert.RefAdRowIdeal.sig) → Buf (Elt Ideal) ℓ) (g' : Dev Cert.RefAdRowIdeal.nD → PrngReg), Pre_AdRowIdeal m →
    (∀ c : Dev Cert.AdRowIdeal.nD,
      m' ((c.tc : Thread Cert.RefAdRowIdeal.nD Cert.RefAdRowIdeal.τ).loc Cert.RefAdRowIdeal.main_arg0) = m ((c.tc : Thread Cert.AdRowIdeal.nD Cert.AdRowIdeal.τ).loc Cert.AdRowIdeal.main_arg0)
      ∧ m' ((c.tc : Thread Cert.RefAdRowIdeal.nD Cert.RefAdRowIdeal.τ).loc Cert.RefAdRowIdeal.main_arg1) = m ((c.tc : Thread Cert.AdRowIdeal.nD Cert.AdRowIdeal.τ).loc Cert.AdRowIdeal.main_arg1)
      ∧ m' ((c.tc : Thread Cert.RefAdRowIdeal.nD Cert.RefAdRowIdeal.τ).loc Cert.RefAdRowIdeal.main_arg2) = m ((c.tc : Thread Cert.AdRowIdeal.nD Cert.AdRowIdeal.τ).loc Cert.AdRowIdeal.main_arg2)
      ∧ m' ((c.tc : Thread Cert.RefAdRowIdeal.nD Cert.RefAdRowIdeal.τ).loc Cert.RefAdRowIdeal.main_arg3) = m ((c.tc : Thread Cert.AdRowIdeal.nD Cert.AdRowIdeal.τ).loc Cert.AdRowIdeal.main_arg3)) →
    ∃ (v0 : (c : Dev Cert.AdRowIdeal.nD) → Buf (Elt Ideal) ((c.tc : Thread Cert.AdRowIdeal.nD Cert.AdRowIdeal.τ).loc Cert.AdRowIdeal.main_v0_0)) (v1 : (c : Dev Cert.AdRowIdeal.nD) → Buf (Elt Ideal) ((c.tc : Thread Cert.AdRowIdeal.nD Cert.AdRowIdeal.τ).loc Cert.AdRowIdeal.main_v0_1)) (v2 : (c : Dev Cert.AdRowIdeal.nD) → Buf (Elt Ideal) ((c.tc : Thread Cert.AdRowIdeal.nD Cert.AdRowIdeal.τ).loc Cert.AdRowIdeal.main_v0_2)) (v3 : (c : Dev Cert.AdRowIdeal.nD) → Buf (Elt Ideal) ((c.tc : Thread Cert.AdRowIdeal.nD Cert.AdRowIdeal.τ).loc Cert.AdRowIdeal.main_v0_3)),
      θ_run (Cert.AdRowIdeal.defs (F := Ideal)) (onTc (τ := Cert.AdRowIdeal.τ) (Cert.AdRowIdeal.main (F := Ideal))) ⟨m, fun _ => 0, g⟩ (fun r => ∀ c : Dev Cert.AdRowIdeal.nD,
          r.2.mem ((c.tc : Thread Cert.AdRowIdeal.nD Cert.AdRowIdeal.τ).loc Cert.AdRowIdeal.main_v0_0) = v0 c
          ∧ r.2.mem ((c.tc : Thread Cert.AdRowIdeal.nD Cert.AdRowIdeal.τ).loc Cert.AdRowIdeal.main_v0_1) = v1 c
          ∧ r.2.mem ((c.tc : Thread Cert.AdRowIdeal.nD Cert.AdRowIdeal.τ).loc Cert.AdRowIdeal.main_v0_2) = v2 c
          ∧ r.2.mem ((c.tc : Thread Cert.AdRowIdeal.nD Cert.AdRowIdeal.τ).loc Cert.AdRowIdeal.main_v0_3) = v3 c
          ∧ r.2.mem ((c.tc : Thread Cert.AdRowIdeal.nD Cert.AdRowIdeal.τ).loc Cert.AdRowIdeal.main_arg0) = m ((c.tc : Thread Cert.AdRowIdeal.nD Cert.AdRowIdeal.τ).loc Cert.AdRowIdeal.main_arg0)
          ∧ r.2.mem ((c.tc : Thread Cert.AdRowIdeal.nD Cert.AdRowIdeal.τ).loc Cert.AdRowIdeal.main_arg1) = m ((c.tc : Thread Cert.AdRowIdeal.nD Cert.AdRowIdeal.τ).loc Cert.AdRowIdeal.main_arg1)
          ∧ r.2.mem ((c.tc : Thread Cert.AdRowIdeal.nD Cert.AdRowIdeal.τ).loc Cert.AdRowIdeal.main_arg2) = m ((c.tc : Thread Cert.AdRowIdeal.nD Cert.AdRowIdeal.τ).loc Cert.AdRowIdeal.main_arg2)
          ∧ r.2.mem ((c.tc : Thread Cert.AdRowIdeal.nD Cert.AdRowIdeal.τ).loc Cert.AdRowIdeal.main_arg3) = m ((c.tc : Thread Cert.AdRowIdeal.nD Cert.AdRowIdeal.τ).loc Cert.AdRowIdeal.main_arg3))
      ∧ θ_run (Cert.RefAdRowIdeal.defs (F := Ideal)) (onTc (τ := Cert.RefAdRowIdeal.τ) (Cert.RefAdRowIdeal.main (F := Ideal))) ⟨m', fun _ => 0, g'⟩ (fun r => ∀ c : Dev Cert.RefAdRowIdeal.nD,
          r.2.mem ((c.tc : Thread Cert.RefAdRowIdeal.nD Cert.RefAdRowIdeal.τ).loc Cert.RefAdRowIdeal.main_v23) = v0 c
          ∧ r.2.mem ((c.tc : Thread Cert.RefAdRowIdeal.nD Cert.RefAdRowIdeal.τ).loc Cert.RefAdRowIdeal.main_v4) = v1 c
          ∧ r.2.mem ((c.tc : Thread Cert.RefAdRowIdeal.nD Cert.RefAdRowIdeal.τ).loc Cert.RefAdRowIdeal.main_v10) = v2 c
          ∧ r.2.mem ((c.tc : Thread Cert.RefAdRowIdeal.nD Cert.RefAdRowIdeal.τ).loc Cert.RefAdRowIdeal.main_arg1) = v3 c
          ∧ r.2.mem ((c.tc : Thread Cert.RefAdRowIdeal.nD Cert.RefAdRowIdeal.τ).loc Cert.RefAdRowIdeal.main_arg0) = m' ((c.tc : Thread Cert.RefAdRowIdeal.nD Cert.RefAdRowIdeal.τ).loc Cert.RefAdRowIdeal.main_arg0)
          ∧ r.2.mem ((c.tc : Thread Cert.RefAdRowIdeal.nD Cert.RefAdRowIdeal.τ).loc Cert.RefAdRowIdeal.main_arg1) = m' ((c.tc : Thread Cert.RefAdRowIdeal.nD Cert.RefAdRowIdeal.τ).loc Cert.RefAdRowIdeal.main_arg1)
          ∧ r.2.mem ((c.tc : Thread Cert.RefAdRowIdeal.nD Cert.RefAdRowIdeal.τ).loc Cert.RefAdRowIdeal.main_arg2) = m' ((c.tc : Thread Cert.RefAdRowIdeal.nD Cert.RefAdRowIdeal.τ).loc Cert.RefAdRowIdeal.main_arg2)
          ∧ r.2.mem ((c.tc : Thread Cert.RefAdRowIdeal.nD Cert.RefAdRowIdeal.τ).loc Cert.RefAdRowIdeal.main_arg3) = m' ((c.tc : Thread Cert.RefAdRowIdeal.nD Cert.RefAdRowIdeal.τ).loc Cert.RefAdRowIdeal.main_arg3))

def preserves_AdFinal_AdFinalIdeal : Prop :=
  True

def algebraic_AdFinalIdeal_RefAdFinalIdeal [hAdFinalIdeal : Cert.AdFinalIdeal.Facts] [hRefAdFinalIdeal : Cert.RefAdFinalIdeal.Facts] : Prop :=
  ∀ (m : (ℓ : Loc Cert.AdFinalIdeal.nD Cert.AdFinalIdeal.τ Cert.AdFinalIdeal.sig) → Buf (Elt Ideal) ℓ) (g : Dev Cert.AdFinalIdeal.nD → PrngReg)
    (m' : (ℓ : Loc Cert.RefAdFinalIdeal.nD Cert.RefAdFinalIdeal.τ Cert.RefAdFinalIdeal.sig) → Buf (Elt Ideal) ℓ) (g' : Dev Cert.RefAdFinalIdeal.nD → PrngReg), Pre_AdFinalIdeal m →
    (∀ c : Dev Cert.AdFinalIdeal.nD,
      m' ((c.tc : Thread Cert.RefAdFinalIdeal.nD Cert.RefAdFinalIdeal.τ).loc Cert.RefAdFinalIdeal.main_arg0) = m ((c.tc : Thread Cert.AdFinalIdeal.nD Cert.AdFinalIdeal.τ).loc Cert.AdFinalIdeal.main_arg0)
      ∧ m' ((c.tc : Thread Cert.RefAdFinalIdeal.nD Cert.RefAdFinalIdeal.τ).loc Cert.RefAdFinalIdeal.main_arg1) = m ((c.tc : Thread Cert.AdFinalIdeal.nD Cert.AdFinalIdeal.τ).loc Cert.AdFinalIdeal.main_arg1)
      ∧ m' ((c.tc : Thread Cert.RefAdFinalIdeal.nD Cert.RefAdFinalIdeal.τ).loc Cert.RefAdFinalIdeal.main_arg2) = m ((c.tc : Thread Cert.AdFinalIdeal.nD Cert.AdFinalIdeal.τ).loc Cert.AdFinalIdeal.main_arg2)
      ∧ m' ((c.tc : Thread Cert.RefAdFinalIdeal.nD Cert.RefAdFinalIdeal.τ).loc Cert.RefAdFinalIdeal.main_arg3) = m ((c.tc : Thread Cert.AdFinalIdeal.nD Cert.AdFinalIdeal.τ).loc Cert.AdFinalIdeal.main_arg3)) →
    ∃ (v0 : (c : Dev Cert.AdFinalIdeal.nD) → Buf (Elt Ideal) ((c.tc : Thread Cert.AdFinalIdeal.nD Cert.AdFinalIdeal.τ).loc Cert.AdFinalIdeal.main_v0_0)) (v1 : (c : Dev Cert.AdFinalIdeal.nD) → Buf (Elt Ideal) ((c.tc : Thread Cert.AdFinalIdeal.nD Cert.AdFinalIdeal.τ).loc Cert.AdFinalIdeal.main_v0_1)) (v2 : (c : Dev Cert.AdFinalIdeal.nD) → Buf (Elt Ideal) ((c.tc : Thread Cert.AdFinalIdeal.nD Cert.AdFinalIdeal.τ).loc Cert.AdFinalIdeal.main_v0_2)) (v3 : (c : Dev Cert.AdFinalIdeal.nD) → Buf (Elt Ideal) ((c.tc : Thread Cert.AdFinalIdeal.nD Cert.AdFinalIdeal.τ).loc Cert.AdFinalIdeal.main_v0_3)),
      θ_run (Cert.AdFinalIdeal.defs (F := Ideal)) (onTc (τ := Cert.AdFinalIdeal.τ) (Cert.AdFinalIdeal.main (F := Ideal))) ⟨m, fun _ => 0, g⟩ (fun r => ∀ c : Dev Cert.AdFinalIdeal.nD,
          r.2.mem ((c.tc : Thread Cert.AdFinalIdeal.nD Cert.AdFinalIdeal.τ).loc Cert.AdFinalIdeal.main_v0_0) = v0 c
          ∧ r.2.mem ((c.tc : Thread Cert.AdFinalIdeal.nD Cert.AdFinalIdeal.τ).loc Cert.AdFinalIdeal.main_v0_1) = v1 c
          ∧ r.2.mem ((c.tc : Thread Cert.AdFinalIdeal.nD Cert.AdFinalIdeal.τ).loc Cert.AdFinalIdeal.main_v0_2) = v2 c
          ∧ r.2.mem ((c.tc : Thread Cert.AdFinalIdeal.nD Cert.AdFinalIdeal.τ).loc Cert.AdFinalIdeal.main_v0_3) = v3 c
          ∧ r.2.mem ((c.tc : Thread Cert.AdFinalIdeal.nD Cert.AdFinalIdeal.τ).loc Cert.AdFinalIdeal.main_arg0) = m ((c.tc : Thread Cert.AdFinalIdeal.nD Cert.AdFinalIdeal.τ).loc Cert.AdFinalIdeal.main_arg0)
          ∧ r.2.mem ((c.tc : Thread Cert.AdFinalIdeal.nD Cert.AdFinalIdeal.τ).loc Cert.AdFinalIdeal.main_arg1) = m ((c.tc : Thread Cert.AdFinalIdeal.nD Cert.AdFinalIdeal.τ).loc Cert.AdFinalIdeal.main_arg1)
          ∧ r.2.mem ((c.tc : Thread Cert.AdFinalIdeal.nD Cert.AdFinalIdeal.τ).loc Cert.AdFinalIdeal.main_arg2) = m ((c.tc : Thread Cert.AdFinalIdeal.nD Cert.AdFinalIdeal.τ).loc Cert.AdFinalIdeal.main_arg2)
          ∧ r.2.mem ((c.tc : Thread Cert.AdFinalIdeal.nD Cert.AdFinalIdeal.τ).loc Cert.AdFinalIdeal.main_arg3) = m ((c.tc : Thread Cert.AdFinalIdeal.nD Cert.AdFinalIdeal.τ).loc Cert.AdFinalIdeal.main_arg3))
      ∧ θ_run (Cert.RefAdFinalIdeal.defs (F := Ideal)) (onTc (τ := Cert.RefAdFinalIdeal.τ) (Cert.RefAdFinalIdeal.main (F := Ideal))) ⟨m', fun _ => 0, g'⟩ (fun r => ∀ c : Dev Cert.RefAdFinalIdeal.nD,
          r.2.mem ((c.tc : Thread Cert.RefAdFinalIdeal.nD Cert.RefAdFinalIdeal.τ).loc Cert.RefAdFinalIdeal.main_v23) = v0 c
          ∧ r.2.mem ((c.tc : Thread Cert.RefAdFinalIdeal.nD Cert.RefAdFinalIdeal.τ).loc Cert.RefAdFinalIdeal.main_v4) = v1 c
          ∧ r.2.mem ((c.tc : Thread Cert.RefAdFinalIdeal.nD Cert.RefAdFinalIdeal.τ).loc Cert.RefAdFinalIdeal.main_v10) = v2 c
          ∧ r.2.mem ((c.tc : Thread Cert.RefAdFinalIdeal.nD Cert.RefAdFinalIdeal.τ).loc Cert.RefAdFinalIdeal.main_arg1) = v3 c
          ∧ r.2.mem ((c.tc : Thread Cert.RefAdFinalIdeal.nD Cert.RefAdFinalIdeal.τ).loc Cert.RefAdFinalIdeal.main_arg0) = m' ((c.tc : Thread Cert.RefAdFinalIdeal.nD Cert.RefAdFinalIdeal.τ).loc Cert.RefAdFinalIdeal.main_arg0)
          ∧ r.2.mem ((c.tc : Thread Cert.RefAdFinalIdeal.nD Cert.RefAdFinalIdeal.τ).loc Cert.RefAdFinalIdeal.main_arg1) = m' ((c.tc : Thread Cert.RefAdFinalIdeal.nD Cert.RefAdFinalIdeal.τ).loc Cert.RefAdFinalIdeal.main_arg1)
          ∧ r.2.mem ((c.tc : Thread Cert.RefAdFinalIdeal.nD Cert.RefAdFinalIdeal.τ).loc Cert.RefAdFinalIdeal.main_arg2) = m' ((c.tc : Thread Cert.RefAdFinalIdeal.nD Cert.RefAdFinalIdeal.τ).loc Cert.RefAdFinalIdeal.main_arg2)
          ∧ r.2.mem ((c.tc : Thread Cert.RefAdFinalIdeal.nD Cert.RefAdFinalIdeal.τ).loc Cert.RefAdFinalIdeal.main_arg3) = m' ((c.tc : Thread Cert.RefAdFinalIdeal.nD Cert.RefAdFinalIdeal.τ).loc Cert.RefAdFinalIdeal.main_arg3))

def preserves_KvF_KvFIdeal : Prop :=
  True

def algebraic_KvFIdeal_RefKvFIdeal [hKvFIdeal : Cert.KvFIdeal.Facts] [hRefKvFIdeal : Cert.RefKvFIdeal.Facts] : Prop :=
  ∀ (m : (ℓ : Loc Cert.KvFIdeal.nD Cert.KvFIdeal.τ Cert.KvFIdeal.sig) → Buf (Elt Ideal) ℓ) (g : Dev Cert.KvFIdeal.nD → PrngReg)
    (m' : (ℓ : Loc Cert.RefKvFIdeal.nD Cert.RefKvFIdeal.τ Cert.RefKvFIdeal.sig) → Buf (Elt Ideal) ℓ) (g' : Dev Cert.RefKvFIdeal.nD → PrngReg), Pre_KvFIdeal m →
    (∀ c : Dev Cert.KvFIdeal.nD,
      m' ((c.tc : Thread Cert.RefKvFIdeal.nD Cert.RefKvFIdeal.τ).loc Cert.RefKvFIdeal.main_arg0) = m ((c.tc : Thread Cert.KvFIdeal.nD Cert.KvFIdeal.τ).loc Cert.KvFIdeal.main_arg0)
      ∧ m' ((c.tc : Thread Cert.RefKvFIdeal.nD Cert.RefKvFIdeal.τ).loc Cert.RefKvFIdeal.main_arg1) = m ((c.tc : Thread Cert.KvFIdeal.nD Cert.KvFIdeal.τ).loc Cert.KvFIdeal.main_arg1)
      ∧ m' ((c.tc : Thread Cert.RefKvFIdeal.nD Cert.RefKvFIdeal.τ).loc Cert.RefKvFIdeal.main_arg2) = m ((c.tc : Thread Cert.KvFIdeal.nD Cert.KvFIdeal.τ).loc Cert.KvFIdeal.main_arg2)) →
    ∃ (v0 : (c : Dev Cert.KvFIdeal.nD) → Buf (Elt Ideal) ((c.tc : Thread Cert.KvFIdeal.nD Cert.KvFIdeal.τ).loc Cert.KvFIdeal.main_v0_0)) (v1 : (c : Dev Cert.KvFIdeal.nD) → Buf (Elt Ideal) ((c.tc : Thread Cert.KvFIdeal.nD Cert.KvFIdeal.τ).loc Cert.KvFIdeal.main_v0_1)) (v2 : (c : Dev Cert.KvFIdeal.nD) → Buf (Elt Ideal) ((c.tc : Thread Cert.KvFIdeal.nD Cert.KvFIdeal.τ).loc Cert.KvFIdeal.main_v0_2)),
      θ_run (Cert.KvFIdeal.defs (F := Ideal)) (onTc (τ := Cert.KvFIdeal.τ) (Cert.KvFIdeal.main (F := Ideal))) ⟨m, fun _ => 0, g⟩ (fun r => ∀ c : Dev Cert.KvFIdeal.nD,
          r.2.mem ((c.tc : Thread Cert.KvFIdeal.nD Cert.KvFIdeal.τ).loc Cert.KvFIdeal.main_v0_0) = v0 c
          ∧ r.2.mem ((c.tc : Thread Cert.KvFIdeal.nD Cert.KvFIdeal.τ).loc Cert.KvFIdeal.main_v0_1) = v1 c
          ∧ r.2.mem ((c.tc : Thread Cert.KvFIdeal.nD Cert.KvFIdeal.τ).loc Cert.KvFIdeal.main_v0_2) = v2 c
          ∧ r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
          ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1)
          ∧ r.2.mem ((c.tc : Thread Cert.KvFIdeal.nD Cert.KvFIdeal.τ).loc Cert.KvFIdeal.main_arg2) = m ((c.tc : Thread Cert.KvFIdeal.nD Cert.KvFIdeal.τ).loc Cert.KvFIdeal.main_arg2))
      ∧ θ_run (Cert.RefKvFIdeal.defs (F := Ideal)) (onTc (τ := Cert.RefKvFIdeal.τ) (Cert.RefKvFIdeal.main (F := Ideal))) ⟨m', fun _ => 0, g'⟩ (fun r => ∀ c : Dev Cert.RefKvFIdeal.nD,
          r.2.mem ((c.tc : Thread Cert.RefKvFIdeal.nD Cert.RefKvFIdeal.τ).loc Cert.RefKvFIdeal.main_v15) = v0 c
          ∧ r.2.mem ((c.tc : Thread Cert.RefKvFIdeal.nD Cert.RefKvFIdeal.τ).loc Cert.RefKvFIdeal.main_v16) = v1 c
          ∧ r.2.mem ((c.tc : Thread Cert.RefKvFIdeal.nD Cert.RefKvFIdeal.τ).loc Cert.RefKvFIdeal.main_v18) = v2 c
          ∧ r.2.mem ((c.tc : Thread Cert.RefKvFIdeal.nD Cert.RefKvFIdeal.τ).loc Cert.RefKvFIdeal.main_arg0) = m' ((c.tc : Thread Cert.RefKvFIdeal.nD Cert.RefKvFIdeal.τ).loc Cert.RefKvFIdeal.main_arg0)
          ∧ r.2.mem ((c.tc : Thread Cert.RefKvFIdeal.nD Cert.RefKvFIdeal.τ).loc Cert.RefKvFIdeal.main_arg1) = m' ((c.tc : Thread Cert.RefKvFIdeal.nD Cert.RefKvFIdeal.τ).loc Cert.RefKvFIdeal.main_arg1)
          ∧ r.2.mem ((c.tc : Thread Cert.RefKvFIdeal.nD Cert.RefKvFIdeal.τ).loc Cert.RefKvFIdeal.main_arg2) = m' ((c.tc : Thread Cert.RefKvFIdeal.nD Cert.RefKvFIdeal.τ).loc Cert.RefKvFIdeal.main_arg2))

def preserves_AttF_AttFIdeal : Prop :=
  True

def algebraic_AttFIdeal_RefAttFIdeal [hAttFIdeal : Cert.AttFIdeal.Facts] [hRefAttFIdeal : Cert.RefAttFIdeal.Facts] : Prop :=
  ∀ (m : (ℓ : Loc Cert.AttFIdeal.nD Cert.AttFIdeal.τ Cert.AttFIdeal.sig) → Buf (Elt Ideal) ℓ) (g : Dev Cert.AttFIdeal.nD → PrngReg)
    (m' : (ℓ : Loc Cert.RefAttFIdeal.nD Cert.RefAttFIdeal.τ Cert.RefAttFIdeal.sig) → Buf (Elt Ideal) ℓ) (g' : Dev Cert.RefAttFIdeal.nD → PrngReg), Pre_AttFIdeal m →
    (∀ c : Dev Cert.AttFIdeal.nD,
      m' ((c.tc : Thread Cert.RefAttFIdeal.nD Cert.RefAttFIdeal.τ).loc Cert.RefAttFIdeal.main_arg0) = m ((c.tc : Thread Cert.AttFIdeal.nD Cert.AttFIdeal.τ).loc Cert.AttFIdeal.main_arg0)
      ∧ m' ((c.tc : Thread Cert.RefAttFIdeal.nD Cert.RefAttFIdeal.τ).loc Cert.RefAttFIdeal.main_arg1) = m ((c.tc : Thread Cert.AttFIdeal.nD Cert.AttFIdeal.τ).loc Cert.AttFIdeal.main_arg1)) →
    ∃ (v0 : (c : Dev Cert.AttFIdeal.nD) → Buf (Elt Ideal) ((c.tc : Thread Cert.AttFIdeal.nD Cert.AttFIdeal.τ).loc Cert.AttFIdeal.main_v1)),
      θ_run (Cert.AttFIdeal.defs (F := Ideal)) (onTc (τ := Cert.AttFIdeal.τ) (Cert.AttFIdeal.main (F := Ideal))) ⟨m, fun _ => 0, g⟩ (fun r => ∀ c : Dev Cert.AttFIdeal.nD,
          r.2.mem ((c.tc : Thread Cert.AttFIdeal.nD Cert.AttFIdeal.τ).loc Cert.AttFIdeal.main_v1) = v0 c
          ∧ r.2.mem ((c.tc : Thread Cert.AttFIdeal.nD Cert.AttFIdeal.τ).loc Cert.AttFIdeal.main_arg0) = m ((c.tc : Thread Cert.AttFIdeal.nD Cert.AttFIdeal.τ).loc Cert.AttFIdeal.main_arg0)
          ∧ r.2.mem ((c.tc : Thread Cert.AttFIdeal.nD Cert.AttFIdeal.τ).loc Cert.AttFIdeal.main_arg1) = m ((c.tc : Thread Cert.AttFIdeal.nD Cert.AttFIdeal.τ).loc Cert.AttFIdeal.main_arg1))
      ∧ θ_run (Cert.RefAttFIdeal.defs (F := Ideal)) (onTc (τ := Cert.RefAttFIdeal.τ) (Cert.RefAttFIdeal.main (F := Ideal))) ⟨m', fun _ => 0, g'⟩ (fun r => ∀ c : Dev Cert.RefAttFIdeal.nD,
          r.2.mem ((c.tc : Thread Cert.RefAttFIdeal.nD Cert.RefAttFIdeal.τ).loc Cert.RefAttFIdeal.main_v27) = v0 c
          ∧ r.2.mem ((c.tc : Thread Cert.RefAttFIdeal.nD Cert.RefAttFIdeal.τ).loc Cert.RefAttFIdeal.main_arg0) = m' ((c.tc : Thread Cert.RefAttFIdeal.nD Cert.RefAttFIdeal.τ).loc Cert.RefAttFIdeal.main_arg0)
          ∧ r.2.mem ((c.tc : Thread Cert.RefAttFIdeal.nD Cert.RefAttFIdeal.τ).loc Cert.RefAttFIdeal.main_arg1) = m' ((c.tc : Thread Cert.RefAttFIdeal.nD Cert.RefAttFIdeal.τ).loc Cert.RefAttFIdeal.main_arg1))

def preserves_KvB_KvBIdeal : Prop :=
  True

def algebraic_KvBIdeal_RefKvBIdeal [hKvBIdeal : Cert.KvBIdeal.Facts] [hRefKvBIdeal : Cert.RefKvBIdeal.Facts] : Prop :=
  ∀ (m : (ℓ : Loc Cert.KvBIdeal.nD Cert.KvBIdeal.τ Cert.KvBIdeal.sig) → Buf (Elt Ideal) ℓ) (g : Dev Cert.KvBIdeal.nD → PrngReg)
    (m' : (ℓ : Loc Cert.RefKvBIdeal.nD Cert.RefKvBIdeal.τ Cert.RefKvBIdeal.sig) → Buf (Elt Ideal) ℓ) (g' : Dev Cert.RefKvBIdeal.nD → PrngReg), Pre_KvBIdeal m →
    (∀ c : Dev Cert.KvBIdeal.nD,
      m' ((c.tc : Thread Cert.RefKvBIdeal.nD Cert.RefKvBIdeal.τ).loc Cert.RefKvBIdeal.main_arg0) = m ((c.tc : Thread Cert.KvBIdeal.nD Cert.KvBIdeal.τ).loc Cert.KvBIdeal.main_arg0)
      ∧ m' ((c.tc : Thread Cert.RefKvBIdeal.nD Cert.RefKvBIdeal.τ).loc Cert.RefKvBIdeal.main_arg1) = m ((c.tc : Thread Cert.KvBIdeal.nD Cert.KvBIdeal.τ).loc Cert.KvBIdeal.main_arg1)
      ∧ m' ((c.tc : Thread Cert.RefKvBIdeal.nD Cert.RefKvBIdeal.τ).loc Cert.RefKvBIdeal.main_arg2) = m ((c.tc : Thread Cert.KvBIdeal.nD Cert.KvBIdeal.τ).loc Cert.KvBIdeal.main_arg2)
      ∧ m' ((c.tc : Thread Cert.RefKvBIdeal.nD Cert.RefKvBIdeal.τ).loc Cert.RefKvBIdeal.main_arg3) = m ((c.tc : Thread Cert.KvBIdeal.nD Cert.KvBIdeal.τ).loc Cert.KvBIdeal.main_arg3)
      ∧ m' ((c.tc : Thread Cert.RefKvBIdeal.nD Cert.RefKvBIdeal.τ).loc Cert.RefKvBIdeal.main_arg4) = m ((c.tc : Thread Cert.KvBIdeal.nD Cert.KvBIdeal.τ).loc Cert.KvBIdeal.main_arg4)) →
    ∃ (v0 : (c : Dev Cert.KvBIdeal.nD) → Buf (Elt Ideal) ((c.tc : Thread Cert.KvBIdeal.nD Cert.KvBIdeal.τ).loc Cert.KvBIdeal.main_v13_0)) (v1 : (c : Dev Cert.KvBIdeal.nD) → Buf (Elt Ideal) ((c.tc : Thread Cert.KvBIdeal.nD Cert.KvBIdeal.τ).loc Cert.KvBIdeal.main_v13_1)),
      θ_run (Cert.KvBIdeal.defs (F := Ideal)) (onTc (τ := Cert.KvBIdeal.τ) (Cert.KvBIdeal.main (F := Ideal))) ⟨m, fun _ => 0, g⟩ (fun r => ∀ c : Dev Cert.KvBIdeal.nD,
          r.2.mem ((c.tc : Thread Cert.KvBIdeal.nD Cert.KvBIdeal.τ).loc Cert.KvBIdeal.main_v13_0) = v0 c
          ∧ r.2.mem ((c.tc : Thread Cert.KvBIdeal.nD Cert.KvBIdeal.τ).loc Cert.KvBIdeal.main_v13_1) = v1 c
          ∧ r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
          ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
          ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2)
          ∧ r.2.mem ((c.tc : Thread Cert.KvBIdeal.nD Cert.KvBIdeal.τ).loc Cert.KvBIdeal.main_arg3) = m ((c.tc : Thread Cert.KvBIdeal.nD Cert.KvBIdeal.τ).loc Cert.KvBIdeal.main_arg3)
          ∧ r.2.mem ((c.tc : Thread Cert.KvBIdeal.nD Cert.KvBIdeal.τ).loc Cert.KvBIdeal.main_arg4) = m ((c.tc : Thread Cert.KvBIdeal.nD Cert.KvBIdeal.τ).loc Cert.KvBIdeal.main_arg4))
      ∧ θ_run (Cert.RefKvBIdeal.defs (F := Ideal)) (onTc (τ := Cert.RefKvBIdeal.τ) (Cert.RefKvBIdeal.main (F := Ideal))) ⟨m', fun _ => 0, g'⟩ (fun r => ∀ c : Dev Cert.RefKvBIdeal.nD,
          r.2.mem ((c.tc : Thread Cert.RefKvBIdeal.nD Cert.RefKvBIdeal.τ).loc Cert.RefKvBIdeal.main_v19) = v0 c
          ∧ r.2.mem ((c.tc : Thread Cert.RefKvBIdeal.nD Cert.RefKvBIdeal.τ).loc Cert.RefKvBIdeal.main_v22) = v1 c
          ∧ r.2.mem ((c.tc : Thread Cert.RefKvBIdeal.nD Cert.RefKvBIdeal.τ).loc Cert.RefKvBIdeal.main_arg0) = m' ((c.tc : Thread Cert.RefKvBIdeal.nD Cert.RefKvBIdeal.τ).loc Cert.RefKvBIdeal.main_arg0)
          ∧ r.2.mem ((c.tc : Thread Cert.RefKvBIdeal.nD Cert.RefKvBIdeal.τ).loc Cert.RefKvBIdeal.main_arg1) = m' ((c.tc : Thread Cert.RefKvBIdeal.nD Cert.RefKvBIdeal.τ).loc Cert.RefKvBIdeal.main_arg1)
          ∧ r.2.mem ((c.tc : Thread Cert.RefKvBIdeal.nD Cert.RefKvBIdeal.τ).loc Cert.RefKvBIdeal.main_arg2) = m' ((c.tc : Thread Cert.RefKvBIdeal.nD Cert.RefKvBIdeal.τ).loc Cert.RefKvBIdeal.main_arg2)
          ∧ r.2.mem ((c.tc : Thread Cert.RefKvBIdeal.nD Cert.RefKvBIdeal.τ).loc Cert.RefKvBIdeal.main_arg3) = m' ((c.tc : Thread Cert.RefKvBIdeal.nD Cert.RefKvBIdeal.τ).loc Cert.RefKvBIdeal.main_arg3)
          ∧ r.2.mem ((c.tc : Thread Cert.RefKvBIdeal.nD Cert.RefKvBIdeal.τ).loc Cert.RefKvBIdeal.main_arg4) = m' ((c.tc : Thread Cert.RefKvBIdeal.nD Cert.RefKvBIdeal.τ).loc Cert.RefKvBIdeal.main_arg4))

def preserves_Loss_LossIdeal : Prop :=
  True

def algebraic_LossIdeal_RefLossIdeal_pre_finite_loss [hLossIdeal : Cert.LossIdeal.Facts] [hRefLossIdeal : Cert.RefLossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal_finite_loss m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v50) = v0 c
          ∧ r.2.mem ((c.tc : Thread Cert.RefLossIdeal.nD Cert.RefLossIdeal.τ).loc Cert.RefLossIdeal.main_v52) = v1 c
          ∧ r.2.mem ((c.tc : Thread Cert.RefLossIdeal.nD Cert.RefLossIdeal.τ).loc Cert.RefLossIdeal.main_v53) = v2 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2))

def preserves_LossAll_LossAllIdeal : Prop :=
  True

def algebraic_LossAllIdeal_RefLossAllIdeal [hLossAllIdeal : Cert.LossAllIdeal.Facts] [hRefLossAllIdeal : Cert.RefLossAllIdeal.Facts] : Prop :=
  ∀ (m : (ℓ : Loc Cert.LossAllIdeal.nD Cert.LossAllIdeal.τ Cert.LossAllIdeal.sig) → Buf (Elt Ideal) ℓ) (g : Dev Cert.LossAllIdeal.nD → PrngReg)
    (m' : (ℓ : Loc Cert.RefLossAllIdeal.nD Cert.RefLossAllIdeal.τ Cert.RefLossAllIdeal.sig) → Buf (Elt Ideal) ℓ) (g' : Dev Cert.RefLossAllIdeal.nD → PrngReg), Pre_LossAllIdeal m →
    (∀ c : Dev Cert.LossAllIdeal.nD,
      m ((c.tc : Thread Cert.LossAllIdeal.nD Cert.LossAllIdeal.τ).loc Cert.LossAllIdeal.main_arg0) = Layout.block ⟨3, ![1, 8192, 1024]⟩ ⟨3, ![8, 8192, 1024]⟩ 0 8 c (m' (((0 : Dev Cert.RefLossAllIdeal.nD).tc : Thread Cert.RefLossAllIdeal.nD Cert.RefLossAllIdeal.τ).loc Cert.RefLossAllIdeal.main_arg0))
      ∧ m ((c.tc : Thread Cert.LossAllIdeal.nD Cert.LossAllIdeal.τ).loc Cert.LossAllIdeal.main_arg1) = Layout.block ⟨3, ![1, 8192, 1024]⟩ ⟨3, ![8, 8192, 1024]⟩ 0 8 c (m' (((0 : Dev Cert.RefLossAllIdeal.nD).tc : Thread Cert.RefLossAllIdeal.nD Cert.RefLossAllIdeal.τ).loc Cert.RefLossAllIdeal.main_arg1))
      ∧ m ((c.tc : Thread Cert.LossAllIdeal.nD Cert.LossAllIdeal.τ).loc Cert.LossAllIdeal.main_arg2) = m' (((0 : Dev Cert.RefLossAllIdeal.nD).tc : Thread Cert.RefLossAllIdeal.nD Cert.RefLossAllIdeal.τ).loc Cert.RefLossAllIdeal.main_arg2)) →
    ∃ (v0 : Buf (Elt Ideal) (((0 : Dev Cert.RefLossAllIdeal.nD).tc : Thread Cert.RefLossAllIdeal.nD Cert.RefLossAllIdeal.τ).loc Cert.RefLossAllIdeal.main_v19)),
      θ_run (Cert.LossAllIdeal.defs (F := Ideal)) (onTc (τ := Cert.LossAllIdeal.τ) (Cert.LossAllIdeal.main (F := Ideal))) ⟨m, fun _ => 0, g⟩ (fun r => ∀ c : Dev Cert.LossAllIdeal.nD,
          r.2.mem ((c.tc : Thread Cert.LossAllIdeal.nD Cert.LossAllIdeal.τ).loc Cert.LossAllIdeal.main_v8) = v0
          ∧ r.2.mem ((c.tc : Thread Cert.LossAllIdeal.nD Cert.LossAllIdeal.τ).loc Cert.LossAllIdeal.main_arg0) = m ((c.tc : Thread Cert.LossAllIdeal.nD Cert.LossAllIdeal.τ).loc Cert.LossAllIdeal.main_arg0)
          ∧ r.2.mem ((c.tc : Thread Cert.LossAllIdeal.nD Cert.LossAllIdeal.τ).loc Cert.LossAllIdeal.main_arg1) = m ((c.tc : Thread Cert.LossAllIdeal.nD Cert.LossAllIdeal.τ).loc Cert.LossAllIdeal.main_arg1)
          ∧ r.2.mem ((c.tc : Thread Cert.LossAllIdeal.nD Cert.LossAllIdeal.τ).loc Cert.LossAllIdeal.main_arg2) = m ((c.tc : Thread Cert.LossAllIdeal.nD Cert.LossAllIdeal.τ).loc Cert.LossAllIdeal.main_arg2))
      ∧ θ_run (Cert.RefLossAllIdeal.defs (F := Ideal)) (onTc (τ := Cert.RefLossAllIdeal.τ) (Cert.RefLossAllIdeal.main (F := Ideal))) ⟨m', fun _ => 0, g'⟩ (fun r =>
          r.2.mem (((0 : Dev Cert.RefLossAllIdeal.nD).tc : Thread Cert.RefLossAllIdeal.nD Cert.RefLossAllIdeal.τ).loc Cert.RefLossAllIdeal.main_v19) = v0
          ∧ r.2.mem (((0 : Dev Cert.RefLossAllIdeal.nD).tc : Thread Cert.RefLossAllIdeal.nD Cert.RefLossAllIdeal.τ).loc Cert.RefLossAllIdeal.main_arg0) = m' (((0 : Dev Cert.RefLossAllIdeal.nD).tc : Thread Cert.RefLossAllIdeal.nD Cert.RefLossAllIdeal.τ).loc Cert.RefLossAllIdeal.main_arg0)
          ∧ r.2.mem (((0 : Dev Cert.RefLossAllIdeal.nD).tc : Thread Cert.RefLossAllIdeal.nD Cert.RefLossAllIdeal.τ).loc Cert.RefLossAllIdeal.main_arg1) = m' (((0 : Dev Cert.RefLossAllIdeal.nD).tc : Thread Cert.RefLossAllIdeal.nD Cert.RefLossAllIdeal.τ).loc Cert.RefLossAllIdeal.main_arg1)
          ∧ r.2.mem (((0 : Dev Cert.RefLossAllIdeal.nD).tc : Thread Cert.RefLossAllIdeal.nD Cert.RefLossAllIdeal.τ).loc Cert.RefLossAllIdeal.main_arg2) = m' (((0 : Dev Cert.RefLossAllIdeal.nD).tc : Thread Cert.RefLossAllIdeal.nD Cert.RefLossAllIdeal.τ).loc Cert.RefLossAllIdeal.main_arg2))

def Claim : Prop :=
  ∃ (hKernel : Cert.Kernel.Facts) (hKernelIdeal : Cert.KernelIdeal.Facts) (hReferenceIdeal : Cert.ReferenceIdeal.Facts) (hInA : Cert.InA.Facts) (hInAIdeal : Cert.InAIdeal.Facts) (hRefInAIdeal : Cert.RefInAIdeal.Facts) (hInB : Cert.InB.Facts) (hInBIdeal : Cert.InBIdeal.Facts) (hRefInBIdeal : Cert.RefInBIdeal.Facts) (hInC : Cert.InC.Facts) (hInCIdeal : Cert.InCIdeal.Facts) (hRefInCIdeal : Cert.RefInCIdeal.Facts) (hInM : Cert.InM.Facts) (hInMIdeal : Cert.InMIdeal.Facts) (hRefInMIdeal : Cert.RefInMIdeal.Facts) (hBrA : Cert.BrA.Facts) (hBrAIdeal : Cert.BrAIdeal.Facts) (hRefBrAIdeal : Cert.RefBrAIdeal.Facts) (hBrB : Cert.BrB.Facts) (hBrBIdeal : Cert.BrBIdeal.Facts) (hRefBrBIdeal : Cert.RefBrBIdeal.Facts) (hBrC : Cert.BrC.Facts) (hBrCIdeal : Cert.BrCIdeal.Facts) (hRefBrCIdeal : Cert.RefBrCIdeal.Facts) (hOut : Cert.Out.Facts) (hOutIdeal : Cert.OutIdeal.Facts) (hRefOutIdeal : Cert.RefOutIdeal.Facts) (hInDx : Cert.InDx.Facts) (hInDxIdeal : Cert.InDxIdeal.Facts) (hRefInDxIdeal : Cert.RefInDxIdeal.Facts) (hMergeF : Cert.MergeF.Facts) (hMergeFIdeal : Cert.MergeFIdeal.Facts) (hRefMergeFIdeal : Cert.RefMergeFIdeal.Facts) (hAdIn : Cert.AdIn.Facts) (hAdInIdeal : Cert.AdInIdeal.Facts) (hRefAdInIdeal : Cert.RefAdInIdeal.Facts) (hAdKv : Cert.AdKv.Facts) (hAdKvIdeal : Cert.AdKvIdeal.Facts) (hRefAdKvIdeal : Cert.RefAdKvIdeal.Facts) (hAdBr : Cert.AdBr.Facts) (hAdBrIdeal : Cert.AdBrIdeal.Facts) (hRefAdBrIdeal : Cert.RefAdBrIdeal.Facts) (hAdOut : Cert.AdOut.Facts) (hAdOutIdeal : Cert.AdOutIdeal.Facts) (hRefAdOutIdeal : Cert.RefAdOutIdeal.Facts) (hAdMix : Cert.AdMix.Facts) (hAdMixIdeal : Cert.AdMixIdeal.Facts) (hRefAdMixIdeal : Cert.RefAdMixIdeal.Facts) (hAdBias : Cert.AdBias.Facts) (hAdBiasIdeal : Cert.AdBiasIdeal.Facts) (hRefAdBiasIdeal : Cert.RefAdBiasIdeal.Facts) (hAdConv : Cert.AdConv.Facts) (hAdConvIdeal : Cert.AdConvIdeal.Facts) (hRefAdConvIdeal : Cert.RefAdConvIdeal.Facts) (hAdRow : Cert.AdRow.Facts) (hAdRowIdeal : Cert.AdRowIdeal.Facts) (hRefAdRowIdeal : Cert.RefAdRowIdeal.Facts) (hAdFinal : Cert.AdFinal.Facts) (hAdFinalIdeal : Cert.AdFinalIdeal.Facts) (hRefAdFinalIdeal : Cert.RefAdFinalIdeal.Facts) (hKvF : Cert.KvF.Facts) (hKvFIdeal : Cert.KvFIdeal.Facts) (hRefKvFIdeal : Cert.RefKvFIdeal.Facts) (hAttF : Cert.AttF.Facts) (hAttFIdeal : Cert.AttFIdeal.Facts) (hRefAttFIdeal : Cert.RefAttFIdeal.Facts) (hKvB : Cert.KvB.Facts) (hKvBIdeal : Cert.KvBIdeal.Facts) (hRefKvBIdeal : Cert.RefKvBIdeal.Facts) (hLoss : Cert.Loss.Facts) (hLossIdeal : Cert.LossIdeal.Facts) (hRefLossIdeal : Cert.RefLossIdeal.Facts) (hLossAll : Cert.LossAll.Facts) (hLossAllIdeal : Cert.LossAllIdeal.Facts) (hRefLossAllIdeal : Cert.RefLossAllIdeal.Facts) (hPre_finite : Cert.Pre_finite.Facts) (hPre_finite_dx : Cert.Pre_finite_dx.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InA (hInA := hInA)
    ∧ quiescent_InAIdeal (hInAIdeal := hInAIdeal)
    ∧ quiescent_RefInAIdeal (hRefInAIdeal := hRefInAIdeal)
    ∧ quiescent_InB (hInB := hInB)
    ∧ quiescent_InBIdeal (hInBIdeal := hInBIdeal)
    ∧ quiescent_RefInBIdeal (hRefInBIdeal := hRefInBIdeal)
    ∧ quiescent_InC (hInC := hInC)
    ∧ quiescent_InCIdeal (hInCIdeal := hInCIdeal)
    ∧ quiescent_RefInCIdeal (hRefInCIdeal := hRefInCIdeal)
    ∧ quiescent_InM (hInM := hInM)
    ∧ quiescent_InMIdeal (hInMIdeal := hInMIdeal)
    ∧ quiescent_RefInMIdeal (hRefInMIdeal := hRefInMIdeal)
    ∧ quiescent_BrA (hBrA := hBrA)
    ∧ quiescent_BrAIdeal (hBrAIdeal := hBrAIdeal)
    ∧ quiescent_RefBrAIdeal (hRefBrAIdeal := hRefBrAIdeal)
    ∧ quiescent_BrB (hBrB := hBrB)
    ∧ quiescent_BrBIdeal (hBrBIdeal := hBrBIdeal)
    ∧ quiescent_RefBrBIdeal (hRefBrBIdeal := hRefBrBIdeal)
    ∧ quiescent_BrC (hBrC := hBrC)
    ∧ quiescent_BrCIdeal (hBrCIdeal := hBrCIdeal)
    ∧ quiescent_RefBrCIdeal (hRefBrCIdeal := hRefBrCIdeal)
    ∧ quiescent_Out (hOut := hOut)
    ∧ quiescent_OutIdeal (hOutIdeal := hOutIdeal)
    ∧ quiescent_RefOutIdeal (hRefOutIdeal := hRefOutIdeal)
    ∧ quiescent_InDx (hInDx := hInDx)
    ∧ quiescent_InDxIdeal (hInDxIdeal := hInDxIdeal)
    ∧ quiescent_InDxIdeal_pre_finite_dx (hInDxIdeal := hInDxIdeal) (hPre_finite_dx := hPre_finite_dx)
    ∧ quiescent_RefInDxIdeal (hRefInDxIdeal := hRefInDxIdeal)
    ∧ quiescent_RefInDxIdeal_pre_finite_dx (hRefInDxIdeal := hRefInDxIdeal) (hPre_finite_dx := hPre_finite_dx)
    ∧ quiescent_MergeF (hMergeF := hMergeF)
    ∧ quiescent_MergeFIdeal (hMergeFIdeal := hMergeFIdeal)
    ∧ quiescent_RefMergeFIdeal (hRefMergeFIdeal := hRefMergeFIdeal)
    ∧ quiescent_AdIn (hAdIn := hAdIn)
    ∧ quiescent_AdInIdeal (hAdInIdeal := hAdInIdeal)
    ∧ quiescent_RefAdInIdeal (hRefAdInIdeal := hRefAdInIdeal)
    ∧ quiescent_AdKv (hAdKv := hAdKv)
    ∧ quiescent_AdKvIdeal (hAdKvIdeal := hAdKvIdeal)
    ∧ quiescent_RefAdKvIdeal (hRefAdKvIdeal := hRefAdKvIdeal)
    ∧ quiescent_AdBr (hAdBr := hAdBr)
    ∧ quiescent_AdBrIdeal (hAdBrIdeal := hAdBrIdeal)
    ∧ quiescent_RefAdBrIdeal (hRefAdBrIdeal := hRefAdBrIdeal)
    ∧ quiescent_AdOut (hAdOut := hAdOut)
    ∧ quiescent_AdOutIdeal (hAdOutIdeal := hAdOutIdeal)
    ∧ quiescent_RefAdOutIdeal (hRefAdOutIdeal := hRefAdOutIdeal)
    ∧ quiescent_AdMix (hAdMix := hAdMix)
    ∧ quiescent_AdMixIdeal (hAdMixIdeal := hAdMixIdeal)
    ∧ quiescent_RefAdMixIdeal (hRefAdMixIdeal := hRefAdMixIdeal)
    ∧ quiescent_AdBias (hAdBias := hAdBias)
    ∧ quiescent_AdBiasIdeal (hAdBiasIdeal := hAdBiasIdeal)
    ∧ quiescent_RefAdBiasIdeal (hRefAdBiasIdeal := hRefAdBiasIdeal)
    ∧ quiescent_AdConv (hAdConv := hAdConv)
    ∧ quiescent_AdConvIdeal (hAdConvIdeal := hAdConvIdeal)
    ∧ quiescent_RefAdConvIdeal (hRefAdConvIdeal := hRefAdConvIdeal)
    ∧ quiescent_AdRow (hAdRow := hAdRow)
    ∧ quiescent_AdRowIdeal (hAdRowIdeal := hAdRowIdeal)
    ∧ quiescent_RefAdRowIdeal (hRefAdRowIdeal := hRefAdRowIdeal)
    ∧ quiescent_AdFinal (hAdFinal := hAdFinal)
    ∧ quiescent_AdFinalIdeal (hAdFinalIdeal := hAdFinalIdeal)
    ∧ quiescent_RefAdFinalIdeal (hRefAdFinalIdeal := hRefAdFinalIdeal)
    ∧ quiescent_KvF (hKvF := hKvF)
    ∧ quiescent_KvFIdeal (hKvFIdeal := hKvFIdeal)
    ∧ quiescent_RefKvFIdeal (hRefKvFIdeal := hRefKvFIdeal)
    ∧ quiescent_AttF (hAttF := hAttF)
    ∧ quiescent_AttFIdeal (hAttFIdeal := hAttFIdeal)
    ∧ quiescent_RefAttFIdeal (hRefAttFIdeal := hRefAttFIdeal)
    ∧ quiescent_KvB (hKvB := hKvB)
    ∧ quiescent_KvBIdeal (hKvBIdeal := hKvBIdeal)
    ∧ quiescent_RefKvBIdeal (hRefKvBIdeal := hRefKvBIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_RefLossIdeal (hRefLossIdeal := hRefLossIdeal)
    ∧ quiescent_RefLossIdeal_pre_finite_loss (hRefLossIdeal := hRefLossIdeal) (hPre_finite_loss := hPre_finite_loss)
    ∧ quiescent_LossAll (hLossAll := hLossAll)
    ∧ quiescent_LossAllIdeal (hLossAllIdeal := hLossAllIdeal)
    ∧ quiescent_RefLossAllIdeal (hRefLossAllIdeal := hRefLossAllIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InA_InAIdeal
    ∧ algebraic_InAIdeal_RefInAIdeal (hInAIdeal := hInAIdeal) (hRefInAIdeal := hRefInAIdeal)
    ∧ preserves_InB_InBIdeal
    ∧ algebraic_InBIdeal_RefInBIdeal (hInBIdeal := hInBIdeal) (hRefInBIdeal := hRefInBIdeal)
    ∧ preserves_InC_InCIdeal
    ∧ algebraic_InCIdeal_RefInCIdeal (hInCIdeal := hInCIdeal) (hRefInCIdeal := hRefInCIdeal)
    ∧ preserves_InM_InMIdeal
    ∧ algebraic_InMIdeal_RefInMIdeal (hInMIdeal := hInMIdeal) (hRefInMIdeal := hRefInMIdeal)
    ∧ preserves_BrA_BrAIdeal
    ∧ algebraic_BrAIdeal_RefBrAIdeal (hBrAIdeal := hBrAIdeal) (hRefBrAIdeal := hRefBrAIdeal)
    ∧ preserves_BrB_BrBIdeal
    ∧ algebraic_BrBIdeal_RefBrBIdeal (hBrBIdeal := hBrBIdeal) (hRefBrBIdeal := hRefBrBIdeal)
    ∧ preserves_BrC_BrCIdeal
    ∧ algebraic_BrCIdeal_RefBrCIdeal (hBrCIdeal := hBrCIdeal) (hRefBrCIdeal := hRefBrCIdeal)
    ∧ preserves_Out_OutIdeal
    ∧ algebraic_OutIdeal_RefOutIdeal (hOutIdeal := hOutIdeal) (hRefOutIdeal := hRefOutIdeal)
    ∧ preserves_InDx_InDxIdeal
    ∧ algebraic_InDxIdeal_RefInDxIdeal_pre_finite_dx (hInDxIdeal := hInDxIdeal) (hRefInDxIdeal := hRefInDxIdeal) (hPre_finite_dx := hPre_finite_dx)
    ∧ preserves_MergeF_MergeFIdeal
    ∧ algebraic_MergeFIdeal_RefMergeFIdeal (hMergeFIdeal := hMergeFIdeal) (hRefMergeFIdeal := hRefMergeFIdeal)
    ∧ preserves_AdIn_AdInIdeal
    ∧ algebraic_AdInIdeal_RefAdInIdeal (hAdInIdeal := hAdInIdeal) (hRefAdInIdeal := hRefAdInIdeal)
    ∧ preserves_AdKv_AdKvIdeal
    ∧ algebraic_AdKvIdeal_RefAdKvIdeal (hAdKvIdeal := hAdKvIdeal) (hRefAdKvIdeal := hRefAdKvIdeal)
    ∧ preserves_AdBr_AdBrIdeal
    ∧ algebraic_AdBrIdeal_RefAdBrIdeal (hAdBrIdeal := hAdBrIdeal) (hRefAdBrIdeal := hRefAdBrIdeal)
    ∧ preserves_AdOut_AdOutIdeal
    ∧ algebraic_AdOutIdeal_RefAdOutIdeal (hAdOutIdeal := hAdOutIdeal) (hRefAdOutIdeal := hRefAdOutIdeal)
    ∧ preserves_AdMix_AdMixIdeal
    ∧ algebraic_AdMixIdeal_RefAdMixIdeal (hAdMixIdeal := hAdMixIdeal) (hRefAdMixIdeal := hRefAdMixIdeal)
    ∧ preserves_AdBias_AdBiasIdeal
    ∧ algebraic_AdBiasIdeal_RefAdBiasIdeal (hAdBiasIdeal := hAdBiasIdeal) (hRefAdBiasIdeal := hRefAdBiasIdeal)
    ∧ preserves_AdConv_AdConvIdeal
    ∧ algebraic_AdConvIdeal_RefAdConvIdeal (hAdConvIdeal := hAdConvIdeal) (hRefAdConvIdeal := hRefAdConvIdeal)
    ∧ preserves_AdRow_AdRowIdeal
    ∧ algebraic_AdRowIdeal_RefAdRowIdeal (hAdRowIdeal := hAdRowIdeal) (hRefAdRowIdeal := hRefAdRowIdeal)
    ∧ preserves_AdFinal_AdFinalIdeal
    ∧ algebraic_AdFinalIdeal_RefAdFinalIdeal (hAdFinalIdeal := hAdFinalIdeal) (hRefAdFinalIdeal := hRefAdFinalIdeal)
    ∧ preserves_KvF_KvFIdeal
    ∧ algebraic_KvFIdeal_RefKvFIdeal (hKvFIdeal := hKvFIdeal) (hRefKvFIdeal := hRefKvFIdeal)
    ∧ preserves_AttF_AttFIdeal
    ∧ algebraic_AttFIdeal_RefAttFIdeal (hAttFIdeal := hAttFIdeal) (hRefAttFIdeal := hRefAttFIdeal)
    ∧ preserves_KvB_KvBIdeal
    ∧ algebraic_KvBIdeal_RefKvBIdeal (hKvBIdeal := hKvBIdeal) (hRefKvBIdeal := hRefKvBIdeal)
    ∧ preserves_Loss_LossIdeal
    ∧ algebraic_LossIdeal_RefLossIdeal_pre_finite_loss (hLossIdeal := hLossIdeal) (hRefLossIdeal := hRefLossIdeal) (hPre_finite_loss := hPre_finite_loss)
    ∧ preserves_LossAll_LossAllIdeal
    ∧ algebraic_LossAllIdeal_RefLossAllIdeal (hLossAllIdeal := hLossAllIdeal) (hRefLossAllIdeal := hRefLossAllIdeal)
-- ==== Pre_finite.lean ====
abbrev S8192x11264 : Shape := ⟨2, ![8192, 11264]⟩
abbrev S2x8192x1024 : Shape := ⟨3, ![2, 8192, 1024]⟩
abbrev S256x2048 : Shape := ⟨2, ![256, 2048]⟩
abbrev S_ : Shape := ⟨0, ![]⟩

class Facts : Prop where
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S2x8192x1024 : S_.BroadcastsInDim S2x8192x1024 (![] : Fin 0 → Fin S2x8192x1024.rank)
  reducesTo_S2x8192x1024_S_d0_1_2 : S2x8192x1024.ReducesTo [0, 1, 2] S_
  bitsLt_bf16_f32 : FTy.bits .bf16 < FTy.bits .f32
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x11264 .f32) (main_arg1 : FVec F S2x8192x1024 .f32) (main_arg2 : FVec F S256x2048 .bf16) : IVec S_ 1 :=
  let main_v0 : FVec F S8192x11264 .f32 := Host.absf main_arg0
  let main_cst : FVec F S_ .f32 := constant S_ .f32 0x7F800000#32
  let main_v1 : FVec F S8192x11264 .f32 := broadcastInDim S8192x11264 ![] bcast_S_S8192x11264 main_cst
  let main_v2 : IVec S8192x11264 1 := cmpf .olt main_v0 main_v1
  let main_c : IVec S_ 1 := constantI S_ 1 1#1
  let main_v3 : IVec S_ 1 := (fun x v => Host.reduce IntOp.andi x v reducesTo_S8192x11264_S_d0_1 h_S_) main_v2 main_c
  let main_v4 : FVec F S2x8192x1024 .f32 := Host.absf main_arg1
  let main_cst_0 : FVec F S_ .f32 := constant S_ .f32 0x7F800000#32
  let main_v5 : FVec F S2x8192x1024 .f32 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : IVec S_ 1 := andi main_v3 main_v7
  let main_v9 : FVec F S256x2048 .f32 := (extf .f32 · bitsLt_bf16_f32) main_arg2
  let main_v10 : FVec F S256x2048 .f32 := Host.absf main_v9
  let main_cst_2 : FVec F S_ .f32 := constant S_ .f32 0x7F800000#32
  let main_v11 : FVec F S256x2048 .f32 := broadcastInDim S256x2048 ![] bcast_S_S256x2048 main_cst_2
  let main_v12 : IVec S256x2048 1 := cmpf .olt main_v10 main_v11
  let main_c_3 : IVec S_ 1 := constantI S_ 1 1#1
  let main_v13 : IVec S_ 1 := (fun x v => Host.reduce IntOp.andi x v reducesTo_S256x2048_S_d0_1 h_S_) main_v12 main_c_3
  let main_v14 : IVec S_ 1 := andi main_v8 main_v13
  main_v14
-- ==== Pre_finite_dx.lean ====
abbrev S8192x3072 : Shape := ⟨2, ![8192, 3072]⟩
abbrev S8192x2048 : Shape := ⟨2, ![8192, 2048]⟩
abbrev S1x1024x11264 : Shape := ⟨3, ![1, 1024, 11264]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x1024x11264 : S_.BroadcastsInDim S1x1024x11264 (![] : Fin 0 → Fin S1x1024x11264.rank)
  reducesTo_S1x1024x11264_S_d0_1_2 : S1x1024x11264.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S8192x1024 .f32) (main_v33 : IVec S_ 1) (main_v34 : FVec F S1x1024 .f32) (main_cst_10 : FVec F S_ .f32) : IVec S_ 1 :=
  let main_v35 : FVec F S1x1024 .f32 := broadcastInDim S1x1024 ![] bcast_S_S1x1024 main_cst_10
  let main_v36 : IVec S1x1024 1 := cmpf .olt main_v34 main_v35
  let main_c_11 : IVec S_ 1 := constantI S_ 1 1#1
  let main_v37 : IVec S_ 1 := (fun x v => Host.reduce IntOp.andi x v reducesTo_S1x1024_S_d0_1 h_S_) main_v36 main_c_11
  let main_v38 : IVec S_ 1 := andi main_v33 main_v37
  let main_v39 : FVec F S8192x1024 .f32 := Host.absf main_arg7
  let main_cst_12 : FVec F S_ .f32 := constant S_ .f32 0x7F800000#32
  let main_v40 : FVec F S8192x1024 .f32 := broadcastInDim S8192x1024 ![] bcast_S_S8192x1024 main_cst_12
  let main_v41 : IVec S8192x1024 1 := cmpf .olt main_v39 main_v40
  let main_c_13 : IVec S_ 1 := constantI S_ 1 1#1
  let main_v42 : IVec S_ 1 := (fun x v => Host.reduce IntOp.andi x v reducesTo_S8192x1024_S_d0_1 h_S_) main_v41 main_c_13
  let main_v43 : IVec S_ 1 := andi main_v38 main_v42
  main_v43

def fn_part1 {F : FTy → Type} [FloatOps F] (main_arg4 : FVec F S1x1024x11264 .bf16) (main_arg5 : FVec F S8192x1024 .f32) (main_arg6 : FVec F S1x1024 .f32) (main_arg7 : FVec F S8192x1024 .f32) (main_v16 : IVec S_ 1) (main_v17 : FVec F S8192x3072 .f32) : IVec S_ 1 :=
  let main_v18 : FVec F S8192x3072 .f32 := Host.absf main_v17
  let main_cst_4 : FVec F S_ .f32 := constant S_ .f32 0x7F800000#32
  let main_v19 : FVec F S8192x3072 .f32 := broadcastInDim S8192x3072 ![] bcast_S_S8192x3072 main_cst_4
  let main_v20 : IVec S8192x3072 1 := cmpf .olt main_v18 main_v19
  let main_c_5 : IVec S_ 1 := constantI S_ 1 1#1
  let main_v21 : IVec S_ 1 := (fun x v => Host.reduce IntOp.andi x v reducesTo_S8192x3072_S_d0_1 h_S_) main_v20 main_c_5
  let main_v22 : IVec S_ 1 := andi main_v16 main_v21
  let main_v23 : FVec F S1x1024x11264 .f32 := (extf .f32 · bitsLt_bf16_f32) main_arg4
  let main_v24 : FVec F S1x1024x11264 .f32 := Host.absf main_v23
  let main_cst_6 : FVec F S_ .f32 := constant S_ .f32 0x7F800000#32
  let main_v25 : FVec F S1x1024x11264 .f32 := broadcastInDim S1x1024x11264 ![] bcast_S_S1x1024x11264 main_cst_6
  let main_v26 : IVec S1x1024x11264 1 := cmpf .olt main_v24 main_v25
  let main_c_7 : IVec S_ 1 := constantI S_ 1 1#1
  let main_v27 : IVec S_ 1 := (fun x v => Host.reduce IntOp.andi x v reducesTo_S1x1024x11264_S_d0_1_2 h_S_) main_v26 main_c_7
  let main_v28 : IVec S_ 1 := andi main_v22 main_v27
  let main_v29 : FVec F S8192x1024 .f32 := Host.absf main_arg5
  let main_cst_8 : FVec F S_ .f32 := constant S_ .f32 0x7F800000#32
  let main_v30 : FVec F S8192x1024 .f32 := broadcastInDim S8192x1024 ![] bcast_S_S8192x1024 main_cst_8
  let main_v31 : IVec S8192x1024 1 := cmpf .olt main_v29 main_v30
  let main_c_9 : IVec S_ 1 := constantI S_ 1 1#1
  let main_v32 : IVec S_ 1 := (fun x v => Host.reduce IntOp.andi x v reducesTo_S8192x1024_S_d0_1 h_S_) main_v31 main_c_9
  let main_v33 : IVec S_ 1 := andi main_v28 main_v32
  let main_v34 : FVec F S1x1024 .f32 := Host.absf main_arg6
  let main_cst_10 : FVec F S_ .f32 := constant S_ .f32 0x7F800000#32
  fn_part2 (F := F) main_arg7 main_v33 main_v34 main_cst_10

def fn {F : FTy → Type} [FloatOps F] (main_arg0 : FVec F S8192x3072 .bf16) (main_arg1 : FVec F S8192x3072 .bf16) (main_arg2 : FVec F S8192x2048 .bf16) (main_arg3 : FVec F S8192x3072 .bf16) (main_arg4 : FVec F S1x1024x11264 .bf16) (main_arg5 : FVec F S8192x1024 .f32) (main_arg6 : FVec F S1x1024 .f32) (main_arg7 : FVec F S8192x1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x3072 .f32 := (extf .f32 · bitsLt_bf16_f32) main_arg1
  let main_v6 : FVec F S8192x3072 .f32 := Host.absf main_v5
  let main_cst_0 : FVec F S_ .f32 := constant S_ .f32 0x7F800000#32
  let main_v7 : FVec F S8192x3072 .f32 := broadcastInDim S8192x3072 ![] bcast_S_S8192x3072 main_cst_0
  let main_v8 : IVec S8192x3072 1 := cmpf .olt main_v6 main_v7
  let main_c_1 : IVec S_ 1 := constantI S_ 1 1#1
  let main_v9 : IVec S_ 1 := (fun x v => Host.reduce IntOp.andi x v reducesTo_S8192x3072_S_d0_1 h_S_) main_v8 main_c_1
  let main_v10 : IVec S_ 1 := andi main_v4 main_v9
  let main_v11 : FVec F S8192x2048 .f32 := (extf .f32 · bitsLt_bf16_f32) main_arg2
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  let main_v17 : FVec F S8192x3072 .f32 := (extf .f32 · bitsLt_bf16_f32) main_arg3
  fn_part1 (F := F) main_arg4 main_arg5 main_arg6 main_arg7 main_v16 main_v17
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S8192x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x11264 : Shape := ⟨2, ![8192, 11264]⟩
abbrev S2x8192x1024 : Shape := ⟨3, ![2, 8192, 1024]⟩
abbrev S256x2048 : Shape := ⟨2, ![256, 2048]⟩
abbrev S2048x256 : Shape := ⟨2, ![2048, 256]⟩
abbrev S8192x2048 : Shape := ⟨2, ![8192, 2048]⟩
abbrev S256x1024 : Shape := ⟨2, ![256, 1024]⟩
abbrev S1x256x1024 : Shape := ⟨3, ![1, 256, 1024]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x11264, .f32⟩
  | .hbm, ⟨1, _⟩ => ⟨S2x8192x1024, .f32⟩
  | .hbm, ⟨2, _⟩ => ⟨S256x2048, .bf16⟩
  | .hbm, ⟨3, _⟩ => ⟨S2048x256, .bf16⟩
  | .hbm, ⟨4, _⟩ => ⟨S8192x2048, .bf16⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x11264 : Shape := ⟨2, ![8192, 11264]⟩
abbrev S2x8192x1024 : Shape := ⟨3, ![2, 8192, 1024]⟩
abbrev S256x2048 : Shape := ⟨2, ![256, 2048]⟩
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S1x8192x1024 : Shape := ⟨3, ![1, 8192, 1024]⟩
abbrev S4x256x256 : Shape := ⟨3, ![4, 256, 256]⟩
abbrev S8192x2048 : Shape := ⟨2, ![8192, 2048]⟩

abbrev nBuf : Space → Nat
  | .hbm => 109
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S2x8192x1024, .f32⟩
  | .hbm, ⟨2, _⟩ => ⟨S256x2048, .bf16⟩
  | .hbm, ⟨3, _⟩ => ⟨S256x2048, .f32⟩
  | .hbm, ⟨4, _⟩ => ⟨S8192x1024, .f32⟩
  | .hbm, ⟨5, _⟩ => ⟨S8192x1024, .f32⟩
  | .hbm, ⟨6, _⟩ => ⟨S256x1024, .f32⟩
  | .hbm, ⟨7, _⟩ => ⟨S256x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x256x8192, .f32⟩
  | .hbm, ⟨54, _⟩ => ⟨S8192x4x256, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x4x256, .f32⟩
  | .hbm, ⟨79, _⟩ => ⟨S4x256x8192, .f32⟩
  | .hbm, ⟨80, _⟩ => ⟨S4x8192x256, .f32⟩
  | .hbm, ⟨81, _⟩ => ⟨S4x256x256, .f32⟩
  | .hbm, ⟨82, _⟩ => ⟨S256x4x256, .f32⟩
  | .hbm, ⟨83, _⟩ => ⟨S4x8192x256, .f32⟩
  | .hbm, ⟨84, _⟩ => ⟨S4x8192x256, .f32⟩
  | .hbm, ⟨85, _⟩ => ⟨S4x8192x256, .f32⟩
  | .hbm, ⟨86, _⟩ => ⟨S_, .f32⟩
  | .hbm, ⟨87, _⟩ => ⟨S4x8192, .f32⟩
  | .hbm, ⟨88, _⟩ => ⟨S4x8192x1, .f32⟩
  | .hbm, ⟨89, _⟩ => ⟨S4x8192x1, .f32⟩
  | .hbm, ⟨90, _⟩ => ⟨S4x8192x256, .f32⟩
  | .hbm, ⟨91, _⟩ => ⟨S4x8192x256, .f32⟩
  | .hbm, ⟨92, _⟩ => ⟨S_, .f32⟩
  | .hbm, ⟨93, _⟩ => ⟨S4x8192, .f32⟩
  | .hbm, ⟨94, _⟩ => ⟨S4x8192x256, .f32⟩
  | .hbm, ⟨95, _⟩ => ⟨S4x8192x256, .f32⟩
  | .hbm, ⟨96, _⟩ => ⟨S4x8192x256, .f32⟩
  | .hbm, ⟨97, _⟩ => ⟨S_, .f32⟩
  | .hbm, ⟨98, _⟩ => ⟨S4x8192x256, .f32⟩
  | .hbm, ⟨99, _⟩ => ⟨S4x8192x256, .f32⟩
  | .hbm, ⟨100, _⟩ => ⟨S4x256x256, .f32⟩
  | .hbm, ⟨101, _⟩ => ⟨S256x4x256, .f32⟩
  | .hbm, ⟨102, _⟩ => ⟨S4x8192x256, .f32⟩
  | .hbm, ⟨103, _⟩ => ⟨S8192x4x256, .f32⟩
  | .hbm, ⟨104, _⟩ => ⟨S256x1024, .f32⟩
  | .hbm, ⟨105, _⟩ => ⟨S256x1024, .f32⟩
  | .hbm, ⟨106, _⟩ => ⟨S8192x1024, .f32⟩
  | .hbm, ⟨107, _⟩ => ⟨S8192x2048, .f32⟩
  | .hbm, ⟨108, _⟩ => ⟨S8192x2048, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v42_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v42_1 : Ref sig .tc := ⟨.hbm, 67, rfl⟩
abbrev main_v42_0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]
-- ==== InA.lean ====
abbrev S8192x1024 : Shape := ⟨2, ![8192, 1024]⟩
abbrev S1x1024 : Shape := ⟨2, ![1, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024x11264 : Shape := ⟨3, ![1, 1024, 11264]⟩
abbrev S2048x1024 : Shape := ⟨2, ![2048, 1024]⟩
abbrev S1x1024x1024 : Shape := ⟨3, ![1, 1024, 1024]⟩
abbrev S1024x1024 : Shape := ⟨2, ![1024, 1024]⟩
abbrev S1x1024x3072 : Shape := ⟨3, ![1, 1024, 3072]⟩
abbrev S1024x3072 : Shape := ⟨2, ![1024, 3072]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024x11264, .f32⟩
  | .hbm, ⟨20, _⟩ => ⟨S1x1024x3072, .f32⟩
  | .hbm, ⟨21, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInAIdeal.lean ====
abbrev S8192x1024 : Shape := ⟨2, ![8192, 1024]⟩
abbrev S1x1024 : Shape := ⟨2, ![1, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x3072, .f32⟩
  | .hbm, ⟨19, _⟩ => ⟨S_, .f32⟩
  | .hbm, ⟨20, _⟩ => ⟨S1024x3072, .f32⟩
  | .hbm, ⟨21, _⟩ => ⟨S8192x3072, .f32⟩
  | .hbm, ⟨22, _⟩ => ⟨S3072x1024, .f32⟩
  | .hbm, ⟨23, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InB.lean ====
abbrev S8192x1024 : Shape := ⟨2, ![8192, 1024]⟩
abbrev S1x1024 : Shape := ⟨2, ![1, 1024]⟩
abbrev S8192x3072 : Shape := ⟨2, ![8192, 3072]⟩
abbrev S1x1024x11264 : Shape := ⟨3, ![1, 1024, 11264]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .bf16⟩
  | .hbm, ⟨3, _⟩ => ⟨S1x1024x11264, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024x11264, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInBIdeal.lean ====
abbrev S8192x1024 : Shape := ⟨2, ![8192, 1024]⟩
abbrev S1x1024 : Shape := ⟨2, ![1, 1024]⟩
abbrev S8192x3072 : Shape := ⟨2, ![8192, 3072]⟩
abbrev S1x1024x11264 : Shape := ⟨3, ![1, 1024, 11264]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S3072x1024 : Shape := ⟨2, ![3072, 1024]⟩
abbrev S1x1024x3072 : Shape := ⟨3, ![1, 1024, 3072]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .bf16⟩
  | .hbm, ⟨3, _⟩ => ⟨S1x1024x11264, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S_, .f32⟩
  | .hbm, ⟨21, _⟩ => ⟨S1024x3072, .f32⟩
  | .hbm, ⟨22, _⟩ => ⟨S8192x3072, .f32⟩
  | .hbm, ⟨23, _⟩ => ⟨S3072x1024, .f32⟩
  | .hbm, ⟨24, _⟩ => ⟨S1024x3072, .f32⟩
  | .hbm, ⟨25, _⟩ => ⟨S1x1024x3072, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x1024x11264, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_c_3 : Ref sig .tc := ⟨.hbm, 27, rfl⟩
abbrev main_c_4 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== InC.lean ====
abbrev S8192x1024 : Shape := ⟨2, ![8192, 1024]⟩
abbrev S1x1024 : Shape := ⟨2, ![1, 1024]⟩
abbrev S8192x2048 : Shape := ⟨2, ![8192, 2048]⟩
abbrev S1x1024x11264 : Shape := ⟨3, ![1, 1024, 11264]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .bf16⟩
  | .hbm, ⟨3, _⟩ => ⟨S1x1024x11264, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024x11264, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInCIdeal.lean ====
abbrev S8192x1024 : Shape := ⟨2, ![8192, 1024]⟩
abbrev S1x1024 : Shape := ⟨2, ![1, 1024]⟩
abbrev S8192x2048 : Shape := ⟨2, ![8192, 2048]⟩
abbrev S1x1024x11264 : Shape := ⟨3, ![1, 1024, 11264]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .bf16⟩
  | .hbm, ⟨3, _⟩ => ⟨S1x1024x11264, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S_, .f32⟩
  | .hbm, ⟨21, _⟩ => ⟨S1024x2048, .f32⟩
  | .hbm, ⟨22, _⟩ => ⟨S8192x2048, .f32⟩
  | .hbm, ⟨23, _⟩ => ⟨S2048x1024, .f32⟩
  | .hbm, ⟨24, _⟩ => ⟨S1024x2048, .f32⟩
  | .hbm, ⟨25, _⟩ => ⟨S1x1024x2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x1024x11264, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_c_3 : Ref sig .tc := ⟨.hbm, 27, rfl⟩
abbrev main_c_4 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== InM.lean ====
abbrev S8192x1024 : Shape := ⟨2, ![8192, 1024]⟩
abbrev S1x1024 : Shape := ⟨2, ![1, 1024]⟩
abbrev S8192x3072 : Shape := ⟨2, ![8192, 3072]⟩
abbrev S1x1024x11264 : Shape := ⟨3, ![1, 1024, 11264]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .bf16⟩
  | .hbm, ⟨3, _⟩ => ⟨S1x1024x11264, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024x11264, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInMIdeal.lean ====
abbrev S8192x1024 : Shape := ⟨2, ![8192, 1024]⟩
abbrev S1x1024 : Shape := ⟨2, ![1, 1024]⟩
abbrev S8192x3072 : Shape := ⟨2, ![8192, 3072]⟩
abbrev S1x1024x11264 : Shape := ⟨3, ![1, 1024, 11264]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S3072x1024 : Shape := ⟨2, ![3072, 1024]⟩
abbrev S1x1024x3072 : Shape := ⟨3, ![1, 1024, 3072]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x3072, .bf16⟩
  | .hbm, ⟨3, _⟩ => ⟨S1x1024x11264, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S_, .f32⟩
  | .hbm, ⟨21, _⟩ => ⟨S1024x3072, .f32⟩
  | .hbm, ⟨22, _⟩ => ⟨S8192x3072, .f32⟩
  | .hbm, ⟨23, _⟩ => ⟨S3072x1024, .f32⟩
  | .hbm, ⟨24, _⟩ => ⟨S1024x3072, .f32⟩
  | .hbm, ⟨25, _⟩ => ⟨S1x1024x3072, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x1024x11264, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_c_3 : Ref sig .tc := ⟨.hbm, 27, rfl⟩
abbrev main_c_4 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== BrA.lean ====
abbrev S8192x1024 : Shape := ⟨2, ![8192, 1024]⟩
abbrev S3x8192x1024 : Shape := ⟨3, ![3, 8192, 1024]⟩
abbrev S3x1024x1024 : Shape := ⟨3, ![3, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S3x1024x1024, .f32⟩
  | .hbm, ⟨3, _⟩ => ⟨S1x1024x1024, .f32⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefBrAIdeal.lean ====
abbrev S8192x1024 : Shape := ⟨2, ![8192, 1024]⟩
abbrev S3x8192x1024 : Shape := ⟨3, ![3, 8192, 1024]⟩
abbrev S1x8192x1024 : Shape := ⟨3, ![1, 8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S8192x1024, .f32⟩
  | .hbm, ⟨3, _⟩ => ⟨S1x8192x1024, .bf16⟩
  | .hbm, ⟨4, _⟩ => ⟨S8192x1024, .bf16⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BrB.lean ====
abbrev S8192x1024 : Shape := ⟨2, ![8192, 1024]⟩
abbrev S3x8192x1024 : Shape := ⟨3, ![3, 8192, 1024]⟩
abbrev S3x1024x1024 : Shape := ⟨3, ![3, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S3x1024x1024, .f32⟩
  | .hbm, ⟨3, _⟩ => ⟨S3x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefBrBIdeal.lean ====
abbrev S8192x1024 : Shape := ⟨2, ![8192, 1024]⟩
abbrev S3x8192x1024 : Shape := ⟨3, ![3, 8192, 1024]⟩
abbrev S3x1024x1024 : Shape := ⟨3, ![3, 1024, 1024]⟩
abbrev S1x8192x1024 : Shape := ⟨3, ![1, 8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S3x1024x1024, .f32⟩
  | .hbm, ⟨3, _⟩ => ⟨S8192x1024, .f32⟩
  | .hbm, ⟨4, _⟩ => ⟨S1x8192x1024, .bf16⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S1024x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S3x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== BrC.lean ====
abbrev S8192x1024 : Shape := ⟨2, ![8192, 1024]⟩
abbrev S3x8192x1024 : Shape := ⟨3, ![3, 8192, 1024]⟩
abbrev S3x1024x1024 : Shape := ⟨3, ![3, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S3x1024x1024, .f32⟩
  | .hbm, ⟨3, _⟩ => ⟨S3x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefBrCIdeal.lean ====
abbrev S8192x1024 : Shape := ⟨2, ![8192, 1024]⟩
abbrev S3x8192x1024 : Shape := ⟨3, ![3, 8192, 1024]⟩
abbrev S3x1024x1024 : Shape := ⟨3, ![3, 1024, 1024]⟩
abbrev S1x8192x1024 : Shape := ⟨3, ![1, 8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S3x1024x1024, .f32⟩
  | .hbm, ⟨3, _⟩ => ⟨S8192x1024, .f32⟩
  | .hbm, ⟨4, _⟩ => ⟨S1x8192x1024, .bf16⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S1024x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S3x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Out.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefOutIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x3072 : Shape := ⟨2, ![8192, 3072]⟩
abbrev S8192x2048 : Shape := ⟨2, ![8192, 2048]⟩
abbrev S1x1024x11264 : Shape := ⟨3, ![1, 1024, 11264]⟩
abbrev S8192x1024 : Shape := ⟨2, ![8192, 1024]⟩
abbrev S1x1024 : Shape := ⟨2, ![1, 1024]⟩
abbrev S1024x1024 : Shape := ⟨2, ![1024, 1024]⟩
abbrev S1x1024x1024 : Shape := ⟨3, ![1, 1024, 1024]⟩
abbrev S2 : Shape := ⟨1, ![2]⟩
abbrev S1 : Shape := ⟨1, ![1]⟩
abbrev S_ : Shape := ⟨0, ![]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x2048, .bf16⟩
  | .hbm, ⟨3, _⟩ => ⟨S8192x3072, .bf16⟩
  | .hbm, ⟨4, _⟩ => ⟨S1x1024x11264, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg0 : BitVec 32 := BitVec.ofNat 32 (i 0).val
  let c0_i32 : BitVec 32 := 0#32
  let v0 : BitVec 32 := Scalar.addi arg0 c0_i32
  let c1024_i32 : BitVec 32 := 1024#32
  let v1 : BitVec 32 := Scalar.muli v0 c1024_i32
  v1
def k0_cond1 (i : grid0.Coords) : BitVec 1 :=
  let arg1 : BitVec 32 := BitVec.ofNat 32 (i 1).val
  let c9_i32 : BitVec 32 := 9#32
  let v3 : BitVec 1 := Scalar.cmpi .eq arg1 c9_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c0_i32 : BitVec 32 := 0#32
  let v0 : BitVec 32 := Scalar.addi arg0 c0_i32
  let c1024_i32 : BitVec 32 := 1024#32
  let v1 : BitVec 32 := Scalar.muli v0 c1024_i32
  let v2 : BitVec 32 := v1
  let c0_i32_18 : BitVec 32 := 0#32
  ![v2.toNat, 0]
def k0_cond8 (i : grid0.Coords) : BitVec 1 :=
  let arg1 : BitVec 32 := BitVec.ofNat 32 (i 1).val
  let c10_i32 : BitVec 32 := 10#32
  let v34 : BitVec 1 := Scalar.cmpi .eq arg1 c10_i32
  let v35 : BitVec 32 := Scalar.extui v34
  let c0_i32_17 : BitVec 32 := 0#32
  let v36 : BitVec 1 := Scalar.cmpi .ne v35 c0_i32_17
  v36

def k0_off2 (i : grid0.Coords) : Fin 2 → Nat :=
  let arg0 : BitVec 32 := BitVec.ofNat 32 (i 0).val
  let c0_i32 : BitVec 32 := 0#32
  let v0 : BitVec 32 := Scalar.addi arg0 c0_i32
  let c1024_i32 : BitVec 32 := 1024#32
  let v1 : BitVec 32 := Scalar.muli v0 c1024_i32
  let v2 : BitVec 32 := v1
  let c0_i32_18 : BitVec 32 := 0#32
  ![v2.toNat, 0]
@[reducible] def k0_t1_loop : Scf.Loop 32 :=
  let c0_i32_21 : BitVec 32 := 0#32
  let c16_i32 : BitVec 32 := 16#32
  let v46 : BitVec 32 := Scalar.addi c0_i32_21 c16_i32
  let c1_i32_22 : BitVec 32 := 1#32
  ⟨c0_i32_21, v46, c1_i32_22⟩
def k0_mult2 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c4_i32 : BitVec 32 := 4#32
  let v50 : BitVec 32 := Scalar.muli arg16 c4_i32
  let c0_i32_26 : BitVec 32 := 0#32
  let v51 : BitVec 32 := Scalar.addi v50 c0_i32_26
  let c16_i32_27 : BitVec 32 := 16#32
  let v52 : BitVec 32 := Scalar.muli v51 c16_i32_27
  v52
def k0_off3 (k0_t1 : Fin k0_t1_loop.trips) (c0_i32_26 : BitVec 32) : Fin 2 → Nat :=
  let c0_i32_21 : BitVec 32 := 0#32
  let c1_i32_22 : BitVec 32 := 1#32
  let arg16 : BitVec 32 := Scf.iv c0_i32_21 c1_i32_22 k0_t1
  let c4_i32 : BitVec 32 := 4#32
  let v50 : BitVec 32 := Scalar.muli arg16 c4_i32
  let v51 : BitVec 32 := Scalar.addi v50 c0_i32_26
  let c16_i32_27 : BitVec 32 := 16#32
  let v52 : BitVec 32 := Scalar.muli v51 c16_i32_27
  let v53 : BitVec 32 := v52
  let v54 : Index := Scalar.indexCast v53
  let c0_28 : Index := 0#32
  ![v54.toNat, 0]
def k0_mult3 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c4_i32_40 : BitVec 32 := 4#32
  let v90 : BitVec 32 := Scalar.muli arg16 c4_i32_40
  let c1_i32_41 : BitVec 32 := 1#32
  let v91 : BitVec 32 := Scalar.addi v90 c1_i32_41
  let c16_i32_42 : BitVec 32 := 16#32
  let v92 : BitVec 32 := Scalar.muli v91 c16_i32_42
  v92
def k0_mult4 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c4_i32_55 : BitVec 32 := 4#32
  let v130 : BitVec 32 := Scalar.muli arg16 c4_i32_55
  let c2_i32 : BitVec 32 := 2#32
  let v131 : BitVec 32 := Scalar.addi v130 c2_i32
  let c16_i32_56 : BitVec 32 := 16#32
  let v132 : BitVec 32 := Scalar.muli v131 c16_i32_56
  v132
def k0_mult5 (k0_t1 : Fin k0_t1_loop.trips) : BitVec 32 :=
  let c0_i32_21 : BitVec 32 := 0#32
  let c1_i32_22 : BitVec 32 := 1#32
  let arg16 : BitVec 32 := Scf.iv c0_i32_21 c1_i32_22 k0_t1
  let c4_i32_69 : BitVec 32 := 4#32
  let v170 : BitVec 32 := Scalar.muli arg16 c4_i32_69
  let c3_i32_70 : BitVec 32 := 3#32
  let v171 : BitVec 32 := Scalar.addi v170 c3_i32_70
  let c16_i32_71 : BitVec 32 := 16#32
  let v172 : BitVec 32 := Scalar.muli v171 c16_i32_71
  v172
def k0_cond3 (i : grid0.Coords) : BitVec 1 :=
  let arg0 : BitVec 32 := BitVec.ofNat 32 (i 0).val
  let c0_i32_4 : BitVec 32 := 0#32
  let v9 : BitVec 1 := Scalar.cmpi .eq arg0 c0_i32_4
  let arg1 : BitVec 32 := BitVec.ofNat 32 (i 1).val
  let c0_i32_5 : BitVec 32 := 0#32
  let v10 : BitVec 1 := Scalar.cmpi .eq arg1 c0_i32_5
  let v11 : BitVec 1 := Scalar.andi v9 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let v1 : BitVec 32 := Scalar.subi arg1 c0_i32_0
  let c0_i32_1 : BitVec 32 := 0#32
  let c2_i32 : BitVec 32 := 2#32
  let v2 : BitVec 32 := Scalar.maxsi c0_i32_1 v1
  let v3 : BitVec 32 := Scalar.minsi c2_i32 v2
  let c0_i32_2 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let v1 : BitVec 32 := Scalar.subi arg1 c3_i32
  let c0_i32_0 : BitVec 32 := 0#32
  let c2_i32 : BitVec 32 := 2#32
  let v2 : BitVec 32 := Scalar.maxsi c0_i32_0 v1
  let v3 : BitVec 32 := Scalar.minsi c2_i32 v2
  let c0_i32_1 : BitVec 32 := 0#32
  ![v0.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c6_i32 : BitVec 32 := 6#32
  let v1 : BitVec 32 := Scalar.subi arg1 c6_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c8_i32 : BitVec 32 := 8#32
  let v1 : BitVec 32 := Scalar.subi arg1 c8_i32
  let c0_i32_0 : BitVec 32 := 0#32
  let c2_i32 : BitVec 32 := 2#32
  let v2 : BitVec 32 := Scalar.maxsi c0_i32_0 v1
  let v3 : BitVec 32 := Scalar.minsi c2_i32 v2
  let c0_i32_1 : BitVec 32 := 0#32
  ![v0.toNat, v3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== RefInDxIdeal.lean ====
abbrev S8192x3072 : Shape := ⟨2, ![8192, 3072]⟩
abbrev S8192x2048 : Shape := ⟨2, ![8192, 2048]⟩
abbrev S1x1024x11264 : Shape := ⟨3, ![1, 1024, 11264]⟩
abbrev S8192x1024 : Shape := ⟨2, ![8192, 1024]⟩
abbrev S1x1024 : Shape := ⟨2, ![1, 1024]⟩
abbrev S8192x11264 : Shape := ⟨2, ![8192, 11264]⟩
abbrev S_ : Shape := ⟨0, ![]⟩
abbrev S8192 : Shape := ⟨1, ![8192]⟩
abbrev S8192x1 : Shape := ⟨2, ![8192, 1]⟩
abbrev S1024x11264 : Shape := ⟨2, ![1024, 11264]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x2048, .bf16⟩
  | .hbm, ⟨3, _⟩ => ⟨S8192x3072, .bf16⟩
  | .hbm, ⟨4, _⟩ => ⟨S1x1024x11264, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x11264, .bf16⟩
  | .hbm, ⟨9, _⟩ => ⟨S8192x11264, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x11264, .bf16⟩
  | .hbm, ⟨30, _⟩ => ⟨S1024x11264, .f32⟩
  | .hbm, ⟨31, _⟩ => ⟨S8192x11264, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== MergeF.lean ====
abbrev S8192x1024 : Shape := ⟨2, ![8192, 1024]⟩
abbrev S8192x11264 : Shape := ⟨2, ![8192, 11264]⟩
abbrev S1x1024 : Shape := ⟨2, ![1, 1024]⟩
abbrev S8x128x128 : Shape := ⟨3, ![8, 128, 128]⟩
abbrev S8x128 : Shape := ⟨2, ![8, 128]⟩
abbrev S1x3x1024x1024 : Shape := ⟨4, ![1, 3, 1024, 1024]⟩
abbrev S1x1024x1024 : Shape := ⟨3, ![1, 1024, 1024]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x128 : Shape := ⟨3, ![128, 8, 128]⟩
abbrev S128x1024 : Shape := ⟨2, ![128, 1024]⟩
abbrev S256x1024 : Shape := ⟨2, ![256, 1024]⟩
abbrev S16x1024 : Shape := ⟨2, ![16, 1024]⟩
abbrev S16 : Shape := ⟨1, ![16]⟩
abbrev S16x1 : Shape := ⟨2, ![16, 1]⟩
abbrev S256x256 : Shape := ⟨2, ![256, 256]⟩
abbrev S1x1x1024x256 : Shape := ⟨4, ![1, 1, 1024, 256]⟩
abbrev S1024x256 : Shape := ⟨2, ![1024, 256]⟩
abbrev S1x1024x256 : Shape := ⟨3, ![1, 1024, 256]⟩

abbrev nBuf : Space → Nat
  | .hbm => 34
  | .vmem => 37
  | .smem => 0
  | _ => 0

abbrev bufTy : (tb : Table) → Fin (tcTables nBuf tb) → BufTy
  | .hbm, ⟨0, _⟩ => ⟨S8192x1024, .bf16⟩
  | .hbm, ⟨1, _⟩ => ⟨S8192x11264, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x128x128, .f32⟩
  | .hbm, ⟨9, _⟩ => ⟨S8x128, .f32⟩
  | .hbm, ⟨10, _⟩ => ⟨S1x3x1024x1024, .bf16⟩
  | .hbm, ⟨11, _⟩ => ⟨S1x1024x1024, .bf16⟩
  | .hbm, ⟨12, _⟩ => ⟨S_, .f32⟩
  | .hbm, ⟨13, _⟩ => ⟨S128x128, .f32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128x128, .f32⟩
  | .hbm, ⟨24, _⟩ => ⟨S8x128x128, .f32⟩
  | .hbm, ⟨25, _⟩ => ⟨S8x128x128, .f32⟩
  | .hbm, ⟨26, _⟩ => ⟨S8x128x128, .bf16⟩
  | .hbm, ⟨27, _⟩ => ⟨S128x8, .f32⟩
  | .hbm, ⟨28, _⟩ => ⟨S128x8x128, .f32⟩
  | .hbm, ⟨29, _⟩ => ⟨S128x1024, .f32⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S1x1024, .f32⟩
  | .local _ .vmem, ⟨24, _⟩ => ⟨S8x128x128, .bf16⟩
  | .local _ .vmem, ⟨25, _⟩ => ⟨S128x1024, .f32⟩
  | .local _ .vmem, ⟨26, _⟩ => ⟨S1x3x1024x1024, .bf16⟩
  | .local _ .vmem, ⟨27, _⟩ => ⟨S1x1024x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev main_v9_2 : Ref sig .tc := ⟨.hbm, 32, rfl⟩
abbrev main_v9_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== RefMergeFIdeal.lean ====
abbrev S8192x1024 : Shape := ⟨2, ![8192, 1024]⟩
abbrev S8192x11264 : Shape := ⟨2, ![8192, 11264]⟩
abbrev S1x1024 : Shape := ⟨2, ![1, 1024]⟩
abbrev S8x128x128 : Shape := ⟨3, ![8, 128, 128]⟩
abbrev S8x128 : Shape := ⟨2, ![8, 128]⟩
abbrev S1x3x1024x1024 : Shape := ⟨4, ![1, 3, 1024, 1024]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S128x128 : Shape := ⟨2, ![128, 128]⟩
abbrev S1x128x128 : Shape := ⟨3, ![1, 128, 128]⟩
abbrev S64x128x8x128 : Shape := ⟨4, ![64, 128, 8, 128]⟩
abbrev S8x64x128x128 : Shape := ⟨4, ![8, 64, 128, 128]⟩
abbrev S128x8 : Shape := ⟨2, ![128, 8]⟩
abbrev S1x128x8x1 : Shape := ⟨4, ![1, 128, 8, 1]⟩
abbrev S8192x1x1024 : Shape := ⟨3, ![8192, 1, 1024]⟩
abbrev S8192x3x1024 : Shape := ⟨3, ![8192, 3, 1024]⟩
abbrev S3x1024x1024 : Shape := ⟨3, ![3, 1024, 1024]⟩
abbrev S3x1024x8192 : Shape := ⟨3, ![3, 1024, 8192]⟩
abbrev S8192x3072 : Shape := ⟨2, ![8192, 3072]⟩
abbrev S1024x1024 : Shape := ⟨2, ![1024, 1024]⟩

abbrev nBuf : Space → Nat
  | .hbm => 184
  | .vmem => 0
  | .smem => 0
  | _ => 0

abbrev hbmTy0_0 (i : Nat) : BufTy := match i % 128 with
  | 0 => ⟨S8192x1024, .bf16⟩
  | 1 => ⟨S8192x11264, .f32⟩
  | 2 => ⟨S8192x1024, .f32⟩
  | 3 => ⟨S8192x1024, .f32⟩
  | 4 => ⟨S1x1024, .f32⟩
  | 5 => ⟨S1x1024, .f32⟩
  | 6 => ⟨S1x1024, .f32⟩
  | 7 => ⟨S1x1024, .f32⟩
  | 8 => ⟨S8x128x128, .f32⟩
  | 9 => ⟨S8x128, .f32⟩
  | 10 => ⟨S1x3x1024x1024, .bf16⟩
  | 11 => ⟨S1x1024x1024, .bf16⟩
  | 12 => ⟨S8192x1024, .f32⟩
  | 13 => ⟨S8192x1024, .f32⟩
  | 14 => ⟨S8192x1024, .f32⟩
  | 15 => ⟨S_, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x1024, .f32⟩
  | 55 => ⟨S8192x1024, .f32⟩
  | 56 => ⟨S8192x1024, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .i1⟩
  | 74 => ⟨S128x128, .i1⟩
  | 75 => ⟨S128x128, .i32⟩
  | 76 => ⟨S_, .i32⟩
  | 77 => ⟨S128x128, .i32⟩
  | 78 => ⟨S128x128, .i32⟩
  | 79 => ⟨S128x128, .i32⟩
  | 80 => ⟨S128x128, .i1⟩
  | 81 => ⟨S_, .i1⟩
  | 82 => ⟨S128x128, .i1⟩
  | 83 => ⟨S128x128, .i1⟩
  | 84 => ⟨S1x128x128, .i1⟩
  | 85 => ⟨S_, .f32⟩
  | 86 => ⟨S_, .f32⟩
  | 87 => ⟨S8x128x128, .i1⟩
  | 88 => ⟨S8x128x128, .f32⟩
  | 89 => ⟨S8x128x128, .f32⟩
  | 90 => ⟨S64x128x8x128, .f32⟩
  | 91 => ⟨S8x64x128x128, .f32⟩
  | 92 => ⟨S64x128x8x128, .f32⟩
  | 93 => ⟨S128x8, .f32⟩
  | 94 => ⟨S1x128x8x1, .f32⟩
  | 95 => ⟨S64x128x8x128, .f32⟩
  | 96 => ⟨S64x128x8x128, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192x1, .f32⟩
  | 127 => ⟨S8192x1, .f32⟩
  | _ => ⟨S8192x1024, .bf16⟩

abbrev hbmTy0_1 (i : Nat) : BufTy := match i % 128 with
  | 0 => ⟨S8192x1, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1x1024, .f32⟩
  | 29 => ⟨S8192x1x1024, .f32⟩
  | 30 => ⟨S8192x1x1024, .f32⟩
  | 31 => ⟨S8192x3x1024, .f32⟩
  | 32 => ⟨S3x1024x1024, .bf16⟩
  | 33 => ⟨S3x1024x1024, .f32⟩
  | 34 => ⟨S3x1024x8192, .f32⟩
  | 35 => ⟨S8192x3x1024, .f32⟩
  | 36 => ⟨S8192x3072, .f32⟩
  | 37 => ⟨S8192x3072, .f32⟩
  | 38 => ⟨S8192x3072, .f32⟩
  | 39 => ⟨S_, .f32⟩
  | 40 => ⟨S8192x3072, .f32⟩
  | 41 => ⟨S8192x3072, .f32⟩
  | 42 => ⟨S_, .f32⟩
  | 43 => ⟨S8192x3072, .f32⟩
  | 44 => ⟨S8192x3072, .f32⟩
  | 45 => ⟨S8192x3x1024, .f32⟩
  | 46 => ⟨S8192x3x1024, .f32⟩
  | 47 => ⟨S_, .f32⟩
  | 48 => ⟨S8192x1024, .f32⟩
  | 49 => ⟨S1024x1024, .bf16⟩
  | 50 => ⟨S1024x1024, .f32⟩
  | 51 => ⟨S8192x1024, .f32⟩
  | 52 => ⟨S8192x1024, .f32⟩
  | 53 => ⟨S8192x1024, .bf16⟩
  | 54 => ⟨S8192x1024, .bf16⟩
  | 55 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c : Ref sig .tc := ⟨.hbm, 73, rfl⟩
abbrev main_v48 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v62 : Ref sig .tc := ⟨.hbm, 108, rfl⟩
abbrev main_v63 : Ref sig .tc := ⟨.hbm, 109, rfl⟩
abbrev main_cst_13 : Ref sig .tc := ⟨.hbm, 110, rfl⟩
abbrev main_v64 : Ref sig .tc := ⟨.hbm, 111, rfl⟩
abbrev main_v65 : Ref sig .tc := ⟨.hbm, 112, rfl⟩
abbrev main_cst_14 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_15 : Ref sig .tc := ⟨.hbm, 119, rfl⟩
abbrev main_v71 : Ref sig .tc := ⟨.hbm, 120, rfl⟩
abbrev main_v72 : Ref sig .tc := ⟨.hbm, 121, rfl⟩
abbrev main_cst_16 : Ref sig .tc := ⟨.hbm, 122, rfl⟩
abbrev main_v73 : Ref sig .tc := ⟨.hbm, 123, rfl⟩
abbrev main_v74 : Ref sig .tc := ⟨.hbm, 124, rfl⟩
abbrev main_cst_17 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_call3_v0 : Ref sig .tc := ⟨.hbm, 135, rfl⟩
abbrev main_call3_v1 : Ref sig .tc := ⟨.hbm, 136, rfl⟩
abbrev main_call3_cst : Ref sig .tc := ⟨.hbm, 137, rfl⟩
abbrev main_call3_v2 : Ref sig .tc := ⟨.hbm, 138, rfl⟩
abbrev main_call3_v3 : Ref sig .tc := ⟨.hbm, 139, rfl⟩
abbrev main_call3_cst_0 : Ref sig .tc := ⟨.hbm, 140, rfl⟩
abbrev main_call3_v4 : Ref sig .tc := ⟨.hbm, 141, rfl⟩
abbrev main_call3_v5 : Ref sig .tc := ⟨.hbm, 142, rfl⟩
abbrev main_v84 : Ref sig .tc := ⟨.hbm, 143, rfl⟩
abbrev main_v85 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_18 : Ref sig .tc := ⟨.hbm, 167, rfl⟩
abbrev main_v100 : Ref sig .tc := ⟨.hbm, 168, rfl⟩
abbrev main_v101 : Ref sig .tc := ⟨.hbm, 169, rfl⟩
abbrev main_cst_19 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_20 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩

abbrev nD : Nat := 1
abbrev τ : Topo := Topo.v7x

variable {F : FTy → Type} [FloatOps F]
-- ==== AdIn.lean ====
abbrev S2x1024x2816 : Shape := ⟨3, ![2, 1024, 2816]⟩
abbrev S2048x2816 : Shape := ⟨2, ![2048, 2816]⟩
abbrev S64x2816 : Shape := ⟨2, ![64, 2816]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x2816, .f32⟩
  | .hbm, ⟨1, _⟩ => ⟨S2x1024x2816, .f32⟩
  | .hbm, ⟨2, _⟩ => ⟨S2x1024x2816, .f32⟩
  | .hbm, ⟨3, _⟩ => ⟨S2x1024x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S2x1024x2816 : Shape := ⟨3, ![2, 1024, 2816]⟩
abbrev S2048x2816 : Shape := ⟨2, ![2048, 2816]⟩
abbrev S64x2816 : Shape := ⟨2, ![64, 2816]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x2816, .f32⟩
  | .hbm, ⟨1, _⟩ => ⟨S2x1024x2816, .f32⟩
  | .hbm, ⟨2, _⟩ => ⟨S2x1024x2816, .f32⟩
  | .hbm, ⟨3, _⟩ => ⟨S2x1024x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdInIdeal.lean ====
abbrev S2x1024x2816 : Shape := ⟨3, ![2, 1024, 2816]⟩
abbrev S_ : Shape := ⟨0, ![]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x2816, .f32⟩
  | .hbm, ⟨1, _⟩ => ⟨S2x1024x2816, .f32⟩
  | .hbm, ⟨2, _⟩ => ⟨S2x1024x2816, .f32⟩
  | .hbm, ⟨3, _⟩ => ⟨S2x1024x2816, .f32⟩
  | .hbm, ⟨4, _⟩ => ⟨S_, .f32⟩
  | .hbm, ⟨5, _⟩ => ⟨S2x1024x2816, .f32⟩
  | .hbm, ⟨6, _⟩ => ⟨S2x1024x2816, .f32⟩
  | .hbm, ⟨7, _⟩ => ⟨S_, .f32⟩
  | .hbm, ⟨8, _⟩ => ⟨S2x1024x2816, .f32⟩
  | .hbm, ⟨9, _⟩ => ⟨S2x1024x2816, .f32⟩
  | .hbm, ⟨10, _⟩ => ⟨S2x1024x2816, .f32⟩
  | .hbm, ⟨11, _⟩ => ⟨S_, .f32⟩
  | .hbm, ⟨12, _⟩ => ⟨S2x1024x2816, .f32⟩
  | .hbm, ⟨13, _⟩ => ⟨S2x1024x2816, .f32⟩
  | .hbm, ⟨14, _⟩ => ⟨S2x1024x2816, .f32⟩
  | .hbm, ⟨15, _⟩ => ⟨S_, .f32⟩
  | .hbm, ⟨16, _⟩ => ⟨S2x1024x2816, .f32⟩
  | .hbm, ⟨17, _⟩ => ⟨S2x1024x2816, .f32⟩
  | .hbm, ⟨18, _⟩ => ⟨S2x1024x2816, .f32⟩
  | .hbm, ⟨19, _⟩ => ⟨S_, .f32⟩
  | .hbm, ⟨20, _⟩ => ⟨S2x1024x2816, .f32⟩
  | .hbm, ⟨21, _⟩ => ⟨S2x1024x2816, .f32⟩
  | .hbm, ⟨22, _⟩ => ⟨S_, .f32⟩
  | .hbm, ⟨23, _⟩ => ⟨S2x1024x2816, .f32⟩
  | .hbm, ⟨24, _⟩ => ⟨S2x1024x2816, .f32⟩
  | .hbm, ⟨25, _⟩ => ⟨S2x1024x2816, .f32⟩
  | .hbm, ⟨26, _⟩ => ⟨S_, .f32⟩
  | .hbm, ⟨27, _⟩ => ⟨S2x1024x2816, .f32⟩
  | .hbm, ⟨28, _⟩ => ⟨S2x1024x2816, .f32⟩
  | .hbm, ⟨29, _⟩ => ⟨S2x1024x2816, .f32⟩
  | .hbm, ⟨30, _⟩ => ⟨S_, .f32⟩
  | .hbm, ⟨31, _⟩ => ⟨S2x1024x2816, .f32⟩
  | .hbm, ⟨32, _⟩ => ⟨S2x1024x2816, .f32⟩
  | .hbm, ⟨33, _⟩ => ⟨S2x1024x2816, .f32⟩
  | .hbm, ⟨34, _⟩ => ⟨S_, .f32⟩
  | .hbm, ⟨35, _⟩ => ⟨S2x1024x2816, .f32⟩
  | .hbm, ⟨36, _⟩ => ⟨S2x1024x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | _, _ => ⟨S2x1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdKv.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdKvIdeal.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdKvIdeal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdBr.lean ====
abbrev S2x3x256x1024 : Shape := ⟨4, ![2, 3, 256, 1024]⟩
abbrev S1536x1024 : Shape := ⟨2, ![1536, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x3x256x1024, .f32⟩
  | .hbm, ⟨1, _⟩ => ⟨S2x3x256x1024, .f32⟩
  | .hbm, ⟨2, _⟩ => ⟨S2x3x256x1024, .f32⟩
  | .hbm, ⟨3, _⟩ => ⟨S2x3x256x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1536x1024, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdBrIdeal.lean ====
abbrev S2x3x256x1024 : Shape := ⟨4, ![2, 3, 256, 1024]⟩
abbrev S1536x1024 : Shape := ⟨2, ![1536, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x3x256x1024, .f32⟩
  | .hbm, ⟨1, _⟩ => ⟨S2x3x256x1024, .f32⟩
  | .hbm, ⟨2, _⟩ => ⟨S2x3x256x1024, .f32⟩
  | .hbm, ⟨3, _⟩ => ⟨S2x3x256x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .hbm, ⟨7, _⟩ => ⟨S1536x1024, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S1536x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdBrIdeal.lean ====
abbrev S2x3x256x1024 : Shape := ⟨4, ![2, 3, 256, 1024]⟩
abbrev S_ : Shape := ⟨0, ![]⟩
abbrev S1536x1024 : Shape := ⟨2, ![1536, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x3x256x1024, .f32⟩
  | .hbm, ⟨1, _⟩ => ⟨S2x3x256x1024, .f32⟩
  | .hbm, ⟨2, _⟩ => ⟨S2x3x256x1024, .f32⟩
  | .hbm, ⟨3, _⟩ => ⟨S2x3x256x1024, .f32⟩
  | .hbm, ⟨4, _⟩ => ⟨S_, .f32⟩
  | .hbm, ⟨5, _⟩ => ⟨S2x3x256x1024, .f32⟩
  | .hbm, ⟨6, _⟩ => ⟨S2x3x256x1024, .f32⟩
  | .hbm, ⟨7, _⟩ => ⟨S_, .f32⟩
  | .hbm, ⟨8, _⟩ => ⟨S2x3x256x1024, .f32⟩
  | .hbm, ⟨9, _⟩ => ⟨S2x3x256x1024, .f32⟩
  | .hbm, ⟨10, _⟩ => ⟨S2x3x256x1024, .f32⟩
  | .hbm, ⟨11, _⟩ => ⟨S_, .f32⟩
  | .hbm, ⟨12, _⟩ => ⟨S2x3x256x1024, .f32⟩
  | .hbm, ⟨13, _⟩ => ⟨S2x3x256x1024, .f32⟩
  | .hbm, ⟨14, _⟩ => ⟨S2x3x256x1024, .f32⟩
  | .hbm, ⟨15, _⟩ => ⟨S_, .f32⟩
  | .hbm, ⟨16, _⟩ => ⟨S2x3x256x1024, .f32⟩
  | .hbm, ⟨17, _⟩ => ⟨S2x3x256x1024, .f32⟩
  | .hbm, ⟨18, _⟩ => ⟨S2x3x256x1024, .f32⟩
  | .hbm, ⟨19, _⟩ => ⟨S_, .f32⟩
  | .hbm, ⟨20, _⟩ => ⟨S2x3x256x1024, .f32⟩
  | .hbm, ⟨21, _⟩ => ⟨S2x3x256x1024, .f32⟩
  | .hbm, ⟨22, _⟩ => ⟨S_, .f32⟩
  | .hbm, ⟨23, _⟩ => ⟨S2x3x256x1024, .f32⟩
  | .hbm, ⟨24, _⟩ => ⟨S2x3x256x1024, .f32⟩
  | .hbm, ⟨25, _⟩ => ⟨S2x3x256x1024, .f32⟩
  | .hbm, ⟨26, _⟩ => ⟨S_, .f32⟩
  | .hbm, ⟨27, _⟩ => ⟨S2x3x256x1024, .f32⟩
  | .hbm, ⟨28, _⟩ => ⟨S2x3x256x1024, .f32⟩
  | .hbm, ⟨29, _⟩ => ⟨S2x3x256x1024, .f32⟩
  | .hbm, ⟨30, _⟩ => ⟨S_, .f32⟩
  | .hbm, ⟨31, _⟩ => ⟨S2x3x256x1024, .f32⟩
  | .hbm, ⟨32, _⟩ => ⟨S2x3x256x1024, .f32⟩
  | .hbm, ⟨33, _⟩ => ⟨S2x3x256x1024, .f32⟩
  | .hbm, ⟨34, _⟩ => ⟨S_, .f32⟩
  | .hbm, ⟨35, _⟩ => ⟨S2x3x256x1024, .f32⟩
  | .hbm, ⟨36, _⟩ => ⟨S2x3x256x1024, .f32⟩
  | .hbm, ⟨37, _⟩ => ⟨S1536x1024, .f32⟩
  | .hbm, ⟨38, _⟩ => ⟨S1536x1024, .f32⟩
  | .hbm, ⟨39, _⟩ => ⟨S1536x1024, .f32⟩
  | .hbm, ⟨40, _⟩ => ⟨S1536x1024, .f32⟩
  | _, _ => ⟨S2x3x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdOutIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdMix.lean ====
abbrev S2x8x128x128 : Shape := ⟨4, ![2, 8, 128, 128]⟩
abbrev S2048x128 : Shape := ⟨2, ![2048, 128]⟩
abbrev S512x128 : Shape := ⟨2, ![512, 128]⟩

abbrev nBuf : Space → Nat
  | .hbm => 12
  | .vmem => 16
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdMixIdeal.lean ====
abbrev S2x8x128x128 : Shape := ⟨4, ![2, 8, 128, 128]⟩
abbrev S2048x128 : Shape := ⟨2, ![2048, 128]⟩
abbrev S512x128 : Shape := ⟨2, ![512, 128]⟩

abbrev nBuf : Space → Nat
  | .hbm => 12
  | .vmem => 16
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdMixIdeal.lean ====
abbrev S2x8x128x128 : Shape := ⟨4, ![2, 8, 128, 128]⟩
abbrev S_ : Shape := ⟨0, ![]⟩
abbrev S2048x128 : Shape := ⟨2, ![2048, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S_, .f32⟩
  | .hbm, ⟨5, _⟩ => ⟨S2x8x128x128, .f32⟩
  | .hbm, ⟨6, _⟩ => ⟨S2x8x128x128, .f32⟩
  | .hbm, ⟨7, _⟩ => ⟨S_, .f32⟩
  | .hbm, ⟨8, _⟩ => ⟨S2x8x128x128, .f32⟩
  | .hbm, ⟨9, _⟩ => ⟨S2x8x128x128, .f32⟩
  | .hbm, ⟨10, _⟩ => ⟨S2x8x128x128, .f32⟩
  | .hbm, ⟨11, _⟩ => ⟨S_, .f32⟩
  | .hbm, ⟨12, _⟩ => ⟨S2x8x128x128, .f32⟩
  | .hbm, ⟨13, _⟩ => ⟨S2x8x128x128, .f32⟩
  | .hbm, ⟨14, _⟩ => ⟨S2x8x128x128, .f32⟩
  | .hbm, ⟨15, _⟩ => ⟨S_, .f32⟩
  | .hbm, ⟨16, _⟩ => ⟨S2x8x128x128, .f32⟩
  | .hbm, ⟨17, _⟩ => ⟨S2x8x128x128, .f32⟩
  | .hbm, ⟨18, _⟩ => ⟨S2x8x128x128, .f32⟩
  | .hbm, ⟨19, _⟩ => ⟨S_, .f32⟩
  | .hbm, ⟨20, _⟩ => ⟨S2x8x128x128, .f32⟩
  | .hbm, ⟨21, _⟩ => ⟨S2x8x128x128, .f32⟩
  | .hbm, ⟨22, _⟩ => ⟨S_, .f32⟩
  | .hbm, ⟨23, _⟩ => ⟨S2x8x128x128, .f32⟩
  | .hbm, ⟨24, _⟩ => ⟨S2x8x128x128, .f32⟩
  | .hbm, ⟨25, _⟩ => ⟨S2x8x128x128, .f32⟩
  | .hbm, ⟨26, _⟩ => ⟨S_, .f32⟩
  | .hbm, ⟨27, _⟩ => ⟨S2x8x128x128, .f32⟩
  | .hbm, ⟨28, _⟩ => ⟨S2x8x128x128, .f32⟩
  | .hbm, ⟨29, _⟩ => ⟨S2x8x128x128, .f32⟩
  | .hbm, ⟨30, _⟩ => ⟨S_, .f32⟩
  | .hbm, ⟨31, _⟩ => ⟨S2x8x128x128, .f32⟩
  | .hbm, ⟨32, _⟩ => ⟨S2x8x128x128, .f32⟩
  | .hbm, ⟨33, _⟩ => ⟨S2x8x128x128, .f32⟩
  | .hbm, ⟨34, _⟩ => ⟨S_, .f32⟩
  | .hbm, ⟨35, _⟩ => ⟨S2x8x128x128, .f32⟩
  | .hbm, ⟨36, _⟩ => ⟨S2x8x128x128, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S2048x128, .f32⟩
  | _, _ => ⟨S2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdBias.lean ====
abbrev S2x8x128 : Shape := ⟨3, ![2, 8, 128]⟩
abbrev S16x128 : Shape := ⟨2, ![16, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdBiasIdeal.lean ====
abbrev S2x8x128 : Shape := ⟨3, ![2, 8, 128]⟩
abbrev S16x128 : Shape := ⟨2, ![16, 128]⟩

abbrev nBuf : Space → Nat
  | .hbm => 12
  | .vmem => 8
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdBiasIdeal.lean ====
abbrev S2x8x128 : Shape := ⟨3, ![2, 8, 128]⟩
abbrev S_ : Shape := ⟨0, ![]⟩
abbrev S16x128 : Shape := ⟨2, ![16, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S_, .f32⟩
  | .hbm, ⟨5, _⟩ => ⟨S2x8x128, .f32⟩
  | .hbm, ⟨6, _⟩ => ⟨S2x8x128, .f32⟩
  | .hbm, ⟨7, _⟩ => ⟨S_, .f32⟩
  | .hbm, ⟨8, _⟩ => ⟨S2x8x128, .f32⟩
  | .hbm, ⟨9, _⟩ => ⟨S2x8x128, .f32⟩
  | .hbm, ⟨10, _⟩ => ⟨S2x8x128, .f32⟩
  | .hbm, ⟨11, _⟩ => ⟨S_, .f32⟩
  | .hbm, ⟨12, _⟩ => ⟨S2x8x128, .f32⟩
  | .hbm, ⟨13, _⟩ => ⟨S2x8x128, .f32⟩
  | .hbm, ⟨14, _⟩ => ⟨S2x8x128, .f32⟩
  | .hbm, ⟨15, _⟩ => ⟨S_, .f32⟩
  | .hbm, ⟨16, _⟩ => ⟨S2x8x128, .f32⟩
  | .hbm, ⟨17, _⟩ => ⟨S2x8x128, .f32⟩
  | .hbm, ⟨18, _⟩ => ⟨S2x8x128, .f32⟩
  | .hbm, ⟨19, _⟩ => ⟨S_, .f32⟩
  | .hbm, ⟨20, _⟩ => ⟨S2x8x128, .f32⟩
  | .hbm, ⟨21, _⟩ => ⟨S2x8x128, .f32⟩
  | .hbm, ⟨22, _⟩ => ⟨S_, .f32⟩
  | .hbm, ⟨23, _⟩ => ⟨S2x8x128, .f32⟩
  | .hbm, ⟨24, _⟩ => ⟨S2x8x128, .f32⟩
  | .hbm, ⟨25, _⟩ => ⟨S2x8x128, .f32⟩
  | .hbm, ⟨26, _⟩ => ⟨S_, .f32⟩
  | .hbm, ⟨27, _⟩ => ⟨S2x8x128, .f32⟩
  | .hbm, ⟨28, _⟩ => ⟨S2x8x128, .f32⟩
  | .hbm, ⟨29, _⟩ => ⟨S2x8x128, .f32⟩
  | .hbm, ⟨30, _⟩ => ⟨S_, .f32⟩
  | .hbm, ⟨31, _⟩ => ⟨S2x8x128, .f32⟩
  | .hbm, ⟨32, _⟩ => ⟨S2x8x128, .f32⟩
  | .hbm, ⟨33, _⟩ => ⟨S2x8x128, .f32⟩
  | .hbm, ⟨34, _⟩ => ⟨S_, .f32⟩
  | .hbm, ⟨35, _⟩ => ⟨S2x8x128, .f32⟩
  | .hbm, ⟨36, _⟩ => ⟨S2x8x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | _, _ => ⟨S2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdConv.lean ====
abbrev S2x31x256 : Shape := ⟨3, ![2, 31, 256]⟩
abbrev S62x256 : Shape := ⟨2, ![62, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | .local _ .vmem, ⟨7, _⟩ => ⟨S62x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdConvIdeal.lean ====
abbrev S2x31x256 : Shape := ⟨3, ![2, 31, 256]⟩
abbrev S62x256 : Shape := ⟨2, ![62, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | .local _ .vmem, ⟨7, _⟩ => ⟨S62x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S62x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdConvIdeal.lean ====
abbrev S2x31x256 : Shape := ⟨3, ![2, 31, 256]⟩
abbrev S_ : Shape := ⟨0, ![]⟩
abbrev S62x256 : Shape := ⟨2, ![62, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S_, .f32⟩
  | .hbm, ⟨5, _⟩ => ⟨S2x31x256, .f32⟩
  | .hbm, ⟨6, _⟩ => ⟨S2x31x256, .f32⟩
  | .hbm, ⟨7, _⟩ => ⟨S_, .f32⟩
  | .hbm, ⟨8, _⟩ => ⟨S2x31x256, .f32⟩
  | .hbm, ⟨9, _⟩ => ⟨S2x31x256, .f32⟩
  | .hbm, ⟨10, _⟩ => ⟨S2x31x256, .f32⟩
  | .hbm, ⟨11, _⟩ => ⟨S_, .f32⟩
  | .hbm, ⟨12, _⟩ => ⟨S2x31x256, .f32⟩
  | .hbm, ⟨13, _⟩ => ⟨S2x31x256, .f32⟩
  | .hbm, ⟨14, _⟩ => ⟨S2x31x256, .f32⟩
  | .hbm, ⟨15, _⟩ => ⟨S_, .f32⟩
  | .hbm, ⟨16, _⟩ => ⟨S2x31x256, .f32⟩
  | .hbm, ⟨17, _⟩ => ⟨S2x31x256, .f32⟩
  | .hbm, ⟨18, _⟩ => ⟨S2x31x256, .f32⟩
  | .hbm, ⟨19, _⟩ => ⟨S_, .f32⟩
  | .hbm, ⟨20, _⟩ => ⟨S2x31x256, .f32⟩
  | .hbm, ⟨21, _⟩ => ⟨S2x31x256, .f32⟩
  | .hbm, ⟨22, _⟩ => ⟨S_, .f32⟩
  | .hbm, ⟨23, _⟩ => ⟨S2x31x256, .f32⟩
  | .hbm, ⟨24, _⟩ => ⟨S2x31x256, .f32⟩
  | .hbm, ⟨25, _⟩ => ⟨S2x31x256, .f32⟩
  | .hbm, ⟨26, _⟩ => ⟨S_, .f32⟩
  | .hbm, ⟨27, _⟩ => ⟨S2x31x256, .f32⟩
  | .hbm, ⟨28, _⟩ => ⟨S2x31x256, .f32⟩
  | .hbm, ⟨29, _⟩ => ⟨S2x31x256, .f32⟩
  | .hbm, ⟨30, _⟩ => ⟨S_, .f32⟩
  | .hbm, ⟨31, _⟩ => ⟨S2x31x256, .f32⟩
  | .hbm, ⟨32, _⟩ => ⟨S2x31x256, .f32⟩
  | .hbm, ⟨33, _⟩ => ⟨S2x31x256, .f32⟩
  | .hbm, ⟨34, _⟩ => ⟨S_, .f32⟩
  | .hbm, ⟨35, _⟩ => ⟨S2x31x256, .f32⟩
  | .hbm, ⟨36, _⟩ => ⟨S2x31x256, .f32⟩
  | .hbm, ⟨37, _⟩ => ⟨S62x256, .f32⟩
  | .hbm, ⟨38, _⟩ => ⟨S62x256, .f32⟩
  | .hbm, ⟨39, _⟩ => ⟨S62x256, .f32⟩
  | .hbm, ⟨40, _⟩ => ⟨S62x256, .f32⟩
  | _, _ => ⟨S2x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdRow.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdRowIdeal.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdRowIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFinal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAdFinalIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KvF.lean ====
abbrev S256x1024 : Shape := ⟨2, ![256, 1024]⟩
abbrev S1x1024 : Shape := ⟨2, ![1, 1024]⟩
abbrev S1x1024x2048 : Shape := ⟨3, ![1, 1024, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x2048, .bf16⟩
  | .hbm, ⟨3, _⟩ => ⟨S256x1024, .bf16⟩
  | .hbm, ⟨4, _⟩ => ⟨S256x2048, .bf16⟩
  | .hbm, ⟨5, _⟩ => ⟨S2048x256, .bf16⟩
  | .local _ .vmem, ⟨0, _⟩ => ⟨S256x1024, .f32⟩
  | .local _ .vmem, ⟨1, _⟩ => ⟨S1x1024, .f32⟩
  | .local _ .vmem, ⟨2, _⟩ => ⟨S1x1024x2048, .bf16⟩
  | .local _ .vmem, ⟨3, _⟩ => ⟨S256x1024, .bf16⟩
  | .local _ .vmem, ⟨4, _⟩ => ⟨S256x2048, .bf16⟩
  | .local _ .vmem, ⟨5, _⟩ => ⟨S2048x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefKvFIdeal.lean ====
abbrev S256x1024 : Shape := ⟨2, ![256, 1024]⟩
abbrev S1x1024 : Shape := ⟨2, ![1, 1024]⟩
abbrev S1x1024x2048 : Shape := ⟨3, ![1, 1024, 2048]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S2048x256 : Shape := ⟨2, ![2048, 256]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x2048, .bf16⟩
  | .hbm, ⟨19, _⟩ => ⟨S1024x2048, .f32⟩
  | .hbm, ⟨20, _⟩ => ⟨S256x2048, .f32⟩
  | .hbm, ⟨21, _⟩ => ⟨S256x1024, .bf16⟩
  | .hbm, ⟨22, _⟩ => ⟨S256x2048, .bf16⟩
  | .hbm, ⟨23, _⟩ => ⟨S2048x256, .f32⟩
  | .hbm, ⟨24, _⟩ => ⟨S2048x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== AttF.lean ====
abbrev S8192x11264 : Shape := ⟨2, ![8192, 11264]⟩
abbrev S256x2048 : Shape := ⟨2, ![256, 2048]⟩
abbrev S2048x256 : Shape := ⟨2, ![2048, 256]⟩
abbrev S8192x1024 : Shape := ⟨2, ![8192, 1024]⟩
abbrev S256x1024 : Shape := ⟨2, ![256, 1024]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x11264, .f32⟩
  | .hbm, ⟨1, _⟩ => ⟨S256x2048, .bf16⟩
  | .hbm, ⟨2, _⟩ => ⟨S2048x256, .bf16⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefAttFIdeal.lean ====
abbrev S8192x11264 : Shape := ⟨2, ![8192, 11264]⟩
abbrev S256x2048 : Shape := ⟨2, ![256, 2048]⟩
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S256x2048, .bf16⟩
  | .hbm, ⟨2, _⟩ => ⟨S256x2048, .f32⟩
  | .hbm, ⟨3, _⟩ => ⟨S8192x1024, .f32⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x256x8192, .f32⟩
  | .hbm, ⟨29, _⟩ => ⟨S8192x4x256, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== KvB.lean ====
abbrev S256x1024 : Shape := ⟨2, ![256, 1024]⟩
abbrev S1x1024 : Shape := ⟨2, ![1, 1024]⟩
abbrev S1x1024x2048 : Shape := ⟨3, ![1, 1024, 2048]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1x1024x1024 : Shape := ⟨3, ![1, 1024, 1024]⟩
abbrev S1024 : Shape := ⟨1, ![1024]⟩

abbrev nBuf : Space → Nat
  | .hbm => 23
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S1x1024x2048, .bf16⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S1x1024x2048, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .f32⟩
  | .local _ .vmem, ⟨4, _⟩ => ⟨S1x1024x2048, .bf16⟩
  | .local _ .vmem, ⟨5, _⟩ => ⟨S1x1024x2048, .f32⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefKvBIdeal.lean ====
abbrev S256x1024 : Shape := ⟨2, ![256, 1024]⟩
abbrev S1x1024 : Shape := ⟨2, ![1, 1024]⟩
abbrev S1x1024x2048 : Shape := ⟨3, ![1, 1024, 2048]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S2048x1024 : Shape := ⟨2, ![2048, 1024]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S1x1024x2048, .bf16⟩
  | .hbm, ⟨5, _⟩ => ⟨S1x1024x2048, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1024x2048, .f32⟩
  | .hbm, ⟨22, _⟩ => ⟨S256x2048, .f32⟩
  | .hbm, ⟨23, _⟩ => ⟨S256x2048, .f32⟩
  | .hbm, ⟨24, _⟩ => ⟨S2048x1024, .f32⟩
  | .hbm, ⟨25, _⟩ => ⟨S1024x2048, .f32⟩
  | .hbm, ⟨26, _⟩ => ⟨S256x1024, .f32⟩
  | .hbm, ⟨27, _⟩ => ⟨S1x1024x2048, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32 : BitVec 32 := 4#32
  let v14 : BitVec 32 := Scalar.muli arg7 c4_i32
  let c0_i32_10 : BitVec 32 := 0#32
  let v15 : BitVec 32 := Scalar.addi v14 c0_i32_10
  let c16_i32 : BitVec 32 := 16#32
  let v16 : BitVec 32 := Scalar.muli v15 c16_i32
  v16
def k0_off1 (k0_t1 : Fin k0_t1_loop.trips) (c0_i32_10 : BitVec 32) : Fin 2 → Nat :=
  let c0_i32_1 : BitVec 32 := 0#32
  let c1_i32 : BitVec 32 := 1#32
  let arg7 : BitVec 32 := Scf.iv c0_i32_1 c1_i32 k0_t1
  let c4_i32 : BitVec 32 := 4#32
  let v14 : BitVec 32 := Scalar.muli arg7 c4_i32
  let v15 : BitVec 32 := Scalar.addi v14 c0_i32_10
  let c16_i32 : BitVec 32 := 16#32
  let v16 : BitVec 32 := Scalar.muli v15 c16_i32
  let v17 : BitVec 32 := v16
  let v18 : Index := Scalar.indexCast v17
  let c0_11 : Index := 0#32
  ![v18.toNat, 0]
def k0_mult2 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_26 : BitVec 32 := 4#32
  let v63 : BitVec 32 := Scalar.muli arg7 c4_i32_26
  let c1_i32_27 : BitVec 32 := 1#32
  let v64 : BitVec 32 := Scalar.addi v63 c1_i32_27
  let c16_i32_28 : BitVec 32 := 16#32
  let v65 : BitVec 32 := Scalar.muli v64 c16_i32_28
  v65
def k0_mult3 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_44 : BitVec 32 := 4#32
  let v112 : BitVec 32 := Scalar.muli arg7 c4_i32_44
  let c2_i32 : BitVec 32 := 2#32
  let v113 : BitVec 32 := Scalar.addi v112 c2_i32
  let c16_i32_45 : BitVec 32 := 16#32
  let v114 : BitVec 32 := Scalar.muli v113 c16_i32_45
  v114
def k0_mult4 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_61 : BitVec 32 := 4#32
  let v161 : BitVec 32 := Scalar.muli arg7 c4_i32_61
  let c3_i32 : BitVec 32 := 3#32
  let v162 : BitVec 32 := Scalar.addi v161 c3_i32
  let c16_i32_62 : BitVec 32 := 16#32
  let v163 : BitVec 32 := Scalar.muli v162 c16_i32_62
  v163
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== LossAll.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S_ : Shape := ⟨0, ![]⟩

abbrev nBuf : Space → Nat
  | .hbm => 24
  | .vmem => 9
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTc nBuf bufTy 1 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v8_s0 : Ref sig .tc := ⟨.hbm, 16, rfl⟩
abbrev main_v8_s1 : Ref sig .tc := ⟨.hbm, 17, rfl⟩
abbrev main_v8_s2 : Ref sig .tc := ⟨.hbm, 18, rfl⟩
abbrev main_v8_s3 : Ref sig .tc := ⟨.hbm, 19, rfl⟩
abbrev main_v8_s4 : Ref sig .tc := ⟨.hbm, 20, rfl⟩
abbrev main_v8_s5 : Ref sig .tc := ⟨.hbm, 21, rfl⟩
abbrev main_v8_s6 : Ref sig .tc := ⟨.hbm, 22, rfl⟩
abbrev main_v8_s7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev ar0_recv : DmaSem sig := 9
abbrev ar0_send : DmaSem sig := 10
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v8_s0 | 1 => main_v8_s1 | 2 => main_v8_s2 | 3 => main_v8_s3 | 4 => main_v8_s4 | 5 => main_v8_s5 | 6 => main_v8_s6 | 7 => main_v8_s7 | ⟨_ + 8, h⟩ => absurd h (Nat.not_lt.2 (Nat.le_add_left _ _))

abbrev grid0 : Pipeline.Grid := ⟨1, ![16], ![false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32 : BitVec 32 := 4#32
  let v14 : BitVec 32 := Scalar.muli arg7 c4_i32
  let c0_i32_10 : BitVec 32 := 0#32
  let v15 : BitVec 32 := Scalar.addi v14 c0_i32_10
  let c16_i32 : BitVec 32 := 16#32
  let v16 : BitVec 32 := Scalar.muli v15 c16_i32
  v16
def k0_off1 (k0_t1 : Fin k0_t1_loop.trips) (c0_i32_10 : BitVec 32) : Fin 2 → Nat :=
  let c0_i32_1 : BitVec 32 := 0#32
  let c1_i32 : BitVec 32 := 1#32
  let arg7 : BitVec 32 := Scf.iv c0_i32_1 c1_i32 k0_t1
  let c4_i32 : BitVec 32 := 4#32
  let v14 : BitVec 32 := Scalar.muli arg7 c4_i32
  let v15 : BitVec 32 := Scalar.addi v14 c0_i32_10
  let c16_i32 : BitVec 32 := 16#32
  let v16 : BitVec 32 := Scalar.muli v15 c16_i32
  let v17 : BitVec 32 := v16
  let v18 : Index := Scalar.indexCast v17
  let c0_11 : Index := 0#32
  ![v18.toNat, 0]
def k0_mult2 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_26 : BitVec 32 := 4#32
  let v65 : BitVec 32 := Scalar.muli arg7 c4_i32_26
  let c1_i32_27 : BitVec 32 := 1#32
  let v66 : BitVec 32 := Scalar.addi v65 c1_i32_27
  let c16_i32_28 : BitVec 32 := 16#32
  let v67 : BitVec 32 := Scalar.muli v66 c16_i32_28
  v67
def k0_mult3 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_44 : BitVec 32 := 4#32
  let v116 : BitVec 32 := Scalar.muli arg7 c4_i32_44
  let c2_i32 : BitVec 32 := 2#32
  let v117 : BitVec 32 := Scalar.addi v116 c2_i32
  let c16_i32_45 : BitVec 32 := 16#32
  let v118 : BitVec 32 := Scalar.muli v117 c16_i32_45
  v118
def k0_mult4 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c4_i32_61 : BitVec 32 := 4#32
  let v167 : BitVec 32 := Scalar.muli arg7 c4_i32_61
  let c3_i32 : BitVec 32 := 3#32
  let v168 : BitVec 32 := Scalar.addi v167 c3_i32
  let c16_i32_62 : BitVec 32 := 16#32
  let v169 : BitVec 32 := Scalar.muli v168 c16_i32_62
  v169
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossAllIdeal.lean ====
abbrev S8x8192x1024 : Shape := ⟨3, ![8, 8192, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S1024, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.RealArrays.lean ====
/-
  Finite arrays. A block or an array whose entries are all real numbers is `cv f`: the function `f` of the two coordinates, read into the extended reals.
  Every operation of the kernel's body takes finite arrays to a finite array, and each lemma here says to which one. A proof then rewrites a
  body's expression from the inside out into one `cv`.
-/
module

public import Idealize.ShloMosaic.Lib.Pointwise

@[expose] public section

noncomputable section

namespace Cert.RealArr

open Idealize.ShloMosaic Idealize.ShloMosaic.ValueIdx

/-- The finite matrix with entries `f i j`. -/
def cv {φ : FTy} {n0 n1 : ℕ} (f : ℕ → ℕ → ℝ) : FVec Ideal ⟨2, ![n0, n1]⟩ φ := fun i => ((f (i 0).val (i 1).val : ℝ) : EReal)

/-- The finite array of rank 3 with entries `f i j k`. -/
def cv3 {φ : FTy} {n0 n1 n2 : ℕ} (f : ℕ → ℕ → ℕ → ℝ) : FVec Ideal ⟨3, ![n0, n1, n2]⟩ φ :=
  fun i => ((f (i 0).val (i 1).val (i 2).val : ℝ) : EReal)

variable {φ ψ : FTy} {n0 n1 n2 : ℕ}

theorem cv_apply (f : ℕ → ℕ → ℝ) (i : (⟨2, ![n0, n1]⟩ : Shape).Idx) :
    (cv f : FVec Ideal ⟨2, ![n0, n1]⟩ φ) i = ((f (i 0).val (i 1).val : ℝ) : EReal) := rfl

theorem cv3_apply (f : ℕ → ℕ → ℕ → ℝ) (i : (⟨3, ![n0, n1, n2]⟩ : Shape).Idx) :
    (cv3 f : FVec Ideal ⟨3, ![n0, n1, n2]⟩ φ) i = ((f (i 0).val (i 1).val (i 2).val : ℝ) : EReal) := rfl

/-- Two finite matrices whose entries agree inside the bounds are equal. -/
theorem cv_congr {f g : ℕ → ℕ → ℝ} (h : ∀ i < n0, ∀ j < n1, f i j = g i j) :
    (cv f : FVec Ideal ⟨2, ![n0, n1]⟩ φ) = cv g :=
  funext fun i => congrArg _ (h _ (i 0).isLt _ (i 1).isLt)

/-- Two arrays at an index of each. -/
theorem cv_at {k0 k1 : ℕ} {ψ : FTy} {f g : ℕ → ℕ → ℝ} {x : (⟨2, ![n0, n1]⟩ : Shape).Idx} {y : (⟨2, ![k0, k1]⟩ : Shape).Idx}
    (h : f (x 0).val (x 1).val = g (y 0).val (y 1).val) :
    (cv f : FVec Ideal ⟨2, ![n0, n1]⟩ φ) x = (cv g : FVec Ideal ⟨2, ![k0, k1]⟩ ψ) y :=
  congrArg (fun r : ℝ => (r : EReal)) h

theorem cv3_at {n2 k0 k1 k2 : ℕ} {ψ : FTy} {f g : ℕ → ℕ → ℕ → ℝ} {x : (⟨3, ![n0, n1, n2]⟩ : Shape).Idx} {y : (⟨3, ![k0, k1, k2]⟩ : Shape).Idx}
    (h : f (x 0).val (x 1).val (x 2).val = g (y 0).val (y 1).val (y 2).val) :
    (cv3 f : FVec Ideal ⟨3, ![n0, n1, n2]⟩ φ) x = (cv3 g : FVec Ideal ⟨3, ![k0, k1, k2]⟩ ψ) y :=
  congrArg (fun r : ℝ => (r : EReal)) h

/-- A finite sum of reals, read into the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## Elementwise operations -/

variable (a b : ℕ → ℕ → ℝ)

theorem mulf_cv : mulf (cv a : FVec Ideal ⟨2, ![n0, n1]⟩ φ) (cv b) = cv fun i j => a i j * b i j :=
  funext fun _ => (EReal.coe_mul _ _).symm
theorem addf_cv : addf (cv a : FVec Ideal ⟨2, ![n0, n1]⟩ φ) (cv b) = cv fun i j => a i j + b i j :=
  funext fun _ => (EReal.coe_add _ _).symm
theorem subf_cv : subf (cv a : FVec Ideal ⟨2, ![n0, n1]⟩ φ) (cv b) = cv fun i j => a i j - b i j :=
  funext fun _ => (EReal.coe_sub _ _).symm
theorem exp_cv : exp (cv a : FVec Ideal ⟨2, ![n0, n1]⟩ φ) = cv fun i j => Real.exp (a i j) :=
  funext fun _ => Ideal.exp_coe _
theorem tanh_cv : tanh (cv a : FVec Ideal ⟨2, ![n0, n1]⟩ φ) = cv fun i j => Real.tanh (a i j) :=
  funext fun _ => Ideal.tanh_coe _
theorem truncf_cv (h : ψ.bits < φ.bits) : truncf ψ (cv a : FVec Ideal ⟨2, ![n0, n1]⟩ φ) h = cv a := rfl
theorem extf_cv (h : φ.bits < ψ.bits) : extf ψ (cv a : FVec Ideal ⟨2, ![n0, n1]⟩ φ) h = cv a := rfl

/-- Division of reals by a real that is not zero. -/
theorem div_coe_coe (x : ℝ) {y : ℝ} (hy : y ≠ 0) : Ideal.div (x : EReal) (y : EReal) = ((x / y : ℝ) : EReal) := by
  rw [Ideal.div_coe hy, ← EReal.coe_mul, mul_one_div]

theorem divf_cv (hb : ∀ i < n0, ∀ j < n1, b i j ≠ 0) :
    divf (cv a : FVec Ideal ⟨2, ![n0, n1]⟩ φ) (cv b) = cv fun i j => a i j / b i j :=
  funext fun i => div_coe_coe _ (hb _ (i 0).isLt _ (i 1).isLt)

/-- A scalar spread over the block. -/
theorem broadcast_cv (x : ℝ) : (broadcast ⟨2, ![n0, n1]⟩ ((x : ℝ) : EReal) : FVec Ideal ⟨2, ![n0, n1]⟩ φ) = cv fun _ _ => x := rfl

/-! ## Shape operations -/

theorem shapeCast_self_cv (h : (⟨2, ![n0, n1]⟩ : Shape).ShapeCasts ⟨2, ![n0, n1]⟩) :
    shapeCast ⟨2, ![n0, n1]⟩ (cv a : FVec Ideal ⟨2, ![n0, n1]⟩ φ) h = cv a := by
  funext i; pointwise

theorem shapeCast_slab_cv (f : ℕ → ℕ → ℕ → ℝ) (h : (⟨3, ![1, 256, 256]⟩ : Shape).ShapeCasts ⟨2, ![256, 256]⟩) :
    shapeCast ⟨2, ![256, 256]⟩ (cv3 f : FVec Ideal ⟨3, ![1, 256, 256]⟩ φ) h = cv fun i j => f 0 i j := by
  funext i; pointwise; rfl

/-- The sum of each row, spread over the row again. -/
theorem rowSum_cv (hr : (⟨2, ![256, 256]⟩ : Shape).Reduces [1] ⟨1, ![256]⟩) (hc : (⟨1, ![256]⟩ : Shape).ShapeCasts ⟨2, ![256, 1]⟩)
    (hb : (⟨2, ![256, 1]⟩ : Shape).Broadcasts ⟨2, ![256, 256]⟩) :
    broadcastTo ⟨2, ![256, 256]⟩ (shapeCast ⟨2, ![256, 1]⟩
      (FloatOps.reduceAdd _ hr (cv a : FVec Ideal ⟨2, ![256, 256]⟩ .f32)) hc) hb
      = cv fun i _ => ∑ k : Fin 256, a i k := by
  funext i; pointwise
  exact (coe_sum _ _).symm

/-- The greatest of `g 0, …, g (n - 1)`. -/
def top (n : ℕ) (g : ℕ → ℝ) : ℝ := (Finset.fold max (⊥ : EReal) (fun x : Fin n => ((g x.val : ℝ) : EReal)) Finset.univ).toReal

/-- The greatest of finitely many reals, at least one of them, is a real. -/
theorem fold_max_coe {n : ℕ} (hn : 0 < n) (g : ℕ → ℝ) :
    Finset.fold max (⊥ : EReal) (fun x : Fin n => ((g x.val : ℝ) : EReal)) Finset.univ = ((top n g : ℝ) : EReal) := by
  refine (EReal.coe_toReal (ne_of_lt ?_) (ne_of_gt ?_)).symm
  · exact (Finset.fold_max_lt _).mpr ⟨bot_lt_top, fun x _ => EReal.coe_lt_top _⟩
  · exact (Finset.lt_fold_max _).mpr (.inr ⟨⟨0, hn⟩, Finset.mem_univ _, EReal.bot_lt_coe _⟩)

/-- The f32 pattern of minus infinity. -/
theorem ofBits_neg_inf : Ideal.ofBits .f32 0xFF800000#32 = ⊥ := by simp [Ideal.ofBits, Ideal.ieee]

/-- The f32 pattern of a sixteenth. -/
theorem ofBits_sixteenth : Ideal.ofBits .f32 0x3D800000#32 = ((1 / 16 : ℝ) : EReal) := by
  simp [Ideal.ofBits, Ideal.ieee, -EReal.coe_mul]; norm_num

/-- The f32 pattern of one. -/
theorem ofBits_one : Ideal.ofBits .f32 0x3F800000#32 = ((1 : ℝ) : EReal) := by
  simp [Ideal.ofBits, Ideal.ieee, -EReal.coe_mul]; norm_num

/-- The f32 pattern of zero. -/
theorem ofBits_zero : Ideal.ofBits .f32 0x00000000#32 = ((0 : ℝ) : EReal) := by
  rw [Ideal.ofBits_zero_f32, EReal.coe_zero]

/-- The greatest entry of each row, spread over the row again. -/
theorem rowMax_cv (hr : (⟨2, ![256, 256]⟩ : Shape).Reduces [1] ⟨1, ![256]⟩) (hc : (⟨1, ![256]⟩ : Shape).ShapeCasts ⟨2, ![256, 1]⟩)
    (hb : (⟨2, ![256, 1]⟩ : Shape).Broadcasts ⟨2, ![256, 256]⟩) :
    broadcastTo ⟨2, ![256, 256]⟩ (shapeCast ⟨2, ![256, 1]⟩
      (reduceFold hr FloatOps.maximumf (Ideal.ofBits .f32 0xFF800000#32) (cv a : FVec Ideal ⟨2, ![256, 256]⟩ .f32)) hc) hb
      = cv fun i _ => top 256 (a i) := by
  funext i; pointwise
  rw [ofBits_neg_inf]
  exact fold_max_coe (by norm_num) (a (i 0).val)

/-! ## The two quotients the bodies take -/

theorem sumExp_pos (n : ℕ) (hn : 0 < n) (g : ℕ → ℝ) : 0 < ∑ k : Fin n, Real.exp (g k) :=
  Finset.sum_pos (fun _ _ => Real.exp_pos _) ⟨⟨0, hn⟩, Finset.mem_univ _⟩

theorem divf_sumExp_cv (g : ℕ → ℕ → ℝ) :
    divf (cv a : FVec Ideal ⟨2, ![n0, n1]⟩ φ) (cv fun i _ => ∑ k : Fin 256, Real.exp (g i k)) = cv fun i j => a i j / ∑ k : Fin 256, Real.exp (g i k) :=
  divf_cv a _ fun i _ _ _ => (sumExp_pos 256 (by norm_num) (g i)).ne'

theorem divf_onePlusExp_cv (g : ℕ → ℕ → ℝ) :
    divf (cv a : FVec Ideal ⟨2, ![n0, n1]⟩ φ) (cv fun i j => 1 + Real.exp (g i j)) = cv fun i j => a i j / (1 + Real.exp (g i j)) :=
  divf_cv a _ fun i _ j _ => (by positivity)

/-! ## Loads of a part of a block -/

/-- The entry of a unit-stride rectangle at a coordinate. -/
theorem unit_idx_val {s : Shape} {off size : Fin s.rank → ℕ} (inb : ∀ a, off a + size a ≤ s.size a) (x : (Rect.unit off size inb).shape.Idx) (d : Fin s.rank) :
    ((Rect.unit off size inb).idx x d).val = off d + (x d).val := by
  simp [Rect.unit]

/-- A load of the part at rows `o0 …` and columns `o1 …`. -/
theorem ld_cv_f32 {m0 m1 o0 o1 : ℕ} (inb : ∀ x, (![o0, o1] : Fin 2 → ℕ) x + (![m0, m1] : Fin 2 → ℕ) x ≤ (⟨2, ![n0, n1]⟩ : Shape).size x) :
    View.ld (Val := Elt Ideal) (e' := .f32) (cv a : FVec Ideal ⟨2, ![n0, n1]⟩ .f32) (Rect.unit ![o0, o1] ![m0, m1] inb)
      = (cv fun i j => a (o0 + i) (o1 + j) : FVec Ideal ⟨2, ![m0, m1]⟩ .f32) := by
  funext i
  show ((a _ _ : ℝ) : EReal) = ((a _ _ : ℝ) : EReal)
  rw [unit_idx_val, unit_idx_val]; rfl

theorem ld_cv_bf16 {m0 m1 o0 o1 : ℕ} (inb : ∀ x, (![o0, o1] : Fin 2 → ℕ) x + (![m0, m1] : Fin 2 → ℕ) x ≤ (⟨2, ![n0, n1]⟩ : Shape).size x) :
    View.ld (Val := Elt Ideal) (e' := .bf16) (cv a : FVec Ideal ⟨2, ![n0, n1]⟩ .bf16) (Rect.unit ![o0, o1] ![m0, m1] inb)
      = (cv fun i j => a (o0 + i) (o1 + j) : FVec Ideal ⟨2, ![m0, m1]⟩ .bf16) := by
  funext i
  show ((a _ _ : ℝ) : EReal) = ((a _ _ : ℝ) : EReal)
  rw [unit_idx_val, unit_idx_val]; rfl

theorem ld_cv3_f32 {m0 m1 m2 o0 o1 o2 : ℕ} (f : ℕ → ℕ → ℕ → ℝ)
    (inb : ∀ x, (![o0, o1, o2] : Fin 3 → ℕ) x + (![m0, m1, m2] : Fin 3 → ℕ) x ≤ (⟨3, ![n0, n1, n2]⟩ : Shape).size x) :
    View.ld (Val := Elt Ideal) (e' := .f32) (cv3 f : FVec Ideal ⟨3, ![n0, n1, n2]⟩ .f32) (Rect.unit ![o0, o1, o2] ![m0, m1, m2] inb)
      = (cv3 fun i j k => f (o0 + i) (o1 + j) (o2 + k) : FVec Ideal ⟨3, ![m0, m1, m2]⟩ .f32) := by
  funext i
  show ((f _ _ _ : ℝ) : EReal) = ((f _ _ _ : ℝ) : EReal)
  rw [unit_idx_val, unit_idx_val, unit_idx_val]; rfl

/-! ## Stores of parts of a block -/

/-- After a store of the part at rows `o0 …` and columns `o1 …`: the stored part within it, what lay there before elsewhere. -/
theorem canon_cv_cons_f32 {m0 m1 o0 o1 : ℕ} (inb : ∀ x, (![o0, o1] : Fin 2 → ℕ) x + (![m0, m1] : Fin 2 → ℕ) x ≤ (⟨2, ![n0, n1]⟩ : Shape).size x)
    (f g : ℕ → ℕ → ℝ) (L : List (View.Piece (Elt Ideal) ⟨2, ![n0, n1]⟩ .f32)) (y : (⟨2, ![n0, n1]⟩ : Shape).Idx)
    (hf : ∀ i < m0, ∀ j < m1, f i j = g (o0 + i) (o1 + j))
    (hL : ¬(o0 ≤ (y 0).val ∧ (y 0).val < o0 + m0 ∧ o1 ≤ (y 1).val ∧ (y 1).val < o1 + m1) → View.canon L y = (cv g : FVec Ideal ⟨2, ![n0, n1]⟩ .f32) y) :
    View.canon (Val := Elt Ideal) (e := .f32) (⟨Rect.unit ![o0, o1] ![m0, m1] inb, (cv f : FVec Ideal ⟨2, ![m0, m1]⟩ .f32)⟩ :: L) y
      = (cv g : FVec Ideal ⟨2, ![n0, n1]⟩ .f32) y := by
  by_cases h : y ∈ (Rect.unit (s := ⟨2, ![n0, n1]⟩) ![o0, o1] ![m0, m1] inb).set
  · obtain ⟨x, rfl⟩ := LoadRect.exists_idx_of_mem _ h
    refine (View.canon_cons_emb _ _ _ x).trans ?_
    show ((f _ _ : ℝ) : EReal) = ((g _ _ : ℝ) : EReal)
    rw [hf _ (x 0).isLt _ (x 1).isLt]
    exact congrArg _ (congrArg₂ g (unit_idx_val inb x 0).symm (unit_idx_val inb x 1).symm)
  · refine (View.canon_cons_of_not_mem _ _ h).trans (hL fun hy => h (Rect.mem_set_unit.mpr ?_))
    exact Fin.forall_fin_two.mpr ⟨⟨hy.1, hy.2.1⟩, hy.2.2.1, hy.2.2.2⟩

theorem canon_cv_cons_bf16 {m0 m1 o0 o1 : ℕ} (inb : ∀ x, (![o0, o1] : Fin 2 → ℕ) x + (![m0, m1] : Fin 2 → ℕ) x ≤ (⟨2, ![n0, n1]⟩ : Shape).size x)
    (f g : ℕ → ℕ → ℝ) (L : List (View.Piece (Elt Ideal) ⟨2, ![n0, n1]⟩ .bf16)) (y : (⟨2, ![n0, n1]⟩ : Shape).Idx)
    (hf : ∀ i < m0, ∀ j < m1, f i j = g (o0 + i) (o1 + j))
    (hL : ¬(o0 ≤ (y 0).val ∧ (y 0).val < o0 + m0 ∧ o1 ≤ (y 1).val ∧ (y 1).val < o1 + m1) → View.canon L y = (cv g : FVec Ideal ⟨2, ![n0, n1]⟩ .bf16) y) :
    View.canon (Val := Elt Ideal) (e := .bf16) (⟨Rect.unit ![o0, o1] ![m0, m1] inb, (cv f : FVec Ideal ⟨2, ![m0, m1]⟩ .bf16)⟩ :: L) y
      = (cv g : FVec Ideal ⟨2, ![n0, n1]⟩ .bf16) y := by
  by_cases h : y ∈ (Rect.unit (s := ⟨2, ![n0, n1]⟩) ![o0, o1] ![m0, m1] inb).set
  · obtain ⟨x, rfl⟩ := LoadRect.exists_idx_of_mem _ h
    refine (View.canon_cons_emb _ _ _ x).trans ?_
    show ((f _ _ : ℝ) : EReal) = ((g _ _ : ℝ) : EReal)
    rw [hf _ (x 0).isLt _ (x 1).isLt]
    exact congrArg _ (congrArg₂ g (unit_idx_val inb x 0).symm (unit_idx_val inb x 1).symm)
  · refine (View.canon_cons_of_not_mem _ _ h).trans (hL fun hy => h (Rect.mem_set_unit.mpr ?_))
    exact Fin.forall_fin_two.mpr ⟨⟨hy.1, hy.2.1⟩, hy.2.2.1, hy.2.2.2⟩

end Cert.RealArr
-- ==== Proof.Model.lean ====
/-
  The attention branch and its gradient over the reals, as formulas in the whole arrays' entries: `A s c` is the projected activations, `D s c` the gradient
  that comes in, `K m c` the keys (columns 0 … 1023) and the values (columns 1024 … 2047). A head `h` is its first column `o = 256 h`.
-/
module

public import proofs.«01_k».proof.Proof.RealArrays

@[expose] public section

noncomputable section

namespace Cert.Model

open Cert.RealArr

/-- The softmax of `g 0, …, g (n - 1)`, at `j`, from the greatest of them. -/
def soft (n : ℕ) (g : ℕ → ℝ) (j : ℕ) : ℝ := Real.exp (g j - top n g) / ∑ k : Fin n, Real.exp (g k - top n g)

/-- The logistic function. -/
def logi (x : ℝ) : ℝ := 1 / (1 + Real.exp (0 - x))

/-- `silu x = x · σ(x)`, and its derivative. -/
def silu (x : ℝ) : ℝ := x * logi x
def dsilu (x : ℝ) : ℝ := logi x * (1 + x * (1 - logi x))

variable (A D K : ℕ → ℕ → ℝ) (o : ℕ)

/-- The scaled score of query `s` and memory `m`. -/
def score (s m : ℕ) : ℝ := (∑ e : Fin 256, A s (6144 + (o + e)) * K m (o + e)) * (1 / 16)
/-- The attention's weight. -/
def prob (s m : ℕ) : ℝ := soft 256 (score A K o s) m
/-- The attended values. -/
def att (s e : ℕ) : ℝ := ∑ m : Fin 256, prob A K o s m * K m (1024 + (o + e))
/-- The gradient of the attended values. -/
def datt (s e : ℕ) : ℝ := D s (o + e) * silu (A s (7168 + (o + e)))
/-- The gradient of the gate before its `silu`. -/
def dgate (s e : ℕ) : ℝ := D s (o + e) * att A K o s e * dsilu (A s (7168 + (o + e)))
/-- The gradient of the weights. -/
def dprob (s m : ℕ) : ℝ := ∑ e : Fin 256, datt A D o s e * K m (1024 + (o + e))
/-- The gradient of the scores before their scaling. -/
def dscore (s m : ℕ) : ℝ :=
  prob A K o s m * (dprob A D K o s m - ∑ m' : Fin 256, dprob A D K o s m' * prob A K o s m') * (1 / 16)
/-- The gradient of the queries. -/
def dq (s e : ℕ) : ℝ := ∑ m : Fin 256, dscore A D K o s m * K m (o + e)
/-- What row `s` adds to the gradient of the keys, and to that of the values. -/
def dkRow (s m e : ℕ) : ℝ := dscore A D K o s m * A s (6144 + (o + e))
def dvRow (s m e : ℕ) : ℝ := prob A K o s m * datt A D o s e

/-- Columns 0 … 1023 of the first result are the queries' gradient and 1024 … 2047 the gate's. -/
def dz (s c : ℕ) : ℝ :=
  if c < 1024 then dq A D K (256 * (c / 256)) s (c % 256) else dgate A D K (256 * ((c - 1024) / 256)) s ((c - 1024) % 256)
/-- The `n` rows from row `r`, summed: what they add to the gradient of the keys, and to that of the values. -/
def dk (r n m c : ℕ) : ℝ := ∑ i : Fin n, dkRow A D K (256 * (c / 256)) (r + i) m (c % 256)
def dv (r n m c : ℕ) : ℝ := ∑ i : Fin n, dvRow A D K (256 * (c / 256)) (r + i) m (c % 256)

end Cert.Model
-- ==== Proof.Block.lean ====
/-
  What one grid point computes from finite blocks.
-/
module

public import proofs.«01_k».proof.Proof.Model
public import proofs.«01_k».proof.Proof.Gen.KernelIdeal.Value
public import Idealize.ShloMosaic.Lib.Pipeline.ReadBack
public import Idealize.ShloMosaic.Lib.Pipeline.ValueKit

@[expose] public section

noncomputable section

namespace Cert.Block

open Cert.KernelIdeal Cert.KernelIdeal.Gen Idealize.ShloMosaic Idealize.ShloMosaic.TcCoe Idealize.SL.Sem
open Cert.RealArr Cert.Model

/-! ## The two products -/

theorem matmul_nn (a b : ℕ → ℕ → ℝ) : matmul dot_S256x256_S256x256_S256x256_1_0_0_1_n_n none
    (cv a : FVec Ideal S256x256 .bf16) (cv b : FVec Ideal S256x256 .bf16) (constant S256x256 .f32 0x00000000#32)
    = (cv fun i j => ∑ k : Fin 256, a i k * b k j) := by
  funext i
  pointwise [dot_S256x256_S256x256_S256x256_1_0_0_1_n_n]
  simp only [cv_apply, ← EReal.coe_mul, ← coe_sum]; rfl

theorem matmul_tn (a b : ℕ → ℕ → ℝ) : matmul dot_S256x256_S256x256_S256x256_0_0_1_1_n_n none
    (cv a : FVec Ideal S256x256 .bf16) (cv b : FVec Ideal S256x256 .bf16) (constant S256x256 .f32 0x00000000#32)
    = (cv fun i j => ∑ k : Fin 256, a k i * b k j) := by
  funext i
  pointwise [dot_S256x256_S256x256_S256x256_0_0_1_1_n_n]
  simp only [cv_apply, ← EReal.coe_mul, ← coe_sum]; rfl

/-- The sum of each row, spread over the row again. -/
theorem rowSum (a : ℕ → ℕ → ℝ) : broadcastTo S256x256 (shapeCast S256x1
    (Ideal.reduceAdd reduces_S256x256_S256 (cv a : FVec Ideal S256x256 .f32)) shapeCasts_S256_S256x1) broadcasts_S256x1_S256x256
    = cv (φ := .f32) fun i _ => ∑ k : Fin 256, a i k := rowSum_cv a _ _ _

variable (c : Dev nD) (i : grid0.Coords)
  (m0 : Memref sig .tc .vmem S256x1024 .f32) (w0 : m0.IsWhole) (m1 : Memref sig .tc .vmem S256x1024 .f32) (w1 : m1.IsWhole)
  (m2 : Memref sig .tc .vmem S1x256x1024 .f32) (w2 : m2.IsWhole) (m3 : Memref sig .tc .vmem S1024x256 .bf16) (w3 : m3.IsWhole)
  (m4 : Memref sig .tc .vmem S1024x256 .bf16) (w4 : m4.IsWhole) (m5 : Memref sig .tc .vmem S256x1024 .bf16) (w5 : m5.IsWhole)
  (m6 : Memref sig .tc .vmem S256x1024 .bf16) (w6 : m6.IsWhole) (m7 : Memref sig .tc .vmem S256x2048 .bf16) (w7 : m7.IsWhole)
  (m8 : Memref sig .tc .vmem S256x1024 .f32) (w8 : m8.IsWhole) (m9 : Memref sig .tc .vmem S256x1024 .f32) (w9 : m9.IsWhole)
  (A D K P Q : ℕ → ℕ → ℝ) (r : ℕ)

/-- The four heads' stores, side by side. -/
theorem canon_heads (f0 f1 f2 f3 G : ℕ → ℕ → ℝ) (L : List (View.Piece (Elt Ideal) S256x1024 .f32))
    (h0 : ∀ i j, j < 256 → f0 i j = G i j) (h1 : ∀ i j, j < 256 → f1 i j = G i (256 + j))
    (h2 : ∀ i j, j < 256 → f2 i j = G i (512 + j)) (h3 : ∀ i j, j < 256 → f3 i j = G i (768 + j)) :
    View.canon (Val := Elt Ideal) (e := .f32)
      (⟨Rect.unit ![0, 768] ![256, 256] inb_S256x1024_S256x256_0_768, (cv f3 : FVec Ideal S256x256 .f32)⟩ ::
       ⟨Rect.unit ![0, 512] ![256, 256] inb_S256x1024_S256x256_0_512, (cv f2 : FVec Ideal S256x256 .f32)⟩ ::
       ⟨Rect.unit ![0, 256] ![256, 256] inb_S256x1024_S256x256_0_256, (cv f1 : FVec Ideal S256x256 .f32)⟩ ::
       ⟨Rect.unit ![0, 0] ![256, 256] inb_S256x1024_S256x256_0_0, (cv f0 : FVec Ideal S256x256 .f32)⟩ :: L)
      = (cv G : FVec Ideal S256x1024 .f32) := by
  funext y
  have y0 : (y 0).val < 256 := (y 0).isLt
  have y1 : (y 1).val < 1024 := (y 1).isLt
  refine canon_cv_cons_f32 _ _ _ _ _ (fun i _ j hj => by rw [h3 i j hj, Nat.zero_add]) fun n3 => ?_
  refine canon_cv_cons_f32 _ _ _ _ _ (fun i _ j hj => by rw [h2 i j hj, Nat.zero_add]) fun n2 => ?_
  refine canon_cv_cons_f32 _ _ _ _ _ (fun i _ j hj => by rw [h1 i j hj, Nat.zero_add]) fun n1 => ?_
  refine canon_cv_cons_f32 _ _ _ _ _ (fun i _ j hj => by rw [h0 i j hj, Nat.zero_add, Nat.zero_add]) fun n0 => ?_
  omega

theorem head_div {h : ℕ} (hh : h % 256 = 0) {j : ℕ} (hj : j < 256) : 256 * ((h + j) / 256) = h := by omega
theorem head_mod {h : ℕ} (hh : h % 256 = 0) {j : ℕ} (hj : j < 256) : (h + j) % 256 = j := by omega

/-- One head's columns of the two accumulated gradients. -/
theorem dk_at (n m h j : ℕ) (hh : h % 256 = 0) (hj : j < 256) : dk A D K r n m (h + j) = ∑ i : Fin n, dkRow A D K h (r + i) m j := by
  simp only [dk, head_div hh hj, head_mod hh hj]
theorem dv_at (n m h j : ℕ) (hh : h % 256 = 0) (hj : j < 256) : dv A D K r n m (h + j) = ∑ i : Fin n, dvRow A D K h (r + i) m j := by
  simp only [dv, head_div hh hj, head_mod hh hj]
theorem dk_at0 (n m j : ℕ) (hj : j < 256) : dk A D K r n m j = ∑ i : Fin n, dkRow A D K 0 (r + i) m j := by
  rw [← dk_at A D K r n m 0 j rfl hj, Nat.zero_add]
theorem dv_at0 (n m j : ℕ) (hj : j < 256) : dv A D K r n m j = ∑ i : Fin n, dvRow A D K 0 (r + i) m j := by
  rw [← dv_at A D K r n m 0 j rfl hj, Nat.zero_add]

/-- The four heads' stores of the two halves. -/
theorem canon_halves (f0 f1 f2 f3 g0 g1 g2 g3 G : ℕ → ℕ → ℝ) (L : List (View.Piece (Elt Ideal) S256x2048 .bf16))
    (h0 : ∀ i j, j < 256 → f0 i j = G i j) (h1 : ∀ i j, j < 256 → f1 i j = G i (256 + j))
    (h2 : ∀ i j, j < 256 → f2 i j = G i (512 + j)) (h3 : ∀ i j, j < 256 → f3 i j = G i (768 + j))
    (k0 : ∀ i j, j < 256 → g0 i j = G i (1024 + j)) (k1 : ∀ i j, j < 256 → g1 i j = G i (1280 + j))
    (k2 : ∀ i j, j < 256 → g2 i j = G i (1536 + j)) (k3 : ∀ i j, j < 256 → g3 i j = G i (1792 + j)) :
    View.canon (Val := Elt Ideal) (e := .bf16)
      (⟨Rect.unit ![0, 768] ![256, 256] inb_S256x2048_S256x256_0_768, (cv f3 : FVec Ideal S256x256 .bf16)⟩ ::
       ⟨Rect.unit ![0, 1792] ![256, 256] inb_S256x2048_S256x256_0_1792, (cv g3 : FVec Ideal S256x256 .bf16)⟩ ::
       ⟨Rect.unit ![0, 512] ![256, 256] inb_S256x2048_S256x256_0_512, (cv f2 : FVec Ideal S256x256 .bf16)⟩ ::
       ⟨Rect.unit ![0, 1536] ![256, 256] inb_S256x2048_S256x256_0_1536, (cv g2 : FVec Ideal S256x256 .bf16)⟩ ::
       ⟨Rect.unit ![0, 256] ![256, 256] inb_S256x2048_S256x256_0_256, (cv f1 : FVec Ideal S256x256 .bf16)⟩ ::
       ⟨Rect.unit ![0, 1280] ![256, 256] inb_S256x2048_S256x256_0_1280, (cv g1 : FVec Ideal S256x256 .bf16)⟩ ::
       ⟨Rect.unit ![0, 0] ![256, 256] inb_S256x2048_S256x256_0_0, (cv f0 : FVec Ideal S256x256 .bf16)⟩ ::
       ⟨Rect.unit ![0, 1024] ![256, 256] inb_S256x2048_S256x256_0_1024, (cv g0 : FVec Ideal S256x256 .bf16)⟩ :: L)
      = (cv G : FVec Ideal S256x2048 .bf16) := by
  funext y
  have y0 : (y 0).val < 256 := (y 0).isLt
  have y1 : (y 1).val < 2048 := (y 1).isLt
  refine canon_cv_cons_bf16 _ _ _ _ _ (fun i _ j hj => by rw [h3 i j hj, Nat.zero_add]) fun n3 => ?_
  refine canon_cv_cons_bf16 _ _ _ _ _ (fun i _ j hj => by rw [k3 i j hj, Nat.zero_add]) fun p3 => ?_
  refine canon_cv_cons_bf16 _ _ _ _ _ (fun i _ j hj => by rw [h2 i j hj, Nat.zero_add]) fun n2 => ?_
  refine canon_cv_cons_bf16 _ _ _ _ _ (fun i _ j hj => by rw [k2 i j hj, Nat.zero_add]) fun p2 => ?_
  refine canon_cv_cons_bf16 _ _ _ _ _ (fun i _ j hj => by rw [h1 i j hj, Nat.zero_add]) fun n1 => ?_
  refine canon_cv_cons_bf16 _ _ _ _ _ (fun i _ j hj => by rw [k1 i j hj, Nat.zero_add]) fun p1 => ?_
  refine canon_cv_cons_bf16 _ _ _ _ _ (fun i _ j hj => by rw [h0 i j hj, Nat.zero_add, Nat.zero_add]) fun n0 => ?_
  refine canon_cv_cons_bf16 _ _ _ _ _ (fun i _ j hj => by rw [k0 i j hj, Nat.zero_add]) fun p0 => ?_
  omega

/-- One head's columns of the gradient before the gates: the queries' half and the gate's. -/
theorem dz_at (s h j : ℕ) (hh : h % 256 = 0) (hl : h < 1024) (hj : j < 256) : dz A D K s (h + j) = dq A D K h s j := by
  simp only [dz, head_div hh hj, head_mod hh hj]
  exact if_pos (by omega)
theorem dz_gate (s h h' j : ℕ) (hh : h % 256 = 0) (e : h' = 1024 + h) (hj : j < 256) : dz A D K s (h' + j) = dgate A D K h s j := by
  subst e
  have e' : 1024 + h + j - 1024 = h + j := by omega
  simp only [dz, e', head_div hh hj, head_mod hh hj]
  exact if_neg (by omega)
theorem dz_at0 (s j : ℕ) (hj : j < 256) : dz A D K s j = dq A D K 0 s j := by
  rw [← dz_at A D K s 0 j rfl (by omega) hj, Nat.zero_add]

theorem score_zero (s : ℕ) : score A K 0 s = fun m => (∑ e : Fin 256, A s (6144 + e) * K m e) * (1 / 16) := by
  funext m; simp only [score, Nat.zero_add]

/-- A later point adds its rows to the gradient of the keys. -/
theorem out_B_8 (h : ¬cond0_0 i) :
    out0_B_8 (F := Ideal) c i m0 w0 m1 w1 m2 w2 m3 w3 m4 w4 m5 w5 m6 w6 m7 w7 m8 w8 m9 w9 h
      (cv (φ := .f32) fun i j => A (r + i) (6144 + j)) (cv (φ := .f32) fun i j => A (r + i) (7168 + j)) (cv3 (φ := .f32) fun _ i j => D (r + i) j)
      (cv (φ := .bf16) fun i j => K j i) (cv (φ := .bf16) fun i j => K j (1024 + i)) (cv (φ := .bf16) fun i j => K i j)
      (cv (φ := .bf16) fun i j => K i (1024 + j)) (cv (φ := .f32) P) (cv (φ := .f32) Q)
      = cv (φ := .f32) fun m j => P m j + dk A D K r 256 m j := by
  frame_open
  simp (disch := decide) only [↓ View.readCov_skip, ↓ View.readCov_cons_toLoadRect, ↓ View.readCov_fill]
  frame_out
  unfold_payloads
  simp (disch := first | (intros; positivity) | exact fun _ _ _ _ => (Finset.sum_pos (fun _ _ => Real.exp_pos _) ⟨⟨0, by decide⟩, Finset.mem_univ _⟩).ne') only [multiReductionOpen, Ideal.reduceAdd_def, ld_cv_f32, ld_cv_bf16, ld_cv3_f32, Nat.zero_add, shapeCast_self_cv, shapeCast_slab_cv, truncf_cv, matmul_nn, matmul_tn, Ideal.ofBits_def,
    ofBits_sixteenth, ofBits_one, ofBits_zero, broadcast_cv, mulf_cv, addf_cv, subf_cv, exp_cv, rowMax_cv, rowSum, divf_cv]
  exact canon_heads _ _ _ _ _ _ (fun i j hj => by rw [dk_at0 A D K r 256 i j hj]; simp only [dkRow, dvRow, dq, dgate, att, dsilu, dscore, prob, dprob, datt, soft, score_zero, silu, logi, Nat.zero_add, zero_add]) (fun i j hj => by rw [dk_at A D K r 256 i 256 j rfl hj]; rfl)
    (fun i j hj => by rw [dk_at A D K r 256 i 512 j rfl hj]; rfl) (fun i j hj => by rw [dk_at A D K r 256 i 768 j rfl hj]; rfl)

/-- A later point adds its rows to the gradient of the values. -/
theorem out_B_9 (h : ¬cond0_0 i) :
    out0_B_9 (F := Ideal) c i m0 w0 m1 w1 m2 w2 m3 w3 m4 w4 m5 w5 m6 w6 m7 w7 m8 w8 m9 w9 h
      (cv (φ := .f32) fun i j => A (r + i) (6144 + j)) (cv (φ := .f32) fun i j => A (r + i) (7168 + j)) (cv3 (φ := .f32) fun _ i j => D (r + i) j)
      (cv (φ := .bf16) fun i j => K j i) (cv (φ := .bf16) fun i j => K j (1024 + i)) (cv (φ := .bf16) fun i j => K i j)
      (cv (φ := .bf16) fun i j => K i (1024 + j)) (cv (φ := .f32) P) (cv (φ := .f32) Q)
      = cv (φ := .f32) fun m j => Q m j + dv A D K r 256 m j := by
  frame_open
  simp (disch := decide) only [↓ View.readCov_skip, ↓ View.readCov_cons_toLoadRect, ↓ View.readCov_fill]
  frame_out
  unfold_payloads
  simp (disch := first | (intros; positivity) | exact fun _ _ _ _ => (Finset.sum_pos (fun _ _ => Real.exp_pos _) ⟨⟨0, by decide⟩, Finset.mem_univ _⟩).ne') only [multiReductionOpen, Ideal.reduceAdd_def, ld_cv_f32, ld_cv_bf16, ld_cv3_f32, Nat.zero_add, shapeCast_self_cv, shapeCast_slab_cv, truncf_cv, matmul_nn, matmul_tn, Ideal.ofBits_def,
    ofBits_sixteenth, ofBits_one, ofBits_zero, broadcast_cv, mulf_cv, addf_cv, subf_cv, exp_cv, rowMax_cv, rowSum, divf_cv]
  exact canon_heads _ _ _ _ _ _ (fun i j hj => by rw [dv_at0 A D K r 256 i j hj]; simp only [dkRow, dvRow, dq, dgate, att, dsilu, dscore, prob, dprob, datt, soft, score_zero, silu, logi, Nat.zero_add, zero_add]) (fun i j hj => by rw [dv_at A D K r 256 i 256 j rfl hj]; rfl)
    (fun i j hj => by rw [dv_at A D K r 256 i 512 j rfl hj]; rfl) (fun i j hj => by rw [dv_at A D K r 256 i 768 j rfl hj]; rfl)

/-- The first point's rows, into the gradient of the keys. -/
theorem out_A_8 (h : cond0_0 i) :
    out0_A_8 (F := Ideal) c i m0 w0 m1 w1 m2 w2 m3 w3 m4 w4 m5 w5 m6 w6 m7 w7 m8 w8 m9 w9 h
      (cv (φ := .f32) fun i j => A (r + i) (6144 + j)) (cv (φ := .f32) fun i j => A (r + i) (7168 + j)) (cv3 (φ := .f32) fun _ i j => D (r + i) j)
      (cv (φ := .bf16) fun i j => K j i) (cv (φ := .bf16) fun i j => K j (1024 + i)) (cv (φ := .bf16) fun i j => K i j)
      (cv (φ := .bf16) fun i j => K i (1024 + j))
      = cv (φ := .f32) fun m j => dk A D K r 256 m j := by
  frame_open
  simp (disch := decide) only [↓ View.readCov_skip, ↓ View.readCov_cons_toLoadRect, ↓ View.readCov_fill]
  frame_out
  unfold_payloads
  simp (disch := first | (intros; positivity) | exact fun _ _ _ _ => (Finset.sum_pos (fun _ _ => Real.exp_pos _) ⟨⟨0, by decide⟩, Finset.mem_univ _⟩).ne') only [multiReductionOpen, Ideal.reduceAdd_def, ld_cv_f32, ld_cv_bf16, ld_cv3_f32, Nat.zero_add, shapeCast_self_cv, shapeCast_slab_cv, truncf_cv, matmul_nn, matmul_tn, Ideal.ofBits_def,
    ofBits_sixteenth, ofBits_one, ofBits_zero, broadcast_cv, mulf_cv, addf_cv, subf_cv, exp_cv, rowMax_cv, rowSum, divf_cv]
  exact canon_heads _ _ _ _ _ _ (fun i j hj => by rw [dk_at0 A D K r 256 i j hj]; simp only [dkRow, dvRow, dq, dgate, att, dsilu, dscore, prob, dprob, datt, soft, score_zero, silu, logi, Nat.zero_add, zero_add]) (fun i j hj => by rw [dk_at A D K r 256 i 256 j rfl hj]; simp only [Nat.zero_add, zero_add]; rfl)
    (fun i j hj => by rw [dk_at A D K r 256 i 512 j rfl hj]; simp only [Nat.zero_add, zero_add]; rfl) (fun i j hj => by rw [dk_at A D K r 256 i 768 j rfl hj]; simp only [Nat.zero_add, zero_add]; rfl)

/-- The first point's rows, into the gradient of the values. -/
theorem out_A_9 (h : cond0_0 i) :
    out0_A_9 (F := Ideal) c i m0 w0 m1 w1 m2 w2 m3 w3 m4 w4 m5 w5 m6 w6 m7 w7 m8 w8 m9 w9 h
      (cv (φ := .f32) fun i j => A (r + i) (6144 + j)) (cv (φ := .f32) fun i j => A (r + i) (7168 + j)) (cv3 (φ := .f32) fun _ i j => D (r + i) j)
      (cv (φ := .bf16) fun i j => K j i) (cv (φ := .bf16) fun i j => K j (1024 + i)) (cv (φ := .bf16) fun i j => K i j)
      (cv (φ := .bf16) fun i j => K i (1024 + j))
      = cv (φ := .f32) fun m j => dv A D K r 256 m j := by
  frame_open
  simp (disch := decide) only [↓ View.readCov_skip, ↓ View.readCov_cons_toLoadRect, ↓ View.readCov_fill]
  frame_out
  unfold_payloads
  simp (disch := first | (intros; positivity) | exact fun _ _ _ _ => (Finset.sum_pos (fun _ _ => Real.exp_pos _) ⟨⟨0, by decide⟩, Finset.mem_univ _⟩).ne') only [multiReductionOpen, Ideal.reduceAdd_def, ld_cv_f32, ld_cv_bf16, ld_cv3_f32, Nat.zero_add, shapeCast_self_cv, shapeCast_slab_cv, truncf_cv, matmul_nn, matmul_tn, Ideal.ofBits_def,
    ofBits_sixteenth, ofBits_one, ofBits_zero, broadcast_cv, mulf_cv, addf_cv, subf_cv, exp_cv, rowMax_cv, rowSum, divf_cv]
  exact canon_heads _ _ _ _ _ _ (fun i j hj => by rw [dv_at0 A D K r 256 i j hj]; simp only [dkRow, dvRow, dq, dgate, att, dsilu, dscore, prob, dprob, datt, soft, score_zero, silu, logi, Nat.zero_add, zero_add]) (fun i j hj => by rw [dv_at A D K r 256 i 256 j rfl hj]; simp only [Nat.zero_add, zero_add]; rfl)
    (fun i j hj => by rw [dv_at A D K r 256 i 512 j rfl hj]; simp only [Nat.zero_add, zero_add]; rfl) (fun i j hj => by rw [dv_at A D K r 256 i 768 j rfl hj]; simp only [Nat.zero_add, zero_add]; rfl)

/-- The rows of the gradient before the gates, at the first point. -/
theorem out_A_7 (h : cond0_0 i) :
    out0_A_7 (F := Ideal) c i m0 w0 m1 w1 m2 w2 m3 w3 m4 w4 m5 w5 m6 w6 m7 w7 m8 w8 m9 w9 h
      (cv (φ := .f32) fun i j => A (r + i) (6144 + j)) (cv (φ := .f32) fun i j => A (r + i) (7168 + j)) (cv3 (φ := .f32) fun _ i j => D (r + i) j)
      (cv (φ := .bf16) fun i j => K j i) (cv (φ := .bf16) fun i j => K j (1024 + i)) (cv (φ := .bf16) fun i j => K i j)
      (cv (φ := .bf16) fun i j => K i (1024 + j))
      = cv (φ := .bf16) fun i j => dz A D K (r + i) j := by
  frame_open
  simp (disch := decide) only [↓ View.readCov_skip, ↓ View.readCov_cons_toLoadRect, ↓ View.readCov_fill]
  frame_out
  unfold_payloads
  simp (disch := first | (intros; positivity) | exact fun _ _ _ _ => (Finset.sum_pos (fun _ _ => Real.exp_pos _) ⟨⟨0, by decide⟩, Finset.mem_univ _⟩).ne') only [multiReductionOpen, Ideal.reduceAdd_def, ld_cv_f32, ld_cv_bf16, ld_cv3_f32, Nat.zero_add, shapeCast_self_cv, shapeCast_slab_cv, truncf_cv, matmul_nn, matmul_tn, Ideal.ofBits_def,
    ofBits_sixteenth, ofBits_one, ofBits_zero, broadcast_cv, mulf_cv, addf_cv, subf_cv, exp_cv, rowMax_cv, rowSum, divf_cv]
  exact canon_halves _ _ _ _ _ _ _ _ _ _
    (fun i j hj => by rw [dz_at0 A D K (r + i) j hj]; simp only [dkRow, dvRow, dq, dgate, att, dsilu, dscore, prob, dprob, datt, soft, score_zero, silu, logi, Nat.zero_add, zero_add])
    (fun i j hj => by rw [dz_at A D K (r + i) 256 j rfl (by omega) hj]; rfl)
    (fun i j hj => by rw [dz_at A D K (r + i) 512 j rfl (by omega) hj]; rfl)
    (fun i j hj => by rw [dz_at A D K (r + i) 768 j rfl (by omega) hj]; rfl)
    (fun i j hj => by rw [dz_gate A D K (r + i) 0 1024 j rfl rfl hj]; simp only [dkRow, dvRow, dq, dgate, att, dsilu, dscore, prob, dprob, datt, soft, score_zero, silu, logi, Nat.zero_add, zero_add])
    (fun i j hj => by rw [dz_gate A D K (r + i) 256 1280 j rfl rfl hj]; rfl)
    (fun i j hj => by rw [dz_gate A D K (r + i) 512 1536 j rfl rfl hj]; rfl)
    (fun i j hj => by rw [dz_gate A D K (r + i) 768 1792 j rfl rfl hj]; rfl)

/-- The rows of the gradient before the gates. -/
theorem out_B_7 (h : ¬cond0_0 i) :
    out0_B_7 (F := Ideal) c i m0 w0 m1 w1 m2 w2 m3 w3 m4 w4 m5 w5 m6 w6 m7 w7 m8 w8 m9 w9 h
      (cv (φ := .f32) fun i j => A (r + i) (6144 + j)) (cv (φ := .f32) fun i j => A (r + i) (7168 + j)) (cv3 (φ := .f32) fun _ i j => D (r + i) j)
      (cv (φ := .bf16) fun i j => K j i) (cv (φ := .bf16) fun i j => K j (1024 + i)) (cv (φ := .bf16) fun i j => K i j)
      (cv (φ := .bf16) fun i j => K i (1024 + j)) (cv (φ := .f32) P) (cv (φ := .f32) Q)
      = cv (φ := .bf16) fun i j => dz A D K (r + i) j := by
  frame_open
  simp (disch := decide) only [↓ View.readCov_skip, ↓ View.readCov_cons_toLoadRect, ↓ View.readCov_fill]
  frame_out
  unfold_payloads
  simp (disch := first | (intros; positivity) | exact fun _ _ _ _ => (Finset.sum_pos (fun _ _ => Real.exp_pos _) ⟨⟨0, by decide⟩, Finset.mem_univ _⟩).ne') only [multiReductionOpen, Ideal.reduceAdd_def, ld_cv_f32, ld_cv_bf16, ld_cv3_f32, Nat.zero_add, shapeCast_self_cv, shapeCast_slab_cv, truncf_cv, matmul_nn, matmul_tn, Ideal.ofBits_def,
    ofBits_sixteenth, ofBits_one, ofBits_zero, broadcast_cv, mulf_cv, addf_cv, subf_cv, exp_cv, rowMax_cv, rowSum, divf_cv]
  exact canon_halves _ _ _ _ _ _ _ _ _ _
    (fun i j hj => by rw [dz_at0 A D K (r + i) j hj]; simp only [dkRow, dvRow, dq, dgate, att, dsilu, dscore, prob, dprob, datt, soft, score_zero, silu, logi, Nat.zero_add, zero_add])
    (fun i j hj => by rw [dz_at A D K (r + i) 256 j rfl (by omega) hj]; rfl)
    (fun i j hj => by rw [dz_at A D K (r + i) 512 j rfl (by omega) hj]; rfl)
    (fun i j hj => by rw [dz_at A D K (r + i) 768 j rfl (by omega) hj]; rfl)
    (fun i j hj => by rw [dz_gate A D K (r + i) 0 1024 j rfl rfl hj]; simp only [dkRow, dvRow, dq, dgate, att, dsilu, dscore, prob, dprob, datt, soft, score_zero, silu, logi, Nat.zero_add, zero_add])
    (fun i j hj => by rw [dz_gate A D K (r + i) 256 1280 j rfl rfl hj]; rfl)
    (fun i j hj => by rw [dz_gate A D K (r + i) 512 1536 j rfl rfl hj]; rfl)
    (fun i j hj => by rw [dz_gate A D K (r + i) 768 1792 j rfl rfl hj]; rfl)

end Cert.Block
-- ==== Proof.Arrays.lean ====
/-
  The blocks of the finite argument arrays that one grid point works on.
-/
module

public import proofs.«01_k».proof.Proof.Block
public import Idealize.ShloMosaic.Lib.Pipeline.ValueKit
public import Idealize.ShloMosaic.Lib.Claim

@[expose] public section

noncomputable section

namespace Cert.Arrays

open Cert.KernelIdeal Cert.KernelIdeal.Gen Idealize.ShloMosaic Idealize.ShloMosaic.TcCoe Idealize.SL.Sem
open Cert.RealArr Cert.Model
open Idealize.ShloMosaic.Pipeline (Dat Cfg Window)

variable (m : (ℓ : Loc nD τ sig) → Buf (Elt Ideal) ℓ) (c : Dev nD)
variable (A : ℕ → ℕ → ℝ) (D : ℕ → ℕ → ℕ → ℝ) (K : ℕ → ℕ → ℝ)

/-- The argument arrays hold reals. -/
structure Holds : Prop where
  z : m ((c : Thread nD τ).loc main_arg0) = (cv (φ := .f32) A : FVec Ideal S8192x11264 .f32)
  d : m ((c : Thread nD τ).loc main_arg1) = (cv3 (φ := .f32) D : FVec Ideal S2x8192x1024 .f32)
  k : m ((c : Thread nD τ).loc main_arg2) = (cv (φ := .bf16) K : FVec Ideal S256x2048 .bf16)

/-- Where each window's block lies. -/
theorem idx : ∀ t : Fin grid0.N, win0_0.index t = ![t.val, 6] ∧ win0_1.index t = ![t.val, 7] ∧ win0_2.index t = ![1, t.val, 0]
    ∧ win0_3.index t = ![0, 0] ∧ win0_4.index t = ![1, 0] ∧ win0_5.index t = ![0, 0] ∧ win0_6.index t = ![0, 1]
    ∧ win0_7.index t = ![t.val, 0] ∧ win0_8.index t = ![0, 0] ∧ win0_9.index t = ![0, 0] := by decide +kernel

/-- The rows before row `r`, and the `n` rows from it. -/
theorem dk_add (A D K : ℕ → ℕ → ℝ) (r n a b : ℕ) : dk A D K 0 (r + n) a b = dk A D K 0 r a b + dk A D K r n a b := by
  simp only [dk, Fin.sum_univ_add, Fin.val_castAdd, Fin.val_natAdd, Nat.zero_add]
theorem dv_add (A D K : ℕ → ℕ → ℝ) (r n a b : ℕ) : dv A D K 0 (r + n) a b = dv A D K 0 r a b + dv A D K r n a b := by
  simp only [dv, Fin.sum_univ_add, Fin.val_castAdd, Fin.val_natAdd, Nat.zero_add]

variable {m c A D K} (H : Holds m c A D K) (t : Fin cfg0.N)
include H

theorem block0 : iblk m c 0 t = (cv (φ := .f32) fun i j => A (256 * t + i) (6144 + j) : FVec Ideal S256x1024 .f32) := by
  funext y
  blk_simp [iblk]
  rw [V_main_arg0, H.z]
  refine cv_at ?_
  blk_simp [(idx t).1]
  try rw [Nat.mul_comm]

theorem block1 : iblk m c 1 t = (cv (φ := .f32) fun i j => A (256 * t + i) (7168 + j) : FVec Ideal S256x1024 .f32) := by
  funext y
  blk_simp [iblk]
  rw [V_main_arg0, H.z]
  refine cv_at ?_
  blk_simp [(idx t).2.1]
  try rw [Nat.mul_comm]

theorem block2 : iblk m c 2 t = (cv3 (φ := .f32) fun _ i j => D 1 (256 * t + i) j : FVec Ideal S1x256x1024 .f32) := by
  funext y
  blk_simp [iblk]
  rw [V_main_arg1, H.d]
  refine cv3_at ?_
  blk_simp [(idx t).2.2.1]
  try rw [Nat.mul_comm]

theorem block5 : iblk m c 5 t = (cv (φ := .bf16) fun i j => K i j : FVec Ideal S256x1024 .bf16) := by
  funext y
  blk_simp [iblk]
  rw [V_main_arg2, H.k]
  refine cv_at ?_
  blk_simp [(idx t).2.2.2.2.2.1]
  try rw [Nat.mul_comm]

theorem block6 : iblk m c 6 t = (cv (φ := .bf16) fun i j => K i (1024 + j) : FVec Ideal S256x1024 .bf16) := by
  funext y
  blk_simp [iblk]
  rw [V_main_arg2, H.k]
  refine cv_at ?_
  blk_simp [(idx t).2.2.2.2.2.2.1]
  try rw [Nat.mul_comm]

theorem block3 : iblk m c 3 t = (cv (φ := .bf16) fun i j => K j i : FVec Ideal S1024x256 .bf16) := by
  funext y
  blk_simp [iblk]
  entry_read
  erw [H.k]
  pointwise
  refine cv_at ?_
  blk_simp [(idx t).2.2.2.1]

theorem block4 : iblk m c 4 t = (cv (φ := .bf16) fun i j => K j (1024 + i) : FVec Ideal S1024x256 .bf16) := by
  funext y
  blk_simp [iblk]
  entry_read
  erw [H.k]
  pointwise
  refine cv_at ?_
  blk_simp [(idx t).2.2.2.2.1]

/-- After point `t` the two accumulators hold the rows of points 0 … t, summed, and the first result's block the rows of point `t`. -/
theorem outs (n : ℕ) (hn : n < cfg0.N) : outsAt0 m c n hn
    = ((cv (φ := .bf16) fun i j => dz A (D 1) K (256 * n + i) j : FVec Ideal S256x2048 .bf16),
       (cv (φ := .f32) (dk A (D 1) K 0 (256 * n + 256)) : FVec Ideal S256x1024 .f32),
       (cv (φ := .f32) (dv A (D 1) K 0 (256 * n + 256)) : FVec Ideal S256x1024 .f32)) := by
  induction n with
  | zero =>
    refine (outsAt0_A m c ⟨0, hn⟩ rfl).trans ?_
    rw [block0 H, block1 H, block2 H, block3 H, block4 H, block5 H, block6 H, Block.out_A_7, Block.out_A_8, Block.out_A_9]
    simp only [Nat.mul_zero, Nat.zero_add]
  | succ n ih =>
    have h32 : n + 1 < 32 := hn
    refine (outsAt0_B m c ⟨n + 1, hn⟩ (by dsimp only; omega)).trans ?_
    dsimp only
    have ih' := ih (Nat.lt_of_succ_lt hn)
    rw [show outsAt0 m c (n + 1 - 1) (Nat.lt_of_le_of_lt (Nat.sub_le _ _) hn) = _ from ih', block0 H, block1 H, block2 H, block3 H, block4 H, block5 H, block6 H, Block.out_B_7, Block.out_B_8, Block.out_B_9]
    exact congrArg _ (congrArg₂ _ (congrArg _ (funext₂ fun a b => (dk_add A (D 1) K _ _ a b).symm)) (congrArg _ (funext₂ fun a b => (dv_add A (D 1) K _ _ a b).symm)))

theorem final7 : (dats m 0 c).arrAt 7 cfg0.N = (cv (φ := .bf16) (dz A (D 1) K) : FVec Ideal S8192x2048 .bf16) := by
  refine (dats m 0 c).arrAt_eq_of_covers 7 _ (by decide +kernel) fun t hf y => ?_
  blk_simp
  rw [after0_7, outs H]
  dsimp only
  refine cv_at (φ := .bf16) (ψ := .bf16) ?_
  blk_simp [(idx t).2.2.2.2.2.2.2.1]
  rw [Nat.mul_comm]

theorem final8 : (dats m 0 c).arrAt 8 cfg0.N = (cv (φ := .f32) (dk A (D 1) K 0 8192) : FVec Ideal S256x1024 .f32) := by
  refine (dats m 0 c).arrAt_eq_of_covers 8 _ (by decide +kernel) fun t hf y => ?_
  have ht : t.val < 32 := t.isLt
  have hf' := (flush0_8 t).mp hf
  blk_simp
  rw [after0_8, outs H]
  dsimp only
  refine cv_at (φ := .f32) (ψ := .f32) ?_
  blk_simp [(idx t).2.2.2.2.2.2.2.2.1]
  rw [show 256 * t.val + 256 = 8192 by omega]

theorem final9 : (dats m 0 c).arrAt 9 cfg0.N = (cv (φ := .f32) (dv A (D 1) K 0 8192) : FVec Ideal S256x1024 .f32) := by
  refine (dats m 0 c).arrAt_eq_of_covers 9 _ (by decide +kernel) fun t hf y => ?_
  have ht : t.val < 32 := t.isLt
  have hf' := (flush0_9 t).mp hf
  blk_simp
  rw [after0_9, outs H]
  dsimp only
  refine cv_at (φ := .f32) (ψ := .f32) ?_
  blk_simp [(idx t).2.2.2.2.2.2.2.2.2]
  rw [show 256 * t.val + 256 = 8192 by omega]

end Cert.Arrays
-- ==== Proof.RefValue.lean ====
/-
  The reference's results at finite arguments. Each stage of the reference, read one operation at a time, is a finite array, named by the real
  functions of Model.lean; head `h`'s columns begin at `256 * h`. The last three theorems are the three results. The one stage that is not read
  off is the softmax's gradient, which the reference writes as the derivative of a quotient: `dscore_quotient` is the algebra that brings it to
  the product form.
-/
module

public import proofs.«01_k».proof.Proof.Model
public import proofs.«01_k».proof.Proof.Gen.ReferenceIdeal.Read

@[expose] public section

noncomputable section

namespace Cert.RefValue

open Cert.ReferenceIdeal Cert.ReferenceIdeal.Gen Cert.ReferenceIdeal.Read Cert.RealArr Cert.Model Idealize.ShloMosaic Idealize.ShloMosaic.StableHlo

theorem coe_at2 (f : ℕ → ℕ → ℝ) {a a' b b' : ℕ} (h0 : a = a') (h1 : b = b') : ((f a b : ℝ) : EReal) = ((f a' b' : ℝ) : EReal) := by
  rw [h0, h1]

theorem coe_at3 (f : ℕ → ℕ → ℕ → ℝ) {a a' b b' c c' : ℕ} (h0 : a = a') (h1 : b = b') (h2 : c = c') :
    ((f a b c : ℝ) : EReal) = ((f a' b' c' : ℝ) : EReal) := by
  rw [h0, h1, h2]

/-- A sum of products of reals. -/
theorem sum_mul_coe {n : ℕ} (f g : Fin n → ℝ) : (∑ k : Fin n, (f k : EReal) * (g k : EReal)) = ((∑ k : Fin n, f k * g k : ℝ) : EReal) := by
  rw [coe_sum]; rfl

variable (A : ℕ → ℕ → ℝ) (D : ℕ → ℕ → ℕ → ℝ) (K : ℕ → ℕ → ℝ)

/-- The three arguments. -/
abbrev xz : FVec Ideal S8192x11264 .f32 := cv A
abbrev xd : FVec Ideal S2x8192x1024 .f32 := cv3 D
abbrev xk : FVec Ideal S256x2048 .bf16 := cv K

/-! ## The arguments' parts -/

theorem s1 : val_main_v1 (F := Ideal) (xz A) = (cv (φ := .f32) fun s c => A s (6144 + c) : FVec Ideal S8192x1024 .f32) := by
  funext i; rw [val_main_v1_apply]; rfl

theorem s2 : val_main_v2 (F := Ideal) (xz A) = (cv (φ := .f32) fun s c => A s (7168 + c) : FVec Ideal S8192x1024 .f32) := by
  funext i; rw [val_main_v2_apply]; rfl

theorem s3 : val_main_v3 (F := Ideal) (xk K) = (cv (φ := .f32) fun m c => K m c : FVec Ideal S256x1024 .f32) := by
  funext i; rw [val_main_v3_apply]; rfl

theorem s4 : val_main_v4 (F := Ideal) (xk K) = (cv (φ := .f32) fun m c => K m (1024 + c) : FVec Ideal S256x1024 .f32) := by
  funext i; rw [val_main_v4_apply]; rfl

theorem s5 : val_main_v5 (F := Ideal) (xz A) = (cv3 (φ := .f32) fun s h e => A s (6144 + (256 * h + e)) : FVec Ideal S8192x4x256 .f32) := by
  funext i
  have h1 : (i 1).val < 4 := (i 1).isLt
  have h2 : (i 2).val < 256 := (i 2).isLt
  rw [val_main_v5_apply, s1]
  exact coe_at2 A (by dsimp only; omega) (by dsimp only; omega)

theorem s6 : val_main_v6 (F := Ideal) (xk K) = (cv3 (φ := .f32) fun m h e => K m (256 * h + e) : FVec Ideal S256x4x256 .f32) := by
  funext i
  have h1 : (i 1).val < 4 := (i 1).isLt
  have h2 : (i 2).val < 256 := (i 2).isLt
  rw [val_main_v6_apply, s3]
  exact coe_at2 K (by dsimp only; omega) (by dsimp only; omega)

theorem s7 : val_main_v7 (F := Ideal) (xk K) = (cv3 (φ := .f32) fun m h e => K m (1024 + (256 * h + e)) : FVec Ideal S256x4x256 .f32) := by
  funext i
  have h1 : (i 1).val < 4 := (i 1).isLt
  have h2 : (i 2).val < 256 := (i 2).isLt
  rw [val_main_v7_apply, s4]
  exact coe_at2 K (by dsimp only; omega) (by dsimp only; omega)

/-! ## The weights -/

theorem s10 : val_main_v10 (F := Ideal) (xz A) (xk K) = (cv3 (φ := .f32) fun h s m => score A K (256 * h) s m : FVec Ideal S4x8192x256 .f32) := by
  funext i
  rw [val_main_v10_apply, val_main_v8_apply, s5, s6, val_main_v9_apply]
  show (∑ k : Fin 256, (_ : EReal) * _) * Ideal.ofBits .f32 0x3D800000#32 = _
  rw [ofBits_sixteenth]
  refine Eq.trans (congrArg (· * ((1 / 16 : ℝ) : EReal)) (sum_mul_coe _ _)) ?_
  exact (EReal.coe_mul _ _).symm

theorem s11 : val_main_v11 (F := Ideal) (xz A) (xk K)
    = (cv (φ := .f32) fun h s => top 256 (score A K (256 * h) s) : FVec Ideal S4x8192 .f32) := by
  funext i
  have hr : S4x8192x256.Reduces [2] S4x8192 := by decide
  unfold val_main_v11
  rw [s10]
  refine (Host.reduce_eq_fold_single (α := EReal) max _ _ reducesTo_S4x8192x256_S4x8192_d2 hr h_S_ i).trans ?_
  show Finset.fold max (Ideal.ofBits .f32 0xFF800000#32) _ _ = _
  rw [ofBits_neg_inf]
  exact fold_max_coe (n := 256) (by norm_num) (score A K (256 * (i 0).val) (i 1).val)

theorem s18 : val_main_v18 (F := Ideal) (xz A) (xk K)
    = (cv (φ := .f32) fun h s => top 256 (score A K (256 * h) s) : FVec Ideal S4x8192 .f32) := by
  funext i
  rw [val_main_v18_apply, s11, val_main_v17_apply]
  show max (Ideal.ofBits .f32 0xFF800000#32) _ = _
  rw [ofBits_neg_inf]
  exact max_eq_right bot_le

/-- The numerator and the denominator of the softmax. -/
def num (h s m : ℕ) : ℝ := Real.exp (score A K (256 * h) s m - top 256 (score A K (256 * h) s))
def den (h s : ℕ) : ℝ := ∑ k : Fin 256, num A K h s k

theorem den_ne (h s : ℕ) : den A K h s ≠ 0 :=
  (sumExp_pos 256 (by norm_num) fun k => score A K (256 * h) s k - top 256 (score A K (256 * h) s)).ne'

theorem s31 : val_main_v31 (F := Ideal) (xz A) (xk K) = (cv3 (φ := .f32) (num A K) : FVec Ideal S4x8192x256 .f32) := by
  funext i
  rw [val_main_v31_apply, val_main_v30_apply, s10, val_main_v29_apply, val_main_v28_apply, s18]
  exact Ideal.exp_coe _

theorem s33 : val_main_v33 (F := Ideal) (xz A) (xk K) = (cv3 (φ := .f32) fun h s _ => den A K h s : FVec Ideal S4x8192x1 .f32) := by
  funext i
  rw [val_main_v33_apply, val_main_v32_apply, s31]
  show Ideal.ofBits .f32 0x00000000#32 + _ = _
  rw [Ideal.ofBits_zero_f32, zero_add]
  exact (coe_sum _ _).symm

theorem s35 : val_main_v35 (F := Ideal) (xz A) (xk K) = (cv3 (φ := .f32) fun h s m => prob A K (256 * h) s m : FVec Ideal S4x8192x256 .f32) := by
  funext i
  rw [val_main_v35_apply, s31, val_main_v34_apply, s33]
  exact div_coe_coe _ (den_ne A K _ _)

theorem s38 : val_main_v38 (F := Ideal) (xz A) (xk K)
    = (cv3 (φ := .f32) fun h s _ => 1 / (den A K h s * den A K h s) : FVec Ideal S4x8192x1 .f32) := by
  funext i
  rw [val_main_v38_apply, val_main_v36_apply, s33, val_main_v37_apply]
  show Ideal.div (Ideal.ofBits .f32 0x3F800000#32) (((_ : ℝ) : EReal) * ((_ : ℝ) : EReal)) = _
  rw [ofBits_one, ← EReal.coe_mul]
  exact div_coe_coe _ (mul_ne_zero (den_ne A K _ _) (den_ne A K _ _))

theorem s41 : val_main_v41 (F := Ideal) (xz A) (xk K)
    = (cv (φ := .f32) fun s c => att A K (256 * (c / 256)) s (c % 256) : FVec Ideal S8192x1024 .f32) := by
  funext i
  have h1 : (i 1).val < 1024 := (i 1).isLt
  rw [val_main_v41_apply, val_main_v40_apply, val_main_v39_apply, s7, s35]
  refine (sum_mul_coe _ _).trans ?_
  refine (coe_at3 (fun h s e => ∑ m : Fin 256, K m (1024 + (256 * h + e)) * prob A K (256 * h) s m)
    (a := ((i 0).val * 1024 + (i 1).val) / 256 % 4) (b := ((i 0).val * 1024 + (i 1).val) / 1024) (c := ((i 0).val * 1024 + (i 1).val) % 256)
    (a' := (i 1).val / 256) (b' := (i 0).val) (c' := (i 1).val % 256) (by omega) (by omega) (by omega)).trans ?_
  exact congrArg _ (Finset.sum_congr rfl fun m _ => mul_comm _ _)

/-! ## The gate -/

theorem s42_2 : val_main_v42_2 (F := Ideal) (xz A) = (cv (φ := .f32) fun s c => logi (A s (7168 + c)) : FVec Ideal S8192x1024 .f32) := by
  funext i
  rw [val_main_v42_2_apply, val_main_call0_v4_apply, val_main_call0_v3_apply, val_main_call0_v2_apply, val_main_call0_v1_apply,
    val_main_call0_v0_apply, s2]
  show Ideal.div (Ideal.ofBits .f32 0x3F800000#32) (Ideal.ofBits .f32 0x3F800000#32 + Ideal.exp (-((_ : ℝ) : EReal))) = _
  rw [ofBits_one, ← EReal.coe_neg, Ideal.exp_coe, ← EReal.coe_add]
  refine (div_coe_coe _ (by positivity)).trans ?_
  rw [← zero_sub]; rfl

theorem s42_1 : val_main_v42_1 (F := Ideal) (xz A)
    = (cv (φ := .f32) fun s c => logi (A s (7168 + c)) * (1 - logi (A s (7168 + c))) : FVec Ideal S8192x1024 .f32) := by
  funext i
  rw [val_main_v42_1_apply, val_main_call0_v7_apply, val_main_call0_v6_apply, s42_2]
  show ((_ : ℝ) : EReal) * (Ideal.ofBits .f32 0x3F800000#32 - ((_ : ℝ) : EReal)) = _
  rw [ofBits_one, ← EReal.coe_sub, ← EReal.coe_mul]; rfl

theorem s42_0 : val_main_v42_0 (F := Ideal) (xz A) = (cv (φ := .f32) fun s c => silu (A s (7168 + c)) : FVec Ideal S8192x1024 .f32) := by
  funext i
  rw [val_main_v42_0_apply, s42_2, s2]
  exact (EReal.coe_mul _ _).symm

theorem s45 : val_main_v45 (F := Ideal) (xd D) = (cv (φ := .f32) (D 1) : FVec Ideal S8192x1024 .f32) := by
  funext i
  have h0 : (i 0).val < 8192 := (i 0).isLt
  have h1 : (i 1).val < 1024 := (i 1).isLt
  rw [val_main_v45_apply, val_main_v44_apply]
  exact coe_at3 D (by dsimp only) (by dsimp only; omega) (by dsimp only; omega)

theorem s48 : val_main_v48 (F := Ideal) (xz A) (xd D) (xk K)
    = (cv (φ := .f32) fun s c => dgate A (D 1) K (256 * (c / 256)) s (c % 256) : FVec Ideal S8192x1024 .f32) := by
  funext i
  rw [val_main_v48_apply, val_main_call1_v2_apply, val_main_call1_v1_apply, val_main_call1_v0_apply, val_main_v46_apply, s42_2, s42_1, s2, s45, s41]
  show ((_ : ℝ) : EReal) * ((_ : ℝ) : EReal) * ((_ : ℝ) : EReal)
    + ((_ : ℝ) : EReal) * (((_ : ℝ) : EReal) * ((_ : ℝ) : EReal)) * ((_ : ℝ) : EReal) = _
  rw [← EReal.coe_mul, ← EReal.coe_mul, ← EReal.coe_mul, ← EReal.coe_mul, ← EReal.coe_add]
  refine congrArg (fun r : ℝ => (r : EReal)) ?_
  dsimp only [dgate, dsilu]
  rw [Nat.div_add_mod]
  ring

theorem s50 : val_main_v50 (F := Ideal) (xz A) (xd D)
    = (cv3 (φ := .f32) fun h e s => datt A (D 1) (256 * h) s e : FVec Ideal S4x256x8192 .f32) := by
  funext i
  have h0 : (i 0).val < 4 := (i 0).isLt
  have h1 : (i 1).val < 256 := (i 1).isLt
  rw [val_main_v50_apply, val_main_v49_apply, val_main_v47_apply, s45, s42_0]
  refine (EReal.coe_mul _ _).symm.trans ?_
  exact coe_at2 (fun s c => D 1 s c * silu (A s (7168 + c))) (by dsimp only; omega) (by dsimp only; omega)

/-! ## The gradients of the weights and of the scores -/

theorem s51 : val_main_v51 (F := Ideal) (xz A) (xd D) (xk K)
    = (cv3 (φ := .f32) fun h s m => dprob A (D 1) K (256 * h) s m : FVec Ideal S4x8192x256 .f32) := by
  funext i
  rw [val_main_v51_apply, s50, s7]
  exact sum_mul_coe _ _

/-- The derivative of the quotient `num / den`, brought to the form `prob · (dp − ∑ dp · prob)`. -/
theorem dscore_quotient (h s m : ℕ) (dp : ℕ → ℝ) :
    (dp m / den A K h s + -(∑ k : Fin 256, dp k * (1 / (den A K h s * den A K h s)) * num A K h s k)) * num A K h s m * (1 / 16)
      = prob A K (256 * h) s m * (dp m - ∑ k : Fin 256, dp k * prob A K (256 * h) s k) * (1 / 16) := by
  have hd := den_ne A K h s
  have hp : ∀ k : ℕ, prob A K (256 * h) s k = num A K h s k / den A K h s := fun _ => rfl
  have hs : (∑ k : Fin 256, dp k * (1 / (den A K h s * den A K h s)) * num A K h s k)
      = (∑ k : Fin 256, dp k * prob A K (256 * h) s k) / den A K h s := by
    rw [Finset.sum_div]
    refine Finset.sum_congr rfl fun k _ => ?_
    rw [hp]; field_simp
  rw [hs, hp m]
  field_simp
  ring

theorem s67 : val_main_v67 (F := Ideal) (xz A) (xd D) (xk K)
    = (cv3 (φ := .f32) fun h s m => dscore A (D 1) K (256 * h) s m : FVec Ideal S4x8192x256 .f32) := by
  have h56 : val_main_v56 (F := Ideal) (xz A) (xd D) (xk K) = (cv3 (φ := .f32) fun h s m =>
      dprob A (D 1) K (256 * h) s m * (1 / (den A K h s * den A K h s)) * num A K h s m : FVec Ideal S4x8192x256 .f32) := by
    funext i
    rw [val_main_v56_apply, val_main_v55_apply, val_main_v54_apply, s51, s38, s31]
    show ((_ : ℝ) : EReal) * ((_ : ℝ) : EReal) * ((_ : ℝ) : EReal) = _
    rw [← EReal.coe_mul, ← EReal.coe_mul]; rfl
  have h59 : val_main_v59 (F := Ideal) (xz A) (xd D) (xk K) = (cv3 (φ := .f32) fun h s _ =>
      -(∑ k : Fin 256, dprob A (D 1) K (256 * h) s k * (1 / (den A K h s * den A K h s)) * num A K h s k) : FVec Ideal S4x8192x1 .f32) := by
    funext i
    have h0 : (i 0).val < 4 := (i 0).isLt
    have h1 : (i 1).val < 8192 := (i 1).isLt
    have h2 : (i 2).val < 1 := (i 2).isLt
    rw [val_main_v59_apply, val_main_v58_apply, val_main_v57_apply, h56]
    show -(Ideal.ofBits .f32 0x00000000#32 + _) = _
    rw [Ideal.ofBits_zero_f32, zero_add]
    refine Eq.trans (congrArg Neg.neg (coe_sum _ _).symm) ?_
    refine (EReal.coe_neg _).symm.trans ?_
    exact coe_at2 (fun h s => -(∑ k : Fin 256, dprob A (D 1) K (256 * h) s k * (1 / (den A K h s * den A K h s)) * num A K h s k))
      (a := (((i 0).val * 8192 + (i 1).val) * 1 + (i 2).val) / 8192) (b := (((i 0).val * 8192 + (i 1).val) * 1 + (i 2).val) % 8192) (by omega) (by omega)
  funext i
  rw [val_main_v67_apply, val_main_v66_apply, val_main_v65_apply, val_main_v64_apply, val_main_v63_apply, val_main_v62_apply, val_main_v61_apply,
    val_main_v60_apply, h59, s51, s33, s31]
  show (Ideal.div ((_ : ℝ) : EReal) ((_ : ℝ) : EReal) + (Ideal.ofBits .f32 0x00000000#32 + ∑ k : Fin 1, ((_ : ℝ) : EReal))) * ((_ : ℝ) : EReal)
    * Ideal.ofBits .f32 0x3D800000#32 = _
  rw [Ideal.ofBits_zero_f32, zero_add, ofBits_sixteenth, Fin.sum_univ_one, div_coe_coe _ (den_ne A K _ _), ← EReal.coe_add, ← EReal.coe_mul, ← EReal.coe_mul]
  exact congrArg (fun r : ℝ => (r : EReal)) (dscore_quotient A K (i 0).val (i 1).val (i 2).val (dprob A (D 1) K (256 * (i 0).val) (i 1).val))

/-! ## The results -/

theorem s74 : val_main_v74 (F := Ideal) (xz A) (xd D) (xk K)
    = (cv (φ := .f32) fun s c => dq A (D 1) K (256 * (c / 256)) s (c % 256) : FVec Ideal S8192x1024 .f32) := by
  funext i
  have h1 : (i 1).val < 1024 := (i 1).isLt
  rw [val_main_v74_apply, val_main_v71_apply, val_main_v70_apply, s67, s6]
  refine (sum_mul_coe _ _).trans ?_
  exact coe_at3 (fun h s e => dq A (D 1) K (256 * h) s e)
    (a := ((i 0).val * 1024 + (i 1).val) / 256 % 4) (b := ((i 0).val * 1024 + (i 1).val) / 1024) (c := ((i 0).val * 1024 + (i 1).val) % 256) (by omega) (by omega) (by omega)

theorem v73_cv : val_main_v73 (F := Ideal) (xz A) (xd D) (xk K)
    = (cv (φ := .f32) (dk A (D 1) K 0 8192) : FVec Ideal S256x1024 .f32) := by
  funext i
  have h1 : (i 1).val < 1024 := (i 1).isLt
  rw [val_main_v73_apply, val_main_v69_apply, val_main_v68_apply, s67, s5]
  refine (sum_mul_coe _ _).trans ?_
  refine (coe_at3 (fun h m e => ∑ k : Fin 8192, dkRow A (D 1) K (256 * h) k m e)
    (a := ((i 0).val * 1024 + (i 1).val) / 256 % 4) (b := ((i 0).val * 1024 + (i 1).val) / 1024) (c := ((i 0).val * 1024 + (i 1).val) % 256)
    (a' := (i 1).val / 256) (b' := (i 0).val) (c' := (i 1).val % 256) (by omega) (by omega) (by omega)).trans ?_
  refine congrArg (fun r : ℝ => (r : EReal)) (Finset.sum_congr rfl fun k _ => ?_)
  rw [Nat.zero_add]

theorem v72_cv : val_main_v72 (F := Ideal) (xz A) (xd D) (xk K)
    = (cv (φ := .f32) (dv A (D 1) K 0 8192) : FVec Ideal S256x1024 .f32) := by
  funext i
  have h1 : (i 1).val < 1024 := (i 1).isLt
  rw [val_main_v72_apply, val_main_v53_apply, val_main_v52_apply, s50, s35]
  refine (sum_mul_coe _ _).trans ?_
  refine (coe_at3 (fun h m e => ∑ k : Fin 8192, datt A (D 1) (256 * h) k e * prob A K (256 * h) k m)
    (a := ((i 0).val * 1024 + (i 1).val) / 256 % 4) (b := ((i 0).val * 1024 + (i 1).val) / 1024) (c := ((i 0).val * 1024 + (i 1).val) % 256)
    (a' := (i 1).val / 256) (b' := (i 0).val) (c' := (i 1).val % 256) (by omega) (by omega) (by omega)).trans ?_
  refine congrArg (fun r : ℝ => (r : EReal)) (Finset.sum_congr rfl fun k _ => ?_)
  rw [Nat.zero_add]
  exact mul_comm _ _

theorem v76_cv : val_main_v76 (F := Ideal) (xz A) (xd D) (xk K)
    = (cv (φ := .bf16) (dz A (D 1) K) : FVec Ideal S8192x2048 .bf16) := by
  funext i
  have h1 : (i 1).val < 2048 := (i 1).isLt
  rw [val_main_v76_apply]
  show val_main_v75 (F := Ideal) (xz A) (xd D) (xk K) i = _
  unfold val_main_v75
  by_cases hc : (i 1).val < 1024
  · refine (concatenate_pair_apply_left (t := S8192x2048) (s₁ := S8192x1024) (s₂ := S8192x1024) (1 : Fin 2) _ _ _ i rfl
      (ValueIdx.ix2 (i 0 : Fin 8192) (⟨(i 1).val, hc⟩ : Fin 1024)) (fun b => match b with | ⟨0, _⟩ => rfl | ⟨1, _⟩ => rfl)).trans ?_
    rw [s74]
    refine congrArg (fun r : ℝ => (r : EReal)) ?_
    exact (if_pos hc).symm
  · refine (concatenate_pair_apply_right (t := S8192x2048) (s₁ := S8192x1024) (s₂ := S8192x1024) (1 : Fin 2) _ _ _ i rfl rfl
      (ValueIdx.ix2 (i 0 : Fin 8192) (⟨(i 1).val - 1024, by omega⟩ : Fin 1024))
      (fun b hb => match b with | ⟨0, _⟩ => rfl | ⟨1, _⟩ => absurd rfl hb) (by show (i 1).val - 1024 + 1024 = _; omega)).trans ?_
    rw [s48]
    refine congrArg (fun r : ℝ => (r : EReal)) ?_
    exact (if_neg hc).symm

end Cert.RefValue
-- ==== Proof.Ext.lean ====
/-
  Arrays of extended reals as functions of their coordinates: a matrix is `ev f` and an array of rank 3 is `ev3 f`. Nothing is asked of the
  entries: the facts here and those that use them hold for infinite entries as well.
-/
module

public import Idealize.ShloMosaic.Lib.Pointwise
public import Idealize.ShloMosaic.Lib.Pipeline.Value
public import Idealize.ShloMosaic.Lib.WordCmp
public import Idealize.ShloMosaic.PureOps.Ideal.Laws

@[expose] public section

noncomputable section

namespace Cert.Ext

open Idealize.ShloMosaic Idealize.ShloMosaic.ValueIdx

/-- The matrix with entries `f i j`. -/
def ev {φ : FTy} {n0 n1 : ℕ} (f : ℕ → ℕ → EReal) : FVec Ideal ⟨2, ![n0, n1]⟩ φ := fun i => f (i 0).val (i 1).val

/-- The array of rank 3 with entries `f i j k`. -/
def ev3 {φ : FTy} {n0 n1 n2 : ℕ} (f : ℕ → ℕ → ℕ → EReal) : FVec Ideal ⟨3, ![n0, n1, n2]⟩ φ := fun i => f (i 0).val (i 1).val (i 2).val

variable {φ ψ : FTy} {n0 n1 n2 : ℕ}

theorem ev_apply (f : ℕ → ℕ → EReal) (i : (⟨2, ![n0, n1]⟩ : Shape).Idx) :
    (ev f : FVec Ideal ⟨2, ![n0, n1]⟩ φ) i = f (i 0).val (i 1).val := rfl

theorem ev3_apply (f : ℕ → ℕ → ℕ → EReal) (i : (⟨3, ![n0, n1, n2]⟩ : Shape).Idx) :
    (ev3 f : FVec Ideal ⟨3, ![n0, n1, n2]⟩ φ) i = f (i 0).val (i 1).val (i 2).val := rfl

/-- Every matrix is one. -/
theorem exists_ev (x : FVec Ideal ⟨2, ![n0, n1]⟩ φ) : ∃ f, x = ev f := by
  refine ⟨fun a b => if h : a < n0 ∧ b < n1 then x fun d => match d with | ⟨0, _⟩ => ⟨a, h.1⟩ | ⟨1, _⟩ => ⟨b, h.2⟩ else 0, funext fun i => ?_⟩
  rw [ev_apply, dif_pos ⟨(i 0).isLt, (i 1).isLt⟩]
  exact congrArg x (funext fun d => match d with | ⟨0, _⟩ => rfl | ⟨1, _⟩ => rfl)

/-- Every array of rank 3 is one. -/
theorem exists_ev3 (x : FVec Ideal ⟨3, ![n0, n1, n2]⟩ φ) : ∃ f, x = ev3 f := by
  refine ⟨fun a b c => if h : a < n0 ∧ b < n1 ∧ c < n2 then x fun d => match d with | ⟨0, _⟩ => ⟨a, h.1⟩ | ⟨1, _⟩ => ⟨b, h.2.1⟩ | ⟨2, _⟩ => ⟨c, h.2.2⟩ else 0,
    funext fun i => ?_⟩
  rw [ev3_apply, dif_pos ⟨(i 0).isLt, (i 1).isLt, (i 2).isLt⟩]
  exact congrArg x (funext fun d => match d with | ⟨0, _⟩ => rfl | ⟨1, _⟩ => rfl | ⟨2, _⟩ => rfl)

theorem addf_ev (a b : ℕ → ℕ → EReal) : addf (ev a : FVec Ideal ⟨2, ![n0, n1]⟩ φ) (ev b) = ev fun i j => a i j + b i j := rfl
theorem truncf_ev (a : ℕ → ℕ → EReal) (h : ψ.bits < φ.bits) : truncf ψ (ev a : FVec Ideal ⟨2, ![n0, n1]⟩ φ) h = ev a := rfl

theorem shapeCast_self_ev (a : ℕ → ℕ → EReal) (h : (⟨2, ![n0, n1]⟩ : Shape).ShapeCasts ⟨2, ![n0, n1]⟩) :
    shapeCast ⟨2, ![n0, n1]⟩ (ev a : FVec Ideal ⟨2, ![n0, n1]⟩ φ) h = ev a := by
  funext i; pointwise

theorem shapeCast_drop_1024 (f : ℕ → ℕ → ℕ → EReal) (h : (⟨3, ![1, 1024, 1024]⟩ : Shape).ShapeCasts ⟨2, ![1024, 1024]⟩) :
    shapeCast ⟨2, ![1024, 1024]⟩ (ev3 f : FVec Ideal ⟨3, ![1, 1024, 1024]⟩ φ) h = ev fun i j => f 0 i j := by
  funext i; pointwise; rfl

theorem shapeCast_drop_2048 (f : ℕ → ℕ → ℕ → EReal) (h : (⟨3, ![1, 2048, 1024]⟩ : Shape).ShapeCasts ⟨2, ![2048, 1024]⟩) :
    shapeCast ⟨2, ![2048, 1024]⟩ (ev3 f : FVec Ideal ⟨3, ![1, 2048, 1024]⟩ φ) h = ev fun i j => f 0 i j := by
  funext i; pointwise; rfl

theorem shapeCast_add_1024 (f : ℕ → ℕ → EReal) (h : (⟨2, ![1024, 1024]⟩ : Shape).ShapeCasts ⟨3, ![1, 1024, 1024]⟩) :
    shapeCast ⟨3, ![1, 1024, 1024]⟩ (ev f : FVec Ideal ⟨2, ![1024, 1024]⟩ φ) h = ev3 fun _ i j => f i j := by
  funext i; pointwise; rfl

/-- Two arrays of rank 3 whose entries agree inside the bounds are equal. -/
theorem ev3_congr {f g : ℕ → ℕ → ℕ → EReal} (h : ∀ i < n0, ∀ j < n1, ∀ k < n2, f i j k = g i j k) :
    (ev3 f : FVec Ideal ⟨3, ![n0, n1, n2]⟩ φ) = ev3 g :=
  funext fun i => h _ (i 0).isLt _ (i 1).isLt _ (i 2).isLt

/-- An array with a part written over, at a start the part fits at. -/
theorem updateSlice_ev3 {k0 k1 k2 o0 o1 o2 : ℕ} (P U : ℕ → ℕ → ℕ → EReal) (start : Fin 3 → Int)
    (h : (⟨3, ![n0, n1, n2]⟩ : Shape).Slices (fun _ => 0) ⟨3, ![k0, k1, k2]⟩) (h' : (⟨3, ![n0, n1, n2]⟩ : Shape).Slices ![o0, o1, o2] ⟨3, ![k0, k1, k2]⟩)
    (hs : ∀ a, start a = ((![o0, o1, o2] : Fin 3 → ℕ) a : Int)) :
    Host.dynamicUpdateSlice (ev3 P : FVec Ideal ⟨3, ![n0, n1, n2]⟩ φ) (ev3 U : FVec Ideal ⟨3, ![k0, k1, k2]⟩ φ) start h
      = (ev3 fun q a b => if (o0 ≤ q ∧ q < o0 + k0) ∧ (o1 ≤ a ∧ a < o1 + k1) ∧ o2 ≤ b ∧ b < o2 + k2 then U (q - o0) (a - o1) (b - o2) else P q a b) := by
  rw [WordCmp.dynamicUpdateSlice_eq_update _ _ start h ![o0, o1, o2] h' hs]
  funext i
  rw [updateSlice_apply]
  by_cases c : (o0 ≤ (i 0).val ∧ (i 0).val < o0 + k0) ∧ (o1 ≤ (i 1).val ∧ (i 1).val < o1 + k1) ∧ o2 ≤ (i 2).val ∧ (i 2).val < o2 + k2
  · exact (dif_pos fun a => match a with | ⟨0, _⟩ => c.1 | ⟨1, _⟩ => c.2.1 | ⟨2, _⟩ => c.2.2).trans (if_pos c).symm
  · exact (dif_neg fun hc => c ⟨hc 0, hc 1, hc 2⟩).trans (if_neg c).symm

/-! ## Sums -/

theorem sum_eq {n : ℕ} {f g : Fin n → EReal} (h : ∀ k, f k = g k) : ∑ k, f k = ∑ k, g k := Finset.sum_congr rfl fun k _ => h k

/-- A row's sum, from the reduction's starting value. -/
theorem start_sum {n : ℕ} {f g : Fin n → EReal} (h : ∀ k, f k = g k) : Ideal.ofBits .f32 0x00000000#32 + ∑ k, f k = ∑ k, g k := by
  rw [Ideal.ofBits_zero_f32, zero_add]
  exact Finset.sum_congr rfl fun k _ => h k

/-! ## The gradient of a product by its right factor -/

/-- Rows `r … r + n - 1` of the products of column `a` of `H` and column `b` of `Z`, summed. -/
def gw (H Z : ℕ → ℕ → EReal) (r n a b : ℕ) : EReal := ∑ k : Fin n, H (r + k) a * Z (r + k) b

/-- The rows before row `r`, and the `n` rows from it. -/
theorem gw_add (H Z : ℕ → ℕ → EReal) (r n a b : ℕ) : gw H Z 0 (r + n) a b = gw H Z 0 r a b + gw H Z r n a b := by
  simp only [gw, Fin.sum_univ_add, Fin.val_castAdd, Fin.val_natAdd, Nat.zero_add]

end Cert.Ext

end
-- ==== Proof.CallInA.lean ====
/-
  The call that writes the first part of the input projection's weight gradient: columns 0 … 3071, which the host takes out of the array the region leaves.
-/
module

public import proofs.«01_k».proof.Proof.Ext
public import proofs.«01_k».proof.Proof.Gen.InAIdeal.Frame
public import proofs.«01_k».proof.Defs
public import proofs.«01_k».proof.Proof.Gen.InA.Frame
public import proofs.«01_k».proof.Proof.Gen.RefInAIdeal.Run
public import proofs.«01_k».proof.Proof.Gen.RefInAIdeal.Read
public import Idealize.ShloMosaic.Lib.Pipeline.ReadBack
public import Idealize.ShloMosaic.Lib.Pipeline.ValueKit
public import Idealize.ShloMosaic.Lib.Claim

@[expose] public section

noncomputable section

namespace Cert.CallInA

open Cert.InAIdeal Cert.InAIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S2048x1024 .bf16) (w1 : m1.IsWhole)
  (m2 : Memref sig .tc .vmem S1x1024x1024 .f32) (w2 : m2.IsWhole) (f g : ℕ → ℕ → EReal) (p : ℕ → ℕ → ℕ → EReal)

theorem out_A (h0 : cond0_0 i) (h1 : ¬cond0_1 i) :
    out0_A_2 (F := Ideal) c i m0 w0 m1 w1 m2 w2 h0 h1 (ev (φ := .bf16) f) (ev (φ := .bf16) g)
      = ev3 (φ := .f32) fun _ a b => ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024]

theorem out_B (h0 : ¬cond0_0 i) (h1 : cond0_1 i) :
    out0_B_2 (F := Ideal) c i m0 w0 m1 w1 m2 w2 h0 h1 (ev (φ := .bf16) f) (ev (φ := .bf16) g) (ev3 (φ := .f32) p)
      = ev3 (φ := .f32) fun _ a b => p 0 a b + ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024, shapeCast_drop_1024, addf_ev]

end Point

/-! ## The grid -/

variable (m : (ℓ : Loc nD τ sig) → Buf (Elt Ideal) ℓ) (c : Dev nD) (H Z : ℕ → ℕ → EReal)

/-- The arrays the region reads. -/
structure Holds : Prop where
  h : V m c main_v12 = (ev (φ := .bf16) H : FVec Ideal S8192x1024 .bf16)
  z : m ((c : Thread nD τ).loc main_arg2) = (ev (φ := .bf16) Z : FVec Ideal S8192x3072 .bf16)

/-- Where each window's block lies. -/
theorem idx : ∀ t : Fin grid0.N, win0_0.index t = ![t.val % 4, 0] ∧ win0_1.index t = ![t.val % 4, t.val / 4]
    ∧ win0_2.index t = ![0, 0, t.val / 4] := by decide +kernel

variable {m c H Z} (A : Holds m c H Z) (t : Fin cfg0.N)
include A

theorem block0 : iblk m c 0 t = (ev (φ := .bf16) fun i j => H (2048 * (t.val % 4) + i) j : FVec Ideal S2048x1024 .bf16) := by
  funext y
  blk_simp [iblk]
  refine (congrFun A.h _).trans ?_
  show H _ _ = H _ _
  blk_simp [(idx t).1]
  try rw [Nat.mul_comm]

theorem block1 : iblk m c 1 t = (ev (φ := .bf16) fun i j => Z (2048 * (t.val % 4) + i) (1024 * (t.val / 4) + j) : FVec Ideal S2048x1024 .bf16) := by
  funext y
  blk_simp [iblk]
  rw [V_main_arg2]
  refine (congrFun A.z _).trans ?_
  show Z _ _ = Z _ _
  blk_simp [(idx t).2.1]
  try rw [Nat.mul_comm, Nat.mul_comm (t.val / 4)]

/-- What the accumulator's block holds after point `n`: the rows of the points of its column block so far. -/
theorem outs (n : ℕ) (hn : n < cfg0.N) : outsAt0 m c n hn
    = (ev3 (φ := .f32) fun _ a b => gw H Z 0 (2048 * (n % 4) + 2048) a (1024 * (n / 4) + b) : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H Z (2048 * ((n + 1) % 4)), show 2048 * (n % 4) + 2048 = 2048 * ((n + 1) % 4) by omega, show n / 4 = (n + 1) / 4 by omega]
      rfl

/-- The columns the region writes: the gradient. -/
theorem final (i : S1x1024x11264.Idx) (h : (i 2).val < 3072) :
    (dats m 0 c).arrAt 2 cfg0.N i = gw H Z 0 8192 (i 1).val (i 2).val := by
  have i0 : (i 0).val < 1 := (i 0).isLt
  have i1 : (i 1).val < 1024 := (i 1).isLt
  have hN : cfg0.N = 12 := N_0
  have ht : 4 * ((i 2).val / 1024) + 3 < cfg0.N := by omega
  refine ((dats m 0 c).arrAt_apply_of_mem 2 (ev3 (φ := .f32) fun _ a b => if b < 3072 then gw H Z 0 8192 a b else 0 : FVec Ideal S1x1024x11264 .f32)
    (fun t hf => ?_) cfg0.N ⟨_, ht⟩ i ht ((flush0_2 _).mpr (by dsimp only; omega)) ?_).trans ((ev3_apply _ _).trans (if_pos h))
  · have hf' := (flush0_2 t).mp hf
    have tN : t.val < 12 := t.isLt
    show (cfg0.win 2).cut (grid0.coords t) ((dats m 0 c).after 2 t) = _
    rw [after0_2, outs A]
    funext y
    have y1 : (y 1).val < 1024 := (y 1).isLt
    have y2 : (y 2).val < 1024 := (y 2).isLt
    show gw H Z 0 (2048 * (t.val % 4) + 2048) (y 1).val (1024 * (t.val / 4) + (y 2).val) = _
    blk_simp
    refine Eq.trans ?_ (ev3_apply _ _).symm
    blk_simp [(idx t).2.2]
    rw [if_pos (by omega), hf', Nat.mul_comm (t.val / 4)]
  · mem_blk [(idx ⟨_, ht⟩).2.2]
    dsimp only
    omega

omit A

/-- What the host's slice and reshape make of the array the region leaves. -/
theorem tail : Pipeline.afterTail₀ cfgs (dats m) 0 (V0 m) [hostOps1] c main_v15
    = shapeCast S1024x3072 (extractStridedSlice S1x1024x3072 ![0, 0, 0] ((dats m 0 c).arrAt 2 cfg0.N : FVec Ideal S1x1024x11264 .f32)
        slices_S1x1024x11264_S1x1024x3072_0_0_0) shapeCasts_S1x1024x3072_S1024x3072 := by
  unfold Pipeline.afterTail₀
  simp only [hostOps1, List.flatten_cons, List.flatten_nil, List.append_nil]
  after_results
  exact congrArg (fun x : FVec Ideal S1x1024x11264 .f32 => shapeCast S1024x3072 (extractStridedSlice S1x1024x3072 ![0, 0, 0] x
      slices_S1x1024x11264_S1x1024x3072_0_0_0) shapeCasts_S1x1024x3072_S1024x3072)
    (Pipeline.withArrays_arr spec0 (by decide) c (V0 m c) (fun w => (dats m 0 c).arrAt w cfg0.N) 2)

/-- The result: the gradient. -/
theorem result (A : Holds m c H Z) : Pipeline.afterTail₀ cfgs (dats m) 0 (V0 m) [hostOps1] c main_v15
    = (ev (φ := .f32) fun a b => gw H Z 0 8192 a b : FVec Ideal S1024x3072 .f32) := by
  rw [tail]
  funext i
  have i1 : (i 1).val < 3072 := (i 1).isLt
  pointwise
  exact final A _ i1

/-! ## The reference -/

/-- The normalised rows, which the host computes before the region by the reference's own line. -/
theorem entry_h : V m c main_v12 = (Cert.RefInAIdeal.Read.val_main_v11 (F := Ideal) (m ((c : Thread nD τ).loc main_arg0)) (m ((c : Thread nD τ).loc main_arg1))) := by
  entry_read
  rfl

open Cert.RefInAIdeal.Read in
theorem reference (x0 : FVec Ideal S8192x1024 .f32) (x1 : FVec Ideal S1x1024 .f32) (hH : val_main_v11 (F := Ideal) x0 x1 = (ev (φ := .f32) H : FVec Ideal S8192x1024 .f32)) :
    val_main_v16 (F := Ideal) x0 x1 (ev (φ := .bf16) Z : FVec Ideal S8192x3072 .bf16)
      = (ev (φ := .f32) fun a b => gw H Z 0 8192 a b : FVec Ideal S1024x3072 .f32) := by
  funext i
  rw [val_main_v16_apply, val_main_v15_apply, hH]
  refine Eq.trans ?_ (ev_apply _ _).symm
  simp only [gw, Nat.zero_add]
  exact Finset.sum_congr rfl fun k _ => mul_comm _ _

/-! ## The claims -/

theorem frame : Cert.quiescent_InA := fun m g _ => Cert.InA.Gen.frame m g
theorem frameIdeal : Cert.quiescent_InAIdeal := fun m g _ => Cert.InAIdeal.Gen.frame m g

/-- The reference is a straight line of host operations and declares no semaphore. -/
theorem frameRef : Cert.quiescent_RefInAIdeal := fun m g _ =>
  (θ_run Cert.RefInAIdeal.defs _ _).mono (fun r h => ⟨fun c => (h c).2, sem_eq_zero_of_no_sems (by decide) r.2⟩)
    (Cert.RefInAIdeal.Value.run (F := Ideal) m g)

/-- The results of the two programs, from arguments that agree. -/
theorem algebraic : Cert.algebraic_InAIdeal_RefInAIdeal := by
  intro m g m' g' _ hagree
  refine ⟨fun c => Pipeline.afterTail₀ cfgs (dats m) 0 (V0 m) [hostOps1] c main_v15, ?_, ?_⟩
  · exact (θ_run defs _ _).mono (fun _ h c => ⟨(h c).2 main_v15 (Pipeline.mem_restRefs_of main_v15 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c)))⟩) (run_main m g)
  refine (θ_run Cert.RefInAIdeal.defs _ _).mono (fun r h c => ⟨(h c).1.trans ?_, (h c).2⟩) (Cert.RefInAIdeal.Value.run (F := Ideal) m' g')
  obtain ⟨H, hH⟩ := exists_ev (φ := .bf16) (V m c main_v12)
  obtain ⟨Z, hZ⟩ := exists_ev (φ := .bf16) (m ((c : Thread nD τ).loc main_arg2))
  obtain ⟨e0, e1, e2⟩ := hagree c
  refine (Cert.RefInAIdeal.Read.val_main_v16_eq _ _ _).trans ?_
  rw [e0, e1, e2, hZ]
  exact (reference _ _ (entry_h.symm.trans hH)).trans (result ⟨hH, hZ⟩).symm

end Cert.CallInA

end
-- ==== Proof.CallInB.lean ====
/-
  The call that writes the second part of the input projection's weight gradient: columns 3072 … 6143.
-/
module

public import proofs.«01_k».proof.Proof.Ext
public import proofs.«01_k».proof.Proof.Gen.InBIdeal.Value
public import proofs.«01_k».proof.Defs
public import proofs.«01_k».proof.Proof.Gen.InB.Frame
public import proofs.«01_k».proof.Proof.Gen.RefInBIdeal.Run
public import proofs.«01_k».proof.Proof.Gen.RefInBIdeal.Read
public import Idealize.ShloMosaic.Lib.Pipeline.ReadBack
public import Idealize.ShloMosaic.Lib.Pipeline.ValueKit
public import Idealize.ShloMosaic.Lib.Claim

@[expose] public section

noncomputable section

namespace Cert.CallInB

open Cert.InBIdeal Cert.InBIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S2048x1024 .bf16) (w1 : m1.IsWhole)
  (m2 : Memref sig .tc .vmem S1x1024x1024 .f32) (w2 : m2.IsWhole) (f g : ℕ → ℕ → EReal) (p : ℕ → ℕ → ℕ → EReal)

theorem out_A (h0 : cond0_0 i) (h1 : ¬cond0_1 i) :
    out0_A_2 (F := Ideal) c i m0 w0 m1 w1 m2 w2 h0 h1 (ev (φ := .bf16) f) (ev (φ := .bf16) g)
      = ev3 (φ := .f32) fun _ a b => ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024]

theorem out_B (h0 : ¬cond0_0 i) (h1 : cond0_1 i) :
    out0_B_2 (F := Ideal) c i m0 w0 m1 w1 m2 w2 h0 h1 (ev (φ := .bf16) f) (ev (φ := .bf16) g) (ev3 (φ := .f32) p)
      = ev3 (φ := .f32) fun _ a b => p 0 a b + ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024, shapeCast_drop_1024, addf_ev]

end Point

/-! ## The grid -/

variable (m : (ℓ : Loc nD τ sig) → Buf (Elt Ideal) ℓ) (c : Dev nD) (H Z : ℕ → ℕ → EReal) (P : ℕ → ℕ → ℕ → EReal)

/-- The arrays the region reads, and the one it writes part of. -/
structure Holds : Prop where
  h : V m c main_v12 = (ev (φ := .bf16) H : FVec Ideal S8192x1024 .bf16)
  z : m ((c : Thread nD τ).loc main_arg2) = (ev (φ := .bf16) Z : FVec Ideal S8192x3072 .bf16)
  p : m ((c : Thread nD τ).loc main_arg3) = (ev3 (φ := .f32) P : FVec Ideal S1x1024x11264 .f32)

/-- Where each window's block lies. -/
theorem idx : ∀ t : Fin grid0.N, win0_0.index t = ![t.val % 4, 0] ∧ win0_1.index t = ![t.val % 4, t.val / 4]
    ∧ win0_2.index t = ![0, 0, 3 + t.val / 4] := by decide +kernel

variable {m c H Z P} (A : Holds m c H Z P) (t : Fin cfg0.N)
include A

theorem block0 : iblk m c 0 t = (ev (φ := .bf16) fun i j => H (2048 * (t.val % 4) + i) j : FVec Ideal S2048x1024 .bf16) := by
  funext y
  blk_simp [iblk]
  refine (congrFun A.h _).trans ?_
  show H _ _ = H _ _
  blk_simp [(idx t).1]
  try rw [Nat.mul_comm]

theorem block1 : iblk m c 1 t = (ev (φ := .bf16) fun i j => Z (2048 * (t.val % 4) + i) (1024 * (t.val / 4) + j) : FVec Ideal S2048x1024 .bf16) := by
  funext y
  blk_simp [iblk]
  rw [V_main_arg2]
  refine (congrFun A.z _).trans ?_
  show Z _ _ = Z _ _
  blk_simp [(idx t).2.1]
  try rw [Nat.mul_comm, Nat.mul_comm (t.val / 4)]

/-- What the accumulator's block holds after point `n`: the rows of the points of its column block so far. -/
theorem outs (n : ℕ) (hn : n < cfg0.N) : outsAt0 m c n hn
    = (ev3 (φ := .f32) fun _ a b => gw H Z 0 (2048 * (n % 4) + 2048) a (1024 * (n / 4) + b) : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H Z (2048 * ((n + 1) % 4)), show 2048 * (n % 4) + 2048 = 2048 * ((n + 1) % 4) by omega, show n / 4 = (n + 1) / 4 by omega]
      rfl

/-- The array the call leaves: the gradient in its columns, what lay there before in the others. -/
theorem final : (dats m 0 c).arrAt 2 cfg0.N
    = (ev3 (φ := .f32) fun q a b => if 3072 ≤ b ∧ b < 6144 then gw H Z 0 8192 a (b - 3072) else P q a b : FVec Ideal S1x1024x11264 .f32) := by
  funext i
  have i0 : (i 0).val < 1 := (i 0).isLt
  have i1 : (i 1).val < 1024 := (i 1).isLt
  have i2 : (i 2).val < 11264 := (i 2).isLt
  by_cases h : 3072 ≤ (i 2).val ∧ (i 2).val < 6144
  · have hN : cfg0.N = 12 := N_0
    have ht : 4 * (((i 2).val - 3072) / 1024) + 3 < cfg0.N := by omega
    refine (dats m 0 c).arrAt_apply_of_mem 2 _ (fun t hf => ?_) cfg0.N ⟨_, ht⟩ i ht ((flush0_2 _).mpr (by dsimp only; omega)) ?_
    · have hf' := (flush0_2 t).mp hf
      have tN : t.val < 12 := t.isLt
      rw [Cert.InBIdeal.Value.flushed2, outs A]
      funext y
      have y1 : (y 1).val < 1024 := (y 1).isLt
      have y2 : (y 2).val < 1024 := (y 2).isLt
      show gw H Z 0 (2048 * (t.val % 4) + 2048) (y 1).val (1024 * (t.val / 4) + (y 2).val) = _
      blk_simp
      refine Eq.trans ?_ (ev3_apply _ _).symm
      blk_simp [(idx t).2.2]
      rw [if_pos (by omega), hf', show 1024 * (t.val / 4) + (y 2).val = (3 + t.val / 4) * 1024 + (y 2).val - 3072 by omega]
    · mem_blk [(idx ⟨_, ht⟩).2.2]
      dsimp only
      omega
  · refine (Cert.InBIdeal.Value.entry2 m c i fun t hf hi => h ?_).trans ?_
    · mem_blk [(idx t).2.2] at hi
      have tN : t.val < 12 := t.isLt
      omega
    · rw [ev3_apply, if_neg h]
      show V m c main_v13 i = _
      entry_read
      exact congrFun A.p i

omit A

/-! ## The reference -/

/-- The normalised rows, which the host computes before the region by the reference's own line. -/
theorem entry_h : V m c main_v12 = (Cert.RefInBIdeal.Read.val_main_v11 (F := Ideal) (m ((c : Thread nD τ).loc main_arg0)) (m ((c : Thread nD τ).loc main_arg1))) := by
  entry_read
  rfl

open Cert.RefInBIdeal.Read in
theorem reference (x0 : FVec Ideal S8192x1024 .f32) (x1 : FVec Ideal S1x1024 .f32) (hH : val_main_v11 (F := Ideal) x0 x1 = (ev (φ := .f32) H : FVec Ideal S8192x1024 .f32)) :
    val_main_v18 (F := Ideal) x0 x1 (ev (φ := .bf16) Z : FVec Ideal S8192x3072 .bf16) (ev3 (φ := .f32) P : FVec Ideal S1x1024x11264 .f32)
      = (ev3 (φ := .f32) fun q a b => if 3072 ≤ b ∧ b < 6144 then gw H Z 0 8192 a (b - 3072) else P q a b : FVec Ideal S1x1024x11264 .f32) := by
  have e : val_main_v17 (F := Ideal) x0 x1 (ev (φ := .bf16) Z : FVec Ideal S8192x3072 .bf16) = (ev3 (φ := .f32) fun _ a b => gw H Z 0 8192 a b : FVec Ideal Cert.RefInBIdeal.S1x1024x3072 .f32) := by
    funext i
    rw [val_main_v17_apply, val_main_v16_apply, val_main_v15_apply, hH]
    refine Eq.trans ?_ (ev3_apply _ _).symm
    simp only [gw, Nat.zero_add]
    exact Finset.sum_congr rfl fun k _ => mul_comm _ _
  unfold val_main_v18
  rw [e]
  refine (updateSlice_ev3 (k0 := 1) (k1 := 1024) (k2 := 3072) (o0 := 0) (o1 := 0) (o2 := 3072) P _ _ _ (by decide) (by decide)).trans (ev3_congr fun q hq a ha b hb => ?_)
  refine if_congr ?_ rfl rfl
  constructor <;> omega

/-! ## The claims -/

theorem frame : Cert.quiescent_InB := fun m g _ => Cert.InB.Gen.frame m g
theorem frameIdeal : Cert.quiescent_InBIdeal := fun m g _ => Cert.InBIdeal.Gen.frame m g

/-- The reference is a straight line of host operations and declares no semaphore. -/
theorem frameRef : Cert.quiescent_RefInBIdeal := fun m g _ =>
  (θ_run Cert.RefInBIdeal.defs _ _).mono (fun r h => ⟨fun c => (h c).2, sem_eq_zero_of_no_sems (by decide) r.2⟩)
    (Cert.RefInBIdeal.Value.run (F := Ideal) m g)

/-- The results of the two programs, from arguments that agree. -/
theorem algebraic : Cert.algebraic_InBIdeal_RefInBIdeal := by
  intro m g m' g' _ hagree
  refine ⟨fun c => (dats m 0 c).arrAt 2 cfg0.N, Cert.InBIdeal.Value.run_blocks m g, ?_⟩
  refine (θ_run Cert.RefInBIdeal.defs _ _).mono (fun r h c => ⟨(h c).1.trans ?_, (h c).2⟩) (Cert.RefInBIdeal.Value.run (F := Ideal) m' g')
  obtain ⟨H, hH⟩ := exists_ev (φ := .bf16) (V m c main_v12)
  obtain ⟨Z, hZ⟩ := exists_ev (φ := .bf16) (m ((c : Thread nD τ).loc main_arg2))
  obtain ⟨P, hP⟩ := exists_ev3 (φ := .f32) (m ((c : Thread nD τ).loc main_arg3))
  obtain ⟨e0, e1, e2, e3⟩ := hagree c
  refine (Cert.RefInBIdeal.Read.val_main_v18_eq _ _ _ _).trans ?_
  rw [e0, e1, e2, e3, hZ, hP]
  exact (reference _ _ (entry_h.symm.trans hH)).trans (final ⟨hH, hZ, hP⟩).symm

end Cert.CallInB

end
-- ==== Proof.CallInC.lean ====
/-
  The call that writes the third part of the input projection's weight gradient: columns 6144 … 8191.
-/
module

public import proofs.«01_k».proof.Proof.Ext
public import proofs.«01_k».proof.Proof.Gen.InCIdeal.Value
public import proofs.«01_k».proof.Defs
public import proofs.«01_k».proof.Proof.Gen.InC.Frame
public import proofs.«01_k».proof.Proof.Gen.RefInCIdeal.Run
public import proofs.«01_k».proof.Proof.Gen.RefInCIdeal.Read
public import Idealize.ShloMosaic.Lib.Pipeline.ReadBack
public import Idealize.ShloMosaic.Lib.Pipeline.ValueKit
public import Idealize.ShloMosaic.Lib.Claim

@[expose] public section

noncomputable section

namespace Cert.CallInC

open Cert.InCIdeal Cert.InCIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S2048x1024 .bf16) (w1 : m1.IsWhole)
  (m2 : Memref sig .tc .vmem S1x1024x1024 .f32) (w2 : m2.IsWhole) (f g : ℕ → ℕ → EReal) (p : ℕ → ℕ → ℕ → EReal)

theorem out_A (h0 : cond0_0 i) (h1 : ¬cond0_1 i) :
    out0_A_2 (F := Ideal) c i m0 w0 m1 w1 m2 w2 h0 h1 (ev (φ := .bf16) f) (ev (φ := .bf16) g)
      = ev3 (φ := .f32) fun _ a b => ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024]

theorem out_B (h0 : ¬cond0_0 i) (h1 : cond0_1 i) :
    out0_B_2 (F := Ideal) c i m0 w0 m1 w1 m2 w2 h0 h1 (ev (φ := .bf16) f) (ev (φ := .bf16) g) (ev3 (φ := .f32) p)
      = ev3 (φ := .f32) fun _ a b => p 0 a b + ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024, shapeCast_drop_1024, addf_ev]

end Point

/-! ## The grid -/

variable (m : (ℓ : Loc nD τ sig) → Buf (Elt Ideal) ℓ) (c : Dev nD) (H Z : ℕ → ℕ → EReal) (P : ℕ → ℕ → ℕ → EReal)

/-- The arrays the region reads, and the one it writes part of. -/
structure Holds : Prop where
  h : V m c main_v12 = (ev (φ := .bf16) H : FVec Ideal S8192x1024 .bf16)
  z : m ((c : Thread nD τ).loc main_arg2) = (ev (φ := .bf16) Z : FVec Ideal S8192x2048 .bf16)
  p : m ((c : Thread nD τ).loc main_arg3) = (ev3 (φ := .f32) P : FVec Ideal S1x1024x11264 .f32)

/-- Where each window's block lies. -/
theorem idx : ∀ t : Fin grid0.N, win0_0.index t = ![t.val % 4, 0] ∧ win0_1.index t = ![t.val % 4, t.val / 4]
    ∧ win0_2.index t = ![0, 0, 6 + t.val / 4] := by decide +kernel

variable {m c H Z P} (A : Holds m c H Z P) (t : Fin cfg0.N)
include A

theorem block0 : iblk m c 0 t = (ev (φ := .bf16) fun i j => H (2048 * (t.val % 4) + i) j : FVec Ideal S2048x1024 .bf16) := by
  funext y
  blk_simp [iblk]
  refine (congrFun A.h _).trans ?_
  show H _ _ = H _ _
  blk_simp [(idx t).1]
  try rw [Nat.mul_comm]

theorem block1 : iblk m c 1 t = (ev (φ := .bf16) fun i j => Z (2048 * (t.val % 4) + i) (1024 * (t.val / 4) + j) : FVec Ideal S2048x1024 .bf16) := by
  funext y
  blk_simp [iblk]
  rw [V_main_arg2]
  refine (congrFun A.z _).trans ?_
  show Z _ _ = Z _ _
  blk_simp [(idx t).2.1]
  try rw [Nat.mul_comm, Nat.mul_comm (t.val / 4)]

/-- What the accumulator's block holds after point `n`: the rows of the points of its column block so far. -/
theorem outs (n : ℕ) (hn : n < cfg0.N) : outsAt0 m c n hn
    = (ev3 (φ := .f32) fun _ a b => gw H Z 0 (2048 * (n % 4) + 2048) a (1024 * (n / 4) + b) : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H Z (2048 * ((n + 1) % 4)), show 2048 * (n % 4) + 2048 = 2048 * ((n + 1) % 4) by omega, show n / 4 = (n + 1) / 4 by omega]
      rfl

/-- The array the call leaves: the gradient in its columns, what lay there before in the others. -/
theorem final : (dats m 0 c).arrAt 2 cfg0.N
    = (ev3 (φ := .f32) fun q a b => if 6144 ≤ b ∧ b < 8192 then gw H Z 0 8192 a (b - 6144) else P q a b : FVec Ideal S1x1024x11264 .f32) := by
  funext i
  have i0 : (i 0).val < 1 := (i 0).isLt
  have i1 : (i 1).val < 1024 := (i 1).isLt
  have i2 : (i 2).val < 11264 := (i 2).isLt
  by_cases h : 6144 ≤ (i 2).val ∧ (i 2).val < 8192
  · have hN : cfg0.N = 8 := N_0
    have ht : 4 * (((i 2).val - 6144) / 1024) + 3 < cfg0.N := by omega
    refine (dats m 0 c).arrAt_apply_of_mem 2 _ (fun t hf => ?_) cfg0.N ⟨_, ht⟩ i ht ((flush0_2 _).mpr (by dsimp only; omega)) ?_
    · have hf' := (flush0_2 t).mp hf
      have tN : t.val < 8 := t.isLt
      rw [Cert.InCIdeal.Value.flushed2, outs A]
      funext y
      have y1 : (y 1).val < 1024 := (y 1).isLt
      have y2 : (y 2).val < 1024 := (y 2).isLt
      show gw H Z 0 (2048 * (t.val % 4) + 2048) (y 1).val (1024 * (t.val / 4) + (y 2).val) = _
      blk_simp
      refine Eq.trans ?_ (ev3_apply _ _).symm
      blk_simp [(idx t).2.2]
      rw [if_pos (by omega), hf', show 1024 * (t.val / 4) + (y 2).val = (6 + t.val / 4) * 1024 + (y 2).val - 6144 by omega]
    · mem_blk [(idx ⟨_, ht⟩).2.2]
      dsimp only
      omega
  · refine (Cert.InCIdeal.Value.entry2 m c i fun t hf hi => h ?_).trans ?_
    · mem_blk [(idx t).2.2] at hi
      have tN : t.val < 8 := t.isLt
      omega
    · rw [ev3_apply, if_neg h]
      show V m c main_v13 i = _
      entry_read
      exact congrFun A.p i

omit A

/-! ## The reference -/

/-- The normalised rows, which the host computes before the region by the reference's own line. -/
theorem entry_h : V m c main_v12 = (Cert.RefInCIdeal.Read.val_main_v11 (F := Ideal) (m ((c : Thread nD τ).loc main_arg0)) (m ((c : Thread nD τ).loc main_arg1))) := by
  entry_read
  rfl

open Cert.RefInCIdeal.Read in
theorem reference (x0 : FVec Ideal S8192x1024 .f32) (x1 : FVec Ideal S1x1024 .f32) (hH : val_main_v11 (F := Ideal) x0 x1 = (ev (φ := .f32) H : FVec Ideal S8192x1024 .f32)) :
    val_main_v18 (F := Ideal) x0 x1 (ev (φ := .bf16) Z : FVec Ideal S8192x2048 .bf16) (ev3 (φ := .f32) P : FVec Ideal S1x1024x11264 .f32)
      = (ev3 (φ := .f32) fun q a b => if 6144 ≤ b ∧ b < 8192 then gw H Z 0 8192 a (b - 6144) else P q a b : FVec Ideal S1x1024x11264 .f32) := by
  have e : val_main_v17 (F := Ideal) x0 x1 (ev (φ := .bf16) Z : FVec Ideal S8192x2048 .bf16) = (ev3 (φ := .f32) fun _ a b => gw H Z 0 8192 a b : FVec Ideal Cert.RefInCIdeal.S1x1024x2048 .f32) := by
    funext i
    rw [val_main_v17_apply, val_main_v16_apply, val_main_v15_apply, hH]
    refine Eq.trans ?_ (ev3_apply _ _).symm
    simp only [gw, Nat.zero_add]
    exact Finset.sum_congr rfl fun k _ => mul_comm _ _
  unfold val_main_v18
  rw [e]
  refine (updateSlice_ev3 (k0 := 1) (k1 := 1024) (k2 := 2048) (o0 := 0) (o1 := 0) (o2 := 6144) P _ _ _ (by decide) (by decide)).trans (ev3_congr fun q hq a ha b hb => ?_)
  refine if_congr ?_ rfl rfl
  constructor <;> omega

/-! ## The claims -/

theorem frame : Cert.quiescent_InC := fun m g _ => Cert.InC.Gen.frame m g
theorem frameIdeal : Cert.quiescent_InCIdeal := fun m g _ => Cert.InCIdeal.Gen.frame m g

/-- The reference is a straight line of host operations and declares no semaphore. -/
theorem frameRef : Cert.quiescent_RefInCIdeal := fun m g _ =>
  (θ_run Cert.RefInCIdeal.defs _ _).mono (fun r h => ⟨fun c => (h c).2, sem_eq_zero_of_no_sems (by decide) r.2⟩)
    (Cert.RefInCIdeal.Value.run (F := Ideal) m g)

/-- The results of the two programs, from arguments that agree. -/
theorem algebraic : Cert.algebraic_InCIdeal_RefInCIdeal := by
  intro m g m' g' _ hagree
  refine ⟨fun c => (dats m 0 c).arrAt 2 cfg0.N, Cert.InCIdeal.Value.run_blocks m g, ?_⟩
  refine (θ_run Cert.RefInCIdeal.defs _ _).mono (fun r h c => ⟨(h c).1.trans ?_, (h c).2⟩) (Cert.RefInCIdeal.Value.run (F := Ideal) m' g')
  obtain ⟨H, hH⟩ := exists_ev (φ := .bf16) (V m c main_v12)
  obtain ⟨Z, hZ⟩ := exists_ev (φ := .bf16) (m ((c : Thread nD τ).loc main_arg2))
  obtain ⟨P, hP⟩ := exists_ev3 (φ := .f32) (m ((c : Thread nD τ).loc main_arg3))
  obtain ⟨e0, e1, e2, e3⟩ := hagree c
  refine (Cert.RefInCIdeal.Read.val_main_v18_eq _ _ _ _).trans ?_
  rw [e0, e1, e2, e3, hZ, hP]
  exact (reference _ _ (entry_h.symm.trans hH)).trans (final ⟨hH, hZ, hP⟩).symm

end Cert.CallInC

end
-- ==== Proof.CallInM.lean ====
/-
  The call that writes the fourth part of the input projection's weight gradient: columns 8192 … 11263.
-/
module

public import proofs.«01_k».proof.Proof.Ext
public import proofs.«01_k».proof.Proof.Gen.InMIdeal.Value
public import proofs.«01_k».proof.Defs
public import proofs.«01_k».proof.Proof.Gen.InM.Frame
public import proofs.«01_k».proof.Proof.Gen.RefInMIdeal.Run
public import proofs.«01_k».proof.Proof.Gen.RefInMIdeal.Read
public import Idealize.ShloMosaic.Lib.Pipeline.ReadBack
public import Idealize.ShloMosaic.Lib.Pipeline.ValueKit
public import Idealize.ShloMosaic.Lib.Claim

@[expose] public section

noncomputable section

namespace Cert.CallInM

open Cert.InMIdeal Cert.InMIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S2048x1024 .bf16) (w1 : m1.IsWhole)
  (m2 : Memref sig .tc .vmem S1x1024x1024 .f32) (w2 : m2.IsWhole) (f g : ℕ → ℕ → EReal) (p : ℕ → ℕ → ℕ → EReal)

theorem out_A (h0 : cond0_0 i) (h1 : ¬cond0_1 i) :
    out0_A_2 (F := Ideal) c i m0 w0 m1 w1 m2 w2 h0 h1 (ev (φ := .bf16) f) (ev (φ := .bf16) g)
      = ev3 (φ := .f32) fun _ a b => ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024]

theorem out_B (h0 : ¬cond0_0 i) (h1 : cond0_1 i) :
    out0_B_2 (F := Ideal) c i m0 w0 m1 w1 m2 w2 h0 h1 (ev (φ := .bf16) f) (ev (φ := .bf16) g) (ev3 (φ := .f32) p)
      = ev3 (φ := .f32) fun _ a b => p 0 a b + ∑ k : Fin 2048, f k a * g k b := by
  frame_open
  simp (disch := decide) only [↓ View.readCov_skip, ↓ View.readCov_cons_toLoadRect, ↓ View.readCov_fill]
  frame_out
  unfold_payloads
  simp only [shapeCast_self_ev, matmul_tn, shapeCast_add_1024, shapeCast_drop_1024, addf_ev]

end Point

/-! ## The grid -/

variable (m : (ℓ : Loc nD τ sig) → Buf (Elt Ideal) ℓ) (c : Dev nD) (H Z : ℕ → ℕ → EReal) (P : ℕ → ℕ → ℕ → EReal)

/-- The arrays the region reads, and the one it writes part of. -/
structure Holds : Prop where
  h : V m c main_v12 = (ev (φ := .bf16) H : FVec Ideal S8192x1024 .bf16)
  z : m ((c : Thread nD τ).loc main_arg2) = (ev (φ := .bf16) Z : FVec Ideal S8192x3072 .bf16)
  p : m ((c : Thread nD τ).loc main_arg3) = (ev3 (φ := .f32) P : FVec Ideal S1x1024x11264 .f32)

/-- Where each window's block lies. -/
theorem idx : ∀ t : Fin grid0.N, win0_0.index t = ![t.val % 4, 0] ∧ win0_1.index t = ![t.val % 4, t.val / 4]
    ∧ win0_2.index t = ![0, 0, 8 + t.val / 4] := by decide +kernel

variable {m c H Z P} (A : Holds m c H Z P) (t : Fin cfg0.N)
include A

theorem block0 : iblk m c 0 t = (ev (φ := .bf16) fun i j => H (2048 * (t.val % 4) + i) j : FVec Ideal S2048x1024 .bf16) := by
  funext y
  blk_simp [iblk]
  refine (congrFun A.h _).trans ?_
  show H _ _ = H _ _
  blk_simp [(idx t).1]
  try rw [Nat.mul_comm]

theorem block1 : iblk m c 1 t = (ev (φ := .bf16) fun i j => Z (2048 * (t.val % 4) + i) (1024 * (t.val / 4) + j) : FVec Ideal S2048x1024 .bf16) := by
  funext y
  blk_simp [iblk]
  rw [V_main_arg2]
  refine (congrFun A.z _).trans ?_
  show Z _ _ = Z _ _
  blk_simp [(idx t).2.1]
  try rw [Nat.mul_comm, Nat.mul_comm (t.val / 4)]

/-- What the accumulator's block holds after point `n`: the rows of the points of its column block so far. -/
theorem outs (n : ℕ) (hn : n < cfg0.N) : outsAt0 m c n hn
    = (ev3 (φ := .f32) fun _ a b => gw H Z 0 (2048 * (n % 4) + 2048) a (1024 * (n / 4) + b) : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H Z (2048 * ((n + 1) % 4)), show 2048 * (n % 4) + 2048 = 2048 * ((n + 1) % 4) by omega, show n / 4 = (n + 1) / 4 by omega]
      rfl

/-- The array the call leaves: the gradient in its columns, what lay there before in the others. -/
theorem final : (dats m 0 c).arrAt 2 cfg0.N
    = (ev3 (φ := .f32) fun q a b => if 8192 ≤ b ∧ b < 11264 then gw H Z 0 8192 a (b - 8192) else P q a b : FVec Ideal S1x1024x11264 .f32) := by
  funext i
  have i0 : (i 0).val < 1 := (i 0).isLt
  have i1 : (i 1).val < 1024 := (i 1).isLt
  have i2 : (i 2).val < 11264 := (i 2).isLt
  by_cases h : 8192 ≤ (i 2).val ∧ (i 2).val < 11264
  · have hN : cfg0.N = 12 := N_0
    have ht : 4 * (((i 2).val - 8192) / 1024) + 3 < cfg0.N := by omega
    refine (dats m 0 c).arrAt_apply_of_mem 2 _ (fun t hf => ?_) cfg0.N ⟨_, ht⟩ i ht ((flush0_2 _).mpr (by dsimp only; omega)) ?_
    · have hf' := (flush0_2 t).mp hf
      have tN : t.val < 12 := t.isLt
      rw [Cert.InMIdeal.Value.flushed2, outs A]
      funext y
      have y1 : (y 1).val < 1024 := (y 1).isLt
      have y2 : (y 2).val < 1024 := (y 2).isLt
      show gw H Z 0 (2048 * (t.val % 4) + 2048) (y 1).val (1024 * (t.val / 4) + (y 2).val) = _
      blk_simp
      refine Eq.trans ?_ (ev3_apply _ _).symm
      blk_simp [(idx t).2.2]
      rw [if_pos (by omega), hf', show 1024 * (t.val / 4) + (y 2).val = (8 + t.val / 4) * 1024 + (y 2).val - 8192 by omega]
    · mem_blk [(idx ⟨_, ht⟩).2.2]
      dsimp only
      omega
  · refine (Cert.InMIdeal.Value.entry2 m c i fun t hf hi => h ?_).trans ?_
    · mem_blk [(idx t).2.2] at hi
      have tN : t.val < 12 := t.isLt
      omega
    · rw [ev3_apply, if_neg h]
      show V m c main_v13 i = _
      entry_read
      exact congrFun A.p i

omit A

/-! ## The reference -/

/-- The normalised rows, which the host computes before the region by the reference's own line. -/
theorem entry_h : V m c main_v12 = (Cert.RefInMIdeal.Read.val_main_v11 (F := Ideal) (m ((c : Thread nD τ).loc main_arg0)) (m ((c : Thread nD τ).loc main_arg1))) := by
  entry_read
  rfl

open Cert.RefInMIdeal.Read in
theorem reference (x0 : FVec Ideal S8192x1024 .f32) (x1 : FVec Ideal S1x1024 .f32) (hH : val_main_v11 (F := Ideal) x0 x1 = (ev (φ := .f32) H : FVec Ideal S8192x1024 .f32)) :
    val_main_v18 (F := Ideal) x0 x1 (ev (φ := .bf16) Z : FVec Ideal S8192x3072 .bf16) (ev3 (φ := .f32) P : FVec Ideal S1x1024x11264 .f32)
      = (ev3 (φ := .f32) fun q a b => if 8192 ≤ b ∧ b < 11264 then gw H Z 0 8192 a (b - 8192) else P q a b : FVec Ideal S1x1024x11264 .f32) := by
  have e : val_main_v17 (F := Ideal) x0 x1 (ev (φ := .bf16) Z : FVec Ideal S8192x3072 .bf16) = (ev3 (φ := .f32) fun _ a b => gw H Z 0 8192 a b : FVec Ideal Cert.RefInMIdeal.S1x1024x3072 .f32) := by
    funext i
    rw [val_main_v17_apply, val_main_v16_apply, val_main_v15_apply, hH]
    refine Eq.trans ?_ (ev3_apply _ _).symm
    simp only [gw, Nat.zero_add]
    exact Finset.sum_congr rfl fun k _ => mul_comm _ _
  unfold val_main_v18
  rw [e]
  refine (updateSlice_ev3 (k0 := 1) (k1 := 1024) (k2 := 3072) (o0 := 0) (o1 := 0) (o2 := 8192) P _ _ _ (by decide) (by decide)).trans (ev3_congr fun q hq a ha b hb => ?_)
  refine if_congr ?_ rfl rfl
  constructor <;> omega

/-! ## The claims -/

theorem frame : Cert.quiescent_InM := fun m g _ => Cert.InM.Gen.frame m g
theorem frameIdeal : Cert.quiescent_InMIdeal := fun m g _ => Cert.InMIdeal.Gen.frame m g

/-- The reference is a straight line of host operations and declares no semaphore. -/
theorem frameRef : Cert.quiescent_RefInMIdeal := fun m g _ =>
  (θ_run Cert.RefInMIdeal.defs _ _).mono (fun r h => ⟨fun c => (h c).2, sem_eq_zero_of_no_sems (by decide) r.2⟩)
    (Cert.RefInMIdeal.Value.run (F := Ideal) m g)

/-- The results of the two programs, from arguments that agree. -/
theorem algebraic : Cert.algebraic_InMIdeal_RefInMIdeal := by
  intro m g m' g' _ hagree
  refine ⟨fun c => (dats m 0 c).arrAt 2 cfg0.N, Cert.InMIdeal.Value.run_blocks m g, ?_⟩
  refine (θ_run Cert.RefInMIdeal.defs _ _).mono (fun r h c => ⟨(h c).1.trans ?_, (h c).2⟩) (Cert.RefInMIdeal.Value.run (F := Ideal) m' g')
  obtain ⟨H, hH⟩ := exists_ev (φ := .bf16) (V m c main_v12)
  obtain ⟨Z, hZ⟩ := exists_ev (φ := .bf16) (m ((c : Thread nD τ).loc main_arg2))
  obtain ⟨P, hP⟩ := exists_ev3 (φ := .f32) (m ((c : Thread nD τ).loc main_arg3))
  obtain ⟨e0, e1, e2, e3⟩ := hagree c
  refine (Cert.RefInMIdeal.Read.val_main_v18_eq _ _ _ _).trans ?_
  rw [e0, e1, e2, e3, hZ, hP]
  exact (reference _ _ (entry_h.symm.trans hH)).trans (final ⟨hH, hZ, hP⟩).symm

end Cert.CallInM

end
-- ==== Proof.CallBrA.lean ====
/-
  The call that writes the first branch projection's weight gradient: plane 0 of three, which the host takes out of the array the region leaves.
-/
module

public import proofs.«01_k».proof.Proof.Ext
public import proofs.«01_k».proof.Proof.Gen.BrAIdeal.Frame
public import proofs.«01_k».proof.Defs
public import proofs.«01_k».proof.Proof.Gen.BrA.Frame
public import proofs.«01_k».proof.Proof.Gen.RefBrAIdeal.Run
public import proofs.«01_k».proof.Proof.Gen.RefBrAIdeal.Read
public import Idealize.ShloMosaic.Lib.Pipeline.ReadBack
public import Idealize.ShloMosaic.Lib.Pipeline.ValueKit
public import Idealize.ShloMosaic.Lib.Claim

@[expose] public section

noncomputable section

namespace Cert.CallBrA

open Cert.BrAIdeal Cert.BrAIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S1x2048x1024 .bf16) (w1 : m1.IsWhole)
  (m2 : Memref sig .tc .vmem S1x1024x1024 .f32) (w2 : m2.IsWhole) (f : ℕ → ℕ → EReal) (g p : ℕ → ℕ → ℕ → EReal)

theorem out_A (h0 : cond0_0 i) (h1 : ¬cond0_1 i) :
    out0_A_2 (F := Ideal) c i m0 w0 m1 w1 m2 w2 h0 h1 (ev (φ := .bf16) f) (ev3 (φ := .bf16) g)
      = ev3 (φ := .f32) fun _ a b => ∑ k : Fin 2048, f k a * g 0 k b := by
  frame_open
  simp (disch := decide) only [↓ View.readCov_skip, ↓ View.readCov_cons_toLoadRect, ↓ View.readCov_fill]
  frame_out
  unfold_payloads
  simp only [shapeCast_self_ev, shapeCast_drop_2048, matmul_tn, shapeCast_add_1024]

theorem out_B (h0 : ¬cond0_0 i) (h1 : cond0_1 i) :
    out0_B_2 (F := Ideal) c i m0 w0 m1 w1 m2 w2 h0 h1 (ev (φ := .bf16) f) (ev3 (φ := .bf16) g) (ev3 (φ := .f32) p)
      = ev3 (φ := .f32) fun _ a b => p 0 a b + ∑ k : Fin 2048, f k a * g 0 k b := by
  frame_open
  simp (disch := decide) only [↓ View.readCov_skip, ↓ View.readCov_cons_toLoadRect, ↓ View.readCov_fill]
  frame_out
  unfold_payloads
  simp only [shapeCast_self_ev, shapeCast_drop_2048, matmul_tn, shapeCast_add_1024, shapeCast_drop_1024, addf_ev]

end Point

/-! ## The grid -/

variable (m : (ℓ : Loc nD τ sig) → Buf (Elt Ideal) ℓ) (c : Dev nD) (H : ℕ → ℕ → EReal) (Z : ℕ → ℕ → ℕ → EReal)

/-- The arrays the region reads. -/
structure Holds : Prop where
  h : m ((c : Thread nD τ).loc main_arg0) = (ev (φ := .bf16) H : FVec Ideal S8192x1024 .bf16)
  z : m ((c : Thread nD τ).loc main_arg1) = (ev3 (φ := .bf16) Z : FVec Ideal S3x8192x1024 .bf16)

/-- Where each window's block lies. -/
theorem idx : ∀ t : Fin grid0.N, win0_0.index t = ![t.val % 4, 0] ∧ win0_1.index t = ![0, t.val % 4, 0]
    ∧ win0_2.index t = ![0, 0, 0] := by decide +kernel

variable {m c H Z} (A : Holds m c H Z) (t : Fin cfg0.N)
include A

theorem block0 : iblk m c 0 t = (ev (φ := .bf16) fun i j => H (2048 * (t.val % 4) + i) j : FVec Ideal S2048x1024 .bf16) := by
  funext y
  blk_simp [iblk]
  rw [V_main_arg0]
  refine (congrFun A.h _).trans ?_
  show H _ _ = H _ _
  blk_simp [(idx t).1]
  try rw [Nat.mul_comm]

theorem block1 : iblk m c 1 t = (ev3 (φ := .bf16) fun _ i j => Z 0 (2048 * (t.val % 4) + i) j : FVec Ideal S1x2048x1024 .bf16) := by
  funext y
  blk_simp [iblk]
  rw [V_main_arg1]
  refine (congrFun A.z _).trans ?_
  have y0 : (y 0).val < 1 := (y 0).isLt
  show Z _ _ _ = Z _ _ _
  blk_simp [(idx t).2.1]
  rw [Nat.mul_comm]

/-- What the accumulator's block holds after point `n`: the rows of the points of its column block so far. -/
theorem outs (n : ℕ) (hn : n < cfg0.N) : outsAt0 m c n hn
    = (ev3 (φ := .f32) fun _ a b => gw H (Z 0) 0 (2048 * (n % 4) + 2048) a b : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    have n4 : n + 1 < 4 := hn
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H (Z 0) (2048 * ((n + 1) % 4)), show 2048 * (n % 4) + 2048 = 2048 * ((n + 1) % 4) by omega]
      rfl

/-- The plane the region writes: the gradient. -/
theorem final (i : S3x1024x1024.Idx) (h : (i 0).val = 0) :
    (dats m 0 c).arrAt 2 cfg0.N i = gw H (Z 0) 0 8192 (i 1).val (i 2).val := by
  have i1 : (i 1).val < 1024 := (i 1).isLt
  have i2 : (i 2).val < 1024 := (i 2).isLt
  have hN : cfg0.N = 4 := N_0
  obtain ⟨t3, h3⟩ : ∃ t : Fin cfg0.N, t.val = 3 := ⟨⟨3, by omega⟩, rfl⟩
  refine ((dats m 0 c).arrAt_apply_of_mem 2 (ev3 (φ := .f32) fun q a b => if q = 0 then gw H (Z 0) 0 8192 a b else 0 : FVec Ideal S3x1024x1024 .f32)
    (fun t hf => ?_) cfg0.N t3 i t3.isLt ((flush0_2 _).mpr (by omega)) ?_).trans ((ev3_apply _ _).trans (if_pos h))
  · have hf' := (flush0_2 t).mp hf
    have tN : t.val < 4 := t.isLt
    show (cfg0.win 2).cut (grid0.coords t) ((dats m 0 c).after 2 t) = _
    rw [after0_2, outs A]
    funext y
    have y0 : (y 0).val < 1 := (y 0).isLt
    have y1 : (y 1).val < 1024 := (y 1).isLt
    have y2 : (y 2).val < 1024 := (y 2).isLt
    show gw H (Z 0) 0 (2048 * (t.val % 4) + 2048) (y 1).val (y 2).val = _
    blk_simp
    refine Eq.trans ?_ (ev3_apply _ _).symm
    blk_simp [(idx t).2.2]
    rw [if_pos trivial, hf']
  · mem_blk [(idx t3).2.2]
    omega

omit A

/-- What the host's slice and reshape make of the array the region leaves. -/
theorem tail : Pipeline.afterTail₀ cfgs (dats m) 0 (V0 m) [hostOps1] c main_v2
    = shapeCast S1024x1024 (extractStridedSlice S1x1024x1024 ![0, 0, 0] ((dats m 0 c).arrAt 2 cfg0.N : FVec Ideal S3x1024x1024 .f32)
        slices_S3x1024x1024_S1x1024x1024_0_0_0) shapeCasts_S1x1024x1024_S1024x1024 := by
  unfold Pipeline.afterTail₀
  simp only [hostOps1, List.flatten_cons, List.flatten_nil, List.append_nil]
  after_results
  exact congrArg (fun x : FVec Ideal S3x1024x1024 .f32 => shapeCast S1024x1024 (extractStridedSlice S1x1024x1024 ![0, 0, 0] x
      slices_S3x1024x1024_S1x1024x1024_0_0_0) shapeCasts_S1x1024x1024_S1024x1024)
    (Pipeline.withArrays_arr spec0 (by decide) c (V0 m c) (fun w => (dats m 0 c).arrAt w cfg0.N) 2)

/-- The result: the gradient. -/
theorem result (A : Holds m c H Z) : Pipeline.afterTail₀ cfgs (dats m) 0 (V0 m) [hostOps1] c main_v2
    = (ev (φ := .f32) fun a b => gw H (Z 0) 0 8192 a b : FVec Ideal S1024x1024 .f32) := by
  rw [tail]
  funext i
  pointwise
  exact final A _ rfl

/-! ## The reference -/

open Cert.RefBrAIdeal.Read in
theorem reference : val_main_v7 (F := Ideal) (ev (φ := .bf16) H : FVec Ideal S8192x1024 .bf16) (ev3 (φ := .bf16) Z : FVec Ideal S3x8192x1024 .bf16)
    = (ev (φ := .f32) fun a b => gw H (Z 0) 0 8192 a b : FVec Ideal S1024x1024 .f32) := by
  funext i
  rw [val_main_v7_apply, val_main_v6_apply]
  refine Eq.trans ?_ (ev_apply _ _).symm
  simp only [gw, Nat.zero_add]
  refine Finset.sum_congr rfl fun k _ => (mul_comm _ _).trans (congrArg _ ?_)
  rw [val_main_v3_apply, val_main_v2_apply, val_main_v1_apply]
  have k0 : k.val < 8192 := k.isLt
  have i1 : (i 1).val < 1024 := (i 1).isLt
  show Z 0 ((k.val * 1024 + (i 1).val) / 1024 % 8192) ((k.val * 1024 + (i 1).val) % 1024) = Z 0 k.val (i 1).val
  rw [show (k.val * 1024 + (i 1).val) / 1024 % 8192 = k.val by omega, show (k.val * 1024 + (i 1).val) % 1024 = (i 1).val by omega]

/-! ## The claims -/

theorem frame : Cert.quiescent_BrA := fun m g _ => Cert.BrA.Gen.frame m g
theorem frameIdeal : Cert.quiescent_BrAIdeal := fun m g _ => Cert.BrAIdeal.Gen.frame m g

/-- The reference is a straight line of host operations and declares no semaphore. -/
theorem frameRef : Cert.quiescent_RefBrAIdeal := fun m g _ =>
  (θ_run Cert.RefBrAIdeal.defs _ _).mono (fun r h => ⟨fun c => (h c).2, sem_eq_zero_of_no_sems (by decide) r.2⟩)
    (Cert.RefBrAIdeal.Value.run (F := Ideal) m g)

/-- The results of the two programs, from arguments that agree. -/
theorem algebraic : Cert.algebraic_BrAIdeal_RefBrAIdeal := by
  intro m g m' g' _ hagree
  refine ⟨fun c => Pipeline.afterTail₀ cfgs (dats m) 0 (V0 m) [hostOps1] c main_v2, ?_, ?_⟩
  · exact (θ_run defs _ _).mono (fun _ h c => ⟨(h c).2 main_v2 (Pipeline.mem_restRefs_of main_v2 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m g)
  refine (θ_run Cert.RefBrAIdeal.defs _ _).mono (fun r h c => ⟨(h c).1.trans ?_, (h c).2⟩) (Cert.RefBrAIdeal.Value.run (F := Ideal) m' g')
  obtain ⟨H, hH⟩ := exists_ev (φ := .bf16) (m ((c : Thread nD τ).loc main_arg0))
  obtain ⟨Z, hZ⟩ := exists_ev3 (φ := .bf16) (m ((c : Thread nD τ).loc main_arg1))
  obtain ⟨e0, e1⟩ := hagree c
  refine (Cert.RefBrAIdeal.Read.val_main_v7_eq _ _).trans ?_
  rw [e0, e1, hH, hZ]
  exact (reference (H := H) (Z := Z)).trans (result ⟨hH, hZ⟩).symm

end Cert.CallBrA

end
-- ==== Proof.CallBrB.lean ====
/-
  The call that writes the second branch projection's weight gradient: plane 1 of three.
-/
module

public import proofs.«01_k».proof.Proof.Ext
public import proofs.«01_k».proof.Proof.Gen.BrBIdeal.Value
public import proofs.«01_k».proof.Defs
public import proofs.«01_k».proof.Proof.Gen.BrB.Frame
public import proofs.«01_k».proof.Proof.Gen.RefBrBIdeal.Run
public import proofs.«01_k».proof.Proof.Gen.RefBrBIdeal.Read
public import Idealize.ShloMosaic.Lib.Pipeline.ReadBack
public import Idealize.ShloMosaic.Lib.Pipeline.ValueKit
public import Idealize.ShloMosaic.Lib.Claim

@[expose] public section

noncomputable section

namespace Cert.CallBrB

open Cert.BrBIdeal Cert.BrBIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S1x2048x1024 .bf16) (w1 : m1.IsWhole)
  (m2 : Memref sig .tc .vmem S1x1024x1024 .f32) (w2 : m2.IsWhole) (f : ℕ → ℕ → EReal) (g p : ℕ → ℕ → ℕ → EReal)

theorem out_A (h0 : cond0_0 i) (h1 : ¬cond0_1 i) :
    out0_A_2 (F := Ideal) c i m0 w0 m1 w1 m2 w2 h0 h1 (ev (φ := .bf16) f) (ev3 (φ := .bf16) g)
      = ev3 (φ := .f32) fun _ a b => ∑ k : Fin 2048, f k a * g 0 k b := by
  frame_open
  simp (disch := decide) only [↓ View.readCov_skip, ↓ View.readCov_cons_toLoadRect, ↓ View.readCov_fill]
  frame_out
  unfold_payloads
  simp only [shapeCast_self_ev, shapeCast_drop_2048, matmul_tn, shapeCast_add_1024]

theorem out_B (h0 : ¬cond0_0 i) (h1 : cond0_1 i) :
    out0_B_2 (F := Ideal) c i m0 w0 m1 w1 m2 w2 h0 h1 (ev (φ := .bf16) f) (ev3 (φ := .bf16) g) (ev3 (φ := .f32) p)
      = ev3 (φ := .f32) fun _ a b => p 0 a b + ∑ k : Fin 2048, f k a * g 0 k b := by
  frame_open
  simp (disch := decide) only [↓ View.readCov_skip, ↓ View.readCov_cons_toLoadRect, ↓ View.readCov_fill]
  frame_out
  unfold_payloads
  simp only [shapeCast_self_ev, shapeCast_drop_2048, matmul_tn, shapeCast_add_1024, shapeCast_drop_1024, addf_ev]

end Point

/-! ## The grid -/

variable (m : (ℓ : Loc nD τ sig) → Buf (Elt Ideal) ℓ) (c : Dev nD) (H : ℕ → ℕ → EReal) (Z P : ℕ → ℕ → ℕ → EReal)

/-- The arrays the region reads, and the one it writes part of. -/
structure Holds : Prop where
  h : m ((c : Thread nD τ).loc main_arg0) = (ev (φ := .bf16) H : FVec Ideal S8192x1024 .bf16)
  z : m ((c : Thread nD τ).loc main_arg1) = (ev3 (φ := .bf16) Z : FVec Ideal S3x8192x1024 .bf16)
  p : m ((c : Thread nD τ).loc main_arg2) = (ev3 (φ := .f32) P : FVec Ideal S3x1024x1024 .f32)

/-- Where each window's block lies. -/
theorem idx : ∀ t : Fin grid0.N, win0_0.index t = ![t.val % 4, 0] ∧ win0_1.index t = ![1, t.val % 4, 0]
    ∧ win0_2.index t = ![1, 0, 0] := by decide +kernel

variable {m c H Z P} (A : Holds m c H Z P) (t : Fin cfg0.N)
include A

theorem block0 : iblk m c 0 t = (ev (φ := .bf16) fun i j => H (2048 * (t.val % 4) + i) j : FVec Ideal S2048x1024 .bf16) := by
  funext y
  blk_simp [iblk]
  rw [V_main_arg0]
  refine (congrFun A.h _).trans ?_
  show H _ _ = H _ _
  blk_simp [(idx t).1]
  try rw [Nat.mul_comm]

theorem block1 : iblk m c 1 t = (ev3 (φ := .bf16) fun _ i j => Z 1 (2048 * (t.val % 4) + i) j : FVec Ideal S1x2048x1024 .bf16) := by
  funext y
  blk_simp [iblk]
  rw [V_main_arg1]
  refine (congrFun A.z _).trans ?_
  have y0 : (y 0).val < 1 := (y 0).isLt
  show Z _ _ _ = Z _ _ _
  blk_simp [(idx t).2.1]
  rw [Nat.mul_comm]

/-- What the accumulator's block holds after point `n`: the rows of the points of its column block so far. -/
theorem outs (n : ℕ) (hn : n < cfg0.N) : outsAt0 m c n hn
    = (ev3 (φ := .f32) fun _ a b => gw H (Z 1) 0 (2048 * (n % 4) + 2048) a b : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    have n4 : n + 1 < 4 := hn
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H (Z 1) (2048 * ((n + 1) % 4)), show 2048 * (n % 4) + 2048 = 2048 * ((n + 1) % 4) by omega]
      rfl

/-- The array the call leaves: the gradient in its plane, what lay there before in the others. -/
theorem final : (dats m 0 c).arrAt 2 cfg0.N
    = (ev3 (φ := .f32) fun q a b => if q = 1 then gw H (Z 1) 0 8192 a b else P q a b : FVec Ideal S3x1024x1024 .f32) := by
  funext i
  have i0 : (i 0).val < 3 := (i 0).isLt
  have i1 : (i 1).val < 1024 := (i 1).isLt
  have i2 : (i 2).val < 1024 := (i 2).isLt
  by_cases h : (i 0).val = 1
  · have hN : cfg0.N = 4 := N_0
    obtain ⟨t3, h3⟩ : ∃ t : Fin cfg0.N, t.val = 3 := ⟨⟨3, by omega⟩, rfl⟩
    refine (dats m 0 c).arrAt_apply_of_mem 2 _ (fun t hf => ?_) cfg0.N t3 i t3.isLt ((flush0_2 _).mpr (by omega)) ?_
    · have hf' := (flush0_2 t).mp hf
      have tN : t.val < 4 := t.isLt
      rw [Cert.BrBIdeal.Value.flushed2, outs A]
      funext y
      have y0 : (y 0).val < 1 := (y 0).isLt
      have y1 : (y 1).val < 1024 := (y 1).isLt
      have y2 : (y 2).val < 1024 := (y 2).isLt
      show gw H (Z 1) 0 (2048 * (t.val % 4) + 2048) (y 1).val (y 2).val = _
      blk_simp
      refine Eq.trans ?_ (ev3_apply _ _).symm
      blk_simp [(idx t).2.2]
      rw [if_pos trivial, hf']
    · mem_blk [(idx t3).2.2]
      omega
  · refine (Cert.BrBIdeal.Value.entry2 m c i fun t hf hi => h ?_).trans ?_
    · mem_blk [(idx t).2.2] at hi
      have tN : t.val < 4 := t.isLt
      omega
    · rw [ev3_apply, if_neg h]
      show V m c main_v0 i = _
      entry_read
      exact congrFun A.p i

omit A

/-! ## The reference -/

open Cert.RefBrBIdeal.Read in
theorem reference : val_main_v9 (F := Ideal) (ev (φ := .bf16) H : FVec Ideal S8192x1024 .bf16) (ev3 (φ := .bf16) Z : FVec Ideal S3x8192x1024 .bf16)
    (ev3 (φ := .f32) P : FVec Ideal S3x1024x1024 .f32)
      = (ev3 (φ := .f32) fun q a b => if q = 1 then gw H (Z 1) 0 8192 a b else P q a b : FVec Ideal S3x1024x1024 .f32) := by
  have e : val_main_v8 (F := Ideal) (ev (φ := .bf16) H : FVec Ideal S8192x1024 .bf16) (ev3 (φ := .bf16) Z : FVec Ideal S3x8192x1024 .bf16)
      = (ev3 (φ := .f32) fun _ a b => gw H (Z 1) 0 8192 a b : FVec Ideal S1x1024x1024 .f32) := by
    funext i
    rw [val_main_v8_apply, val_main_v7_apply, val_main_v6_apply]
    refine Eq.trans ?_ (ev3_apply _ _).symm
    simp only [gw, Nat.zero_add]
    refine Finset.sum_congr rfl fun k _ => (mul_comm _ _).trans (congrArg _ ?_)
    rw [val_main_v3_apply, val_main_v2_apply, val_main_v1_apply]
    have k0 : k.val < 8192 := k.isLt
    have i2 : (i 2).val < 1024 := (i 2).isLt
    show Z 1 ((k.val * 1024 + (i 2).val) / 1024 % 8192) ((k.val * 1024 + (i 2).val) % 1024) = Z 1 k.val (i 2).val
    rw [show (k.val * 1024 + (i 2).val) / 1024 % 8192 = k.val by omega, show (k.val * 1024 + (i 2).val) % 1024 = (i 2).val by omega]
  unfold val_main_v9
  rw [e]
  refine (updateSlice_ev3 (k0 := 1) (k1 := 1024) (k2 := 1024) (o0 := 1) (o1 := 0) (o2 := 0) P _ _ _ (by decide) (by decide)).trans (ev3_congr fun q hq a ha b hb => ?_)
  refine if_congr ?_ rfl rfl
  constructor <;> omega

/-! ## The claims -/

theorem frame : Cert.quiescent_BrB := fun m g _ => Cert.BrB.Gen.frame m g
theorem frameIdeal : Cert.quiescent_BrBIdeal := fun m g _ => Cert.BrBIdeal.Gen.frame m g

/-- The reference is a straight line of host operations and declares no semaphore. -/
theorem frameRef : Cert.quiescent_RefBrBIdeal := fun m g _ =>
  (θ_run Cert.RefBrBIdeal.defs _ _).mono (fun r h => ⟨fun c => (h c).2, sem_eq_zero_of_no_sems (by decide) r.2⟩)
    (Cert.RefBrBIdeal.Value.run (F := Ideal) m g)

/-- The results of the two programs, from arguments that agree. -/
theorem algebraic : Cert.algebraic_BrBIdeal_RefBrBIdeal := by
  intro m g m' g' _ hagree
  refine ⟨fun c => (dats m 0 c).arrAt 2 cfg0.N, Cert.BrBIdeal.Value.run_blocks m g, ?_⟩
  refine (θ_run Cert.RefBrBIdeal.defs _ _).mono (fun r h c => ⟨(h c).1.trans ?_, (h c).2⟩) (Cert.RefBrBIdeal.Value.run (F := Ideal) m' g')
  obtain ⟨H, hH⟩ := exists_ev (φ := .bf16) (m ((c : Thread nD τ).loc main_arg0))
  obtain ⟨Z, hZ⟩ := exists_ev3 (φ := .bf16) (m ((c : Thread nD τ).loc main_arg1))
  obtain ⟨P, hP⟩ := exists_ev3 (φ := .f32) (m ((c : Thread nD τ).loc main_arg2))
  obtain ⟨e0, e1, e2⟩ := hagree c
  refine (Cert.RefBrBIdeal.Read.val_main_v9_eq _ _ _).trans ?_
  rw [e0, e1, e2, hH, hZ, hP]
  exact (reference (H := H) (Z := Z) (P := P)).trans (final ⟨hH, hZ, hP⟩).symm

end Cert.CallBrB

end
-- ==== Proof.CallBrC.lean ====
/-
  The call that writes the third branch projection's weight gradient: plane 2 of three.
-/
module

public import proofs.«01_k».proof.Proof.Ext
public import proofs.«01_k».proof.Proof.Gen.BrCIdeal.Value
public import proofs.«01_k».proof.Defs
public import proofs.«01_k».proof.Proof.Gen.BrC.Frame
public import proofs.«01_k».proof.Proof.Gen.RefBrCIdeal.Run
public import proofs.«01_k».proof.Proof.Gen.RefBrCIdeal.Read
public import Idealize.ShloMosaic.Lib.Pipeline.ReadBack
public import Idealize.ShloMosaic.Lib.Pipeline.ValueKit
public import Idealize.ShloMosaic.Lib.Claim

@[expose] public section

noncomputable section

namespace Cert.CallBrC

open Cert.BrCIdeal Cert.BrCIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S1x2048x1024 .bf16) (w1 : m1.IsWhole)
  (m2 : Memref sig .tc .vmem S1x1024x1024 .f32) (w2 : m2.IsWhole) (f : ℕ → ℕ → EReal) (g p : ℕ → ℕ → ℕ → EReal)

theorem out_A (h0 : cond0_0 i) (h1 : ¬cond0_1 i) :
    out0_A_2 (F := Ideal) c i m0 w0 m1 w1 m2 w2 h0 h1 (ev (φ := .bf16) f) (ev3 (φ := .bf16) g)
      = ev3 (φ := .f32) fun _ a b => ∑ k : Fin 2048, f k a * g 0 k b := by
  frame_open
  simp (disch := decide) only [↓ View.readCov_skip, ↓ View.readCov_cons_toLoadRect, ↓ View.readCov_fill]
  frame_out
  unfold_payloads
  simp only [shapeCast_self_ev, shapeCast_drop_2048, matmul_tn, shapeCast_add_1024]

theorem out_B (h0 : ¬cond0_0 i) (h1 : cond0_1 i) :
    out0_B_2 (F := Ideal) c i m0 w0 m1 w1 m2 w2 h0 h1 (ev (φ := .bf16) f) (ev3 (φ := .bf16) g) (ev3 (φ := .f32) p)
      = ev3 (φ := .f32) fun _ a b => p 0 a b + ∑ k : Fin 2048, f k a * g 0 k b := by
  frame_open
  simp (disch := decide) only [↓ View.readCov_skip, ↓ View.readCov_cons_toLoadRect, ↓ View.readCov_fill]
  frame_out
  unfold_payloads
  simp only [shapeCast_self_ev, shapeCast_drop_2048, matmul_tn, shapeCast_add_1024, shapeCast_drop_1024, addf_ev]

end Point

/-! ## The grid -/

variable (m : (ℓ : Loc nD τ sig) → Buf (Elt Ideal) ℓ) (c : Dev nD) (H : ℕ → ℕ → EReal) (Z P : ℕ → ℕ → ℕ → EReal)

/-- The arrays the region reads, and the one it writes part of. -/
structure Holds : Prop where
  h : m ((c : Thread nD τ).loc main_arg0) = (ev (φ := .bf16) H : FVec Ideal S8192x1024 .bf16)
  z : m ((c : Thread nD τ).loc main_arg1) = (ev3 (φ := .bf16) Z : FVec Ideal S3x8192x1024 .bf16)
  p : m ((c : Thread nD τ).loc main_arg2) = (ev3 (φ := .f32) P : FVec Ideal S3x1024x1024 .f32)

/-- Where each window's block lies. -/
theorem idx : ∀ t : Fin grid0.N, win0_0.index t = ![t.val % 4, 0] ∧ win0_1.index t = ![2, t.val % 4, 0]
    ∧ win0_2.index t = ![2, 0, 0] := by decide +kernel

variable {m c H Z P} (A : Holds m c H Z P) (t : Fin cfg0.N)
include A

theorem block0 : iblk m c 0 t = (ev (φ := .bf16) fun i j => H (2048 * (t.val % 4) + i) j : FVec Ideal S2048x1024 .bf16) := by
  funext y
  blk_simp [iblk]
  rw [V_main_arg0]
  refine (congrFun A.h _).trans ?_
  show H _ _ = H _ _
  blk_simp [(idx t).1]
  try rw [Nat.mul_comm]

theorem block1 : iblk m c 1 t = (ev3 (φ := .bf16) fun _ i j => Z 2 (2048 * (t.val % 4) + i) j : FVec Ideal S1x2048x1024 .bf16) := by
  funext y
  blk_simp [iblk]
  rw [V_main_arg1]
  refine (congrFun A.z _).trans ?_
  have y0 : (y 0).val < 1 := (y 0).isLt
  show Z _ _ _ = Z _ _ _
  blk_simp [(idx t).2.1]
  rw [Nat.mul_comm]

/-- What the accumulator's block holds after point `n`: the rows of the points of its column block so far. -/
theorem outs (n : ℕ) (hn : n < cfg0.N) : outsAt0 m c n hn
    = (ev3 (φ := .f32) fun _ a b => gw H (Z 2) 0 (2048 * (n % 4) + 2048) a b : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    have n4 : n + 1 < 4 := hn
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H (Z 2) (2048 * ((n + 1) % 4)), show 2048 * (n % 4) + 2048 = 2048 * ((n + 1) % 4) by omega]
      rfl

/-- The array the call leaves: the gradient in its plane, what lay there before in the others. -/
theorem final : (dats m 0 c).arrAt 2 cfg0.N
    = (ev3 (φ := .f32) fun q a b => if q = 2 then gw H (Z 2) 0 8192 a b else P q a b : FVec Ideal S3x1024x1024 .f32) := by
  funext i
  have i0 : (i 0).val < 3 := (i 0).isLt
  have i1 : (i 1).val < 1024 := (i 1).isLt
  have i2 : (i 2).val < 1024 := (i 2).isLt
  by_cases h : (i 0).val = 2
  · have hN : cfg0.N = 4 := N_0
    obtain ⟨t3, h3⟩ : ∃ t : Fin cfg0.N, t.val = 3 := ⟨⟨3, by omega⟩, rfl⟩
    refine (dats m 0 c).arrAt_apply_of_mem 2 _ (fun t hf => ?_) cfg0.N t3 i t3.isLt ((flush0_2 _).mpr (by omega)) ?_
    · have hf' := (flush0_2 t).mp hf
      have tN : t.val < 4 := t.isLt
      rw [Cert.BrCIdeal.Value.flushed2, outs A]
      funext y
      have y0 : (y 0).val < 1 := (y 0).isLt
      have y1 : (y 1).val < 1024 := (y 1).isLt
      have y2 : (y 2).val < 1024 := (y 2).isLt
      show gw H (Z 2) 0 (2048 * (t.val % 4) + 2048) (y 1).val (y 2).val = _
      blk_simp
      refine Eq.trans ?_ (ev3_apply _ _).symm
      blk_simp [(idx t).2.2]
      rw [if_pos trivial, hf']
    · mem_blk [(idx t3).2.2]
      omega
  · refine (Cert.BrCIdeal.Value.entry2 m c i fun t hf hi => h ?_).trans ?_
    · mem_blk [(idx t).2.2] at hi
      have tN : t.val < 4 := t.isLt
      omega
    · rw [ev3_apply, if_neg h]
      show V m c main_v0 i = _
      entry_read
      exact congrFun A.p i

omit A

/-! ## The reference -/

open Cert.RefBrCIdeal.Read in
theorem reference : val_main_v9 (F := Ideal) (ev (φ := .bf16) H : FVec Ideal S8192x1024 .bf16) (ev3 (φ := .bf16) Z : FVec Ideal S3x8192x1024 .bf16)
    (ev3 (φ := .f32) P : FVec Ideal S3x1024x1024 .f32)
      = (ev3 (φ := .f32) fun q a b => if q = 2 then gw H (Z 2) 0 8192 a b else P q a b : FVec Ideal S3x1024x1024 .f32) := by
  have e : val_main_v8 (F := Ideal) (ev (φ := .bf16) H : FVec Ideal S8192x1024 .bf16) (ev3 (φ := .bf16) Z : FVec Ideal S3x8192x1024 .bf16)
      = (ev3 (φ := .f32) fun _ a b => gw H (Z 2) 0 8192 a b : FVec Ideal S1x1024x1024 .f32) := by
    funext i
    rw [val_main_v8_apply, val_main_v7_apply, val_main_v6_apply]
    refine Eq.trans ?_ (ev3_apply _ _).symm
    simp only [gw, Nat.zero_add]
    refine Finset.sum_congr rfl fun k _ => (mul_comm _ _).trans (congrArg _ ?_)
    rw [val_main_v3_apply, val_main_v2_apply, val_main_v1_apply]
    have k0 : k.val < 8192 := k.isLt
    have i2 : (i 2).val < 1024 := (i 2).isLt
    show Z 2 ((k.val * 1024 + (i 2).val) / 1024 % 8192) ((k.val * 1024 + (i 2).val) % 1024) = Z 2 k.val (i 2).val
    rw [show (k.val * 1024 + (i 2).val) / 1024 % 8192 = k.val by omega, show (k.val * 1024 + (i 2).val) % 1024 = (i 2).val by omega]
  unfold val_main_v9
  rw [e]
  refine (updateSlice_ev3 (k0 := 1) (k1 := 1024) (k2 := 1024) (o0 := 2) (o1 := 0) (o2 := 0) P _ _ _ (by decide) (by decide)).trans (ev3_congr fun q hq a ha b hb => ?_)
  refine if_congr ?_ rfl rfl
  constructor <;> omega

/-! ## The claims -/

theorem frame : Cert.quiescent_BrC := fun m g _ => Cert.BrC.Gen.frame m g
theorem frameIdeal : Cert.quiescent_BrCIdeal := fun m g _ => Cert.BrCIdeal.Gen.frame m g

/-- The reference is a straight line of host operations and declares no semaphore. -/
theorem frameRef : Cert.quiescent_RefBrCIdeal := fun m g _ =>
  (θ_run Cert.RefBrCIdeal.defs _ _).mono (fun r h => ⟨fun c => (h c).2, sem_eq_zero_of_no_sems (by decide) r.2⟩)
    (Cert.RefBrCIdeal.Value.run (F := Ideal) m g)

/-- The results of the two programs, from arguments that agree. -/
theorem algebraic : Cert.algebraic_BrCIdeal_RefBrCIdeal := by
  intro m g m' g' _ hagree
  refine ⟨fun c => (dats m 0 c).arrAt 2 cfg0.N, Cert.BrCIdeal.Value.run_blocks m g, ?_⟩
  refine (θ_run Cert.RefBrCIdeal.defs _ _).mono (fun r h c => ⟨(h c).1.trans ?_, (h c).2⟩) (Cert.RefBrCIdeal.Value.run (F := Ideal) m' g')
  obtain ⟨H, hH⟩ := exists_ev (φ := .bf16) (m ((c : Thread nD τ).loc main_arg0))
  obtain ⟨Z, hZ⟩ := exists_ev3 (φ := .bf16) (m ((c : Thread nD τ).loc main_arg1))
  obtain ⟨P, hP⟩ := exists_ev3 (φ := .f32) (m ((c : Thread nD τ).loc main_arg2))
  obtain ⟨e0, e1, e2⟩ := hagree c
  refine (Cert.RefBrCIdeal.Read.val_main_v9_eq _ _ _).trans ?_
  rw [e0, e1, e2, hH, hZ, hP]
  exact (reference (H := H) (Z := Z) (P := P)).trans (final ⟨hH, hZ, hP⟩).symm

end Cert.CallBrC

end
-- ==== Proof.CallOut.lean ====
/-
  The call that writes the weight gradient of the step's last projection, whose rows it rounds to bfloat16 itself.
-/
module

public import proofs.«01_k».proof.Proof.Ext
public import proofs.«01_k».proof.Proof.Gen.OutIdeal.Value
public import proofs.«01_k».proof.Defs
public import proofs.«01_k».proof.Proof.Gen.Out.Frame
public import proofs.«01_k».proof.Proof.Gen.RefOutIdeal.Run
public import proofs.«01_k».proof.Proof.Gen.RefOutIdeal.Read
public import Idealize.ShloMosaic.Lib.Pipeline.ReadBack
public import Idealize.ShloMosaic.Lib.Pipeline.ValueKit
public import Idealize.ShloMosaic.Lib.Claim

@[expose] public section

noncomputable section

namespace Cert.CallOut

open Cert.OutIdeal Cert.OutIdeal.Gen Idealize.ShloMosaic Idealize.ShloMosaic.TcCoe Idealize.SL.Sem
open Cert.Ext

/-! ## One grid point -/

theorem matmul_tn (a b : ℕ → ℕ → EReal) : matmul dot_S2048x1024_S2048x1024_S1024x1024_0_0_1_1_n_n none
    (ev a : FVec Ideal S2048x1024 .bf16) (ev b : FVec Ideal S2048x1024 .bf16) (constant S1024x1024 .f32 0x00000000#32)
    = (ev fun i j => ∑ k : Fin 2048, a k i * b k j) := by
  funext i
  pointwise [dot_S2048x1024_S2048x1024_S1024x1024_0_0_1_1_n_n]
  simp only [ev_apply]; rfl

section Point

variable (c : Dev nD) (i : grid0.Coords)
  (m0 : Memref sig .tc .vmem S2048x1024 .bf16) (w0 : m0.IsWhole) (m1 : Memref sig .tc .vmem S2048x1024 .f32) (w1 : m1.IsWhole)
  (m2 : Memref sig .tc .vmem S1x1024x1024 .f32) (w2 : m2.IsWhole) (f g : ℕ → ℕ → EReal) (p : ℕ → ℕ → ℕ → EReal)

theorem out_A (h0 : cond0_0 i) (h1 : ¬cond0_1 i) :
    out0_A_2 (F := Ideal) c i m0 w0 m1 w1 m2 w2 h0 h1 (ev (φ := .bf16) f) (ev (φ := .f32) g)
      = ev3 (φ := .f32) fun _ a b => ∑ k : Fin 2048, f k a * g k b := by
  frame_open
  simp (disch := decide) only [↓ View.readCov_skip, ↓ View.readCov_cons_toLoadRect, ↓ View.readCov_fill]
  frame_out
  unfold_payloads
  simp only [shapeCast_self_ev, truncf_ev, matmul_tn, shapeCast_add_1024]

theorem out_B (h0 : ¬cond0_0 i) (h1 : cond0_1 i) :
    out0_B_2 (F := Ideal) c i m0 w0 m1 w1 m2 w2 h0 h1 (ev (φ := .bf16) f) (ev (φ := .f32) g) (ev3 (φ := .f32) p)
      = ev3 (φ := .f32) fun _ a b => p 0 a b + ∑ k : Fin 2048, f k a * g k b := by
  frame_open
  simp (disch := decide) only [↓ View.readCov_skip, ↓ View.readCov_cons_toLoadRect, ↓ View.readCov_fill]
  frame_out
  unfold_payloads
  simp only [shapeCast_self_ev, truncf_ev, matmul_tn, shapeCast_add_1024, shapeCast_drop_1024, addf_ev]

end Point

/-! ## The grid -/

variable (m : (ℓ : Loc nD τ sig) → Buf (Elt Ideal) ℓ) (c : Dev nD) (H Z : ℕ → ℕ → EReal)

/-- The arrays the region reads. -/
structure Holds : Prop where
  h : m ((c : Thread nD τ).loc main_arg0) = (ev (φ := .bf16) H : FVec Ideal S8192x1024 .bf16)
  z : m ((c : Thread nD τ).loc main_arg1) = (ev (φ := .f32) Z : FVec Ideal S8192x1024 .f32)

/-- Where each window's block lies. -/
theorem idx : ∀ t : Fin grid0.N, win0_0.index t = ![t.val % 4, 0] ∧ win0_1.index t = ![t.val % 4, 0]
    ∧ win0_2.index t = ![0, 0, 0] := by decide +kernel

variable {m c H Z} (A : Holds m c H Z) (t : Fin cfg0.N)
include A

theorem block0 : iblk m c 0 t = (ev (φ := .bf16) fun i j => H (2048 * (t.val % 4) + i) j : FVec Ideal S2048x1024 .bf16) := by
  funext y
  blk_simp [iblk]
  rw [V_main_arg0]
  refine (congrFun A.h _).trans ?_
  show H _ _ = H _ _
  blk_simp [(idx t).1]
  try rw [Nat.mul_comm]

theorem block1 : iblk m c 1 t = (ev (φ := .f32) fun i j => Z (2048 * (t.val % 4) + i) j : FVec Ideal S2048x1024 .f32) := by
  funext y
  blk_simp [iblk]
  rw [V_main_arg1]
  refine (congrFun A.z _).trans ?_
  show Z _ _ = Z _ _
  blk_simp [(idx t).2.1]
  rw [Nat.mul_comm]

/-- What the accumulator's block holds after point `n`: the rows of the points of its column block so far. -/
theorem outs (n : ℕ) (hn : n < cfg0.N) : outsAt0 m c n hn
    = (ev3 (φ := .f32) fun _ a b => gw H Z 0 (2048 * (n % 4) + 2048) a b : FVec Ideal S1x1024x1024 .f32) := by
  induction n with
  | zero =>
    refine (outsAt0_A m c ⟨0, hn⟩ rfl (by dsimp only; omega)).trans ?_
    rw [block0 A, block1 A, out_A]
    simp only [gw, Nat.zero_mod, Nat.mul_zero, Nat.zero_add]
  | succ n ih =>
    have n4 : n + 1 < 4 := hn
    by_cases h : (n + 1) % 4 = 0
    · refine (outsAt0_A m c ⟨n + 1, hn⟩ h (by dsimp only; omega)).trans ?_
      rw [block0 A, block1 A, out_A]
      dsimp only
      simp only [h, Nat.mul_zero, Nat.zero_add]
      simp only [gw, Nat.zero_add]
    · refine (outsAt0_B m c ⟨n + 1, hn⟩ h (by dsimp only; omega)).trans ?_
      have ih' := ih (Nat.lt_of_succ_lt hn)
      rw [show outsAt0 m c ((⟨n + 1, hn⟩ : Fin cfg0.N).val - 1) (Nat.lt_of_le_of_lt (Nat.sub_le _ _) (⟨n + 1, hn⟩ : Fin cfg0.N).isLt) = _ from ih', block0 A, block1 A, out_B]
      dsimp only
      refine congrArg _ (funext fun _ => funext fun a => funext fun b => ?_)
      rw [gw_add H Z (2048 * ((n + 1) % 4)), show 2048 * (n % 4) + 2048 = 2048 * ((n + 1) % 4) by omega]
      rfl

/-- The array the call leaves: the gradient. -/
theorem final : (dats m 0 c).arrAt 2 cfg0.N = (ev3 (φ := .f32) fun _ a b => gw H Z 0 8192 a b : FVec Ideal S1x1024x1024 .f32) := by
  refine (dats m 0 c).arrAt_eq_of_covers 2 _ (by decide +kernel) fun t hf y => ?_
  have hf' := (flush0_2 t).mp hf
  have tN : t.val < 4 := t.isLt
  blk_simp
  rw [after0_2, outs A]
  have y0 : (y 0).val < 1 := (y 0).isLt
  have y1 : (y 1).val < 1024 := (y 1).isLt
  have y2 : (y 2).val < 1024 := (y 2).isLt
  show gw H Z 0 (2048 * (t.val % 4) + 2048) (y 1).val (y 2).val = _
  refine Eq.trans ?_ (ev3_apply _ _).symm
  blk_simp [(idx t).2.2]
  rw [hf']

omit A

/-! ## The reference -/

open Cert.RefOutIdeal.Read in
theorem reference : val_main_v5 (F := Ideal) (ev (φ := .bf16) H : FVec Ideal S8192x1024 .bf16) (ev (φ := .f32) Z : FVec Ideal S8192x1024 .f32)
    = (ev3 (φ := .f32) fun _ a b => gw H Z 0 8192 a b : FVec Ideal S1x1024x1024 .f32) := by
  funext i
  rw [val_main_v5_apply, val_main_v4_apply, val_main_v3_apply]
  refine Eq.trans ?_ (ev3_apply _ _).symm
  simp only [gw, Nat.zero_add]
  exact Finset.sum_congr rfl fun k _ => mul_comm _ _

/-! ## The claims -/

theorem frame : Cert.quiescent_Out := fun m g _ => Cert.Out.Gen.frame m g
theorem frameIdeal : Cert.quiescent_OutIdeal := fun m g _ => Cert.OutIdeal.Gen.frame m g

/-- The reference is a straight line of host operations and declares no semaphore. -/
theorem frameRef : Cert.quiescent_RefOutIdeal := fun m g _ =>
  (θ_run Cert.RefOutIdeal.defs _ _).mono (fun r h => ⟨fun c => (h c).2, sem_eq_zero_of_no_sems (by decide) r.2⟩)
    (Cert.RefOutIdeal.Value.run (F := Ideal) m g)

/-- The results of the two programs, from arguments that agree. -/
theorem algebraic : Cert.algebraic_OutIdeal_RefOutIdeal := by
  intro m g m' g' _ hagree
  refine ⟨fun c => (dats m 0 c).arrAt 2 cfg0.N, Cert.OutIdeal.Value.run_blocks m g, ?_⟩
  refine (θ_run Cert.RefOutIdeal.defs _ _).mono (fun r h c => ⟨(h c).1.trans ?_, (h c).2⟩) (Cert.RefOutIdeal.Value.run (F := Ideal) m' g')
  obtain ⟨H, hH⟩ := exists_ev (φ := .bf16) (m ((c : Thread nD τ).loc main_arg0))
  obtain ⟨Z, hZ⟩ := exists_ev (φ := .f32) (m ((c : Thread nD τ).loc main_arg1))
  obtain ⟨e0, e1⟩ := hagree c
  refine (Cert.RefOutIdeal.Read.val_main_v5_eq _ _).trans ?_
  rw [e0, e1, hH, hZ]
  exact (reference (H := H) (Z := Z)).trans (final ⟨hH, hZ⟩).symm

end Cert.CallOut

end
-- ==== Proof.Finite.lean ====
/-
  The precondition. `finite` says of each argument that every absolute value is below infinity; such an array is a finite array of real numbers.
-/
module

public import proofs.«01_k».proof.Proof.RealArrays
public import Idealize.ShloMosaic.Lib.ReduceAll
public import Idealize.ShloMosaic.Lib.StableHlo

@[expose] public section

noncomputable section

namespace Cert.Finite

open Cert.RealArr Idealize.ShloMosaic

/-- An extended real whose absolute value is below infinity is a real number. -/
theorem ne_of_lt_inf {x : EReal} (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  have hlt : max x (-x) < ⊤ := by
    by_contra hn
    rw [htop] at h
    unfold Ideal.cmp at h
    simp only [hn, decide_false] at h
    exact absurd h (by decide)
  rw [max_lt_iff] at hlt
  exact ⟨hlt.1.ne, fun hb => absurd hlt.2 (by rw [hb]; simp)⟩

/-- Two bits whose conjunction is one. -/
theorem bits_of_and (a b : BitVec 1) (h : IntOp.andi a b = 1#1) : a = 1#1 ∧ b = 1#1 := by
  revert a b; decide

/-- The precondition at one argument: no element is infinite. -/
theorem entries {s : Shape} {axes : List (Fin s.rank)} (x : FVec Ideal s .f32) (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) h hu j = 1#1) (i : s.Idx) : (x i : EReal) ≠ ⊤ ∧ (x i : EReal) ≠ ⊥ :=
  ne_of_lt_inf (Host.reduce_andi_all _ _ h hu j e i)

variable {φ : FTy}

/-- A matrix with no infinite entry is finite. -/
theorem exists_cv {n0 n1 : ℕ} (x : FVec Ideal ⟨2, ![n0, n1]⟩ φ) (h : ∀ i, (x i : EReal) ≠ ⊤ ∧ (x i : EReal) ≠ ⊥) :
    ∃ f : ℕ → ℕ → ℝ, x = (cv f : FVec Ideal ⟨2, ![n0, n1]⟩ φ) := by
  refine ⟨fun a b => if h' : a < n0 ∧ b < n1 then EReal.toReal (x (ValueIdx.ix2 ⟨a, h'.1⟩ ⟨b, h'.2⟩)) else 0, funext fun i => ?_⟩
  have hi : (ValueIdx.ix2 (⟨(i 0).val, (i 0).isLt⟩ : Fin n0) (⟨(i 1).val, (i 1).isLt⟩ : Fin n1) : (⟨2, ![n0, n1]⟩ : Shape).Idx) = i :=
    funext fun a => match a with | ⟨0, _⟩ => rfl | ⟨1, _⟩ => rfl
  show x i = ((dite _ _ _ : ℝ) : EReal)
  rw [dif_pos ⟨(i 0).isLt, (i 1).isLt⟩, hi]
  exact (EReal.coe_toReal (h i).1 (h i).2).symm

/-- An array of rank 3 with no infinite entry is finite. -/
theorem exists_cv3 {n0 n1 n2 : ℕ} (x : FVec Ideal ⟨3, ![n0, n1, n2]⟩ φ) (h : ∀ i, (x i : EReal) ≠ ⊤ ∧ (x i : EReal) ≠ ⊥) :
    ∃ f : ℕ → ℕ → ℕ → ℝ, x = (cv3 f : FVec Ideal ⟨3, ![n0, n1, n2]⟩ φ) := by
  refine ⟨fun a b c => if h' : a < n0 ∧ b < n1 ∧ c < n2 then EReal.toReal (x (ValueIdx.ix3 ⟨a, h'.1⟩ ⟨b, h'.2.1⟩ ⟨c, h'.2.2⟩)) else 0, funext fun i => ?_⟩
  have hi : (ValueIdx.ix3 (⟨(i 0).val, (i 0).isLt⟩ : Fin n0) (⟨(i 1).val, (i 1).isLt⟩ : Fin n1) (⟨(i 2).val, (i 2).isLt⟩ : Fin n2) : (⟨3, ![n0, n1, n2]⟩ : Shape).Idx) = i :=
    funext fun a => match a with | ⟨0, _⟩ => rfl | ⟨1, _⟩ => rfl | ⟨2, _⟩ => rfl
  show x i = ((dite _ _ _ : ℝ) : EReal)
  rw [dif_pos ⟨(i 0).isLt, (i 1).isLt, (i 2).isLt⟩, hi]
  exact (EReal.coe_toReal (h i).1 (h i).2).symm

end Cert.Finite
-- ==== Proof.CallInDx.Runs.lean ====
/-
  The body of the call at one grid point, over any float values: a plane's product is added to the accumulator, the copies of the row tiles are
  started at the last plane but one, and waited for at the last.
-/
module

public import proofs.«01_k».proof.Proof.Gen.InDxIdeal.Launch
public import proofs.«01_k».proof.Proof.Gen.InDxIdeal.Points
public import proofs.«01_k».proof.Proof.Gen.InDxIdeal.Loops
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The memory the body is called with. -/
structure Bufs where
  a2 : Memref sig .tc .vmem S1024x1024 .bf16
  h2 : a2.IsWhole
  a3 : Memref sig .tc .vmem S1024x1024 .bf16
  h3 : a3.IsWhole
  a4 : Memref sig .tc .vmem S1024x1024 .bf16
  h4 : a4.IsWhole
  a5 : Memref sig .tc .vmem S1024x1024 .bf16
  h5 : a5.IsWhole
  a6 : Memref sig .tc .vmem S1x1024x1024 .bf16
  h6 : a6.IsWhole
  a8 : Memref sig .tc .vmem S1x1024 .f32
  h8 : a8.IsWhole
  a10 : Memref sig .tc .vmem S1024x1024 .f32
  h10 : a10.IsWhole
  a11 : Memref sig .tc .vmem S1x1024 .f32
  h11 : a11.IsWhole
  a12 : Memref sig .tc .vmem S1024x1024 .f32
  h12 : a12.IsWhole
  a13 : Memref sig .tc .vmem S1024x1024 .f32
  h13 : a13.IsWhole
  a14 : Memref sig .tc .vmem S1024x1024 .f32
  h14 : a14.IsWhole

/-- The body on that memory, with the two operands left in place. -/
abbrev body (i : grid0.Coords) (B : Bufs) : Prog (TpuEff nD τ sig (Elt F) Λ₀ .tc) PUnit :=
  cc0_in_proj_bwd i B.a2 B.h2 B.a3 B.h3 B.a4 B.h4 B.a5 B.h5 B.a6 B.h6 (Memref.whole main_arg5) (Memref.isWhole_whole _)
    B.a8 B.h8 (Memref.whole main_arg7) (Memref.isWhole_whole _) B.a10 B.h10 B.a11 B.h11 B.a12 B.h12 B.a13 B.h13 B.a14 B.h14 cc0_scratch3

abbrev isStart (i : grid0.Coords) : Prop := k0_cond1 i = 1#1
abbrev isFirst (i : grid0.Coords) : Prop := (Scalar.cmpi .ne (Scalar.extui (Scalar.cmpi .eq (BitVec.ofNat 32 (i 1).val) 0#32)) 0#32) = 1#1
abbrev isOrigin (i : grid0.Coords) : Prop := k0_cond3 i = 1#1
abbrev inA (i : grid0.Coords) : Prop := (Scalar.cmpi .ne (Scalar.extui (Scalar.andi (Scalar.cmpi .sge (BitVec.ofNat 32 (i 1).val) 0#32) (Scalar.cmpi .slt (BitVec.ofNat 32 (i 1).val) 3#32))) 0#32) = 1#1
abbrev inB (i : grid0.Coords) : Prop := (Scalar.cmpi .ne (Scalar.extui (Scalar.andi (Scalar.cmpi .sge (BitVec.ofNat 32 (i 1).val) 3#32) (Scalar.cmpi .slt (BitVec.ofNat 32 (i 1).val) 6#32))) 0#32) = 1#1
abbrev inC (i : grid0.Coords) : Prop := (Scalar.cmpi .ne (Scalar.extui (Scalar.andi (Scalar.cmpi .sge (BitVec.ofNat 32 (i 1).val) 6#32) (Scalar.cmpi .slt (BitVec.ofNat 32 (i 1).val) 8#32))) 0#32) = 1#1
abbrev inM (i : grid0.Coords) : Prop := (Scalar.cmpi .ne (Scalar.extui (Scalar.andi (Scalar.cmpi .sge (BitVec.ofNat 32 (i 1).val) 8#32) (Scalar.cmpi .slt (BitVec.ofNat 32 (i 1).val) 11#32))) 0#32) = 1#1
abbrev isLast (i : grid0.Coords) : Prop := k0_cond8 i = 1#1

abbrev hb (c : Dev nD) {sh : Shape} {e : EltTy} (a : Memref sig .tc .hbm sh e) (f : Buf (Elt F) (a.view.loc (c : Thread nD τ))) : sProp 𝕄 :=
  a.view.loc (c : Thread nD τ) ↦[a.view.set]{fullShare} f

/-- What the body takes of one operand tile, one plane of the weight and the sum so far: `P` is the payload that adds the product to the sum. -/
abbrev Adds (P : Vec F S1024x1024 .f32 → Vec F S1024x1024 .bf16 → Vec F S1x1024x1024 .bf16 → Vec F S1024x1024 .f32) (c : Dev nD) (i : grid0.Coords) (B : Bufs)
    (z : Memref sig .tc .vmem S1024x1024 .bf16) : Prop :=
  ∀ (x : Vec F S1024x1024 .bf16) (w : Vec F S1x1024x1024 .bf16) (acc : Vec F S1024x1024 .f32) (K : PUnit → sProp 𝕄),
    iprop(owns (c : Thread nD τ) z fullShare x ∗ owns (c : Thread nD τ) B.a6 fullShare w ∗ owns (c : Thread nD τ) B.a12 fullShare acc
        ∗ (iprop(owns (c : Thread nD τ) z fullShare x ∗ owns (c : Thread nD τ) B.a6 fullShare w
            ∗ owns (c : Thread nD τ) B.a12 fullShare (P acc x w)) -∗ K ⟨⟩))
      ⊢ wp frame (wpE (defs₀ (F := F)) Variants.none c none) Set.univ (body i B) K

theorem read_all {sp : Space} {s : Shape} {e : EltTy} (a : Memref sig .tc sp s e) (h : a.IsWhole) (x : Vec F s e) {off : Fin s.rank → ℕ} (inb : ∀ d, off d + s.size d ≤ s.size d) :
    a.view.readAt (Elt F) (Rect.unit off s.size inb).toLoadRect (h.unread x) = x :=
  (View.readAt_full _ _ _).trans (h.read_unread x)

theorem three {α β γ δ : Type} (P : α → β → γ → δ) {a a' : α} {b b' : β} {d d' : γ} (h1 : a = a') (h2 : b = b') (h3 : d = d') : P a b d = P a' b' d' := by
  subst h1 h2 h3; rfl

variable (c : Dev nD) (i : grid0.Coords) (B : Bufs)

theorem run_B (hc0 : ¬isStart i) (hc1 : ¬isFirst i) (hc2 : ¬isOrigin i) (hc3 : inA i) (hc4 : ¬inB i) (hc5 : ¬inC i) (hc6 : ¬inM i) (hc7 : ¬isLast i) :
    Adds (F := F) k0_pay23 c i B B.a2 := by
  intro x w acc K
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%f2, %hf2, H2⟩, Hk⟩
  obtain rfl := B.h2.eq_unread hf0; obtain rfl := B.h6.eq_unread hf1; obtain rfl := B.h12.eq_unread hf2
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h2.read_unread _
    iexact H0
  isplitl [H1]
  · iexists _; isplitr; · ipureintro; exact B.h6.read_unread _
    iexact H1
  iexists _; isplitr; swap; · iexact H2
  ipureintro
  sl_unfold_words
  refine (View.read_writes_full _ _ _ _ _).trans ?_
  exact three _ (read_all _ _ _ _) (read_all _ _ _ _) (read_all _ _ _ _)

theorem run_C (hc0 : ¬isStart i) (hc1 : ¬isFirst i) (hc2 : ¬isOrigin i) (hc3 : ¬inA i) (hc4 : inB i) (hc5 : ¬inC i) (hc6 : ¬inM i) (hc7 : ¬isLast i) :
    Adds (F := F) k0_pay24 c i B B.a3 := by
  intro x w acc K
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%f2, %hf2, H2⟩, Hk⟩
  obtain rfl := B.h3.eq_unread hf0; obtain rfl := B.h6.eq_unread hf1; obtain rfl := B.h12.eq_unread hf2
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h3.read_unread _
    iexact H0
  isplitl [H1]
  · iexists _; isplitr; · ipureintro; exact B.h6.read_unread _
    iexact H1
  iexists _; isplitr; swap; · iexact H2
  ipureintro
  sl_unfold_words
  refine (View.read_writes_full _ _ _ _ _).trans ?_
  exact three _ (read_all _ _ _ _) (read_all _ _ _ _) (read_all _ _ _ _)

theorem run_D (hc0 : ¬isStart i) (hc1 : ¬isFirst i) (hc2 : ¬isOrigin i) (hc3 : ¬inA i) (hc4 : ¬inB i) (hc5 : inC i) (hc6 : ¬inM i) (hc7 : ¬isLast i) :
    Adds (F := F) k0_pay25 c i B B.a4 := by
  intro x w acc K
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%f2, %hf2, H2⟩, Hk⟩
  obtain rfl := B.h4.eq_unread hf0; obtain rfl := B.h6.eq_unread hf1; obtain rfl := B.h12.eq_unread hf2
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h4.read_unread _
    iexact H0
  isplitl [H1]
  · iexists _; isplitr; · ipureintro; exact B.h6.read_unread _
    iexact H1
  iexists _; isplitr; swap; · iexact H2
  ipureintro
  sl_unfold_words
  refine (View.read_writes_full _ _ _ _ _).trans ?_
  exact three _ (read_all _ _ _ _) (read_all _ _ _ _) (read_all _ _ _ _)

theorem run_E1 (hc0 : ¬isStart i) (hc1 : ¬isFirst i) (hc2 : ¬isOrigin i) (hc3 : ¬inA i) (hc4 : ¬inB i) (hc5 : ¬inC i) (hc6 : inM i) (hc7 : ¬isLast i) :
    Adds (F := F) k0_pay1 c i B B.a5 := by
  intro x w acc K
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%f2, %hf2, H2⟩, Hk⟩
  obtain rfl := B.h5.eq_unread hf0; obtain rfl := B.h6.eq_unread hf1; obtain rfl := B.h12.eq_unread hf2
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h5.read_unread _
    iexact H0
  isplitl [H1]
  · iexists _; isplitr; · ipureintro; exact B.h6.read_unread _
    iexact H1
  iexists _; isplitr; swap; · iexact H2
  ipureintro
  sl_unfold_words
  refine (View.read_writes_full _ _ _ _ _).trans ?_
  exact three _ (read_all _ _ _ _) (read_all _ _ _ _) (read_all _ _ _ _)

theorem run_A (hc0 : ¬isStart i) (hc1 : isFirst i) (hc2 : isOrigin i) (hc3 : inA i) (hc4 : ¬inB i) (hc5 : ¬inC i) (hc6 : ¬inM i) (hc7 : ¬isLast i)
    (x : Vec F S1024x1024 .bf16) (w : Vec F S1x1024x1024 .bf16) (K : PUnit → sProp 𝕄) :
    iprop(owns (c : Thread nD τ) B.a2 fullShare x ∗ owns (c : Thread nD τ) B.a6 fullShare w ∗ (∃ d, owns (c : Thread nD τ) B.a12 fullShare d)
        ∗ (∃ d, owns (c : Thread nD τ) B.a11 fullShare d) ∗ (iprop(owns (c : Thread nD τ) B.a2 fullShare x ∗ owns (c : Thread nD τ) B.a6 fullShare w
            ∗ owns (c : Thread nD τ) B.a12 fullShare (k0_pay23 (k0_pay21 (F := F)) x w) ∗ owns (c : Thread nD τ) B.a11 fullShare (k0_pay22 (F := F))) -∗ K ⟨⟩))
      ⊢ wp frame (wpE (defs₀ (F := F)) Variants.none c none) Set.univ (body i B) K := by
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%d2, %f2, -, H2⟩, ⟨%d3, %f3, -, H3⟩, Hk⟩
  obtain rfl := B.h2.eq_unread hf0; obtain rfl := B.h6.eq_unread hf1
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h2.read_unread _
    iexact H0
  isplitl [H1]
  · iexists _; isplitr; · ipureintro; exact B.h6.read_unread _
    iexact H1
  isplitl [H2]
  · iexists _; isplitr; swap; · iexact H2
    ipureintro
    sl_unfold_words
    refine (View.read_writes_full _ _ _ _ _).trans ?_
    exact three _ (View.readCov_full _ _ _ _ _) (read_all _ _ _ _) (read_all _ _ _ _)
  iexists _; isplitr; swap; · iexact H3
  ipureintro
  exact View.read_writes_full _ _ _ _ _

theorem run_G (hc0 : ¬isStart i) (hc1 : isFirst i) (hc2 : ¬isOrigin i) (hc3 : inA i) (hc4 : ¬inB i) (hc5 : ¬inC i) (hc6 : ¬inM i) (hc7 : ¬isLast i)
    (x : Vec F S1024x1024 .bf16) (w : Vec F S1x1024x1024 .bf16) (K : PUnit → sProp 𝕄) :
    iprop(owns (c : Thread nD τ) B.a2 fullShare x ∗ owns (c : Thread nD τ) B.a6 fullShare w ∗ (∃ d, owns (c : Thread nD τ) B.a12 fullShare d)
        ∗ (iprop(owns (c : Thread nD τ) B.a2 fullShare x ∗ owns (c : Thread nD τ) B.a6 fullShare w
            ∗ owns (c : Thread nD τ) B.a12 fullShare (k0_pay23 (k0_pay21 (F := F)) x w)) -∗ K ⟨⟩))
      ⊢ wp frame (wpE (defs₀ (F := F)) Variants.none c none) Set.univ (body i B) K := by
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%d2, %f2, -, H2⟩, Hk⟩
  obtain rfl := B.h2.eq_unread hf0; obtain rfl := B.h6.eq_unread hf1
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h2.read_unread _
    iexact H0
  isplitl [H1]
  · iexists _; isplitr; · ipureintro; exact B.h6.read_unread _
    iexact H1
  iexists _; isplitr; swap; · iexact H2
  ipureintro
  sl_unfold_words
  refine (View.read_writes_full _ _ _ _ _).trans ?_
  exact three _ (View.readCov_full _ _ _ _ _) (read_all _ _ _ _) (read_all _ _ _ _)

/-- The tile of the operand x that the copy started at `i` reads. -/
abbrev tileX (i : grid0.Coords) (hc0 : isStart i) : Memref sig .tc .hbm S1024x1024 .f32 :=
  (Memref.whole main_arg5).slice (Rect.unit (k0_off1 i) S1024x1024.size (k0_off1_inb i hc0)) (fun _ => rfl)

/-- The tile of the operand dxp that the copy started at `i` reads. -/
abbrev tileD (i : grid0.Coords) (hc0 : isStart i) : Memref sig .tc .hbm S1024x1024 .f32 :=
  (Memref.whole main_arg7).slice (Rect.unit (k0_off1 i) S1024x1024.size (k0_off1_inb i hc0)) (fun _ => rfl)

/-- The copy of x's tile into `b`, under way: it brings the tile of `xf` and gives the tile back. -/
abbrev flyX (c : Dev nD) (b : Memref sig .tc .vmem S1024x1024 .f32) (i : grid0.Coords) (hc0 : isStart i) (xf : Buf (Elt F) ((Memref.whole main_arg5).view.loc (c : Thread nD τ))) : sProp 𝕄 :=
  iprop(∃ f3, Transfers.Flight countersEmb (c : Thread nD τ) (SemLoc.dma ⟨14, by decide⟩) default 131072
    iprop((b.view.loc (c : Thread nD τ) ↦[b.view.set]{fullShare} b.view.writes (Elt F) f3 [⟨Rect.whole S1024x1024, (tileX i hc0).view.read (Elt F) xf⟩])
      ∗ (Memref.whole main_arg5).view.loc (c : Thread nD τ) ↦[(tileX i hc0).view.set]{fullShare} xf))

abbrev flyD (c : Dev nD) (b : Memref sig .tc .vmem S1024x1024 .f32) (i : grid0.Coords) (hc0 : isStart i) (df : Buf (Elt F) ((Memref.whole main_arg7).view.loc (c : Thread nD τ))) : sProp 𝕄 :=
  iprop(∃ f3, Transfers.Flight countersEmb (c : Thread nD τ) (SemLoc.dma ⟨15, by decide⟩) default 131072
    iprop((b.view.loc (c : Thread nD τ) ↦[b.view.set]{fullShare} b.view.writes (Elt F) f3 [⟨Rect.whole S1024x1024, (tileD i hc0).view.read (Elt F) df⟩])
      ∗ (Memref.whole main_arg7).view.loc (c : Thread nD τ) ↦[(tileD i hc0).view.set]{fullShare} df))

/-- What is left of an operand while its tile is being copied. -/
abbrev restX (c : Dev nD) (i : grid0.Coords) (hc0 : isStart i) (xf : Buf (Elt F) ((Memref.whole main_arg5).view.loc (c : Thread nD τ))) : sProp 𝕄 :=
  (Memref.whole main_arg5).view.loc (c : Thread nD τ) ↦[(Memref.whole main_arg5).view.set \ (tileX i hc0).view.set]{fullShare} xf

abbrev restD (c : Dev nD) (i : grid0.Coords) (hc0 : isStart i) (df : Buf (Elt F) ((Memref.whole main_arg7).view.loc (c : Thread nD τ))) : sProp 𝕄 :=
  (Memref.whole main_arg7).view.loc (c : Thread nD τ) ↦[(Memref.whole main_arg7).view.set \ (tileD i hc0).view.set]{fullShare} df

theorem run_E2 (hc0 : isStart i) (hc1 : ¬isFirst i) (hc2 : ¬isOrigin i) (hc3 : ¬inA i) (hc4 : ¬inB i) (hc5 : ¬inC i) (hc6 : inM i) (hc7 : ¬isLast i)
    (x : Vec F S1024x1024 .bf16) (w : Vec F S1x1024x1024 .bf16) (acc : Vec F S1024x1024 .f32)
    (xf : Buf (Elt F) ((Memref.whole main_arg5).view.loc (c : Thread nD τ))) (df : Buf (Elt F) ((Memref.whole main_arg7).view.loc (c : Thread nD τ))) (K : PUnit → sProp 𝕄) :
    iprop(owns (c : Thread nD τ) B.a5 fullShare x ∗ owns (c : Thread nD τ) B.a6 fullShare w ∗ owns (c : Thread nD τ) B.a12 fullShare acc
        ∗ (∃ d, owns (c : Thread nD τ) B.a13 fullShare d) ∗ (∃ d, owns (c : Thread nD τ) B.a14 fullShare d) ∗ semVal ((c : Thread nD τ), SemLoc.dma 14) 0 ∗ semVal ((c : Thread nD τ), SemLoc.dma 15) 0
        ∗ hb c (Memref.whole main_arg5) xf ∗ hb c (Memref.whole main_arg7) df
        ∗ (iprop(owns (c : Thread nD τ) B.a5 fullShare x ∗ owns (c : Thread nD τ) B.a6 fullShare w
            ∗ owns (c : Thread nD τ) B.a12 fullShare (k0_pay1 acc x w) ∗ flyX c B.a13 i hc0 xf ∗ restX c i hc0 xf ∗ flyD c B.a14 i hc0 df ∗ restD c i hc0 df) -∗ K ⟨⟩))
      ⊢ wp frame (wpE (defs₀ (F := F)) Variants.none c none) Set.univ (body i B) K := by
  simp only [body, cc0_in_proj_bwd_eq_skeleton]; unfold cc0_in_proj_bwd_skel
  simp only [k0_part4_eq_skeleton]
  unfold owns
  iintro ⟨⟨%f0, %hf0, H0⟩, ⟨%f1, %hf1, H1⟩, ⟨%f2, %hf2, H2⟩, ⟨%d3, %f3, -, H3⟩, ⟨%d4, %f4, -, H4⟩, Hq0, Hq1, Hh0, Hh1, Hk⟩
  obtain rfl := B.h5.eq_unread hf0; obtain rfl := B.h6.eq_unread hf1; obtain rfl := B.h12.eq_unread hf2
  sl_exec (disch := first | sl_exact hc0 | sl_exact hc1 | sl_exact hc2 | sl_exact hc3 | sl_exact hc4 | sl_exact hc5 | sl_exact hc6 | sl_exact hc7)
  sl_step
  iapply Hk
  isplitl [H0]
  · iexists _; isplitr; · ipureintro; exact B.h5.read_unread _
    iexact H0
  isplitl [H1]
  · iexists _; isplitr; · ipureintro; exact B.h6.read_unread _
    iexact H1
  isplitl [H2]
  · iexists _; isplitr; swap; · iexact H2
    ipureintro
    sl_unfold_words
    refine (View.read_writes_full _ _ _ _ _).trans ?_
    exact three _ (read_all _ _ _ _) (read_all _ _ _ _) (read_all _ _ _ _)
  isplitl [Hq0]; · iexists _; iexact Hq0
  isplitl [Hh0]; · iexact Hh0
  isplitl [Hq1]; · iexists _; iexact Hq1
  iexact Hh1

end Cert.InDxIdeal.Body

end
-- ==== Proof.CallInDx.Slabs.lean ====
/-
  The loop of the last plane, over any float values: the slabs of 16 rows, what each writes of the first result, and what it adds to the second.
-/
module

public import proofs.«01_k».proof.Proof.CallInDx.Runs
public import proofs.«01_k».proof.Proof.Gen.InDxIdeal.Points
public import proofs.«01_k».proof.Proof.Gen.InDxIdeal.Loops
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What one trip of the loop over the 64 slabs of 16 rows does, as functions of what the buffers read. -/

theorem row_inb (k : Fin k0_t1_loop.trips) (r : Fin 4) : ∀ a, k0_off3 k (BitVec.ofNat 32 r.val) a + S16x1024.size a ≤ S1024x1024.size a := by
  have h := k.isLt
  revert k r
  decide +kernel

/-- The slab that step `r` of trip `k` works on. -/
abbrev slab (k : Fin k0_t1_loop.trips) (r : Fin 4) : Rect S1024x1024 := Rect.unit (k0_off3 k (BitVec.ofNat 32 r.val)) S16x1024.size (row_inb k r)

/-- What step `r` of trip `k` stores. -/
abbrev dxSlab (x : Vec F S1024x1024 .f32) (a : Vec F S1024x1024 .f32) (g : Vec F S1x1024 .f32) (d : Vec F S1024x1024 .f32) (k : Fin k0_t1_loop.trips) (r : Fin 4) : Vec F S16x1024 .f32 :=
  k0_pay10 (View.ld x (slab k r)) (View.ld a (slab k r)) (View.ld g (Rect.unit ![0, 0] S1x1024.size inb_S1x1024_S1x1024_0_0)) (View.ld d (slab k r))

/-- The pieces trip `k` stores, the last first. -/
abbrev tripPieces (x : Vec F S1024x1024 .f32) (a : Vec F S1024x1024 .f32) (g : Vec F S1x1024 .f32) (d : Vec F S1024x1024 .f32) (k : Fin k0_t1_loop.trips) : List (View.Piece (Elt F) S1024x1024 .f32) :=
  [⟨slab k 3, dxSlab x a g d k 3⟩, ⟨slab k 2, dxSlab x a g d k 2⟩, ⟨slab k 1, dxSlab x a g d k 1⟩, ⟨slab k 0, dxSlab x a g d k 0⟩]

/-- The sum trip `k` makes of the sum before it. -/
abbrev tripSum (x : Vec F S1024x1024 .f32) (a : Vec F S1024x1024 .f32) (k : Fin k0_t1_loop.trips) (s : FVec F S1x1024 .f32) : FVec F S1x1024 .f32 :=
  k0_pay11 (k0_pay11 (k0_pay11 (k0_pay11 s (View.ld x (slab k 0)) (View.ld a (slab k 0))) (View.ld x (slab k 1)) (View.ld a (slab k 1))) (View.ld x (slab k 2)) (View.ld a (slab k 2))) (View.ld x (slab k 3)) (View.ld a (slab k 3))

/-- The sum before trip `k`. -/
def sumAt (x : Vec F S1024x1024 .f32) (a : Vec F S1024x1024 .f32) : ℕ → FVec F S1x1024 .f32
  | 0 => k0_pay2
  | k + 1 => if h : k < k0_t1_loop.trips then tripSum x a ⟨k, h⟩ (sumAt x a k) else sumAt x a k

theorem sumAt_succ (x : Vec F S1024x1024 .f32) (a : Vec F S1024x1024 .f32) (k : Fin k0_t1_loop.trips) : sumAt x a (k.val + 1) = tripSum x a k (sumAt x a k.val) := by
  rw [sumAt.eq_2]; exact dif_pos k.isLt

/-- The pieces stored before trip `k`, the last first. -/
def piecesAt (x : Vec F S1024x1024 .f32) (a : Vec F S1024x1024 .f32) (g : Vec F S1x1024 .f32) (d : Vec F S1024x1024 .f32) : ℕ → List (View.Piece (Elt F) S1024x1024 .f32)
  | 0 => []
  | k + 1 => if h : k < k0_t1_loop.trips then tripPieces x a g d ⟨k, h⟩ ++ piecesAt x a g d k else piecesAt x a g d k

theorem piecesAt_succ (x : Vec F S1024x1024 .f32) (a : Vec F S1024x1024 .f32) (g : Vec F S1x1024 .f32) (d : Vec F S1024x1024 .f32) (k : Fin k0_t1_loop.trips) :
    piecesAt x a g d (k.val + 1) = tripPieces x a g d k ++ piecesAt x a g d k.val := by
  rw [piecesAt.eq_2]; exact dif_pos k.isLt

/-- The buffers a trip reads, at their contents, and the one it writes. -/
abbrev Trip (c : Dev nD) (B : Bufs) (X8 : B.a8.view.ty.Contents (Elt F)) (X12 : B.a12.view.ty.Contents (Elt F)) (X13 : B.a13.view.ty.Contents (Elt F)) (X14 : B.a14.view.ty.Contents (Elt F))
    (f : B.a10.view.ty.Contents (Elt F)) : sProp 𝕄 :=
  iprop((B.a8.view.loc (c : Thread nD τ) ↦[B.a8.view.set]{fullShare} X8) ∗ (B.a12.view.loc (c : Thread nD τ) ↦[B.a12.view.set]{fullShare} X12) ∗ (B.a13.view.loc (c : Thread nD τ) ↦[B.a13.view.set]{fullShare} X13)
    ∗ (B.a14.view.loc (c : Thread nD τ) ↦[B.a14.view.set]{fullShare} X14) ∗ (B.a10.view.loc (c : Thread nD τ) ↦[B.a10.view.set]{fullShare} f))

theorem trips_eq : k0_t1_loop.trips = 16 := by decide +kernel

/-- Step `r` of trip `k` starts at row `64 k + 16 r`. -/
theorem off3_eq (k : Fin k0_t1_loop.trips) (r : Fin 4) : k0_off3 k (BitVec.ofNat 32 r.val) = ![64 * k.val + 16 * r.val, 0] := by
  revert k r
  decide +kernel

theorem mem_slab (k : Fin k0_t1_loop.trips) (r : Fin 4) (y : S1024x1024.Idx) : y ∈ (slab k r).set ↔ (y 0).val / 64 = k.val ∧ (y 0).val / 16 % 4 = r.val := by
  refine Rect.mem_set_unit.trans ?_
  rw [off3_eq]
  have h1 : (y 1).val < 1024 := (y 1).isLt
  have hr := r.isLt
  constructor
  · intro h
    have h0 := h 0
    change 64 * k.val + 16 * r.val ≤ (y 0).val ∧ (y 0).val < 64 * k.val + 16 * r.val + 16 at h0
    omega
  · intro h d
    match d with
    | 0 => change 64 * k.val + 16 * r.val ≤ (y 0).val ∧ (y 0).val < 64 * k.val + 16 * r.val + 16; omega
    | 1 => change 0 ≤ (y 1).val ∧ (y 1).val < 0 + 1024; omega

theorem mem_four {α : Type} (f : Fin 4 → α) (r : Fin 4) : f r ∈ [f 3, f 2, f 1, f 0] := by
  fin_cases r <;> simp

theorem mem_piecesAt (x : Vec F S1024x1024 .f32) (a : Vec F S1024x1024 .f32) (g : Vec F S1x1024 .f32) (d : Vec F S1024x1024 .f32) (n : ℕ) (k : Fin k0_t1_loop.trips) (h : k.val < n) (r : Fin 4) :
    (⟨slab k r, dxSlab x a g d k r⟩ : View.Piece (Elt F) S1024x1024 .f32) ∈ piecesAt x a g d n := by
  induction n with
  | zero => omega
  | succ n ih =>
    rw [piecesAt.eq_2]
    by_cases hk : k.val = n
    · subst hk
      rw [dif_pos k.isLt]
      exact List.mem_append_left _ (mem_four (fun r : Fin 4 => (⟨slab k r, dxSlab x a g d k r⟩ : View.Piece (Elt F) S1024x1024 .f32)) r)
    · by_cases hn : n < k0_t1_loop.trips
      · rw [dif_pos hn]; exact List.mem_append_right _ (ih (by omega))
      · rw [dif_neg hn]; exact ih (by omega)

/-- The slabs fill the tile. -/
theorem pieces_cover (x : Vec F S1024x1024 .f32) (a : Vec F S1024x1024 .f32) (g : Vec F S1x1024 .f32) (d : Vec F S1024x1024 .f32) (y : S1024x1024.Idx) :
    ∃ p ∈ piecesAt x a g d k0_t1_loop.trips, y ∈ p.1.set := by
  have h0 : (y 0).val < 1024 := (y 0).isLt
  have hk : (y 0).val / 64 < k0_t1_loop.trips := by rw [trips_eq]; omega
  exact ⟨_, mem_piecesAt x a g d _ ⟨(y 0).val / 64, hk⟩ hk ⟨(y 0).val / 16 % 4, by omega⟩, (mem_slab _ _ y).mpr ⟨rfl, rfl⟩⟩

variable (c : Dev nD) (i : grid0.Coords) (B : Bufs) (h8 : isLast i)
  (X8 : B.a8.view.ty.Contents (Elt F)) (X12 : B.a12.view.ty.Contents (Elt F)) (X13 : B.a13.view.ty.Contents (Elt F)) (X14 : B.a14.view.ty.Contents (Elt F))

theorem trip (k : Fin k0_t1_loop.trips) (E : Set ℕ) (s : FVec F S1x1024 .f32) (f : B.a10.view.ty.Contents (Elt F)) :
    Trip (F := F) c B X8 X12 X13 X14 f
      ⊢ wp frame (wpE (defs₀ (F := F)) Variants.none (c : Thread nD τ) none) E (k0_t1_body (F := F) i B.a2 B.h2 B.a3 B.h3 B.a4 B.h4 B.a5 B.h5 B.a6 B.h6 (Memref.whole main_arg5) (Memref.isWhole_whole _) B.a8 B.h8 (Memref.whole main_arg7) (Memref.isWhole_whole _) B.a10 B.h10 B.a11 B.h11 B.a12 B.h12 B.a13 B.h13 B.a14 B.h14 cc0_scratch3 h8 k s)
        (fun yld => iprop(⌜yld = tripSum (B.a13.view.read (Elt F) X13) (B.a12.view.read (Elt F) X12) k s⌝
          ∗ Trip (F := F) c B X8 X12 X13 X14 (B.a10.view.writes (Elt F) f
              (tripPieces (B.a13.view.read (Elt F) X13) (B.a12.view.read (Elt F) X12) (B.a8.view.read (Elt F) X8) (B.a14.view.read (Elt F) X14) k)))) := by
  have hk : k.val < 16 := Nat.lt_of_lt_of_le k.isLt k0_t1_abs.2.1
  unfold k0_t1_body
  iintro ⟨H8, H12, H13, H14, H10⟩
  sl_exec
  sl_step
  isplitr
  · ipureintro; sl_unfold_words; rfl
  isplitl [H8]; · iexact H8
  isplitl [H12]; · iexact H12
  isplitl [H13]; · iexact H13
  isplitl [H14]; · iexact H14
  sl_unfold_words
  iexact H10

/-- Before trip `k`: the pieces stored so far lie over the contents at the loop's entry, and the sum is the one so far. -/
abbrev inv (G : B.a10.view.ty.Contents (Elt F)) (k : ℕ) (s : FVec F S1x1024 .f32) : sProp 𝕄 :=
  iprop((B.a8.view.loc (c : Thread nD τ) ↦[B.a8.view.set]{fullShare} X8) ∗ (B.a12.view.loc (c : Thread nD τ) ↦[B.a12.view.set]{fullShare} X12) ∗ (B.a13.view.loc (c : Thread nD τ) ↦[B.a13.view.set]{fullShare} X13)
    ∗ (B.a14.view.loc (c : Thread nD τ) ↦[B.a14.view.set]{fullShare} X14)
    ∗ (∃ f, (B.a10.view.loc (c : Thread nD τ) ↦[B.a10.view.set]{fullShare} f)
        ∗ ⌜f = B.a10.view.writes (Elt F) G (piecesAt (B.a13.view.read (Elt F) X13) (B.a12.view.read (Elt F) X12) (B.a8.view.read (Elt F) X8) (B.a14.view.read (Elt F) X14) k)⌝)
    ∗ ⌜s = sumAt (B.a13.view.read (Elt F) X13) (B.a12.view.read (Elt F) X12) k⌝)

set_option warn.classDefReducibility false in
@[sl_loop] def loopInv (G : B.a10.view.ty.Contents (Elt F)) (E : Set ℕ) :
    LoopInvTy_k0_t1 (F := F) Unit ℕ (Pipeline.UD sig nD τ) ℕ Variants.none c none E i B.a2 B.h2 B.a3 B.h3 B.a4 B.h4 B.a5 B.h5 B.a6 B.h6 (Memref.whole main_arg5) (Memref.isWhole_whole _) B.a8 B.h8 (Memref.whole main_arg7) (Memref.isWhole_whole _) B.a10 B.h10 B.a11 B.h11 B.a12 B.h12 B.a13 B.h13 B.a14 B.h14 cc0_scratch3 h8 (k0_pay2 (F := F)) where
  inv := inv (F := F) c B X8 X12 X13 X14 G
  step k s := by
    iintro ⟨H8, H12, H13, H14, ⟨%f, H10, %hf⟩, %hs⟩
    subst hs
    iapply (wp_wand_r Idealize.ShloMosaic.frame (wpE (defs₀ (F := F)) Variants.none (c : Thread nD τ) none) E)
    isplitl [H8 H12 H13 H14 H10]
    · iapply (trip (F := F) c i B h8 X8 X12 X13 X14 k E _ f)
      isplitl [H8]; · iexact H8
      isplitl [H12]; · iexact H12
      isplitl [H13]; · iexact H13
      isplitl [H14]; · iexact H14
      iexact H10
    · iintro %yld ⟨%hr, H8, H12, H13, H14, H10⟩
      isplitl [H8]; · iexact H8
      isplitl [H12]; · iexact H12
      isplitl [H13]; · iexact H13
      isplitl [H14]; · iexact H14
      rw [piecesAt_succ, sumAt_succ]
      isplitl [H10]
      · iexists _; isplitl [H10]; · iexact H10
        ipureintro; rw [hf, ← View.writes_append]
      ipureintro; exact hr

variable (j : grid0.Coords) (hj : isStart j)

set_option maxHeartbeats 1000000 in
theorem run_F (hc0 : ¬isStart i) (hc1 : ¬isFirst i) (hc2 : ¬isOrigin i) (hc3 : ¬inA i) (hc4 : ¬inB i) (hc5 : ¬inC i) (hc6 : inM i) (hc7 : isLast i)
    (x : Vec F S1024x1024 .bf16) (w : Vec F S1x1024x1024 .bf16) (acc : Vec F S1024x1024 .f32) (g : Vec F S1x1024 .f32) (dg : Vec F S1x1024 .f32)
    (xf : Buf (Elt F) ((Memref.whole main_arg5).view.loc (c : Thread nD τ))) (df : Buf (Elt F) ((Memref.whole main_arg7).view.loc (c : Thread nD τ)))
    (W : Waits sig Unit) (K : PUnit → sProp 𝕄) :
    iprop(owns (c : Thread nD τ) B.a5 fullShare x ∗ owns (c : Thread nD τ) B.a6 fullShare w ∗ owns (c : Thread nD τ) B.a12 fullShare acc ∗ owns (c : Thread nD τ) B.a8 fullShare g ∗ (∃ d, owns (c : Thread nD τ) B.a10 fullShare d) ∗ owns (c : Thread nD τ) B.a11 fullShare dg
        ∗ flyX c B.a13 j hj xf ∗ restX c j hj xf ∗ flyD c B.a14 j hj df ∗ restD c j hj df ∗ owes (c : Thread nD τ) 0 W
        ∗ (iprop(owns (c : Thread nD τ) B.a5 fullShare x ∗ owns (c : Thread nD τ) B.a6 fullShare w ∗ owns (c : Thread nD τ) B.a12 fullShare (k0_pay1 acc x w) ∗ owns (c : Thread nD τ) B.a8 fullShare g
            ∗ owns (c : Thread nD τ) B.a10 fullShare (View.canon (piecesAt ((tileX j hj).view.read (Elt F) xf) (k0_pay1 acc x w) g ((tileD j hj).view.read (Elt F) df) k0_t1_loop.trips))
            ∗ owns (c : Thread nD τ) B.a11 fullShare (k0_pay7 dg (sumAt ((tileX j hj).view.read (Elt F) xf) (k0_pay1 acc x w) k0_t1_loop.trips))
            ∗ (∃ d, owns (c : Thread nD τ) B.a13 fullShare d) ∗ (∃ d, owns (c : Thread nD τ) B.a14 fullShare d) ∗ semVal ((c : Thread nD τ), SemLoc.dma 14) 0 ∗ semVal ((c : Thread nD τ), SemLoc.dma 15) 0
            ∗ hb c (Memref.whole main_arg5) xf ∗ hb c (Memref.whole main_arg7) df ∗ (∃ W', owes (c : Thread nD τ) 0 W')) -∗ K ⟨⟩))
      ⊢ wp frame (wpE (defs₀ (F := F)) Variants.none c none) Set.univ (body i B) K := by
  simp only [body, cc0_in_proj_bwd_eq_skeleton]; unfold cc0_in_proj_bwd_skel
  simp only [k0_part4_eq_skeleton]
  unfold owns
  unfold flyX restX flyD restD tileX tileD
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%b0, Hq0⟩, Hr0, ⟨%b1, Hq1⟩, Hr1, Ho, Hk⟩
  obtain rfl := B.h5.eq_unread hf0; obtain rfl := B.h6.eq_unread hf1; obtain rfl := B.h12.eq_unread hf2; obtain rfl := B.h8.eq_unread hf3; obtain rfl := B.h11.eq_unread hf5
  sl_exec (disch := first | sl_exact hc0 | sl_exact hc1 | sl_exact hc2 | sl_exact hc3 | sl_exact hc4 | sl_exact hc5 | sl_exact hc6 | sl_exact hc7)
  sl_step
  have e12 : B.a12.view.read (Elt F) (B.a12.view.writes (Elt F) B.a12.view.junk (run_F.sl.H2_1 c B x w acc)) = k0_pay1 acc x w := by
    sl_unfold_words
    refine (View.read_writes_full _ _ _ _ _).trans ?_
    exact three _ (read_all _ _ _ _) (read_all _ _ _ _) (read_all _ _ _ _)
  have e8 := B.h8.read_unread g
  rw [View.read_writes_whole, View.read_writes_whole, e12, e8]
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact e12
  isplitl [H3]; · iexists _; isplitr; swap; · iexact H3
                  ipureintro; exact hf3
  isplitl [H4]; · iexists _; isplitr; swap; · iexact H4
                  ipureintro; exact View.read_writes_eq_canon _ _ _ (pieces_cover _ _ _ _)
  isplitl [H5]
  · iexists _; isplitr; swap; · iexact H5
    ipureintro
    refine (View.read_writes_full _ _ _ _ _).trans ?_
    rw [read_all]
  isplitl [Hq0_dst]; · iexists _; iexists _; isplitr; swap; · iexact Hq0_dst
                       ipureintro; rfl
  isplitl [Hq1_dst]; · iexists _; iexists _; isplitr; swap; · iexact Hq1_dst
                       ipureintro; rfl
  isplitl [Hq0]; · iexact Hq0
  isplitl [Hq1]; · iexact Hq1
  isplitl [Hr0]; · iexact Hr0
  isplitl [Hr1]; · iexact Hr1
  iexists _; iexact Ho

end Cert.InDxIdeal.Body

end
-- ==== Proof.CallInDx.Model.lean ====
/-
  The gradient of one row normalisation followed by a product, over the reals. `x` is a row of the layer's input, `u` the gradient that reaches
  the row through the gain, `p` the gradient that reaches it beside the layer.
-/
module

public import proofs.«01_k».proof.Proof.RealArrays

@[expose] public section

noncomputable section

namespace Cert.CallInDx

open Cert.RealArr Idealize.ShloMosaic

/-- The constant added to the mean of the squares. -/
def eps : ℝ := 8796093 / 8796093022208

/-- The mean of the row's squares, and the constant. -/
def ms (x : ℕ → ℝ) : ℝ := (∑ k : Fin 1024, x k * x k) / 1024 + eps
/-- What the row is scaled by. -/
def rs (x : ℕ → ℝ) : ℝ := (Real.sqrt (ms x))⁻¹
/-- The gradient of the row. -/
def dxRow (x u p : ℕ → ℝ) (j : ℕ) : ℝ := rs x * (u j - x j * rs x * ((∑ k : Fin 1024, u k * (x k * rs x)) / 1024)) + p j

/-- Column `d` of row `s` of the product with the weight's transpose, its first `n` terms. -/
def dot (Z W : ℕ → ℕ → ℝ) (n s d : ℕ) : ℝ := ∑ e ∈ Finset.range n, Z s e * W d e
/-- The four gradients that the product takes, side by side. -/
def side (A B C M : ℕ → ℕ → ℝ) (s e : ℕ) : ℝ := if e < 3072 then A s e else if e < 6144 then B s (e - 3072) else if e < 8192 then C s (e - 6144) else M s (e - 8192)
theorem side_a {A B C M : ℕ → ℕ → ℝ} {s e : ℕ} (h : e < 3072) : side A B C M s e = A s e := if_pos h
theorem side_b {A B C M : ℕ → ℕ → ℝ} {s e : ℕ} (h : 3072 ≤ e) (h' : e < 6144) : side A B C M s e = B s (e - 3072) :=
  (if_neg (by omega)).trans (if_pos h')
theorem side_c {A B C M : ℕ → ℕ → ℝ} {s e : ℕ} (h : 6144 ≤ e) (h' : e < 8192) : side A B C M s e = C s (e - 6144) :=
  (if_neg (by omega)).trans ((if_neg (by omega)).trans (if_pos h'))
theorem side_m {A B C M : ℕ → ℕ → ℝ} {s e : ℕ} (h : 8192 ≤ e) : side A B C M s e = M s (e - 8192) :=
  (if_neg (by omega)).trans ((if_neg (by omega)).trans (if_neg (by omega)))

/-- The product, whole. -/
abbrev prod (A B C M : ℕ → ℕ → ℝ) (Wt : ℕ → ℕ → ℕ → ℝ) (s d : ℕ) : ℝ := dot (side A B C M) (Wt 0) 11264 s d

/-- What row `s` adds to the gain's gradient. -/
def dgRow (a x : ℕ → ℝ) (d : ℕ) : ℝ := a d * (x d * rs x)
/-- The first `n` rows' part of the gain's gradient. -/
def dgain (A X : ℕ → ℕ → ℝ) (n d : ℕ) : ℝ := ∑ s ∈ Finset.range n, dgRow (A s) (X s) d

theorem sum_split (f : ℕ → ℝ) (a n : ℕ) : ∑ e ∈ Finset.range (a + n), f e = ∑ e ∈ Finset.range a, f e + ∑ e : Fin n, f (a + e) := by
  rw [Finset.sum_range_add, Finset.sum_range fun e => f (a + e)]

theorem dot_add (Z W : ℕ → ℕ → ℝ) (a n s d : ℕ) : dot Z W (a + n) s d = dot Z W a s d + ∑ e : Fin n, Z s (a + e) * W d (a + e) :=
  sum_split _ a n

theorem dgain_add (A X : ℕ → ℕ → ℝ) (a n d : ℕ) : dgain A X (a + n) d = dgain A X a d + ∑ s : Fin n, dgRow (A (a + s)) (X (a + s)) d :=
  sum_split _ a n

theorem eps_pos : 0 < eps := by unfold eps; norm_num

theorem ms_pos (x : ℕ → ℝ) : 0 < ms x :=
  add_pos_of_nonneg_of_pos (div_nonneg (Finset.sum_nonneg fun k _ => mul_self_nonneg _) (by norm_num)) eps_pos

theorem rs_sq (x : ℕ → ℝ) : rs x * rs x = (ms x)⁻¹ := by
  unfold rs
  rw [← mul_inv, Real.mul_self_sqrt (ms_pos x).le]

/-- The same gradient, as the derivative of the scaling written out: the reference's form. -/
theorem dxRow_eq (x u p : ℕ → ℝ) (j : ℕ) :
    dxRow x u p j = p j + (u j * rs x + x j * ((∑ k : Fin 1024, x k * u k) * (-(1 / 2) * (rs x / ms x)) / 1024)
      + ((∑ k : Fin 1024, x k * u k) * (-(1 / 2) * (rs x / ms x)) / 1024) * x j) := by
  have hs : ∑ k : Fin 1024, u k * (x k * rs x) = (∑ k : Fin 1024, x k * u k) * rs x := by
    rw [Finset.sum_mul]
    exact Finset.sum_congr rfl fun k _ => by ring
  have hr : rs x / ms x = rs x * (rs x * rs x) := by rw [rs_sq, div_eq_mul_inv]
  unfold dxRow
  rw [hs, hr]
  ring

/-- The f32 patterns of 1024, of the constant, and of minus a half. -/
theorem ofBits_1024 : Ideal.ofBits .f32 0x44800000#32 = ((1024 : ℝ) : EReal) := by
  simp [Ideal.ofBits, Ideal.ieee, -EReal.coe_mul]; norm_num
theorem ofBits_eps : Ideal.ofBits .f32 0x358637BD#32 = ((eps : ℝ) : EReal) := by
  unfold eps
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The scaling of a row, from the mean of its squares. -/
theorem rsqrt_ms (x : ℕ → ℝ) : Ideal.rsqrt ((ms x : ℝ) : EReal) = ((rs x : ℝ) : EReal) := by
  rw [Ideal.rsqrt_coe, if_neg (ms_pos x).not_gt, if_neg (ms_pos x).ne']
  rfl

end Cert.CallInDx

end
-- ==== Proof.CallInDx.Rows.lean ====
/-
  What one slab of 16 rows, one row tile and one plane of the gradient of the normalised rows are at finite arrays.
-/
module

public import proofs.«01_k».proof.Proof.CallInDx.Slabs
public import proofs.«01_k».proof.Proof.CallInDx.Model
public import Idealize.ShloMosaic.Lib.Pipeline.Value
public import Idealize.ShloMosaic.Lib.Pipeline.ValueKit

@[expose] public section

noncomputable section

namespace Cert.CallInDx

open Cert.InDxIdeal Cert.InDxIdeal.Gen Cert.InDxIdeal.Body Idealize.ShloMosaic Idealize.ShloMosaic.TcCoe Idealize.SL.Sem
open Cert.RealArr

/-! ## Sixteen rows -/

theorem rowSum_16 (a : ℕ → ℕ → ℝ) (hr : S16x1024.Reduces [1] S16) (hc : S16.ShapeCasts S16x1) :
    shapeCast S16x1 (Ideal.reduceAdd hr (cv a : FVec Ideal S16x1024 .f32)) hc = (cv (φ := .f32) fun i _ => ∑ k : Fin 1024, a i k : FVec Ideal S16x1 .f32) := by
  funext i; pointwise
  exact (coe_sum _ _).symm

theorem colSum_16 (a : ℕ → ℕ → ℝ) (hr : S16x1024.Reduces [0] S1024) (hc : S1024.ShapeCasts S1x1024) :
    shapeCast S1x1024 (Ideal.reduceAdd hr (cv a : FVec Ideal S16x1024 .f32)) hc = (cv (φ := .f32) fun _ j => ∑ k : Fin 16, a k j : FVec Ideal S1x1024 .f32) := by
  funext i; pointwise
  exact (coe_sum _ _).symm

theorem spread_col (a : ℕ → ℕ → ℝ) (h : S16x1.Broadcasts S16x1024) :
    broadcastTo S16x1024 (cv a : FVec Ideal S16x1 .f32) h = (cv (φ := .f32) fun i _ => a i 0 : FVec Ideal S16x1024 .f32) := by
  funext i; pointwise; rfl

theorem spread_row (a : ℕ → ℕ → ℝ) (h : S1x1024.Broadcasts S16x1024) :
    broadcastTo S16x1024 (cv a : FVec Ideal S1x1024 .f32) h = (cv (φ := .f32) fun _ j => a 0 j : FVec Ideal S16x1024 .f32) := by
  funext i; pointwise; rfl

theorem pay8_cv (x : ℕ → ℕ → ℝ) : k0_pay8 (F := Ideal) (cv (φ := .f32) x : FVec Ideal S16x1024 .f32) = (cv (φ := .f32) fun i _ => rs (x i) : FVec Ideal S16x1 .f32) := by
  unfold k0_pay8
  simp (disch := (intros; norm_num)) only [multiReductionOpen, Ideal.reduceAdd_def, mulf_cv, rowSum_16, Ideal.ofBits_def, ofBits_1024, ofBits_eps, broadcast_cv, divf_cv, addf_cv]
  funext i
  exact rsqrt_ms _

theorem pay9_cv (x : ℕ → ℕ → ℝ) : k0_pay9 (F := Ideal) (cv (φ := .f32) x : FVec Ideal S16x1024 .f32) = (cv (φ := .f32) fun i j => x i j * rs (x i) : FVec Ideal S16x1024 .f32) := by
  unfold k0_pay9
  simp only [pay8_cv, spread_col, mulf_cv]

theorem pay10_cv (x a g d : ℕ → ℕ → ℝ) :
    k0_pay10 (F := Ideal) (cv (φ := .f32) x : FVec Ideal S16x1024 .f32) (cv (φ := .f32) a : FVec Ideal S16x1024 .f32) (cv (φ := .f32) g : FVec Ideal S1x1024 .f32) (cv (φ := .f32) d : FVec Ideal S16x1024 .f32)
      = (cv (φ := .f32) fun i j => dxRow (x i) (fun k => a i k * g 0 k) (d i) j : FVec Ideal S16x1024 .f32) := by
  unfold k0_pay10
  simp (disch := (intros; norm_num)) only [multiReductionOpen, Ideal.reduceAdd_def, pay8_cv, pay9_cv, spread_col, spread_row, mulf_cv, rowSum_16, Ideal.ofBits_def, ofBits_1024, broadcast_cv, divf_cv, addf_cv, subf_cv]
  rfl

theorem pay11_cv (s x a : ℕ → ℕ → ℝ) :
    k0_pay11 (F := Ideal) (cv (φ := .f32) s : FVec Ideal S1x1024 .f32) (cv (φ := .f32) x : FVec Ideal S16x1024 .f32) (cv (φ := .f32) a : FVec Ideal S16x1024 .f32)
      = (cv (φ := .f32) fun i j => s i j + ∑ k : Fin 16, dgRow (a k) (x k) j : FVec Ideal S1x1024 .f32) := by
  unfold k0_pay11
  simp only [multiReductionOpen, Ideal.reduceAdd_def, pay9_cv, mulf_cv, colSum_16, addf_cv]
  rfl

/-! ## A row tile -/

theorem slab_idx_0 (k : Fin k0_t1_loop.trips) (r : Fin 4) (z : (slab k r).shape.Idx) : ((slab k r).idx z 0).val = 64 * k.val + 16 * r.val + (z 0).val :=
  (unit_idx_val _ z 0).trans (congrArg (· + (z 0).val) (congrFun (off3_eq k r) 0))

theorem slab_idx_1 (k : Fin k0_t1_loop.trips) (r : Fin 4) (z : (slab k r).shape.Idx) : ((slab k r).idx z 1).val = (z 1).val :=
  ((unit_idx_val _ z 1).trans (congrArg (· + (z 1).val) (congrFun (off3_eq k r) 1))).trans (Nat.zero_add _)

theorem ld_slab (a : ℕ → ℕ → ℝ) (k : Fin k0_t1_loop.trips) (r : Fin 4) :
    View.ld (Val := Elt Ideal) (e' := .f32) (cv (φ := .f32) a : FVec Ideal S1024x1024 .f32) (slab k r)
      = (cv (φ := .f32) fun i j => a (64 * k.val + 16 * r.val + i) j : FVec Ideal S16x1024 .f32) := by
  funext i
  show ((a _ _ : ℝ) : EReal) = ((a _ _ : ℝ) : EReal)
  rw [slab_idx_0, slab_idx_1]

theorem ld_gain (g : ℕ → ℕ → ℝ) :
    View.ld (Val := Elt Ideal) (e' := .f32) (cv (φ := .f32) g : FVec Ideal S1x1024 .f32) (Rect.unit ![0, 0] S1x1024.size inb_S1x1024_S1x1024_0_0)
      = (cv (φ := .f32) g : FVec Ideal S1x1024 .f32) := by
  refine (ld_cv_f32 (n0 := 1) (n1 := 1024) (m0 := 1) (m1 := 1024) (o0 := 0) (o1 := 0) g _).trans ?_
  simp only [Nat.zero_add]

variable (x a g d : ℕ → ℕ → ℝ)

/-- The finite tiles a last plane works on. -/
abbrev fx : FVec Ideal S1024x1024 .f32 := cv x
abbrev fg : FVec Ideal S1x1024 .f32 := cv g

theorem dxSlab_cv (k : Fin k0_t1_loop.trips) (r : Fin 4) : dxSlab (F := Ideal) (fx x) (fx a) (fg g) (fx d) k r
    = (cv (φ := .f32) fun i j => dxRow (x (64 * k.val + 16 * r.val + i)) (fun e => a (64 * k.val + 16 * r.val + i) e * g 0 e) (d (64 * k.val + 16 * r.val + i)) j : FVec Ideal S16x1024 .f32) := by
  unfold dxSlab
  rw [ld_slab, ld_slab, ld_slab, ld_gain, pay10_cv]

/-- The row tile of the result. -/
abbrev dxTile : FVec Ideal S1024x1024 .f32 := cv fun i j => dxRow (x i) (fun e => a i e * g 0 e) (d i) j

theorem canon_slab (k : Fin k0_t1_loop.trips) (r : Fin 4) (L : List (View.Piece (Elt Ideal) S1024x1024 .f32)) (y : S1024x1024.Idx)
    (hL : ¬((y 0).val / 64 = k.val ∧ (y 0).val / 16 % 4 = r.val) → View.canon L y = dxTile x a g d y) :
    View.canon (⟨slab k r, dxSlab (F := Ideal) (fx x) (fx a) (fg g) (fx d) k r⟩ :: L) y = dxTile x a g d y := by
  by_cases h : y ∈ (slab k r).set
  · obtain ⟨z, rfl⟩ := LoadRect.exists_idx_of_mem _ h
    refine (View.canon_cons_emb _ _ _ z).trans ?_
    rw [dxSlab_cv]
    refine cv_at (φ := .f32) (ψ := .f32) ?_
    rw [slab_idx_0, slab_idx_1]
  · have hy := hL fun hy => h ((mem_slab k r y).mpr hy)
    rw [← hy]
    exact View.canon_cons_of_not_mem _ _ h

theorem pieces_cv (n : ℕ) (hn : n ≤ k0_t1_loop.trips) (y : S1024x1024.Idx) (hy : (y 0).val < 64 * n) :
    View.canon (piecesAt (F := Ideal) (fx x) (fx a) (fg g) (fx d) n) y = dxTile x a g d y := by
  induction n with
  | zero => omega
  | succ n ih =>
    have h := piecesAt_succ (F := Ideal) (fx x) (fx a) (fg g) (fx d) ⟨n, hn⟩
    dsimp only at h
    rw [h]
    refine canon_slab x a g d ⟨n, hn⟩ 3 _ y fun h3 => canon_slab x a g d ⟨n, hn⟩ 2 _ y fun h2 => canon_slab x a g d ⟨n, hn⟩ 1 _ y fun h1 =>
      canon_slab x a g d ⟨n, hn⟩ 0 _ y fun h0 => ih (Nat.le_of_succ_le hn) ?_
    change ¬((y 0).val / 64 = n ∧ (y 0).val / 16 % 4 = 3) at h3
    change ¬((y 0).val / 64 = n ∧ (y 0).val / 16 % 4 = 2) at h2
    change ¬((y 0).val / 64 = n ∧ (y 0).val / 16 % 4 = 1) at h1
    change ¬((y 0).val / 64 = n ∧ (y 0).val / 16 % 4 = 0) at h0
    omega

/-- The slabs' stores, all of them: the row tile. -/
theorem tile_cv : View.canon (piecesAt (F := Ideal) (fx x) (fx a) (fg g) (fx d) k0_t1_loop.trips) = dxTile x a g d :=
  funext fun y => pieces_cv x a g d _ (Nat.le_refl _) y (by have : (y 0).val < 1024 := (y 0).isLt; rw [trips_eq]; omega)

theorem pay2_cv : k0_pay2 (F := Ideal) = (cv (φ := .f32) fun _ _ => 0 : FVec Ideal S1x1024 .f32) := by
  unfold k0_pay2
  simp only [Ideal.ofBits_def, ofBits_zero, broadcast_cv]

theorem tripSum_cv (k : Fin k0_t1_loop.trips) (s : ℕ → ℕ → ℝ) : tripSum (F := Ideal) (fx x) (fx a) k (cv (φ := .f32) s : FVec Ideal S1x1024 .f32)
    = (cv (φ := .f32) fun i j => s i j + ∑ e : Fin 16, dgRow (a (64 * k.val + 0 + e)) (x (64 * k.val + 0 + e)) j + ∑ e : Fin 16, dgRow (a (64 * k.val + 16 + e)) (x (64 * k.val + 16 + e)) j
        + ∑ e : Fin 16, dgRow (a (64 * k.val + 32 + e)) (x (64 * k.val + 32 + e)) j + ∑ e : Fin 16, dgRow (a (64 * k.val + 48 + e)) (x (64 * k.val + 48 + e)) j : FVec Ideal S1x1024 .f32) := by
  unfold tripSum
  simp only [ld_slab, pay11_cv]
  rfl

theorem sumAt_cv (n : ℕ) (hn : n ≤ k0_t1_loop.trips) : sumAt (F := Ideal) (fx x) (fx a) n = (cv (φ := .f32) fun _ j => dgain a x (64 * n) j : FVec Ideal S1x1024 .f32) := by
  induction n with
  | zero =>
    refine pay2_cv.trans ?_
    simp only [dgain, Nat.mul_zero, Finset.range_zero, Finset.sum_empty]
  | succ n ih =>
    have h := sumAt_succ (F := Ideal) (fx x) (fx a) ⟨n, hn⟩
    dsimp only at h
    rw [h, ih (Nat.le_of_succ_le hn), tripSum_cv]
    refine congrArg _ (funext fun _ => funext fun j => ?_)
    rw [show 64 * (n + 1) = 64 * n + 16 + 16 + 16 + 16 by omega]
    simp only [dgain_add]
    simp only [Nat.add_zero, Nat.add_assoc, Nat.reduceAdd]

theorem sum_cv : sumAt (F := Ideal) (fx x) (fx a) k0_t1_loop.trips = (cv (φ := .f32) fun _ j => dgain a x 1024 j : FVec Ideal S1x1024 .f32) := by
  rw [sumAt_cv x a _ (Nat.le_refl _), trips_eq]

theorem pay7_cv (s t : ℕ → ℕ → ℝ) : k0_pay7 (F := Ideal) (cv (φ := .f32) s : FVec Ideal S1x1024 .f32) (cv (φ := .f32) t : FVec Ideal S1x1024 .f32)
    = (cv (φ := .f32) fun i j => s i j + t i j : FVec Ideal S1x1024 .f32) := by
  unfold k0_pay7
  simp only [shapeCast_self_cv, addf_cv]

theorem pay22_cv : k0_pay22 (F := Ideal) = (cv (φ := .f32) fun _ _ => 0 : FVec Ideal S1x1024 .f32) := by
  unfold k0_pay22
  simp only [Ideal.ofBits_def, ofBits_zero, broadcast_cv, shapeCast_self_cv]

/-! ## A plane -/

theorem pay21_cv : k0_pay21 (F := Ideal) = (cv (φ := .f32) fun _ _ => 0 : FVec Ideal S1024x1024 .f32) := by
  unfold k0_pay21
  simp only [Ideal.ofBits_def, ofBits_zero, broadcast_cv, shapeCast_self_cv]

theorem drop_plane (f : ℕ → ℕ → ℕ → ℝ) (h : S1x1024x1024.ShapeCasts S1024x1024) :
    shapeCast S1024x1024 (cv3 f : FVec Ideal S1x1024x1024 .bf16) h = (cv (φ := .bf16) fun i j => f 0 i j : FVec Ideal S1024x1024 .bf16) := by
  funext i; pointwise; rfl

theorem matmul_nt (z w : ℕ → ℕ → ℝ) : matmul dot_S1024x1024_S1024x1024_S1024x1024_1_1_0_0_n_n none
    (cv z : FVec Ideal S1024x1024 .bf16) (cv w : FVec Ideal S1024x1024 .bf16) (constant S1024x1024 .f32 0x00000000#32)
    = (cv (φ := .f32) fun i j => ∑ k : Fin 1024, z i k * w j k : FVec Ideal S1024x1024 .f32) := by
  funext i
  pointwise [dot_S1024x1024_S1024x1024_S1024x1024_1_1_0_0_n_n]
  exact (coe_sum _ _).symm

variable (z : ℕ → ℕ → ℝ) (w : ℕ → ℕ → ℕ → ℝ)

/-- The sum with a plane added. -/
abbrev added : FVec Ideal S1024x1024 .f32 := cv fun i j => a i j + ∑ k : Fin 1024, z i k * w 0 j k

theorem pay23_cv : k0_pay23 (F := Ideal) (fx a) (cv (φ := .bf16) z : FVec Ideal S1024x1024 .bf16) (cv3 (φ := .bf16) w : FVec Ideal S1x1024x1024 .bf16) = added a z w := by
  unfold k0_pay23
  simp only [drop_plane, matmul_nt, addf_cv, shapeCast_self_cv]
theorem pay24_cv : k0_pay24 (F := Ideal) (fx a) (cv (φ := .bf16) z : FVec Ideal S1024x1024 .bf16) (cv3 (φ := .bf16) w : FVec Ideal S1x1024x1024 .bf16) = added a z w := by
  unfold k0_pay24
  simp only [drop_plane, matmul_nt, addf_cv, shapeCast_self_cv]
theorem pay25_cv : k0_pay25 (F := Ideal) (fx a) (cv (φ := .bf16) z : FVec Ideal S1024x1024 .bf16) (cv3 (φ := .bf16) w : FVec Ideal S1x1024x1024 .bf16) = added a z w := by
  unfold k0_pay25
  simp only [drop_plane, matmul_nt, addf_cv, shapeCast_self_cv]
theorem pay1_cv : k0_pay1 (F := Ideal) (fx a) (cv (φ := .bf16) z : FVec Ideal S1024x1024 .bf16) (cv3 (φ := .bf16) w : FVec Ideal S1x1024x1024 .bf16) = added a z w := by
  unfold k0_pay1
  simp only [drop_plane, matmul_nt, addf_cv, shapeCast_self_cv]

end Cert.CallInDx

end
-- ==== Proof.CallInDx.Frame.lean ====
module

public import proofs.«01_k».proof.Proof.CallInDx.Slabs
public import proofs.«01_k».proof.Proof.Gen.InDxIdeal.Launch
public import proofs.«01_k».proof.Proof.Gen.InDxIdeal.Points
public import Idealize.ShloMosaic.Lib.Pipeline.FrameBody
public import Idealize.ShloMosaic.Lib.Pipeline.TableIdle
public import Idealize.ShloMosaic.Lib.Tactic

/-! The certificate of the whole grid, over any float values: the sum carried from plane to plane, the two copies
    started at the last plane but one and waited for at the last, and the launch. -/

@[expose] public section

set_option maxRecDepth 16384

noncomputable section

namespace Cert.InDxIdeal.Body

open Cert.InDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### The branches taken at each point -/

theorem conds : ∀ t : Fin grid0.N,
    (isStart (grid0.coords t) ↔ t.val % 11 = 9) ∧ (isFirst (grid0.coords t) ↔ t.val % 11 = 0) ∧ (isOrigin (grid0.coords t) ↔ t.val = 0)
      ∧ (inA (grid0.coords t) ↔ t.val % 11 ≤ 2) ∧ (inB (grid0.coords t) ↔ 3 ≤ t.val % 11 ∧ t.val % 11 ≤ 5)
      ∧ (inC (grid0.coords t) ↔ 6 ≤ t.val % 11 ∧ t.val % 11 ≤ 7) ∧ (inM (grid0.coords t) ↔ 8 ≤ t.val % 11)
      ∧ (isLast (grid0.coords t) ↔ t.val % 11 = 10) := by
  decide +kernel

theorem idle6 : ∀ t : Fin grid0.N, (cfg0.idle 6 (grid0.coords t) = true ↔ t.val % 11 ≠ 10) := by decide +kernel

theorem idle7 : ∀ t : Fin grid0.N, (cfg0.idle 7 (grid0.coords t) = true ↔ t.val % 11 ≠ 10 ∧ t.val ≠ 0) := by decide +kernel

theorem points88 : cfg0.N = 88 := N_0

theorem lt88 (t : Fin cfg0.N) : t.val < 88 := lt_of_lt_of_eq t.isLt points88

/-- Before which points dg's buffer holds nothing of the kernel's: the first alone. -/
def stale : ℕ → Bool := fun n => decide (n = 0 ∨ 88 ≤ n)

theorem stale_step : ∀ t : Fin cfg0.N,
    stale (t.val + 1) = ((cfg0.win 7).flush t || (cfg0.idle 7 (cfg0.grid.coords t) && stale t.val)) := by
  decide +kernel

theorem not_stale (t : Fin cfg0.N) (h : t.val ≠ 0) : cfg0.fresh 7 t.val = false := by
  rw [Pipeline.Cfg.fresh_tab cfg0 7 stale rfl stale_step t.val (Nat.le_of_lt t.isLt)]
  have := lt88 t
  simp only [stale, decide_eq_false_iff_not]; omega

/-! ### The windows' blocks -/

abbrev V (c : Dev nD) (b : Ref sig .tc) : Buf (Elt F) ((c : Thread nD τ).loc b) := m ((c : Thread nD τ).loc b)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 800000 in
theorem to_region : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-! ### What the grid computes -/

/-- The sum after the plane of point `t`, from the sum before it. -/
def plane (c : Dev nD) (t : Fin cfg0.N) (acc : Vec F S1024x1024 .f32) : Vec F S1024x1024 .f32 :=
  if t.val % 11 = 0 then k0_pay23 k0_pay21 (iblk m c 0 t) (iblk m c 4 t)
  else if t.val % 11 ≤ 2 then k0_pay23 acc (iblk m c 0 t) (iblk m c 4 t)
  else if t.val % 11 ≤ 5 then k0_pay24 acc (iblk m c 1 t) (iblk m c 4 t)
  else if t.val % 11 ≤ 7 then k0_pay25 acc (iblk m c 2 t) (iblk m c 4 t)
  else k0_pay1 acc (iblk m c 3 t) (iblk m c 4 t)

/-- The sum before point `n`. -/
def accB (c : Dev nD) : ℕ → Vec F S1024x1024 .f32
  | 0 => k0_pay21
  | n + 1 => if h : n < cfg0.N then plane m c ⟨n, h⟩ (accB c n) else accB c n

theorem accB_succ (c : Dev nD) (t : Fin cfg0.N) : accB m c (t.val + 1) = plane m c t (accB m c t.val) := dif_pos t.isLt

/-- The point before. -/
abbrev prev (t : Fin cfg0.N) : Fin cfg0.N := ⟨t.val - 1, Nat.lt_of_le_of_lt (Nat.sub_le _ _) t.isLt⟩

/-- The row tile of x that is in place at a last plane. -/
def xTile (c : Dev nD) (t : Fin cfg0.N) : Vec F S1024x1024 .f32 :=
  if h : isStart (grid0.coords (prev t)) then (tileX (grid0.coords (prev t)) h).view.read (Elt F) (V m c main_arg5) else k0_pay21

/-- The row tile of dxp that is in place at a last plane. -/
def dTile (c : Dev nD) (t : Fin cfg0.N) : Vec F S1024x1024 .f32 :=
  if h : isStart (grid0.coords (prev t)) then (tileD (grid0.coords (prev t)) h).view.read (Elt F) (V m c main_arg7) else k0_pay21

/-- The row tile of dx that a last plane writes. -/
def dxAt (c : Dev nD) (t : Fin cfg0.N) : Vec F S1024x1024 .f32 :=
  View.canon (piecesAt (xTile m c t) (accB m c (t.val + 1)) (iblk m c 5 t) (dTile m c t) k0_t1_loop.trips)

/-- dg before point `n`. -/
def dgB (c : Dev nD) : ℕ → Vec F S1x1024 .f32
  | 0 => k0_pay22
  | n + 1 => if h : n < cfg0.N ∧ n % 11 = 10 then k0_pay7 (dgB c n) (sumAt (xTile m c ⟨n, h.1⟩) (accB m c (n + 1)) k0_t1_loop.trips) else dgB c n

theorem dgB_last (c : Dev nD) (t : Fin cfg0.N) (h : t.val % 11 = 10) :
    dgB m c (t.val + 1) = k0_pay7 (dgB m c t.val) (sumAt (xTile m c t) (accB m c (t.val + 1)) k0_t1_loop.trips) := dif_pos ⟨t.isLt, h⟩

theorem dgB_else (c : Dev nD) (t : Fin cfg0.N) (h : t.val % 11 ≠ 10) : dgB m c (t.val + 1) = dgB m c t.val := dif_neg fun h' => h h'.2

/-! ### The staging buffers, the scratch, the two semaphores and the two operands left in place -/

abbrev st0 (t : Fin cfg0.N) : Memref sig .tc .vmem S1024x1024 .bf16 := win0_0.stage (cfg0.slots t 0)
abbrev st1 (t : Fin cfg0.N) : Memref sig .tc .vmem S1024x1024 .bf16 := win0_1.stage (cfg0.slots t 1)
abbrev st2 (t : Fin cfg0.N) : Memref sig .tc .vmem S1024x1024 .bf16 := win0_2.stage (cfg0.slots t 2)
abbrev st3 (t : Fin cfg0.N) : Memref sig .tc .vmem S1024x1024 .bf16 := win0_3.stage (cfg0.slots t 3)
abbrev st4 (t : Fin cfg0.N) : Memref sig .tc .vmem S1x1024x1024 .bf16 := win0_4.stage (cfg0.slots t 4)
abbrev st5 (t : Fin cfg0.N) : Memref sig .tc .vmem S1x1024 .f32 := win0_5.stage (cfg0.slots t 5)
abbrev st6 (t : Fin cfg0.N) : Memref sig .tc .vmem S1024x1024 .f32 := win0_6.stage (cfg0.slots t 6)
abbrev st7 (t : Fin cfg0.N) : Memref sig .tc .vmem S1x1024 .f32 := win0_7.stage (cfg0.slots t 7)
abbrev sAcc : Memref sig .tc .vmem S1024x1024 .f32 := Memref.whole cc0_scratch0
abbrev sX : Memref sig .tc .vmem S1024x1024 .f32 := Memref.whole cc0_scratch1
abbrev sD : Memref sig .tc .vmem S1024x1024 .f32 := Memref.whole cc0_scratch2

abbrev bufs (t : Fin cfg0.N) : Bufs where
  a2 := st0 t
  h2 := hstage0_0 ((cfg0.slots t 0).cast nbuf0_0)
  a3 := st1 t
  h3 := hstage0_1 ((cfg0.slots t 1).cast nbuf0_1)
  a4 := st2 t
  h4 := hstage0_2 ((cfg0.slots t 2).cast nbuf0_2)
  a5 := st3 t
  h5 := hstage0_3 ((cfg0.slots t 3).cast nbuf0_3)
  a6 := st4 t
  h6 := hstage0_4 ((cfg0.slots t 4).cast nbuf0_4)
  a8 := st5 t
  h8 := hstage0_5 ((cfg0.slots t 5).cast nbuf0_5)
  a10 := st6 t
  h10 := hstage0_6 ((cfg0.slots t 6).cast nbuf0_6)
  a11 := st7 t
  h11 := hstage0_7 ((cfg0.slots t 7).cast nbuf0_7)
  a12 := sAcc
  h12 := Memref.isWhole_whole _
  a13 := sX
  h13 := Memref.isWhole_whole _
  a14 := sD
  h14 := Memref.isWhole_whole _

abbrev ownSems : Fin 2 → SemLoc sig := fun j => (![SemLoc.dma 14, SemLoc.dma 15] : Fin 2 → SemLoc sig) j

theorem ownSems_facts : Pipeline.OwnSemFacts spec0 ownSems := by decide

def inPlace : Finset (Ref sig .tc) := {main_arg5, main_arg7}

theorem inPlace_sub : inPlace ⊆ Pipeline.restRefs sig spec0 := by decide

theorem sems_listed (c : Dev nD) :
    (Pipeline.ownSems0 (Ix := Unit) (Name := ℕ) (U := Pipeline.UD sig nD τ) (Lvl := ℕ) (Val := Elt F) (τ := τ) ownSems c : sProp 𝕄)
      = iprop(semVal ((c : Thread nD τ), SemLoc.dma 14) 0 ∗ semVal ((c : Thread nD τ), SemLoc.dma 15) 0) := by
  rw [Pipeline.ownSems0_eq_of_list c ownSems [0, 1] (by decide) (by decide)]; rfl

theorem whole_held (c : Dev nD) (b : Ref sig .tc) (f : Buf (Elt F) ((c : Thread nD τ).loc b)) :
    ((View.whole b).loc (c : Thread nD τ) ↦[(View.whole b).set]{fullShare} f : sProp 𝕄) = (((c : Thread nD τ).loc b) ↦{fullShare} f) := by
  rw [View.set_whole]

theorem inPlace_listed (c : Dev nD) :
    (bigSep inPlace (fun b => ((c : Thread nD τ).loc b) ↦{fullShare} V m c b) : sProp 𝕄)
      = iprop(hb c (Memref.whole main_arg5) (V m c main_arg5) ∗ hb c (Memref.whole main_arg7) (V m c main_arg7)) := by
  rw [BI.bigSep_eq_bigSepL_of_eq [main_arg5, main_arg7] (by decide) (by decide)]
  rw [show hb c (Memref.whole main_arg5) (V m c main_arg5) = (((c : Thread nD τ).loc main_arg5) ↦{fullShare} V m c main_arg5) from whole_held c main_arg5 _,
    show hb c (Memref.whole main_arg7) (V m c main_arg7) = (((c : Thread nD τ).loc main_arg7) ↦{fullShare} V m c main_arg7) from whole_held c main_arg7 _]
  rfl

/-- Between copies: the sum at `acc`, the two copy buffers at anything, both semaphores at zero, both operands whole. -/
def calm (c : Dev nD) (acc : Vec F S1024x1024 .f32) : sProp 𝕄 :=
  iprop(owns (c : Thread nD τ) sAcc fullShare acc ∗ (∃ d, owns (c : Thread nD τ) sX fullShare d) ∗ (∃ d, owns (c : Thread nD τ) sD fullShare d)
    ∗ (∃ r, prngReg c r) ∗ semVal ((c : Thread nD τ), SemLoc.dma 14) 0 ∗ semVal ((c : Thread nD τ), SemLoc.dma 15) 0
    ∗ hb c (Memref.whole main_arg5) (V m c main_arg5) ∗ hb c (Memref.whole main_arg7) (V m c main_arg7))

/-- While the two copies started at `j` are under way. -/
def flying (c : Dev nD) (j : grid0.Coords) (hj : isStart j) (acc : Vec F S1024x1024 .f32) : sProp 𝕄 :=
  iprop(owns (c : Thread nD τ) sAcc fullShare acc ∗ (∃ r, prngReg c r)
    ∗ flyX c sX j hj (V m c main_arg5) ∗ restX c j hj (V m c main_arg5) ∗ flyD c sD j hj (V m c main_arg7) ∗ restD c j hj (V m c main_arg7))

theorem launched (c : Dev nD) :
    (Pipeline.ΦD ownSems spec0 inPlace (V m) c : sProp 𝕄)
      = iprop(iprop((∃ d, owns (c : Thread nD τ) sAcc fullShare d) ∗ (∃ d, owns (c : Thread nD τ) sX fullShare d) ∗ (∃ d, owns (c : Thread nD τ) sD fullShare d))
        ∗ (∃ r, prngReg c r) ∗ iprop(semVal ((c : Thread nD τ), SemLoc.dma 14) 0 ∗ semVal ((c : Thread nD τ), SemLoc.dma 15) 0)
        ∗ iprop(hb c (Memref.whole main_arg5) (V m c main_arg5) ∗ hb c (Memref.whole main_arg7) (V m c main_arg7))) := by
  rw [Pipeline.ΦD_eq, scopedRest0_eq, sems_listed, inPlace_listed]; simp only [sAcc, sX, sD, owns_whole]; try rfl

/-- The point before position `n`. -/
abbrev before (n : ℕ) (hn : n ≤ cfg0.N) (hz : n ≠ 0) : Fin cfg0.N := ⟨n - 1, by omega⟩

/-- Before point `n`. -/
def Phi (c : Dev nD) (n : ℕ) (hn : n ≤ cfg0.N) : sProp 𝕄 :=
  if hz : n = 0 then Pipeline.ΦD ownSems spec0 inPlace (V m) c
  else if hs : isStart (grid0.coords (before n hn hz)) then flying m c _ hs (accB m c n)
  else calm m c (accB m c n)

theorem Phi_zero (c : Dev nD) (n : ℕ) (hn : n ≤ cfg0.N) (hz : n = 0) : Phi m c n hn = Pipeline.ΦD ownSems spec0 inPlace (V m) c := dif_pos hz

theorem Phi_flying (c : Dev nD) (n : ℕ) (hn : n ≤ cfg0.N) (hz : n ≠ 0) (hs : isStart (grid0.coords (before n hn hz))) :
    Phi m c n hn = flying m c _ hs (accB m c n) := (dif_neg hz).trans (dif_pos hs)

theorem Phi_calm (c : Dev nD) (n : ℕ) (hn : n ≤ cfg0.N) (hz : n ≠ 0) (hs : n % 11 ≠ 10) :
    Phi m c n hn = calm m c (accB m c n) :=
  (dif_neg hz).trans (dif_neg fun h => hs (by have := (conds (before n hn hz)).1.mp h; dsimp only at this; omega))

/-! ### The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxAt m c t
    | ⟨7, _⟩ => dgB m c (t.val + 1)
  Φ t := Phi m c t.val (Nat.le_of_lt_succ t.isLt)
  q _ := fullShare
  owed _ := 0

theorem dats_A (c : Dev nD) (w : Fin cfg0.W) : (dats m 0 c).A w = V m c (Pipeline.arrRef spec0 w) := by dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dxAt m c t := by dsimp only [dats]
theorem after7 (c : Dev nD) (t : Fin cfg0.N) : (dats m 0 c).after 7 t = dgB m c (t.val + 1) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [dats_A]; try rfl) t d).trans
    (by unfold Dat.fetched Dat.blockOf iblk; rw [dats_A]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [dats_A]; try rfl) t d).trans
    (by unfold Dat.fetched Dat.blockOf iblk; rw [dats_A]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [dats_A]; try rfl) t d).trans
    (by unfold Dat.fetched Dat.blockOf iblk; rw [dats_A]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [dats_A]; try rfl) t d).trans
    (by unfold Dat.fetched Dat.blockOf iblk; rw [dats_A]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [dats_A]; try rfl) t d).trans
    (by unfold Dat.fetched Dat.blockOf iblk; rw [dats_A]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [dats_A]; try rfl) t d).trans
    (by unfold Dat.fetched Dat.blockOf iblk; rw [dats_A]; try rfl)

theorem carried7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t h0 hi _
  rw [after7, after7, dgB_else m c t ((idle7 t).mp hi).1]
  exact congrArg (dgB m c) (show t.val = t.val - 1 + 1 by omega)

theorem before7 (c : Dev nD) (t : Fin cfg0.N) (h : t.val ≠ 0) (d) : (dats m 0 c).before 7 t d = dgB m c t.val := by
  rw [Dat.before_out_traj _ 7 rfl (fun _ _ => rfl) (carried7 m c) t.val t rfl d,
    if_neg (by rw [not_stale t h]; exact Bool.false_ne_true), after7]
  exact congrArg (dgB m c) (show t.val - 1 + 1 = t.val by omega)

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after5]

theorem leaves6_idle (c : Dev nD) (t : Fin cfg0.N) (h : t.val % 11 ≠ 10) :
    (dats m 0 c).leavesExact 6 t = iprop(∃ d, owns (c : Thread nD τ) (st6 t) fullShare ((dats m 0 c).before 6 t d)) :=
  Dat.leavesExact_idle (dats m 0 c) 6 t ((idle6 t).mpr h) (by rw [Bool.eq_false_iff]; exact fun h' => h ((flush0_6 t).mp h'))

theorem leaves6_last (c : Dev nD) (t : Fin cfg0.N) (h : t.val % 11 = 10) :
    (dats m 0 c).leavesExact 6 t = owns (c : Thread nD τ) (st6 t) fullShare (dxAt m c t) := by
  unfold Dat.leavesExact
  rw [show cfg0.idle 6 (cfg0.grid.coords t) = false from Bool.eq_false_iff.mpr fun h' => (idle6 t).mp h' h, after6]

theorem leaves7_idle (c : Dev nD) (t : Fin cfg0.N) (h : t.val % 11 ≠ 10) (h0 : t.val ≠ 0) :
    (dats m 0 c).leavesExact 7 t = iprop(∃ d, owns (c : Thread nD τ) (st7 t) fullShare ((dats m 0 c).before 7 t d)) :=
  Dat.leavesExact_idle (dats m 0 c) 7 t ((idle7 t).mpr ⟨h, h0⟩)
    (by rw [Bool.eq_false_iff]; exact fun h' => by have := (flush0_7 t).mp h'; omega)

theorem leaves7_live (c : Dev nD) (t : Fin cfg0.N) (h : t.val % 11 = 10 ∨ t.val = 0) :
    (dats m 0 c).leavesExact 7 t = owns (c : Thread nD τ) (st7 t) fullShare (dgB m c (t.val + 1)) := by
  unfold Dat.leavesExact
  rw [show cfg0.idle 7 (cfg0.grid.coords t) = false from Bool.eq_false_iff.mpr fun h' => by have := (idle7 t).mp h'; omega, after7]

theorem at_origin (c : Dev nD) (t : Fin cfg0.N) (h0 : t.val = 0) :
    bodyPre m c t ⊢ wp frame (wpE (defs₀ (F := F)) Variants.none c none) Set.univ (body (grid0.coords t) (bufs t)) (fun _ => bodyPost m c t) := by
  have q := conds t
  have hN := lt88 t
  unfold bodyPre bodyPost
  simp only [before0, before1, before2, before3, before4, before5, leaves0, leaves1, leaves2, leaves3, leaves4, leaves5]
  rw [show (dats m 0 c).Φ t.succ = Phi m c (t.val + 1) t.isLt from rfl, Phi_castSucc]
  unfold Dat.owesAt Pipeline.owesWithin
  rw [show (dats m 0 c).owed t.castSucc = 0 from rfl, show (dats m 0 c).owed t.succ = 0 from rfl]
  rw [leaves6_idle m c t (by omega), leaves7_live m c t (Or.inr h0), Phi_zero m c _ _ h0, launched, Phi_calm m c _ _ (by omega) (by omega),
    accB_succ, dgB_else m c t (by omega)]
  rw [show dgB m c t.val = k0_pay22 by rw [h0]; rfl,
    show plane m c t (accB m c t.val) = k0_pay23 k0_pay21 (iblk m c 0 t) (iblk m c 4 t) from if_pos (by omega)]
  unfold calm
  iintro ⟨⟨⟨HA, HX, HD⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply run_A c (grid0.coords t) (bufs t) (mt q.1.mp (by omega)) (q.2.1.mpr (by omega)) (q.2.2.1.mpr (by omega)) (q.2.2.2.1.mpr (by omega)) (mt q.2.2.2.2.1.mp (by omega)) (mt q.2.2.2.2.2.1.mp (by omega)) (mt q.2.2.2.2.2.2.1.mp (by omega)) (mt q.2.2.2.2.2.2.2.mp (by omega)) (iblk m c 0 t) (iblk m c 4 t)
  isplitl [H0]; · iexact H0
  isplitl [H4]; · iexact H4
  isplitl [HA]; · iexact HA
  isplitl [H7]; · iexists _; iexact H7
  iintro ⟨H0, H4, HA, H7⟩
  isplitl [HA HX HD Hg Hq0 Hq1 Hh0 Hh1]
  · isplitl [HA]; · iexact HA
    isplitl [HX]; · iexact HX
    isplitl [HD]; · iexact HD
    isplitl [Hg]; · iexact Hg
    isplitl [Hq0]; · iexact Hq0
    isplitl [Hq1]; · iexact Hq1
    isplitl [Hh0]; · iexact Hh0
    iexact Hh1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

theorem at_first (c : Dev nD) (t : Fin cfg0.N) (h0 : t.val ≠ 0) (h : t.val % 11 = 0) :
    bodyPre m c t ⊢ wp frame (wpE (defs₀ (F := F)) Variants.none c none) Set.univ (body (grid0.coords t) (bufs t)) (fun _ => bodyPost m c t) := by
  have q := conds t
  have hN := lt88 t
  unfold bodyPre bodyPost
  simp only [before0, before1, before2, before3, before4, before5, leaves0, leaves1, leaves2, leaves3, leaves4, leaves5]
  rw [show (dats m 0 c).Φ t.succ = Phi m c (t.val + 1) t.isLt from rfl, Phi_castSucc]
  unfold Dat.owesAt Pipeline.owesWithin
  rw [show (dats m 0 c).owed t.castSucc = 0 from rfl, show (dats m 0 c).owed t.succ = 0 from rfl]
  rw [leaves6_idle m c t (by omega), leaves7_idle m c t (by omega) h0, Phi_calm m c _ _ h0 (by omega), Phi_calm m c _ _ (by omega) (by omega), accB_succ]
  rw [show plane m c t (accB m c t.val) = k0_pay23 k0_pay21 (iblk m c 0 t) (iblk m c 4 t) from if_pos h]
  unfold calm
  iintro ⟨⟨HA, HX, HD, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply run_G c (grid0.coords t) (bufs t) (mt q.1.mp (by omega)) (q.2.1.mpr (by omega)) (mt q.2.2.1.mp (by omega)) (q.2.2.2.1.mpr (by omega)) (mt q.2.2.2.2.1.mp (by omega)) (mt q.2.2.2.2.2.1.mp (by omega)) (mt q.2.2.2.2.2.2.1.mp (by omega)) (mt q.2.2.2.2.2.2.2.mp (by omega)) (iblk m c 0 t) (iblk m c 4 t)
  isplitl [H0]; · iexact H0
  isplitl [H4]; · iexact H4
  isplitl [HA]; · iexists _; iexact HA
  iintro ⟨H0, H4, HA⟩
  isplitl [HA HX HD Hg Hq0 Hq1 Hh0 Hh1]
  · isplitl [HA]; · iexact HA
    isplitl [HX]; · iexact HX
    isplitl [HD]; · iexact HD
    isplitl [Hg]; · iexact Hg
    isplitl [Hq0]; · iexact Hq0
    isplitl [Hq1]; · iexact Hq1
    isplitl [Hh0]; · iexact Hh0
    iexact Hh1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

/-- A point that only adds a product to the sum, by the run `run` of its case on the operand `z`. -/
theorem adding (c : Dev nD) (t : Fin cfg0.N) (h0 : t.val % 11 ≠ 0) (h9 : t.val % 11 ≠ 9) (h10 : t.val % 11 ≠ 10)
    (run : ∀ (acc : Vec F S1024x1024 .f32) (K : PUnit → sProp 𝕄),
      iprop(owns (c : Thread nD τ) (st0 t) fullShare (iblk m c 0 t) ∗ owns (c : Thread nD τ) (st1 t) fullShare (iblk m c 1 t)
          ∗ owns (c : Thread nD τ) (st2 t) fullShare (iblk m c 2 t) ∗ owns (c : Thread nD τ) (st3 t) fullShare (iblk m c 3 t)
          ∗ owns (c : Thread nD τ) (st4 t) fullShare (iblk m c 4 t) ∗ owns (c : Thread nD τ) sAcc fullShare acc
          ∗ (iprop(owns (c : Thread nD τ) (st0 t) fullShare (iblk m c 0 t) ∗ owns (c : Thread nD τ) (st1 t) fullShare (iblk m c 1 t)
            ∗ owns (c : Thread nD τ) (st2 t) fullShare (iblk m c 2 t) ∗ owns (c : Thread nD τ) (st3 t) fullShare (iblk m c 3 t)
            ∗ owns (c : Thread nD τ) (st4 t) fullShare (iblk m c 4 t) ∗ owns (c : Thread nD τ) sAcc fullShare (plane m c t acc)) -∗ K ⟨⟩))
        ⊢ wp frame (wpE (defs₀ (F := F)) Variants.none c none) Set.univ (body (grid0.coords t) (bufs t)) K) :
    bodyPre m c t ⊢ wp frame (wpE (defs₀ (F := F)) Variants.none c none) Set.univ (body (grid0.coords t) (bufs t)) (fun _ => bodyPost m c t) := by
  have q := conds t
  have hN := lt88 t
  unfold bodyPre bodyPost
  simp only [before0, before1, before2, before3, before4, before5, leaves0, leaves1, leaves2, leaves3, leaves4, leaves5]
  rw [show (dats m 0 c).Φ t.succ = Phi m c (t.val + 1) t.isLt from rfl, Phi_castSucc]
  unfold Dat.owesAt Pipeline.owesWithin
  rw [show (dats m 0 c).owed t.castSucc = 0 from rfl, show (dats m 0 c).owed t.succ = 0 from rfl]
  rw [leaves6_idle m c t h10, leaves7_idle m c t h10 (by omega), Phi_calm m c _ _ (by omega) h10, Phi_calm m c _ _ (by omega) (by omega), accB_succ]
  unfold calm
  iintro ⟨⟨HA, HX, HD, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply run (accB m c t.val)
  isplitl [H0]; · iexact H0
  isplitl [H1]; · iexact H1
  isplitl [H2]; · iexact H2
  isplitl [H3]; · iexact H3
  isplitl [H4]; · iexact H4
  isplitl [HA]; · iexact HA
  iintro ⟨H0, H1, H2, H3, H4, HA⟩
  isplitl [HA HX HD Hg Hq0 Hq1 Hh0 Hh1]
  · isplitl [HA]; · iexact HA
    isplitl [HX]; · iexact HX
    isplitl [HD]; · iexact HD
    isplitl [Hg]; · iexact Hg
    isplitl [Hq0]; · iexact Hq0
    isplitl [Hq1]; · iexact Hq1
    isplitl [Hh0]; · iexact Hh0
    iexact Hh1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

theorem at_B (c : Dev nD) (t : Fin cfg0.N) (h : t.val % 11 ≠ 0 ∧ t.val % 11 ≤ 2) :
    bodyPre m c t ⊢ wp frame (wpE (defs₀ (F := F)) Variants.none c none) Set.univ (body (grid0.coords t) (bufs t)) (fun _ => bodyPost m c t) := by
  refine adding m c t (by omega) (by omega) (by omega) fun acc K => ?_
  have q := conds t
  rw [show plane m c t acc = k0_pay23 acc (iblk m c 0 t) (iblk m c 4 t) from (if_neg (by omega)).trans (if_pos (by omega))]
  iintro ⟨H0, H1, H2, H3, H4, HA, Hk⟩
  iapply run_B c (grid0.coords t) (bufs t) (mt q.1.mp (by omega)) (mt q.2.1.mp (by omega)) (mt q.2.2.1.mp (by omega)) (q.2.2.2.1.mpr (by omega)) (mt q.2.2.2.2.1.mp (by omega)) (mt q.2.2.2.2.2.1.mp (by omega)) (mt q.2.2.2.2.2.2.1.mp (by omega)) (mt q.2.2.2.2.2.2.2.mp (by omega)) (iblk m c 0 t) (iblk m c 4 t) acc
  isplitl [H0]; · iexact H0
  isplitl [H4]; · iexact H4
  isplitl [HA]; · iexact HA
  iintro ⟨H0, H4, HA⟩
  iapply Hk
  isplitl [H0]; · iexact H0
  isplitl [H1]; · iexact H1
  isplitl [H2]; · iexact H2
  isplitl [H3]; · iexact H3
  isplitl [H4]; · iexact H4
  iexact HA

theorem at_C (c : Dev nD) (t : Fin cfg0.N) (h : 3 ≤ t.val % 11 ∧ t.val % 11 ≤ 5) :
    bodyPre m c t ⊢ wp frame (wpE (defs₀ (F := F)) Variants.none c none) Set.univ (body (grid0.coords t) (bufs t)) (fun _ => bodyPost m c t) := by
  refine adding m c t (by omega) (by omega) (by omega) fun acc K => ?_
  have q := conds t
  rw [show plane m c t acc = k0_pay24 acc (iblk m c 1 t) (iblk m c 4 t) from (if_neg (by omega)).trans ((if_neg (by omega)).trans (if_pos (by omega)))]
  iintro ⟨H0, H1, H2, H3, H4, HA, Hk⟩
  iapply run_C c (grid0.coords t) (bufs t) (mt q.1.mp (by omega)) (mt q.2.1.mp (by omega)) (mt q.2.2.1.mp (by omega)) (mt q.2.2.2.1.mp (by omega)) (q.2.2.2.2.1.mpr (by omega)) (mt q.2.2.2.2.2.1.mp (by omega)) (mt q.2.2.2.2.2.2.1.mp (by omega)) (mt q.2.2.2.2.2.2.2.mp (by omega)) (iblk m c 1 t) (iblk m c 4 t) acc
  isplitl [H1]; · iexact H1
  isplitl [H4]; · iexact H4
  isplitl [HA]; · iexact HA
  iintro ⟨H1, H4, HA⟩
  iapply Hk
  isplitl [H0]; · iexact H0
  isplitl [H1]; · iexact H1
  isplitl [H2]; · iexact H2
  isplitl [H3]; · iexact H3
  isplitl [H4]; · iexact H4
  iexact HA

theorem at_D (c : Dev nD) (t : Fin cfg0.N) (h : 6 ≤ t.val % 11 ∧ t.val % 11 ≤ 7) :
    bodyPre m c t ⊢ wp frame (wpE (defs₀ (F := F)) Variants.none c none) Set.univ (body (grid0.coords t) (bufs t)) (fun _ => bodyPost m c t) := by
  refine adding m c t (by omega) (by omega) (by omega) fun acc K => ?_
  have q := conds t
  rw [show plane m c t acc = k0_pay25 acc (iblk m c 2 t) (iblk m c 4 t) from (if_neg (by omega)).trans ((if_neg (by omega)).trans ((if_neg (by omega)).trans (if_pos (by omega))))]
  iintro ⟨H0, H1, H2, H3, H4, HA, Hk⟩
  iapply run_D c (grid0.coords t) (bufs t) (mt q.1.mp (by omega)) (mt q.2.1.mp (by omega)) (mt q.2.2.1.mp (by omega)) (mt q.2.2.2.1.mp (by omega)) (mt q.2.2.2.2.1.mp (by omega)) (q.2.2.2.2.2.1.mpr (by omega)) (mt q.2.2.2.2.2.2.1.mp (by omega)) (mt q.2.2.2.2.2.2.2.mp (by omega)) (iblk m c 2 t) (iblk m c 4 t) acc
  isplitl [H2]; · iexact H2
  isplitl [H4]; · iexact H4
  isplitl [HA]; · iexact HA
  iintro ⟨H2, H4, HA⟩
  iapply Hk
  isplitl [H0]; · iexact H0
  isplitl [H1]; · iexact H1
  isplitl [H2]; · iexact H2
  isplitl [H3]; · iexact H3
  isplitl [H4]; · iexact H4
  iexact HA

theorem at_E1 (c : Dev nD) (t : Fin cfg0.N) (h : t.val % 11 = 8) :
    bodyPre m c t ⊢ wp frame (wpE (defs₀ (F := F)) Variants.none c none) Set.univ (body (grid0.coords t) (bufs t)) (fun _ => bodyPost m c t) := by
  refine adding m c t (by omega) (by omega) (by omega) fun acc K => ?_
  have q := conds t
  rw [show plane m c t acc = k0_pay1 acc (iblk m c 3 t) (iblk m c 4 t) from (if_neg (by omega)).trans ((if_neg (by omega)).trans ((if_neg (by omega)).trans (if_neg (by omega))))]
  iintro ⟨H0, H1, H2, H3, H4, HA, Hk⟩
  iapply run_E1 c (grid0.coords t) (bufs t) (mt q.1.mp (by omega)) (mt q.2.1.mp (by omega)) (mt q.2.2.1.mp (by omega)) (mt q.2.2.2.1.mp (by omega)) (mt q.2.2.2.2.1.mp (by omega)) (mt q.2.2.2.2.2.1.mp (by omega)) (q.2.2.2.2.2.2.1.mpr (by omega)) (mt q.2.2.2.2.2.2.2.mp (by omega)) (iblk m c 3 t) (iblk m c 4 t) acc
  isplitl [H3]; · iexact H3
  isplitl [H4]; · iexact H4
  isplitl [HA]; · iexact HA
  iintro ⟨H3, H4, HA⟩
  iapply Hk
  isplitl [H0]; · iexact H0
  isplitl [H1]; · iexact H1
  isplitl [H2]; · iexact H2
  isplitl [H3]; · iexact H3
  isplitl [H4]; · iexact H4
  iexact HA

theorem at_start (c : Dev nD) (t : Fin cfg0.N) (h : t.val % 11 = 9) :
    bodyPre m c t ⊢ wp frame (wpE (defs₀ (F := F)) Variants.none c none) Set.univ (body (grid0.coords t) (bufs t)) (fun _ => bodyPost m c t) := by
  have q := conds t
  have hN := lt88 t
  unfold bodyPre bodyPost
  simp only [before0, before1, before2, before3, before4, before5, leaves0, leaves1, leaves2, leaves3, leaves4, leaves5]
  rw [show (dats m 0 c).Φ t.succ = Phi m c (t.val + 1) t.isLt from rfl, Phi_castSucc]
  unfold Dat.owesAt Pipeline.owesWithin
  rw [show (dats m 0 c).owed t.castSucc = 0 from rfl, show (dats m 0 c).owed t.succ = 0 from rfl]
  have hs : isStart (grid0.coords t) := q.1.mpr h
  rw [leaves6_idle m c t (by omega), leaves7_idle m c t (by omega) (by omega), Phi_calm m c _ _ (by omega) (by omega),
    Phi_flying m c (t.val + 1) t.isLt (by omega) hs, accB_succ]
  rw [show plane m c t (accB m c t.val) = k0_pay1 (accB m c t.val) (iblk m c 3 t) (iblk m c 4 t) from (if_neg (by omega)).trans ((if_neg (by omega)).trans ((if_neg (by omega)).trans (if_neg (by omega))))]
  unfold calm flying
  iintro ⟨⟨HA, HX, HD, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply run_E2 c (grid0.coords t) (bufs t) (q.1.mpr (by omega)) (mt q.2.1.mp (by omega)) (mt q.2.2.1.mp (by omega)) (mt q.2.2.2.1.mp (by omega)) (mt q.2.2.2.2.1.mp (by omega)) (mt q.2.2.2.2.2.1.mp (by omega)) (q.2.2.2.2.2.2.1.mpr (by omega)) (mt q.2.2.2.2.2.2.2.mp (by omega)) (iblk m c 3 t) (iblk m c 4 t) (accB m c t.val) (V m c main_arg5) (V m c main_arg7)
  isplitl [H3]; · iexact H3
  isplitl [H4]; · iexact H4
  isplitl [HA]; · iexact HA
  isplitl [HX]; · iexact HX
  isplitl [HD]; · iexact HD
  isplitl [Hq0]; · iexact Hq0
  isplitl [Hq1]; · iexact Hq1
  isplitl [Hh0]; · iexact Hh0
  isplitl [Hh1]; · iexact Hh1
  iintro ⟨H3, H4, HA, Hq0, Hh0, Hq1, Hh1⟩
  isplitl [HA Hg Hq0 Hq1 Hh0 Hh1]
  · isplitl [HA]; · iexact HA
    isplitl [Hg]; · iexact Hg
    isplitl [Hq0]; · iexact Hq0
    isplitl [Hh0]; · iexact Hh0
    isplitl [Hq1]; · iexact Hq1
    iexact Hh1
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

theorem at_last (c : Dev nD) (t : Fin cfg0.N) (h : t.val % 11 = 10) :
    bodyPre m c t ⊢ wp frame (wpE (defs₀ (F := F)) Variants.none c none) Set.univ (body (grid0.coords t) (bufs t)) (fun _ => bodyPost m c t) := by
  have q := conds t
  have hN := lt88 t
  unfold bodyPre bodyPost
  simp only [before0, before1, before2, before3, before4, before5, leaves0, leaves1, leaves2, leaves3, leaves4, leaves5]
  rw [show (dats m 0 c).Φ t.succ = Phi m c (t.val + 1) t.isLt from rfl, Phi_castSucc]
  unfold Dat.owesAt Pipeline.owesWithin
  rw [show (dats m 0 c).owed t.castSucc = 0 from rfl, show (dats m 0 c).owed t.succ = 0 from rfl]
  have hs : isStart (grid0.coords (prev t)) := (conds (prev t)).1.mpr (by dsimp only; omega)
  rw [leaves6_last m c t h, leaves7_live m c t (Or.inl h), Phi_flying m c t.val _ (by omega) hs, Phi_calm m c _ _ (by omega) (by omega), dgB_last m c t h]
  simp only [before7 m c t (by omega)]
  unfold dxAt xTile dTile
  rw [dif_pos hs, dif_pos hs, accB_succ]
  rw [show plane m c t (accB m c t.val) = k0_pay1 (accB m c t.val) (iblk m c 3 t) (iblk m c 4 t) from (if_neg (by omega)).trans ((if_neg (by omega)).trans ((if_neg (by omega)).trans (if_neg (by omega))))]
  unfold calm flying
  iintro ⟨⟨HA, Hg, Hq0, Hh0, Hq1, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply run_F c (grid0.coords t) (bufs t) (grid0.coords (prev t)) hs (mt q.1.mp (by omega)) (mt q.2.1.mp (by omega)) (mt q.2.2.1.mp (by omega)) (mt q.2.2.2.1.mp (by omega)) (mt q.2.2.2.2.1.mp (by omega)) (mt q.2.2.2.2.2.1.mp (by omega)) (q.2.2.2.2.2.2.1.mpr (by omega)) (q.2.2.2.2.2.2.2.mpr (by omega)) (iblk m c 3 t) (iblk m c 4 t) (accB m c t.val) (iblk m c 5 t) (dgB m c t.val) (V m c main_arg5) (V m c main_arg7) W
  isplitl [H3]; · iexact H3
  isplitl [H4]; · iexact H4
  isplitl [HA]; · iexact HA
  isplitl [H5]; · iexact H5
  isplitl [H6]; · iexists _; iexact H6
  isplitl [H7]; · iexact H7
  isplitl [Hq0]; · iexact Hq0
  isplitl [Hh0]; · iexact Hh0
  isplitl [Hq1]; · iexact Hq1
  isplitl [Hh1]; · iexact Hh1
  isplitl [HW]; · iexact HW
  iintro ⟨H3, H4, HA, H5, H6, H7, HX, HD, Hq0, Hq1, Hh0, Hh1, ⟨%W', HW⟩⟩
  isplitl [HA HX HD Hg Hq0 Hq1 Hh0 Hh1]
  · isplitl [HA]; · iexact HA
    isplitl [HX]; · iexact HX
    isplitl [HD]; · iexact HD
    isplitl [Hg]; · iexact Hg
    isplitl [Hq0]; · iexact Hq0
    isplitl [Hq1]; · iexact Hq1
    isplitl [Hh0]; · iexact Hh0
    iexact Hh1
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem at_point (c : Dev nD) (t : Fin cfg0.N) :
    bodyPre m c t ⊢ wp frame (wpE (defs₀ (F := F)) Variants.none c none) Set.univ (bodyAt0 t) (fun _ => bodyPost m c t) := by
  by_cases h0 : t.val = 0
  · exact at_origin m c t h0
  by_cases h1 : t.val % 11 = 0
  · exact at_first m c t h0 h1
  by_cases h2 : t.val % 11 ≤ 2
  · exact at_B m c t ⟨h1, h2⟩
  by_cases h3 : t.val % 11 ≤ 5
  · exact at_C m c t (by omega)
  by_cases h4 : t.val % 11 ≤ 7
  · exact at_D m c t (by omega)
  by_cases h5 : t.val % 11 = 8
  · exact at_E1 m c t h5
  by_cases h6 : t.val % 11 = 9
  · exact at_start m c t h6
  exact at_last m c t (by omega)

/-! ### The launch -/

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (at_point m c t) rfl .rfl fun _ => .rfl

theorem enter (c : Dev nD) : Pipeline.ΦD ownSems spec0 inPlace (V m) c ⊢ (dats m 0 c).Φ 0 := by
  rw [show (dats m 0 c).Φ 0 = Phi m c 0 (Nat.zero_le _) from rfl, Phi_zero m c 0 _ rfl]
  try exact Idealize.SL.BI.Entails.refl _

theorem leave (c : Dev nD) : (dats m 0 c).Φ (Fin.last cfg0.N) ⊢ Pipeline.ΦD ownSems spec0 inPlace (V m) c := by
  have hN := points88
  rw [show (dats m 0 c).Φ (Fin.last cfg0.N) = Phi m c cfg0.N le_rfl from rfl, Phi_calm m c _ _ (by omega) (by omega), launched]
  unfold calm
  iintro ⟨HA, HX, HD, Hg, Hq0, Hq1, Hh0, Hh1⟩
  isplitl [HA HX HD]
  · isplitl [HA]; · iexists _; iexact HA
    isplitl [HX]; · iexact HX
    iexact HD
  isplitl [Hg]; · iexact Hg
  isplitl [Hq0 Hq1]
  · isplitl [Hq0]; · iexact Hq0
    iexact Hq1
  isplitl [Hh0]; · iexact Hh0
  iexact Hh1

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownSems defs₀ Variants.none ownSems_facts inPlace inPlace_sub m ρ main
    (hbody := fun c => (obligation m c).loose) (hshare := fun c => (dats m 0 c).share_full fun _ => rfl)
    (howed := fun _ _ => rfl) (V := V m) (hmain := to_region m) (hA := dats_A m)
    (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ ⟨h, hsem⟩ => ⟨fun c => ⟨((h c).1 0).trans (((dats m 0 c).arrAt_in 0 rfl _).trans (dats_A m c 0)),
    ((h c).1 1).trans (((dats m 0 c).arrAt_in 1 rfl _).trans (dats_A m c 1)),
    ((h c).1 2).trans (((dats m 0 c).arrAt_in 2 rfl _).trans (dats_A m c 2)),
    ((h c).1 3).trans (((dats m 0 c).arrAt_in 3 rfl _).trans (dats_A m c 3)),
    ((h c).1 4).trans (((dats m 0 c).arrAt_in 4 rfl _).trans (dats_A m c 4)),
    (h c).2 main_arg5 (Pipeline.mem_restRefs_of main_arg5 (by decide) (by decide)),
    ((h c).1 5).trans (((dats m 0 c).arrAt_in 5 rfl _).trans (dats_A m c 5)),
    (h c).2 main_arg7 (Pipeline.mem_restRefs_of main_arg7 (by decide) (by decide))⟩, hsem⟩) (run_quiescent m ρ)

end Cert.InDxIdeal.Body

end
-- ==== Proof.CallInDx.Grid.lean ====
/-
  The whole grid at finite arguments: the blocks a point reads, the product summed plane by plane, and what the two results hold.
-/
module

public import proofs.«01_k».proof.Proof.CallInDx.Rows
public import proofs.«01_k».proof.Proof.CallInDx.Frame
public import Idealize.ShloMosaic.Lib.Pipeline.ReadBack

@[expose] public section

noncomputable section

namespace Cert.CallInDx

open Cert.InDxIdeal Cert.InDxIdeal.Gen Cert.InDxIdeal.Body Idealize.ShloMosaic Idealize.ShloMosaic.TcCoe Idealize.SL.Sem
open Cert.RealArr
open Idealize.ShloMosaic.Pipeline (Dat Cfg Window)

variable (m : (ℓ : Loc nD τ sig) → Buf (Elt Ideal) ℓ) (c : Dev nD)
variable (A B C M : ℕ → ℕ → ℝ) (Wt : ℕ → ℕ → ℕ → ℝ) (X G D : ℕ → ℕ → ℝ)

/-- The argument arrays hold reals. -/
structure Holds : Prop where
  h0 : V m c main_arg0 = (cv (φ := .bf16) A : FVec Ideal S8192x3072 .bf16)
  h1 : V m c main_arg1 = (cv (φ := .bf16) B : FVec Ideal S8192x3072 .bf16)
  h2 : V m c main_arg2 = (cv (φ := .bf16) C : FVec Ideal S8192x2048 .bf16)
  h3 : V m c main_arg3 = (cv (φ := .bf16) M : FVec Ideal S8192x3072 .bf16)
  h4 : V m c main_arg4 = (cv3 (φ := .bf16) Wt : FVec Ideal S1x1024x11264 .bf16)
  h5 : V m c main_arg5 = (cv (φ := .f32) X : FVec Ideal S8192x1024 .f32)
  h6 : V m c main_arg6 = (cv (φ := .f32) G : FVec Ideal S1x1024 .f32)
  h7 : V m c main_arg7 = (cv (φ := .f32) D : FVec Ideal S8192x1024 .f32)

/-- Where each window's block lies. -/
theorem idx : ∀ t : Fin grid0.N, win0_0.index t = ![t.val / 11, min (t.val % 11) 2] ∧ win0_1.index t = ![t.val / 11, min (t.val % 11 - 3) 2]
    ∧ win0_2.index t = ![t.val / 11, min (t.val % 11 - 6) 1] ∧ win0_3.index t = ![t.val / 11, min (t.val % 11 - 8) 2]
    ∧ win0_4.index t = ![0, 0, t.val % 11] ∧ win0_5.index t = ![0, 0] ∧ win0_6.index t = ![t.val / 11, 0] ∧ win0_7.index t = ![0, 0] := by decide +kernel

/-- Where the copies of the row tiles start. -/
theorem off1_eq : ∀ t : Fin grid0.N, k0_off1 (grid0.coords t) = ![1024 * (t.val / 11), 0] := by decide +kernel

theorem tileX_0 (i : grid0.Coords) (h : isStart i) (y : S1024x1024.Idx) : ((tileX i h).view.emb y 0).val = k0_off1 i 0 + (y 0).val :=
  unit_idx_val (s := S8192x1024) (k0_off1_inb i h) y 0
theorem tileX_1 (i : grid0.Coords) (h : isStart i) (y : S1024x1024.Idx) : ((tileX i h).view.emb y 1).val = k0_off1 i 1 + (y 1).val :=
  unit_idx_val (s := S8192x1024) (k0_off1_inb i h) y 1
theorem tileD_0 (i : grid0.Coords) (h : isStart i) (y : S1024x1024.Idx) : ((tileD i h).view.emb y 0).val = k0_off1 i 0 + (y 0).val :=
  unit_idx_val (s := S8192x1024) (k0_off1_inb i h) y 0
theorem tileD_1 (i : grid0.Coords) (h : isStart i) (y : S1024x1024.Idx) : ((tileD i h).view.emb y 1).val = k0_off1 i 1 + (y 1).val :=
  unit_idx_val (s := S8192x1024) (k0_off1_inb i h) y 1

theorem flush6 : ∀ t : Fin cfg0.N, ((cfg0.win 6).flush t = true ↔ t.val % 11 = 10) := by decide +kernel
theorem flush7 : ∀ t : Fin cfg0.N, ((cfg0.win 7).flush t = true ↔ t.val = 87) := by decide +kernel

variable {m c A B C M Wt X G D} (H : Holds m c A B C M Wt X G D) (t : Fin cfg0.N)
include H

theorem block0 : iblk m c 0 t = (cv (φ := .bf16) fun i j => A (1024 * (t.val / 11) + i) (1024 * min (t.val % 11) 2 + j) : FVec Ideal S1024x1024 .bf16) := by
  funext y
  blk_simp [iblk]
  rw [H.h0]
  refine cv_at ?_
  blk_simp [(idx t).1]
  simp only [Nat.mul_comm]

theorem block1 : iblk m c 1 t = (cv (φ := .bf16) fun i j => B (1024 * (t.val / 11) + i) (1024 * min (t.val % 11 - 3) 2 + j) : FVec Ideal S1024x1024 .bf16) := by
  funext y
  blk_simp [iblk]
  rw [H.h1]
  refine cv_at ?_
  blk_simp [(idx t).2.1]
  simp only [Nat.mul_comm]

theorem block2 : iblk m c 2 t = (cv (φ := .bf16) fun i j => C (1024 * (t.val / 11) + i) (1024 * min (t.val % 11 - 6) 1 + j) : FVec Ideal S1024x1024 .bf16) := by
  funext y
  blk_simp [iblk]
  rw [H.h2]
  refine cv_at ?_
  blk_simp [(idx t).2.2.1]
  simp only [Nat.mul_comm]

theorem block3 : iblk m c 3 t = (cv (φ := .bf16) fun i j => M (1024 * (t.val / 11) + i) (1024 * min (t.val % 11 - 8) 2 + j) : FVec Ideal S1024x1024 .bf16) := by
  funext y
  blk_simp [iblk]
  rw [H.h3]
  refine cv_at ?_
  blk_simp [(idx t).2.2.2.1]
  simp only [Nat.mul_comm]

theorem block4 : iblk m c 4 t = (cv3 (φ := .bf16) fun _ i j => Wt 0 i (1024 * (t.val % 11) + j) : FVec Ideal S1x1024x1024 .bf16) := by
  funext y
  blk_simp [iblk]
  rw [H.h4]
  refine cv3_at ?_
  blk_simp [(idx t).2.2.2.2.1]
  try rw [Nat.mul_comm]

theorem block5 : iblk m c 5 t = (cv (φ := .f32) G : FVec Ideal S1x1024 .f32) := by
  funext y
  blk_simp [iblk]
  rw [H.h6]
  refine cv_at ?_
  blk_simp [(idx t).2.2.2.2.2.1]

theorem xTile_cv (h : t.val % 11 = 10) : xTile m c t = (cv (φ := .f32) fun i j => X (1024 * (t.val / 11) + i) j : FVec Ideal S1024x1024 .f32) := by
  have hp : (prev t).val % 11 = 9 := by show (t.val - 1) % 11 = 9; omega
  have hq : (prev t).val / 11 = t.val / 11 := by show (t.val - 1) / 11 = t.val / 11; omega
  unfold xTile
  rw [dif_pos ((conds (prev t)).1.mpr hp)]
  funext y
  refine (congrFun H.h5 _).trans (cv_at ?_)
  exact congrArg₂ X ((tileX_0 _ _ y).trans (congrArg (· + (y 0).val) ((congrFun (off1_eq (prev t)) 0).trans (congrArg (1024 * ·) hq))))
    ((tileX_1 _ _ y).trans ((congrArg (· + (y 1).val) (congrFun (off1_eq (prev t)) 1)).trans (Nat.zero_add _)))

theorem dTile_cv (h : t.val % 11 = 10) : dTile m c t = (cv (φ := .f32) fun i j => D (1024 * (t.val / 11) + i) j : FVec Ideal S1024x1024 .f32) := by
  have hp : (prev t).val % 11 = 9 := by show (t.val - 1) % 11 = 9; omega
  have hq : (prev t).val / 11 = t.val / 11 := by show (t.val - 1) / 11 = t.val / 11; omega
  unfold dTile
  rw [dif_pos ((conds (prev t)).1.mpr hp)]
  funext y
  refine (congrFun H.h7 _).trans (cv_at ?_)
  exact congrArg₂ D ((tileD_0 _ _ y).trans (congrArg (· + (y 0).val) ((congrFun (off1_eq (prev t)) 0).trans (congrArg (1024 * ·) hq))))
    ((tileD_1 _ _ y).trans ((congrArg (· + (y 1).val) (congrFun (off1_eq (prev t)) 1)).trans (Nat.zero_add _)))

/-- The sum with the plane of point `t` added. -/
theorem plane_cv (a : ℕ → ℕ → ℝ) : plane m c t (fx a) = (cv (φ := .f32) fun i d => (if t.val % 11 = 0 then 0 else a i d)
    + ∑ e : Fin 1024, side A B C M (1024 * (t.val / 11) + i) (1024 * (t.val % 11) + e) * Wt 0 d (1024 * (t.val % 11) + e) : FVec Ideal S1024x1024 .f32) := by
  have h11 : t.val % 11 < 11 := Nat.mod_lt _ (by norm_num)
  unfold plane
  rw [block0 H, block1 H, block2 H, block3 H, block4 H]
  by_cases h0 : t.val % 11 = 0
  · rw [if_pos h0, pay21_cv]
    refine (pay23_cv _ _ _).trans (cv_congr fun i _ d _ => congrArg₂ _ (if_pos h0).symm (Finset.sum_congr rfl fun e _ => ?_))
    have he := e.isLt
    rw [side_a (by omega), show min (t.val % 11) 2 = t.val % 11 by omega]
  rw [if_neg h0]
  by_cases h2 : t.val % 11 ≤ 2
  · rw [if_pos h2]
    refine (pay23_cv _ _ _).trans (cv_congr fun i _ d _ => congrArg₂ _ (if_neg h0).symm (Finset.sum_congr rfl fun e _ => ?_))
    have he := e.isLt
    rw [side_a (by omega), show min (t.val % 11) 2 = t.val % 11 by omega]
  rw [if_neg h2]
  by_cases h5 : t.val % 11 ≤ 5
  · rw [if_pos h5]
    refine (pay24_cv _ _ _).trans (cv_congr fun i _ d _ => congrArg₂ _ (if_neg h0).symm (Finset.sum_congr rfl fun e _ => ?_))
    have he := e.isLt
    rw [side_b (by omega) (by omega), show 1024 * (t.val % 11) + e.val - 3072 = 1024 * min (t.val % 11 - 3) 2 + e.val by omega]
  rw [if_neg h5]
  by_cases h7 : t.val % 11 ≤ 7
  · rw [if_pos h7]
    refine (pay25_cv _ _ _).trans (cv_congr fun i _ d _ => congrArg₂ _ (if_neg h0).symm (Finset.sum_congr rfl fun e _ => ?_))
    have he := e.isLt
    rw [side_c (by omega) (by omega), show 1024 * (t.val % 11) + e.val - 6144 = 1024 * min (t.val % 11 - 6) 1 + e.val by omega]
  rw [if_neg h7]
  refine (pay1_cv _ _ _).trans (cv_congr fun i _ d _ => congrArg₂ _ (if_neg h0).symm (Finset.sum_congr rfl fun e _ => ?_))
  have he := e.isLt
  rw [side_m (by omega), show 1024 * (t.val % 11) + e.val - 8192 = 1024 * min (t.val % 11 - 8) 2 + e.val by omega]

/-- After point `n` the sum holds the planes of its row tile so far. -/
theorem acc_cv (n : ℕ) (hn : n < cfg0.N) : accB m c (n + 1)
    = (cv (φ := .f32) fun i d => dot (side A B C M) (Wt 0) (1024 * (n % 11) + 1024) (1024 * (n / 11) + i) d : FVec Ideal S1024x1024 .f32) := by
  induction n with
  | zero =>
    refine (accB_succ m c ⟨0, hn⟩).trans ((congrArg _ pay21_cv).trans ((plane_cv H ⟨0, hn⟩ _).trans (cv_congr fun i _ d _ => ?_)))
    rw [dot_add]
    rfl
  | succ n ih =>
    refine (accB_succ m c ⟨n + 1, hn⟩).trans ((congrArg _ (ih (Nat.lt_of_succ_lt hn))).trans ((plane_cv H ⟨n + 1, hn⟩ _).trans (cv_congr fun i _ d _ => ?_)))
    rw [dot_add _ _ (1024 * ((n + 1) % 11))]
    refine congrArg₂ (fun a b : ℝ => a + b) ?_ rfl
    dsimp only
    by_cases h : (n + 1) % 11 = 0
    · rw [if_pos h, h]; rfl
    · rw [if_neg h, show 1024 * ((n + 1) % 11) = 1024 * (n % 11) + 1024 by omega, show (n + 1) / 11 = n / 11 by omega]

theorem acc_last (h : t.val % 11 = 10) : accB m c (t.val + 1)
    = (cv (φ := .f32) fun i d => prod A B C M Wt (1024 * (t.val / 11) + i) d : FVec Ideal S1024x1024 .f32) := by
  rw [acc_cv H t.val t.isLt, h]

/-- The row tile a last plane writes. -/
theorem dx_last (h : t.val % 11 = 10) : dxAt m c t
    = (cv (φ := .f32) fun i j => dxRow (X (1024 * (t.val / 11) + i)) (fun e => prod A B C M Wt (1024 * (t.val / 11) + i) e * G 0 e) (D (1024 * (t.val / 11) + i)) j : FVec Ideal S1024x1024 .f32) := by
  unfold dxAt
  rw [xTile_cv H t h, dTile_cv H t h, acc_last H t h, block5 H]
  exact tile_cv _ _ _ _

/-- After point `n` the gain's gradient holds the row tiles done so far. -/
theorem dg_cv (n : ℕ) (hn : n ≤ cfg0.N) : dgB m c n = (cv (φ := .f32) fun _ j => dgain (prod A B C M Wt) X (1024 * (n / 11)) j : FVec Ideal S1x1024 .f32) := by
  induction n with
  | zero =>
    refine pay22_cv.trans (cv_congr fun _ _ j _ => ?_)
    rfl
  | succ n ih =>
    have ih' := ih (Nat.le_of_succ_le hn)
    by_cases h : n % 11 = 10
    · refine (dgB_last m c ⟨n, hn⟩ h).trans ?_
      dsimp only
      rw [ih', xTile_cv H ⟨n, hn⟩ h, acc_cv H n hn, h]
      refine (congrArg _ (sum_cv _ _)).trans ((pay7_cv _ _).trans (cv_congr fun _ _ j _ => ?_))
      rw [show 1024 * ((n + 1) / 11) = 1024 * (n / 11) + 1024 by omega, dgain_add]
      refine congrArg _ ?_
      unfold dgain
      rw [Finset.sum_range]
    · refine (dgB_else m c ⟨n, hn⟩ h).trans ?_
      dsimp only
      rw [ih', show (n + 1) / 11 = n / 11 by omega]

/-- The first result. -/
theorem final6 : (dats m 0 c).arrAt 6 cfg0.N = (cv (φ := .f32) fun s j => dxRow (X s) (fun e => prod A B C M Wt s e * G 0 e) (D s) j : FVec Ideal S8192x1024 .f32) := by
  refine (dats m 0 c).arrAt_eq_of_covers 6 _ (by decide +kernel) fun t hf y => ?_
  have hf' := (flush6 t).mp hf
  blk_simp
  rw [after6, dx_last H t hf']
  refine cv_at (φ := .f32) (ψ := .f32) ?_
  blk_simp [(idx t).2.2.2.2.2.2.1]
  rw [Nat.mul_comm]

/-- The second result. -/
theorem final7 : (dats m 0 c).arrAt 7 cfg0.N = (cv (φ := .f32) fun _ j => dgain (prod A B C M Wt) X 8192 j : FVec Ideal S1x1024 .f32) := by
  refine (dats m 0 c).arrAt_eq_of_covers 7 _ (by decide +kernel) fun t hf y => ?_
  have hf' := (flush7 t).mp hf
  blk_simp
  rw [after7, dg_cv H _ t.isLt, hf']
  refine cv_at (φ := .f32) (ψ := .f32) ?_
  blk_simp [(idx t).2.2.2.2.2.2.2]

end Cert.CallInDx

end
-- ==== Proof.CallInDx.Ref.lean ====
/-
  The reference's results at finite arguments, one operation at a time.
-/
module

public import proofs.«01_k».proof.Proof.CallInDx.Model
public import proofs.«01_k».proof.Proof.Gen.RefInDxIdeal.Read

@[expose] public section

noncomputable section

namespace Cert.CallInDx

open Cert.RefInDxIdeal Cert.RefInDxIdeal.Gen Cert.RefInDxIdeal.Read Cert.RealArr Idealize.ShloMosaic Idealize.ShloMosaic.StableHlo

theorem sum_mul_coe {n : ℕ} (f g : Fin n → ℝ) : (∑ k : Fin n, (f k : EReal) * (g k : EReal)) = ((∑ k : Fin n, f k * g k : ℝ) : EReal) := by
  rw [coe_sum]; rfl

variable (A B C M : ℕ → ℕ → ℝ) (Wt : ℕ → ℕ → ℕ → ℝ) (X G D : ℕ → ℕ → ℝ)

abbrev y0 : FVec Ideal S8192x3072 .bf16 := cv A
abbrev y2 : FVec Ideal S8192x2048 .bf16 := cv C
abbrev y4 : FVec Ideal S1x1024x11264 .bf16 := cv3 Wt
abbrev y5 : FVec Ideal S8192x1024 .f32 := cv X
abbrev y6 : FVec Ideal S1x1024 .f32 := cv G

theorem s0 : val_main_v0 (F := Ideal) (y0 A) (y0 B) (y2 C) (y0 M) = (cv (φ := .bf16) (side A B C M) : FVec Ideal S8192x11264 .bf16) := by
  unfold val_main_v0
  funext i
  have h1 : (i 1).val < 11264 := (i 1).isLt
  pointwise
  show _ = ((side A B C M (i 0).val (i 1).val : ℝ) : EReal)
  by_cases h3 : (i 1).val < 3072
  · rw [dif_pos h3, side_a h3]; rfl
  rw [dif_neg h3]
  by_cases h6 : (i 1).val - 3072 < 3072
  · have h6' : (i 1).val < 6144 := by omega
    rw [dif_pos h6, side_b (Nat.le_of_not_lt h3) h6']; rfl
  rw [dif_neg h6]
  have h6' : 6144 ≤ (i 1).val := by omega
  by_cases h8 : (i 1).val - 3072 - 3072 < 2048
  · have h8' : (i 1).val < 8192 := by omega
    have e : (i 1).val - 6144 = (i 1).val - 3072 - 3072 := by omega
    rw [dif_pos h8, side_c h6' h8', e]; rfl
  · have h8' : 8192 ≤ (i 1).val := by omega
    have e : (i 1).val - 8192 = (i 1).val - 3072 - 3072 - 2048 := by omega
    rw [dif_neg h8, side_m h8', e]; rfl

theorem s20 : val_main_v20 (F := Ideal) (y0 A) (y0 B) (y2 C) (y0 M) (y4 Wt) = (cv (φ := .f32) (prod A B C M Wt) : FVec Ideal S8192x1024 .f32) := by
  funext i
  rw [val_main_v20_apply]
  refine Eq.trans (Finset.sum_congr rfl fun k _ => ?_) ((sum_mul_coe (n := 11264) (fun k => side A B C M (i 0).val k.val) fun k => Wt 0 (i 1).val k.val).trans ?_)
  · have h1 : (i 1).val < 1024 := (i 1).isLt
    have hk : k.val < 11264 := k.isLt
    rw [val_main_v1_apply, s0, val_main_v18_apply, val_main_v17_apply]
    refine congrArg₂ (fun a b : EReal => a * b) rfl (congrArg (fun r : ℝ => (r : EReal)) (congrArg₂ (Wt 0) ?_ ?_)) <;> (dsimp only; omega)
  · refine congrArg (fun r : ℝ => (r : EReal)) ?_
    exact (Finset.sum_range fun e => side A B C M (i 0).val e * Wt 0 (i 1).val e).symm

theorem s8 : val_main_v8 (F := Ideal) (y5 X) = (cv (φ := .f32) fun s _ => ms (X s) : FVec Ideal S8192x1 .f32) := by
  funext i
  rw [val_main_v8_apply, val_main_v6_apply, val_main_v4_apply, val_main_v3_apply, val_main_v5_apply, val_main_v7_apply]
  show Ideal.div (Ideal.ofBits .f32 0x00000000#32 + ∑ k : Fin 1024, ((X (i 0).val k.val : ℝ) : EReal) * ((X (i 0).val k.val : ℝ) : EReal)) (Ideal.ofBits .f32 0x44800000#32) + Ideal.ofBits .f32 0x358637BD#32 = _
  rw [Ideal.ofBits_zero_f32, zero_add, sum_mul_coe, ofBits_1024, ofBits_eps, div_coe_coe _ (by norm_num), ← EReal.coe_add]
  rfl

theorem s9 : val_main_v9 (F := Ideal) (y5 X) = (cv (φ := .f32) fun s _ => rs (X s) : FVec Ideal S8192x1 .f32) := by
  funext i
  rw [val_main_v9_apply, s8]
  exact rsqrt_ms _

theorem s12 : val_main_v12 (F := Ideal) (y5 X) = (cv (φ := .f32) fun s _ => -(1 / 2) * (rs (X s) / ms (X s)) : FVec Ideal S8192x1 .f32) := by
  funext i
  rw [val_main_v12_apply, val_main_v11_apply, val_main_v10_apply, s9, s8]
  show Ideal.ofBits .f32 0xBF000000#32 * Ideal.div ((rs (X (i 0).val) : ℝ) : EReal) ((ms (X (i 0).val) : ℝ) : EReal) = _
  rw [ofBits_neg_half, div_coe_coe _ (ms_pos _).ne', ← EReal.coe_mul]
  rfl

theorem s21 : val_main_v21 (F := Ideal) (y0 A) (y0 B) (y2 C) (y0 M) (y4 Wt) (y5 X)
    = (cv (φ := .f32) fun s j => dgRow (prod A B C M Wt s) (X s) j : FVec Ideal S8192x1024 .f32) := by
  funext i
  rw [val_main_v21_apply, val_main_v14_apply, val_main_v13_apply, s9, s20]
  refine ((congrArg₂ (fun a b : EReal => a * b) (EReal.coe_mul _ _).symm rfl).trans (EReal.coe_mul _ _).symm).trans (congrArg (fun r : ℝ => (r : EReal)) ?_)
  exact mul_comm _ _

theorem sum_rows (f : ℕ → ℝ) (n : ℕ) : (∑ k : Fin n, ((f k.val : ℝ) : EReal)) = ((∑ s ∈ Finset.range n, f s : ℝ) : EReal) := by
  rw [← coe_sum, Finset.sum_range]

/-- The gain's gradient. -/
theorem s23 : val_main_v23 (F := Ideal) (y0 A) (y0 B) (y2 C) (y0 M) (y4 Wt) (y5 X) = (cv (φ := .f32) fun _ j => dgain (prod A B C M Wt) X 8192 j : FVec Ideal S1x1024 .f32) := by
  funext i
  have h0 : (i 0).val < 1 := (i 0).isLt
  have h : (i 0).val * 1024 + (i 1).val = (i 1).val := by omega
  rw [val_main_v23_apply, val_main_v22_apply, s21]
  refine Eq.trans ?_ (sum_rows (fun s => dgRow (prod A B C M Wt s) (X s) (i 1).val) 8192)
  refine (congrArg₂ (fun a b : EReal => a + b) (show _ = (0 : EReal) from Ideal.ofBits_zero_f32) (Finset.sum_congr rfl fun k _ => ?_)).trans (zero_add _)
  exact congrArg (fun r : ℝ => (r : EReal)) (congrArg (fun j => dgRow (prod A B C M Wt k.val) (X k.val) j) h)

/-- The gradient that reaches the rows through the gain. -/
theorem s25 : val_main_v25 (F := Ideal) (y0 A) (y0 B) (y2 C) (y0 M) (y4 Wt) (y6 G) = (cv (φ := .f32) fun s j => prod A B C M Wt s j * G 0 j : FVec Ideal S8192x1024 .f32) := by
  funext i
  rw [val_main_v25_apply, s20, val_main_v24_apply]
  exact (EReal.coe_mul _ _).symm

theorem s26 : val_main_v26 (F := Ideal) (y0 A) (y0 B) (y2 C) (y0 M) (y4 Wt) (y5 X) (y6 G)
    = (cv (φ := .f32) fun s j => X s j * (prod A B C M Wt s j * G 0 j) : FVec Ideal S8192x1024 .f32) := by
  funext i
  rw [val_main_v26_apply, s25]
  exact (EReal.coe_mul _ _).symm

theorem s28 : val_main_v28 (F := Ideal) (y0 A) (y0 B) (y2 C) (y0 M) (y4 Wt) (y5 X) (y6 G)
    = (cv (φ := .f32) fun s _ => ∑ k : Fin 1024, X s k * (prod A B C M Wt s k * G 0 k) : FVec Ideal S8192x1 .f32) := by
  funext i
  have h0 : (i 1).val < 1 := (i 1).isLt
  have h : (i 0).val * 1 + (i 1).val = (i 0).val := by omega
  rw [val_main_v28_apply, val_main_v27_apply, s26]
  refine Eq.trans ?_ (coe_sum Finset.univ (fun k : Fin 1024 => X (i 0).val k.val * (prod A B C M Wt (i 0).val k.val * G 0 k.val))).symm
  refine (congrArg₂ (fun a b : EReal => a + b) (show _ = (0 : EReal) from Ideal.ofBits_zero_f32) (Finset.sum_congr rfl fun k _ => ?_)).trans (zero_add _)
  exact congrArg (fun r : ℝ => (r : EReal)) (congrArg (fun a => X a k.val * (prod A B C M Wt a k.val * G 0 k.val)) h)

theorem s34 : val_main_v35 (F := Ideal) (y0 A) (y0 B) (y2 C) (y0 M) (y4 Wt) (y5 X) (y6 G)
    = (cv (φ := .f32) fun s _ => (∑ k : Fin 1024, X s k * (prod A B C M Wt s k * G 0 k)) * (-(1 / 2) * (rs (X s) / ms (X s))) / 1024 : FVec Ideal S8192x1024 .f32) := by
  funext i
  rw [val_main_v35_apply, val_main_v34_apply, Fin.sum_univ_one, val_main_v33_apply, val_main_v31_apply, s28, s12, val_main_v32_apply]
  show Ideal.ofBits .f32 0x00000000#32 + Ideal.div (((_ : ℝ) : EReal) * ((_ : ℝ) : EReal)) (Ideal.ofBits .f32 0x44800000#32) = _
  rw [Ideal.ofBits_zero_f32, zero_add, ← EReal.coe_mul, ofBits_1024, div_coe_coe _ (by norm_num)]
  rfl

/-- The rows' gradient. -/
theorem s40 : val_main_v40 (F := Ideal) (y0 A) (y0 B) (y2 C) (y0 M) (y4 Wt) (y5 X) (y6 G) (y5 D)
    = (cv (φ := .f32) fun s j => dxRow (X s) (fun e => prod A B C M Wt s e * G 0 e) (D s) j : FVec Ideal S8192x1024 .f32) := by
  funext i
  rw [val_main_v40_apply, val_main_v39_apply, val_main_v37_apply, val_main_v30_apply, val_main_v36_apply, val_main_v38_apply, s34, s25, val_main_v29_apply, s9]
  refine Eq.trans ?_ (congrArg (fun r : ℝ => (r : EReal)) (dxRow_eq (X (i 0).val) (fun e => prod A B C M Wt (i 0).val e * G 0 e) (D (i 0).val) (i 1).val).symm)
  simp only [EReal.coe_add, EReal.coe_mul]
  rfl

end Cert.CallInDx

end
-- ==== Proof.CallInDx.Same.lean ====
module

public import proofs.«01_k».proof.Defs
public import proofs.«01_k».proof.Proof.CallInDx.Frame
public import proofs.«01_k».proof.Proof.Gen.InDx
public import proofs.«01_k».proof.Proof.Gen.InDxIdeal

/-! The kernel and its idealized reading are the same text, so the run proved over any float values is a run of both. -/

@[expose] public section

noncomputable section

namespace Cert.InDx.Body

open Idealize.ShloMosaic

section
variable {F : FTy → Type} [FloatOps F] [Cert.InDx.Facts] [Cert.InDxIdeal.Facts]

theorem body_same : Cert.InDx.cc0_in_proj_bwd (F := F) = Cert.InDxIdeal.cc0_in_proj_bwd (F := F) := rfl

theorem table_same : Cert.InDx.defs₀ (F := F) = Cert.InDxIdeal.defs₀ (F := F) := by
  unfold Cert.InDx.defs₀ Cert.InDxIdeal.defs₀
  refine congrArg (Defs.onTc (Λ := Cert.InDxIdeal.Λ₀)) (funext fun l => funext fun a => ?_)
  obtain ⟨l, hl⟩ := l
  cases l with
  | zero => dsimp only; rw [body_same]; rfl
  | succ l => exact absurd hl (by omega)

theorem defs_same : Cert.InDx.defs (F := F) = Cert.InDxIdeal.defs (F := F) :=
  congrArg (Pipeline.defs Cert.InDxIdeal.pcfgs) table_same

theorem main_same : Cert.InDx.main (F := F) = Cert.InDxIdeal.main (F := F) := rfl
end

theorem frame : Cert.quiescent_InDx (hInDx := Cert.InDx.Gen.facts) := by
  intro m ρ _
  haveI := Cert.InDx.Gen.facts
  haveI := Cert.InDxIdeal.Gen.facts
  rw [defs_same]
  exact (θ_run (Cert.InDxIdeal.defs (F := Bits)) _ _).mono (fun _ h => h) (Cert.InDxIdeal.Body.frame (F := Bits) m ρ)

theorem frame_ideal : Cert.quiescent_InDxIdeal (hInDxIdeal := Cert.InDxIdeal.Gen.facts) :=
  fun m ρ _ => Cert.InDxIdeal.Body.frame m ρ

end Cert.InDx.Body

end
-- ==== Proof.CallInDx.Claim.lean ====
/-
  The claims of the call that carries the gradients of the four branches back to its rows and to the gain.
-/
module

public import proofs.«01_k».proof.Defs
public import proofs.«01_k».proof.Proof.Finite
public import proofs.«01_k».proof.Proof.CallInDx.Grid
public import proofs.«01_k».proof.Proof.CallInDx.Ref
public import proofs.«01_k».proof.Proof.CallInDx.Same
public import proofs.«01_k».proof.Proof.Gen.Pre_finite_dx
public import proofs.«01_k».proof.Proof.Gen.RefInDxIdeal.Run

@[expose] public section

noncomputable section

namespace Cert.CallInDx

open Cert.InDxIdeal Cert.InDxIdeal.Gen Cert.InDxIdeal.Body Cert.Finite Cert.RealArr Idealize.ShloMosaic Idealize.ShloMosaic.TcCoe Idealize.SL.Sem

/-- Where the precondition holds the arguments are finite arrays. -/
theorem holds (m : (ℓ : Loc nD τ sig) → Buf (Elt Ideal) ℓ) (hp : Cert.Pre_InDxIdeal_finite_dx m) (c : Dev nD) :
    ∃ A B C M Wt X G D, Holds m c A B C M Wt X G D := by
  have h0 := congrFun (hp c) (Shape.Idx.first Cert.Pre_finite_dx.Facts.h_S_)
  obtain ⟨h0, k7⟩ := bits_of_and _ _ h0
  obtain ⟨h0, k6⟩ := bits_of_and _ _ h0
  obtain ⟨h0, k5⟩ := bits_of_and _ _ h0
  obtain ⟨h0, k4⟩ := bits_of_and _ _ h0
  obtain ⟨h0, k3⟩ := bits_of_and _ _ h0
  obtain ⟨h0, k2⟩ := bits_of_and _ _ h0
  obtain ⟨k0, k1⟩ := bits_of_and _ _ h0
  obtain ⟨A, hA⟩ := exists_cv (φ := .bf16) (m ((c : Thread nD τ).loc main_arg0)) (entries _ _ _ _ _ k0)
  obtain ⟨B, hB⟩ := exists_cv (φ := .bf16) (m ((c : Thread nD τ).loc main_arg1)) (entries _ _ _ _ _ k1)
  obtain ⟨C, hC⟩ := exists_cv (φ := .bf16) (m ((c : Thread nD τ).loc main_arg2)) (entries _ _ _ _ _ k2)
  obtain ⟨M, hM⟩ := exists_cv (φ := .bf16) (m ((c : Thread nD τ).loc main_arg3)) (entries _ _ _ _ _ k3)
  obtain ⟨Wt, hW⟩ := exists_cv3 (φ := .bf16) (m ((c : Thread nD τ).loc main_arg4)) (entries _ _ _ _ _ k4)
  obtain ⟨X, hX⟩ := exists_cv (φ := .f32) (m ((c : Thread nD τ).loc main_arg5)) (entries _ _ _ _ _ k5)
  obtain ⟨G, hG⟩ := exists_cv (φ := .f32) (m ((c : Thread nD τ).loc main_arg6)) (entries _ _ _ _ _ k6)
  obtain ⟨D, hD⟩ := exists_cv (φ := .f32) (m ((c : Thread nD τ).loc main_arg7)) (entries _ _ _ _ _ k7)
  exact ⟨A, B, C, M, Wt, X, G, D, hA, hB, hC, hM, hW, hX, hG, hD⟩

theorem frame : Cert.quiescent_InDx := Cert.InDx.Body.frame
theorem frameIdeal : Cert.quiescent_InDxIdeal := Cert.InDx.Body.frame_ideal
theorem frameIdeal_finite : Cert.quiescent_InDxIdeal_pre_finite_dx := fun m g _ => frameIdeal m g trivial

/-- The reference is a straight line of host operations and declares no semaphore. -/
theorem frameRef : Cert.quiescent_RefInDxIdeal := fun m g _ =>
  (θ_run Cert.RefInDxIdeal.defs _ _).mono (fun r h => ⟨fun c => (h c).2.2, sem_eq_zero_of_no_sems (by decide) r.2⟩)
    (Cert.RefInDxIdeal.Value.run (F := Ideal) m g)
theorem frameRef_finite : Cert.quiescent_RefInDxIdeal_pre_finite_dx := fun m g _ => frameRef m g trivial

/-- The results of the two programs, from arguments that agree and are finite. -/
theorem algebraic : Cert.algebraic_InDxIdeal_RefInDxIdeal_pre_finite_dx := by
  intro m g m' g' hp hagree
  refine ⟨fun c => (dats m 0 c).arrAt 6 cfg0.N, fun c => (dats m 0 c).arrAt 7 cfg0.N, ?_, ?_⟩
  · exact (θ_run defs _ _).mono (fun _ h c => ⟨(h c).1 6, (h c).1 7,
      ((h c).1 0).trans (((dats m 0 c).arrAt_in 0 rfl _).trans (dats_A m c 0)),
      ((h c).1 1).trans (((dats m 0 c).arrAt_in 1 rfl _).trans (dats_A m c 1)),
      ((h c).1 2).trans (((dats m 0 c).arrAt_in 2 rfl _).trans (dats_A m c 2)),
      ((h c).1 3).trans (((dats m 0 c).arrAt_in 3 rfl _).trans (dats_A m c 3)),
      ((h c).1 4).trans (((dats m 0 c).arrAt_in 4 rfl _).trans (dats_A m c 4)),
      (h c).2 main_arg5 (Pipeline.mem_restRefs_of main_arg5 (by decide) (by decide)),
      ((h c).1 5).trans (((dats m 0 c).arrAt_in 5 rfl _).trans (dats_A m c 5)),
      (h c).2 main_arg7 (Pipeline.mem_restRefs_of main_arg7 (by decide) (by decide))⟩) (run_main m g)
  refine (θ_run Cert.RefInDxIdeal.defs _ _).mono (fun r h c => ?_) (Cert.RefInDxIdeal.Value.run (F := Ideal) m' g')
  obtain ⟨A, B, C, M, Wt, X, G, D, H⟩ := holds m hp c
  obtain ⟨e0, e1, e2, e3, e4, e5, e6, e7⟩ := hagree c
  refine ⟨(h c).1.trans ?_, (h c).2.1.trans ?_, (h c).2.2⟩
  · rw [Cert.RefInDxIdeal.Read.val_main_v40_eq, e0.trans H.h0, e1.trans H.h1, e2.trans H.h2, e3.trans H.h3, e4.trans H.h4, e5.trans H.h5, e6.trans H.h6, e7.trans H.h7]
    exact (s40 A B C M Wt X G D).trans (final6 H).symm
  · rw [Cert.RefInDxIdeal.Read.val_main_v23_eq, e0.trans H.h0, e1.trans H.h1, e2.trans H.h2, e3.trans H.h3, e4.trans H.h4, e5.trans H.h5]
    exact (s23 A B C M Wt X).trans (final7 H).symm

end Cert.CallInDx

end
-- ==== Proof.CallMergeF.Model.lean ====
/-
  The merge of the branches in the forward pass, as functions of the entries, and the array operations of its kernel on arrays given by their
  entries. Nothing is asked of the entries.
-/
module

public import proofs.«01_k».proof.Proof.Ext
public import Idealize.ShloMosaic.Lib.Pipeline.ReadBack

@[expose] public section

noncomputable section

namespace Cert.CallMergeF

open Idealize.ShloMosaic Idealize.ShloMosaic.ValueIdx Cert.Ext

/-! ## The functions -/

/-- The logistic function. -/
def sigm (x : EReal) : EReal :=
  Ideal.div (Ideal.ofBits .f32 0x3F800000#32) (Ideal.ofBits .f32 0x3F800000#32 + Ideal.exp (Ideal.ofBits .f32 0x00000000#32 - x))

/-- The sigmoid, by the negative of its argument. -/
theorem sigm_neg (x : EReal) : Ideal.div (Ideal.ofBits .f32 0x3F800000#32) (Ideal.ofBits .f32 0x3F800000#32 + Ideal.exp (-x)) = sigm x := by
  unfold sigm
  rw [Ideal.ofBits_zero_f32, zero_sub]

def silu (x : EReal) : EReal := x * sigm x

/-- The Gaussian error linear unit by its `tanh` form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The mean of a row of 1024. -/
def mean (f : ℕ → EReal) : EReal := Ideal.div (∑ k : Fin 1024, f k) (Ideal.ofBits .f32 0x44800000#32)

/-- A row less its mean. -/
def centred (f : ℕ → EReal) (j : ℕ) : EReal := f j - mean f

/-- The layer norm of a row, with gain `g` and bias `b`. -/
def lnorm (f g b : ℕ → EReal) (j : ℕ) : EReal :=
  centred f j * Ideal.rsqrt (mean (fun k => centred f k * centred f k) + Ideal.ofBits .f32 0x3727C5AC#32) * g j + b j

/-- The branch of the convolution, from its output `C`, the gate `Z`, and the layer norm's gain and bias. -/
def branchB (C Z g b : ℕ → ℕ → EReal) (i j : ℕ) : EReal := silu (lnorm (C i) (g 0) (b 0) j) * silu (Z i j)

/-- The normed gate of the spatial mixing. -/
def gate (Z g b : ℕ → ℕ → EReal) (i j : ℕ) : EReal := lnorm (fun k => gelu (Z i k)) (g 0) (b 0) j

/-- The branch of the spatial mixing: within each chunk of 128 rows, and by the group of 128 columns, the rows are mixed by `T`. -/
def branchA (T : ℕ → ℕ → ℕ → EReal) (B U V A g b : ℕ → ℕ → EReal) (i j : ℕ) : EReal :=
  gelu (U i j) * (∑ k : Fin 128, T (j / 128) (i % 128) k * gate V g b (i / 128 * 128 + k) j + B (i % 128) j) * silu (A i j)

/-- The product of two matrices, of inner extent 1024. -/
def mm (a b : ℕ → ℕ → EReal) (i j : ℕ) : EReal := ∑ k : Fin 1024, a i k * b k j

/-- The gated sum of the three branches' products. -/
def merged (Z0 Z1 Z2 a b c : ℕ → ℕ → EReal) (W : ℕ → ℕ → ℕ → EReal) (i j : ℕ) : EReal :=
  sigm (Z0 i j) * mm a (W 0) i j + sigm (Z1 i j) * mm b (W 1) i j + sigm (Z2 i j) * mm c (W 2) i j

/-- The residual stream after the merge. -/
def stream (X m W : ℕ → ℕ → EReal) (i j : ℕ) : EReal := X i j + mm m W i j

/-! ## The array operations -/

variable {φ ψ : FTy} {n0 n1 n2 : ℕ}

theorem mulf_ev (a b : ℕ → ℕ → EReal) : mulf (ev a : FVec Ideal ⟨2, ![n0, n1]⟩ φ) (ev b) = ev fun i j => a i j * b i j := rfl
theorem subf_ev (a b : ℕ → ℕ → EReal) : subf (ev a : FVec Ideal ⟨2, ![n0, n1]⟩ φ) (ev b) = ev fun i j => a i j - b i j := rfl
theorem divf_ev (a b : ℕ → ℕ → EReal) : divf (ev a : FVec Ideal ⟨2, ![n0, n1]⟩ φ) (ev b) = ev fun i j => Ideal.div (a i j) (b i j) := rfl
theorem exp_ev (a : ℕ → ℕ → EReal) : exp (ev a : FVec Ideal ⟨2, ![n0, n1]⟩ φ) = ev fun i j => Ideal.exp (a i j) := rfl
theorem tanh_ev (a : ℕ → ℕ → EReal) : tanh (ev a : FVec Ideal ⟨2, ![n0, n1]⟩ φ) = ev fun i j => Ideal.tanh (a i j) := rfl
theorem rsqrt_ev (a : ℕ → ℕ → EReal) : rsqrt (ev a : FVec Ideal ⟨2, ![n0, n1]⟩ φ) = ev fun i j => Ideal.rsqrt (a i j) := rfl
theorem broadcast_ev (x : BitVec φ.bits) : (broadcast ⟨2, ![n0, n1]⟩ (FloatOps.ofBits φ x : Ideal φ) : FVec Ideal ⟨2, ![n0, n1]⟩ φ)
    = ev fun _ _ => Ideal.ofBits φ x := rfl

/-- A column, spread over the rows' 1024 entries. -/
theorem spreadCol_ev (a : ℕ → ℕ → EReal) (h : (⟨2, ![16, 1]⟩ : Shape).Broadcasts ⟨2, ![16, 1024]⟩) :
    broadcastTo ⟨2, ![16, 1024]⟩ (ev a : FVec Ideal ⟨2, ![16, 1]⟩ φ) h = ev fun i _ => a i 0 := by
  funext i; pointwise; rfl

/-- A row, spread over 16 rows. -/
theorem spreadRow_ev (a : ℕ → ℕ → EReal) (h : (⟨2, ![1, 1024]⟩ : Shape).Broadcasts ⟨2, ![16, 1024]⟩) :
    broadcastTo ⟨2, ![16, 1024]⟩ (ev a : FVec Ideal ⟨2, ![1, 1024]⟩ φ) h = ev fun _ j => a 0 j := by
  funext i; pointwise; rfl

/-- The sums of the rows, as a column. -/
theorem rowSum_ev (a : ℕ → ℕ → EReal) (hr : (⟨2, ![16, 1024]⟩ : Shape).Reduces [1] ⟨1, ![16]⟩) (hc : (⟨1, ![16]⟩ : Shape).ShapeCasts ⟨2, ![16, 1]⟩) :
    shapeCast ⟨2, ![16, 1]⟩ (Ideal.reduceAdd hr (ev a : FVec Ideal ⟨2, ![16, 1024]⟩ φ)) hc = ev (φ := φ) fun i _ => ∑ k : Fin 1024, a i k := by
  funext i; pointwise; rfl

/-- The array of rank 4 with entries `f i j k l`. -/
def ev4 {φ : FTy} {n0 n1 n2 n3 : ℕ} (f : ℕ → ℕ → ℕ → ℕ → EReal) : FVec Ideal ⟨4, ![n0, n1, n2, n3]⟩ φ :=
  fun i => f (i 0).val (i 1).val (i 2).val (i 3).val

theorem ev4_apply {n3 : ℕ} (f : ℕ → ℕ → ℕ → ℕ → EReal) (i : (⟨4, ![n0, n1, n2, n3]⟩ : Shape).Idx) :
    (ev4 f : FVec Ideal ⟨4, ![n0, n1, n2, n3]⟩ φ) i = f (i 0).val (i 1).val (i 2).val (i 3).val := rfl

/-- Every array of rank 4 is one. -/
theorem exists_ev4 {n3 : ℕ} (x : FVec Ideal ⟨4, ![n0, n1, n2, n3]⟩ φ) : ∃ f, x = ev4 f := by
  refine ⟨fun a b c d => if h : a < n0 ∧ b < n1 ∧ c < n2 ∧ d < n3 then
      x fun e => match e with | ⟨0, _⟩ => ⟨a, h.1⟩ | ⟨1, _⟩ => ⟨b, h.2.1⟩ | ⟨2, _⟩ => ⟨c, h.2.2.1⟩ | ⟨3, _⟩ => ⟨d, h.2.2.2⟩ else 0,
    funext fun i => ?_⟩
  rw [ev4_apply, dif_pos ⟨(i 0).isLt, (i 1).isLt, (i 2).isLt, (i 3).isLt⟩]
  exact congrArg x (funext fun d => match d with | ⟨0, _⟩ => rfl | ⟨1, _⟩ => rfl | ⟨2, _⟩ => rfl | ⟨3, _⟩ => rfl)

theorem dropGroup_ev (f : ℕ → ℕ → ℕ → EReal) (h : (⟨3, ![1, 128, 128]⟩ : Shape).ShapeCasts ⟨2, ![128, 128]⟩) :
    shapeCast ⟨2, ![128, 128]⟩ (ev3 f : FVec Ideal ⟨3, ![1, 128, 128]⟩ φ) h = ev fun i j => f 0 i j := by
  funext i; pointwise; rfl

theorem dropLayer_ev (f : ℕ → ℕ → ℕ → EReal) (h : (⟨3, ![1, 1024, 256]⟩ : Shape).ShapeCasts ⟨2, ![1024, 256]⟩) :
    shapeCast ⟨2, ![1024, 256]⟩ (ev3 f : FVec Ideal ⟨3, ![1, 1024, 256]⟩ φ) h = ev fun i j => f 0 i j := by
  funext i; pointwise; rfl

theorem dropBranch_ev (f : ℕ → ℕ → ℕ → ℕ → EReal) (h : (⟨4, ![1, 1, 1024, 256]⟩ : Shape).ShapeCasts ⟨2, ![1024, 256]⟩) :
    shapeCast ⟨2, ![1024, 256]⟩ (ev4 f : FVec Ideal ⟨4, ![1, 1, 1024, 256]⟩ φ) h = ev fun i j => f 0 0 i j := by
  funext i; pointwise; rfl

/-! ## Loads and stores of parts of a block -/

theorem unit_idx_val {s : Shape} {off size : Fin s.rank → ℕ} (inb : ∀ a, off a + size a ≤ s.size a) (x : (Rect.unit off size inb).shape.Idx) (d : Fin s.rank) :
    ((Rect.unit off size inb).idx x d).val = off d + (x d).val := by
  simp [Rect.unit]

section Parts
variable {m0 m1 m2 m3 o0 o1 o2 o3 n3 : ℕ}

/-- A load of the part at rows `o0 …` and columns `o1 …`. -/
theorem ld_ev_f32 (a : ℕ → ℕ → EReal) (inb : ∀ x, (![o0, o1] : Fin 2 → ℕ) x + (![m0, m1] : Fin 2 → ℕ) x ≤ (⟨2, ![n0, n1]⟩ : Shape).size x) :
    View.ld (Val := Elt Ideal) (e' := .f32) (ev a : FVec Ideal ⟨2, ![n0, n1]⟩ .f32) (Rect.unit ![o0, o1] ![m0, m1] inb)
      = (ev fun i j => a (o0 + i) (o1 + j) : FVec Ideal ⟨2, ![m0, m1]⟩ .f32) := by
  funext i
  show a _ _ = a _ _
  rw [unit_idx_val, unit_idx_val]; rfl

theorem ld_ev_bf16 (a : ℕ → ℕ → EReal) (inb : ∀ x, (![o0, o1] : Fin 2 → ℕ) x + (![m0, m1] : Fin 2 → ℕ) x ≤ (⟨2, ![n0, n1]⟩ : Shape).size x) :
    View.ld (Val := Elt Ideal) (e' := .bf16) (ev a : FVec Ideal ⟨2, ![n0, n1]⟩ .bf16) (Rect.unit ![o0, o1] ![m0, m1] inb)
      = (ev fun i j => a (o0 + i) (o1 + j) : FVec Ideal ⟨2, ![m0, m1]⟩ .bf16) := by
  funext i
  show a _ _ = a _ _
  rw [unit_idx_val, unit_idx_val]; rfl

theorem ld_ev3_bf16 (f : ℕ → ℕ → ℕ → EReal)
    (inb : ∀ x, (![o0, o1, o2] : Fin 3 → ℕ) x + (![m0, m1, m2] : Fin 3 → ℕ) x ≤ (⟨3, ![n0, n1, n2]⟩ : Shape).size x) :
    View.ld (Val := Elt Ideal) (e' := .bf16) (ev3 f : FVec Ideal ⟨3, ![n0, n1, n2]⟩ .bf16) (Rect.unit ![o0, o1, o2] ![m0, m1, m2] inb)
      = (ev3 fun i j k => f (o0 + i) (o1 + j) (o2 + k) : FVec Ideal ⟨3, ![m0, m1, m2]⟩ .bf16) := by
  funext i
  show f _ _ _ = f _ _ _
  rw [unit_idx_val, unit_idx_val, unit_idx_val]; rfl

theorem ld_ev4_bf16 (f : ℕ → ℕ → ℕ → ℕ → EReal)
    (inb : ∀ x, (![o0, o1, o2, o3] : Fin 4 → ℕ) x + (![m0, m1, m2, m3] : Fin 4 → ℕ) x ≤ (⟨4, ![n0, n1, n2, n3]⟩ : Shape).size x) :
    View.ld (Val := Elt Ideal) (e' := .bf16) (ev4 f : FVec Ideal ⟨4, ![n0, n1, n2, n3]⟩ .bf16) (Rect.unit ![o0, o1, o2, o3] ![m0, m1, m2, m3] inb)
      = (ev4 fun i j k l => f (o0 + i) (o1 + j) (o2 + k) (o3 + l) : FVec Ideal ⟨4, ![m0, m1, m2, m3]⟩ .bf16) := by
  funext i
  show f _ _ _ _ = f _ _ _ _
  rw [unit_idx_val, unit_idx_val, unit_idx_val, unit_idx_val]; rfl

/-- After a store of the part at rows `o0 …` and columns `o1 …`: the stored part within it, what lay there before elsewhere. -/
theorem canon_cons_f32 (inb : ∀ x, (![o0, o1] : Fin 2 → ℕ) x + (![m0, m1] : Fin 2 → ℕ) x ≤ (⟨2, ![n0, n1]⟩ : Shape).size x)
    {p : FVec Ideal ⟨2, ![m0, m1]⟩ .f32} (f : ℕ → ℕ → EReal) {g : ℕ → ℕ → EReal} {L : List (View.Piece (Elt Ideal) ⟨2, ![n0, n1]⟩ .f32)}
    {y : (⟨2, ![n0, n1]⟩ : Shape).Idx} (hp : p = ev f) (hf : ∀ i < m0, ∀ j < m1, f i j = g (o0 + i) (o1 + j))
    (hL : ¬(o0 ≤ (y 0).val ∧ (y 0).val < o0 + m0 ∧ o1 ≤ (y 1).val ∧ (y 1).val < o1 + m1) → View.canon L y = g (y 0).val (y 1).val) :
    View.canon (Val := Elt Ideal) (e := .f32) (⟨Rect.unit ![o0, o1] ![m0, m1] inb, p⟩ :: L) y = g (y 0).val (y 1).val := by
  by_cases h : y ∈ (Rect.unit (s := ⟨2, ![n0, n1]⟩) ![o0, o1] ![m0, m1] inb).set
  · obtain ⟨x, rfl⟩ := LoadRect.exists_idx_of_mem _ h
    refine (View.canon_cons_emb _ _ _ x).trans ((congrFun hp x).trans ((hf _ (x 0).isLt _ (x 1).isLt).trans ?_))
    exact congrArg₂ g (unit_idx_val inb x 0).symm (unit_idx_val inb x 1).symm
  · refine (View.canon_cons_of_not_mem _ _ h).trans (hL fun hy => h (Rect.mem_set_unit.mpr ?_))
    exact Fin.forall_fin_two.mpr ⟨⟨hy.1, hy.2.1⟩, hy.2.2.1, hy.2.2.2⟩

theorem canon_cons_bf16 (inb : ∀ x, (![o0, o1] : Fin 2 → ℕ) x + (![m0, m1] : Fin 2 → ℕ) x ≤ (⟨2, ![n0, n1]⟩ : Shape).size x)
    {p : FVec Ideal ⟨2, ![m0, m1]⟩ .bf16} (f : ℕ → ℕ → EReal) {g : ℕ → ℕ → EReal} {L : List (View.Piece (Elt Ideal) ⟨2, ![n0, n1]⟩ .bf16)}
    {y : (⟨2, ![n0, n1]⟩ : Shape).Idx} (hp : p = ev f) (hf : ∀ i < m0, ∀ j < m1, f i j = g (o0 + i) (o1 + j))
    (hL : ¬(o0 ≤ (y 0).val ∧ (y 0).val < o0 + m0 ∧ o1 ≤ (y 1).val ∧ (y 1).val < o1 + m1) → View.canon L y = g (y 0).val (y 1).val) :
    View.canon (Val := Elt Ideal) (e := .bf16) (⟨Rect.unit ![o0, o1] ![m0, m1] inb, p⟩ :: L) y = g (y 0).val (y 1).val := by
  by_cases h : y ∈ (Rect.unit (s := ⟨2, ![n0, n1]⟩) ![o0, o1] ![m0, m1] inb).set
  · obtain ⟨x, rfl⟩ := LoadRect.exists_idx_of_mem _ h
    refine (View.canon_cons_emb _ _ _ x).trans ((congrFun hp x).trans ((hf _ (x 0).isLt _ (x 1).isLt).trans ?_))
    exact congrArg₂ g (unit_idx_val inb x 0).symm (unit_idx_val inb x 1).symm
  · refine (View.canon_cons_of_not_mem _ _ h).trans (hL fun hy => h (Rect.mem_set_unit.mpr ?_))
    exact Fin.forall_fin_two.mpr ⟨⟨hy.1, hy.2.1⟩, hy.2.2.1, hy.2.2.2⟩

end Parts

end Cert.CallMergeF

end
-- ==== Proof.CallMergeF.Slabs.lean ====
/-
  What the body's pure computations give on arrays given by their entries.
-/
module

public import proofs.«01_k».proof.Proof.CallMergeF.Model
public import proofs.«01_k».proof.Proof.Gen.MergeFIdeal.Skeleton

@[expose] public section

noncomputable section

namespace Cert.CallMergeF

open Cert.MergeFIdeal Cert.MergeFIdeal.Gen Idealize.ShloMosaic Idealize.ShloMosaic.TcCoe Idealize.SL.Sem
open Cert.Ext

theorem matmul_group (a b : ℕ → ℕ → EReal) : matmul dot_S128x128_S128x128_S128x128_1_0_0_1_n_n none
    (ev a : FVec Ideal S128x128 .bf16) (ev b : FVec Ideal S128x128 .bf16) (constant S128x128 .f32 0x00000000#32)
    = (ev fun i j => ∑ k : Fin 128, a i k * b k j) := by
  funext i
  pointwise [dot_S128x128_S128x128_S128x128_1_0_0_1_n_n]
  simp only [ev_apply]; rfl

theorem matmul_row (a b : ℕ → ℕ → EReal) : matmul dot_S256x1024_S1024x256_S256x256_1_0_0_1_n_n none
    (ev a : FVec Ideal S256x1024 .bf16) (ev b : FVec Ideal S1024x256 .bf16) (constant S256x256 .f32 0x00000000#32)
    = (ev fun i j => mm a b i j) := by
  funext i
  pointwise [dot_S256x1024_S1024x256_S256x256_1_0_0_1_n_n]
  simp only [ev_apply]; rfl

/-! ## The branch of the convolution, by slabs of 16 rows -/

section
variable (C Z g b : ℕ → ℕ → EReal)

theorem slabB_0 : k0_pay5 (k0_pay3 (ev C : FVec Ideal S16x1024 .f32) (ev g : FVec Ideal S1x1024 .f32) (ev b : FVec Ideal S1x1024 .f32)) (k0_pay4 (ev Z : FVec Ideal S16x1024 .f32))
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_1 : k0_pay9 (k0_pay6 (ev C : FVec Ideal S16x1024 .f32) (ev g : FVec Ideal S1x1024 .f32) (ev b : FVec Ideal S1x1024 .f32)) (ev Z : FVec Ideal S16x1024 .f32) (k0_pay7 (ev Z : FVec Ideal S16x1024 .f32)) (k0_pay8 (F := Ideal))
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_2 : k0_pay11 (k0_pay10 (ev C : FVec Ideal S16x1024 .f32) (ev g : FVec Ideal S1x1024 .f32) (ev b : FVec Ideal S1x1024 .f32)) (ev Z : FVec Ideal S16x1024 .f32) (FloatOps.ofBits (F := Ideal) .f32 0x00000000#32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_3 : k0_pay14 (k0_pay12 (ev C : FVec Ideal S16x1024 .f32) (ev g : FVec Ideal S1x1024 .f32) (ev b : FVec Ideal S1x1024 .f32)) (k0_pay13 (ev C : FVec Ideal S16x1024 .f32) (ev g : FVec Ideal S1x1024 .f32) (ev b : FVec Ideal S1x1024 .f32)) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_4 : k0_pay17 (k0_pay15 (ev C : FVec Ideal S16x1024 .f32) (ev g : FVec Ideal S1x1024 .f32) (ev b : FVec Ideal S1x1024 .f32)) (k0_pay16 (ev C : FVec Ideal S16x1024 .f32) (ev g : FVec Ideal S1x1024 .f32) (ev b : FVec Ideal S1x1024 .f32)) (FloatOps.ofBits (F := Ideal) .f32 0x3F800000#32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_5 : k0_pay19 (k0_pay18 (ev C : FVec Ideal S16x1024 .f32) (ev g : FVec Ideal S1x1024 .f32) (ev b : FVec Ideal S1x1024 .f32)) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_6 : k0_pay21 (k0_pay20 (ev C : FVec Ideal S16x1024 .f32) (ev g : FVec Ideal S1x1024 .f32)) (ev b : FVec Ideal S1x1024 .f32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_7 : k0_pay23 (k0_pay22 (ev C : FVec Ideal S16x1024 .f32)) (ev g : FVec Ideal S1x1024 .f32) (ev b : FVec Ideal S1x1024 .f32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_8 : k0_pay26 (k0_pay24 (ev C : FVec Ideal S16x1024 .f32)) (k0_pay25 (ev C : FVec Ideal S16x1024 .f32)) (FloatOps.ofBits (F := Ideal) .f32 0x3727C5AC#32) (ev g : FVec Ideal S1x1024 .f32) (ev b : FVec Ideal S1x1024 .f32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_9 : k0_pay29 (k0_pay27 (ev C : FVec Ideal S16x1024 .f32)) (k0_pay28 (ev C : FVec Ideal S16x1024 .f32)) (ev g : FVec Ideal S1x1024 .f32) (ev b : FVec Ideal S1x1024 .f32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_10 : k0_pay31 (ev C : FVec Ideal S16x1024 .f32) (k0_pay30 (ev C : FVec Ideal S16x1024 .f32)) (ev g : FVec Ideal S1x1024 .f32) (ev b : FVec Ideal S1x1024 .f32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_11 : k0_pay32 (ev C : FVec Ideal S16x1024 .f32) (ev g : FVec Ideal S1x1024 .f32) (ev b : FVec Ideal S1x1024 .f32) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_12 : k0_pay35 (k0_pay33 (ev C : FVec Ideal S16x1024 .f32) (ev g : FVec Ideal S1x1024 .f32) (ev b : FVec Ideal S1x1024 .f32)) (k0_pay34 (ev Z : FVec Ideal S16x1024 .f32))
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_13 : k0_pay39 (k0_pay36 (ev C : FVec Ideal S16x1024 .f32) (ev g : FVec Ideal S1x1024 .f32) (ev b : FVec Ideal S1x1024 .f32)) (ev Z : FVec Ideal S16x1024 .f32) (k0_pay37 (ev Z : FVec Ideal S16x1024 .f32)) (k0_pay38 (F := Ideal))
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_14 : k0_pay41 (k0_pay40 (ev C : FVec Ideal S16x1024 .f32) (ev g : FVec Ideal S1x1024 .f32) (ev b : FVec Ideal S1x1024 .f32)) (ev Z : FVec Ideal S16x1024 .f32) (FloatOps.ofBits (F := Ideal) .f32 0x00000000#32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabB_15 : k0_pay44 (k0_pay42 (ev C : FVec Ideal S16x1024 .f32) (ev g : FVec Ideal S1x1024 .f32) (ev b : FVec Ideal S1x1024 .f32)) (k0_pay43 (ev C : FVec Ideal S16x1024 .f32) (ev g : FVec Ideal S1x1024 .f32) (ev b : FVec Ideal S1x1024 .f32)) (ev Z : FVec Ideal S16x1024 .f32)
    = ev (branchB C Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

end

/-! ## The normed gate, by slabs of 16 rows -/

section
variable (Z g b : ℕ → ℕ → EReal)

theorem slabV_0 : k0_pay47 (k0_pay45 (ev Z : FVec Ideal S16x1024 .f32)) (k0_pay46 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_1 : k0_pay49 (k0_pay48 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_2 : k0_pay51 (k0_pay50 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_3 : k0_pay54 (k0_pay52 (ev Z : FVec Ideal S16x1024 .f32)) (k0_pay53 (ev g : FVec Ideal S1x1024 .f32)) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_4 : k0_pay56 (k0_pay55 (ev Z : FVec Ideal S16x1024 .f32) (ev g : FVec Ideal S1x1024 .f32)) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_5 : k0_pay58 (k0_pay57 (ev Z : FVec Ideal S16x1024 .f32) (ev g : FVec Ideal S1x1024 .f32)) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_6 : k0_pay60 (k0_pay59 (ev Z : FVec Ideal S16x1024 .f32) (ev g : FVec Ideal S1x1024 .f32) (ev b : FVec Ideal S1x1024 .f32))
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_7 : k0_pay62 (k0_pay61 (ev Z : FVec Ideal S16x1024 .f32) (ev g : FVec Ideal S1x1024 .f32) (ev b : FVec Ideal S1x1024 .f32))
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_8 : k0_pay80 (k0_pay78 (ev Z : FVec Ideal S16x1024 .f32)) (k0_pay79 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_9 : k0_pay83 (k0_pay81 (ev Z : FVec Ideal S16x1024 .f32)) (k0_pay82 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_10 : k0_pay86 (k0_pay84 (ev Z : FVec Ideal S16x1024 .f32)) (k0_pay85 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_11 : k0_pay89 (k0_pay87 (ev Z : FVec Ideal S16x1024 .f32)) (k0_pay88 (ev Z : FVec Ideal S16x1024 .f32)) (FloatOps.ofBits (F := Ideal) .f32 0x44800000#32) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_12 : k0_pay92 (k0_pay90 (ev Z : FVec Ideal S16x1024 .f32)) (k0_pay91 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_13 : k0_pay96 (k0_pay93 (ev Z : FVec Ideal S16x1024 .f32)) (k0_pay94 (ev Z : FVec Ideal S16x1024 .f32)) (k0_pay95 (F := Ideal)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_14 : k0_pay99 (k0_pay97 (ev Z : FVec Ideal S16x1024 .f32)) (k0_pay98 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

theorem slabV_15 : k0_pay101 (k0_pay100 (ev Z : FVec Ideal S16x1024 .f32)) (ev g : FVec Ideal S1x1024 .f32) (ev b : FVec Ideal S1x1024 .f32)
    = ev (gate Z g b) := by
  unfold_payloads
  simp only [multiReductionOpen, Ideal.reduceAdd_def, rowSum_ev, spreadCol_ev, spreadRow_ev, mulf_ev, subf_ev, divf_ev, exp_ev, tanh_ev, rsqrt_ev, addf_ev, broadcast_ev, truncf_ev, shapeCast_self_ev]
  rfl

end

/-! ## The branch of the spatial mixing, by chunks of 128 rows and groups of 128 columns -/

section
variable (T : ℕ → ℕ → ℕ → EReal) (V B U A : ℕ → ℕ → EReal)

theorem blockA_0_0 : k0_pay63 (ev3 T : FVec Ideal S1x128x128 .bf16) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_1 : k0_pay64 (ev3 T : FVec Ideal S1x128x128 .bf16) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_2 : k0_pay65 (ev3 T : FVec Ideal S1x128x128 .bf16) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_3 : k0_pay67 (k0_pay66 (ev3 T : FVec Ideal S1x128x128 .bf16)) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_4 : k0_pay69 (k0_pay68 (ev3 T : FVec Ideal S1x128x128 .bf16) (ev V : FVec Ideal S128x128 .bf16)) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_5 : k0_pay71 (k0_pay70 (ev3 T : FVec Ideal S1x128x128 .bf16) (ev V : FVec Ideal S128x128 .bf16) (ev B : FVec Ideal S128x128 .f32)) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_6 : k0_pay74 (k0_pay72 (ev3 T : FVec Ideal S1x128x128 .bf16) (ev V : FVec Ideal S128x128 .bf16) (ev B : FVec Ideal S128x128 .f32)) (ev U : FVec Ideal S128x128 .f32) (k0_pay73 (ev U : FVec Ideal S128x128 .f32)) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_0_7 : k0_pay77 (k0_pay75 (ev3 T : FVec Ideal S1x128x128 .bf16) (ev V : FVec Ideal S128x128 .bf16) (ev B : FVec Ideal S128x128 .f32)) (ev U : FVec Ideal S128x128 .f32) (k0_pay76 (ev U : FVec Ideal S128x128 .f32)) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_0 : k0_pay104 (k0_pay102 (ev3 T : FVec Ideal S1x128x128 .bf16) (ev V : FVec Ideal S128x128 .bf16) (ev B : FVec Ideal S128x128 .f32) (ev U : FVec Ideal S128x128 .f32)) (ev A : FVec Ideal S128x128 .f32) (k0_pay103 (ev A : FVec Ideal S128x128 .f32))
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_1 : k0_pay107 (k0_pay105 (ev3 T : FVec Ideal S1x128x128 .bf16) (ev V : FVec Ideal S128x128 .bf16) (ev B : FVec Ideal S128x128 .f32) (ev U : FVec Ideal S128x128 .f32)) (ev A : FVec Ideal S128x128 .f32) (k0_pay106 (ev A : FVec Ideal S128x128 .f32)) (FloatOps.ofBits (F := Ideal) .f32 0x3F800000#32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_2 : k0_pay109 (k0_pay108 (ev3 T : FVec Ideal S1x128x128 .bf16) (ev V : FVec Ideal S128x128 .bf16) (ev B : FVec Ideal S128x128 .f32) (ev U : FVec Ideal S128x128 .f32) (ev A : FVec Ideal S128x128 .f32))
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_3 : k0_pay110 (ev3 T : FVec Ideal S1x128x128 .bf16) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_4 : k0_pay111 (ev3 T : FVec Ideal S1x128x128 .bf16) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_5 : k0_pay112 (ev3 T : FVec Ideal S1x128x128 .bf16) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_6 : k0_pay114 (k0_pay113 (ev3 T : FVec Ideal S1x128x128 .bf16)) (ev V : FVec Ideal S128x128 .bf16) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

theorem blockA_1_7 : k0_pay116 (k0_pay115 (ev3 T : FVec Ideal S1x128x128 .bf16) (ev V : FVec Ideal S128x128 .bf16)) (ev B : FVec Ideal S128x128 .f32) (ev U : FVec Ideal S128x128 .f32) (ev A : FVec Ideal S128x128 .f32)
    = ev fun i j => gelu (U i j) * (∑ k : Fin 128, T 0 i k * V k j + B i j) * silu (A i j) := by
  unfold_payloads
  simp only [dropGroup_ev, shapeCast_self_ev, matmul_group, mulf_ev, subf_ev, divf_ev, exp_ev, tanh_ev, addf_ev, broadcast_ev, truncf_ev]
  rfl

end

/-! ## The merge and the stream, by groups of 256 columns -/

section
variable (X M Z0 Z1 Z2 A0 A1 A2 : ℕ → ℕ → EReal) (O : ℕ → ℕ → ℕ → EReal) (W0 W1 W2 : ℕ → ℕ → ℕ → ℕ → EReal)

theorem blockM_0 : k0_pay121 (k0_pay118 (k0_pay117 (ev Z0 : FVec Ideal S256x256 .f32)) (ev A0 : FVec Ideal S256x1024 .bf16) (ev4 W0 : FVec Ideal S1x1x1024x256 .bf16) (ev Z1 : FVec Ideal S256x256 .f32) (ev A1 : FVec Ideal S256x1024 .bf16) (ev4 W1 : FVec Ideal S1x1x1024x256 .bf16)) (k0_pay119 (ev Z2 : FVec Ideal S256x256 .f32)) (ev A2 : FVec Ideal S256x1024 .bf16) (k0_pay120 (ev4 W2 : FVec Ideal S1x1x1024x256 .bf16))
    = ev fun i j => sigm (Z0 i j) * mm A0 (W0 0 0) i j + sigm (Z1 i j) * mm A1 (W1 0 0) i j + sigm (Z2 i j) * mm A2 (W2 0 0) i j := by
  unfold_payloads
  simp only [dropBranch_ev, shapeCast_self_ev, matmul_row, mulf_ev, subf_ev, divf_ev, exp_ev, addf_ev, broadcast_ev, truncf_ev]
  rfl

theorem blockM_1 : k0_pay125 (k0_pay122 (ev Z0 : FVec Ideal S256x256 .f32) (ev A0 : FVec Ideal S256x1024 .bf16) (ev4 W0 : FVec Ideal S1x1x1024x256 .bf16)) (k0_pay123 (ev Z1 : FVec Ideal S256x256 .f32)) (k0_pay124 (ev A1 : FVec Ideal S256x1024 .bf16) (ev4 W1 : FVec Ideal S1x1x1024x256 .bf16)) (ev Z2 : FVec Ideal S256x256 .f32) (ev A2 : FVec Ideal S256x1024 .bf16) (ev4 W2 : FVec Ideal S1x1x1024x256 .bf16)
    = ev fun i j => sigm (Z0 i j) * mm A0 (W0 0 0) i j + sigm (Z1 i j) * mm A1 (W1 0 0) i j + sigm (Z2 i j) * mm A2 (W2 0 0) i j := by
  unfold_payloads
  simp only [dropBranch_ev, shapeCast_self_ev, matmul_row, mulf_ev, subf_ev, divf_ev, exp_ev, addf_ev, broadcast_ev, truncf_ev]
  rfl

theorem blockM_2 : k0_pay127 (k0_pay126 (ev Z0 : FVec Ideal S256x256 .f32) (ev A0 : FVec Ideal S256x1024 .bf16) (ev4 W0 : FVec Ideal S1x1x1024x256 .bf16)) (ev Z1 : FVec Ideal S256x256 .f32) (ev A1 : FVec Ideal S256x1024 .bf16) (ev4 W1 : FVec Ideal S1x1x1024x256 .bf16) (ev Z2 : FVec Ideal S256x256 .f32) (ev A2 : FVec Ideal S256x1024 .bf16) (ev4 W2 : FVec Ideal S1x1x1024x256 .bf16)
    = ev fun i j => sigm (Z0 i j) * mm A0 (W0 0 0) i j + sigm (Z1 i j) * mm A1 (W1 0 0) i j + sigm (Z2 i j) * mm A2 (W2 0 0) i j := by
  unfold_payloads
  simp only [dropBranch_ev, shapeCast_self_ev, matmul_row, mulf_ev, subf_ev, divf_ev, exp_ev, addf_ev, broadcast_ev, truncf_ev]
  rfl

theorem blockM_3 : k0_pay130 (k0_pay128 (ev Z0 : FVec Ideal S256x256 .f32) (ev A0 : FVec Ideal S256x1024 .bf16) (ev4 W0 : FVec Ideal S1x1x1024x256 .bf16) (ev Z1 : FVec Ideal S256x256 .f32) (ev A1 : FVec Ideal S256x1024 .bf16) (ev4 W1 : FVec Ideal S1x1x1024x256 .bf16)) (k0_pay129 (ev Z2 : FVec Ideal S256x256 .f32)) (ev A2 : FVec Ideal S256x1024 .bf16) (ev4 W2 : FVec Ideal S1x1x1024x256 .bf16)
    = ev fun i j => sigm (Z0 i j) * mm A0 (W0 0 0) i j + sigm (Z1 i j) * mm A1 (W1 0 0) i j + sigm (Z2 i j) * mm A2 (W2 0 0) i j := by
  unfold_payloads
  simp only [dropBranch_ev, shapeCast_self_ev, matmul_row, mulf_ev, subf_ev, divf_ev, exp_ev, addf_ev, broadcast_ev, truncf_ev]
  rfl

theorem blockO_0 : k0_pay131 (ev X : FVec Ideal S256x256 .f32) (ev M : FVec Ideal S256x1024 .bf16) (ev3 O : FVec Ideal S1x1024x256 .bf16)
    = ev fun i j => X i j + mm M (O 0) i j := by
  unfold_payloads
  simp only [dropLayer_ev, shapeCast_self_ev, matmul_row, addf_ev]

theorem blockO_1 : k0_pay132 (ev X : FVec Ideal S256x256 .f32) (ev M : FVec Ideal S256x1024 .bf16) (ev3 O : FVec Ideal S1x1024x256 .bf16)
    = ev fun i j => X i j + mm M (O 0) i j := by
  unfold_payloads
  simp only [dropLayer_ev, shapeCast_self_ev, matmul_row, addf_ev]

theorem blockO_2 : k0_pay1 (ev X : FVec Ideal S256x256 .f32) (k0_pay133 (ev M : FVec Ideal S256x1024 .bf16)) (ev3 O : FVec Ideal S1x1024x256 .bf16)
    = ev fun i j => X i j + mm M (O 0) i j := by
  unfold_payloads
  simp only [dropLayer_ev, shapeCast_self_ev, matmul_row, addf_ev]

theorem blockO_3 : k0_pay2 (ev X : FVec Ideal S256x256 .f32) (ev M : FVec Ideal S256x1024 .bf16) (ev3 O : FVec Ideal S1x1024x256 .bf16)
    = ev fun i j => X i j + mm M (O 0) i j := by
  unfold_payloads
  simp only [dropLayer_ev, shapeCast_self_ev, matmul_row, addf_ev]

end

end Cert.CallMergeF

end
-- ==== Proof.CallMergeF.Block.lean ====
/-
  What one grid point leaves in each output, as a function of the entries of the blocks it reads.
-/
module

public import proofs.«01_k».proof.Proof.CallMergeF.Slabs
public import proofs.«01_k».proof.Proof.Gen.MergeFIdeal.Value
public import Idealize.ShloMosaic.Lib.Pipeline.ReadBack
public import Idealize.ShloMosaic.Lib.Pipeline.ValueKit

@[expose] public section

noncomputable section

namespace Cert.CallMergeF

open Cert.MergeFIdeal Cert.MergeFIdeal.Gen Idealize.ShloMosaic Idealize.ShloMosaic.TcCoe Idealize.SL.Sem
open Cert.Ext

/-- A part of `m0` by `m1` entries, from row `o0` and column `o1` on, lies in a tile. -/
abbrev Inb (o0 o1 m0 m1 : ℕ) : Prop := ∀ x, (![o0, o1] : Fin 2 → ℕ) x + (![m0, m1] : Fin 2 → ℕ) x ≤ S256x1024.size x

/-! ## The loads of what was stored -/

/-- A load of a part of what the stores left, where that is known on the part's rows. -/
theorem readCov_ev {n0 n1 m0 m1 o0 o1 : ℕ} (v : View sig .tc .vmem ⟨2, ![n0, n1]⟩ .bf16) (L : List (View.Piece (Elt Ideal) ⟨2, ![n0, n1]⟩ .bf16))
    (g : ℕ → ℕ → EReal) (inb : ∀ x, (![o0, o1] : Fin 2 → ℕ) x + (![m0, m1] : Fin 2 → ℕ) x ≤ (⟨2, ![n0, n1]⟩ : Shape).size x)
    (h : ∀ y : (⟨2, ![n0, n1]⟩ : Shape).Idx, o0 ≤ (y 0).val → (y 0).val < o0 + m0 → View.canon L y = g (y 0).val (y 1).val) :
    v.readCov L (Rect.unit (s := ⟨2, ![n0, n1]⟩) ![o0, o1] ![m0, m1] inb).toLoadRect = (ev fun i j => g (o0 + i) (o1 + j) : FVec Ideal ⟨2, ![m0, m1]⟩ .bf16) := by
  rw [View.readCov_eq_canon']
  funext x
  have e0 : (((Rect.unit (s := ⟨2, ![n0, n1]⟩) ![o0, o1] ![m0, m1] inb).idx x) 0).val = o0 + (x 0).val := unit_idx_val inb x 0
  have e1 : (((Rect.unit (s := ⟨2, ![n0, n1]⟩) ![o0, o1] ![m0, m1] inb).idx x) 1).val = o1 + (x 1).val := unit_idx_val inb x 1
  have hx : (x 0).val < m0 := (x 0).isLt
  refine (h _ (by rw [e0]; omega) (by rw [e0]; omega)).trans ?_
  rw [e0, e1]; rfl

/-- The eight slabs of a chunk of the normed gate, on the chunk's rows. -/
theorem chunk_ev (o : ℕ) (V g b : ℕ → ℕ → EReal) {p0 p1 p2 p3 p4 p5 p6 p7 : FVec Ideal S16x1024 .bf16} {L : List (View.Piece (Elt Ideal) S256x1024 .bf16)}
    {b0 : Inb (o + 0) 0 16 1024} (e0 : p0 = ev (gate (fun i j => V (o + 0 + i) (0 + j)) (fun i j => g (0 + i) (0 + j)) fun i j => b (0 + i) (0 + j)))
    {b1 : Inb (o + 16) 0 16 1024} (e1 : p1 = ev (gate (fun i j => V (o + 16 + i) (0 + j)) (fun i j => g (0 + i) (0 + j)) fun i j => b (0 + i) (0 + j)))
    {b2 : Inb (o + 32) 0 16 1024} (e2 : p2 = ev (gate (fun i j => V (o + 32 + i) (0 + j)) (fun i j => g (0 + i) (0 + j)) fun i j => b (0 + i) (0 + j)))
    {b3 : Inb (o + 48) 0 16 1024} (e3 : p3 = ev (gate (fun i j => V (o + 48 + i) (0 + j)) (fun i j => g (0 + i) (0 + j)) fun i j => b (0 + i) (0 + j)))
    {b4 : Inb (o + 64) 0 16 1024} (e4 : p4 = ev (gate (fun i j => V (o + 64 + i) (0 + j)) (fun i j => g (0 + i) (0 + j)) fun i j => b (0 + i) (0 + j)))
    {b5 : Inb (o + 80) 0 16 1024} (e5 : p5 = ev (gate (fun i j => V (o + 80 + i) (0 + j)) (fun i j => g (0 + i) (0 + j)) fun i j => b (0 + i) (0 + j)))
    {b6 : Inb (o + 96) 0 16 1024} (e6 : p6 = ev (gate (fun i j => V (o + 96 + i) (0 + j)) (fun i j => g (0 + i) (0 + j)) fun i j => b (0 + i) (0 + j)))
    {b7 : Inb (o + 112) 0 16 1024} (e7 : p7 = ev (gate (fun i j => V (o + 112 + i) (0 + j)) (fun i j => g (0 + i) (0 + j)) fun i j => b (0 + i) (0 + j)))
    (y : S256x1024.Idx) (hy : o ≤ (y 0).val) (hy' : (y 0).val < o + 128) :
    View.canon (Val := Elt Ideal) (e := .bf16) (⟨Rect.unit ![o + 112, 0] ![16, 1024] b7, p7⟩ ::
      ⟨Rect.unit ![o + 96, 0] ![16, 1024] b6, p6⟩ ::
      ⟨Rect.unit ![o + 80, 0] ![16, 1024] b5, p5⟩ ::
      ⟨Rect.unit ![o + 64, 0] ![16, 1024] b4, p4⟩ ::
      ⟨Rect.unit ![o + 48, 0] ![16, 1024] b3, p3⟩ ::
      ⟨Rect.unit ![o + 32, 0] ![16, 1024] b2, p2⟩ ::
      ⟨Rect.unit ![o + 16, 0] ![16, 1024] b1, p1⟩ ::
      ⟨Rect.unit ![o + 0, 0] ![16, 1024] b0, p0⟩ :: L) y = gate V g b (y 0).val (y 1).val := by
  refine canon_cons_bf16 b7 _ e7 (fun i _ j _ => by simp only [gate, Nat.zero_add, Nat.add_zero]) fun h7 => ?_
  refine canon_cons_bf16 b6 _ e6 (fun i _ j _ => by simp only [gate, Nat.zero_add, Nat.add_zero]) fun h6 => ?_
  refine canon_cons_bf16 b5 _ e5 (fun i _ j _ => by simp only [gate, Nat.zero_add, Nat.add_zero]) fun h5 => ?_
  refine canon_cons_bf16 b4 _ e4 (fun i _ j _ => by simp only [gate, Nat.zero_add, Nat.add_zero]) fun h4 => ?_
  refine canon_cons_bf16 b3 _ e3 (fun i _ j _ => by simp only [gate, Nat.zero_add, Nat.add_zero]) fun h3 => ?_
  refine canon_cons_bf16 b2 _ e2 (fun i _ j _ => by simp only [gate, Nat.zero_add, Nat.add_zero]) fun h2 => ?_
  refine canon_cons_bf16 b1 _ e1 (fun i _ j _ => by simp only [gate, Nat.zero_add, Nat.add_zero]) fun h1 => ?_
  refine canon_cons_bf16 b0 _ e0 (fun i _ j _ => by simp only [gate, Nat.zero_add, Nat.add_zero]) fun h0 => ?_
  have hz : (y 1).val < 1024 := (y 1).isLt
  omega

theorem branchA_at (T : ℕ → ℕ → ℕ → EReal) (B U V A g b : ℕ → ℕ → EReal) (q r : ℕ) {i j : ℕ} (hi : i < 128) (hj : j < 128) :
    gelu (U (128 * q + i) (128 * r + j)) * (∑ k : Fin 128, T r i k * gate V g b (128 * q + k) (128 * r + j) + B i (128 * r + j)) * silu (A (128 * q + i) (128 * r + j))
      = branchA T B U V A g b (128 * q + i) (128 * r + j) := by
  unfold branchA
  rw [show (128 * r + j) / 128 = r by omega, show (128 * q + i) % 128 = i by omega, show (128 * q + i) / 128 * 128 = 128 * q by omega]

/-- The eight groups of columns of a chunk of the branch of the spatial mixing. -/
theorem chunkA (q : ℕ) (T : ℕ → ℕ → ℕ → EReal) (B U V A g b : ℕ → ℕ → EReal) {L : List (View.Piece (Elt Ideal) S256x1024 .bf16)}
    {p0 p1 p2 p3 p4 p5 p6 p7 : FVec Ideal S128x128 .bf16}
    {b0 : Inb (128 * q) 0 128 128}
    (e0 : p0 = ev fun i j => gelu (U (128 * q + i) (0 + j)) * (∑ k : Fin 128, T (0 + 0) (0 + i) (0 + k) * gate V g b (128 * q + k) (0 + j)
      + B (0 + i) (0 + j)) * silu (A (128 * q + i) (0 + j)))
    {b1 : Inb (128 * q) 128 128 128}
    (e1 : p1 = ev fun i j => gelu (U (128 * q + i) (128 + j)) * (∑ k : Fin 128, T (1 + 0) (0 + i) (0 + k) * gate V g b (128 * q + k) (128 + j)
      + B (0 + i) (128 + j)) * silu (A (128 * q + i) (128 + j)))
    {b2 : Inb (128 * q) 256 128 128}
    (e2 : p2 = ev fun i j => gelu (U (128 * q + i) (256 + j)) * (∑ k : Fin 128, T (2 + 0) (0 + i) (0 + k) * gate V g b (128 * q + k) (256 + j)
      + B (0 + i) (256 + j)) * silu (A (128 * q + i) (256 + j)))
    {b3 : Inb (128 * q) 384 128 128}
    (e3 : p3 = ev fun i j => gelu (U (128 * q + i) (384 + j)) * (∑ k : Fin 128, T (3 + 0) (0 + i) (0 + k) * gate V g b (128 * q + k) (384 + j)
      + B (0 + i) (384 + j)) * silu (A (128 * q + i) (384 + j)))
    {b4 : Inb (128 * q) 512 128 128}
    (e4 : p4 = ev fun i j => gelu (U (128 * q + i) (512 + j)) * (∑ k : Fin 128, T (4 + 0) (0 + i) (0 + k) * gate V g b (128 * q + k) (512 + j)
      + B (0 + i) (512 + j)) * silu (A (128 * q + i) (512 + j)))
    {b5 : Inb (128 * q) 640 128 128}
    (e5 : p5 = ev fun i j => gelu (U (128 * q + i) (640 + j)) * (∑ k : Fin 128, T (5 + 0) (0 + i) (0 + k) * gate V g b (128 * q + k) (640 + j)
      + B (0 + i) (640 + j)) * silu (A (128 * q + i) (640 + j)))
    {b6 : Inb (128 * q) 768 128 128}
    (e6 : p6 = ev fun i j => gelu (U (128 * q + i) (768 + j)) * (∑ k : Fin 128, T (6 + 0) (0 + i) (0 + k) * gate V g b (128 * q + k) (768 + j)
      + B (0 + i) (768 + j)) * silu (A (128 * q + i) (768 + j)))
    {b7 : Inb (128 * q) 896 128 128}
    (e7 : p7 = ev fun i j => gelu (U (128 * q + i) (896 + j)) * (∑ k : Fin 128, T (7 + 0) (0 + i) (0 + k) * gate V g b (128 * q + k) (896 + j)
      + B (0 + i) (896 + j)) * silu (A (128 * q + i) (896 + j)))
    (y : S256x1024.Idx) (hL : ¬(128 * q ≤ (y 0).val ∧ (y 0).val < 128 * q + 128) → View.canon L y = branchA T B U V A g b (y 0).val (y 1).val) :
    View.canon (Val := Elt Ideal) (e := .bf16) (⟨Rect.unit ![128 * q, 896] ![128, 128] b7, p7⟩ ::
      ⟨Rect.unit ![128 * q, 768] ![128, 128] b6, p6⟩ ::
      ⟨Rect.unit ![128 * q, 640] ![128, 128] b5, p5⟩ ::
      ⟨Rect.unit ![128 * q, 512] ![128, 128] b4, p4⟩ ::
      ⟨Rect.unit ![128 * q, 384] ![128, 128] b3, p3⟩ ::
      ⟨Rect.unit ![128 * q, 256] ![128, 128] b2, p2⟩ ::
      ⟨Rect.unit ![128 * q, 128] ![128, 128] b1, p1⟩ ::
      ⟨Rect.unit ![128 * q, 0] ![128, 128] b0, p0⟩ :: L) y
      = branchA T B U V A g b (y 0).val (y 1).val := by
  refine canon_cons_bf16 b7 _ e7 (fun i hi j hj => by simpa only [Nat.zero_add, Nat.add_zero, Nat.reduceMul, Nat.mul_zero] using branchA_at T B U V A g b q 7 hi hj) fun h7 => ?_
  refine canon_cons_bf16 b6 _ e6 (fun i hi j hj => by simpa only [Nat.zero_add, Nat.add_zero, Nat.reduceMul, Nat.mul_zero] using branchA_at T B U V A g b q 6 hi hj) fun h6 => ?_
  refine canon_cons_bf16 b5 _ e5 (fun i hi j hj => by simpa only [Nat.zero_add, Nat.add_zero, Nat.reduceMul, Nat.mul_zero] using branchA_at T B U V A g b q 5 hi hj) fun h5 => ?_
  refine canon_cons_bf16 b4 _ e4 (fun i hi j hj => by simpa only [Nat.zero_add, Nat.add_zero, Nat.reduceMul, Nat.mul_zero] using branchA_at T B U V A g b q 4 hi hj) fun h4 => ?_
  refine canon_cons_bf16 b3 _ e3 (fun i hi j hj => by simpa only [Nat.zero_add, Nat.add_zero, Nat.reduceMul, Nat.mul_zero] using branchA_at T B U V A g b q 3 hi hj) fun h3 => ?_
  refine canon_cons_bf16 b2 _ e2 (fun i hi j hj => by simpa only [Nat.zero_add, Nat.add_zero, Nat.reduceMul, Nat.mul_zero] using branchA_at T B U V A g b q 2 hi hj) fun h2 => ?_
  refine canon_cons_bf16 b1 _ e1 (fun i hi j hj => by simpa only [Nat.zero_add, Nat.add_zero, Nat.reduceMul, Nat.mul_zero] using branchA_at T B U V A g b q 1 hi hj) fun h1 => ?_
  refine canon_cons_bf16 b0 _ e0 (fun i hi j hj => by simpa only [Nat.zero_add, Nat.add_zero, Nat.reduceMul, Nat.mul_zero] using branchA_at T B U V A g b q 0 hi hj) fun h0 => ?_
  have hz : (y 1).val < 1024 := (y 1).isLt
  exact hL (by omega)

theorem load_chunk0 (v : View sig .tc .vmem S256x1024 .bf16) (V g b : ℕ → ℕ → EReal) {o1 : ℕ}
    {b0 : Inb 0 0 16 1024}
    {b1 : Inb 16 0 16 1024}
    {b2 : Inb 32 0 16 1024}
    {b3 : Inb 48 0 16 1024}
    {b4 : Inb 64 0 16 1024}
    {b5 : Inb 80 0 16 1024}
    {b6 : Inb 96 0 16 1024}
    {b7 : Inb 112 0 16 1024}
    (inb : Inb 0 o1 128 128) :
    v.readCov (⟨Rect.unit ![112, 0] ![16, 1024] b7, (ev (gate (fun i j => V (112 + i) (0 + j)) (fun i j => g (0 + i) (0 + j)) (fun i j => b (0 + i) (0 + j))) : FVec Ideal S16x1024 .bf16)⟩ ::
      ⟨Rect.unit ![96, 0] ![16, 1024] b6, (ev (gate (fun i j => V (96 + i) (0 + j)) (fun i j => g (0 + i) (0 + j)) (fun i j => b (0 + i) (0 + j))) : FVec Ideal S16x1024 .bf16)⟩ ::
      ⟨Rect.unit ![80, 0] ![16, 1024] b5, (ev (gate (fun i j => V (80 + i) (0 + j)) (fun i j => g (0 + i) (0 + j)) (fun i j => b (0 + i) (0 + j))) : FVec Ideal S16x1024 .bf16)⟩ ::
      ⟨Rect.unit ![64, 0] ![16, 1024] b4, (ev (gate (fun i j => V (64 + i) (0 + j)) (fun i j => g (0 + i) (0 + j)) (fun i j => b (0 + i) (0 + j))) : FVec Ideal S16x1024 .bf16)⟩ ::
      ⟨Rect.unit ![48, 0] ![16, 1024] b3, (ev (gate (fun i j => V (48 + i) (0 + j)) (fun i j => g (0 + i) (0 + j)) (fun i j => b (0 + i) (0 + j))) : FVec Ideal S16x1024 .bf16)⟩ ::
      ⟨Rect.unit ![32, 0] ![16, 1024] b2, (ev (gate (fun i j => V (32 + i) (0 + j)) (fun i j => g (0 + i) (0 + j)) (fun i j => b (0 + i) (0 + j))) : FVec Ideal S16x1024 .bf16)⟩ ::
      ⟨Rect.unit ![16, 0] ![16, 1024] b1, (ev (gate (fun i j => V (16 + i) (0 + j)) (fun i j => g (0 + i) (0 + j)) (fun i j => b (0 + i) (0 + j))) : FVec Ideal S16x1024 .bf16)⟩ ::
      ⟨Rect.unit ![0, 0] ![16, 1024] b0, (ev (gate (fun i j => V (0 + i) (0 + j)) (fun i j => g (0 + i) (0 + j)) (fun i j => b (0 + i) (0 + j))) : FVec Ideal S16x1024 .bf16)⟩ :: [] : List (View.Piece (Elt Ideal) S256x1024 .bf16))
      (Rect.unit (s := ⟨2, ![256, 1024]⟩) ![0, o1] ![128, 128] inb).toLoadRect = (ev fun i j => gate V g b (0 + i) (o1 + j) : FVec Ideal S128x128 .bf16) :=
  readCov_ev _ _ (gate V g b) _ (chunk_ev 0 V g b rfl rfl rfl rfl rfl rfl rfl rfl)

theorem load_chunk1 (v : View sig .tc .vmem S256x1024 .bf16) (V g b : ℕ → ℕ → EReal) {L : List (View.Piece (Elt Ideal) S256x1024 .bf16)} {o1 : ℕ}
    {b0 : Inb 128 0 16 1024}
    {b1 : Inb 144 0 16 1024}
    {b2 : Inb 160 0 16 1024}
    {b3 : Inb 176 0 16 1024}
    {b4 : Inb 192 0 16 1024}
    {b5 : Inb 208 0 16 1024}
    {b6 : Inb 224 0 16 1024}
    {b7 : Inb 240 0 16 1024}
    (inb : Inb 128 o1 128 128) :
    v.readCov (⟨Rect.unit ![240, 0] ![16, 1024] b7, (ev (gate (fun i j => V (240 + i) (0 + j)) (fun i j => g (0 + i) (0 + j)) (fun i j => b (0 + i) (0 + j))) : FVec Ideal S16x1024 .bf16)⟩ ::
      ⟨Rect.unit ![224, 0] ![16, 1024] b6, (ev (gate (fun i j => V (224 + i) (0 + j)) (fun i j => g (0 + i) (0 + j)) (fun i j => b (0 + i) (0 + j))) : FVec Ideal S16x1024 .bf16)⟩ ::
      ⟨Rect.unit ![208, 0] ![16, 1024] b5, (ev (gate (fun i j => V (208 + i) (0 + j)) (fun i j => g (0 + i) (0 + j)) (fun i j => b (0 + i) (0 + j))) : FVec Ideal S16x1024 .bf16)⟩ ::
      ⟨Rect.unit ![192, 0] ![16, 1024] b4, (ev (gate (fun i j => V (192 + i) (0 + j)) (fun i j => g (0 + i) (0 + j)) (fun i j => b (0 + i) (0 + j))) : FVec Ideal S16x1024 .bf16)⟩ ::
      ⟨Rect.unit ![176, 0] ![16, 1024] b3, (ev (gate (fun i j => V (176 + i) (0 + j)) (fun i j => g (0 + i) (0 + j)) (fun i j => b (0 + i) (0 + j))) : FVec Ideal S16x1024 .bf16)⟩ ::
      ⟨Rect.unit ![160, 0] ![16, 1024] b2, (ev (gate (fun i j => V (160 + i) (0 + j)) (fun i j => g (0 + i) (0 + j)) (fun i j => b (0 + i) (0 + j))) : FVec Ideal S16x1024 .bf16)⟩ ::
      ⟨Rect.unit ![144, 0] ![16, 1024] b1, (ev (gate (fun i j => V (144 + i) (0 + j)) (fun i j => g (0 + i) (0 + j)) (fun i j => b (0 + i) (0 + j))) : FVec Ideal S16x1024 .bf16)⟩ ::
      ⟨Rect.unit ![128, 0] ![16, 1024] b0, (ev (gate (fun i j => V (128 + i) (0 + j)) (fun i j => g (0 + i) (0 + j)) (fun i j => b (0 + i) (0 + j))) : FVec Ideal S16x1024 .bf16)⟩ :: L : List (View.Piece (Elt Ideal) S256x1024 .bf16))
      (Rect.unit (s := ⟨2, ![256, 1024]⟩) ![128, o1] ![128, 128] inb).toLoadRect = (ev fun i j => gate V g b (128 + i) (o1 + j) : FVec Ideal S128x128 .bf16) :=
  readCov_ev _ _ (gate V g b) _ (chunk_ev 128 V g b rfl rfl rfl rfl rfl rfl rfl rfl)

theorem whole_A (T : ℕ → ℕ → ℕ → EReal) (B U V A g b : ℕ → ℕ → EReal)
    {b00 : Inb 0 0 128 128}
    {b01 : Inb 0 128 128 128}
    {b02 : Inb 0 256 128 128}
    {b03 : Inb 0 384 128 128}
    {b04 : Inb 0 512 128 128}
    {b05 : Inb 0 640 128 128}
    {b06 : Inb 0 768 128 128}
    {b07 : Inb 0 896 128 128}
    {b10 : Inb 128 0 128 128}
    {b11 : Inb 128 128 128 128}
    {b12 : Inb 128 256 128 128}
    {b13 : Inb 128 384 128 128}
    {b14 : Inb 128 512 128 128}
    {b15 : Inb 128 640 128 128}
    {b16 : Inb 128 768 128 128}
    {b17 : Inb 128 896 128 128}
    (y : S256x1024.Idx) : View.canon (Val := Elt Ideal) (e := .bf16) (⟨Rect.unit ![128, 896] ![128, 128] b17, (ev fun i j => gelu (U (128 + i) (896 + j)) * (∑ k : Fin 128, T 7 (0 + i) (0 + k) * gate V g b (128 + k) (896 + j)
        + B (0 + i) (896 + j)) * silu (A (128 + i) (896 + j)) : FVec Ideal S128x128 .bf16)⟩ ::
      ⟨Rect.unit ![128, 768] ![128, 128] b16, (ev fun i j => gelu (U (128 + i) (768 + j)) * (∑ k : Fin 128, T 6 (0 + i) (0 + k) * gate V g b (128 + k) (768 + j)
        + B (0 + i) (768 + j)) * silu (A (128 + i) (768 + j)) : FVec Ideal S128x128 .bf16)⟩ ::
      ⟨Rect.unit ![128, 640] ![128, 128] b15, (ev fun i j => gelu (U (128 + i) (640 + j)) * (∑ k : Fin 128, T 5 (0 + i) (0 + k) * gate V g b (128 + k) (640 + j)
        + B (0 + i) (640 + j)) * silu (A (128 + i) (640 + j)) : FVec Ideal S128x128 .bf16)⟩ ::
      ⟨Rect.unit ![128, 512] ![128, 128] b14, (ev fun i j => gelu (U (128 + i) (512 + j)) * (∑ k : Fin 128, T 4 (0 + i) (0 + k) * gate V g b (128 + k) (512 + j)
        + B (0 + i) (512 + j)) * silu (A (128 + i) (512 + j)) : FVec Ideal S128x128 .bf16)⟩ ::
      ⟨Rect.unit ![128, 384] ![128, 128] b13, (ev fun i j => gelu (U (128 + i) (384 + j)) * (∑ k : Fin 128, T 3 (0 + i) (0 + k) * gate V g b (128 + k) (384 + j)
        + B (0 + i) (384 + j)) * silu (A (128 + i) (384 + j)) : FVec Ideal S128x128 .bf16)⟩ ::
      ⟨Rect.unit ![128, 256] ![128, 128] b12, (ev fun i j => gelu (U (128 + i) (256 + j)) * (∑ k : Fin 128, T 2 (0 + i) (0 + k) * gate V g b (128 + k) (256 + j)
        + B (0 + i) (256 + j)) * silu (A (128 + i) (256 + j)) : FVec Ideal S128x128 .bf16)⟩ ::
      ⟨Rect.unit ![128, 128] ![128, 128] b11, (ev fun i j => gelu (U (128 + i) (128 + j)) * (∑ k : Fin 128, T 1 (0 + i) (0 + k) * gate V g b (128 + k) (128 + j)
        + B (0 + i) (128 + j)) * silu (A (128 + i) (128 + j)) : FVec Ideal S128x128 .bf16)⟩ ::
      ⟨Rect.unit ![128, 0] ![128, 128] b10, (ev fun i j => gelu (U (128 + i) (0 + j)) * (∑ k : Fin 128, T 0 (0 + i) (0 + k) * gate V g b (128 + k) (0 + j)
        + B (0 + i) (0 + j)) * silu (A (128 + i) (0 + j)) : FVec Ideal S128x128 .bf16)⟩ ::
      ⟨Rect.unit ![0, 896] ![128, 128] b07, (ev fun i j => gelu (U (0 + i) (896 + j)) * (∑ k : Fin 128, T 7 (0 + i) (0 + k) * gate V g b (0 + k) (896 + j)
        + B (0 + i) (896 + j)) * silu (A (0 + i) (896 + j)) : FVec Ideal S128x128 .bf16)⟩ ::
      ⟨Rect.unit ![0, 768] ![128, 128] b06, (ev fun i j => gelu (U (0 + i) (768 + j)) * (∑ k : Fin 128, T 6 (0 + i) (0 + k) * gate V g b (0 + k) (768 + j)
        + B (0 + i) (768 + j)) * silu (A (0 + i) (768 + j)) : FVec Ideal S128x128 .bf16)⟩ ::
      ⟨Rect.unit ![0, 640] ![128, 128] b05, (ev fun i j => gelu (U (0 + i) (640 + j)) * (∑ k : Fin 128, T 5 (0 + i) (0 + k) * gate V g b (0 + k) (640 + j)
        + B (0 + i) (640 + j)) * silu (A (0 + i) (640 + j)) : FVec Ideal S128x128 .bf16)⟩ ::
      ⟨Rect.unit ![0, 512] ![128, 128] b04, (ev fun i j => gelu (U (0 + i) (512 + j)) * (∑ k : Fin 128, T 4 (0 + i) (0 + k) * gate V g b (0 + k) (512 + j)
        + B (0 + i) (512 + j)) * silu (A (0 + i) (512 + j)) : FVec Ideal S128x128 .bf16)⟩ ::
      ⟨Rect.unit ![0, 384] ![128, 128] b03, (ev fun i j => gelu (U (0 + i) (384 + j)) * (∑ k : Fin 128, T 3 (0 + i) (0 + k) * gate V g b (0 + k) (384 + j)
        + B (0 + i) (384 + j)) * silu (A (0 + i) (384 + j)) : FVec Ideal S128x128 .bf16)⟩ ::
      ⟨Rect.unit ![0, 256] ![128, 128] b02, (ev fun i j => gelu (U (0 + i) (256 + j)) * (∑ k : Fin 128, T 2 (0 + i) (0 + k) * gate V g b (0 + k) (256 + j)
        + B (0 + i) (256 + j)) * silu (A (0 + i) (256 + j)) : FVec Ideal S128x128 .bf16)⟩ ::
      ⟨Rect.unit ![0, 128] ![128, 128] b01, (ev fun i j => gelu (U (0 + i) (128 + j)) * (∑ k : Fin 128, T 1 (0 + i) (0 + k) * gate V g b (0 + k) (128 + j)
        + B (0 + i) (128 + j)) * silu (A (0 + i) (128 + j)) : FVec Ideal S128x128 .bf16)⟩ ::
      ⟨Rect.unit ![0, 0] ![128, 128] b00, (ev fun i j => gelu (U (0 + i) (0 + j)) * (∑ k : Fin 128, T 0 (0 + i) (0 + k) * gate V g b (0 + k) (0 + j)
        + B (0 + i) (0 + j)) * silu (A (0 + i) (0 + j)) : FVec Ideal S128x128 .bf16)⟩ :: []) y
      = branchA T B U V A g b (y 0).val (y 1).val := by
  refine chunkA 1 T B U V A g b rfl rfl rfl rfl rfl rfl rfl rfl y fun h1 => chunkA 0 T B U V A g b rfl rfl rfl rfl rfl rfl rfl rfl y fun h0 => ?_
  have hy : (y 0).val < 256 := (y 0).isLt
  omega

theorem load_A (v : View sig .tc .vmem S256x1024 .bf16) (T : ℕ → ℕ → ℕ → EReal) (B U V A g b : ℕ → ℕ → EReal)
    {b00 : Inb 0 0 128 128}
    {b01 : Inb 0 128 128 128}
    {b02 : Inb 0 256 128 128}
    {b03 : Inb 0 384 128 128}
    {b04 : Inb 0 512 128 128}
    {b05 : Inb 0 640 128 128}
    {b06 : Inb 0 768 128 128}
    {b07 : Inb 0 896 128 128}
    {b10 : Inb 128 0 128 128}
    {b11 : Inb 128 128 128 128}
    {b12 : Inb 128 256 128 128}
    {b13 : Inb 128 384 128 128}
    {b14 : Inb 128 512 128 128}
    {b15 : Inb 128 640 128 128}
    {b16 : Inb 128 768 128 128}
    {b17 : Inb 128 896 128 128}
    (inb : Inb 0 0 256 1024) :
    v.readCov (⟨Rect.unit ![128, 896] ![128, 128] b17, (ev fun i j => gelu (U (128 + i) (896 + j)) * (∑ k : Fin 128, T 7 (0 + i) (0 + k) * gate V g b (128 + k) (896 + j)
        + B (0 + i) (896 + j)) * silu (A (128 + i) (896 + j)) : FVec Ideal S128x128 .bf16)⟩ ::
      ⟨Rect.unit ![128, 768] ![128, 128] b16, (ev fun i j => gelu (U (128 + i) (768 + j)) * (∑ k : Fin 128, T 6 (0 + i) (0 + k) * gate V g b (128 + k) (768 + j)
        + B (0 + i) (768 + j)) * silu (A (128 + i) (768 + j)) : FVec Ideal S128x128 .bf16)⟩ ::
      ⟨Rect.unit ![128, 640] ![128, 128] b15, (ev fun i j => gelu (U (128 + i) (640 + j)) * (∑ k : Fin 128, T 5 (0 + i) (0 + k) * gate V g b (128 + k) (640 + j)
        + B (0 + i) (640 + j)) * silu (A (128 + i) (640 + j)) : FVec Ideal S128x128 .bf16)⟩ ::
      ⟨Rect.unit ![128, 512] ![128, 128] b14, (ev fun i j => gelu (U (128 + i) (512 + j)) * (∑ k : Fin 128, T 4 (0 + i) (0 + k) * gate V g b (128 + k) (512 + j)
        + B (0 + i) (512 + j)) * silu (A (128 + i) (512 + j)) : FVec Ideal S128x128 .bf16)⟩ ::
      ⟨Rect.unit ![128, 384] ![128, 128] b13, (ev fun i j => gelu (U (128 + i) (384 + j)) * (∑ k : Fin 128, T 3 (0 + i) (0 + k) * gate V g b (128 + k) (384 + j)
        + B (0 + i) (384 + j)) * silu (A (128 + i) (384 + j)) : FVec Ideal S128x128 .bf16)⟩ ::
      ⟨Rect.unit ![128, 256] ![128, 128] b12, (ev fun i j => gelu (U (128 + i) (256 + j)) * (∑ k : Fin 128, T 2 (0 + i) (0 + k) * gate V g b (128 + k) (256 + j)
        + B (0 + i) (256 + j)) * silu (A (128 + i) (256 + j)) : FVec Ideal S128x128 .bf16)⟩ ::
      ⟨Rect.unit ![128, 128] ![128, 128] b11, (ev fun i j => gelu (U (128 + i) (128 + j)) * (∑ k : Fin 128, T 1 (0 + i) (0 + k) * gate V g b (128 + k) (128 + j)
        + B (0 + i) (128 + j)) * silu (A (128 + i) (128 + j)) : FVec Ideal S128x128 .bf16)⟩ ::
      ⟨Rect.unit ![128, 0] ![128, 128] b10, (ev fun i j => gelu (U (128 + i) (0 + j)) * (∑ k : Fin 128, T 0 (0 + i) (0 + k) * gate V g b (128 + k) (0 + j)
        + B (0 + i) (0 + j)) * silu (A (128 + i) (0 + j)) : FVec Ideal S128x128 .bf16)⟩ ::
      ⟨Rect.unit ![0, 896] ![128, 128] b07, (ev fun i j => gelu (U (0 + i) (896 + j)) * (∑ k : Fin 128, T 7 (0 + i) (0 + k) * gate V g b (0 + k) (896 + j)
        + B (0 + i) (896 + j)) * silu (A (0 + i) (896 + j)) : FVec Ideal S128x128 .bf16)⟩ ::
      ⟨Rect.unit ![0, 768] ![128, 128] b06, (ev fun i j => gelu (U (0 + i) (768 + j)) * (∑ k : Fin 128, T 6 (0 + i) (0 + k) * gate V g b (0 + k) (768 + j)
        + B (0 + i) (768 + j)) * silu (A (0 + i) (768 + j)) : FVec Ideal S128x128 .bf16)⟩ ::
      ⟨Rect.unit ![0, 640] ![128, 128] b05, (ev fun i j => gelu (U (0 + i) (640 + j)) * (∑ k : Fin 128, T 5 (0 + i) (0 + k) * gate V g b (0 + k) (640 + j)
        + B (0 + i) (640 + j)) * silu (A (0 + i) (640 + j)) : FVec Ideal S128x128 .bf16)⟩ ::
      ⟨Rect.unit ![0, 512] ![128, 128] b04, (ev fun i j => gelu (U (0 + i) (512 + j)) * (∑ k : Fin 128, T 4 (0 + i) (0 + k) * gate V g b (0 + k) (512 + j)
        + B (0 + i) (512 + j)) * silu (A (0 + i) (512 + j)) : FVec Ideal S128x128 .bf16)⟩ ::
      ⟨Rect.unit ![0, 384] ![128, 128] b03, (ev fun i j => gelu (U (0 + i) (384 + j)) * (∑ k : Fin 128, T 3 (0 + i) (0 + k) * gate V g b (0 + k) (384 + j)
        + B (0 + i) (384 + j)) * silu (A (0 + i) (384 + j)) : FVec Ideal S128x128 .bf16)⟩ ::
      ⟨Rect.unit ![0, 256] ![128, 128] b02, (ev fun i j => gelu (U (0 + i) (256 + j)) * (∑ k : Fin 128, T 2 (0 + i) (0 + k) * gate V g b (0 + k) (256 + j)
        + B (0 + i) (256 + j)) * silu (A (0 + i) (256 + j)) : FVec Ideal S128x128 .bf16)⟩ ::
      ⟨Rect.unit ![0, 128] ![128, 128] b01, (ev fun i j => gelu (U (0 + i) (128 + j)) * (∑ k : Fin 128, T 1 (0 + i) (0 + k) * gate V g b (0 + k) (128 + j)
        + B (0 + i) (128 + j)) * silu (A (0 + i) (128 + j)) : FVec Ideal S128x128 .bf16)⟩ ::
      ⟨Rect.unit ![0, 0] ![128, 128] b00, (ev fun i j => gelu (U (0 + i) (0 + j)) * (∑ k : Fin 128, T 0 (0 + i) (0 + k) * gate V g b (0 + k) (0 + j)
        + B (0 + i) (0 + j)) * silu (A (0 + i) (0 + j)) : FVec Ideal S128x128 .bf16)⟩ :: [] : List (View.Piece (Elt Ideal) S256x1024 .bf16))
      (Rect.unit (s := ⟨2, ![256, 1024]⟩) ![0, 0] ![256, 1024] inb).toLoadRect = (ev fun i j => branchA T B U V A g b (0 + i) (0 + j) : FVec Ideal S256x1024 .bf16) :=
  readCov_ev _ _ (branchA T B U V A g b) _ fun y _ _ => whole_A T B U V A g b y

theorem whole_B (C Z g b : ℕ → ℕ → EReal)
    {b0 : Inb 0 0 16 1024}
    {b1 : Inb 16 0 16 1024}
    {b2 : Inb 32 0 16 1024}
    {b3 : Inb 48 0 16 1024}
    {b4 : Inb 64 0 16 1024}
    {b5 : Inb 80 0 16 1024}
    {b6 : Inb 96 0 16 1024}
    {b7 : Inb 112 0 16 1024}
    {b8 : Inb 128 0 16 1024}
    {b9 : Inb 144 0 16 1024}
    {b10 : Inb 160 0 16 1024}
    {b11 : Inb 176 0 16 1024}
    {b12 : Inb 192 0 16 1024}
    {b13 : Inb 208 0 16 1024}
    {b14 : Inb 224 0 16 1024}
    {b15 : Inb 240 0 16 1024}
    (y : S256x1024.Idx) : View.canon (Val := Elt Ideal) (e := .bf16) (⟨Rect.unit ![240, 0] ![16, 1024] b15, (ev (branchB (fun i j => C (240 + i) (0 + j)) (fun i j => Z (240 + i) (0 + j)) (fun i j => g (0 + i) (0 + j)) (fun i j => b (0 + i) (0 + j))) : FVec Ideal S16x1024 .bf16)⟩ ::
      ⟨Rect.unit ![224, 0] ![16, 1024] b14, (ev (branchB (fun i j => C (224 + i) (0 + j)) (fun i j => Z (224 + i) (0 + j)) (fun i j => g (0 + i) (0 + j)) (fun i j => b (0 + i) (0 + j))) : FVec Ideal S16x1024 .bf16)⟩ ::
      ⟨Rect.unit ![208, 0] ![16, 1024] b13, (ev (branchB (fun i j => C (208 + i) (0 + j)) (fun i j => Z (208 + i) (0 + j)) (fun i j => g (0 + i) (0 + j)) (fun i j => b (0 + i) (0 + j))) : FVec Ideal S16x1024 .bf16)⟩ ::
      ⟨Rect.unit ![192, 0] ![16, 1024] b12, (ev (branchB (fun i j => C (192 + i) (0 + j)) (fun i j => Z (192 + i) (0 + j)) (fun i j => g (0 + i) (0 + j)) (fun i j => b (0 + i) (0 + j))) : FVec Ideal S16x1024 .bf16)⟩ ::
      ⟨Rect.unit ![176, 0] ![16, 1024] b11, (ev (branchB (fun i j => C (176 + i) (0 + j)) (fun i j => Z (176 + i) (0 + j)) (fun i j => g (0 + i) (0 + j)) (fun i j => b (0 + i) (0 + j))) : FVec Ideal S16x1024 .bf16)⟩ ::
      ⟨Rect.unit ![160, 0] ![16, 1024] b10, (ev (branchB (fun i j => C (160 + i) (0 + j)) (fun i j => Z (160 + i) (0 + j)) (fun i j => g (0 + i) (0 + j)) (fun i j => b (0 + i) (0 + j))) : FVec Ideal S16x1024 .bf16)⟩ ::
      ⟨Rect.unit ![144, 0] ![16, 1024] b9, (ev (branchB (fun i j => C (144 + i) (0 + j)) (fun i j => Z (144 + i) (0 + j)) (fun i j => g (0 + i) (0 + j)) (fun i j => b (0 + i) (0 + j))) : FVec Ideal S16x1024 .bf16)⟩ ::
      ⟨Rect.unit ![128, 0] ![16, 1024] b8, (ev (branchB (fun i j => C (128 + i) (0 + j)) (fun i j => Z (128 + i) (0 + j)) (fun i j => g (0 + i) (0 + j)) (fun i j => b (0 + i) (0 + j))) : FVec Ideal S16x1024 .bf16)⟩ ::
      ⟨Rect.unit ![112, 0] ![16, 1024] b7, (ev (branchB (fun i j => C (112 + i) (0 + j)) (fun i j => Z (112 + i) (0 + j)) (fun i j => g (0 + i) (0 + j)) (fun i j => b (0 + i) (0 + j))) : FVec Ideal S16x1024 .bf16)⟩ ::
      ⟨Rect.unit ![96, 0] ![16, 1024] b6, (ev (branchB (fun i j => C (96 + i) (0 + j)) (fun i j => Z (96 + i) (0 + j)) (fun i j => g (0 + i) (0 + j)) (fun i j => b (0 + i) (0 + j))) : FVec Ideal S16x1024 .bf16)⟩ ::
      ⟨Rect.unit ![80, 0] ![16, 1024] b5, (ev (branchB (fun i j => C (80 + i) (0 + j)) (fun i j => Z (80 + i) (0 + j)) (fun i j => g (0 + i) (0 + j)) (fun i j => b (0 + i) (0 + j))) : FVec Ideal S16x1024 .bf16)⟩ ::
      ⟨Rect.unit ![64, 0] ![16, 1024] b4, (ev (branchB (fun i j => C (64 + i) (0 + j)) (fun i j => Z (64 + i) (0 + j)) (fun i j => g (0 + i) (0 + j)) (fun i j => b (0 + i) (0 + j))) : FVec Ideal S16x1024 .bf16)⟩ ::
      ⟨Rect.unit ![48, 0] ![16, 1024] b3, (ev (branchB (fun i j => C (48 + i) (0 + j)) (fun i j => Z (48 + i) (0 + j)) (fun i j => g (0 + i) (0 + j)) (fun i j => b (0 + i) (0 + j))) : FVec Ideal S16x1024 .bf16)⟩ ::
      ⟨Rect.unit ![32, 0] ![16, 1024] b2, (ev (branchB (fun i j => C (32 + i) (0 + j)) (fun i j => Z (32 + i) (0 + j)) (fun i j => g (0 + i) (0 + j)) (fun i j => b (0 + i) (0 + j))) : FVec Ideal S16x1024 .bf16)⟩ ::
      ⟨Rect.unit ![16, 0] ![16, 1024] b1, (ev (branchB (fun i j => C (16 + i) (0 + j)) (fun i j => Z (16 + i) (0 + j)) (fun i j => g (0 + i) (0 + j)) (fun i j => b (0 + i) (0 + j))) : FVec Ideal S16x1024 .bf16)⟩ ::
      ⟨Rect.unit ![0, 0] ![16, 1024] b0, (ev (branchB (fun i j => C (0 + i) (0 + j)) (fun i j => Z (0 + i) (0 + j)) (fun i j => g (0 + i) (0 + j)) (fun i j => b (0 + i) (0 + j))) : FVec Ideal S16x1024 .bf16)⟩ :: []) y = branchB C Z g b (y 0).val (y 1).val := by
  refine canon_cons_bf16 b15 _ rfl (fun i _ j _ => by simp only [branchB, Nat.zero_add]) fun h15 => ?_
  refine canon_cons_bf16 b14 _ rfl (fun i _ j _ => by simp only [branchB, Nat.zero_add]) fun h14 => ?_
  refine canon_cons_bf16 b13 _ rfl (fun i _ j _ => by simp only [branchB, Nat.zero_add]) fun h13 => ?_
  refine canon_cons_bf16 b12 _ rfl (fun i _ j _ => by simp only [branchB, Nat.zero_add]) fun h12 => ?_
  refine canon_cons_bf16 b11 _ rfl (fun i _ j _ => by simp only [branchB, Nat.zero_add]) fun h11 => ?_
  refine canon_cons_bf16 b10 _ rfl (fun i _ j _ => by simp only [branchB, Nat.zero_add]) fun h10 => ?_
  refine canon_cons_bf16 b9 _ rfl (fun i _ j _ => by simp only [branchB, Nat.zero_add]) fun h9 => ?_
  refine canon_cons_bf16 b8 _ rfl (fun i _ j _ => by simp only [branchB, Nat.zero_add]) fun h8 => ?_
  refine canon_cons_bf16 b7 _ rfl (fun i _ j _ => by simp only [branchB, Nat.zero_add]) fun h7 => ?_
  refine canon_cons_bf16 b6 _ rfl (fun i _ j _ => by simp only [branchB, Nat.zero_add]) fun h6 => ?_
  refine canon_cons_bf16 b5 _ rfl (fun i _ j _ => by simp only [branchB, Nat.zero_add]) fun h5 => ?_
  refine canon_cons_bf16 b4 _ rfl (fun i _ j _ => by simp only [branchB, Nat.zero_add]) fun h4 => ?_
  refine canon_cons_bf16 b3 _ rfl (fun i _ j _ => by simp only [branchB, Nat.zero_add]) fun h3 => ?_
  refine canon_cons_bf16 b2 _ rfl (fun i _ j _ => by simp only [branchB, Nat.zero_add]) fun h2 => ?_
  refine canon_cons_bf16 b1 _ rfl (fun i _ j _ => by simp only [branchB, Nat.zero_add]) fun h1 => ?_
  refine canon_cons_bf16 b0 _ rfl (fun i _ j _ => by simp only [branchB, Nat.zero_add]) fun h0 => ?_
  have hy : (y 0).val < 256 := (y 0).isLt
  have hz : (y 1).val < 1024 := (y 1).isLt
  omega

theorem load_B (v : View sig .tc .vmem S256x1024 .bf16) (C Z g b : ℕ → ℕ → EReal)
    {b0 : Inb 0 0 16 1024}
    {b1 : Inb 16 0 16 1024}
    {b2 : Inb 32 0 16 1024}
    {b3 : Inb 48 0 16 1024}
    {b4 : Inb 64 0 16 1024}
    {b5 : Inb 80 0 16 1024}
    {b6 : Inb 96 0 16 1024}
    {b7 : Inb 112 0 16 1024}
    {b8 : Inb 128 0 16 1024}
    {b9 : Inb 144 0 16 1024}
    {b10 : Inb 160 0 16 1024}
    {b11 : Inb 176 0 16 1024}
    {b12 : Inb 192 0 16 1024}
    {b13 : Inb 208 0 16 1024}
    {b14 : Inb 224 0 16 1024}
    {b15 : Inb 240 0 16 1024}
    (inb : Inb 0 0 256 1024) :
    v.readCov (⟨Rect.unit ![240, 0] ![16, 1024] b15, (ev (branchB (fun i j => C (240 + i) (0 + j)) (fun i j => Z (240 + i) (0 + j)) (fun i j => g (0 + i) (0 + j)) (fun i j => b (0 + i) (0 + j))) : FVec Ideal S16x1024 .bf16)⟩ ::
      ⟨Rect.unit ![224, 0] ![16, 1024] b14, (ev (branchB (fun i j => C (224 + i) (0 + j)) (fun i j => Z (224 + i) (0 + j)) (fun i j => g (0 + i) (0 + j)) (fun i j => b (0 + i) (0 + j))) : FVec Ideal S16x1024 .bf16)⟩ ::
      ⟨Rect.unit ![208, 0] ![16, 1024] b13, (ev (branchB (fun i j => C (208 + i) (0 + j)) (fun i j => Z (208 + i) (0 + j)) (fun i j => g (0 + i) (0 + j)) (fun i j => b (0 + i) (0 + j))) : FVec Ideal S16x1024 .bf16)⟩ ::
      ⟨Rect.unit ![192, 0] ![16, 1024] b12, (ev (branchB (fun i j => C (192 + i) (0 + j)) (fun i j => Z (192 + i) (0 + j)) (fun i j => g (0 + i) (0 + j)) (fun i j => b (0 + i) (0 + j))) : FVec Ideal S16x1024 .bf16)⟩ ::
      ⟨Rect.unit ![176, 0] ![16, 1024] b11, (ev (branchB (fun i j => C (176 + i) (0 + j)) (fun i j => Z (176 + i) (0 + j)) (fun i j => g (0 + i) (0 + j)) (fun i j => b (0 + i) (0 + j))) : FVec Ideal S16x1024 .bf16)⟩ ::
      ⟨Rect.unit ![160, 0] ![16, 1024] b10, (ev (branchB (fun i j => C (160 + i) (0 + j)) (fun i j => Z (160 + i) (0 + j)) (fun i j => g (0 + i) (0 + j)) (fun i j => b (0 + i) (0 + j))) : FVec Ideal S16x1024 .bf16)⟩ ::
      ⟨Rect.unit ![144, 0] ![16, 1024] b9, (ev (branchB (fun i j => C (144 + i) (0 + j)) (fun i j => Z (144 + i) (0 + j)) (fun i j => g (0 + i) (0 + j)) (fun i j => b (0 + i) (0 + j))) : FVec Ideal S16x1024 .bf16)⟩ ::
      ⟨Rect.unit ![128, 0] ![16, 1024] b8, (ev (branchB (fun i j => C (128 + i) (0 + j)) (fun i j => Z (128 + i) (0 + j)) (fun i j => g (0 + i) (0 + j)) (fun i j => b (0 + i) (0 + j))) : FVec Ideal S16x1024 .bf16)⟩ ::
      ⟨Rect.unit ![112, 0] ![16, 1024] b7, (ev (branchB (fun i j => C (112 + i) (0 + j)) (fun i j => Z (112 + i) (0 + j)) (fun i j => g (0 + i) (0 + j)) (fun i j => b (0 + i) (0 + j))) : FVec Ideal S16x1024 .bf16)⟩ ::
      ⟨Rect.unit ![96, 0] ![16, 1024] b6, (ev (branchB (fun i j => C (96 + i) (0 + j)) (fun i j => Z (96 + i) (0 + j)) (fun i j => g (0 + i) (0 + j)) (fun i j => b (0 + i) (0 + j))) : FVec Ideal S16x1024 .bf16)⟩ ::
      ⟨Rect.unit ![80, 0] ![16, 1024] b5, (ev (branchB (fun i j => C (80 + i) (0 + j)) (fun i j => Z (80 + i) (0 + j)) (fun i j => g (0 + i) (0 + j)) (fun i j => b (0 + i) (0 + j))) : FVec Ideal S16x1024 .bf16)⟩ ::
      ⟨Rect.unit ![64, 0] ![16, 1024] b4, (ev (branchB (fun i j => C (64 + i) (0 + j)) (fun i j => Z (64 + i) (0 + j)) (fun i j => g (0 + i) (0 + j)) (fun i j => b (0 + i) (0 + j))) : FVec Ideal S16x1024 .bf16)⟩ ::
      ⟨Rect.unit ![48, 0] ![16, 1024] b3, (ev (branchB (fun i j => C (48 + i) (0 + j)) (fun i j => Z (48 + i) (0 + j)) (fun i j => g (0 + i) (0 + j)) (fun i j => b (0 + i) (0 + j))) : FVec Ideal S16x1024 .bf16)⟩ ::
      ⟨Rect.unit ![32, 0] ![16, 1024] b2, (ev (branchB (fun i j => C (32 + i) (0 + j)) (fun i j => Z (32 + i) (0 + j)) (fun i j => g (0 + i) (0 + j)) (fun i j => b (0 + i) (0 + j))) : FVec Ideal S16x1024 .bf16)⟩ ::
      ⟨Rect.unit ![16, 0] ![16, 1024] b1, (ev (branchB (fun i j => C (16 + i) (0 + j)) (fun i j => Z (16 + i) (0 + j)) (fun i j => g (0 + i) (0 + j)) (fun i j => b (0 + i) (0 + j))) : FVec Ideal S16x1024 .bf16)⟩ ::
      ⟨Rect.unit ![0, 0] ![16, 1024] b0, (ev (branchB (fun i j => C (0 + i) (0 + j)) (fun i j => Z (0 + i) (0 + j)) (fun i j => g (0 + i) (0 + j)) (fun i j => b (0 + i) (0 + j))) : FVec Ideal S16x1024 .bf16)⟩ :: [] : List (View.Piece (Elt Ideal) S256x1024 .bf16))
      (Rect.unit (s := ⟨2, ![256, 1024]⟩) ![0, 0] ![256, 1024] inb).toLoadRect = (ev fun i j => branchB C Z g b (0 + i) (0 + j) : FVec Ideal S256x1024 .bf16) :=
  readCov_ev _ _ (branchB C Z g b) _ fun y _ _ => whole_B C Z g b y

theorem whole_M (Z0 Z1 Z2 A0 A1 A2 : ℕ → ℕ → EReal) (W : ℕ → ℕ → ℕ → ℕ → EReal)
    {b0 : Inb 0 0 256 256}
    {b1 : Inb 0 256 256 256}
    {b2 : Inb 0 512 256 256}
    {b3 : Inb 0 768 256 256}
    (y : S256x1024.Idx) : View.canon (Val := Elt Ideal) (e := .bf16) (⟨Rect.unit ![0, 768] ![256, 256] b3, (ev fun i j => sigm (Z0 (0 + i) (768 + j)) * mm A0 (fun k l => W 0 0 (0 + k) (768 + l)) i j
        + sigm (Z1 (0 + i) (768 + j)) * mm A1 (fun k l => W 0 1 (0 + k) (768 + l)) i j
        + sigm (Z2 (0 + i) (768 + j)) * mm A2 (fun k l => W 0 2 (0 + k) (768 + l)) i j : FVec Ideal S256x256 .bf16)⟩ ::
      ⟨Rect.unit ![0, 512] ![256, 256] b2, (ev fun i j => sigm (Z0 (0 + i) (512 + j)) * mm A0 (fun k l => W 0 0 (0 + k) (512 + l)) i j
        + sigm (Z1 (0 + i) (512 + j)) * mm A1 (fun k l => W 0 1 (0 + k) (512 + l)) i j
        + sigm (Z2 (0 + i) (512 + j)) * mm A2 (fun k l => W 0 2 (0 + k) (512 + l)) i j : FVec Ideal S256x256 .bf16)⟩ ::
      ⟨Rect.unit ![0, 256] ![256, 256] b1, (ev fun i j => sigm (Z0 (0 + i) (256 + j)) * mm A0 (fun k l => W 0 0 (0 + k) (256 + l)) i j
        + sigm (Z1 (0 + i) (256 + j)) * mm A1 (fun k l => W 0 1 (0 + k) (256 + l)) i j
        + sigm (Z2 (0 + i) (256 + j)) * mm A2 (fun k l => W 0 2 (0 + k) (256 + l)) i j : FVec Ideal S256x256 .bf16)⟩ ::
      ⟨Rect.unit ![0, 0] ![256, 256] b0, (ev fun i j => sigm (Z0 (0 + i) (0 + j)) * mm A0 (fun k l => W 0 0 (0 + k) (0 + l)) i j
        + sigm (Z1 (0 + i) (0 + j)) * mm A1 (fun k l => W 0 1 (0 + k) (0 + l)) i j
        + sigm (Z2 (0 + i) (0 + j)) * mm A2 (fun k l => W 0 2 (0 + k) (0 + l)) i j : FVec Ideal S256x256 .bf16)⟩ :: []) y = merged Z0 Z1 Z2 A0 A1 A2 (W 0) (y 0).val (y 1).val := by
  refine canon_cons_bf16 b3 _ rfl (fun i _ j _ => by simp only [merged, mm, Nat.zero_add]) fun h3 => ?_
  refine canon_cons_bf16 b2 _ rfl (fun i _ j _ => by simp only [merged, mm, Nat.zero_add]) fun h2 => ?_
  refine canon_cons_bf16 b1 _ rfl (fun i _ j _ => by simp only [merged, mm, Nat.zero_add]) fun h1 => ?_
  refine canon_cons_bf16 b0 _ rfl (fun i _ j _ => by simp only [merged, mm, Nat.zero_add]) fun h0 => ?_
  have hy : (y 0).val < 256 := (y 0).isLt
  have hz : (y 1).val < 1024 := (y 1).isLt
  omega

theorem load_M (v : View sig .tc .vmem S256x1024 .bf16) (Z0 Z1 Z2 A0 A1 A2 : ℕ → ℕ → EReal) (W : ℕ → ℕ → ℕ → ℕ → EReal)
    {b0 : Inb 0 0 256 256}
    {b1 : Inb 0 256 256 256}
    {b2 : Inb 0 512 256 256}
    {b3 : Inb 0 768 256 256}
    (inb : Inb 0 0 256 1024) :
    v.readCov (⟨Rect.unit ![0, 768] ![256, 256] b3, (ev fun i j => sigm (Z0 (0 + i) (768 + j)) * mm A0 (fun k l => W 0 0 (0 + k) (768 + l)) i j
        + sigm (Z1 (0 + i) (768 + j)) * mm A1 (fun k l => W 0 1 (0 + k) (768 + l)) i j
        + sigm (Z2 (0 + i) (768 + j)) * mm A2 (fun k l => W 0 2 (0 + k) (768 + l)) i j : FVec Ideal S256x256 .bf16)⟩ ::
      ⟨Rect.unit ![0, 512] ![256, 256] b2, (ev fun i j => sigm (Z0 (0 + i) (512 + j)) * mm A0 (fun k l => W 0 0 (0 + k) (512 + l)) i j
        + sigm (Z1 (0 + i) (512 + j)) * mm A1 (fun k l => W 0 1 (0 + k) (512 + l)) i j
        + sigm (Z2 (0 + i) (512 + j)) * mm A2 (fun k l => W 0 2 (0 + k) (512 + l)) i j : FVec Ideal S256x256 .bf16)⟩ ::
      ⟨Rect.unit ![0, 256] ![256, 256] b1, (ev fun i j => sigm (Z0 (0 + i) (256 + j)) * mm A0 (fun k l => W 0 0 (0 + k) (256 + l)) i j
        + sigm (Z1 (0 + i) (256 + j)) * mm A1 (fun k l => W 0 1 (0 + k) (256 + l)) i j
        + sigm (Z2 (0 + i) (256 + j)) * mm A2 (fun k l => W 0 2 (0 + k) (256 + l)) i j : FVec Ideal S256x256 .bf16)⟩ ::
      ⟨Rect.unit ![0, 0] ![256, 256] b0, (ev fun i j => sigm (Z0 (0 + i) (0 + j)) * mm A0 (fun k l => W 0 0 (0 + k) (0 + l)) i j
        + sigm (Z1 (0 + i) (0 + j)) * mm A1 (fun k l => W 0 1 (0 + k) (0 + l)) i j
        + sigm (Z2 (0 + i) (0 + j)) * mm A2 (fun k l => W 0 2 (0 + k) (0 + l)) i j : FVec Ideal S256x256 .bf16)⟩ :: [] : List (View.Piece (Elt Ideal) S256x1024 .bf16))
      (Rect.unit (s := ⟨2, ![256, 1024]⟩) ![0, 0] ![256, 1024] inb).toLoadRect = (ev fun i j => merged Z0 Z1 Z2 A0 A1 A2 (W 0) (0 + i) (0 + j) : FVec Ideal S256x1024 .bf16) :=
  readCov_ev _ _ (merged Z0 Z1 Z2 A0 A1 A2 (W 0)) _ fun y _ _ => whole_M Z0 Z1 Z2 A0 A1 A2 W y

/-! ## The outputs -/

variable (c : Dev nD) (i : grid0.Coords)
  (m0 : Memref sig .tc .vmem S256x1024 .bf16) (w0 : m0.IsWhole)  (m1 : Memref sig .tc .vmem S256x1024 .f32) (w1 : m1.IsWhole)
  (m2 : Memref sig .tc .vmem S256x1024 .f32) (w2 : m2.IsWhole)  (m3 : Memref sig .tc .vmem S256x1024 .f32) (w3 : m3.IsWhole)
  (m4 : Memref sig .tc .vmem S256x1024 .f32) (w4 : m4.IsWhole)  (m5 : Memref sig .tc .vmem S256x1024 .f32) (w5 : m5.IsWhole)
  (m6 : Memref sig .tc .vmem S256x1024 .f32) (w6 : m6.IsWhole)  (m7 : Memref sig .tc .vmem S1x1024 .f32) (w7 : m7.IsWhole)
  (m8 : Memref sig .tc .vmem S1x1024 .f32) (w8 : m8.IsWhole)  (m9 : Memref sig .tc .vmem S256x1024 .f32) (w9 : m9.IsWhole)
  (m10 : Memref sig .tc .vmem S256x1024 .f32) (w10 : m10.IsWhole)  (m11 : Memref sig .tc .vmem S256x1024 .f32) (w11 : m11.IsWhole)
  (m12 : Memref sig .tc .vmem S1x1024 .f32) (w12 : m12.IsWhole)  (m13 : Memref sig .tc .vmem S1x1024 .f32) (w13 : m13.IsWhole)
  (m14 : Memref sig .tc .vmem S8x128x128 .bf16) (w14 : m14.IsWhole)  (m15 : Memref sig .tc .vmem S128x1024 .f32) (w15 : m15.IsWhole)
  (m16 : Memref sig .tc .vmem S1x3x1024x1024 .bf16) (w16 : m16.IsWhole)  (m17 : Memref sig .tc .vmem S1x1024x1024 .bf16) (w17 : m17.IsWhole)
  (m18 : Memref sig .tc .vmem S256x1024 .bf16) (w18 : m18.IsWhole)  (m19 : Memref sig .tc .vmem S256x1024 .bf16) (w19 : m19.IsWhole)
  (m20 : Memref sig .tc .vmem S256x1024 .bf16) (w20 : m20.IsWhole)  (m21 : Memref sig .tc .vmem S256x1024 .f32) (w21 : m21.IsWhole)
  (m22 : Memref sig .tc .vmem S256x1024 .bf16) (w22 : m22.IsWhole)
  (K Z0 Z1 Z2 X C Zb cg cb U V A lg lb B : ℕ → ℕ → EReal) (T O : ℕ → ℕ → ℕ → EReal) (W : ℕ → ℕ → ℕ → ℕ → EReal)

theorem out_18 : out0_A_18 (F := Ideal) c i m0 w0 m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22
      (ev (φ := .bf16) K) (ev (φ := .f32) Z0) (ev (φ := .f32) Z1) (ev (φ := .f32) Z2) (ev (φ := .f32) X) (ev (φ := .f32) C) (ev (φ := .f32) Zb) (ev (φ := .f32) cg) (ev (φ := .f32) cb) (ev (φ := .f32) U) (ev (φ := .f32) V) (ev (φ := .f32) A) (ev (φ := .f32) lg) (ev (φ := .f32) lb)
      (ev3 (φ := .bf16) T) (ev (φ := .f32) B) (ev4 (φ := .bf16) W) (ev3 (φ := .bf16) O)
    = ev (φ := .bf16) (branchA T B U V A lg lb) := by
  frame_open
  simp only [View.read_writes_junk_eq_canon, View.readAt_eq_ld, Memref.IsWhole.read_unread, ld_ev_f32, ld_ev_bf16, ld_ev3_bf16, ld_ev4_bf16,
    slabV_0, slabV_1, slabV_2, slabV_3, slabV_4, slabV_5, slabV_6, slabV_7, slabV_8, slabV_9, slabV_10, slabV_11, slabV_12, slabV_13, slabV_14, slabV_15, load_chunk0,
    load_chunk1, blockA_0_0, blockA_0_1, blockA_0_2, blockA_0_3, blockA_0_4, blockA_0_5, blockA_0_6, blockA_0_7, blockA_1_0, blockA_1_1, blockA_1_2, blockA_1_3,
    blockA_1_4, blockA_1_5, blockA_1_6, blockA_1_7]
  exact funext fun y => whole_A T B U V A lg lb y

theorem out_19 : out0_A_19 (F := Ideal) c i m0 w0 m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22
      (ev (φ := .bf16) K) (ev (φ := .f32) Z0) (ev (φ := .f32) Z1) (ev (φ := .f32) Z2) (ev (φ := .f32) X) (ev (φ := .f32) C) (ev (φ := .f32) Zb) (ev (φ := .f32) cg) (ev (φ := .f32) cb) (ev (φ := .f32) U) (ev (φ := .f32) V) (ev (φ := .f32) A) (ev (φ := .f32) lg) (ev (φ := .f32) lb)
      (ev3 (φ := .bf16) T) (ev (φ := .f32) B) (ev4 (φ := .bf16) W) (ev3 (φ := .bf16) O)
    = ev (φ := .bf16) (branchB C Zb cg cb) := by
  frame_open
  simp only [View.read_writes_junk_eq_canon, View.readAt_eq_ld, Memref.IsWhole.read_unread, ld_ev_f32, ld_ev_bf16, ld_ev3_bf16, ld_ev4_bf16,
    slabB_0, slabB_1, slabB_2, slabB_3, slabB_4, slabB_5, slabB_6, slabB_7, slabB_8, slabB_9, slabB_10, slabB_11, slabB_12, slabB_13, slabB_14, slabB_15]
  exact funext fun y => whole_B C Zb cg cb y

set_option maxHeartbeats 2000000 in
theorem out_20 : out0_A_20 (F := Ideal) c i m0 w0 m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22
      (ev (φ := .bf16) K) (ev (φ := .f32) Z0) (ev (φ := .f32) Z1) (ev (φ := .f32) Z2) (ev (φ := .f32) X) (ev (φ := .f32) C) (ev (φ := .f32) Zb) (ev (φ := .f32) cg) (ev (φ := .f32) cb) (ev (φ := .f32) U) (ev (φ := .f32) V) (ev (φ := .f32) A) (ev (φ := .f32) lg) (ev (φ := .f32) lb)
      (ev3 (φ := .bf16) T) (ev (φ := .f32) B) (ev4 (φ := .bf16) W) (ev3 (φ := .bf16) O)
    = ev (φ := .bf16) (merged Z0 Z1 Z2 (branchA T B U V A lg lb) (branchB C Zb cg cb) K (W 0)) := by
  frame_open
  simp only [View.read_writes_junk_eq_canon, View.readAt_eq_ld, Memref.IsWhole.read_unread, ld_ev_f32, ld_ev_bf16, ld_ev3_bf16, ld_ev4_bf16,
    slabV_0, slabV_1, slabV_2, slabV_3, slabV_4, slabV_5, slabV_6, slabV_7, slabV_8, slabV_9, slabV_10, slabV_11, slabV_12, slabV_13, slabV_14, slabV_15, load_chunk0,
    load_chunk1, blockA_0_0, blockA_0_1, blockA_0_2, blockA_0_3, blockA_0_4, blockA_0_5, blockA_0_6, blockA_0_7, blockA_1_0, blockA_1_1, blockA_1_2, blockA_1_3,
    blockA_1_4, blockA_1_5, blockA_1_6, blockA_1_7, slabB_0, slabB_1, slabB_2, slabB_3, slabB_4, slabB_5, slabB_6, slabB_7, slabB_8, slabB_9, slabB_10, slabB_11,
    slabB_12, slabB_13, slabB_14, slabB_15, load_A, load_B, blockM_0, blockM_1, blockM_2, blockM_3]
  refine funext fun y => (whole_M Z0 Z1 Z2 _ _ _ W y).trans ?_
  simp only [Nat.zero_add]
  rfl

set_option maxHeartbeats 4000000 in
theorem out_21 : out0_A_21 (F := Ideal) c i m0 w0 m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22
      (ev (φ := .bf16) K) (ev (φ := .f32) Z0) (ev (φ := .f32) Z1) (ev (φ := .f32) Z2) (ev (φ := .f32) X) (ev (φ := .f32) C) (ev (φ := .f32) Zb) (ev (φ := .f32) cg) (ev (φ := .f32) cb) (ev (φ := .f32) U) (ev (φ := .f32) V) (ev (φ := .f32) A) (ev (φ := .f32) lg) (ev (φ := .f32) lb)
      (ev3 (φ := .bf16) T) (ev (φ := .f32) B) (ev4 (φ := .bf16) W) (ev3 (φ := .bf16) O)
    = ev (φ := .f32) (stream X (merged Z0 Z1 Z2 (branchA T B U V A lg lb) (branchB C Zb cg cb) K (W 0)) (O 0)) := by
  frame_open
  simp only [View.read_writes_junk_eq_canon, View.readAt_eq_ld, Memref.IsWhole.read_unread, ld_ev_f32, ld_ev_bf16, ld_ev3_bf16, ld_ev4_bf16,
    slabV_0, slabV_1, slabV_2, slabV_3, slabV_4, slabV_5, slabV_6, slabV_7, slabV_8, slabV_9, slabV_10, slabV_11, slabV_12, slabV_13, slabV_14, slabV_15, load_chunk0,
    load_chunk1, blockA_0_0, blockA_0_1, blockA_0_2, blockA_0_3, blockA_0_4, blockA_0_5, blockA_0_6, blockA_0_7, blockA_1_0, blockA_1_1, blockA_1_2, blockA_1_3,
    blockA_1_4, blockA_1_5, blockA_1_6, blockA_1_7, slabB_0, slabB_1, slabB_2, slabB_3, slabB_4, slabB_5, slabB_6, slabB_7, slabB_8, slabB_9, slabB_10, slabB_11,
    slabB_12, slabB_13, slabB_14, slabB_15, load_A, load_B, blockM_0, blockM_1, blockM_2, blockM_3, load_M, blockO_0, blockO_1, blockO_2, blockO_3]
  funext y
  show _ = stream X (merged Z0 Z1 Z2 (branchA T B U V A lg lb) (branchB C Zb cg cb) K (W 0)) (O 0) (y 0).val (y 1).val
  refine canon_cons_f32 _ _ rfl (fun i _ j _ => by simp only [stream, mm, Nat.zero_add, Nat.add_zero]) fun h3 => ?_
  refine canon_cons_f32 _ _ rfl (fun i _ j _ => by simp only [stream, mm, Nat.zero_add, Nat.add_zero]) fun h2 => ?_
  refine canon_cons_f32 _ _ rfl (fun i _ j _ => by simp only [stream, mm, Nat.zero_add, Nat.add_zero]) fun h1 => ?_
  refine canon_cons_f32 _ _ rfl (fun i _ j _ => by simp only [stream, mm, Nat.zero_add, Nat.add_zero]) fun h0 => ?_
  have hy : (y 0).val < 256 := (y 0).isLt
  have hz : (y 1).val < 1024 := (y 1).isLt
  omega

end Cert.CallMergeF

end
-- ==== Proof.CallMergeF.Tiles.lean ====
/-
  The four results as functions of the arguments' entries, and their restriction to a tile of 256 rows.
-/
module

public import proofs.«01_k».proof.Proof.CallMergeF.Model
public import Idealize.ShloMosaic.Lib.WordCmp

@[expose] public section

noncomputable section

namespace Cert.CallMergeF

open Idealize.ShloMosaic Cert.Ext

theorem ev_at {φ ψ : FTy} {n0 n1 k0 k1 : ℕ} {f g : ℕ → ℕ → EReal} {x : (⟨2, ![n0, n1]⟩ : Shape).Idx} {y : (⟨2, ![k0, k1]⟩ : Shape).Idx}
    (h : f (x 0).val (x 1).val = g (y 0).val (y 1).val) : (ev f : FVec Ideal ⟨2, ![n0, n1]⟩ φ) x = (ev g : FVec Ideal ⟨2, ![k0, k1]⟩ ψ) y := h

/-! ## The functions, on a tile of rows -/

/-- The mixing weights, kept on and below the diagonal. -/
def causal (Ws : ℕ → ℕ → ℕ → EReal) (g i k : ℕ) : EReal := if k ≤ i then Ws g i k else 0

/-- The mixing's bias, one column of it for each group of 128 columns. -/
def biasOf (Bs : ℕ → ℕ → EReal) (i j : ℕ) : EReal := Bs (j / 128) i

/-- The comparison of the row's number with the column's picks the entries on and below the diagonal. -/
theorem select_causal {α : Type} (i k : ℕ) (hi : i < 128) (hk : k < 128) (a b : α) :
    Scalar.select (IntOp.cmpi .sge (IntOp.addi (BitVec.ofNat 32 i) 0#32) (BitVec.ofNat 32 k)) a b = if k ≤ i then a else b := by
  rw [WordCmp.cmpi_sge_eq, show IntOp.addi (BitVec.ofNat 32 i) 0#32 = BitVec.ofNat 32 i from BitVec.add_zero _]
  have e : ∀ n < 128, (BitVec.ofNat 32 n).toInt = (n : ℤ) := fun n hn => by
    have h : (BitVec.ofNat 32 n).toNat = n := by rw [BitVec.toNat_ofNat]; omega
    rw [BitVec.toInt_eq_toNat_of_lt (by rw [h]; omega), h]
  rw [e i hi, e k hk]
  by_cases h : k ≤ i <;> simp [h, Scalar.select]

theorem branchA_tile (T : ℕ → ℕ → ℕ → EReal) (B U V A g b : ℕ → ℕ → EReal) (n i j : ℕ) :
    branchA T B (fun i j => U (256 * n + i) j) (fun i j => V (256 * n + i) j) (fun i j => A (256 * n + i) j) g b i j
      = branchA T B U V A g b (256 * n + i) j := by
  unfold branchA gate
  rw [show (256 * n + i) % 128 = i % 128 by omega]
  simp only [show ∀ k, (256 * n + i) / 128 * 128 + k = 256 * n + (i / 128 * 128 + k) by omega]

/-! ## The four results, over all rows -/

/-- The branch of the spatial mixing. -/
def brA (Z lg lb : ℕ → ℕ → EReal) (Ws : ℕ → ℕ → ℕ → EReal) (Bs : ℕ → ℕ → EReal) : ℕ → ℕ → EReal :=
  branchA (causal Ws) (biasOf Bs) Z (fun i j => Z i (1024 + j)) (fun i j => Z i (2048 + j)) lg lb

/-- The branch of the convolution. -/
def brB (Z C cg cb : ℕ → ℕ → EReal) : ℕ → ℕ → EReal := branchB C (fun i j => Z i (5120 + j)) cg cb

/-- The gated sum of the branches. -/
def mer (K Z C cg cb lg lb : ℕ → ℕ → EReal) (Ws : ℕ → ℕ → ℕ → EReal) (Bs : ℕ → ℕ → EReal) (W : ℕ → ℕ → ℕ → ℕ → EReal) : ℕ → ℕ → EReal :=
  merged (fun i j => Z i (8192 + j)) (fun i j => Z i (9216 + j)) (fun i j => Z i (10240 + j)) (brA Z lg lb Ws Bs) (brB Z C cg cb) K (W 0)

/-- The residual stream. -/
def out (K Z X C cg cb lg lb : ℕ → ℕ → EReal) (Ws : ℕ → ℕ → ℕ → EReal) (Bs : ℕ → ℕ → EReal) (W : ℕ → ℕ → ℕ → ℕ → EReal) (O : ℕ → ℕ → ℕ → EReal) :
    ℕ → ℕ → EReal := stream X (mer K Z C cg cb lg lb Ws Bs W) (O 0)

section Tiles

variable (K Z X C cg cb lg lb : ℕ → ℕ → EReal) (Ws : ℕ → ℕ → ℕ → EReal) (Bs : ℕ → ℕ → EReal) (W : ℕ → ℕ → ℕ → ℕ → EReal) (O : ℕ → ℕ → ℕ → EReal) (n i j : ℕ)

theorem brA_tile : branchA (causal Ws) (biasOf Bs) (fun i j => Z (256 * n + i) j) (fun i j => Z (256 * n + i) (1024 + j)) (fun i j => Z (256 * n + i) (2048 + j)) lg lb i j
      = brA Z lg lb Ws Bs (256 * n + i) j :=
  branchA_tile (causal Ws) (biasOf Bs) Z (fun i j => Z i (1024 + j)) (fun i j => Z i (2048 + j)) lg lb n i j

theorem brB_tile : branchB (fun i j => C (256 * n + i) j) (fun i j => Z (256 * n + i) (5120 + j)) cg cb i j = brB Z C cg cb (256 * n + i) j := rfl

theorem mer_tile : merged (fun i j => Z (256 * n + i) (8192 + j)) (fun i j => Z (256 * n + i) (9216 + j)) (fun i j => Z (256 * n + i) (10240 + j)) (branchA (causal Ws) (biasOf Bs) (fun i j => Z (256 * n + i) j) (fun i j => Z (256 * n + i) (1024 + j)) (fun i j => Z (256 * n + i) (2048 + j)) lg lb) (branchB (fun i j => C (256 * n + i) j) (fun i j => Z (256 * n + i) (5120 + j)) cg cb) (fun i j => K (256 * n + i) j) (W 0) i j
      = mer K Z C cg cb lg lb Ws Bs W (256 * n + i) j := by
  unfold merged mm
  simp only [brA_tile, brB_tile]
  rfl

theorem out_tile : stream (fun i j => X (256 * n + i) j) (merged (fun i j => Z (256 * n + i) (8192 + j)) (fun i j => Z (256 * n + i) (9216 + j)) (fun i j => Z (256 * n + i) (10240 + j)) (branchA (causal Ws) (biasOf Bs) (fun i j => Z (256 * n + i) j) (fun i j => Z (256 * n + i) (1024 + j)) (fun i j => Z (256 * n + i) (2048 + j)) lg lb) (branchB (fun i j => C (256 * n + i) j) (fun i j => Z (256 * n + i) (5120 + j)) cg cb) (fun i j => K (256 * n + i) j) (W 0)) (O 0) i j
      = out K Z X C cg cb lg lb Ws Bs W O (256 * n + i) j := by
  unfold stream mm
  simp only [mer_tile]
  rfl

end Tiles

end Cert.CallMergeF

end
-- ==== Proof.CallMergeF.Grid.lean ====
/-
  The whole grid: the blocks a point reads, and what the four results hold. Nothing is asked of the entries.
-/
module

public import proofs.«01_k».proof.Proof.CallMergeF.Block
public import proofs.«01_k».proof.Proof.CallMergeF.Tiles
public import proofs.«01_k».proof.Proof.Gen.MergeFIdeal.Value

@[expose] public section

noncomputable section

namespace Cert.CallMergeF

open Cert.MergeFIdeal Cert.MergeFIdeal.Gen Idealize.ShloMosaic Idealize.ShloMosaic.TcCoe Idealize.SL.Sem
open Cert.Ext
open Idealize.ShloMosaic.Pipeline (Dat Cfg Window)

variable (m : (ℓ : Loc nD τ sig) → Buf (Elt Ideal) ℓ) (c : Dev nD)
variable (K Z X C cg cb lg lb : ℕ → ℕ → EReal) (Ws : ℕ → ℕ → ℕ → EReal) (Bs : ℕ → ℕ → EReal) (W : ℕ → ℕ → ℕ → ℕ → EReal) (O : ℕ → ℕ → ℕ → EReal)

/-- The argument arrays' entries. -/
structure Holds : Prop where
  h0 : V m c main_arg0 = (ev (φ := .bf16) K : FVec Ideal S8192x1024 .bf16)
  h1 : V m c main_arg1 = (ev (φ := .f32) Z : FVec Ideal S8192x11264 .f32)
  h2 : V m c main_arg2 = (ev (φ := .f32) X : FVec Ideal S8192x1024 .f32)
  h3 : V m c main_arg3 = (ev (φ := .f32) C : FVec Ideal S8192x1024 .f32)
  h4 : V m c main_arg4 = (ev (φ := .f32) cg : FVec Ideal S1x1024 .f32)
  h5 : V m c main_arg5 = (ev (φ := .f32) cb : FVec Ideal S1x1024 .f32)
  h6 : V m c main_arg6 = (ev (φ := .f32) lg : FVec Ideal S1x1024 .f32)
  h7 : V m c main_arg7 = (ev (φ := .f32) lb : FVec Ideal S1x1024 .f32)
  h8 : m ((c : Thread nD τ).loc main_arg8) = (ev3 (φ := .f32) Ws : FVec Ideal S8x128x128 .f32)
  h9 : m ((c : Thread nD τ).loc main_arg9) = (ev (φ := .f32) Bs : FVec Ideal S8x128 .f32)
  h10 : V m c main_arg10 = (ev4 (φ := .bf16) W : FVec Ideal S1x3x1024x1024 .bf16)
  h11 : V m c main_arg11 = (ev3 (φ := .bf16) O : FVec Ideal S1x1024x1024 .bf16)

theorem idx0 : ∀ t : Fin grid0.N, win0_0.index t = ![t.val, 0] := by decide +kernel
theorem idx1 : ∀ t : Fin grid0.N, win0_1.index t = ![t.val, 8] := by decide +kernel
theorem idx2 : ∀ t : Fin grid0.N, win0_2.index t = ![t.val, 9] := by decide +kernel
theorem idx3 : ∀ t : Fin grid0.N, win0_3.index t = ![t.val, 10] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 5] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![t.val, 1] := by decide +kernel
theorem idx11 : ∀ t : Fin grid0.N, win0_11.index t = ![t.val, 2] := by decide +kernel
theorem idx12 : ∀ t : Fin grid0.N, win0_12.index t = ![0, 0] := by decide +kernel
theorem idx13 : ∀ t : Fin grid0.N, win0_13.index t = ![0, 0] := by decide +kernel
theorem idx14 : ∀ t : Fin grid0.N, win0_14.index t = ![0, 0, 0] := by decide +kernel
theorem idx15 : ∀ t : Fin grid0.N, win0_15.index t = ![0, 0] := by decide +kernel
theorem idx16 : ∀ t : Fin grid0.N, win0_16.index t = ![0, 0, 0, 0] := by decide +kernel
theorem idx17 : ∀ t : Fin grid0.N, win0_17.index t = ![0, 0, 0] := by decide +kernel
theorem idx18 : ∀ t : Fin grid0.N, win0_18.index t = ![t.val, 0] := by decide +kernel
theorem idx19 : ∀ t : Fin grid0.N, win0_19.index t = ![t.val, 0] := by decide +kernel
theorem idx20 : ∀ t : Fin grid0.N, win0_20.index t = ![t.val, 0] := by decide +kernel
theorem idx21 : ∀ t : Fin grid0.N, win0_21.index t = ![t.val, 0] := by decide +kernel

variable {m c K Z X C cg cb lg lb Ws Bs W O} (H : Holds m c K Z X C cg cb lg lb Ws Bs W O) (t : Fin cfg0.N)
include H

theorem block0 : iblk m c 0 t = (ev (φ := .bf16) (fun i j => K (256 * t.val + i) j) : FVec Ideal S256x1024 .bf16) := by
  funext y
  blk_simp [iblk]
  rw [H.h0]
  refine ev_at ?_
  blk_simp [idx0 t]
  simp only [Nat.mul_comm]

theorem block1 : iblk m c 1 t = (ev (φ := .f32) (fun i j => Z (256 * t.val + i) (8192 + j)) : FVec Ideal S256x1024 .f32) := by
  funext y
  blk_simp [iblk]
  rw [H.h1]
  refine ev_at ?_
  blk_simp [idx1 t]
  simp only [Nat.mul_comm]

theorem block2 : iblk m c 2 t = (ev (φ := .f32) (fun i j => Z (256 * t.val + i) (9216 + j)) : FVec Ideal S256x1024 .f32) := by
  funext y
  blk_simp [iblk]
  rw [H.h1]
  refine ev_at ?_
  blk_simp [idx2 t]
  simp only [Nat.mul_comm]

theorem block3 : iblk m c 3 t = (ev (φ := .f32) (fun i j => Z (256 * t.val + i) (10240 + j)) : FVec Ideal S256x1024 .f32) := by
  funext y
  blk_simp [iblk]
  rw [H.h1]
  refine ev_at ?_
  blk_simp [idx3 t]
  simp only [Nat.mul_comm]

theorem block4 : iblk m c 4 t = (ev (φ := .f32) (fun i j => X (256 * t.val + i) j) : FVec Ideal S256x1024 .f32) := by
  funext y
  blk_simp [iblk]
  rw [H.h2]
  refine ev_at ?_
  blk_simp [idx4 t]
  simp only [Nat.mul_comm]

theorem block5 : iblk m c 5 t = (ev (φ := .f32) (fun i j => C (256 * t.val + i) j) : FVec Ideal S256x1024 .f32) := by
  funext y
  blk_simp [iblk]
  rw [H.h3]
  refine ev_at ?_
  blk_simp [idx5 t]
  simp only [Nat.mul_comm]

theorem block6 : iblk m c 6 t = (ev (φ := .f32) (fun i j => Z (256 * t.val + i) (5120 + j)) : FVec Ideal S256x1024 .f32) := by
  funext y
  blk_simp [iblk]
  rw [H.h1]
  refine ev_at ?_
  blk_simp [idx6 t]
  simp only [Nat.mul_comm]

theorem block7 : iblk m c 7 t = (ev (φ := .f32) cg : FVec Ideal S1x1024 .f32) := by
  funext y
  blk_simp [iblk]
  rw [H.h4]
  refine ev_at ?_
  blk_simp [idx7 t]

theorem block8 : iblk m c 8 t = (ev (φ := .f32) cb : FVec Ideal S1x1024 .f32) := by
  funext y
  blk_simp [iblk]
  rw [H.h5]
  refine ev_at ?_
  blk_simp [idx8 t]

theorem block9 : iblk m c 9 t = (ev (φ := .f32) (fun i j => Z (256 * t.val + i) j) : FVec Ideal S256x1024 .f32) := by
  funext y
  blk_simp [iblk]
  rw [H.h1]
  refine ev_at ?_
  blk_simp [idx9 t]
  simp only [Nat.mul_comm]

theorem block10 : iblk m c 10 t = (ev (φ := .f32) (fun i j => Z (256 * t.val + i) (1024 + j)) : FVec Ideal S256x1024 .f32) := by
  funext y
  blk_simp [iblk]
  rw [H.h1]
  refine ev_at ?_
  blk_simp [idx10 t]
  simp only [Nat.mul_comm]

theorem block11 : iblk m c 11 t = (ev (φ := .f32) (fun i j => Z (256 * t.val + i) (2048 + j)) : FVec Ideal S256x1024 .f32) := by
  funext y
  blk_simp [iblk]
  rw [H.h1]
  refine ev_at ?_
  blk_simp [idx11 t]
  simp only [Nat.mul_comm]

theorem block12 : iblk m c 12 t = (ev (φ := .f32) lg : FVec Ideal S1x1024 .f32) := by
  funext y
  blk_simp [iblk]
  rw [H.h6]
  refine ev_at ?_
  blk_simp [idx12 t]

theorem block13 : iblk m c 13 t = (ev (φ := .f32) lb : FVec Ideal S1x1024 .f32) := by
  funext y
  blk_simp [iblk]
  rw [H.h7]
  refine ev_at ?_
  blk_simp [idx13 t]

theorem block14 : iblk m c 14 t = (ev3 (φ := .bf16) (causal Ws) : FVec Ideal S8x128x128 .bf16) := by
  funext y
  blk_simp [iblk]
  unfold V
  simp only [hostOps0, hostOps0_1, hostOps0_2, List.flatten_cons, List.flatten_nil, List.cons_append, List.nil_append, List.append_nil]
  entry_read
  erw [H.h8]
  simp only [StableHlo.TRef.ofBuf_toBuf]
  pointwise
  refine (congrArg (fun x : EReal => (_ : EReal) * x) (show _ = (if (y 2).val ≤ (y 1).val then (1 : EReal) else 0) from ?_)).trans ?_
  · refine Eq.trans (show _ = Scalar.select (IntOp.cmpi .sge (IntOp.addi (BitVec.ofNat 32 (((View.whole main_v5).slice (win0_14.rect t)).emb y 1).val) 0#32)
      (BitVec.ofNat 32 (((View.whole main_v5).slice (win0_14.rect t)).emb y 2).val)) (Ideal.ofBits .f32 0x3F800000#32) (Ideal.ofBits .f32 0x00000000#32) from rfl) ?_
    blk_simp [idx14 t]
    rw [Ideal.ofBits_one_f32, Ideal.ofBits_zero_f32]
    exact select_causal _ _ (y 1).isLt (y 2).isLt _ _
  · rw [ev3_apply, ev3_apply]
    blk_simp [idx14 t]
    unfold causal
    split_ifs
    · rw [mul_one]
    · rw [mul_zero]

theorem block15 : iblk m c 15 t = (ev (φ := .f32) (biasOf Bs) : FVec Ideal S128x1024 .f32) := by
  funext y
  blk_simp [iblk]
  unfold V
  simp only [hostOps0, hostOps0_1, hostOps0_2, List.flatten_cons, List.flatten_nil, List.cons_append, List.nil_append, List.append_nil]
  entry_read
  erw [H.h9]
  pointwise
  rw [ev_apply, ev_apply]
  blk_simp [idx15 t]
  rfl

theorem block16 : iblk m c 16 t = (ev4 (φ := .bf16) W : FVec Ideal S1x3x1024x1024 .bf16) := by
  funext y
  blk_simp [iblk]
  rw [H.h10]
  rw [ev4_apply, ev4_apply]
  blk_simp [idx16 t]

theorem block17 : iblk m c 17 t = (ev3 (φ := .bf16) O : FVec Ideal S1x1024x1024 .bf16) := by
  funext y
  blk_simp [iblk]
  rw [H.h11]
  rw [ev3_apply, ev3_apply]
  blk_simp [idx17 t]

/-- What a point leaves in window 18. -/
theorem after_brA : (dats m 0 c).after 18 t = (ev (φ := .bf16) (fun i j => brA Z lg lb Ws Bs (256 * t.val + i) j) : FVec Ideal S256x1024 .bf16) := by
  rw [after0_18]
  unfold outsAt0
  dsimp only
  rw [block0 H, block1 H, block2 H, block3 H, block4 H, block5 H, block6 H, block7 H, block8 H, block9 H, block10 H, block11 H, block12 H, block13 H, block14 H, block15 H, block16 H, block17 H]
  refine (out_18 ..).trans ?_
  exact congrArg (ev (φ := .bf16)) (funext fun i => funext fun j => brA_tile ..)

theorem final18 : (dats m 0 c).arrAt 18 cfg0.N = (ev (φ := .bf16) (brA Z lg lb Ws Bs) : FVec Ideal S8192x1024 .bf16) := by
  refine (dats m 0 c).arrAt_eq_of_covers 18 _ (by decide +kernel) fun t hf y => ?_
  blk_simp
  rw [after_brA H]
  refine ev_at ?_
  blk_simp [idx18 t]
  simp only [Nat.mul_comm]

/-- What a point leaves in window 19. -/
theorem after_brB : (dats m 0 c).after 19 t = (ev (φ := .bf16) (fun i j => brB Z C cg cb (256 * t.val + i) j) : FVec Ideal S256x1024 .bf16) := by
  rw [after0_19]
  unfold outsAt0
  dsimp only
  rw [block0 H, block1 H, block2 H, block3 H, block4 H, block5 H, block6 H, block7 H, block8 H, block9 H, block10 H, block11 H, block12 H, block13 H, block14 H, block15 H, block16 H, block17 H]
  refine (out_19 ..).trans ?_
  exact congrArg (ev (φ := .bf16)) (funext fun i => funext fun j => brB_tile ..)

theorem final19 : (dats m 0 c).arrAt 19 cfg0.N = (ev (φ := .bf16) (brB Z C cg cb) : FVec Ideal S8192x1024 .bf16) := by
  refine (dats m 0 c).arrAt_eq_of_covers 19 _ (by decide +kernel) fun t hf y => ?_
  blk_simp
  rw [after_brB H]
  refine ev_at ?_
  blk_simp [idx19 t]
  simp only [Nat.mul_comm]

/-- What a point leaves in window 20. -/
theorem after_mer : (dats m 0 c).after 20 t = (ev (φ := .bf16) (fun i j => mer K Z C cg cb lg lb Ws Bs W (256 * t.val + i) j) : FVec Ideal S256x1024 .bf16) := by
  rw [after0_20]
  unfold outsAt0
  dsimp only
  rw [block0 H, block1 H, block2 H, block3 H, block4 H, block5 H, block6 H, block7 H, block8 H, block9 H, block10 H, block11 H, block12 H, block13 H, block14 H, block15 H, block16 H, block17 H]
  refine (out_20 ..).trans ?_
  exact congrArg (ev (φ := .bf16)) (funext fun i => funext fun j => mer_tile ..)

theorem final20 : (dats m 0 c).arrAt 20 cfg0.N = (ev (φ := .bf16) (mer K Z C cg cb lg lb Ws Bs W) : FVec Ideal S8192x1024 .bf16) := by
  refine (dats m 0 c).arrAt_eq_of_covers 20 _ (by decide +kernel) fun t hf y => ?_
  blk_simp
  rw [after_mer H]
  refine ev_at ?_
  blk_simp [idx20 t]
  simp only [Nat.mul_comm]

/-- What a point leaves in window 21. -/
theorem after_out : (dats m 0 c).after 21 t = (ev (φ := .f32) (fun i j => out K Z X C cg cb lg lb Ws Bs W O (256 * t.val + i) j) : FVec Ideal S256x1024 .f32) := by
  rw [after0_21]
  unfold outsAt0
  dsimp only
  rw [block0 H, block1 H, block2 H, block3 H, block4 H, block5 H, block6 H, block7 H, block8 H, block9 H, block10 H, block11 H, block12 H, block13 H, block14 H, block15 H, block16 H, block17 H]
  refine (out_21 ..).trans ?_
  exact congrArg (ev (φ := .f32)) (funext fun i => funext fun j => out_tile ..)

theorem final21 : (dats m 0 c).arrAt 21 cfg0.N = (ev (φ := .f32) (out K Z X C cg cb lg lb Ws Bs W O) : FVec Ideal S8192x1024 .f32) := by
  refine (dats m 0 c).arrAt_eq_of_covers 21 _ (by decide +kernel) fun t hf y => ?_
  blk_simp
  rw [after_out H]
  refine ev_at ?_
  blk_simp [idx21 t]
  simp only [Nat.mul_comm]

end Cert.CallMergeF

end
-- ==== Proof.CallMergeF.Ref.lean ====
/-
  The reference's results on arrays given by their entries, one operation at a time.
-/
module

public import proofs.«01_k».proof.Proof.CallMergeF.Tiles
public import proofs.«01_k».proof.Proof.Gen.RefMergeFIdeal.Read

@[expose] public section

noncomputable section

namespace Cert.CallMergeF

open Cert.RefMergeFIdeal Cert.RefMergeFIdeal.Gen Cert.RefMergeFIdeal.Read Cert.Ext Idealize.ShloMosaic Idealize.ShloMosaic.StableHlo

variable (K Z X C cg cb lg lb : ℕ → ℕ → EReal) (Ws : ℕ → ℕ → ℕ → EReal) (Bs : ℕ → ℕ → EReal) (W : ℕ → ℕ → ℕ → ℕ → EReal) (O : ℕ → ℕ → ℕ → EReal)

abbrev y0 : FVec Ideal S8192x1024 .bf16 := ev K
abbrev y1 : FVec Ideal S8192x11264 .f32 := ev Z
abbrev y3 : FVec Ideal S8192x1024 .f32 := ev C
abbrev yr : FVec Ideal S1x1024 .f32 := ev cg
abbrev y8 : FVec Ideal S8x128x128 .f32 := ev3 Ws
abbrev y9 : FVec Ideal S8x128 .f32 := ev Bs
abbrev y10 : FVec Ideal S1x3x1024x1024 .bf16 := ev4 W
abbrev y11 : FVec Ideal S1x1024x1024 .bf16 := ev3 O

/-! ## The branch of the spatial mixing -/

theorem s13 : val_main_v13 (F := Ideal) (y1 Z) = (ev (φ := .f32) fun i j => gelu (Z i j) : FVec Ideal S8192x1024 .f32) := by
  funext i
  rw [val_main_v13_apply, val_main_v12_apply, val_main_v11_apply, val_main_cst_2_apply, val_main_v10_apply, val_main_v9_apply, val_main_cst_1_apply, val_main_v8_apply, val_main_v7_apply, val_main_v6_apply, val_main_cst_0_apply, val_main_v5_apply, val_main_v4_apply, val_main_v3_apply, val_main_cst_apply, val_main_v2_apply, val_main_v1_apply, val_main_v0_apply]
  rfl

theorem s27 : val_main_v27 (F := Ideal) (y1 Z) = (ev (φ := .f32) fun i j => gelu (Z i (1024 + j)) : FVec Ideal S8192x1024 .f32) := by
  funext i
  rw [val_main_v27_apply, val_main_v26_apply, val_main_v25_apply, val_main_cst_6_apply, val_main_v24_apply, val_main_v23_apply, val_main_cst_5_apply, val_main_v22_apply, val_main_v21_apply, val_main_v20_apply, val_main_cst_4_apply, val_main_v19_apply, val_main_v18_apply, val_main_v17_apply, val_main_cst_3_apply, val_main_v16_apply, val_main_v15_apply, val_main_v14_apply]
  rfl

theorem s31 : val_main_v31 (F := Ideal) (y1 Z) = (ev (φ := .f32) fun i _ => mean (fun k => gelu (Z i (1024 + k))) : FVec Ideal S8192x1 .f32) := by
  funext i
  rw [val_main_v31_apply, val_main_v29_apply, val_main_v28_apply, val_main_v30_apply, val_main_cst_8_apply, val_main_cst_7_apply, s27]
  exact congrArg (fun a : EReal => Ideal.div a _) (start_sum fun k => rfl)

theorem s33 : val_main_v33 (F := Ideal) (y1 Z) = (ev (φ := .f32) fun i j => centred (fun k => gelu (Z i (1024 + k))) j : FVec Ideal S8192x1024 .f32) := by
  funext i
  rw [val_main_v33_apply, val_main_v32_apply, s31, s27]
  rfl

theorem s38 : val_main_v38 (F := Ideal) (y1 Z) = (ev (φ := .f32) fun i _ => mean fun k => centred (fun k => gelu (Z i (1024 + k))) k * centred (fun k => gelu (Z i (1024 + k))) k : FVec Ideal S8192x1 .f32) := by
  funext i
  rw [val_main_v38_apply, val_main_v36_apply, val_main_v35_apply, val_main_v37_apply, val_main_cst_10_apply, val_main_cst_9_apply]
  refine congrArg (fun a : EReal => Ideal.div a _) (start_sum fun k => ?_)
  rw [val_main_v34_apply, s33]
  rfl

theorem s47 : val_main_v47 (F := Ideal) (y1 Z) (yr lg) (yr lb) = (ev (φ := .f32) (gate (fun i j => Z i (1024 + j)) lg lb) : FVec Ideal S8192x1024 .f32) := by
  funext i
  rw [val_main_v47_apply, val_main_v46_apply, val_main_v45_apply, val_main_v44_apply, val_main_v43_apply, val_main_v42_apply, val_main_v41_apply,
    val_main_v40_apply, val_main_v39_apply, val_main_cst_11_apply, s38, s33]
  rfl

theorem s51 : val_main_v51 (F := Ideal) (y8 Ws) = (ev3 (φ := .f32) (causal Ws) : FVec Ideal S8x128x128 .f32) := by
  funext i
  rw [val_main_v51_apply, val_main_call1_v1_apply, val_main_v50_apply, val_main_v49_apply, val_main_call0_v4_apply, val_main_call0_v2_apply, val_main_call0_v0_apply, val_main_call0_v1_apply, val_main_call0_c_apply, val_main_call0_v3_apply, val_main_v48_apply, val_main_c_apply, val_main_call0_v5_apply, val_main_call0_c_0_apply, val_main_call1_v2_apply, val_main_call1_v0_apply, val_main_cst_12_apply]
  refine (congrArg (fun p : BitVec 1 => Scalar.select p _ _) (select_causal (i 1).val (i 2).val (i 1).isLt (i 2).isLt 1#1 0#1)).trans ?_
  rw [ev3_apply]
  unfold causal
  split_ifs
  · rfl
  · exact Ideal.ofBits_zero_f32

theorem s59 : val_main_v59 (F := Ideal) (y1 Z) (yr lg) (yr lb) (y8 Ws) (y9 Bs) = (ev (φ := .f32) fun i j =>
    ∑ k : Fin 128, causal Ws (j / 128) (i % 128) k * gate (fun i j => Z i (1024 + j)) lg lb (i / 128 * 128 + k) j + biasOf Bs (i % 128) j
      : FVec Ideal S8192x1024 .f32) := by
  funext i
  have h0 : (i 0).val < 8192 := (i 0).isLt
  have h1 : (i 1).val < 1024 := (i 1).isLt
  rw [val_main_v59_apply, val_main_v58_apply, val_main_v57_apply, val_main_v56_apply, val_main_v55_apply, val_main_v54_apply, val_main_v53_apply, s51]
  refine congrArg₂ (fun a b : EReal => a + b) (Finset.sum_congr rfl fun k _ => ?_) ?_
  · have hk : k.val < 128 := k.isLt
    rw [val_main_v52_apply, s47, mul_comm]
    refine congrArg₂ (fun a b : EReal => a * b) ?_ ?_
    · rw [ev3_apply]
      refine congrArg₂ (fun a b => causal Ws a b _) ?_ ?_ <;> (dsimp only; omega)
    · rw [ev_apply]
      refine congrArg₂ (gate _ lg lb) ?_ ?_ <;> (dsimp only; omega)
  · unfold biasOf
    refine congrArg₂ Bs ?_ ?_ <;> (dsimp only; omega)

theorem s62 : val_main_v62 (F := Ideal) (y1 Z) = (ev (φ := .f32) fun i j => silu (Z i (2048 + j)) : FVec Ideal S8192x1024 .f32) := by
  funext i
  rw [val_main_v62_apply, val_main_call2_v5_apply, val_main_call2_v4_apply, val_main_call2_cst_0_apply, val_main_call2_v3_apply, val_main_call2_v2_apply, val_main_call2_cst_apply, val_main_call2_v1_apply, val_main_call2_v0_apply, val_main_v61_apply]
  exact congrArg (fun a : EReal => _ * a) (sigm_neg _)

theorem s63 : val_main_v63 (F := Ideal) (y1 Z) (yr lg) (yr lb) (y8 Ws) (y9 Bs) = (ev (φ := .f32) (brA Z lg lb Ws Bs) : FVec Ideal S8192x1024 .f32) := by
  funext i
  rw [val_main_v63_apply, val_main_v60_apply, s13, s59, s62]
  rfl

/-! ## The branch of the convolution -/

theorem s67 : val_main_v67 (F := Ideal) (y3 C) = (ev (φ := .f32) fun i _ => mean (C i) : FVec Ideal S8192x1 .f32) := by
  funext i
  rw [val_main_v67_apply, val_main_v65_apply, val_main_v64_apply, val_main_v66_apply, val_main_cst_14_apply, val_main_cst_13_apply]
  exact congrArg (fun a : EReal => Ideal.div a _) (start_sum fun k => rfl)

theorem s69 : val_main_v69 (F := Ideal) (y3 C) = (ev (φ := .f32) fun i j => centred (C i) j : FVec Ideal S8192x1024 .f32) := by
  funext i
  rw [val_main_v69_apply, val_main_v68_apply, s67]
  rfl

theorem s74 : val_main_v74 (F := Ideal) (y3 C) = (ev (φ := .f32) fun i _ => mean fun k => centred (C i) k * centred (C i) k : FVec Ideal S8192x1 .f32) := by
  funext i
  rw [val_main_v74_apply, val_main_v72_apply, val_main_v71_apply, val_main_v73_apply, val_main_cst_16_apply, val_main_cst_15_apply]
  refine congrArg (fun a : EReal => Ideal.div a _) (start_sum fun k => ?_)
  rw [val_main_v70_apply, s69]
  rfl

theorem s83 : val_main_v83 (F := Ideal) (y3 C) (yr cg) (yr cb) = (ev (φ := .f32) fun i j => lnorm (C i) (cg 0) (cb 0) j : FVec Ideal S8192x1024 .f32) := by
  funext i
  rw [val_main_v83_apply, val_main_v82_apply, val_main_v81_apply, val_main_v80_apply, val_main_v79_apply, val_main_v78_apply, val_main_v77_apply,
    val_main_v76_apply, val_main_v75_apply, val_main_cst_17_apply, s74, s69]
  rfl

theorem s84 : val_main_v84 (F := Ideal) (y3 C) (yr cg) (yr cb) = (ev (φ := .f32) fun i j => silu (lnorm (C i) (cg 0) (cb 0) j) : FVec Ideal S8192x1024 .f32) := by
  funext i
  rw [val_main_v84_apply, val_main_call3_v5_apply, val_main_call3_v4_apply, val_main_call3_cst_0_apply, val_main_call3_v3_apply, val_main_call3_v2_apply, val_main_call3_cst_apply, val_main_call3_v1_apply, val_main_call3_v0_apply, s83]
  exact congrArg (fun a : EReal => _ * a) (sigm_neg _)

theorem s86 : val_main_v86 (F := Ideal) (y1 Z) = (ev (φ := .f32) fun i j => silu (Z i (5120 + j)) : FVec Ideal S8192x1024 .f32) := by
  funext i
  rw [val_main_v86_apply, val_main_call4_v5_apply, val_main_call4_v4_apply, val_main_call4_cst_0_apply, val_main_call4_v3_apply, val_main_call4_v2_apply, val_main_call4_cst_apply, val_main_call4_v1_apply, val_main_call4_v0_apply, val_main_v85_apply]
  exact congrArg (fun a : EReal => _ * a) (sigm_neg _)

theorem s87 : val_main_v87 (F := Ideal) (y1 Z) (y3 C) (yr cg) (yr cb) = (ev (φ := .f32) (brB Z C cg cb) : FVec Ideal S8192x1024 .f32) := by
  funext i
  rw [val_main_v87_apply, s84, s86]
  rfl

/-! ## The merge -/

/-- The three branches. -/
def branch (n : ℕ) : ℕ → ℕ → EReal := if n = 0 then brA Z lg lb Ws Bs else if n = 1 then brB Z C cg cb else K

theorem branch_zero {n : ℕ} (h : n = 0) : branch K Z C cg cb lg lb Ws Bs n = brA Z lg lb Ws Bs := if_pos h
theorem branch_one {n : ℕ} (h : n = 1) : branch K Z C cg cb lg lb Ws Bs n = brB Z C cg cb := (if_neg (by omega)).trans (if_pos h)
theorem branch_two {n : ℕ} (h : 2 ≤ n) : branch K Z C cg cb lg lb Ws Bs n = K := (if_neg (by omega)).trans (if_neg (by omega))

theorem s92 : val_main_v92 (F := Ideal) (y0 K) (y1 Z) (y3 C) (yr cg) (yr cb) (yr lg) (yr lb) (y8 Ws) (y9 Bs)
    = (ev3 (φ := .f32) fun i n j => branch K Z C cg cb lg lb Ws Bs n i j : FVec Ideal S8192x3x1024 .f32) := by
  unfold val_main_v92
  funext i
  have h1 : (i 1).val < 3 := (i 1).isLt
  pointwise
  rw [ev3_apply]
  by_cases n0 : (i 1).val < 1
  · rw [dif_pos n0]
    refine (val_main_v89_apply ..).trans ((congrFun (s63 Z lg lb Ws Bs) _).trans ?_)
    exact (congrFun (congrFun (branch_zero K Z C cg cb lg lb Ws Bs (by omega)) _) _).symm
  rw [dif_neg n0]
  by_cases n1 : (i 1).val - 1 < 1
  · rw [dif_pos n1]
    refine (val_main_v90_apply ..).trans ((congrFun (s87 Z C cg cb) _).trans ?_)
    exact (congrFun (congrFun (branch_one K Z C cg cb lg lb Ws Bs (by omega)) _) _).symm
  · rw [dif_neg n1]
    refine (val_main_v91_apply ..).trans ?_
    exact (congrFun (congrFun (branch_two K Z C cg cb lg lb Ws Bs (by omega)) _) _).symm

theorem s96 : val_main_v96 (F := Ideal) (y0 K) (y1 Z) (y3 C) (yr cg) (yr cb) (yr lg) (yr lb) (y8 Ws) (y9 Bs) (y10 W)
    = (ev3 (φ := .f32) fun i n j => mm (branch K Z C cg cb lg lb Ws Bs n) (W 0 n) i j : FVec Ideal S8192x3x1024 .f32) := by
  funext i
  rw [val_main_v96_apply, val_main_v95_apply, s92, ev3_apply]
  refine sum_eq fun k => ?_
  rw [val_main_v94_apply, val_main_v93_apply, mul_comm]
  have hi1 : (i 1).val < 3 := (i 1).isLt
  have hi2 : (i 2).val < 1024 := (i 2).isLt
  have hk : k.val < 1024 := k.isLt
  refine congrArg₂ (fun a b : EReal => a * b) rfl ?_
  show W _ _ _ _ = W _ _ _ _
  congr 1
  all_goals (dsimp only; omega)

theorem s104 : val_main_v104 (F := Ideal) (y1 Z) = (ev3 (φ := .f32) fun i n j => sigm (Z i (8192 + (1024 * n + j))) : FVec Ideal S8192x3x1024 .f32) := by
  funext i
  have h0 : (i 0).val < 8192 := (i 0).isLt
  have h1 : (i 1).val < 3 := (i 1).isLt
  have h2 : (i 2).val < 1024 := (i 2).isLt
  rw [val_main_v104_apply, val_main_v103_apply, val_main_v102_apply, val_main_cst_19_apply, val_main_v101_apply, val_main_v100_apply, val_main_cst_18_apply, val_main_v99_apply, val_main_v98_apply, val_main_v97_apply]
  refine (sigm_neg _).trans (congrArg sigm (congrArg₂ Z ?_ ?_)) <;> (dsimp only; omega)

theorem s106 : val_main_v106 (F := Ideal) (y0 K) (y1 Z) (y3 C) (yr cg) (yr cb) (yr lg) (yr lb) (y8 Ws) (y9 Bs) (y10 W)
    = (ev (φ := .f32) (mer K Z C cg cb lg lb Ws Bs W) : FVec Ideal S8192x1024 .f32) := by
  funext i
  rw [val_main_v106_apply, val_main_cst_20_apply]
  refine (start_sum (g := fun n => sigm (Z (i 0).val (8192 + (1024 * n.val + (i 1).val))) * mm (branch K Z C cg cb lg lb Ws Bs n.val) (W 0 n.val) (i 0).val (i 1).val)
    fun n => ?_).trans ?_
  · rw [val_main_v105_apply, s104, s96]
    rfl
  · rw [Fin.sum_univ_three, ev_apply]
    unfold mer merged
    refine congrArg₂ (fun a b : EReal => a + b) (congrArg₂ (fun a b : EReal => a + b) ?_ ?_) ?_ <;>
      refine congrArg₂ (fun a b : EReal => sigm a * b) (congrArg (Z _) ?_) rfl <;> simp only [Fin.val_zero, Fin.val_one, Fin.val_two] <;> omega

theorem s109 : val_main_v109 (F := Ideal) (y0 K) (y1 Z) (y3 C) (yr cg) (yr cb) (yr lg) (yr lb) (y8 Ws) (y9 Bs) (y10 W) (y11 O)
    = (ev (φ := .f32) (mm (mer K Z C cg cb lg lb Ws Bs W) (O 0)) : FVec Ideal S8192x1024 .f32) := by
  funext i
  rw [val_main_v109_apply, s106, ev_apply]
  refine sum_eq fun k => ?_
  have hi1 : (i 1).val < 1024 := (i 1).isLt
  have hk : k.val < 1024 := k.isLt
  rw [val_main_v108_apply, val_main_v107_apply]
  refine congrArg₂ (fun a b : EReal => a * b) rfl ?_
  show O _ _ _ = O _ _ _
  congr 1
  all_goals (dsimp only; omega)

/-! ## The results -/

variable {x0 : FVec Ideal S8192x1024 .bf16}
  {x1 : FVec Ideal S8192x11264 .f32}
  {x2 : FVec Ideal S8192x1024 .f32}
  {x3 : FVec Ideal S8192x1024 .f32}
  {x4 : FVec Ideal S1x1024 .f32}
  {x5 : FVec Ideal S1x1024 .f32}
  {x6 : FVec Ideal S1x1024 .f32}
  {x7 : FVec Ideal S1x1024 .f32}
  {x8 : FVec Ideal S8x128x128 .f32}
  {x9 : FVec Ideal S8x128 .f32}
  {x10 : FVec Ideal S1x3x1024x1024 .bf16}
  {x11 : FVec Ideal S1x1024x1024 .bf16}

theorem r0 (h1 : x1 = y1 Z) (h6 : x6 = yr lg) (h7 : x7 = yr lb) (h8 : x8 = y8 Ws) (h9 : x9 = y9 Bs) :
    val_main_v111 (F := Ideal) x1 x6 x7 x8 x9 = (ev (φ := .bf16) (brA Z lg lb Ws Bs) : FVec Ideal S8192x1024 .bf16) := by
  subst h1 h6 h7 h8 h9
  unfold val_main_v111
  rw [s63]
  rfl

theorem r1 (h1 : x1 = y1 Z) (h3 : x3 = y3 C) (h4 : x4 = yr cg) (h5 : x5 = yr cb) :
    val_main_v112 (F := Ideal) x1 x3 x4 x5 = (ev (φ := .bf16) (brB Z C cg cb) : FVec Ideal S8192x1024 .bf16) := by
  subst h1 h3 h4 h5
  unfold val_main_v112
  rw [s87]
  rfl

theorem r2 (h0 : x0 = y0 K) (h1 : x1 = y1 Z) (h3 : x3 = y3 C) (h4 : x4 = yr cg) (h5 : x5 = yr cb) (h6 : x6 = yr lg) (h7 : x7 = yr lb) (h8 : x8 = y8 Ws) (h9 : x9 = y9 Bs) (h10 : x10 = y10 W) :
    val_main_v113 (F := Ideal) x0 x1 x3 x4 x5 x6 x7 x8 x9 x10 = (ev (φ := .bf16) (mer K Z C cg cb lg lb Ws Bs W) : FVec Ideal S8192x1024 .bf16) := by
  subst h0 h1 h3 h4 h5 h6 h7 h8 h9 h10
  unfold val_main_v113
  rw [s106]
  rfl

theorem r3 (h0 : x0 = y0 K) (h1 : x1 = y1 Z) (h2 : x2 = y3 X) (h3 : x3 = y3 C) (h4 : x4 = yr cg) (h5 : x5 = yr cb) (h6 : x6 = yr lg) (h7 : x7 = yr lb) (h8 : x8 = y8 Ws) (h9 : x9 = y9 Bs) (h10 : x10 = y10 W) (h11 : x11 = y11 O) :
    val_main_v110 (F := Ideal) x0 x1 x2 x3 x4 x5 x6 x7 x8 x9 x10 x11 = (ev (φ := .f32) (out K Z X C cg cb lg lb Ws Bs W O) : FVec Ideal S8192x1024 .f32) := by
  subst h0 h1 h2 h3 h4 h5 h6 h7 h8 h9 h10 h11
  funext i
  rw [val_main_v110_apply, s109]
  rfl

end Cert.CallMergeF

end
-- ==== Proof.CallMergeF.Claim.lean ====
/-
  The claims of the call that merges the branches in the forward pass. Nothing is asked of the arguments.
-/
module

public import proofs.«01_k».proof.Defs
public import proofs.«01_k».proof.Proof.CallMergeF.Grid
public import proofs.«01_k».proof.Proof.CallMergeF.Ref
public import proofs.«01_k».proof.Proof.Gen.MergeF.Frame
public import proofs.«01_k».proof.Proof.Gen.RefMergeFIdeal.Run

@[expose] public section

noncomputable section

namespace Cert.CallMergeF

open Cert.MergeFIdeal Cert.MergeFIdeal.Gen Cert.Ext Idealize.ShloMosaic Idealize.ShloMosaic.TcCoe Idealize.SL.Sem

theorem frame : Cert.quiescent_MergeF := fun m g _ => Cert.MergeF.Gen.frame m g
theorem frameIdeal : Cert.quiescent_MergeFIdeal := fun m g _ => Cert.MergeFIdeal.Gen.frame m g

/-- The reference is a straight line of host operations and declares no semaphore. -/
theorem frameRef : Cert.quiescent_RefMergeFIdeal := fun m g _ =>
  (θ_run Cert.RefMergeFIdeal.defs _ _).mono (fun r h => ⟨fun c => (h c).2.2.2.2, sem_eq_zero_of_no_sems (by decide) r.2⟩)
    (Cert.RefMergeFIdeal.Value.run (F := Ideal) m g)

/-- The results of the two programs, from arguments that agree. -/
theorem algebraic : Cert.algebraic_MergeFIdeal_RefMergeFIdeal := by
  intro m g m' g' _ hagree
  refine ⟨fun c => (dats m 0 c).arrAt 18 cfg0.N, fun c => (dats m 0 c).arrAt 19 cfg0.N, fun c => (dats m 0 c).arrAt 20 cfg0.N,
    fun c => (dats m 0 c).arrAt 21 cfg0.N, Value.run_blocks m g, ?_⟩
  refine (θ_run Cert.RefMergeFIdeal.defs _ _).mono (fun r h c => ?_) (Cert.RefMergeFIdeal.Value.run (F := Ideal) m' g')
  obtain ⟨K, h0⟩ := exists_ev (φ := .bf16) (m ((c : Thread nD τ).loc main_arg0))
  obtain ⟨Z, h1⟩ := exists_ev (φ := .f32) (m ((c : Thread nD τ).loc main_arg1))
  obtain ⟨X, h2⟩ := exists_ev (φ := .f32) (m ((c : Thread nD τ).loc main_arg2))
  obtain ⟨C, h3⟩ := exists_ev (φ := .f32) (m ((c : Thread nD τ).loc main_arg3))
  obtain ⟨cg, h4⟩ := exists_ev (φ := .f32) (m ((c : Thread nD τ).loc main_arg4))
  obtain ⟨cb, h5⟩ := exists_ev (φ := .f32) (m ((c : Thread nD τ).loc main_arg5))
  obtain ⟨lg, h6⟩ := exists_ev (φ := .f32) (m ((c : Thread nD τ).loc main_arg6))
  obtain ⟨lb, h7⟩ := exists_ev (φ := .f32) (m ((c : Thread nD τ).loc main_arg7))
  obtain ⟨Ws, h8⟩ := exists_ev3 (φ := .f32) (m ((c : Thread nD τ).loc main_arg8))
  obtain ⟨Bs, h9⟩ := exists_ev (φ := .f32) (m ((c : Thread nD τ).loc main_arg9))
  obtain ⟨W, h10⟩ := exists_ev4 (φ := .bf16) (m ((c : Thread nD τ).loc main_arg10))
  obtain ⟨O, h11⟩ := exists_ev3 (φ := .bf16) (m ((c : Thread nD τ).loc main_arg11))
  have H : Holds m c K Z X C cg cb lg lb Ws Bs W O := ⟨(V_main_arg0 m c).trans h0, (V_main_arg1 m c).trans h1, (V_main_arg2 m c).trans h2, (V_main_arg3 m c).trans h3, (V_main_arg4 m c).trans h4, (V_main_arg5 m c).trans h5, (V_main_arg6 m c).trans h6, (V_main_arg7 m c).trans h7, h8, h9, (V_main_arg10 m c).trans h10, (V_main_arg11 m c).trans h11⟩
  obtain ⟨e0, e1, e2, e3, e4, e5, e6, e7, e8, e9, e10, e11⟩ := hagree c
  refine ⟨(h c).1.trans ?_, (h c).2.1.trans ?_, (h c).2.2.1.trans ?_, (h c).2.2.2.1.trans ?_, (h c).2.2.2.2⟩
  · refine (Cert.RefMergeFIdeal.Read.val_main_v111_eq m' c).trans ?_
    exact (r0 Z lg lb Ws Bs (e1.trans h1) (e6.trans h6) (e7.trans h7) (e8.trans h8) (e9.trans h9)).trans (final18 H).symm
  · refine (Cert.RefMergeFIdeal.Read.val_main_v112_eq m' c).trans ?_
    exact (r1 Z C cg cb (e1.trans h1) (e3.trans h3) (e4.trans h4) (e5.trans h5)).trans (final19 H).symm
  · refine (Cert.RefMergeFIdeal.Read.val_main_v113_eq m' c).trans ?_
    exact (r2 K Z C cg cb lg lb Ws Bs W (e0.trans h0) (e1.trans h1) (e3.trans h3) (e4.trans h4) (e5.trans h5) (e6.trans h6) (e7.trans h7) (e8.trans h8) (e9.trans h9) (e10.trans h10)).trans (final20 H).symm
  · refine (Cert.RefMergeFIdeal.Read.val_main_v110_eq m' c).trans ?_
    exact (r3 K Z X C cg cb lg lb Ws Bs W O (e0.trans h0) (e1.trans h1) (e2.trans h2) (e3.trans h3) (e4.trans h4) (e5.trans h5) (e6.trans h6) (e7.trans h7) (e8.trans h8) (e9.trans h9) (e10.trans h10) (e11.trans h11)).trans (final21 H).symm

end Cert.CallMergeF

end
-- ==== Proof.Adam.Step.lean ====
/-
  One entry of an AdamW step over the extended reals: the new moments and the change of the weight, from the weight, its gradient and the old moments.
-/
module

public import Idealize.ShloMosaic.PureOps
public import Idealize.ShloMosaic.PureOps.Ideal

@[expose] public section

noncomputable section

namespace Cert.Adam

open Idealize.ShloMosaic

/-- `0.9 m + 0.1 g`. -/
def mom (g m : Ideal .f32) : Ideal .f32 :=
  FloatOps.addf (FloatOps.mulf (FloatOps.ofBits .f32 0x3F666666#32) m) (FloatOps.mulf (FloatOps.ofBits .f32 0x3DCCCCCD#32) g)

/-- `0.999 v + 0.001 g²`. -/
def sqr (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- `-0.001 (m' / (1 - 0.9¹⁰) / (√(v' / (1 - 0.999¹⁰)) + 10⁻⁸) + 0.01 w)`, with `m'` and `v'` the new moments. -/
def delta (w g m v : Ideal .f32) : Ideal .f32 :=
  FloatOps.mulf (FloatOps.ofBits .f32 0xBA83126F#32)
    (FloatOps.addf
      (FloatOps.divf (FloatOps.divf (mom g m) (FloatOps.ofBits .f32 0x3F26BD02#32))
        (FloatOps.addf (FloatOps.sqrt (FloatOps.divf (sqr g v) (FloatOps.ofBits .f32 0x3C231ACC#32))) (FloatOps.ofBits .f32 0x322BCC77#32)))
      (FloatOps.mulf (FloatOps.ofBits .f32 0x3C23D70A#32) w))

end Cert.Adam

end
-- ==== Proof.Adam.In.lean ====
/-
  The optimiser's call on the input projection's weights.
-/
module

public import proofs.«01_k».proof.Defs
public import proofs.«01_k».proof.Proof.Adam.Step
public import proofs.«01_k».proof.Proof.Gen.AdIn.Frame
public import proofs.«01_k».proof.Proof.Gen.AdInIdeal.Value
public import proofs.«01_k».proof.Proof.Gen.RefAdInIdeal.Run
public import proofs.«01_k».proof.Proof.Gen.RefAdInIdeal.Read
public import Idealize.ShloMosaic.Lib.Pipeline.ReadBack
public import Idealize.ShloMosaic.Lib.Pipeline.ValueKit
public import Idealize.ShloMosaic.Lib.Claim

@[expose] public section

noncomputable section

namespace Cert.Adam.In

open Cert.AdInIdeal Cert.AdInIdeal.Gen Idealize.ShloMosaic Idealize.ShloMosaic.TcCoe Idealize.SL.Sem

/-! ## One grid point -/

section Point

variable (w g m v : Vec Ideal S64x2816 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S2048x2816 (m ((c : Thread nD τ).loc main_arg0)) shapeCasts_S2x1024x2816_S2048x2816 := by
  unfold V
  entry_read
  rfl

theorem entry1 : V m c main_v1 = shapeCast S2048x2816 (m ((c : Thread nD τ).loc main_arg1)) shapeCasts_S2x1024x2816_S2048x2816 := by
  unfold V
  entry_read
  rfl

theorem entry2 : V m c main_v2 = shapeCast S2048x2816 (m ((c : Thread nD τ).loc main_arg2)) shapeCasts_S2x1024x2816_S2048x2816 := by
  unfold V
  entry_read
  rfl

theorem entry3 : V m c main_v3 = shapeCast S2048x2816 (m ((c : Thread nD τ).loc main_arg3)) shapeCasts_S2x1024x2816_S2048x2816 := by
  unfold V
  entry_read
  rfl

/-! ## The claims -/

theorem frame : Cert.quiescent_AdIn := fun m g _ => Cert.AdIn.Gen.frame m g
theorem frameIdeal : Cert.quiescent_AdInIdeal := fun m g _ => Cert.AdInIdeal.Gen.frame m g

/-- The reference is a straight line of host operations and declares no semaphore. -/
theorem frameRef : Cert.quiescent_RefAdInIdeal := fun m g _ =>
  (θ_run Cert.RefAdInIdeal.defs _ _).mono (fun r h => ⟨fun c => (h c).2.2.2.2, sem_eq_zero_of_no_sems (by decide) r.2⟩)
    (Cert.RefAdInIdeal.Value.run (F := Ideal) m g)

/-- The results of the two programs, from arguments that agree. -/
theorem algebraic : Cert.algebraic_AdInIdeal_RefAdInIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdInIdeal.defs _ _).mono (fun r h c => ?_) (Cert.RefAdInIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.In

end
-- ==== Proof.Adam.Kv.lean ====
/-
  The optimiser's call on the memory projection's weights.
-/
module

public import proofs.«01_k».proof.Defs
public import proofs.«01_k».proof.Proof.Adam.Step
public import proofs.«01_k».proof.Proof.Gen.AdKv.Frame
public import proofs.«01_k».proof.Proof.Gen.AdKvIdeal.Value
public import proofs.«01_k».proof.Proof.Gen.RefAdKvIdeal.Run
public import proofs.«01_k».proof.Proof.Gen.RefAdKvIdeal.Read
public import Idealize.ShloMosaic.Lib.Pipeline.ReadBack
public import Idealize.ShloMosaic.Lib.Pipeline.ValueKit
public import Idealize.ShloMosaic.Lib.Claim

@[expose] public section

noncomputable section

namespace Cert.Adam.Kv

open Cert.AdKvIdeal Cert.AdKvIdeal.Gen Idealize.ShloMosaic Idealize.ShloMosaic.TcCoe Idealize.SL.Sem

/-! ## One grid point -/

section Point

variable (w g m v : Vec Ideal S512x512 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S2048x512 (m ((c : Thread nD τ).loc main_arg0)) shapeCasts_S2x1024x512_S2048x512 := by
  unfold V
  entry_read
  rfl

theorem entry1 : V m c main_v1 = shapeCast S2048x512 (m ((c : Thread nD τ).loc main_arg1)) shapeCasts_S2x1024x512_S2048x512 := by
  unfold V
  entry_read
  rfl

theorem entry2 : V m c main_v2 = shapeCast S2048x512 (m ((c : Thread nD τ).loc main_arg2)) shapeCasts_S2x1024x512_S2048x512 := by
  unfold V
  entry_read
  rfl

theorem entry3 : V m c main_v3 = shapeCast S2048x512 (m ((c : Thread nD τ).loc main_arg3)) shapeCasts_S2x1024x512_S2048x512 := by
  unfold V
  entry_read
  rfl

/-! ## The claims -/

theorem frame : Cert.quiescent_AdKv := fun m g _ => Cert.AdKv.Gen.frame m g
theorem frameIdeal : Cert.quiescent_AdKvIdeal := fun m g _ => Cert.AdKvIdeal.Gen.frame m g

/-- The reference is a straight line of host operations and declares no semaphore. -/
theorem frameRef : Cert.quiescent_RefAdKvIdeal := fun m g _ =>
  (θ_run Cert.RefAdKvIdeal.defs _ _).mono (fun r h => ⟨fun c => (h c).2.2.2.2, sem_eq_zero_of_no_sems (by decide) r.2⟩)
    (Cert.RefAdKvIdeal.Value.run (F := Ideal) m g)

/-- The results of the two programs, from arguments that agree. -/
theorem algebraic : Cert.algebraic_AdKvIdeal_RefAdKvIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdKvIdeal.defs _ _).mono (fun r h c => ?_) (Cert.RefAdKvIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.Kv

end
-- ==== Proof.Adam.Br.lean ====
/-
  The optimiser's call on the three branches' projections.
-/
module

public import proofs.«01_k».proof.Defs
public import proofs.«01_k».proof.Proof.Adam.Step
public import proofs.«01_k».proof.Proof.Gen.AdBr.Frame
public import proofs.«01_k».proof.Proof.Gen.AdBrIdeal.Value
public import proofs.«01_k».proof.Proof.Gen.RefAdBrIdeal.Run
public import proofs.«01_k».proof.Proof.Gen.RefAdBrIdeal.Read
public import Idealize.ShloMosaic.Lib.Pipeline.ReadBack
public import Idealize.ShloMosaic.Lib.Pipeline.ValueKit
public import Idealize.ShloMosaic.Lib.Claim

@[expose] public section

noncomputable section

namespace Cert.Adam.Br

open Cert.AdBrIdeal Cert.AdBrIdeal.Gen Idealize.ShloMosaic Idealize.ShloMosaic.TcCoe Idealize.SL.Sem

/-! ## One grid point -/

section Point

variable (w g m v : Vec Ideal S256x1024 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S1536x1024 (m ((c : Thread nD τ).loc main_arg0)) shapeCasts_S2x3x256x1024_S1536x1024 := by
  unfold V
  entry_read
  rfl

theorem entry1 : V m c main_v1 = shapeCast S1536x1024 (m ((c : Thread nD τ).loc main_arg1)) shapeCasts_S2x3x256x1024_S1536x1024 := by
  unfold V
  entry_read
  rfl

theorem entry2 : V m c main_v2 = shapeCast S1536x1024 (m ((c : Thread nD τ).loc main_arg2)) shapeCasts_S2x3x256x1024_S1536x1024 := by
  unfold V
  entry_read
  rfl

theorem entry3 : V m c main_v3 = shapeCast S1536x1024 (m ((c : Thread nD τ).loc main_arg3)) shapeCasts_S2x3x256x1024_S1536x1024 := by
  unfold V
  entry_read
  rfl

/-! ## The claims -/

theorem frame : Cert.quiescent_AdBr := fun m g _ => Cert.AdBr.Gen.frame m g
theorem frameIdeal : Cert.quiescent_AdBrIdeal := fun m g _ => Cert.AdBrIdeal.Gen.frame m g

/-- The reference is a straight line of host operations and declares no semaphore. -/
theorem frameRef : Cert.quiescent_RefAdBrIdeal := fun m g _ =>
  (θ_run Cert.RefAdBrIdeal.defs _ _).mono (fun r h => ⟨fun c => (h c).2.2.2.2, sem_eq_zero_of_no_sems (by decide) r.2⟩)
    (Cert.RefAdBrIdeal.Value.run (F := Ideal) m g)

/-- The results of the two programs, from arguments that agree. -/
theorem algebraic : Cert.algebraic_AdBrIdeal_RefAdBrIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdBrIdeal.defs _ _).mono (fun r h c => ?_) (Cert.RefAdBrIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.Br

end
-- ==== Proof.Adam.Out.lean ====
/-
  The optimiser's call on the output projection's weights.
-/
module

public import proofs.«01_k».proof.Defs
public import proofs.«01_k».proof.Proof.Adam.Step
public import proofs.«01_k».proof.Proof.Gen.AdOut.Frame
public import proofs.«01_k».proof.Proof.Gen.AdOutIdeal.Value
public import proofs.«01_k».proof.Proof.Gen.RefAdOutIdeal.Run
public import proofs.«01_k».proof.Proof.Gen.RefAdOutIdeal.Read
public import Idealize.ShloMosaic.Lib.Pipeline.ReadBack
public import Idealize.ShloMosaic.Lib.Pipeline.ValueKit
public import Idealize.ShloMosaic.Lib.Claim

@[expose] public section

noncomputable section

namespace Cert.Adam.Out

open Cert.AdOutIdeal Cert.AdOutIdeal.Gen Idealize.ShloMosaic Idealize.ShloMosaic.TcCoe Idealize.SL.Sem

/-! ## One grid point -/

section Point

variable (w g m v : Vec Ideal S256x1024 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S512x1024 (m ((c : Thread nD τ).loc main_arg0)) shapeCasts_S2x256x1024_S512x1024 := by
  unfold V
  entry_read
  rfl

theorem entry1 : V m c main_v1 = shapeCast S512x1024 (m ((c : Thread nD τ).loc main_arg1)) shapeCasts_S2x256x1024_S512x1024 := by
  unfold V
  entry_read
  rfl

theorem entry2 : V m c main_v2 = shapeCast S512x1024 (m ((c : Thread nD τ).loc main_arg2)) shapeCasts_S2x256x1024_S512x1024 := by
  unfold V
  entry_read
  rfl

theorem entry3 : V m c main_v3 = shapeCast S512x1024 (m ((c : Thread nD τ).loc main_arg3)) shapeCasts_S2x256x1024_S512x1024 := by
  unfold V
  entry_read
  rfl

/-! ## The claims -/

theorem frame : Cert.quiescent_AdOut := fun m g _ => Cert.AdOut.Gen.frame m g
theorem frameIdeal : Cert.quiescent_AdOutIdeal := fun m g _ => Cert.AdOutIdeal.Gen.frame m g

/-- The reference is a straight line of host operations and declares no semaphore. -/
theorem frameRef : Cert.quiescent_RefAdOutIdeal := fun m g _ =>
  (θ_run Cert.RefAdOutIdeal.defs _ _).mono (fun r h => ⟨fun c => (h c).2.2.2.2, sem_eq_zero_of_no_sems (by decide) r.2⟩)
    (Cert.RefAdOutIdeal.Value.run (F := Ideal) m g)

/-- The results of the two programs, from arguments that agree. -/
theorem algebraic : Cert.algebraic_AdOutIdeal_RefAdOutIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdOutIdeal.defs _ _).mono (fun r h c => ?_) (Cert.RefAdOutIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.Out

end
-- ==== Proof.Adam.Mix.lean ====
/-
  The optimiser's call on the weights of the mixing within a chunk.
-/
module

public import proofs.«01_k».proof.Defs
public import proofs.«01_k».proof.Proof.Adam.Step
public import proofs.«01_k».proof.Proof.Gen.AdMix.Frame
public import proofs.«01_k».proof.Proof.Gen.AdMixIdeal.Value
public import proofs.«01_k».proof.Proof.Gen.RefAdMixIdeal.Run
public import proofs.«01_k».proof.Proof.Gen.RefAdMixIdeal.Read
public import Idealize.ShloMosaic.Lib.Pipeline.ReadBack
public import Idealize.ShloMosaic.Lib.Pipeline.ValueKit
public import Idealize.ShloMosaic.Lib.Claim

@[expose] public section

noncomputable section

namespace Cert.Adam.Mix

open Cert.AdMixIdeal Cert.AdMixIdeal.Gen Idealize.ShloMosaic Idealize.ShloMosaic.TcCoe Idealize.SL.Sem

/-! ## One grid point -/

section Point

variable (w g m v : Vec Ideal S512x128 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S2048x128 (m ((c : Thread nD τ).loc main_arg0)) shapeCasts_S2x8x128x128_S2048x128 := by
  unfold V
  entry_read
  rfl

theorem entry1 : V m c main_v1 = shapeCast S2048x128 (m ((c : Thread nD τ).loc main_arg1)) shapeCasts_S2x8x128x128_S2048x128 := by
  unfold V
  entry_read
  rfl

theorem entry2 : V m c main_v2 = shapeCast S2048x128 (m ((c : Thread nD τ).loc main_arg2)) shapeCasts_S2x8x128x128_S2048x128 := by
  unfold V
  entry_read
  rfl

theorem entry3 : V m c main_v3 = shapeCast S2048x128 (m ((c : Thread nD τ).loc main_arg3)) shapeCasts_S2x8x128x128_S2048x128 := by
  unfold V
  entry_read
  rfl

/-! ## The claims -/

theorem frame : Cert.quiescent_AdMix := fun m g _ => Cert.AdMix.Gen.frame m g
theorem frameIdeal : Cert.quiescent_AdMixIdeal := fun m g _ => Cert.AdMixIdeal.Gen.frame m g

/-- The reference is a straight line of host operations and declares no semaphore. -/
theorem frameRef : Cert.quiescent_RefAdMixIdeal := fun m g _ =>
  (θ_run Cert.RefAdMixIdeal.defs _ _).mono (fun r h => ⟨fun c => (h c).2.2.2.2, sem_eq_zero_of_no_sems (by decide) r.2⟩)
    (Cert.RefAdMixIdeal.Value.run (F := Ideal) m g)

/-- The results of the two programs, from arguments that agree. -/
theorem algebraic : Cert.algebraic_AdMixIdeal_RefAdMixIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdMixIdeal.defs _ _).mono (fun r h c => ?_) (Cert.RefAdMixIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.Mix

end
-- ==== Proof.Adam.Bias.lean ====
/-
  The optimiser's call on the bias of the mixing within a chunk.
-/
module

public import proofs.«01_k».proof.Defs
public import proofs.«01_k».proof.Proof.Adam.Step
public import proofs.«01_k».proof.Proof.Gen.AdBias.Frame
public import proofs.«01_k».proof.Proof.Gen.AdBiasIdeal.Value
public import proofs.«01_k».proof.Proof.Gen.RefAdBiasIdeal.Run
public import proofs.«01_k».proof.Proof.Gen.RefAdBiasIdeal.Read
public import Idealize.ShloMosaic.Lib.Pipeline.ReadBack
public import Idealize.ShloMosaic.Lib.Pipeline.ValueKit
public import Idealize.ShloMosaic.Lib.Claim

@[expose] public section

noncomputable section

namespace Cert.Adam.Bias

open Cert.AdBiasIdeal Cert.AdBiasIdeal.Gen Idealize.ShloMosaic Idealize.ShloMosaic.TcCoe Idealize.SL.Sem

/-! ## One grid point -/

section Point

variable (w g m v : Vec Ideal S16x128 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S16x128 (m ((c : Thread nD τ).loc main_arg0)) shapeCasts_S2x8x128_S16x128 := by
  unfold V
  entry_read
  rfl

theorem entry1 : V m c main_v1 = shapeCast S16x128 (m ((c : Thread nD τ).loc main_arg1)) shapeCasts_S2x8x128_S16x128 := by
  unfold V
  entry_read
  rfl

theorem entry2 : V m c main_v2 = shapeCast S16x128 (m ((c : Thread nD τ).loc main_arg2)) shapeCasts_S2x8x128_S16x128 := by
  unfold V
  entry_read
  rfl

theorem entry3 : V m c main_v3 = shapeCast S16x128 (m ((c : Thread nD τ).loc main_arg3)) shapeCasts_S2x8x128_S16x128 := by
  unfold V
  entry_read
  rfl

/-! ## The claims -/

theorem frame : Cert.quiescent_AdBias := fun m g _ => Cert.AdBias.Gen.frame m g
theorem frameIdeal : Cert.quiescent_AdBiasIdeal := fun m g _ => Cert.AdBiasIdeal.Gen.frame m g

/-- The reference is a straight line of host operations and declares no semaphore. -/
theorem frameRef : Cert.quiescent_RefAdBiasIdeal := fun m g _ =>
  (θ_run Cert.RefAdBiasIdeal.defs _ _).mono (fun r h => ⟨fun c => (h c).2.2.2.2, sem_eq_zero_of_no_sems (by decide) r.2⟩)
    (Cert.RefAdBiasIdeal.Value.run (F := Ideal) m g)

/-- The results of the two programs, from arguments that agree. -/
theorem algebraic : Cert.algebraic_AdBiasIdeal_RefAdBiasIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdBiasIdeal.defs _ _).mono (fun r h c => ?_) (Cert.RefAdBiasIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.Bias

end
-- ==== Proof.Adam.Conv.lean ====
/-
  The optimiser's call on the convolution's weights.
-/
module

public import proofs.«01_k».proof.Defs
public import proofs.«01_k».proof.Proof.Adam.Step
public import proofs.«01_k».proof.Proof.Gen.AdConv.Frame
public import proofs.«01_k».proof.Proof.Gen.AdConvIdeal.Value
public import proofs.«01_k».proof.Proof.Gen.RefAdConvIdeal.Run
public import proofs.«01_k».proof.Proof.Gen.RefAdConvIdeal.Read
public import Idealize.ShloMosaic.Lib.Pipeline.ReadBack
public import Idealize.ShloMosaic.Lib.Pipeline.ValueKit
public import Idealize.ShloMosaic.Lib.Claim

@[expose] public section

noncomputable section

namespace Cert.Adam.Conv

open Cert.AdConvIdeal Cert.AdConvIdeal.Gen Idealize.ShloMosaic Idealize.ShloMosaic.TcCoe Idealize.SL.Sem

/-! ## One grid point -/

section Point

variable (w g m v : Vec Ideal S62x256 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out
  unfold_payloads
  funext i
  pointwise

end Point

/-! ## The grid -/

variable (m : (ℓ : Loc nD τ sig) → Buf (Elt Ideal) ℓ) (c : Dev nD)

theorem final4 : (dats m 0 c).arrAt 4 cfg0.N = fun i => delta (V m c main_v0 i) (V m c main_v1 i) (V m c main_v2 i) (V m c main_v3 i) := by
  refine (dats m 0 c).arrAt_eq_of_covers 4 _ (by decide +kernel) fun t hf y => ?_
  rw [after0_4, out4]
  rfl

theorem final5 : (dats m 0 c).arrAt 5 cfg0.N = fun i => mom (V m c main_v1 i) (V m c main_v2 i) := by
  refine (dats m 0 c).arrAt_eq_of_covers 5 _ (by decide +kernel) fun t hf y => ?_
  rw [after0_5, out5]
  rfl

theorem final6 : (dats m 0 c).arrAt 6 cfg0.N = fun i => sqr (V m c main_v1 i) (V m c main_v3 i) := by
  refine (dats m 0 c).arrAt_eq_of_covers 6 _ (by decide +kernel) fun t hf y => ?_
  rw [after0_6, out6]
  rfl

theorem final7 : (dats m 0 c).arrAt 7 cfg0.N = V m c main_v1 := by
  refine (dats m 0 c).arrAt_eq_of_covers 7 _ (by decide +kernel) fun t hf y => ?_
  rw [after0_7, out7]
  rfl

theorem entry0 : V m c main_v0 = shapeCast S62x256 (m ((c : Thread nD τ).loc main_arg0)) shapeCasts_S2x31x256_S62x256 := by
  unfold V
  entry_read
  rfl

theorem entry1 : V m c main_v1 = shapeCast S62x256 (m ((c : Thread nD τ).loc main_arg1)) shapeCasts_S2x31x256_S62x256 := by
  unfold V
  entry_read
  rfl

theorem entry2 : V m c main_v2 = shapeCast S62x256 (m ((c : Thread nD τ).loc main_arg2)) shapeCasts_S2x31x256_S62x256 := by
  unfold V
  entry_read
  rfl

theorem entry3 : V m c main_v3 = shapeCast S62x256 (m ((c : Thread nD τ).loc main_arg3)) shapeCasts_S2x31x256_S62x256 := by
  unfold V
  entry_read
  rfl

/-! ## The claims -/

theorem frame : Cert.quiescent_AdConv := fun m g _ => Cert.AdConv.Gen.frame m g
theorem frameIdeal : Cert.quiescent_AdConvIdeal := fun m g _ => Cert.AdConvIdeal.Gen.frame m g

/-- The reference is a straight line of host operations and declares no semaphore. -/
theorem frameRef : Cert.quiescent_RefAdConvIdeal := fun m g _ =>
  (θ_run Cert.RefAdConvIdeal.defs _ _).mono (fun r h => ⟨fun c => (h c).2.2.2.2, sem_eq_zero_of_no_sems (by decide) r.2⟩)
    (Cert.RefAdConvIdeal.Value.run (F := Ideal) m g)

/-- The results of the two programs, from arguments that agree. -/
theorem algebraic : Cert.algebraic_AdConvIdeal_RefAdConvIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdConvIdeal.defs _ _).mono (fun r h c => ?_) (Cert.RefAdConvIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, entry0, entry1, entry2, entry3, e0, e1, e2, e3]
    rfl
  · show _ = (dats m 0 c).arrAt 5 cfg0.N
    rw [final5, entry1, entry2, e1, e2]
    rfl
  · show _ = (dats m 0 c).arrAt 6 cfg0.N
    rw [final6, entry1, entry3, e1, e3]
    rfl
  · show _ = (dats m 0 c).arrAt 7 cfg0.N
    rw [final7, entry1, e1]

end Cert.Adam.Conv

end
-- ==== Proof.Adam.Row.lean ====
/-
  The optimiser's call on a weight of one row a layer.
-/
module

public import proofs.«01_k».proof.Defs
public import proofs.«01_k».proof.Proof.Adam.Step
public import proofs.«01_k».proof.Proof.Gen.AdRow.Frame
public import proofs.«01_k».proof.Proof.Gen.AdRowIdeal.Value
public import proofs.«01_k».proof.Proof.Gen.RefAdRowIdeal.Run
public import proofs.«01_k».proof.Proof.Gen.RefAdRowIdeal.Read
public import Idealize.ShloMosaic.Lib.Pipeline.ReadBack
public import Idealize.ShloMosaic.Lib.Pipeline.ValueKit
public import Idealize.ShloMosaic.Lib.Claim

@[expose] public section

noncomputable section

namespace Cert.Adam.Row

open Cert.AdRowIdeal Cert.AdRowIdeal.Gen Idealize.ShloMosaic Idealize.ShloMosaic.TcCoe Idealize.SL.Sem

/-! ## One grid point -/

section Point

variable (w g m v : Vec Ideal S2x1024 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out

end Point

/-! ## The grid -/

variable (m : (ℓ : Loc nD τ sig) → Buf (Elt Ideal) ℓ) (c : Dev nD)

theorem final4 : (dats m 0 c).arrAt 4 cfg0.N = fun i => delta (V m c main_arg0 i) (V m c main_arg1 i) (V m c main_arg2 i) (V m c main_arg3 i) := by
  refine (dats m 0 c).arrAt_eq_of_covers 4 _ (by decide +kernel) fun t hf y => ?_
  rw [after0_4, out4]
  rfl

theorem final5 : (dats m 0 c).arrAt 5 cfg0.N = fun i => mom (V m c main_arg1 i) (V m c main_arg2 i) := by
  refine (dats m 0 c).arrAt_eq_of_covers 5 _ (by decide +kernel) fun t hf y => ?_
  rw [after0_5, out5]
  rfl

theorem final6 : (dats m 0 c).arrAt 6 cfg0.N = fun i => sqr (V m c main_arg1 i) (V m c main_arg3 i) := by
  refine (dats m 0 c).arrAt_eq_of_covers 6 _ (by decide +kernel) fun t hf y => ?_
  rw [after0_6, out6]
  rfl

theorem final7 : (dats m 0 c).arrAt 7 cfg0.N = V m c main_arg1 := by
  refine (dats m 0 c).arrAt_eq_of_covers 7 _ (by decide +kernel) fun t hf y => ?_
  rw [after0_7, out7]
  rfl

/-! ## The claims -/

theorem frame : Cert.quiescent_AdRow := fun m g _ => Cert.AdRow.Gen.frame m g
theorem frameIdeal : Cert.quiescent_AdRowIdeal := fun m g _ => Cert.AdRowIdeal.Gen.frame m g

/-- The reference is a straight line of host operations and declares no semaphore. -/
theorem frameRef : Cert.quiescent_RefAdRowIdeal := fun m g _ =>
  (θ_run Cert.RefAdRowIdeal.defs _ _).mono (fun r h => ⟨fun c => (h c).2.2.2.2, sem_eq_zero_of_no_sems (by decide) r.2⟩)
    (Cert.RefAdRowIdeal.Value.run (F := Ideal) m g)

/-- The results of the two programs, from arguments that agree. -/
theorem algebraic : Cert.algebraic_AdRowIdeal_RefAdRowIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdRowIdeal.defs _ _).mono (fun r h c => ?_) (Cert.RefAdRowIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, V_main_arg0, V_main_arg1, V_main_arg2, V_main_arg3, e0, e1, e2, e3]
    rfl
  · show _ = (dats m 0 c).arrAt 5 cfg0.N
    rw [final5, V_main_arg1, V_main_arg2, e1, e2]
    rfl
  · show _ = (dats m 0 c).arrAt 6 cfg0.N
    rw [final6, V_main_arg1, V_main_arg3, e1, e3]
    rfl
  · show _ = (dats m 0 c).arrAt 7 cfg0.N
    rw [final7, V_main_arg1, e1]

end Cert.Adam.Row

end
-- ==== Proof.Adam.Final.lean ====
/-
  The optimiser's call on the final norm's weights.
-/
module

public import proofs.«01_k».proof.Defs
public import proofs.«01_k».proof.Proof.Adam.Step
public import proofs.«01_k».proof.Proof.Gen.AdFinal.Frame
public import proofs.«01_k».proof.Proof.Gen.AdFinalIdeal.Value
public import proofs.«01_k».proof.Proof.Gen.RefAdFinalIdeal.Run
public import proofs.«01_k».proof.Proof.Gen.RefAdFinalIdeal.Read
public import Idealize.ShloMosaic.Lib.Pipeline.ReadBack
public import Idealize.ShloMosaic.Lib.Pipeline.ValueKit
public import Idealize.ShloMosaic.Lib.Claim

@[expose] public section

noncomputable section

namespace Cert.Adam.Final

open Cert.AdFinalIdeal Cert.AdFinalIdeal.Gen Idealize.ShloMosaic Idealize.ShloMosaic.TcCoe Idealize.SL.Sem

/-! ## One grid point -/

section Point

variable (w g m v : Vec Ideal S1x1024 .f32)

theorem out4 : out0_4 (F := Ideal) w g m v = fun i => delta (w i) (g i) (m i) (v i) := by
  frame_open
  frame_out
  unfold_payloads
  funext i
  pointwise
  rfl

theorem out5 : out0_5 (F := Ideal) w g m v = fun i => mom (g i) (m i) := by
  frame_open
  frame_out
  unfold_payloads
  funext i
  pointwise
  rfl

theorem out6 : out0_6 (F := Ideal) w g m v = fun i => sqr (g i) (v i) := by
  frame_open
  frame_out
  unfold_payloads
  funext i
  pointwise
  rfl

theorem out7 : out0_7 (F := Ideal) w g m v = g := by
  frame_open
  frame_out

end Point

/-! ## The grid -/

variable (m : (ℓ : Loc nD τ sig) → Buf (Elt Ideal) ℓ) (c : Dev nD)

theorem final4 : (dats m 0 c).arrAt 4 cfg0.N = fun i => delta (V m c main_arg0 i) (V m c main_arg1 i) (V m c main_arg2 i) (V m c main_arg3 i) := by
  refine (dats m 0 c).arrAt_eq_of_covers 4 _ (by decide +kernel) fun t hf y => ?_
  rw [after0_4, out4]
  rfl

theorem final5 : (dats m 0 c).arrAt 5 cfg0.N = fun i => mom (V m c main_arg1 i) (V m c main_arg2 i) := by
  refine (dats m 0 c).arrAt_eq_of_covers 5 _ (by decide +kernel) fun t hf y => ?_
  rw [after0_5, out5]
  rfl

theorem final6 : (dats m 0 c).arrAt 6 cfg0.N = fun i => sqr (V m c main_arg1 i) (V m c main_arg3 i) := by
  refine (dats m 0 c).arrAt_eq_of_covers 6 _ (by decide +kernel) fun t hf y => ?_
  rw [after0_6, out6]
  rfl

theorem final7 : (dats m 0 c).arrAt 7 cfg0.N = V m c main_arg1 := by
  refine (dats m 0 c).arrAt_eq_of_covers 7 _ (by decide +kernel) fun t hf y => ?_
  rw [after0_7, out7]
  rfl

/-! ## The claims -/

theorem frame : Cert.quiescent_AdFinal := fun m g _ => Cert.AdFinal.Gen.frame m g
theorem frameIdeal : Cert.quiescent_AdFinalIdeal := fun m g _ => Cert.AdFinalIdeal.Gen.frame m g

/-- The reference is a straight line of host operations and declares no semaphore. -/
theorem frameRef : Cert.quiescent_RefAdFinalIdeal := fun m g _ =>
  (θ_run Cert.RefAdFinalIdeal.defs _ _).mono (fun r h => ⟨fun c => (h c).2.2.2.2, sem_eq_zero_of_no_sems (by decide) r.2⟩)
    (Cert.RefAdFinalIdeal.Value.run (F := Ideal) m g)

/-- The results of the two programs, from arguments that agree. -/
theorem algebraic : Cert.algebraic_AdFinalIdeal_RefAdFinalIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Value.run_blocks m g, ?_⟩
  refine (θ_run Cert.RefAdFinalIdeal.defs _ _).mono (fun r h c => ?_) (Cert.RefAdFinalIdeal.Value.run (F := Ideal) m' g')
  obtain ⟨e0, e1, e2, e3⟩ := hagree c
  refine ⟨(h c).1.trans ?_, (h c).2.1.trans ?_, (h c).2.2.1.trans ?_, (h c).2.2.2.1.trans ?_, (h c).2.2.2.2⟩
  · show _ = (dats m 0 c).arrAt 4 cfg0.N
    rw [final4, V_main_arg0, V_main_arg1, V_main_arg2, V_main_arg3, e0, e1, e2, e3]
    rfl
  · show _ = (dats m 0 c).arrAt 5 cfg0.N
    rw [final5, V_main_arg1, V_main_arg2, e1, e2]
    rfl
  · show _ = (dats m 0 c).arrAt 6 cfg0.N
    rw [final6, V_main_arg1, V_main_arg3, e1, e3]
    rfl
  · show _ = (dats m 0 c).arrAt 7 cfg0.N
    rw [final7, V_main_arg1, e1]

end Cert.Adam.Final

end
-- ==== Proof.Mem.AttF.lean ====
/-
  The attention over the memory in the forward pass: four heads of 256 columns each, every row's weights a softmax over the 256 memory rows,
  and the result gated. Nothing is asked of the entries.
-/
module

public import proofs.«01_k».proof.Defs
public import proofs.«01_k».proof.Proof.CallMergeF.Tiles
public import proofs.«01_k».proof.Proof.Gen.AttF.Frame
public import proofs.«01_k».proof.Proof.Gen.AttFIdeal.Value
public import proofs.«01_k».proof.Proof.Gen.RefAttFIdeal.Run
public import proofs.«01_k».proof.Proof.Gen.RefAttFIdeal.Read
public import Idealize.ShloMosaic.Lib.Pipeline.ReadBack
public import Idealize.ShloMosaic.Lib.Pipeline.ValueKit
public import Idealize.ShloMosaic.Lib.Claim

@[expose] public section

noncomputable section

namespace Cert.Mem.AttF

open Cert.AttFIdeal Cert.AttFIdeal.Gen Idealize.ShloMosaic Idealize.ShloMosaic.TcCoe Idealize.SL.Sem
open Cert.Ext Cert.CallMergeF Cert.RefAttFIdeal.Read

/-! ## One head -/

/-- The greatest of 256 entries. -/
def top (f : ℕ → EReal) : EReal := Finset.fold max (Ideal.ofBits .f32 0xFF800000#32) (fun k : Fin 256 => f k) Finset.univ

/-- The scaled products of the queries' rows with the keys. -/
def score (q k : ℕ → ℕ → EReal) (i m : ℕ) : EReal := (∑ e : Fin 256, q i e * k e m) * Ideal.ofBits .f32 0x3D800000#32

/-- The exponentials of a row's entries, from the greatest of them. -/
def num (s : ℕ → ℕ → EReal) (i m : ℕ) : EReal := Ideal.exp (s i m - top (s i))

/-- The softmax of a row. -/
def soft (s : ℕ → ℕ → EReal) (i m : ℕ) : EReal := Ideal.div (num s i m) (∑ k : Fin 256, num s i k)

/-- The mean of the values, by the weights of the softmax. -/
def head (q k v : ℕ → ℕ → EReal) (i j : ℕ) : EReal := ∑ m : Fin 256, soft (score q k) i m * v m j

/-- The gated result: column `j` belongs to head `j / 256`. -/
def att (q g k v : ℕ → ℕ → EReal) (i j : ℕ) : EReal :=
  head (fun i e => q i (256 * (j / 256) + e)) (fun e m => k (256 * (j / 256) + e) m) v i j * silu (g i j)

/-! ## The kernel -/

section Kernel

variable {φ : FTy} (a b q g k v : ℕ → ℕ → EReal)

theorem matmul_ev : matmul dot_S256x256_S256x256_S256x256_1_0_0_1_n_n none
    (ev a : FVec Ideal S256x256 .bf16) (ev b : FVec Ideal S256x256 .bf16) (constant S256x256 .f32 0x00000000#32)
    = (ev fun i j => ∑ k : Fin 256, a i k * b k j) := by
  funext i
  pointwise [dot_S256x256_S256x256_S256x256_1_0_0_1_n_n]
  simp only [ev_apply]; rfl

theorem rowMax_ev (hr : (⟨2, ![256, 256]⟩ : Shape).Reduces [1] ⟨1, ![256]⟩) (hc : (⟨1, ![256]⟩ : Shape).ShapeCasts ⟨2, ![256, 1]⟩)
    (hb : (⟨2, ![256, 1]⟩ : Shape).Broadcasts ⟨2, ![256, 256]⟩) :
    broadcastTo ⟨2, ![256, 256]⟩ (shapeCast ⟨2, ![256, 1]⟩
      (reduceFold hr FloatOps.maximumf (Ideal.ofBits .f32 0xFF800000#32) (ev a : FVec Ideal ⟨2, ![256, 256]⟩ .f32)) hc) hb
      = ev (φ := .f32) fun i _ => top (a i) := by
  funext i; pointwise; rfl

theorem rowSum_ev (hr : (⟨2, ![256, 256]⟩ : Shape).Reduces [1] ⟨1, ![256]⟩) (hc : (⟨1, ![256]⟩ : Shape).ShapeCasts ⟨2, ![256, 1]⟩)
    (hb : (⟨2, ![256, 1]⟩ : Shape).Broadcasts ⟨2, ![256, 256]⟩) :
    broadcastTo ⟨2, ![256, 256]⟩ (shapeCast ⟨2, ![256, 1]⟩ (Ideal.reduceAdd hr (ev a : FVec Ideal ⟨2, ![256, 256]⟩ φ)) hc) hb
      = ev (φ := φ) fun i _ => ∑ k : Fin 256, a i k := by
  funext i; pointwise; rfl

theorem broadcast_bits (x : BitVec φ.bits) : (broadcast S256x256 (Ideal.ofBits φ x : Ideal φ) : FVec Ideal S256x256 φ) = ev fun _ _ => Ideal.ofBits φ x := rfl

/-- A head's stored part, from the parts of the blocks it reads. -/
def part (q g k v : ℕ → ℕ → EReal) : FVec Ideal S256x256 .bf16 := ev fun i j => head q k v i j * silu (g i j)

theorem pay2_ev : k0_pay2 (F := Ideal) (ev (φ := .f32) q) (ev (φ := .bf16) k) (ev (φ := .bf16) v) (ev (φ := .f32) g) = part q g k v := by
  unfold_payloads
  simp only [multiReductionOpen, Ideal.reduceAdd_def, matmul_ev, rowMax_ev, rowSum_ev, mulf_ev, divf_ev, subf_ev, exp_ev, addf_ev, broadcast_bits, truncf_ev, shapeCast_self_ev, Ideal.ofBits_def]
  rfl

theorem pay5_ev : k0_pay5 (F := Ideal) (k0_pay3 (ev (φ := .f32) q)) (k0_pay4 (ev (φ := .bf16) k)) (constant S256x256 .f32 0x00000000#32)
    (ev (φ := .bf16) v) (ev (φ := .f32) g) = part q g k v :=
  pay2_ev q g k v

theorem pay7_ev : k0_pay7 (F := Ideal) (k0_pay6 (ev (φ := .f32) q) (ev (φ := .bf16) k)) (ev (φ := .bf16) v) (ev (φ := .f32) g) = part q g k v :=
  pay2_ev q g k v

theorem pay1_ev : k0_pay1 (F := Ideal) (k0_pay8 (ev (φ := .f32) q) (ev (φ := .bf16) k)) (ev (φ := .bf16) v) (constant S256x256 .f32 0x00000000#32)
    (ev (φ := .f32) g) = part q g k v :=
  pay2_ev q g k v

/-- A head's entries in the whole result. -/
theorem part_at (o h : ℕ) (ho : o = 256 * h) {i j : ℕ} (hj : j < 256) :
    head (fun i e => q i (o + e)) (fun e m => k (o + e) m) (fun m j => v m (o + j)) i j * silu (g i (o + j)) = att q g k v i (o + j) := by
  subst ho
  unfold att
  rw [show (256 * h + j) / 256 = h by omega]
  rfl

theorem ld0_f32 : View.ld (Val := Elt Ideal) (e' := .f32) (ev q : FVec Ideal S256x1024 .f32) r0_0 = (ev fun i j => q i (0 + j) : FVec Ideal S256x256 .f32) :=
  (ld_ev_f32 q _).trans (by simp only [Nat.zero_add])
theorem ld2_f32 : View.ld (Val := Elt Ideal) (e' := .f32) (ev q : FVec Ideal S256x1024 .f32) r0_2 = (ev fun i j => q i (256 + j) : FVec Ideal S256x256 .f32) :=
  (ld_ev_f32 q _).trans (by simp only [Nat.zero_add])
theorem ld4_f32 : View.ld (Val := Elt Ideal) (e' := .f32) (ev q : FVec Ideal S256x1024 .f32) r0_4 = (ev fun i j => q i (512 + j) : FVec Ideal S256x256 .f32) :=
  (ld_ev_f32 q _).trans (by simp only [Nat.zero_add])
theorem ld6_f32 : View.ld (Val := Elt Ideal) (e' := .f32) (ev q : FVec Ideal S256x1024 .f32) r0_6 = (ev fun i j => q i (768 + j) : FVec Ideal S256x256 .f32) :=
  (ld_ev_f32 q _).trans (by simp only [Nat.zero_add])
theorem ld0_bf16 : View.ld (Val := Elt Ideal) (e' := .bf16) (ev v : FVec Ideal S256x1024 .bf16) r0_0 = (ev fun i j => v i (0 + j) : FVec Ideal S256x256 .bf16) :=
  (ld_ev_bf16 v _).trans (by simp only [Nat.zero_add])
theorem ld2_bf16 : View.ld (Val := Elt Ideal) (e' := .bf16) (ev v : FVec Ideal S256x1024 .bf16) r0_2 = (ev fun i j => v i (256 + j) : FVec Ideal S256x256 .bf16) :=
  (ld_ev_bf16 v _).trans (by simp only [Nat.zero_add])
theorem ld4_bf16 : View.ld (Val := Elt Ideal) (e' := .bf16) (ev v : FVec Ideal S256x1024 .bf16) r0_4 = (ev fun i j => v i (512 + j) : FVec Ideal S256x256 .bf16) :=
  (ld_ev_bf16 v _).trans (by simp only [Nat.zero_add])
theorem ld6_bf16 : View.ld (Val := Elt Ideal) (e' := .bf16) (ev v : FVec Ideal S256x1024 .bf16) r0_6 = (ev fun i j => v i (768 + j) : FVec Ideal S256x256 .bf16) :=
  (ld_ev_bf16 v _).trans (by simp only [Nat.zero_add])
theorem ld1 : View.ld (Val := Elt Ideal) (e' := .bf16) (ev k : FVec Ideal S1024x256 .bf16) r0_1 = (ev fun i j => k (0 + i) j : FVec Ideal S256x256 .bf16) :=
  (ld_ev_bf16 k _).trans (by simp only [Nat.zero_add])
theorem ld3 : View.ld (Val := Elt Ideal) (e' := .bf16) (ev k : FVec Ideal S1024x256 .bf16) r0_3 = (ev fun i j => k (256 + i) j : FVec Ideal S256x256 .bf16) :=
  (ld_ev_bf16 k _).trans (by simp only [Nat.zero_add])
theorem ld5 : View.ld (Val := Elt Ideal) (e' := .bf16) (ev k : FVec Ideal S1024x256 .bf16) r0_5 = (ev fun i j => k (512 + i) j : FVec Ideal S256x256 .bf16) :=
  (ld_ev_bf16 k _).trans (by simp only [Nat.zero_add])
theorem ld7 : View.ld (Val := Elt Ideal) (e' := .bf16) (ev k : FVec Ideal S1024x256 .bf16) r0_7 = (ev fun i j => k (768 + i) j : FVec Ideal S256x256 .bf16) :=
  (ld_ev_bf16 k _).trans (by simp only [Nat.zero_add])

/-- What a point leaves in the result's block. -/
theorem out_ev : out0_4 (F := Ideal) (ev (φ := .f32) q) (ev (φ := .f32) g) (ev (φ := .bf16) k) (ev (φ := .bf16) v) = ev (φ := .bf16) (att q g k v) := by
  rw [out0_4, ld0_f32, ld0_f32, ld2_f32, ld2_f32, ld4_f32, ld4_f32, ld6_f32, ld6_f32, ld0_bf16, ld2_bf16, ld4_bf16, ld6_bf16, ld1, ld3, ld5, ld7,
    pay2_ev, pay5_ev, pay7_ev, pay1_ev]
  funext y
  refine canon_cons_bf16 _ _ rfl (fun i _ j hj => by rw [Nat.zero_add]; exact part_at q g k v 768 3 rfl hj) fun h3 => ?_
  refine canon_cons_bf16 _ _ rfl (fun i _ j hj => by rw [Nat.zero_add]; exact part_at q g k v 512 2 rfl hj) fun h2 => ?_
  refine canon_cons_bf16 _ _ rfl (fun i _ j hj => by rw [Nat.zero_add]; exact part_at q g k v 256 1 rfl hj) fun h1 => ?_
  refine canon_cons_bf16 _ _ rfl (fun i _ j hj => by rw [Nat.zero_add]; exact part_at q g k v 0 0 rfl hj) fun h0 => ?_
  have hy : (y 0).val < 256 := (y 0).isLt
  have hz : (y 1).val < 1024 := (y 1).isLt
  omega

end Kernel

/-- The result's entries, from the rows' queries and gates and the memory's keys and values. -/
def res (Z M : ℕ → ℕ → EReal) : ℕ → ℕ → EReal :=
  att (fun i j => Z i (6144 + j)) (fun i j => Z i (7168 + j)) (fun e r => M r e) (fun r e => M r (1024 + e))

section Grid

variable (m : (ℓ : Loc nD τ sig) → Buf (Elt Ideal) ℓ) (c : Dev nD) (Z M : ℕ → ℕ → EReal)

theorem idx0 : ∀ t : Fin grid0.N, win0_0.index t = ![t.val, 6] := by decide +kernel
theorem idx1 : ∀ t : Fin grid0.N, win0_1.index t = ![t.val, 7] := by decide +kernel
theorem idx2 : ∀ t : Fin grid0.N, win0_2.index t = ![0, 0] := by decide +kernel
theorem idx3 : ∀ t : Fin grid0.N, win0_3.index t = ![0, 1] := by decide +kernel
theorem idx4 : ∀ t : Fin grid0.N, win0_4.index t = ![t.val, 0] := by decide +kernel

variable {m c Z M} (h0 : V m c main_arg0 = (ev (φ := .f32) Z : FVec Ideal S8192x11264 .f32)) (h1 : V m c main_arg1 = (ev (φ := .bf16) M : FVec Ideal S256x2048 .bf16))
  (t : Fin cfg0.N)

include h0 in
theorem block0 : iblk m c 0 t = (ev (φ := .f32) (fun i j => Z (256 * t.val + i) (6144 + j)) : FVec Ideal S256x1024 .f32) := by
  funext y
  blk_simp [iblk]
  rw [h0]
  refine ev_at ?_
  blk_simp [idx0 t]
  simp only [Nat.mul_comm]

include h0 in
theorem block1 : iblk m c 1 t = (ev (φ := .f32) (fun i j => Z (256 * t.val + i) (7168 + j)) : FVec Ideal S256x1024 .f32) := by
  funext y
  blk_simp [iblk]
  rw [h0]
  refine ev_at ?_
  blk_simp [idx1 t]
  simp only [Nat.mul_comm]

include h1 in
/-- The transposed memory, as the host leaves it. -/
theorem entry : V m c main_v0 = (ev (φ := .bf16) (fun e r => M r e) : FVec Ideal S2048x256 .bf16) := by
  have h := (V_main_arg1 m c).symm.trans h1
  unfold V
  simp only [hostOps0]
  entry_read
  erw [h]
  funext i
  pointwise
  rfl

include h1 in
theorem block2 : iblk m c 2 t = (ev (φ := .bf16) (fun e r => M r e) : FVec Ideal S1024x256 .bf16) := by
  funext y
  blk_simp [iblk]
  rw [entry h1]
  refine ev_at ?_
  blk_simp [idx2 t]

include h1 in
theorem block3 : iblk m c 3 t = (ev (φ := .bf16) (fun r e => M r (1024 + e)) : FVec Ideal S256x1024 .bf16) := by
  funext y
  blk_simp [iblk]
  rw [h1]
  refine ev_at ?_
  blk_simp [idx3 t]

include h0 h1 in
theorem after4 : (dats m 0 c).after 4 t = (ev (φ := .bf16) (fun i j => res Z M (256 * t.val + i) j) : FVec Ideal S256x1024 .bf16) := by
  rw [after0_4, block0 h0, block1 h0, block2 h1, block3 h1]
  exact out_ev ..

include h0 h1 in
theorem final4 : (dats m 0 c).arrAt 4 cfg0.N = (ev (φ := .bf16) (res Z M) : FVec Ideal S8192x1024 .bf16) := by
  refine (dats m 0 c).arrAt_eq_of_covers 4 _ (by decide +kernel) fun t hf y => ?_
  blk_simp
  rw [after4 h0 h1]
  refine ev_at ?_
  blk_simp [idx4 t]
  simp only [Nat.mul_comm]

end Grid

/-! ## The reference -/

section Reference

open Cert.RefAttFIdeal (S8192x4x256 S256x4x256 S4x8192x256 S4x8192)

variable (Z M : ℕ → ℕ → EReal)

/-- The products of the queries with the keys, of head `h`. -/
def scoreOf (h : ℕ) : ℕ → ℕ → EReal := score (fun i e => Z i (6144 + (256 * h + e))) fun e m => M m (256 * h + e)

abbrev z : FVec Ideal S8192x11264 .f32 := ev Z
abbrev y : FVec Ideal S256x2048 .bf16 := ev M

theorem s2 : val_main_v2 (F := Ideal) (z Z) = (ev (φ := .f32) fun i j => Z i (7168 + j) : FVec Ideal S8192x1024 .f32) := by
  funext i; rw [val_main_v2_apply]; rfl

theorem s5 : val_main_v5 (F := Ideal) (z Z) = (ev3 (φ := .f32) fun s h e => Z s (6144 + (256 * h + e)) : FVec Ideal S8192x4x256 .f32) := by
  funext i
  have h1 : (i 1).val < 4 := (i 1).isLt
  have h2 : (i 2).val < 256 := (i 2).isLt
  rw [val_main_v5_apply, val_main_v1_apply]
  exact congrArg₂ Z (by dsimp only; omega) (by dsimp only; omega)

theorem s6 : val_main_v6 (F := Ideal) (y M) = (ev3 (φ := .f32) fun m h e => M m (256 * h + e) : FVec Ideal S256x4x256 .f32) := by
  funext i
  have h1 : (i 1).val < 4 := (i 1).isLt
  have h2 : (i 2).val < 256 := (i 2).isLt
  rw [val_main_v6_apply, val_main_v3_apply, val_main_v0_apply]
  exact congrArg₂ M (by dsimp only; omega) (by dsimp only; omega)

theorem s7 : val_main_v7 (F := Ideal) (y M) = (ev3 (φ := .f32) fun m h e => M m (1024 + (256 * h + e)) : FVec Ideal S256x4x256 .f32) := by
  funext i
  have h1 : (i 1).val < 4 := (i 1).isLt
  have h2 : (i 2).val < 256 := (i 2).isLt
  rw [val_main_v7_apply, val_main_v4_apply, val_main_v0_apply]
  exact congrArg₂ M (by dsimp only; omega) (by dsimp only; omega)

theorem s10 : val_main_v10 (F := Ideal) (z Z) (y M) = (ev3 (φ := .f32) fun h s m => scoreOf Z M h s m : FVec Ideal S4x8192x256 .f32) := by
  funext i
  rw [val_main_v10_apply, val_main_v8_apply, s5, s6, val_main_v9_apply]
  rfl

theorem s13 : val_main_v13 (F := Ideal) (z Z) (y M) = (ev (φ := .f32) fun h s => top (scoreOf Z M h s) : FVec Ideal S4x8192 .f32) := by
  funext i
  have hr : S4x8192x256.Reduces [2] S4x8192 := by decide
  have e : val_main_v11 (F := Ideal) (z Z) (y M) i = top (scoreOf Z M (i 0).val (i 1).val) := by
    unfold val_main_v11
    rw [s10]
    exact Host.reduce_eq_fold_single (α := EReal) max _ _ _ hr _ i
  rw [val_main_v13_apply, val_main_v12_apply, e]
  exact max_eq_right ((Finset.le_fold_max _).mpr (.inl le_rfl))

theorem s17 : val_main_v17 (F := Ideal) (z Z) (y M) = (ev3 (φ := .f32) fun h s m => num (scoreOf Z M h) s m : FVec Ideal S4x8192x256 .f32) := by
  funext i
  rw [val_main_v17_apply, val_main_v16_apply, s10, val_main_v15_apply, val_main_v14_apply, s13]
  rfl

theorem s21 : val_main_v21 (F := Ideal) (z Z) (y M) = (ev3 (φ := .f32) fun h s m => soft (scoreOf Z M h) s m : FVec Ideal S4x8192x256 .f32) := by
  funext i
  rw [val_main_v21_apply, val_main_v20_apply, val_main_v19_apply, val_main_v18_apply, s17]
  exact congrArg (Ideal.div (num (scoreOf Z M (i 0).val) (i 1).val (i 2).val)) (start_sum fun k => rfl)

theorem s24 : val_main_v24 (F := Ideal) (z Z) (y M)
    = (ev (φ := .f32) fun s j => head (fun i e => Z i (6144 + (256 * (j / 256) + e))) (fun e m => M m (256 * (j / 256) + e)) (fun r e => M r (1024 + e)) s j :
      FVec Ideal S8192x1024 .f32) := by
  funext i
  have h0 : (i 0).val < 8192 := (i 0).isLt
  have h1 : (i 1).val < 1024 := (i 1).isLt
  rw [val_main_v24_apply, val_main_v23_apply, val_main_v22_apply, s7, s21]
  show _ = ∑ m : Fin 256, soft (scoreOf Z M ((i 1).val / 256)) (i 0).val m * M m (1024 + (i 1).val)
  refine sum_eq fun m => ?_
  show M m (1024 + (256 * (((i 0).val * 1024 + (i 1).val) / 256 % 4) + ((i 0).val * 1024 + (i 1).val) % 256))
    * soft (scoreOf Z M (((i 0).val * 1024 + (i 1).val) / 256 % 4)) (((i 0).val * 1024 + (i 1).val) / 1024) m = _
  rw [show ((i 0).val * 1024 + (i 1).val) / 256 % 4 = (i 1).val / 256 by omega, show ((i 0).val * 1024 + (i 1).val) / 1024 = (i 0).val by omega,
    show 256 * ((i 1).val / 256) + ((i 0).val * 1024 + (i 1).val) % 256 = (i 1).val by omega]
  exact mul_comm _ _

theorem s25 : val_main_v25 (F := Ideal) (z Z) = (ev (φ := .f32) fun i j => silu (Z i (7168 + j)) : FVec Ideal S8192x1024 .f32) := by
  funext i
  rw [val_main_v25_apply, val_main_call0_v5_apply, val_main_call0_v4_apply, val_main_call0_cst_0_apply, val_main_call0_v3_apply, val_main_call0_v2_apply,
    val_main_call0_cst_apply, val_main_call0_v1_apply, val_main_call0_v0_apply, s2]
  exact congrArg (fun a : EReal => _ * a) (sigm_neg _)

theorem reference : val_main_v27 (F := Ideal) (z Z) (y M) = (ev (φ := .bf16) (res Z M) : FVec Ideal S8192x1024 .bf16) := by
  funext i
  rw [val_main_v27_apply, val_main_v26_apply, s24, s25]
  rfl

end Reference

/-! ## The claims -/

theorem frame : Cert.quiescent_AttF := fun m g _ => Cert.AttF.Gen.frame m g
theorem frameIdeal : Cert.quiescent_AttFIdeal := fun m g _ => Cert.AttFIdeal.Gen.frame m g

/-- The reference is a straight line of host operations and declares no semaphore. -/
theorem frameRef : Cert.quiescent_RefAttFIdeal := fun m g _ =>
  (θ_run Cert.RefAttFIdeal.defs _ _).mono (fun r h => ⟨fun c => (h c).2, sem_eq_zero_of_no_sems (by decide) r.2⟩)
    (Cert.RefAttFIdeal.Value.run (F := Ideal) m g)

/-- The results of the two programs, from arguments that agree. -/
theorem algebraic : Cert.algebraic_AttFIdeal_RefAttFIdeal := by
  intro m g m' g' _ hagree
  refine ⟨fun c => (dats m 0 c).arrAt 4 cfg0.N, Value.run_blocks m g, ?_⟩
  refine (θ_run Cert.RefAttFIdeal.defs _ _).mono (fun r h c => ?_) (Cert.RefAttFIdeal.Value.run (F := Ideal) m' g')
  obtain ⟨e0, e1⟩ := hagree c
  obtain ⟨Z, hZ⟩ := exists_ev (φ := .f32) (m ((c : Thread nD τ).loc main_arg0))
  obtain ⟨M, hM⟩ := exists_ev (φ := .bf16) (m ((c : Thread nD τ).loc main_arg1))
  refine ⟨(h c).1.trans ?_, (h c).2⟩
  show _ = (dats m 0 c).arrAt 4 cfg0.N
  rw [final4 ((V_main_arg0 m c).trans hZ) ((V_main_arg1 m c).trans hM), e0, e1, hZ, hM]
  exact (val_main_v27_eq _ _).trans (reference Z M)

end Cert.Mem.AttF

end
-- ==== Proof.Mem.Base.lean ====
/-
  The memory's rows, each divided by the root of the mean of its squares and weighted; and sums, spreads and products at the sizes the memory
  and the attention over it take.
-/
module

public import proofs.«01_k».proof.Proof.Ext
public import proofs.«01_k».proof.Proof.CallMergeF.Model

@[expose] public section

noncomputable section

namespace Cert.Mem

open Cert.Ext Cert.CallMergeF Idealize.ShloMosaic

variable {φ : FTy} {n0 n1 : ℕ}

/-- What row `i` is multiplied by. -/
def inv (X : ℕ → ℕ → EReal) (i : ℕ) : EReal :=
  Ideal.rsqrt (Ideal.div (∑ k : Fin 1024, X i k * X i k) (Ideal.ofBits .f32 0x44800000#32) + Ideal.ofBits .f32 0x358637BD#32)

/-- The rows, normalized and weighted. -/
def nrm (X G : ℕ → ℕ → EReal) (i j : ℕ) : EReal := X i j * inv X i * G 0 j

/-! ## Spreads and sums -/

/-- A column, spread over the rows' entries. -/
theorem spreadCol_ev (a : ℕ → ℕ → EReal) (h : (⟨2, ![256, 1]⟩ : Shape).Broadcasts ⟨2, ![256, 1024]⟩) :
    broadcastTo ⟨2, ![256, 1024]⟩ (ev a : FVec Ideal ⟨2, ![256, 1]⟩ φ) h = ev fun i _ => a i 0 := by
  funext i; pointwise; rfl

/-- A row, spread over the rows. -/
theorem spreadRow_ev (a : ℕ → ℕ → EReal) (h : (⟨2, ![1, 1024]⟩ : Shape).Broadcasts ⟨2, ![256, 1024]⟩) :
    broadcastTo ⟨2, ![256, 1024]⟩ (ev a : FVec Ideal ⟨2, ![1, 1024]⟩ φ) h = ev fun _ j => a 0 j := by
  funext i; pointwise; rfl

/-- The sums of the rows, as a column. -/
theorem rowSum_ev (a : ℕ → ℕ → EReal) (hr : (⟨2, ![256, 1024]⟩ : Shape).Reduces [1] ⟨1, ![256]⟩) (hc : (⟨1, ![256]⟩ : Shape).ShapeCasts ⟨2, ![256, 1]⟩) :
    shapeCast ⟨2, ![256, 1]⟩ (Ideal.reduceAdd hr (ev a : FVec Ideal ⟨2, ![256, 1024]⟩ φ)) hc = ev (φ := φ) fun i _ => ∑ k : Fin 1024, a i k := by
  funext i; pointwise; rfl

/-- The sums of the columns, as a row. -/
theorem colSum_ev (a : ℕ → ℕ → EReal) (hr : (⟨2, ![256, 1024]⟩ : Shape).Reduces [0] ⟨1, ![1024]⟩) (hc : (⟨1, ![1024]⟩ : Shape).ShapeCasts ⟨2, ![1, 1024]⟩) :
    shapeCast ⟨2, ![1, 1024]⟩ (Ideal.reduceAdd hr (ev a : FVec Ideal ⟨2, ![256, 1024]⟩ φ)) hc = ev (φ := φ) fun _ j => ∑ k : Fin 256, a k j := by
  funext i; pointwise; rfl

/-! ## Stores of a part of a block -/

section Parts
variable {n2 m0 m1 m2 o0 o1 o2 : ℕ}

/-- A block of rank 3 with a part stored last, at an index of the part and at another. -/
theorem canon_cons3_f32 (inb : ∀ x, (![o0, o1, o2] : Fin 3 → ℕ) x + (![m0, m1, m2] : Fin 3 → ℕ) x ≤ (⟨3, ![n0, n1, n2]⟩ : Shape).size x)
    {p : FVec Ideal ⟨3, ![m0, m1, m2]⟩ .f32} (f : ℕ → ℕ → ℕ → EReal) {g : ℕ → ℕ → ℕ → EReal} {L : List (View.Piece (Elt Ideal) ⟨3, ![n0, n1, n2]⟩ .f32)}
    {y : (⟨3, ![n0, n1, n2]⟩ : Shape).Idx} (hp : p = ev3 f) (hf : ∀ i < m0, ∀ j < m1, ∀ k < m2, f i j k = g (o0 + i) (o1 + j) (o2 + k))
    (hL : ¬(o0 ≤ (y 0).val ∧ (y 0).val < o0 + m0 ∧ o1 ≤ (y 1).val ∧ (y 1).val < o1 + m1 ∧ o2 ≤ (y 2).val ∧ (y 2).val < o2 + m2) →
      View.canon L y = g (y 0).val (y 1).val (y 2).val) :
    View.canon (Val := Elt Ideal) (e := .f32) (⟨Rect.unit ![o0, o1, o2] ![m0, m1, m2] inb, p⟩ :: L) y = g (y 0).val (y 1).val (y 2).val := by
  by_cases h : y ∈ (Rect.unit (s := ⟨3, ![n0, n1, n2]⟩) ![o0, o1, o2] ![m0, m1, m2] inb).set
  · obtain ⟨x, rfl⟩ := LoadRect.exists_idx_of_mem _ h
    refine (View.canon_cons_emb _ _ _ x).trans ((congrFun hp x).trans ((hf _ (x 0).isLt _ (x 1).isLt _ (x 2).isLt).trans ?_))
    rw [unit_idx_val, unit_idx_val, unit_idx_val]; rfl
  · refine (View.canon_cons_of_not_mem _ _ h).trans (hL fun hy => h (Rect.mem_set_unit.mpr ?_))
    exact fun d => match d with | ⟨0, _⟩ => ⟨hy.1, hy.2.1⟩ | ⟨1, _⟩ => ⟨hy.2.2.1, hy.2.2.2.1⟩ | ⟨2, _⟩ => hy.2.2.2.2

end Parts

end Cert.Mem

end
-- ==== Proof.Mem.KvF.lean ====
/-
  The memory's projection: the memory, normalized; its product with the layer's weights; and that product transposed.
-/
module

public import proofs.«01_k».proof.Defs
public import proofs.«01_k».proof.Proof.Mem.Base
public import proofs.«01_k».proof.Proof.Gen.KvF.Frame
public import proofs.«01_k».proof.Proof.Gen.KvFIdeal.Value
public import proofs.«01_k».proof.Proof.Gen.RefKvFIdeal.Run
public import proofs.«01_k».proof.Proof.Gen.RefKvFIdeal.Read
public import Idealize.ShloMosaic.Lib.Pipeline.ReadBack
public import Idealize.ShloMosaic.Lib.Pipeline.ValueKit
public import Idealize.ShloMosaic.Lib.Claim

@[expose] public section

noncomputable section

namespace Cert.Mem.KvF

open Cert.KvFIdeal Cert.KvFIdeal.Gen Idealize.ShloMosaic Idealize.ShloMosaic.TcCoe Idealize.SL.Sem
open Cert.Ext Cert.CallMergeF Cert.Mem Cert.RefKvFIdeal.Read

/-- The projection's entry at row `i` and column `j`. -/
def proj (X G : ℕ → ℕ → EReal) (W : ℕ → ℕ → ℕ → EReal) (i j : ℕ) : EReal := ∑ k : Fin 1024, nrm X G i k * W 0 k j

section Values

variable (X G : ℕ → ℕ → EReal) (W : ℕ → ℕ → ℕ → EReal)

/-! ## The kernel -/

theorem pay1_ev : k0_pay1 (F := Ideal) (ev (φ := .f32) X) (ev (φ := .f32) G) = ev (φ := .bf16) (nrm X G) := by
  unfold_payloads
  simp only [multiReductionOpen, Ideal.reduceAdd_def, rowSum_ev, spreadCol_ev, spreadRow_ev, mulf_ev, divf_ev, rsqrt_ev, addf_ev, broadcast_ev, truncf_ev, shapeCast_self_ev]
  rfl

theorem weights_ev (h : (⟨3, ![1, 1024, 2048]⟩ : Shape).ShapeCasts ⟨2, ![1024, 2048]⟩) :
    shapeCast ⟨2, ![1024, 2048]⟩ (ev3 W : FVec Ideal ⟨3, ![1, 1024, 2048]⟩ .bf16) h = ev fun i j => W 0 i j := by
  funext i; pointwise; rfl

theorem matmul_ev (a b : ℕ → ℕ → EReal) : matmul dot_S256x1024_S1024x2048_S256x2048_1_0_0_1_n_n none
    (ev a : FVec Ideal S256x1024 .bf16) (ev b : FVec Ideal S1024x2048 .bf16) (constant S256x2048 .f32 0x00000000#32)
    = (ev fun i j => ∑ k : Fin 1024, a i k * b k j) := by
  funext i
  pointwise [dot_S256x1024_S1024x2048_S256x2048_1_0_0_1_n_n]
  simp only [ev_apply]; rfl

theorem pay2_ev : k0_pay2 (F := Ideal) (ev (φ := .f32) X) (ev (φ := .f32) G) (ev3 (φ := .bf16) W) = ev (φ := .f32) (proj X G W) := by
  rw [k0_pay2, pay1_ev]
  simp only [weights_ev, matmul_ev]
  rfl

theorem pay4_ev : k0_pay4 (F := Ideal) (ev (φ := .f32) X) (ev (φ := .f32) G) (ev3 (φ := .bf16) W) = ev (φ := .bf16) fun i j => proj X G W j i := by
  rw [k0_pay4, pay2_ev]
  funext i
  pointwise
  rfl

theorem out3_ev : out0_3 (F := Ideal) (ev (φ := .f32) X) (ev (φ := .f32) G) (ev3 (φ := .bf16) W) = ev (φ := .bf16) (nrm X G) := by
  frame_open
  frame_out
  exact pay1_ev X G

theorem out4_ev : out0_4 (F := Ideal) (ev (φ := .f32) X) (ev (φ := .f32) G) (ev3 (φ := .bf16) W) = ev (φ := .bf16) (proj X G W) := by
  frame_open
  frame_out
  exact pay2_ev X G W

theorem out5_ev : out0_5 (F := Ideal) (ev (φ := .f32) X) (ev (φ := .f32) G) (ev3 (φ := .bf16) W) = ev (φ := .bf16) fun i j => proj X G W j i := by
  frame_open
  frame_out
  exact pay4_ev X G W

/-! ## The reference -/

theorem ref11_ev : val_main_v11 (F := Ideal) (ev (φ := .f32) X) (ev (φ := .f32) G) = ev (φ := .f32) (nrm X G) := by
  funext i
  rw [val_main_v11_apply, val_main_v9_apply, val_main_v8_apply, val_main_v7_apply, val_main_v6_apply, val_main_v4_apply, val_main_v2_apply,
    val_main_v1_apply, val_main_v10_apply]
  exact congrArg (fun s : EReal => X (i 0).val (i 1).val * Ideal.rsqrt (Ideal.div s (Ideal.ofBits .f32 0x44800000#32) + Ideal.ofBits .f32 0x358637BD#32) * G 0 (i 1).val)
    (start_sum fun k => rfl)

theorem ref14_ev : val_main_v14 (F := Ideal) (ev (φ := .f32) X) (ev (φ := .f32) G) (ev3 (φ := .bf16) W) = ev (φ := .f32) (proj X G W) := by
  funext i
  rw [val_main_v14_apply]
  show _ = ∑ k : Fin 1024, nrm X G (i 0).val k * W 0 k (i 1).val
  refine sum_eq fun k => ?_
  rw [ref11_ev, val_main_v13_apply, val_main_v12_apply]
  have h0 : k.val < 1024 := k.isLt
  have h1 : (i 1).val < 2048 := (i 1).isLt
  show nrm X G (i 0).val k * W 0 ((k.val * 2048 + (i 1).val) / 2048 % 1024) ((k.val * 2048 + (i 1).val) % 2048) = nrm X G (i 0).val k * W 0 k (i 1).val
  rw [show (k.val * 2048 + (i 1).val) / 2048 % 1024 = k.val by omega, show (k.val * 2048 + (i 1).val) % 2048 = (i 1).val by omega]

theorem ref18_ev : val_main_v18 (F := Ideal) (ev (φ := .f32) X) (ev (φ := .f32) G) (ev3 (φ := .bf16) W) = ev (φ := .bf16) fun i j => proj X G W j i := by
  funext i
  rw [val_main_v18_apply, val_main_v17_apply, ref14_ev]
  rfl

end Values

/-! ## The claims -/

theorem frame : Cert.quiescent_KvF := fun m g _ => Cert.KvF.Gen.frame m g
theorem frameIdeal : Cert.quiescent_KvFIdeal := fun m g _ => Cert.KvFIdeal.Gen.frame m g

/-- The reference is a straight line of host operations and declares no semaphore. -/
theorem frameRef : Cert.quiescent_RefKvFIdeal := fun m g _ =>
  (θ_run Cert.RefKvFIdeal.defs _ _).mono (fun r h => ⟨fun c => (h c).2.2.2, sem_eq_zero_of_no_sems (by decide) r.2⟩)
    (Cert.RefKvFIdeal.Value.run (F := Ideal) m g)

/-- The results of the two programs, from arguments that agree. -/
theorem algebraic : Cert.algebraic_KvFIdeal_RefKvFIdeal := by
  intro m g m' g' _ hagree
  refine ⟨fun c => out0_3 (m ((c : Thread nD τ).loc main_arg0)) (m ((c : Thread nD τ).loc main_arg1)) (m ((c : Thread nD τ).loc main_arg2)),
    fun c => out0_4 (m ((c : Thread nD τ).loc main_arg0)) (m ((c : Thread nD τ).loc main_arg1)) (m ((c : Thread nD τ).loc main_arg2)),
    fun c => out0_5 (m ((c : Thread nD τ).loc main_arg0)) (m ((c : Thread nD τ).loc main_arg1)) (m ((c : Thread nD τ).loc main_arg2)), ?_, ?_⟩
  · refine (θ_run defs _ _).mono (fun r h c => ?_) (Value.run_blocks m g)
    obtain ⟨h3, h4, h5, k⟩ := h c
    exact ⟨h3.trans ((Value.final3 m c).trans (Value.out3_eq _ _ _).symm), h4.trans ((Value.final4 m c).trans (Value.out4_eq _ _ _).symm),
      h5.trans ((Value.final5 m c).trans (Value.out5_eq _ _ _).symm), k⟩
  refine (θ_run Cert.RefKvFIdeal.defs _ _).mono (fun r h c => ?_) (Cert.RefKvFIdeal.Value.run (F := Ideal) m' g')
  obtain ⟨e0, e1, e2⟩ := hagree c
  obtain ⟨X, hX⟩ := exists_ev (φ := .f32) (m ((c : Thread nD τ).loc main_arg0))
  obtain ⟨G, hG⟩ := exists_ev (φ := .f32) (m ((c : Thread nD τ).loc main_arg1))
  obtain ⟨W, hW⟩ := exists_ev3 (φ := .bf16) (m ((c : Thread nD τ).loc main_arg2))
  refine ⟨(h c).1.trans ?_, (h c).2.1.trans ?_, (h c).2.2.1.trans ?_, (h c).2.2.2⟩
  · show _ = out0_3 (F := Ideal) _ _ _
    rw [e0, e1, hX, hG, hW]
    exact (val_main_v15_eq _ _).trans ((ref11_ev X G).trans (out3_ev X G W).symm)
  · show _ = out0_4 (F := Ideal) _ _ _
    rw [e0, e1, e2, hX, hG, hW]
    exact (val_main_v16_eq _ _ _).trans ((ref14_ev X G W).trans (out4_ev X G W).symm)
  · show _ = out0_5 (F := Ideal) _ _ _
    rw [e0, e1, e2, hX, hG, hW]
    exact (val_main_v18_eq _ _ _).trans ((ref18_ev X G W).trans (out5_ev X G W).symm)

end Cert.Mem.KvF

end
-- ==== Proof.Mem.KvB.lean ====
/-
  The gradient of the memory's projection: of its weights, and of the gain its rows are normalized with.
-/
module

public import proofs.«01_k».proof.Defs
public import proofs.«01_k».proof.Proof.Mem.KvF
public import proofs.«01_k».proof.Proof.Gen.KvB.Frame
public import proofs.«01_k».proof.Proof.Gen.KvBIdeal.Value
public import proofs.«01_k».proof.Proof.Gen.RefKvBIdeal.Run
public import proofs.«01_k».proof.Proof.Gen.RefKvBIdeal.Read
public import Idealize.ShloMosaic.Lib.Pipeline.ReadBack
public import Idealize.ShloMosaic.Lib.Pipeline.ValueKit
public import Idealize.ShloMosaic.Lib.Claim

@[expose] public section

noncomputable section

namespace Cert.Mem.KvB

open Cert.KvBIdeal Cert.KvBIdeal.Gen Idealize.ShloMosaic Idealize.ShloMosaic.TcCoe Idealize.SL.Sem
open Cert.Ext Cert.CallMergeF Cert.Mem Cert.RefKvBIdeal.Read

/-- The gradient of the projection: of the keys in columns 0–1023, of the values in columns 1024–2047. -/
def both (DK DV : ℕ → ℕ → EReal) (i e : ℕ) : EReal := if e < 1024 then DK i e else DV i (e - 1024)

/-- The gradient of the weights, from the normalized rows `N`. -/
def dW (DK DV N : ℕ → ℕ → EReal) (_ a e : ℕ) : EReal := ∑ k : Fin 256, N k a * both DK DV k e

/-- The gradient of the normalized rows. -/
def dN (DK DV : ℕ → ℕ → EReal) (W : ℕ → ℕ → ℕ → EReal) (i a : ℕ) : EReal :=
  ∑ e : Fin 1024, DK i e * W 0 a e + ∑ e : Fin 1024, DV i e * W 0 a (1024 + e)

/-- The gradient of the gain. -/
def dG (DK DV : ℕ → ℕ → EReal) (W : ℕ → ℕ → ℕ → EReal) (X : ℕ → ℕ → EReal) (_ a : ℕ) : EReal :=
  ∑ k : Fin 256, dN DK DV W k a * (X k a * inv X k)

section Values

variable (DK DV N X G : ℕ → ℕ → EReal) (W : ℕ → ℕ → ℕ → EReal)

/-! ## The kernel -/

theorem matmul_tn (a b : ℕ → ℕ → EReal) : matmul dot_S256x1024_S256x1024_S1024x1024_0_0_1_1_n_n none
    (ev a : FVec Ideal S256x1024 .bf16) (ev b : FVec Ideal S256x1024 .bf16) (constant S1024x1024 .f32 0x00000000#32)
    = (ev fun i j => ∑ k : Fin 256, a k i * b k j) := by
  funext i
  pointwise [dot_S256x1024_S256x1024_S1024x1024_0_0_1_1_n_n]
  simp only [ev_apply]; rfl

theorem matmul_nt (a b : ℕ → ℕ → EReal) : matmul dot_S256x1024_S1024x1024_S256x1024_1_1_0_0_n_n none
    (ev a : FVec Ideal S256x1024 .bf16) (ev b : FVec Ideal S1024x1024 .bf16) (constant S256x1024 .f32 0x00000000#32)
    = (ev fun i j => ∑ k : Fin 1024, a i k * b j k) := by
  funext i
  pointwise [dot_S256x1024_S1024x1024_S256x1024_1_1_0_0_n_n]
  simp only [ev_apply]; rfl

theorem pay4_ev : k0_pay4 (F := Ideal) (ev (φ := .f32) DK) (ev (φ := .bf16) N) = ev3 (φ := .f32) fun _ i j => ∑ k : Fin 256, N k i * DK k j := by
  rw [k0_pay4, k0_pay2]
  simp only [shapeCast_self_ev, truncf_ev, matmul_tn, shapeCast_add_1024]

theorem pay5_ev : k0_pay5 (F := Ideal) (ev (φ := .f32) DV) (ev (φ := .bf16) N) = ev3 (φ := .f32) fun _ i j => ∑ k : Fin 256, N k i * DV k j := by
  rw [k0_pay5, k0_pay3]
  simp only [shapeCast_self_ev, truncf_ev, matmul_tn, shapeCast_add_1024]

theorem pay6_ev (A B : ℕ → ℕ → ℕ → EReal) : k0_pay6 (F := Ideal) (ev (φ := .f32) DK) (ev (φ := .f32) DV) (ev3 (φ := .bf16) A) (ev3 (φ := .bf16) B)
    = ev (φ := .f32) fun i a => ∑ e : Fin 1024, DK i e * A 0 a e + ∑ e : Fin 1024, DV i e * B 0 a e := by
  rw [k0_pay6, k0_pay2, k0_pay3]
  simp only [shapeCast_drop_1024, truncf_ev, matmul_nt, addf_ev]

theorem pay1_ev : k0_pay1 (F := Ideal) (ev (φ := .f32) N) (ev (φ := .f32) X) (k0_pay7 (ev (φ := .f32) X))
    = ev (φ := .f32) fun _ a => ∑ k : Fin 256, N k a * (X k a * inv X k) := by
  unfold_payloads
  simp only [multiReductionOpen, Ideal.reduceAdd_def, rowSum_ev, colSum_ev, spreadCol_ev, mulf_ev, divf_ev, rsqrt_ev, addf_ev, broadcast_ev]
  rfl

theorem ld_whole_f32 (a : ℕ → ℕ → EReal) : View.ld (Val := Elt Ideal) (e' := .f32) (ev a : FVec Ideal S256x1024 .f32) r0_0 = (ev a : FVec Ideal S256x1024 .f32) :=
  (ld_ev_f32 a _).trans (by simp only [Nat.zero_add])

theorem ld_whole_bf16 (a : ℕ → ℕ → EReal) : View.ld (Val := Elt Ideal) (e' := .bf16) (ev a : FVec Ideal S256x1024 .bf16) r0_0 = (ev a : FVec Ideal S256x1024 .bf16) :=
  (ld_ev_bf16 a _).trans (by simp only [Nat.zero_add])

theorem ld_keys : View.ld (Val := Elt Ideal) (e' := .bf16) (ev3 W : FVec Ideal S1x1024x2048 .bf16) r0_1 = (ev3 W : FVec Ideal S1x1024x1024 .bf16) :=
  (ld_ev3_bf16 W _).trans (by simp only [Nat.zero_add])

theorem ld_values : View.ld (Val := Elt Ideal) (e' := .bf16) (ev3 W : FVec Ideal S1x1024x2048 .bf16) r0_2
    = (ev3 fun i a e => W i a (1024 + e) : FVec Ideal S1x1024x1024 .bf16) :=
  (ld_ev3_bf16 W _).trans (by simp only [Nat.zero_add])

theorem out5_ev : out0_5 (F := Ideal) (ev (φ := .f32) DK) (ev (φ := .f32) DV) (ev (φ := .bf16) N) (ev (φ := .f32) X) (ev3 (φ := .bf16) W)
    = ev3 (φ := .f32) (dW DK DV N) := by
  rw [out0_5, ld_whole_f32, ld_whole_f32, ld_whole_bf16, pay4_ev, pay5_ev]
  funext y
  show _ = dW DK DV N (y 0).val (y 1).val (y 2).val
  refine canon_cons3_f32 _ _ rfl (fun i _ a _ e _ => sum_eq fun k => ?_) fun h1 => ?_
  · rw [both, if_neg (by omega), Nat.zero_add, Nat.add_sub_cancel_left]
  refine canon_cons3_f32 _ _ rfl (fun i _ a _ e _ => sum_eq fun k => ?_) fun h0 => ?_
  · rw [both, if_pos (by omega), Nat.zero_add, Nat.zero_add]
  have hx : (y 0).val < 1 := (y 0).isLt
  have hy : (y 1).val < 1024 := (y 1).isLt
  have hz : (y 2).val < 2048 := (y 2).isLt
  omega

theorem out6_ev : out0_6 (F := Ideal) (ev (φ := .f32) DK) (ev (φ := .f32) DV) (ev (φ := .bf16) N) (ev (φ := .f32) X) (ev3 (φ := .bf16) W)
    = ev (φ := .f32) (dG DK DV W X) := by
  rw [out0_6, ld_whole_f32, ld_whole_f32, ld_whole_f32, ld_keys, ld_values, pay6_ev, pay1_ev]
  funext y
  show _ = dG DK DV W X (y 0).val (y 1).val
  refine canon_cons_f32 _ _ rfl (fun i _ a _ => ?_) fun h0 => ?_
  · rw [Nat.zero_add, Nat.zero_add]; rfl
  have hy : (y 0).val < 1 := (y 0).isLt
  have hz : (y 1).val < 1024 := (y 1).isLt
  omega

/-! ## The reference -/

/-- The rows, each divided by the root of the mean of its squares. -/
theorem ref10_ev : val_main_v10 (F := Ideal) (ev (φ := .f32) X) = ev (φ := .f32) fun i j => X i j * inv X i := by
  funext i
  rw [val_main_v10_apply, val_main_v9_apply, val_main_v8_apply, val_main_v7_apply, val_main_v5_apply, val_main_v3_apply, val_main_v2_apply]
  exact congrArg (fun s : EReal => X (i 0).val (i 1).val * Ideal.rsqrt (Ideal.div s (Ideal.ofBits .f32 0x44800000#32) + Ideal.ofBits .f32 0x358637BD#32))
    (start_sum fun k => rfl)

theorem ref12_ev : val_main_v12 (F := Ideal) (ev (φ := .f32) X) (ev (φ := .f32) G) = ev (φ := .f32) (nrm X G) := by
  funext i
  rw [val_main_v12_apply, ref10_ev, val_main_v11_apply]
  rfl

theorem ref13_ev (i : Cert.RefKvBIdeal.S1024x2048.Idx) : val_main_v13 (F := Ideal) (ev3 (φ := .bf16) W) i = W 0 (i 0).val (i 1).val := by
  have h0 : (i 0).val < 1024 := (i 0).isLt
  have h1 : (i 1).val < 2048 := (i 1).isLt
  rw [val_main_v13_apply]
  show W 0 (((i 0).val * 2048 + (i 1).val) / 2048 % 1024) (((i 0).val * 2048 + (i 1).val) % 2048) = _
  rw [show ((i 0).val * 2048 + (i 1).val) / 2048 % 1024 = (i 0).val by omega, show ((i 0).val * 2048 + (i 1).val) % 2048 = (i 1).val by omega]

theorem ref15_ev : val_main_v15 (F := Ideal) (ev (φ := .f32) DK) (ev (φ := .f32) DV) = ev (φ := .f32) (both DK DV) := by
  funext i
  have h1 : (i 1).val < 2048 := (i 1).isLt
  unfold val_main_v15
  by_cases hc : (i 1).val < 1024
  · refine (concatenate_pair_apply_left (t := Cert.RefKvBIdeal.S256x2048) (s₁ := Cert.RefKvBIdeal.S256x1024) (s₂ := Cert.RefKvBIdeal.S256x1024) (1 : Fin 2) _ _ _ i rfl
      (ValueIdx.ix2 (i 0 : Fin 256) (⟨(i 1).val, hc⟩ : Fin 1024)) (fun b => match b with | ⟨0, _⟩ => rfl | ⟨1, _⟩ => rfl)).trans ?_
    exact (if_pos hc).symm
  · refine (concatenate_pair_apply_right (t := Cert.RefKvBIdeal.S256x2048) (s₁ := Cert.RefKvBIdeal.S256x1024) (s₂ := Cert.RefKvBIdeal.S256x1024) (1 : Fin 2) _ _ _ i rfl rfl
      (ValueIdx.ix2 (i 0 : Fin 256) (⟨(i 1).val - 1024, by omega⟩ : Fin 1024))
      (fun b hb => match b with | ⟨0, _⟩ => rfl | ⟨1, _⟩ => absurd rfl hb) (by show (i 1).val - 1024 + 1024 = _; omega)).trans ?_
    exact (if_neg hc).symm

theorem ref19_ev : val_main_v19 (F := Ideal) (ev (φ := .f32) DK) (ev (φ := .f32) DV) (ev (φ := .f32) X) (ev (φ := .f32) G)
    = ev3 (φ := .f32) (dW DK DV (nrm X G)) := by
  funext i
  rw [val_main_v19_apply, val_main_v17_apply, val_main_v16_apply, ref15_ev, ref12_ev]
  show _ = ∑ k : Fin 256, nrm X G k (i 1).val * both DK DV k (i 2).val
  exact sum_eq fun k => mul_comm _ _

theorem ref18_ev : val_main_v18 (F := Ideal) (ev (φ := .f32) DK) (ev (φ := .f32) DV) (ev3 (φ := .bf16) W) = ev (φ := .f32) (dN DK DV W) := by
  funext i
  rw [val_main_v18_apply, ref15_ev]
  simp only [ref13_ev]
  refine (Fin.sum_univ_add (a := 1024) (b := 1024) fun k : Fin 2048 => both DK DV (i 0).val k * W 0 (i 1).val k).trans ?_
  refine congrArg₂ (· + ·) (sum_eq fun k => ?_) (sum_eq fun k => ?_)
  · rw [both, Fin.val_castAdd, if_pos k.isLt]
  · rw [both, Fin.val_natAdd, if_neg (by omega), Nat.add_sub_cancel_left]

theorem ref22_ev : val_main_v22 (F := Ideal) (ev (φ := .f32) DK) (ev (φ := .f32) DV) (ev (φ := .f32) X) (ev3 (φ := .bf16) W) = ev (φ := .f32) (dG DK DV W X) := by
  funext i
  have h0 : (i 0).val < 1 := (i 0).isLt
  rw [val_main_v22_apply, val_main_v21_apply]
  show _ = ∑ k : Fin 256, dN DK DV W k (i 1).val * (X k (i 1).val * inv X k)
  refine start_sum fun k => ?_
  rw [val_main_v20_apply, ref10_ev, ref18_ev]
  show X k ((i 0).val * 1024 + (i 1).val) * inv X k * dN DK DV W k ((i 0).val * 1024 + (i 1).val) = dN DK DV W k (i 1).val * (X k (i 1).val * inv X k)
  rw [show (i 0).val * 1024 + (i 1).val = (i 1).val by omega]
  exact mul_comm _ _

end Values

/-! ## The one grid point -/

section Point

variable (m : (ℓ : Loc nD τ sig) → Buf (Elt Ideal) ℓ) (c : Dev nD)

theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 3) = 0 ∧ win0_4.index t (1 : Fin 3) = 0 ∧ win0_4.index t (2 : Fin 3) = 0 := (by decide +kernel : ∀ t : Fin grid0.N, _)
theorem index5 : ∀ t : Fin cfg0.N, win0_5.index t (0 : Fin 3) = 0 ∧ win0_5.index t (1 : Fin 3) = 0 ∧ win0_5.index t (2 : Fin 3) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)

theorem zero_block (a b : ℕ) : 0 * a + 1 * b = b := by rw [Nat.zero_mul, Nat.zero_add, Nat.one_mul]

/-- An index of rank 2 whose coordinates are another's, offset by multiples of nothing. -/
theorem same2 {n0 n1 a b : ℕ} {i j : (⟨2, ![n0, n1]⟩ : Shape).Idx} {u v : ℕ} (hu : u = 0) (hv : v = 0)
    (h0 : (i 0).val = u * a + 1 * (j 0).val) (h1 : (i 1).val = v * b + 1 * (j 1).val) : i = j := by
  subst hu hv
  exact funext fun d => Fin.ext (match d with | ⟨0, _⟩ => h0.trans (zero_block _ _) | ⟨1, _⟩ => h1.trans (zero_block _ _))

/-- The same of rank 3. -/
theorem same3 {n0 n1 n2 a b e : ℕ} {i j : (⟨3, ![n0, n1, n2]⟩ : Shape).Idx} {u v w : ℕ} (hu : u = 0) (hv : v = 0) (hw : w = 0)
    (h0 : (i 0).val = u * a + 1 * (j 0).val) (h1 : (i 1).val = v * b + 1 * (j 1).val) (h2 : (i 2).val = w * e + 1 * (j 2).val) : i = j := by
  subst hu hv hw
  exact funext fun d => Fin.ext (match d with | ⟨0, _⟩ => h0.trans (zero_block _ _) | ⟨1, _⟩ => h1.trans (zero_block _ _) | ⟨2, _⟩ => h2.trans (zero_block _ _))

theorem block0 (t : Fin cfg0.N) : iblk m c 0 t = V m c main_arg0 :=
  funext fun j => congrArg (V m c main_arg0) (same2 (i := ((cfg0.win 0).blk t).view.emb j) (j := j) (index0 t).1 (index0 t).2 rfl rfl)
theorem block1 (t : Fin cfg0.N) : iblk m c 1 t = V m c main_arg1 :=
  funext fun j => congrArg (V m c main_arg1) (same2 (i := ((cfg0.win 1).blk t).view.emb j) (j := j) (index1 t).1 (index1 t).2 rfl rfl)
theorem block2 (t : Fin cfg0.N) : iblk m c 2 t = V m c main_v12 :=
  funext fun j => congrArg (V m c main_v12) (same2 (i := ((cfg0.win 2).blk t).view.emb j) (j := j) (index2 t).1 (index2 t).2 rfl rfl)
theorem block3 (t : Fin cfg0.N) : iblk m c 3 t = V m c main_arg2 :=
  funext fun j => congrArg (V m c main_arg2) (same2 (i := ((cfg0.win 3).blk t).view.emb j) (j := j) (index3 t).1 (index3 t).2 rfl rfl)
theorem block4 (t : Fin cfg0.N) : iblk m c 4 t = V m c main_arg4 :=
  funext fun j => congrArg (V m c main_arg4) (same3 (i := ((cfg0.win 4).blk t).view.emb j) (j := j) (index4 t).1 (index4 t).2.1 (index4 t).2.2 rfl rfl rfl)

/-- An array whose window's block at the one point is the whole of it. -/
theorem whole5 (B : Vec Ideal S1x1024x2048 .f32) (h : ∀ t, (dats m 0 c).after 5 t = B) : (dats m 0 c).arrAt 5 cfg0.N = B := by
  refine (dats m 0 c).arrAt_eq_of_covers 5 B (by decide +kernel) fun t hf y => ?_
  rw [h]
  exact congrArg B (same3 (i := ((cfg0.win 5).blk t).view.emb y) (j := y) (index5 t).1 (index5 t).2.1 (index5 t).2.2 rfl rfl rfl).symm

theorem whole6 (B : Vec Ideal S1x1024 .f32) (h : ∀ t, (dats m 0 c).after 6 t = B) : (dats m 0 c).arrAt 6 cfg0.N = B := by
  refine (dats m 0 c).arrAt_eq_of_covers 6 B (by decide +kernel) fun t hf y => ?_
  rw [h]
  exact congrArg B (same2 (i := ((cfg0.win 6).blk t).view.emb y) (j := y) (index6 t).1 (index6 t).2 rfl rfl).symm

theorem final5 : (dats m 0 c).arrAt 5 cfg0.N = out0_5 (V m c main_arg0) (V m c main_arg1) (V m c main_v12) (V m c main_arg2) (V m c main_arg4) :=
  whole5 m c _ fun t => by rw [after0_5, block0, block1, block2, block3, block4]

theorem final6 : (dats m 0 c).arrAt 6 cfg0.N = out0_6 (V m c main_arg0) (V m c main_arg1) (V m c main_v12) (V m c main_arg2) (V m c main_arg4) :=
  whole6 m c _ fun t => by rw [after0_6, block0, block1, block2, block3, block4]

/-- The normalized rows that the host hands over. -/
theorem entry2 : V m c main_v12 = Cert.RefKvFIdeal.Read.val_main_v15 (F := Ideal) (m ((c : Thread nD τ).loc main_arg2)) (m ((c : Thread nD τ).loc main_arg3)) := by
  unfold V
  entry_read
  rfl

end Point

/-! ## The claims -/

theorem frame : Cert.quiescent_KvB := fun m g _ => Cert.KvB.Gen.frame m g
theorem frameIdeal : Cert.quiescent_KvBIdeal := fun m g _ => Cert.KvBIdeal.Gen.frame m g

/-- The reference is a straight line of host operations and declares no semaphore. -/
theorem frameRef : Cert.quiescent_RefKvBIdeal := fun m g _ =>
  (θ_run Cert.RefKvBIdeal.defs _ _).mono (fun r h => ⟨fun c => (h c).2.2, sem_eq_zero_of_no_sems (by decide) r.2⟩)
    (Cert.RefKvBIdeal.Value.run (F := Ideal) m g)

/-- The results of the two programs, from arguments that agree. -/
theorem algebraic : Cert.algebraic_KvBIdeal_RefKvBIdeal := by
  intro m g m' g' _ hagree
  refine ⟨fun c => (dats m 0 c).arrAt 5 cfg0.N, fun c => (dats m 0 c).arrAt 6 cfg0.N, Value.run_blocks m g, ?_⟩
  refine (θ_run Cert.RefKvBIdeal.defs _ _).mono (fun r h c => ?_) (Cert.RefKvBIdeal.Value.run (F := Ideal) m' g')
  obtain ⟨e0, e1, e2, e3, e4⟩ := hagree c
  obtain ⟨DK, h0⟩ := exists_ev (φ := .f32) (m ((c : Thread nD τ).loc main_arg0))
  obtain ⟨DV, h1⟩ := exists_ev (φ := .f32) (m ((c : Thread nD τ).loc main_arg1))
  obtain ⟨X, h2⟩ := exists_ev (φ := .f32) (m ((c : Thread nD τ).loc main_arg2))
  obtain ⟨G, h3⟩ := exists_ev (φ := .f32) (m ((c : Thread nD τ).loc main_arg3))
  obtain ⟨W, h4⟩ := exists_ev3 (φ := .bf16) (m ((c : Thread nD τ).loc main_arg4))
  have hn : Cert.RefKvFIdeal.Read.val_main_v15 (F := Ideal) (ev (φ := .f32) X) (ev (φ := .f32) G) = ev (φ := .bf16) (nrm X G) := KvF.ref11_ev X G
  refine ⟨(h c).1.trans ?_, (h c).2.1.trans ?_, (h c).2.2⟩
  · show _ = (dats m 0 c).arrAt 5 cfg0.N
    rw [final5, entry2, V_main_arg0, V_main_arg1, V_main_arg2, V_main_arg4, e0, e1, e2, e3, h0, h1, h2, h3, h4, hn]
    exact (val_main_v19_eq _ _ _ _).trans ((ref19_ev DK DV X G).trans (out5_ev DK DV (nrm X G) X W).symm)
  · show _ = (dats m 0 c).arrAt 6 cfg0.N
    rw [final6, entry2, V_main_arg0, V_main_arg1, V_main_arg2, V_main_arg4, e0, e1, e2, e4, h0, h1, h2, h3, h4, hn]
    exact (val_main_v22_eq _ _ _ _).trans ((ref22_ev DK DV X W).trans (out6_ev DK DV (nrm X G) X W).symm)

end Cert.Mem.KvB

end
-- ==== Proof.Loss.Trip.lean ====
/-
  One trip of the loop over the slabs of 16 rows of the loss's call, over any float values: what each slab stores of the gradient of the rows, and
  what it adds to the two sums the loop carries.
-/
module

public import proofs.«01_k».proof.Proof.Gen.LossIdeal.Value
public import Idealize.ShloMosaic.Lib.Pipeline.ValueKit

@[expose] public section

noncomputable section

namespace Cert.Loss.Body

open Cert.LossIdeal Cert.LossIdeal.Gen Idealize.ShloMosaic Idealize.ShloMosaic.TcCoe Idealize.ShloMosaic.Tactic Idealize.SL Idealize.SL.Sem

variable {F : FTy → Type} [FloatOps F]

theorem trips_eq : k0_t1_loop.trips = 8 := by decide +kernel

/-- Slab `r` of trip `k` starts at row `64 k + 16 r`. -/
theorem off1_eq (k : Fin k0_t1_loop.trips) (r : Fin 4) : k0_off1 k (BitVec.ofNat 32 r.val) = ![64 * k.val + 16 * r.val, 0] := by
  revert k r
  decide +kernel

theorem row_inb (k : Fin k0_t1_loop.trips) (r : Fin 4) : ∀ a, k0_off1 k (BitVec.ofNat 32 r.val) a + S16x1024.size a ≤ S512x1024.size a := by
  revert k r
  decide +kernel

/-- The rows that step `r` of trip `k` works on. -/
abbrev slab (k : Fin k0_t1_loop.trips) (r : Fin 4) : Rect S512x1024 := Rect.unit (k0_off1 k (BitVec.ofNat 32 r.val)) S16x1024.size (row_inb k r)

theorem mem_slab (k : Fin k0_t1_loop.trips) (r : Fin 4) (y : S512x1024.Idx) : y ∈ (slab k r).set ↔ (y 0).val / 64 = k.val ∧ (y 0).val / 16 % 4 = r.val := by
  refine Rect.mem_set_unit.trans ?_
  rw [off1_eq]
  have h1 : (y 1).val < 1024 := (y 1).isLt
  have hr := r.isLt
  refine Fin.forall_fin_two.trans ?_
  show (64 * k.val + 16 * r.val ≤ (y 0).val ∧ (y 0).val < 64 * k.val + 16 * r.val + 16) ∧ 0 ≤ (y 1).val ∧ (y 1).val < 0 + 1024 ↔ _
  omega

section Slab

variable (x t : Vec F S512x1024 .f32) (g : Vec F S1x1024 .f32) (k : Fin k0_t1_loop.trips) (r : Fin 4)

/-- The row of the gain. -/
abbrev gain : Vec F S1x1024 .f32 := View.ld g (Rect.unit ![0, 0] S1x1024.size inb_S1x1024_S1x1024_0_0)

/-- What a slab stores. -/
abbrev dxSlab : FVec F S16x1024 .f32 := k0_pay14 (View.ld x (slab k r)) (gain g) (View.ld t (slab k r)) (gain g)
/-- What a slab makes of the sum of squares before it. -/
abbrev sqStep (s : FVec F S1x1024 .f32) : FVec F S1x1024 .f32 := k0_pay16 s (k0_pay15 (View.ld x (slab k r)) (gain g) (View.ld t (slab k r)))
/-- What a slab makes of the gain's gradient before it. -/
abbrev dgStep (s : FVec F S1x1024 .f32) : FVec F S1x1024 .f32 := k0_pay17 s (k0_pay11 (View.ld x (slab k r))) (k0_pay13 (View.ld x (slab k r)) (gain g) (View.ld t (slab k r)))

/-- The four slabs of a trip: what they store, the last first, and the two sums. -/
abbrev tripPieces : List (View.Piece (Elt F) S512x1024 .f32) :=
  [⟨slab k 3, dxSlab x t g k 3⟩, ⟨slab k 2, dxSlab x t g k 2⟩, ⟨slab k 1, dxSlab x t g k 1⟩, ⟨slab k 0, dxSlab x t g k 0⟩]
abbrev tripSums (s : FVec F S1x1024 .f32 × FVec F S1x1024 .f32) : FVec F S1x1024 .f32 × FVec F S1x1024 .f32 :=
  (sqStep x t g k 3 (sqStep x t g k 2 (sqStep x t g k 1 (sqStep x t g k 0 s.1))), dgStep x t g k 3 (dgStep x t g k 2 (dgStep x t g k 1 (dgStep x t g k 0 s.2))))

/-- The two sums before trip `k`, from zero. -/
def sumsAt : ℕ → FVec F S1x1024 .f32 × FVec F S1x1024 .f32
  | 0 => (k0_pay3, k0_pay3)
  | n + 1 => if h : n < k0_t1_loop.trips then tripSums x t g ⟨n, h⟩ (sumsAt n) else sumsAt n
/-- The pieces stored before trip `k`, the last first. -/
def piecesAt : ℕ → List (View.Piece (Elt F) S512x1024 .f32)
  | 0 => []
  | n + 1 => if h : n < k0_t1_loop.trips then tripPieces x t g ⟨n, h⟩ ++ piecesAt n else piecesAt n

theorem sumsAt_succ : sumsAt x t g (k.val + 1) = tripSums x t g k (sumsAt x t g k.val) := by rw [sumsAt.eq_2]; exact dif_pos k.isLt
theorem piecesAt_succ : piecesAt x t g (k.val + 1) = tripPieces x t g k ++ piecesAt x t g k.val := by rw [piecesAt.eq_2]; exact dif_pos k.isLt

end Slab

variable (c : Dev nD) (i : grid0.Coords) (arg1 : Memref sig .tc .vmem S512x1024 .f32) (h1 : arg1.IsWhole) (arg2 : Memref sig .tc .vmem S512x1024 .f32) (h2 : arg2.IsWhole)
  (arg3 : Memref sig .tc .vmem S1x1024 .f32) (h3 : arg3.IsWhole) (arg4 : Memref sig .tc .vmem S512x1024 .f32) (h4 : arg4.IsWhole)
  (arg5 : Memref sig .tc .vmem S1x1024 .f32) (h5 : arg5.IsWhole) (arg6 : Memref sig .tc .vmem S1x1024 .f32) (h6 : arg6.IsWhole)

theorem trip_sums (X1 : BufTy.Contents (Elt F) arg1.view.ty) (X2 : BufTy.Contents (Elt F) arg2.view.ty) (X3 : BufTy.Contents (Elt F) arg3.view.ty)
    (k : Fin k0_t1_loop.trips) (s : FVec F S1x1024 .f32 × FVec F S1x1024 .f32) :
    tripR_k0_t1 Variants.none c none i arg1 h1 arg2 h2 arg3 h3 arg4 h4 arg5 h5 arg6 h6 X1 X2 X3 k s
      = tripSums (arg1.view.read (Elt F) X1) (arg2.view.read (Elt F) X2) (arg3.view.read (Elt F) X3) k s := by
  unfold tripR_k0_t1 trip_k0_t1
  rfl

theorem trip_pieces (X1 : BufTy.Contents (Elt F) arg1.view.ty) (X2 : BufTy.Contents (Elt F) arg2.view.ty) (X3 : BufTy.Contents (Elt F) arg3.view.ty)
    (k : Fin k0_t1_loop.trips) (s : FVec F S1x1024 .f32 × FVec F S1x1024 .f32) :
    tripL_k0_t1 Variants.none c none i arg1 h1 arg2 h2 arg3 h3 arg4 h4 arg5 h5 arg6 h6 X1 X2 X3 k s
      = tripPieces (arg1.view.read (Elt F) X1) (arg2.view.read (Elt F) X2) (arg3.view.read (Elt F) X3) k := by
  unfold tripL_k0_t1 trip_k0_t1
  rfl

/-- The loop's state before trip `n`. -/
theorem state_eq (x t : Vec F S512x1024 .f32) (g : Vec F S1x1024 .f32) (n : ℕ) (hn : n ≤ k0_t1_loop.trips) :
    st_k0_t1 Variants.none c none i arg1 h1 arg2 h2 arg3 h3 arg4 h4 arg5 h5 arg6 h6 (h1.unread x) (h2.unread t) (h3.unread g) (k0_pay3, k0_pay3) n
      = (sumsAt x t g n, piecesAt x t g n) := by
  induction n with
  | zero => rfl
  | succ n ih =>
    refine (st_k0_t1_succ Variants.none c none i arg1 h1 arg2 h2 arg3 h3 arg4 h4 arg5 h5 arg6 h6 _ _ _ _ ⟨n, hn⟩).trans ?_
    dsimp only
    rw [ih (Nat.le_of_succ_le hn), trip_sums, trip_pieces, h1.read_unread, h2.read_unread, h3.read_unread]
    exact congrArg₂ Prod.mk (sumsAt_succ x t g ⟨n, hn⟩).symm (piecesAt_succ x t g ⟨n, hn⟩).symm

/-- A store of the whole buffer, the last, and the loads of the whole buffer. -/
theorem canon_whole (w : FVec F S1x1024 .f32) (L : List (View.Piece (Elt F) S1x1024 .f32)) :
    View.canon (⟨Rect.unit ![0, 0] S1x1024.size inb_S1x1024_S1x1024_0_0, w⟩ :: L) = w :=
  View.canon_cons_unit_lit (Val := Elt F) (S := S1x1024) (e := .f32) (off := ![0, 0]) inb_S1x1024_S1x1024_0_0 w L (by decide)
theorem load_kept (x : Vec F S1x1024 .f32) {arg : Memref sig .tc .vmem S1x1024 .f32} (h : arg.IsWhole) :
    View.readAt (Elt F) arg.view (Rect.unit ![0, 0] S1x1024.size inb_S1x1024_S1x1024_0_0).toLoadRect (h.unread x) = x :=
  (congrArg (fun v => View.ld v (Rect.unit ![0, 0] S1x1024.size inb_S1x1024_S1x1024_0_0)) (h.read_unread x)).trans (View.ld_unit_lit _ x (by decide))

/-! ## What a point leaves in the three outputs: the first point clears the two sums, a later one goes on from what the point before left -/

variable (x t : Vec F S512x1024 .f32) (g s d : Vec F S1x1024 .f32)

theorem first3 (hc : cond0_0 i) : out0_A_3 c i arg1 h1 arg2 h2 arg3 h3 arg4 h4 arg5 h5 arg6 h6 hc x t g = View.canon (piecesAt x t g k0_t1_loop.trips) := by
  unfold out0_A_3
  refine (View.read_writes_junk_eq_canon _ _).trans (congrArg View.canon ?_)
  unfold kernelRun0_A
  exact congrArg Prod.snd (state_eq c i arg1 h1 arg2 h2 arg3 h3 arg4 h4 arg5 h5 arg6 h6 x t g _ (Nat.le_refl _))

theorem first4 (hc : cond0_0 i) : out0_A_4 c i arg1 h1 arg2 h2 arg3 h3 arg4 h4 arg5 h5 arg6 h6 hc x t g = k0_pay8 (sumsAt x t g k0_t1_loop.trips).1 k0_pay1 := by
  unfold out0_A_4
  refine (View.read_writes_junk_eq_canon _ _).trans ?_
  unfold kernelRun0_A
  refine (canon_whole _ _).trans (congrArg₂ k0_pay8 (congrArg (fun s => s.1.1) (state_eq c i arg1 h1 arg2 h2 arg3 h3 arg4 h4 arg5 h5 arg6 h6 x t g _ (Nat.le_refl _))) ?_)
  exact View.readCov_cons_toLoadRect _ _ _ _

theorem first5 (hc : cond0_0 i) : out0_A_5 c i arg1 h1 arg2 h2 arg3 h3 arg4 h4 arg5 h5 arg6 h6 hc x t g = k0_pay9 (sumsAt x t g k0_t1_loop.trips).2 k0_pay2 := by
  unfold out0_A_5
  refine (View.read_writes_junk_eq_canon _ _).trans ?_
  unfold kernelRun0_A
  refine (canon_whole _ _).trans (congrArg₂ k0_pay9 (congrArg (fun s => s.1.2) (state_eq c i arg1 h1 arg2 h2 arg3 h3 arg4 h4 arg5 h5 arg6 h6 x t g _ (Nat.le_refl _))) ?_)
  exact View.readCov_cons_toLoadRect _ _ _ _

theorem later3 (hc : ¬cond0_0 i) : out0_B_3 c i arg1 h1 arg2 h2 arg3 h3 arg4 h4 arg5 h5 arg6 h6 hc x t g s d = View.canon (piecesAt x t g k0_t1_loop.trips) := by
  unfold out0_B_3
  refine (View.read_writes_junk_eq_canon _ _).trans (congrArg View.canon ?_)
  unfold kernelRun0_B
  exact congrArg Prod.snd (state_eq c i arg1 h1 arg2 h2 arg3 h3 arg4 h4 arg5 h5 arg6 h6 x t g _ (Nat.le_refl _))

theorem later4 (hc : ¬cond0_0 i) : out0_B_4 c i arg1 h1 arg2 h2 arg3 h3 arg4 h4 arg5 h5 arg6 h6 hc x t g s d = k0_pay8 (sumsAt x t g k0_t1_loop.trips).1 s := by
  unfold out0_B_4
  refine (View.read_writes_junk_eq_canon _ _).trans ?_
  unfold kernelRun0_B
  exact (canon_whole _ _).trans (congrArg₂ k0_pay8 (congrArg (fun s => s.1.1) (state_eq c i arg1 h1 arg2 h2 arg3 h3 arg4 h4 arg5 h5 arg6 h6 x t g _ (Nat.le_refl _))) (load_kept s h5))

theorem later5 (hc : ¬cond0_0 i) : out0_B_5 c i arg1 h1 arg2 h2 arg3 h3 arg4 h4 arg5 h5 arg6 h6 hc x t g s d = k0_pay9 (sumsAt x t g k0_t1_loop.trips).2 d := by
  unfold out0_B_5
  refine (View.read_writes_junk_eq_canon _ _).trans ?_
  unfold kernelRun0_B
  exact (canon_whole _ _).trans (congrArg₂ k0_pay9 (congrArg (fun s => s.1.2) (state_eq c i arg1 h1 arg2 h2 arg3 h3 arg4 h4 arg5 h5 arg6 h6 x t g _ (Nat.le_refl _))) (load_kept d h6))

end Cert.Loss.Body

end
-- ==== Proof.Loss.Rows.lean ====
/-
  The loss's call at finite arrays: one slab of 16 rows, one tile of 512 rows, and the model of its three results. `X` holds the rows, `T` the
  targets, row 0 of `G` the gain.
-/
module

public import proofs.«01_k».proof.Proof.Loss.Trip
public import proofs.«01_k».proof.Proof.CallInDx.Rows

@[expose] public section

noncomputable section

namespace Cert.Loss

open Cert.LossIdeal Cert.LossIdeal.Gen Cert.Loss.Body Idealize.ShloMosaic Idealize.ShloMosaic.TcCoe Idealize.SL.Sem
open Cert.RealArr
open Cert.CallInDx (rs dxRow dgRow dgain dgain_add sum_split ofBits_1024 ofBits_eps rsqrt_ms rowSum_16 colSum_16 spread_col spread_row)

/-! ## The model -/

/-- A row's error, and what the loss's gradient is there. -/
def err (x t g : ℕ → ℝ) (j : ℕ) : ℝ := x j * rs x * g j - t j
def dy (x t g : ℕ → ℝ) (j : ℕ) : ℝ := err x t g j * (1 / 1024)
/-- The gradient of the row. -/
def dx (x t g : ℕ → ℝ) (j : ℕ) : ℝ := dxRow x (fun k => dy x t g k * g k) (fun _ => 0) j
/-- Column `d` of the squared errors, summed over the first `n` rows. -/
def sq (X T : ℕ → ℕ → ℝ) (g : ℕ → ℝ) (n d : ℕ) : ℝ := ∑ s ∈ Finset.range n, err (X s) (T s) g d * err (X s) (T s) g d
/-- The gain's gradient from the first `n` rows. -/
abbrev dg (X T : ℕ → ℕ → ℝ) (g : ℕ → ℝ) (n d : ℕ) : ℝ := dgain (fun s => dy (X s) (T s) g) X n d

theorem sq_add (X T : ℕ → ℕ → ℝ) (g : ℕ → ℝ) (a n d : ℕ) :
    sq X T g (a + n) d = sq X T g a d + ∑ s : Fin n, err (X (a + s)) (T (a + s)) g d * err (X (a + s)) (T (a + s)) g d :=
  sum_split _ a n

/-- The f32 patterns of 1/1024, of a half and of two. -/
theorem ofBits_inv_1024 : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-! ## Sixteen rows -/

variable (x t g : ℕ → ℕ → ℝ)

/-- Sixteen rows, and one. -/
abbrev V16 := FVec Ideal S16x1024 .f32
abbrev V1 := FVec Ideal S1x1024 .f32

theorem pay10_cv : k0_pay10 (F := Ideal) (cv x : V16) = (cv (φ := .f32) fun i _ => rs (x i) : FVec Ideal S16x1 .f32) := by
  unfold k0_pay10
  simp (disch := (intros; norm_num)) only [multiReductionOpen, Ideal.reduceAdd_def, mulf_cv, rowSum_16, Ideal.ofBits_def, ofBits_1024, ofBits_eps, broadcast_cv, divf_cv, addf_cv]
  funext i
  exact rsqrt_ms _

theorem pay11_cv : k0_pay11 (F := Ideal) (cv x : V16) = (cv fun i j => x i j * rs (x i) : V16) := by
  unfold k0_pay11
  simp only [pay10_cv, spread_col, mulf_cv]

theorem pay12_cv : k0_pay12 (F := Ideal) (cv x : V16) (cv g : V1) (cv t : V16) = (cv fun i j => err (x i) (t i) (g 0) j : V16) := by
  unfold k0_pay12
  simp only [pay11_cv, shapeCast_self_cv, spread_row, mulf_cv, subf_cv]
  rfl

theorem pay13_cv : k0_pay13 (F := Ideal) (cv x : V16) (cv g : V1) (cv t : V16) = (cv fun i j => dy (x i) (t i) (g 0) j : V16) := by
  unfold k0_pay13
  simp only [pay12_cv, Ideal.ofBits_def, ofBits_inv_1024, broadcast_cv, mulf_cv]
  rfl

theorem pay14_cv : k0_pay14 (F := Ideal) (cv x : V16) (cv g : V1) (cv t : V16) (cv g : V1) = (cv fun i j => dx (x i) (t i) (g 0) j : V16) := by
  unfold k0_pay14
  simp (disch := (intros; norm_num)) only [multiReductionOpen, Ideal.reduceAdd_def, pay10_cv, pay11_cv, pay13_cv, shapeCast_self_cv, spread_col, spread_row, mulf_cv, rowSum_16, Ideal.ofBits_def,
    ofBits_1024, broadcast_cv, divf_cv, subf_cv]
  exact cv_congr fun i _ j _ => (add_zero _).symm

theorem sq16_cv (s : ℕ → ℕ → ℝ) : k0_pay16 (F := Ideal) (cv s : V1) (k0_pay15 (cv x : V16) (cv g : V1) (cv t : V16))
    = (cv fun i j => s i j + ∑ k : Fin 16, err (x k) (t k) (g 0) j * err (x k) (t k) (g 0) j : V1) := by
  unfold k0_pay16 k0_pay15
  simp only [multiReductionOpen, Ideal.reduceAdd_def, pay12_cv, mulf_cv, colSum_16, addf_cv]

theorem dg16_cv (s : ℕ → ℕ → ℝ) : k0_pay17 (F := Ideal) (cv s : V1) (k0_pay11 (cv x : V16)) (k0_pay13 (cv x : V16) (cv g : V1) (cv t : V16))
    = (cv fun i j => s i j + ∑ k : Fin 16, dgRow (dy (x k) (t k) (g 0)) (x k) j : V1) := by
  unfold k0_pay17
  simp only [multiReductionOpen, Ideal.reduceAdd_def, pay11_cv, pay13_cv, mulf_cv, colSum_16, addf_cv]
  rfl

theorem pay3_cv : k0_pay3 (F := Ideal) = (cv fun _ _ => 0 : V1) := by
  unfold k0_pay3
  simp only [Ideal.ofBits_def, ofBits_zero, broadcast_cv]
theorem pay1_cv : k0_pay1 (F := Ideal) = (cv fun _ _ => 0 : V1) := pay3_cv
theorem pay2_cv : k0_pay2 (F := Ideal) = (cv fun _ _ => 0 : V1) := pay3_cv

theorem pay8_cv (s u : ℕ → ℕ → ℝ) : k0_pay8 (F := Ideal) (cv s : V1) (cv u : V1) = (cv fun i j => u i j + s i j : V1) := by
  unfold k0_pay8
  simp only [shapeCast_self_cv, addf_cv]
theorem pay9_cv (s u : ℕ → ℕ → ℝ) : k0_pay9 (F := Ideal) (cv s : V1) (cv u : V1) = (cv fun i j => u i j + s i j : V1) := pay8_cv s u

/-! ## A tile of 512 rows -/

theorem slab_idx_0 (k : Fin k0_t1_loop.trips) (r : Fin 4) (z : (slab k r).shape.Idx) : ((slab k r).idx z 0).val = 64 * k.val + 16 * r.val + (z 0).val :=
  (unit_idx_val _ z 0).trans (congrArg (· + (z 0).val) (congrFun (off1_eq k r) 0))

theorem slab_idx_1 (k : Fin k0_t1_loop.trips) (r : Fin 4) (z : (slab k r).shape.Idx) : ((slab k r).idx z 1).val = (z 1).val :=
  ((unit_idx_val _ z 1).trans (congrArg (· + (z 1).val) (congrFun (off1_eq k r) 1))).trans (Nat.zero_add _)

theorem ld_slab (a : ℕ → ℕ → ℝ) (k : Fin k0_t1_loop.trips) (r : Fin 4) :
    View.ld (Val := Elt Ideal) (e' := .f32) (cv (φ := .f32) a : FVec Ideal S512x1024 .f32) (slab k r)
      = (cv fun i j => a (64 * k.val + 16 * r.val + i) j : V16) := by
  funext i
  show ((a _ _ : ℝ) : EReal) = ((a _ _ : ℝ) : EReal)
  rw [slab_idx_0, slab_idx_1]

/-- The finite tiles a point works on, and what it writes of the first result. -/
abbrev fx : FVec Ideal S512x1024 .f32 := cv x
abbrev fg : V1 := cv g
abbrev dxTile : FVec Ideal S512x1024 .f32 := cv fun i j => dx (x i) (t i) (g 0) j

theorem gain_cv : gain (F := Ideal) (fg g) = (cv g : V1) := View.ld_unit_lit _ _ (by decide)

theorem dxSlab_cv (k : Fin k0_t1_loop.trips) (r : Fin 4) : dxSlab (F := Ideal) (fx x) (fx t) (fg g) k r
    = (cv fun i j => dx (x (64 * k.val + 16 * r.val + i)) (t (64 * k.val + 16 * r.val + i)) (g 0) j : V16) := by
  unfold dxSlab
  rw [ld_slab, ld_slab, gain_cv, pay14_cv]

theorem canon_slab (k : Fin k0_t1_loop.trips) (r : Fin 4) (L : List (View.Piece (Elt Ideal) S512x1024 .f32)) (y : S512x1024.Idx)
    (hL : ¬((y 0).val / 64 = k.val ∧ (y 0).val / 16 % 4 = r.val) → View.canon L y = dxTile x t g y) :
    View.canon (⟨slab k r, dxSlab (F := Ideal) (fx x) (fx t) (fg g) k r⟩ :: L) y = dxTile x t g y := by
  by_cases h : y ∈ (slab k r).set
  · obtain ⟨z, rfl⟩ := LoadRect.exists_idx_of_mem _ h
    refine (View.canon_cons_emb _ _ _ z).trans ?_
    rw [dxSlab_cv]
    refine cv_at (φ := .f32) (ψ := .f32) ?_
    rw [slab_idx_0, slab_idx_1]
  · have hy := hL fun hy => h ((mem_slab k r y).mpr hy)
    rw [← hy]
    exact View.canon_cons_of_not_mem _ _ h

theorem pieces_cv (n : ℕ) (hn : n ≤ k0_t1_loop.trips) (y : S512x1024.Idx) (hy : (y 0).val < 64 * n) :
    View.canon (piecesAt (F := Ideal) (fx x) (fx t) (fg g) n) y = dxTile x t g y := by
  induction n with
  | zero => omega
  | succ n ih =>
    rw [show piecesAt (F := Ideal) (fx x) (fx t) (fg g) (n + 1) = _ from piecesAt_succ (F := Ideal) (fx x) (fx t) (fg g) ⟨n, hn⟩]
    refine canon_slab x t g ⟨n, hn⟩ 3 _ y fun h3 => canon_slab x t g ⟨n, hn⟩ 2 _ y fun h2 => canon_slab x t g ⟨n, hn⟩ 1 _ y fun h1 =>
      canon_slab x t g ⟨n, hn⟩ 0 _ y fun h0 => ih (Nat.le_of_succ_le hn) ?_
    change ¬((y 0).val / 64 = n ∧ (y 0).val / 16 % 4 = 3) at h3
    change ¬((y 0).val / 64 = n ∧ (y 0).val / 16 % 4 = 2) at h2
    change ¬((y 0).val / 64 = n ∧ (y 0).val / 16 % 4 = 1) at h1
    change ¬((y 0).val / 64 = n ∧ (y 0).val / 16 % 4 = 0) at h0
    omega

/-- The slabs' stores, all of them. -/
theorem tile_cv : View.canon (piecesAt (F := Ideal) (fx x) (fx t) (fg g) k0_t1_loop.trips) = dxTile x t g :=
  funext fun y => pieces_cv x t g _ (Nat.le_refl _) y (by have : (y 0).val < 512 := (y 0).isLt; rw [trips_eq]; omega)

/-- The two sums before trip `n`. -/
theorem sumsAt_cv (n : ℕ) (hn : n ≤ k0_t1_loop.trips) :
    sumsAt (F := Ideal) (fx x) (fx t) (fg g) n = ((cv fun _ j => sq x t (g 0) (64 * n) j : V1), (cv fun _ j => dg x t (g 0) (64 * n) j : V1)) := by
  induction n with
  | zero =>
    refine congrArg₂ Prod.mk (pay3_cv.trans ?_) (pay3_cv.trans ?_)
    · simp only [sq, Nat.mul_zero, Finset.range_zero, Finset.sum_empty]
    · simp only [dg, dgain, Nat.mul_zero, Finset.range_zero, Finset.sum_empty]
  | succ n ih =>
    rw [show sumsAt (F := Ideal) (fx x) (fx t) (fg g) (n + 1) = _ from sumsAt_succ (F := Ideal) (fx x) (fx t) (fg g) ⟨n, hn⟩]
    dsimp only
    rw [ih (Nat.le_of_succ_le hn)]
    unfold tripSums sqStep dgStep
    simp only [ld_slab, gain_cv, sq16_cv, dg16_cv]
    rw [show 64 * (n + 1) = 64 * n + 16 + 16 + 16 + 16 by omega]
    simp only [sq_add, dg, dgain_add]
    simp only [Nat.add_assoc, Nat.reduceAdd]
    rfl

theorem sums_cv : sumsAt (F := Ideal) (fx x) (fx t) (fg g) k0_t1_loop.trips = ((cv fun _ j => sq x t (g 0) 512 j : V1), (cv fun _ j => dg x t (g 0) 512 j : V1)) := by
  rw [sumsAt_cv x t g _ (Nat.le_refl _), trips_eq]

end Cert.Loss

end
-- ==== Proof.Loss.Grid.lean ====
/-
  The loss's call over its sixteen row tiles at finite arguments: the blocks a point reads, the two sums point by point, and the three results.
-/
module

public import proofs.«01_k».proof.Proof.Loss.Rows
public import Idealize.ShloMosaic.Lib.Pipeline.ReadBack

@[expose] public section

noncomputable section

namespace Cert.Loss

open Cert.LossIdeal Cert.LossIdeal.Gen Cert.Loss.Body Idealize.ShloMosaic Idealize.ShloMosaic.TcCoe Idealize.SL.Sem
open Cert.RealArr
open Cert.CallInDx (dgRow dgain dgain_add)
open Idealize.ShloMosaic.Pipeline (Dat Cfg Window)

theorem acc4 (x t g s : ℕ → ℕ → ℝ) : k0_pay8 (F := Ideal) (sumsAt (F := Ideal) (fx x) (fx t) (fg g) k0_t1_loop.trips).1 (cv s : V1) = (cv fun i j => s i j + sq x t (g 0) 512 j : V1) :=
  (congrArg (fun p => k0_pay8 (F := Ideal) p.1 (cv s : V1)) (sums_cv x t g)).trans (pay8_cv (fun _ j => sq x t (g 0) 512 j) s)
theorem acc5 (x t g s : ℕ → ℕ → ℝ) : k0_pay9 (F := Ideal) (sumsAt (F := Ideal) (fx x) (fx t) (fg g) k0_t1_loop.trips).2 (cv s : V1) = (cv fun i j => s i j + dg x t (g 0) 512 j : V1) :=
  (congrArg (fun p => k0_pay9 (F := Ideal) p.2 (cv s : V1)) (sums_cv x t g)).trans (pay9_cv (fun _ j => dg x t (g 0) 512 j) s)

section
variable (X T : ℕ → ℕ → ℝ) (g : ℕ → ℝ)

theorem sq_step (n d : ℕ) : sq X T g (512 * n) d + sq (fun i => X (512 * n + i)) (fun i => T (512 * n + i)) g 512 d = sq X T g (512 * (n + 1)) d := by
  rw [show 512 * (n + 1) = 512 * n + 512 by omega, sq_add, sq.eq_def (fun i => X (512 * n + i)), Finset.sum_range]

theorem dg_step (n d : ℕ) : dg X T g (512 * n) d + dg (fun i => X (512 * n + i)) (fun i => T (512 * n + i)) g 512 d = dg X T g (512 * (n + 1)) d := by
  rw [show 512 * (n + 1) = 512 * n + 512 by omega]
  exact ((dgain_add (fun s => dy (X s) (T s) g) X (512 * n) 512 d).trans (congrArg _ (Finset.sum_range fun s => dgRow (dy (X (512 * n + s)) (T (512 * n + s)) g) (X (512 * n + s)) d).symm)).symm

end

/-- The finite array of rank 1 with entries `g j`. -/
def row1 (g : ℕ → ℝ) : FVec Ideal S1024 .f32 := fun i => ((g (i 0).val : ℝ) : EReal)

variable (m : (ℓ : Loc nD τ sig) → Buf (Elt Ideal) ℓ) (c : Dev nD) (X T : ℕ → ℕ → ℝ) (g : ℕ → ℝ)

/-- The arguments hold reals. -/
structure Holds : Prop where
  h0 : m ((c : Thread nD τ).loc main_arg0) = (cv (φ := .f32) X : FVec Ideal S8192x1024 .f32)
  h1 : m ((c : Thread nD τ).loc main_arg1) = (cv (φ := .f32) T : FVec Ideal S8192x1024 .f32)
  h2 : m ((c : Thread nD τ).loc main_arg2) = row1 g

/-- Where each window's block lies. -/
theorem idx : ∀ t : Fin grid0.N, win0_0.index t = ![t.val, 0] ∧ win0_1.index t = ![t.val, 0] ∧ win0_2.index t = ![0, 0] ∧ win0_3.index t = ![t.val, 0]
    ∧ win0_4.index t = ![0, 0] ∧ win0_5.index t = ![0, 0] := by decide +kernel

theorem flush4 : ∀ t : Fin cfg0.N, ((cfg0.win 4).flush t = true ↔ t.val = 15) := by decide +kernel
theorem flush5 : ∀ t : Fin cfg0.N, ((cfg0.win 5).flush t = true ↔ t.val = 15) := by decide +kernel

variable {m c X T g} (H : Holds m c X T g)
include H

/-- The gain as the host hands it over. -/
theorem entry : V m c main_v0 = (cv (φ := .f32) fun _ j => g j : FVec Ideal S1x1024 .f32) := by
  have e : V m c main_v0 = broadcastInDim S1x1024 ![1] bcast_S1024_S1x1024_1 (m ((c : Thread nD τ).loc main_arg2)) := by
    unfold V
    entry_read
    rfl
  rw [e, H.h2]
  funext i
  exact broadcastInDim_apply _ bcast_S1024_S1x1024_1 (row1 g) i (ValueIdx.ix1 ⟨(i 1).val, (i 1).isLt⟩) (fun a => match a with | ⟨0, _⟩ => by first | rfl | simp)

variable (t : Fin cfg0.N)

theorem block0 : iblk m c 0 t = (cv (φ := .f32) fun i j => X (512 * t.val + i) j : FVec Ideal S512x1024 .f32) := by
  funext y
  blk_simp [iblk]
  rw [V_main_arg0, H.h0]
  refine cv_at ?_
  blk_simp [(idx t).1]
  simp only [Nat.mul_comm]

theorem block1 : iblk m c 1 t = (cv (φ := .f32) fun i j => T (512 * t.val + i) j : FVec Ideal S512x1024 .f32) := by
  funext y
  blk_simp [iblk]
  rw [V_main_arg1, H.h1]
  refine cv_at ?_
  blk_simp [(idx t).2.1]
  simp only [Nat.mul_comm]

theorem block2 : iblk m c 2 t = (cv (φ := .f32) fun _ j => g j : FVec Ideal S1x1024 .f32) := by
  funext y
  blk_simp [iblk]
  rw [entry H]
  refine cv_at ?_
  blk_simp [(idx t).2.2.1]

/-- What a point that continues leaves, from what the point before it left. -/
theorem later (h : ¬t.val % 16 = 0) (p : FVec Ideal S512x1024 .f32) (s d : ℕ → ℕ → ℝ) (hp : ∀ h', outsAt0 m c (t.val - 1) h' = (p, (cv s : V1), (cv d : V1))) : outsAt0 m c t.val t.isLt
    = ((cv fun i j => dx (X (512 * t.val + i)) (T (512 * t.val + i)) g j : FVec Ideal S512x1024 .f32),
      (cv fun i j => s i j + sq (fun i => X (512 * t.val + i)) (fun i => T (512 * t.val + i)) g 512 j : V1), (cv fun i j => d i j + dg (fun i => X (512 * t.val + i)) (fun i => T (512 * t.val + i)) g 512 j : V1)) := by
  refine (outsAt0_B m c t h).trans ?_
  rw [hp, later3, later4, later5, block0 H, block1 H, block2 H]
  exact congrArg₂ Prod.mk (tile_cv _ _ _) (congrArg₂ Prod.mk (acc4 _ _ _ s) (acc5 _ _ _ d))

/-- What the first point leaves. -/
theorem first (h : t.val % 16 = 0) : outsAt0 m c t.val t.isLt
    = ((cv fun i j => dx (X (512 * t.val + i)) (T (512 * t.val + i)) g j : FVec Ideal S512x1024 .f32),
      (cv fun _ j => 0 + sq (fun i => X (512 * t.val + i)) (fun i => T (512 * t.val + i)) g 512 j : V1), (cv fun _ j => 0 + dg (fun i => X (512 * t.val + i)) (fun i => T (512 * t.val + i)) g 512 j : V1)) := by
  refine (outsAt0_A m c t h).trans ?_
  rw [first3, first4, first5, block0 H, block1 H, block2 H, pay1_cv, pay2_cv]
  exact congrArg₂ Prod.mk (tile_cv _ _ _) (congrArg₂ Prod.mk (acc4 _ _ _ fun _ _ => 0) (acc5 _ _ _ fun _ _ => 0))

/-- What the three outputs' buffers hold after point `n`. -/
theorem outs (n : ℕ) (hn : n < cfg0.N) : outsAt0 m c n hn
    = ((cv fun i j => dx (X (512 * n + i)) (T (512 * n + i)) g j : FVec Ideal S512x1024 .f32), (cv fun _ j => sq X T g (512 * (n + 1)) j : V1), (cv fun _ j => dg X T g (512 * (n + 1)) j : V1)) := by
  induction n with
  | zero =>
    refine (first H ⟨0, hn⟩ rfl).trans (congrArg₂ Prod.mk rfl (congrArg₂ Prod.mk (cv_congr fun _ _ j _ => ?_) (cv_congr fun _ _ j _ => ?_)))
    · exact sq_step X T g 0 j
    · exact dg_step X T g 0 j
  | succ n ih =>
    have h16 : n + 1 < 16 := hn
    refine (later H ⟨n + 1, hn⟩ (show ¬(n + 1) % 16 = 0 by omega) _ _ _ (fun _ => ih (Nat.lt_of_succ_lt hn))).trans
      (congrArg₂ Prod.mk rfl (congrArg₂ Prod.mk (cv_congr fun _ _ j _ => ?_) (cv_congr fun _ _ j _ => ?_)))
    · exact sq_step X T g (n + 1) j
    · exact dg_step X T g (n + 1) j

/-! ## The three results -/

theorem final3 : (dats m 0 c).arrAt 3 cfg0.N = (cv (φ := .f32) fun s j => dx (X s) (T s) g j : FVec Ideal S8192x1024 .f32) := by
  refine (dats m 0 c).arrAt_eq_of_covers 3 _ (by decide +kernel) fun t hf y => ?_
  blk_simp
  rw [after0_3, outs H]
  dsimp only
  refine cv_at (φ := .f32) (ψ := .f32) ?_
  blk_simp [(idx t).2.2.2.1]
  rw [Nat.mul_comm]

theorem final4 : (dats m 0 c).arrAt 4 cfg0.N = (cv (φ := .f32) fun _ j => sq X T g 8192 j : FVec Ideal S1x1024 .f32) := by
  refine (dats m 0 c).arrAt_eq_of_covers 4 _ (by decide +kernel) fun t hf y => ?_
  have hf' := (flush4 t).mp hf
  blk_simp
  rw [after0_4, outs H, hf']
  dsimp only
  refine cv_at (φ := .f32) (ψ := .f32) ?_
  blk_simp [(idx t).2.2.2.2.1]

theorem final5 : (dats m 0 c).arrAt 5 cfg0.N = (cv (φ := .f32) fun _ j => dg X T g 8192 j : FVec Ideal S1x1024 .f32) := by
  refine (dats m 0 c).arrAt_eq_of_covers 5 _ (by decide +kernel) fun t hf y => ?_
  have hf' := (flush5 t).mp hf
  blk_simp
  rw [after0_5, outs H, hf']
  dsimp only
  refine cv_at (φ := .f32) (ψ := .f32) ?_
  blk_simp [(idx t).2.2.2.2.2]

end Cert.Loss

end
-- ==== Proof.Loss.Ref.lean ====
/-
  The loss's reference at finite arguments, one operation at a time.
-/
module

public import proofs.«01_k».proof.Proof.Loss.Grid
public import proofs.«01_k».proof.Proof.CallInDx.Ref
public import proofs.«01_k».proof.Proof.Gen.RefLossIdeal.Read

@[expose] public section

noncomputable section

namespace Cert.Loss.Ref

open Cert.RefLossIdeal Cert.RefLossIdeal.Gen Cert.RefLossIdeal.Read Cert.RealArr Idealize.ShloMosaic Idealize.ShloMosaic.StableHlo
open Cert.CallInDx (ms rs ms_pos dxRow dxRow_eq dgRow dgain sum_mul_coe sum_rows ofBits_1024 ofBits_eps ofBits_neg_half rsqrt_ms)

variable (X T : ℕ → ℕ → ℝ) (g : ℕ → ℝ)

abbrev y0 : FVec Ideal S8192x1024 .f32 := cv X
abbrev y2 : FVec Ideal S1024 .f32 := row1 g

theorem s6 : val_main_v6 (F := Ideal) (y0 X) = (cv (φ := .f32) fun s _ => ms (X s) : FVec Ideal S8192x1 .f32) := by
  funext i
  rw [val_main_v6_apply, val_main_v4_apply, val_main_v2_apply, val_main_v1_apply, val_main_v3_apply, val_main_v5_apply]
  show Ideal.div (Ideal.ofBits .f32 0x00000000#32 + ∑ k : Fin 1024, ((X (i 0).val k.val : ℝ) : EReal) * ((X (i 0).val k.val : ℝ) : EReal)) (Ideal.ofBits .f32 0x44800000#32) + Ideal.ofBits .f32 0x358637BD#32 = _
  rw [Ideal.ofBits_zero_f32, zero_add, sum_mul_coe, ofBits_1024, ofBits_eps, div_coe_coe _ (by norm_num), ← EReal.coe_add]
  rfl

theorem s7 : val_main_v7 (F := Ideal) (y0 X) = (cv (φ := .f32) fun s _ => rs (X s) : FVec Ideal S8192x1 .f32) := by
  funext i
  rw [val_main_v7_apply, s6]
  exact rsqrt_ms _

theorem s10 : val_main_v10 (F := Ideal) (y0 X) = (cv (φ := .f32) fun s _ => -(1 / 2) * (rs (X s) / ms (X s)) : FVec Ideal S8192x1 .f32) := by
  funext i
  rw [val_main_v10_apply, val_main_v9_apply, val_main_v8_apply, s7, s6]
  show Ideal.ofBits .f32 0xBF000000#32 * Ideal.div ((rs (X (i 0).val) : ℝ) : EReal) ((ms (X (i 0).val) : ℝ) : EReal) = _
  rw [ofBits_neg_half, div_coe_coe _ (ms_pos _).ne', ← EReal.coe_mul]
  rfl

/-- The rows over their root mean squares. -/
theorem s12 : val_main_v12 (F := Ideal) (y0 X) = (cv (φ := .f32) fun s j => X s j * rs (X s) : FVec Ideal S8192x1024 .f32) := by
  funext i
  rw [val_main_v12_apply, val_main_v11_apply, s7]
  exact (EReal.coe_mul _ _).symm

/-- What the prediction misses the target by. -/
theorem s16 : val_main_v16 (F := Ideal) (y0 X) (y0 T) (y2 g) = (cv (φ := .f32) fun s j => err (X s) (T s) g j : FVec Ideal S8192x1024 .f32) := by
  funext i
  rw [val_main_v16_apply, val_main_v15_apply, s12, val_main_v14_apply, val_main_v13_apply]
  show ((X (i 0).val (i 1).val * rs (X (i 0).val) : ℝ) : EReal) * ((g (i 1).val : ℝ) : EReal) - ((T (i 0).val (i 1).val : ℝ) : EReal) = _
  rw [← EReal.coe_mul, ← EReal.coe_sub]
  rfl

theorem s17 : val_main_v17 (F := Ideal) (y0 X) (y0 T) (y2 g) = (cv (φ := .f32) fun s j => err (X s) (T s) g j * err (X s) (T s) g j : FVec Ideal S8192x1024 .f32) := by
  funext i
  rw [val_main_v17_apply, s16]
  exact (EReal.coe_mul _ _).symm

/-- The prediction's gradient. -/
theorem s30 : val_main_v30 (F := Ideal) (y0 X) (y0 T) (y2 g) = (cv (φ := .f32) fun s j => dy (X s) (T s) g j : FVec Ideal S8192x1024 .f32) := by
  funext i
  rw [val_main_v30_apply, val_main_v29_apply, val_main_v28_apply, val_main_v26_apply, val_main_v25_apply, val_main_v27_apply, val_main_v19_apply, val_main_v18_apply, s16]
  show Ideal.div (Ideal.ofBits .f32 0x3F000000#32 * Ideal.ofBits .f32 0x3F800000#32) (Ideal.ofBits .f32 0x44800000#32)
    * (Ideal.ofBits .f32 0x40000000#32 * ((err (X (i 0).val) (T (i 0).val) g (i 1).val : ℝ) : EReal)) = _
  rw [ofBits_half, ofBits_one, ofBits_two, ofBits_1024, ← EReal.coe_mul, div_coe_coe _ (by norm_num), ← EReal.coe_mul, ← EReal.coe_mul]
  refine congrArg (fun r : ℝ => (r : EReal)) ?_
  show _ = err (X (i 0).val) (T (i 0).val) g (i 1).val * (1 / 1024)
  ring

theorem s31 : val_main_v31 (F := Ideal) (y0 X) (y0 T) (y2 g) = (cv (φ := .f32) fun s j => dgRow (dy (X s) (T s) g) (X s) j : FVec Ideal S8192x1024 .f32) := by
  funext i
  rw [val_main_v31_apply, s12, s30]
  exact (EReal.coe_mul _ _).symm.trans (congrArg (fun r : ℝ => (r : EReal)) (mul_comm _ _))

/-- The columns of the squared errors. -/
theorem s52 : val_main_v52 (F := Ideal) (y0 X) (y0 T) (y2 g) = (cv (φ := .f32) fun _ j => sq X T g 8192 j : FVec Ideal S1x1024 .f32) := by
  funext i
  rw [val_main_v52_apply, val_main_v51_apply, s17]
  exact (congrArg₂ (fun a b : EReal => a + b) (show _ = (0 : EReal) from Ideal.ofBits_zero_f32)
    (sum_rows (fun s => err (X s) (T s) g (i 1).val * err (X s) (T s) g (i 1).val) 8192)).trans (zero_add _)

theorem s33 : val_main_v33 (F := Ideal) (y0 X) (y0 T) (y2 g) = (cv (φ := .f32) fun _ j => dg X T g 8192 j : FVec Ideal S1x1024 .f32) := by
  funext i
  have h0 : (i 0).val < 1 := (i 0).isLt
  have h : (i 0).val * 1024 + (i 1).val = (i 1).val := by omega
  rw [val_main_v33_apply, val_main_v32_apply, s31]
  refine Eq.trans ?_ (sum_rows (fun s => dgRow (dy (X s) (T s) g) (X s) (i 1).val) 8192)
  refine (congrArg₂ (fun a b : EReal => a + b) (show _ = (0 : EReal) from Ideal.ofBits_zero_f32) (Finset.sum_congr rfl fun k _ => ?_)).trans (zero_add _)
  exact congrArg (fun r : ℝ => (r : EReal)) (congrArg (fun j => dgRow (dy (X k.val) (T k.val) g) (X k.val) j) h)

/-- The gain's gradient. -/
theorem s53 : val_main_v53 (F := Ideal) (y0 X) (y0 T) (y2 g) = (cv (φ := .f32) fun _ j => dg X T g 8192 j : FVec Ideal S1x1024 .f32) := by
  funext i
  rw [val_main_v53_apply, val_main_v36_apply, s33, Fin.sum_univ_one]
  exact (congrArg₂ (fun a b : EReal => a + b) (show _ = (0 : EReal) from Ideal.ofBits_zero_f32) rfl).trans (zero_add _)

/-- The gradient that reaches the rows through the gain. -/
theorem s35 : val_main_v35 (F := Ideal) (y0 X) (y0 T) (y2 g) = (cv (φ := .f32) fun s j => dy (X s) (T s) g j * g j : FVec Ideal S8192x1024 .f32) := by
  funext i
  rw [val_main_v35_apply, s30, val_main_v34_apply, val_main_v13_apply]
  exact (EReal.coe_mul _ _).symm

theorem s37 : val_main_v37 (F := Ideal) (y0 X) (y0 T) (y2 g) = (cv (φ := .f32) fun s j => X s j * (dy (X s) (T s) g j * g j) : FVec Ideal S8192x1024 .f32) := by
  funext i
  rw [val_main_v37_apply, s35]
  exact (EReal.coe_mul _ _).symm

theorem s39 : val_main_v39 (F := Ideal) (y0 X) (y0 T) (y2 g) = (cv (φ := .f32) fun s _ => ∑ k : Fin 1024, X s k * (dy (X s) (T s) g k * g k) : FVec Ideal S8192x1 .f32) := by
  funext i
  have h0 : (i 1).val < 1 := (i 1).isLt
  have h : (i 0).val * 1 + (i 1).val = (i 0).val := by omega
  rw [val_main_v39_apply, val_main_v38_apply, s37]
  refine Eq.trans ?_ (coe_sum Finset.univ (fun k : Fin 1024 => X (i 0).val k.val * (dy (X (i 0).val) (T (i 0).val) g k.val * g k.val))).symm
  refine (congrArg₂ (fun a b : EReal => a + b) (show _ = (0 : EReal) from Ideal.ofBits_zero_f32) (Finset.sum_congr rfl fun k _ => ?_)).trans (zero_add _)
  exact congrArg (fun r : ℝ => (r : EReal)) (congrArg (fun a => X a k.val * (dy (X a) (T a) g k.val * g k.val)) h)

theorem s46 : val_main_v46 (F := Ideal) (y0 X) (y0 T) (y2 g)
    = (cv (φ := .f32) fun s _ => (∑ k : Fin 1024, X s k * (dy (X s) (T s) g k * g k)) * (-(1 / 2) * (rs (X s) / ms (X s))) / 1024 : FVec Ideal S8192x1024 .f32) := by
  funext i
  rw [val_main_v46_apply, val_main_v45_apply, Fin.sum_univ_one, val_main_v44_apply, val_main_v42_apply, s39, s10, val_main_v43_apply]
  show Ideal.ofBits .f32 0x00000000#32 + Ideal.div (((_ : ℝ) : EReal) * ((_ : ℝ) : EReal)) (Ideal.ofBits .f32 0x44800000#32) = _
  rw [Ideal.ofBits_zero_f32, zero_add, ← EReal.coe_mul, ofBits_1024, div_coe_coe _ (by norm_num)]
  rfl

/-- The rows' gradient. -/
theorem s50 : val_main_v50 (F := Ideal) (y0 X) (y0 T) (y2 g) = (cv (φ := .f32) fun s j => dx (X s) (T s) g j : FVec Ideal S8192x1024 .f32) := by
  funext i
  rw [val_main_v50_apply, val_main_v48_apply, val_main_v41_apply, val_main_v47_apply, val_main_v49_apply, s46, s35, val_main_v40_apply, s7]
  refine Eq.trans ?_ (congrArg (fun r : ℝ => (r : EReal)) ((dxRow_eq (X (i 0).val) (fun e => dy (X (i 0).val) (T (i 0).val) g e * g e) (fun _ => 0) (i 1).val).trans (zero_add _)).symm)
  simp only [EReal.coe_add, EReal.coe_mul]
  rfl

end Cert.Loss.Ref

end
-- ==== Proof.Loss.lean ====
/-
  The claims of the loss's call: the gradient that the loss passes back to the last layer's output and to the final gain, and the columns of the
  squared errors.
-/
module

public import proofs.«01_k».proof.Defs
public import proofs.«01_k».proof.Proof.Finite
public import proofs.«01_k».proof.Proof.Loss.Grid
public import proofs.«01_k».proof.Proof.Loss.Ref
public import proofs.«01_k».proof.Proof.Gen.Loss.Frame
public import proofs.«01_k».proof.Proof.Gen.LossIdeal.Value
public import proofs.«01_k».proof.Proof.Gen.RefLossIdeal.Run
public import proofs.«01_k».proof.Proof.Gen.Pre_finite_loss

@[expose] public section

noncomputable section

namespace Cert.Loss

open Cert.LossIdeal Cert.LossIdeal.Gen Cert.Finite Cert.RealArr Idealize.ShloMosaic Idealize.ShloMosaic.TcCoe Idealize.SL.Sem

/-- A row with no infinite entry is finite. -/
theorem exists_row1 (x : FVec Ideal S1024 .f32) (h : ∀ i, (x i : EReal) ≠ ⊤ ∧ (x i : EReal) ≠ ⊥) : ∃ g : ℕ → ℝ, x = row1 g := by
  refine ⟨fun j => if h' : j < 1024 then EReal.toReal (x (ValueIdx.ix1 ⟨j, h'⟩)) else 0, funext fun i => ?_⟩
  have hi : (ValueIdx.ix1 (⟨(i 0).val, (i 0).isLt⟩ : Fin 1024) : S1024.Idx) = i := funext fun a => match a with | ⟨0, _⟩ => rfl
  show x i = ((dite _ _ _ : ℝ) : EReal)
  rw [dif_pos (show (i 0).val < 1024 from (i 0).isLt), hi]
  exact (EReal.coe_toReal (h i).1 (h i).2).symm

/-- Where the precondition holds the arguments are finite arrays. -/
theorem holds (m : (ℓ : Loc nD τ sig) → Buf (Elt Ideal) ℓ) (hp : Cert.Pre_LossIdeal_finite_loss m) (c : Dev nD) : ∃ X T g, Holds m c X T g := by
  have h0 := congrFun (hp c) (Shape.Idx.first Cert.Pre_finite_loss.Facts.h_S_)
  obtain ⟨h0, k2⟩ := bits_of_and _ _ h0
  obtain ⟨k0, k1⟩ := bits_of_and _ _ h0
  obtain ⟨X, hX⟩ := exists_cv (φ := .f32) (m ((c : Thread nD τ).loc main_arg0)) (entries _ _ _ _ _ k0)
  obtain ⟨T, hT⟩ := exists_cv (φ := .f32) (m ((c : Thread nD τ).loc main_arg1)) (entries _ _ _ _ _ k1)
  obtain ⟨g, hg⟩ := exists_row1 (m ((c : Thread nD τ).loc main_arg2)) (entries _ _ _ _ _ k2)
  exact ⟨X, T, g, hX, hT, hg⟩

theorem frame : Cert.quiescent_Loss := fun m g _ => Cert.Loss.Gen.frame m g
theorem frameIdeal : Cert.quiescent_LossIdeal := fun m g _ => Cert.LossIdeal.Gen.frame m g
theorem frameIdeal_finite : Cert.quiescent_LossIdeal_pre_finite_loss := fun m g _ => frameIdeal m g trivial

/-- The reference is a straight line of host operations and declares no semaphore. -/
theorem frameRef : Cert.quiescent_RefLossIdeal := fun m g _ =>
  (θ_run Cert.RefLossIdeal.defs _ _).mono (fun r h => ⟨fun c => (h c).2.2.2, sem_eq_zero_of_no_sems (by decide) r.2⟩)
    (Cert.RefLossIdeal.Value.run (F := Ideal) m g)
theorem frameRef_finite : Cert.quiescent_RefLossIdeal_pre_finite_loss := fun m g _ => frameRef m g trivial

/-- The results of the two programs, from arguments that agree and are finite. -/
theorem algebraic : Cert.algebraic_LossIdeal_RefLossIdeal_pre_finite_loss := by
  intro m g m' g' hp hagree
  refine ⟨fun c => (dats m 0 c).arrAt 3 cfg0.N, fun c => (dats m 0 c).arrAt 4 cfg0.N, fun c => (dats m 0 c).arrAt 5 cfg0.N, Value.run_blocks m g, ?_⟩
  refine (θ_run Cert.RefLossIdeal.defs _ _).mono (fun r h c => ?_) (Cert.RefLossIdeal.Value.run (F := Ideal) m' g')
  obtain ⟨X, T, w, H⟩ := holds m hp c
  obtain ⟨e0, e1, e2⟩ := hagree c
  have e0 := e0.trans H.h0
  have e1 := e1.trans H.h1
  have e2 := e2.trans H.h2
  refine ⟨(h c).1.trans ?_, (h c).2.1.trans ?_, (h c).2.2.1.trans ?_, (h c).2.2.2⟩
  · rw [Cert.RefLossIdeal.Read.val_main_v50_eq, e0, e1, e2]
    exact (Ref.s50 X T w).trans (final3 H).symm
  · rw [Cert.RefLossIdeal.Read.val_main_v52_eq, e0, e1, e2]
    exact (Ref.s52 X T w).trans (final4 H).symm
  · rw [Cert.RefLossIdeal.Read.val_main_v53_eq, e0, e1, e2]
    exact (Ref.s53 X T w).trans (final5 H).symm

end Cert.Loss

end
-- ==== Proof.LossAll.Loop.lean ====
/-
  The loop over the slabs of 16 rows of the loss's call, in the algebra of the whole program: beside what the call needs it holds what the sum over
  the devices needs.
-/
module

public import proofs.«01_k».proof.Proof.Gen.LossAllIdeal.RegionsRQ
public import proofs.«01_k».proof.Proof.Gen.LossAllIdeal.Loops
public import proofs.«01_k».proof.Proof.Gen.LossAllIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.LossAll.Body

open Cert.LossAllIdeal Cert.LossAllIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The component of the pipeline, and that of the sum over the devices. -/
abbrev UU : Type := UR sig nD τ × Sites.UC

local notation "𝕄" => MT nD τ sig ℕ (Elt F) ℕ UU ℕ

variable (𝒱 : Variants) (c : Dev nD) (bd : Option 𝒱.V) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S1x1024 .f32) (harg6 : arg6.IsWhole)
  (X_arg1 : BufTy.Contents (Elt F) arg1.view.ty) (X_arg2 : BufTy.Contents (Elt F) arg2.view.ty) (X_arg3 : BufTy.Contents (Elt F) arg3.view.ty)

/-- What a trip works on: three operands that it reads, and the one that it writes. -/
abbrev TripRes (f_arg4 : BufTy.Contents (Elt F) arg4.view.ty) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} f_arg4))

/-- One trip: what it adds to the two sums, and the pieces that it writes. -/
@[irreducible] def tripRun (k : Fin k0_t1_loop.trips) :
    Σ' (R_k0_t1 : ((FVec F S1x1024 .f32 × FVec F S1x1024 .f32) → FVec F S1x1024 .f32 × FVec F S1x1024 .f32)) , { L_arg4 : ((FVec F S1x1024 .f32 × FVec F S1x1024 .f32) → List (View.Piece (Elt F) S512x1024 .f32)) // ∀ (E : Set ℕ) (acc : FVec F S1x1024 .f32 × FVec F S1x1024 .f32) (f_arg4 : BufTy.Contents (Elt F) arg4.view.ty),
      TripRes (F := F) c arg1 arg2 arg3 arg4 X_arg1 X_arg2 X_arg3 f_arg4
      ⊢ wp frame (wpE (defs₀ (F := F)) 𝒱 (c : Thread nD τ) bd) E (k0_t1_body (F := F) i arg1 harg1 arg2 harg2 arg3 harg3 arg4 harg4 arg5 harg5 arg6 harg6 k acc)
          (fun yld => iprop(⌜yld = R_k0_t1 acc⌝ ∗ TripRes (F := F) c arg1 arg2 arg3 arg4 X_arg1 X_arg2 X_arg3 (arg4.view.writes (Elt F) f_arg4 (L_arg4 acc)))) } := by
  have hk : k.val < 8 := Nat.lt_of_lt_of_le k.isLt k0_t1_abs.2.1
  refine ⟨?_, ?_, fun E acc f_arg4 => ?run⟩
  case run =>
    unfold k0_t1_body
    iintro ⟨HR_arg1, HR_arg2, HR_arg3, HW_arg4⟩
    sl_exec
    sl_step
    sl_close

/-- The two sums before trip `k`, and the pieces of the trips before, the last first. -/
def stateAt (init : FVec F S1x1024 .f32 × FVec F S1x1024 .f32) : ℕ → (FVec F S1x1024 .f32 × FVec F S1x1024 .f32) × List (View.Piece (Elt F) S512x1024 .f32)
  | 0 => (init, [])
  | k + 1 =>
    let prev := stateAt init k
    if h : k < k0_t1_loop.trips then
      ((tripRun 𝒱 c bd i arg1 harg1 arg2 harg2 arg3 harg3 arg4 harg4 arg5 harg5 arg6 harg6 X_arg1 X_arg2 X_arg3 ⟨k, h⟩).1 prev.1, (tripRun 𝒱 c bd i arg1 harg1 arg2 harg2 arg3 harg3 arg4 harg4 arg5 harg5 arg6 harg6 X_arg1 X_arg2 X_arg3 ⟨k, h⟩).2.1 prev.1 ++ prev.2)
    else prev

theorem stateAt_succ (init : FVec F S1x1024 .f32 × FVec F S1x1024 .f32) (k : Fin k0_t1_loop.trips) :
    stateAt 𝒱 c bd i arg1 harg1 arg2 harg2 arg3 harg3 arg4 harg4 arg5 harg5 arg6 harg6 X_arg1 X_arg2 X_arg3 init (k.val + 1)
      = ((tripRun 𝒱 c bd i arg1 harg1 arg2 harg2 arg3 harg3 arg4 harg4 arg5 harg5 arg6 harg6 X_arg1 X_arg2 X_arg3 k).1 (stateAt 𝒱 c bd i arg1 harg1 arg2 harg2 arg3 harg3 arg4 harg4 arg5 harg5 arg6 harg6 X_arg1 X_arg2 X_arg3 init k.val).1,
        (tripRun 𝒱 c bd i arg1 harg1 arg2 harg2 arg3 harg3 arg4 harg4 arg5 harg5 arg6 harg6 X_arg1 X_arg2 X_arg3 k).2.1 (stateAt 𝒱 c bd i arg1 harg1 arg2 harg2 arg3 harg3 arg4 harg4 arg5 harg5 arg6 harg6 X_arg1 X_arg2 X_arg3 init k.val).1
          ++ (stateAt 𝒱 c bd i arg1 harg1 arg2 harg2 arg3 harg3 arg4 harg4 arg5 harg5 arg6 harg6 X_arg1 X_arg2 X_arg3 init k.val).2) := by
  rw [stateAt.eq_2]; exact dif_pos k.isLt

/-- Before trip `k`: the operands as they were, the pieces of the trips before, and the two sums. -/
abbrev loopState (G_arg4 : BufTy.Contents (Elt F) arg4.view.ty) (init : FVec F S1x1024 .f32 × FVec F S1x1024 .f32) (k : ℕ) (acc : FVec F S1x1024 .f32 × FVec F S1x1024 .f32) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg4.view.loc (c : Thread nD τ) ↦[arg4.view.set]{fullShare} f) ∗ ⌜f = arg4.view.writes (Elt F) G_arg4 (stateAt (F := F) 𝒱 c bd i arg1 harg1 arg2 harg2 arg3 harg3 arg4 harg4 arg5 harg5 arg6 harg6 X_arg1 X_arg2 X_arg3 init k).2⌝) ∗ ⌜acc = (stateAt (F := F) 𝒱 c bd i arg1 harg1 arg2 harg2 arg3 harg3 arg4 harg4 arg5 harg5 arg6 harg6 X_arg1 X_arg2 X_arg3 init k).1⌝)

set_option warn.classDefReducibility false in
/-- The loop keeps it. -/
@[sl_loop] def lossLoop (E : Set ℕ) (G_arg4 : BufTy.Contents (Elt F) arg4.view.ty) (init : FVec F S1x1024 .f32 × FVec F S1x1024 .f32) :
    LoopInvTy_k0_t1 (F := F) ℕ ℕ UU ℕ 𝒱 c bd E i arg1 harg1 arg2 harg2 arg3 harg3 arg4 harg4 arg5 harg5 arg6 harg6 init where
  inv := loopState (F := F) 𝒱 c bd i arg1 harg1 arg2 harg2 arg3 harg3 arg4 harg4 arg5 harg5 arg6 harg6 X_arg1 X_arg2 X_arg3 G_arg4 init
  step k acc := by
    iintro ⟨HR_arg1, HR_arg2, HR_arg3, ⟨%f_arg4, HW_arg4, %h_arg4⟩, %h_acc⟩
    subst h_acc
    iapply (wp_wand_r Idealize.ShloMosaic.frame (wpE (defs₀ (F := F)) 𝒱 (c : Thread nD τ) bd) E)
    isplitl [HR_arg1 HR_arg2 HR_arg3 HW_arg4]
    · iapply ((tripRun (F := F) 𝒱 c bd i arg1 harg1 arg2 harg2 arg3 harg3 arg4 harg4 arg5 harg5 arg6 harg6 X_arg1 X_arg2 X_arg3 k).2.2 E (stateAt (F := F) 𝒱 c bd i arg1 harg1 arg2 harg2 arg3 harg3 arg4 harg4 arg5 harg5 arg6 harg6 X_arg1 X_arg2 X_arg3 init k).1 f_arg4)
      isplitl [HR_arg1]; · iexact HR_arg1
      isplitl [HR_arg2]; · iexact HR_arg2
      isplitl [HR_arg3]; · iexact HR_arg3
      iexact HW_arg4
    · iintro %yld ⟨%h_res, HR_arg1, HR_arg2, HR_arg3, HW_arg4⟩
      isplitl [HR_arg1]; · iexact HR_arg1
      isplitl [HR_arg2]; · iexact HR_arg2
      isplitl [HR_arg3]; · iexact HR_arg3
      simp only [stateAt_succ]
      isplitl [HW_arg4]
      · iexists _; isplitl [HW_arg4]; · iexact HW_arg4
        ipureintro; rw [h_arg4, ← View.writes_append]
      ipureintro; rw [h_res]

end Cert.LossAll.Body

end
-- ==== Proof.LossAll.Runs.lean ====
/-
  The body of the loss's call at a grid point: the first point clears the two sums, a later one goes on from what the point before left.
-/
module

public import proofs.«01_k».proof.Proof.LossAll.Loop

@[expose] public section

set_option maxRecDepth 16384

noncomputable section

namespace Cert.LossAll.Body

open Cert.LossAllIdeal Cert.LossAllIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The blocks, and where the body branches -/

def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

theorem before0_0_of {c : Dev nD} (dat : Dat τ (Elt F) ℕ ℕ UU ℕ cfg0 c) (hA : dat.A 0 = V1 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) ℕ ℕ UU ℕ cfg0 c) (hA : dat.A 1 = V1 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) ℕ ℕ UU ℕ cfg0 c) (hA : dat.A 2 = V1 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

abbrev VO0_3 : View sig .tc .vmem S512x1024 .f32 := (Memref.whole cc0_stg3_0 : Memref sig .tc .vmem S512x1024 .f32).view
abbrev VO0_4 : View sig .tc .vmem S1x1024 .f32 := (Memref.whole cc0_stg4_0 : Memref sig .tc .vmem S1x1024 .f32).view
abbrev VO0_5 : View sig .tc .vmem S1x1024 .f32 := (Memref.whole cc0_stg5_0 : Memref sig .tc .vmem S1x1024 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)

/-! ## The two cases -/

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S1x1024 .f32) (harg6 : arg6.IsWhole)

set_option maxHeartbeats 1000000 in
noncomputable def kernelRun0_A (hc0 : cond0_0 i)
    (x0 : Vec F S512x1024 .f32) (x1 : Vec F S512x1024 .f32) (x2 : Vec F S1x1024 .f32) :
    Σ' (L3 : List (View.Piece (Elt F) S512x1024 .f32)), Σ' (L4 : List (View.Piece (Elt F) S1x1024 .f32)), { L5 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_loss_bwd i arg1 harg1 arg2 harg2 arg3 harg3 arg4 harg4 arg5 harg5 arg6 harg6) K } := by
  refine ⟨?_, ?_, ?_, fun E K => ?run⟩
  case run =>
    simp only [cc0_loss_bwd_eq_skeleton]; unfold cc0_loss_bwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 1000000 in
noncomputable def kernelRun0_B (hc0 : ¬cond0_0 i)
    (x0 : Vec F S512x1024 .f32) (x1 : Vec F S512x1024 .f32) (x2 : Vec F S1x1024 .f32) (xo4 : Vec F S1x1024 .f32) (xo5 : Vec F S1x1024 .f32) :
    Σ' (L3 : List (View.Piece (Elt F) S512x1024 .f32)), Σ' (L4 : List (View.Piece (Elt F) S1x1024 .f32)), { L5 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_loss_bwd i arg1 harg1 arg2 harg2 arg3 harg3 arg4 harg4 arg5 harg5 arg6 harg6) K } := by
  refine ⟨?_, ?_, ?_, fun E K => ?run⟩
  case run =>
    simp only [cc0_loss_bwd_eq_skeleton]; unfold cc0_loss_bwd_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

end Cert.LossAll.Body

end
-- ==== Proof.LossAll.Body.lean ====
/-
  What the loss's call leaves in its outputs at every grid point, and its body's obligation.
-/
module

public import proofs.«01_k».proof.Proof.LossAll.Runs
public import Idealize.ShloMosaic.Lib.Pipeline.Frame
public import Idealize.ShloMosaic.Lib.Claim

@[expose] public section

set_option maxRecDepth 16384

noncomputable section

namespace Cert.LossAll.Body

open Cert.LossAllIdeal Cert.LossAllIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S1x1024 .f32) (harg6 : arg6.IsWhole)

section

variable (hc0 : cond0_0 i) (x0 : Vec F S512x1024 .f32) (x1 : Vec F S512x1024 .f32) (x2 : Vec F S1x1024 .f32)

theorem cover0_A_3 (y : S512x1024.Idx) :
    ∃ pc ∈ (kernelRun0_A c i arg1 harg1 arg2 harg2 arg3 harg3 arg4 harg4 arg5 harg5 arg6 harg6 hc0 x0 x1 x2).1, y ∈ pc.1.set :=
  View.cover_of_tiledL (kernelRun0_A c i arg1 harg1 arg2 harg2 arg3 harg3 arg4 harg4 arg5 harg5 arg6 harg6 hc0 x0 x1 x2).1 S16x1024.size (by sl_kernel_rfl) y

def out0_A_3 : Vec F S512x1024 .f32 :=
  VO0_3.read (Elt F) (VO0_3.writes (Elt F) VO0_3.junk (kernelRun0_A c i arg1 harg1 arg2 harg2 arg3 harg3 arg4 harg4 arg5 harg5 arg6 harg6 hc0 x0 x1 x2).1)

theorem cover0_A_4 (y : S1x1024.Idx) :
    ∃ pc ∈ (kernelRun0_A c i arg1 harg1 arg2 harg2 arg3 harg3 arg4 harg4 arg5 harg5 arg6 harg6 hc0 x0 x1 x2).2.1, y ∈ pc.1.set :=
  View.cover_of_tiledL (kernelRun0_A c i arg1 harg1 arg2 harg2 arg3 harg3 arg4 harg4 arg5 harg5 arg6 harg6 hc0 x0 x1 x2).2.1 S1x1024.size (by sl_kernel_rfl) y

def out0_A_4 : Vec F S1x1024 .f32 :=
  VO0_4.read (Elt F) (VO0_4.writes (Elt F) VO0_4.junk (kernelRun0_A c i arg1 harg1 arg2 harg2 arg3 harg3 arg4 harg4 arg5 harg5 arg6 harg6 hc0 x0 x1 x2).2.1)

theorem cover0_A_5 (y : S1x1024.Idx) :
    ∃ pc ∈ (kernelRun0_A c i arg1 harg1 arg2 harg2 arg3 harg3 arg4 harg4 arg5 harg5 arg6 harg6 hc0 x0 x1 x2).2.2.1, y ∈ pc.1.set :=
  View.cover_of_tiledL (kernelRun0_A c i arg1 harg1 arg2 harg2 arg3 harg3 arg4 harg4 arg5 harg5 arg6 harg6 hc0 x0 x1 x2).2.2.1 S1x1024.size (by sl_kernel_rfl) y

def out0_A_5 : Vec F S1x1024 .f32 :=
  VO0_5.read (Elt F) (VO0_5.writes (Elt F) VO0_5.junk (kernelRun0_A c i arg1 harg1 arg2 harg2 arg3 harg3 arg4 harg4 arg5 harg5 arg6 harg6 hc0 x0 x1 x2).2.2.1)

end

section

variable (hc0 : ¬cond0_0 i) (x0 : Vec F S512x1024 .f32) (x1 : Vec F S512x1024 .f32) (x2 : Vec F S1x1024 .f32) (xo4 : Vec F S1x1024 .f32) (xo5 : Vec F S1x1024 .f32)

theorem cover0_B_3 (y : S512x1024.Idx) :
    ∃ pc ∈ (kernelRun0_B c i arg1 harg1 arg2 harg2 arg3 harg3 arg4 harg4 arg5 harg5 arg6 harg6 hc0 x0 x1 x2 xo4 xo5).1, y ∈ pc.1.set :=
  View.cover_of_tiledL (kernelRun0_B c i arg1 harg1 arg2 harg2 arg3 harg3 arg4 harg4 arg5 harg5 arg6 harg6 hc0 x0 x1 x2 xo4 xo5).1 S16x1024.size (by sl_kernel_rfl) y

def out0_B_3 : Vec F S512x1024 .f32 :=
  VO0_3.read (Elt F) (VO0_3.writes (Elt F) VO0_3.junk (kernelRun0_B c i arg1 harg1 arg2 harg2 arg3 harg3 arg4 harg4 arg5 harg5 arg6 harg6 hc0 x0 x1 x2 xo4 xo5).1)

theorem cover0_B_4 (y : S1x1024.Idx) :
    ∃ pc ∈ (kernelRun0_B c i arg1 harg1 arg2 harg2 arg3 harg3 arg4 harg4 arg5 harg5 arg6 harg6 hc0 x0 x1 x2 xo4 xo5).2.1, y ∈ pc.1.set :=
  View.cover_of_tiledL (kernelRun0_B c i arg1 harg1 arg2 harg2 arg3 harg3 arg4 harg4 arg5 harg5 arg6 harg6 hc0 x0 x1 x2 xo4 xo5).2.1 S1x1024.size (by sl_kernel_rfl) y

def out0_B_4 : Vec F S1x1024 .f32 :=
  VO0_4.read (Elt F) (VO0_4.writes (Elt F) VO0_4.junk (kernelRun0_B c i arg1 harg1 arg2 harg2 arg3 harg3 arg4 harg4 arg5 harg5 arg6 harg6 hc0 x0 x1 x2 xo4 xo5).2.1)

theorem cover0_B_5 (y : S1x1024.Idx) :
    ∃ pc ∈ (kernelRun0_B c i arg1 harg1 arg2 harg2 arg3 harg3 arg4 harg4 arg5 harg5 arg6 harg6 hc0 x0 x1 x2 xo4 xo5).2.2.1, y ∈ pc.1.set :=
  View.cover_of_tiledL (kernelRun0_B c i arg1 harg1 arg2 harg2 arg3 harg3 arg4 harg4 arg5 harg5 arg6 harg6 hc0 x0 x1 x2 xo4 xo5).2.2.1 S1x1024.size (by sl_kernel_rfl) y

def out0_B_5 : Vec F S1x1024 .f32 :=
  VO0_5.read (Elt F) (VO0_5.writes (Elt F) VO0_5.junk (kernelRun0_B c i arg1 harg1 arg2 harg2 arg3 harg3 arg4 harg4 arg5 harg5 arg6 harg6 hc0 x0 x1 x2 xo4 xo5).2.2.1)

end

end

/-! ## What the outputs hold after each point -/

/-- The outputs after a point that clears the sums. -/
def atA (c : Dev nD) (t : Fin cfg0.N) (h : t.val % 16 = 0) : Vec F S512x1024 .f32 × Vec F S1x1024 .f32 × Vec F S1x1024 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h) (iblk m c 0 t) (iblk m c 1 t) (iblk m c 2 t),
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h) (iblk m c 0 t) (iblk m c 1 t) (iblk m c 2 t),
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h) (iblk m c 0 t) (iblk m c 1 t) (iblk m c 2 t))

/-- The outputs after a point that goes on from the sums `s` and `d`. -/
def atB (c : Dev nD) (t : Fin cfg0.N) (h : ¬t.val % 16 = 0) (s d : Vec F S1x1024 .f32) : Vec F S512x1024 .f32 × Vec F S1x1024 .f32 × Vec F S1x1024 .f32 :=
  (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h' => h ((hcond0_0 t).mp h')) (iblk m c 0 t) (iblk m c 1 t) (iblk m c 2 t) s d,
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h' => h ((hcond0_0 t).mp h')) (iblk m c 0 t) (iblk m c 1 t) (iblk m c 2 t) s d,
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h' => h ((hcond0_0 t).mp h')) (iblk m c 0 t) (iblk m c 1 t) (iblk m c 2 t) s d)

def outsAt0 (c : Dev nD) : (n : ℕ) → n < cfg0.N → Vec F S512x1024 .f32 × Vec F S1x1024 .f32 × Vec F S1x1024 .f32
  | 0, hn => atA m c ⟨0, hn⟩ (Nat.zero_mod _)
  | n + 1, hn =>
    if h0 : (n + 1) % 16 = 0 then atA m c ⟨n + 1, hn⟩ h0
    else atB m c ⟨n + 1, hn⟩ h0 (outsAt0 c n (Nat.lt_of_succ_lt hn)).2.1 (outsAt0 c n (Nat.lt_of_succ_lt hn)).2.2

theorem outsAt0_A (c : Dev nD) (t : Fin cfg0.N) (h0 : t.val % 16 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬t.val % 16 = 0) : outsAt0 m c t.val t.isLt = atB m c t h0
    (outsAt0 m c (t.val - 1) (Nat.lt_of_le_of_lt (Nat.sub_le _ _) t.isLt)).2.1 (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- What the call carries along: nothing scoped, and the generator register. -/
abbrev rest (c : Dev nD) : sProp 𝕄 := iprop(Pipeline.scopedRest spec0 c ∗ ∃ r, prngReg c r)

def dats (_ : Fin 1) (c : Dev nD) : Dat τ (Elt F) ℕ ℕ UU ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := rest c
  q _ := fullShare
  owed _ := Sites.O0 (F := F) c

theorem A_eq (c : Dev nD) (w : Fin cfg0.W) : (dats m 0 c).A w = V1 m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
theorem before0_5_B (c : Dev nD) (t : Fin cfg0.N) (h0 : ¬t.val % 16 = 0) (d) :
    (dats m 0 c).before 5 t d = (outsAt0 m c (t.val - 1) (Nat.lt_of_le_of_lt (Nat.sub_le _ _) t.isLt)).2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt 0 t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt 0 t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt 0 t.succ = (dats m 0 c).owesAt 0 t.castSucc from rfl,
    after0_0, after0_1, after0_2, after0_3, after0_4, after0_5]
  have hN : t.val < 16 := lt_of_lt_of_eq t.isLt (show cfg0.N = 16 from N_0)
  by_cases h0 : t.val % 16 = 0
  · rw [outsAt0_A m c t h0]
    unfold atA out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B m c t h0]
    simp only [before0_4_B m c t h0, before0_5_B m c t h0]
    unfold atB out0_B_3 out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none 0 Set.univ := fun t => by
  rw [bigSep_W0, bigSep_W0, defs₀_row]
  exact triple_restated (sound_body m c t) rfl .rfl fun _ => .rfl

end Cert.LossAll.Body

end
-- ==== Proof.LossAll.Trip.lean ====
/-
  The loss's call on each device: one trip of its loop over the slabs of 16 rows, over any float values, and what a grid point leaves of the sum of
  squares.
-/
module

public import proofs.«01_k».proof.Proof.LossAll.Body
public import Idealize.ShloMosaic.Lib.Pipeline.ValueKit

@[expose] public section

set_option maxRecDepth 16384

noncomputable section

namespace Cert.LossAll.Body

open Cert.LossAllIdeal Cert.LossAllIdeal.Gen Idealize.ShloMosaic Idealize.ShloMosaic.TcCoe Idealize.ShloMosaic.Tactic Idealize.SL Idealize.SL.Sem

variable {F : FTy → Type} [FloatOps F]

theorem trips_eq : k0_t1_loop.trips = 8 := by decide +kernel

/-- Slab `r` of trip `k` starts at row `64 k + 16 r`. -/
theorem off1_eq (k : Fin k0_t1_loop.trips) (r : Fin 4) : k0_off1 k (BitVec.ofNat 32 r.val) = ![64 * k.val + 16 * r.val, 0] := by
  revert k r
  decide +kernel

theorem row_inb (k : Fin k0_t1_loop.trips) (r : Fin 4) : ∀ a, k0_off1 k (BitVec.ofNat 32 r.val) a + S16x1024.size a ≤ S512x1024.size a := by
  revert k r
  decide +kernel

/-- The rows that step `r` of trip `k` works on. -/
abbrev slab (k : Fin k0_t1_loop.trips) (r : Fin 4) : Rect S512x1024 := Rect.unit (k0_off1 k (BitVec.ofNat 32 r.val)) S16x1024.size (row_inb k r)

theorem mem_slab (k : Fin k0_t1_loop.trips) (r : Fin 4) (y : S512x1024.Idx) : y ∈ (slab k r).set ↔ (y 0).val / 64 = k.val ∧ (y 0).val / 16 % 4 = r.val := by
  refine Rect.mem_set_unit.trans ?_
  rw [off1_eq]
  have h1 : (y 1).val < 1024 := (y 1).isLt
  have hr := r.isLt
  refine Fin.forall_fin_two.trans ?_
  show (64 * k.val + 16 * r.val ≤ (y 0).val ∧ (y 0).val < 64 * k.val + 16 * r.val + 16) ∧ 0 ≤ (y 1).val ∧ (y 1).val < 0 + 1024 ↔ _
  omega

section Slab

variable (x t : Vec F S512x1024 .f32) (g : Vec F S1x1024 .f32) (k : Fin k0_t1_loop.trips) (r : Fin 4)

/-- The row of the gain. -/
abbrev gain : Vec F S1x1024 .f32 := View.ld g (Rect.unit ![0, 0] S1x1024.size inb_S1x1024_S1x1024_0_0)

/-- What a slab stores. -/
abbrev dxSlab : FVec F S16x1024 .f32 := k0_pay16 (View.ld x (slab k r)) (gain g) (View.ld t (slab k r)) (gain g)
/-- What a slab makes of the sum of squares before it. -/
abbrev sqStep (s : FVec F S1x1024 .f32) : FVec F S1x1024 .f32 := k0_pay17 s (k0_pay14 (View.ld x (slab k r)) (gain g) (View.ld t (slab k r)))
/-- What a slab makes of the gain's gradient before it. -/
abbrev dgStep (s : FVec F S1x1024 .f32) : FVec F S1x1024 .f32 := k0_pay18 s (k0_pay13 (View.ld x (slab k r))) (k0_pay15 (View.ld x (slab k r)) (gain g) (View.ld t (slab k r)))

/-- The four slabs of a trip: what they store, the last first, and the two sums. -/
abbrev tripPieces : List (View.Piece (Elt F) S512x1024 .f32) :=
  [⟨slab k 3, dxSlab x t g k 3⟩, ⟨slab k 2, dxSlab x t g k 2⟩, ⟨slab k 1, dxSlab x t g k 1⟩, ⟨slab k 0, dxSlab x t g k 0⟩]
abbrev tripSums (s : FVec F S1x1024 .f32 × FVec F S1x1024 .f32) : FVec F S1x1024 .f32 × FVec F S1x1024 .f32 :=
  (sqStep x t g k 3 (sqStep x t g k 2 (sqStep x t g k 1 (sqStep x t g k 0 s.1))), dgStep x t g k 3 (dgStep x t g k 2 (dgStep x t g k 1 (dgStep x t g k 0 s.2))))

/-- The two sums before trip `k`, from zero. -/
def sumsAt : ℕ → FVec F S1x1024 .f32 × FVec F S1x1024 .f32
  | 0 => (k0_pay3, k0_pay3)
  | n + 1 => if h : n < k0_t1_loop.trips then tripSums x t g ⟨n, h⟩ (sumsAt n) else sumsAt n
/-- The pieces stored before trip `k`, the last first. -/
def piecesAt : ℕ → List (View.Piece (Elt F) S512x1024 .f32)
  | 0 => []
  | n + 1 => if h : n < k0_t1_loop.trips then tripPieces x t g ⟨n, h⟩ ++ piecesAt n else piecesAt n

theorem sumsAt_succ : sumsAt x t g (k.val + 1) = tripSums x t g k (sumsAt x t g k.val) := by rw [sumsAt.eq_2]; exact dif_pos k.isLt
theorem piecesAt_succ : piecesAt x t g (k.val + 1) = tripPieces x t g k ++ piecesAt x t g k.val := by rw [piecesAt.eq_2]; exact dif_pos k.isLt

end Slab

variable (c : Dev nD) (i : grid0.Coords) (arg1 : Memref sig .tc .vmem S512x1024 .f32) (h1 : arg1.IsWhole) (arg2 : Memref sig .tc .vmem S512x1024 .f32) (h2 : arg2.IsWhole)
  (arg3 : Memref sig .tc .vmem S1x1024 .f32) (h3 : arg3.IsWhole) (arg4 : Memref sig .tc .vmem S512x1024 .f32) (h4 : arg4.IsWhole)
  (arg5 : Memref sig .tc .vmem S1x1024 .f32) (h5 : arg5.IsWhole) (arg6 : Memref sig .tc .vmem S1x1024 .f32) (h6 : arg6.IsWhole)

theorem trip_sums (X1 : BufTy.Contents (Elt F) arg1.view.ty) (X2 : BufTy.Contents (Elt F) arg2.view.ty) (X3 : BufTy.Contents (Elt F) arg3.view.ty)
    (k : Fin k0_t1_loop.trips) (s : FVec F S1x1024 .f32 × FVec F S1x1024 .f32) :
    (tripRun Variants.none c none i arg1 h1 arg2 h2 arg3 h3 arg4 h4 arg5 h5 arg6 h6 X1 X2 X3 k).1 s
      = tripSums (arg1.view.read (Elt F) X1) (arg2.view.read (Elt F) X2) (arg3.view.read (Elt F) X3) k s := by
  unfold tripRun
  rfl

theorem trip_pieces (X1 : BufTy.Contents (Elt F) arg1.view.ty) (X2 : BufTy.Contents (Elt F) arg2.view.ty) (X3 : BufTy.Contents (Elt F) arg3.view.ty)
    (k : Fin k0_t1_loop.trips) (s : FVec F S1x1024 .f32 × FVec F S1x1024 .f32) :
    (tripRun Variants.none c none i arg1 h1 arg2 h2 arg3 h3 arg4 h4 arg5 h5 arg6 h6 X1 X2 X3 k).2.1 s
      = tripPieces (arg1.view.read (Elt F) X1) (arg2.view.read (Elt F) X2) (arg3.view.read (Elt F) X3) k := by
  unfold tripRun
  rfl

/-- The loop's state before trip `n`. -/
theorem state_eq (x t : Vec F S512x1024 .f32) (g : Vec F S1x1024 .f32) (n : ℕ) (hn : n ≤ k0_t1_loop.trips) :
    stateAt Variants.none c none i arg1 h1 arg2 h2 arg3 h3 arg4 h4 arg5 h5 arg6 h6 (h1.unread x) (h2.unread t) (h3.unread g) (k0_pay3, k0_pay3) n
      = (sumsAt x t g n, piecesAt x t g n) := by
  induction n with
  | zero => rfl
  | succ n ih =>
    refine (stateAt_succ Variants.none c none i arg1 h1 arg2 h2 arg3 h3 arg4 h4 arg5 h5 arg6 h6 _ _ _ _ ⟨n, hn⟩).trans ?_
    dsimp only
    rw [ih (Nat.le_of_succ_le hn), trip_sums, trip_pieces, h1.read_unread, h2.read_unread, h3.read_unread]
    exact congrArg₂ Prod.mk (sumsAt_succ x t g ⟨n, hn⟩).symm (piecesAt_succ x t g ⟨n, hn⟩).symm

/-- A store of the whole buffer, the last, and the loads of the whole buffer. -/
theorem canon_whole (w : FVec F S1x1024 .f32) (L : List (View.Piece (Elt F) S1x1024 .f32)) :
    View.canon (⟨Rect.unit ![0, 0] S1x1024.size inb_S1x1024_S1x1024_0_0, w⟩ :: L) = w :=
  View.canon_cons_unit_lit (Val := Elt F) (S := S1x1024) (e := .f32) (off := ![0, 0]) inb_S1x1024_S1x1024_0_0 w L (by decide)
theorem load_kept (x : Vec F S1x1024 .f32) {arg : Memref sig .tc .vmem S1x1024 .f32} (h : arg.IsWhole) :
    View.readAt (Elt F) arg.view (Rect.unit ![0, 0] S1x1024.size inb_S1x1024_S1x1024_0_0).toLoadRect (h.unread x) = x :=
  (congrArg (fun v => View.ld v (Rect.unit ![0, 0] S1x1024.size inb_S1x1024_S1x1024_0_0)) (h.read_unread x)).trans (View.ld_unit_lit _ x (by decide))

/-! ## The sum of squares after a point: the first point clears it, a later one goes on from what the point before left -/

variable (x t : Vec F S512x1024 .f32) (g s d : Vec F S1x1024 .f32)

theorem first4 (hc : cond0_0 i) : out0_A_4 c i arg1 h1 arg2 h2 arg3 h3 arg4 h4 arg5 h5 arg6 h6 hc x t g = k0_pay9 (sumsAt x t g k0_t1_loop.trips).1 k0_pay1 := by
  unfold out0_A_4
  refine (View.read_writes_junk_eq_canon _ _).trans ?_
  unfold kernelRun0_A
  refine (canon_whole _ _).trans (congrArg₂ k0_pay9 (congrArg (fun s => s.1.1) (state_eq c i arg1 h1 arg2 h2 arg3 h3 arg4 h4 arg5 h5 arg6 h6 x t g _ (Nat.le_refl _))) ?_)
  exact View.readCov_cons_toLoadRect _ _ _ _

theorem later4 (hc : ¬cond0_0 i) : out0_B_4 c i arg1 h1 arg2 h2 arg3 h3 arg4 h4 arg5 h5 arg6 h6 hc x t g s d = k0_pay9 (sumsAt x t g k0_t1_loop.trips).1 s := by
  unfold out0_B_4
  refine (View.read_writes_junk_eq_canon _ _).trans ?_
  unfold kernelRun0_B
  exact (canon_whole _ _).trans (congrArg₂ k0_pay9 (congrArg (fun s => s.1.1) (state_eq c i arg1 h1 arg2 h2 arg3 h3 arg4 h4 arg5 h5 arg6 h6 x t g _ (Nat.le_refl _))) (load_kept s h5))

end Cert.LossAll.Body

end
-- ==== Proof.LossAll.Rows.lean ====
/-
  The sums of the squared errors over extended reals: one slab of 16 rows and one tile of 512. `X` holds the rows, `T` the targets, row 0 of `G`
  the gain. Nothing is asked of the entries.
-/
module

public import proofs.«01_k».proof.Proof.LossAll.Trip
public import proofs.«01_k».proof.Proof.Mem.Base

@[expose] public section

noncomputable section

namespace Cert.LossAll

open Cert.LossAllIdeal Cert.LossAllIdeal.Gen Cert.LossAll.Body Idealize.ShloMosaic Idealize.ShloMosaic.TcCoe Idealize.SL.Sem
open Cert.Ext Cert.CallMergeF
open Cert.Mem (inv nrm)

/-! ## The model -/

/-- The square of an entry's error. -/
def err2 (X T G : ℕ → ℕ → EReal) (i j : ℕ) : EReal := (nrm X G i j - T i j) * (nrm X G i j - T i j)
/-- Column `j` of the squared errors, summed over the first `n` rows. -/
def sq (X T G : ℕ → ℕ → EReal) (n j : ℕ) : EReal := ∑ s ∈ Finset.range n, err2 X T G s j

theorem sq_add (X T G : ℕ → ℕ → EReal) (a n j : ℕ) : sq X T G (a + n) j = sq X T G a j + ∑ s : Fin n, err2 X T G (a + s) j := by
  unfold sq
  rw [Finset.sum_range_add, Finset.sum_range fun s => err2 X T G (a + s) j]

/-! ## Sixteen rows -/

variable (x t g s : ℕ → ℕ → EReal)

/-- Sixteen rows, and one. -/
abbrev R16 := FVec Ideal S16x1024 .f32
abbrev R1 := FVec Ideal S1x1024 .f32

theorem colSum16_ev {φ : FTy} (a : ℕ → ℕ → EReal) (hr : (⟨2, ![16, 1024]⟩ : Shape).Reduces [0] ⟨1, ![1024]⟩) (hc : (⟨1, ![1024]⟩ : Shape).ShapeCasts ⟨2, ![1, 1024]⟩) :
    shapeCast ⟨2, ![1, 1024]⟩ (Ideal.reduceAdd hr (ev a : FVec Ideal ⟨2, ![16, 1024]⟩ φ)) hc = ev (φ := φ) fun _ j => ∑ k : Fin 16, a k j := by
  funext i; pointwise; rfl

theorem inv_ev : k0_pay12 (F := Ideal) (ev x : R16) = (ev (φ := .f32) fun i _ => inv x i : FVec Ideal S16x1 .f32) := by
  unfold k0_pay12 k0_pay11
  simp only [multiReductionOpen, Ideal.reduceAdd_def, shapeCast_self_ev, mulf_ev, rowSum_ev, broadcast_ev, divf_ev, addf_ev, rsqrt_ev]
  rfl

theorem sqStep_ev : k0_pay17 (F := Ideal) (ev s : R1) (k0_pay14 (ev x : R16) (ev g : R1) (ev t : R16))
    = (ev fun i j => s i j + ∑ k : Fin 16, err2 x t g k j : R1) := by
  unfold k0_pay17 k0_pay14 k0_pay13 k0_pay11
  simp only [multiReductionOpen, Ideal.reduceAdd_def, inv_ev, shapeCast_self_ev, spreadCol_ev, spreadRow_ev, mulf_ev, subf_ev, colSum16_ev, addf_ev]
  rfl

theorem zero_ev : k0_pay3 (F := Ideal) = (ev fun _ _ => 0 : R1) := by
  unfold k0_pay3
  simp only [broadcast_ev, Ideal.ofBits_zero_f32]
theorem zero1_ev : k0_pay1 (F := Ideal) = (ev fun _ _ => 0 : R1) := zero_ev

theorem acc_ev (u : ℕ → ℕ → EReal) : k0_pay9 (F := Ideal) (ev s : R1) (ev u : R1) = (ev fun i j => u i j + s i j : R1) := by
  unfold k0_pay9
  simp only [shapeCast_self_ev, addf_ev]

/-! ## A tile of 512 rows -/

theorem slab_idx_0 (k : Fin k0_t1_loop.trips) (r : Fin 4) (z : (slab k r).shape.Idx) : ((slab k r).idx z 0).val = 64 * k.val + 16 * r.val + (z 0).val :=
  (unit_idx_val _ z 0).trans (congrArg (· + (z 0).val) (congrFun (off1_eq k r) 0))

theorem slab_idx_1 (k : Fin k0_t1_loop.trips) (r : Fin 4) (z : (slab k r).shape.Idx) : ((slab k r).idx z 1).val = (z 1).val :=
  ((unit_idx_val _ z 1).trans (congrArg (· + (z 1).val) (congrFun (off1_eq k r) 1))).trans (Nat.zero_add _)

theorem ld_slab (a : ℕ → ℕ → EReal) (k : Fin k0_t1_loop.trips) (r : Fin 4) :
    View.ld (Val := Elt Ideal) (e' := .f32) (ev (φ := .f32) a : FVec Ideal S512x1024 .f32) (slab k r)
      = (ev fun i j => a (64 * k.val + 16 * r.val + i) j : R16) := by
  funext i
  show a _ _ = a _ _
  rw [slab_idx_0, slab_idx_1]

/-- The tiles a point works on. -/
abbrev fx : FVec Ideal S512x1024 .f32 := ev x
abbrev fg : R1 := ev g

theorem gain_ev : gain (F := Ideal) (fg g) = (ev g : R1) := View.ld_unit_lit _ _ (by decide)

/-- The sum before trip `n`. -/
theorem sumsAt_ev (n : ℕ) (hn : n ≤ k0_t1_loop.trips) : (sumsAt (F := Ideal) (fx x) (fx t) (fg g) n).1 = (ev fun _ j => sq x t g (64 * n) j : R1) := by
  induction n with
  | zero =>
    refine zero_ev.trans ?_
    simp only [sq, Nat.mul_zero, Finset.range_zero, Finset.sum_empty]
  | succ n ih =>
    rw [show sumsAt (F := Ideal) (fx x) (fx t) (fg g) (n + 1) = _ from sumsAt_succ (F := Ideal) (fx x) (fx t) (fg g) ⟨n, hn⟩]
    dsimp only
    rw [ih (Nat.le_of_succ_le hn)]
    unfold sqStep
    simp only [ld_slab, gain_ev, sqStep_ev]
    rw [show 64 * (n + 1) = 64 * n + 16 + 16 + 16 + 16 by omega]
    simp only [sq_add]
    simp only [Nat.add_assoc, Nat.reduceAdd]
    rfl

theorem tile_ev : (sumsAt (F := Ideal) (fx x) (fx t) (fg g) k0_t1_loop.trips).1 = (ev fun _ j => sq x t g 512 j : R1) := by
  rw [sumsAt_ev x t g _ (Nat.le_refl _), trips_eq]

/-- A tile's sum, over what the point before it left. -/
theorem acc_tile : k0_pay9 (F := Ideal) (sumsAt (F := Ideal) (fx x) (fx t) (fg g) k0_t1_loop.trips).1 (ev s : R1) = (ev fun i j => s i j + sq x t g 512 j : R1) :=
  (congrArg (fun p => k0_pay9 (F := Ideal) p (ev s : R1)) (tile_ev x t g)).trans (acc_ev (fun _ j => sq x t g 512 j) s)

end Cert.LossAll

end
-- ==== Proof.LossAll.Launch.lean ====
/-
  The loss on the mesh, over any float values: the call on every device, then the sum over the devices. Every argument ends as launched, every counter
  ends at zero, and every buffer of a device ends at what the program computes.
-/
module

public import proofs.«01_k».proof.Proof.LossAll.Body
public import Idealize.ShloMosaic.Lib.Pipeline.RegionArraysS
public import Idealize.ShloMosaic.Lib.Pipeline.CollectiveSegs
public import Idealize.ShloMosaic.Lib.Pipeline.Kit
public import Idealize.ShloMosaic.Lib.StableHlo.CollectiveRules

@[expose] public section

noncomputable section

namespace Cert.LossAll

open Cert.LossAllIdeal Cert.LossAllIdeal.Gen Cert.LossAll.Body
open Cert.LossAllIdeal.Gen.Sites (L lv)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The pipeline's component on the left, the sum's on the right. -/
abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-! ## What the buffers hold -/

/-- After the call. -/
def mid (c : Dev nD) : Valuation τ sig (Elt F) := Pipeline.afterRegion (dats m 0 c) (V1 m c)
/-- Before the sum over the devices. -/
def parts (c : Dev nD) : Valuation τ sig (Elt F) := V3 m (fun _ b d => mid m d b) c
/-- What the call and the sum leave. -/
def outs : Outs (F := F)
  | 2 => fun b c => mid m c b
  | _ => fun b c => (ar0 (F := F)).after₀ (parts m) c b

theorem V3_outs (c : Dev nD) : V3 m (outs m) c = parts m c := rfl

/-- The call writes three arrays. -/
theorem written : ∀ w : Fin 6, (win0 w).isOut = true → Pipeline.arrRef spec0 w ∈ ([main_v4_0, main_v4_1, main_v4_2] : List (Ref sig .tc)) := by decide

theorem V2_outs (c : Dev nD) : ∀ b ∈ Pipeline.ucRefs τ sig, V2 m (outs m) c b = mid m c b := by
  intro b hb
  obtain ⟨r, -, rfl⟩ := Finset.mem_map.mp (Finset.mem_filter.mp hb).1
  by_cases h : r ∈ ([main_v4_0, main_v4_1, main_v4_2] : List (Ref sig .tc))
  · rcases List.mem_cons.mp h with rfl | h
    · exact (Function.update_of_ne (StableHlo.devRef_ne_of_ne (by decide)) _ _).trans
        ((Function.update_of_ne (StableHlo.devRef_ne_of_ne (by decide)) _ _).trans (Function.update_self _ _ _))
    rcases List.mem_cons.mp h with rfl | h
    · exact (Function.update_of_ne (StableHlo.devRef_ne_of_ne (by decide)) _ _).trans (Function.update_self _ _ _)
    obtain rfl := List.mem_singleton.mp h
    exact Function.update_self _ _ _
  · refine (V2_of m (outs m) c r h).trans (Pipeline.afterRegion_keeps (dats m 0 c) (V1 m c) launch0.win.arr_inj (fun _ => rfl) r fun w e => ?_).symm
    exact Classical.byContradiction fun hw => h (e ▸ written w (by simpa using hw))

theorem V4_outs (c : Dev nD) : ∀ b ∈ Pipeline.ucRefs τ sig, V4 m (outs m) c b = (ar0 (F := F)).after₀ (V3 m (outs m)) c b := by
  intro b _
  dsimp only [V4]
  by_cases h : b ∈ W4.map (Proc.devRef (τ := τ) .tc)
  · rw [if_pos h]
    rfl
  · rw [if_neg h]
    refine ((ar0 (F := F)).after₀_of_notMem (V3 m (outs m)) c fun hb => h ?_).symm
    rcases Finset.mem_insert.mp hb with rfl | hj
    · exact List.mem_map.mpr ⟨_, List.mem_cons_self, rfl⟩
    · obtain ⟨j, rfl⟩ := (ar0 (F := F)).mem_stageRefs.mp hj
      refine List.mem_map.mpr ⟨_, ?_, rfl⟩
      exact (show ∀ j : Fin 8, ar0_stage j ∈ W4 by decide) j

/-! ## The call, and the sum -/

/-- The call's waits are below what a device owes for the sum. -/
theorem cut : Pipeline.LevelCut (pcfgs (F := F)) adm 0 L lv 0 (fun c => Sites.O0 (F := F) c) (fun _ => 0) :=
  ⟨fun _ _ _ => Sites.mem_L _ _ (by decide), fun _ _ _ => le_refl _, fun _ _ _ hg => ⟨(Sites.O0_pos hg).1, (Sites.O0_pos hg).2⟩⟩

/-- The sum's cells, which stay with it. -/
abbrev cells : sProp 𝕄 := iprop(∃ κ, (AllReduce.Dat.once (ar0 (F := F)) (parts m)).cellInvs (Sites.E0 EC) κ)

/-- The call, entered with every buffer held, with what it owes and with what rides to the sum. -/
def region : Pipeline.RegionSeg (pcfgs (F := F)) adm (dats m) 0 defs₀ Variants.none L lv 0 :=
  Pipeline.RegionSeg.ofHeldIn (pcfgs (F := F)) adm (dats m) 0 defs₀ Variants.none L lv 0 (fun c => Sites.O0 (F := F) c) (Pipeline.ucRefs τ sig)
    (fun c => iprop(∃ r, prngReg c r)) (fun c => iprop(∃ r, prngReg c r)) launch0.toP rfl
    (fun c => (body_obligation m c).loose) (fun _ _ => rfl) (fun _ => rfl) (fun c => (dats m 0 c).share_full fun _ => rfl)
    (fun _ => .rfl) (fun _ => .rfl) (fun _ => 0) cut (Sites.rides0 EC (parts m)) (V1 m) (fun _ _ => rfl)

/-- The sum, with its cells beside it. -/
abbrev total : Pipeline.HostSeg (Ix := ℕ) (Name := ℕ) (U := UU) (Lvl := ℕ) (pcfgs (F := F)) defs₀ Variants.none L lv :=
  Sites.seg0 EC Variants.none (parts m) (Sites.Rest0 (parts m) fun _ => cells m)

/-- What every device keeps beside its buffers, before the call, before the sum and after it. -/
def along : Fin 3 → Dev nD → sProp 𝕄
  | 0, c => Sites.Es EC (parts m) 0 c
  | 1, c => Sites.Es EC (parts m) 0 c
  | 2, c => iprop(Sites.Es EC (parts m) 1 c ∗ (Sites.Ghost0 EC c ∗ cells m))

theorem arrs_sub : Pipeline.arrRefs (pcfgs (F := F) 0).spec ⊆ Pipeline.ucRefs τ sig :=
  Pipeline.arrRefs_sub_ucRefs _ fun w => by fin_cases w <;> rfl

theorem region_pre (c : Dev nD) : iprop(StableHlo.held (c : Thread nD τ) (Pipeline.ucRefs τ sig) (V1 m c) ∗ along m 0 c) ⊢ (region m).pre c := by
  dsimp only [along]
  rw [Sites.Es_0]
  unfold region
  exact Pipeline.RegionSeg.ofHeldIn_pre (pcs := pcfgs (F := F)) (a := adm) (pdats := dats m) (ι := 0) (defs₀ := defs₀) (𝒱₀ := Variants.none) (L := L) (lv := lv) (p := 0)
    (D := fun c => Sites.O0 (F := F) c) (X := fun c => iprop(∃ r, prngReg c r)) (Y := fun c => iprop(∃ r, prngReg c r)) (R := Sites.rides0 EC (parts m)) (W := V1 m) arrs_sub c

theorem region_post (c : Dev nD) : (region m).post c ⊢ iprop(StableHlo.held (c : Thread nD τ) (Pipeline.ucRefs τ sig) (V2 m (outs m) c) ∗ along m 1 c) := by
  rw [StableHlo.held_congr (c : Thread nD τ) (V2_outs m c)]
  dsimp only [along]
  rw [Sites.Es_0]
  unfold region
  exact Pipeline.RegionSeg.ofHeldIn_post (pcs := pcfgs (F := F)) (a := adm) (pdats := dats m) (ι := 0) (defs₀ := defs₀) (𝒱₀ := Variants.none) (L := L) (lv := lv) (p := 0)
    (D := fun c => Sites.O0 (F := F) c) (X := fun c => iprop(∃ r, prngReg c r)) (Y := fun c => iprop(∃ r, prngReg c r)) (R := Sites.rides0 EC (parts m)) (W := V1 m) arrs_sub c

theorem total_pre (c : Dev nD) : iprop(StableHlo.held (c : Thread nD τ) (Pipeline.ucRefs τ sig) (V3 m (outs m) c) ∗ along m 1 c) ⊢ (total m).pre c := by
  refine .trans ?_ (Sites.pre0 EC Variants.none (parts m) (fun _ => cells m) c)
  rw [V3_outs]
  dsimp only [along]
  rw [Sites.Es_0]
  iintro ⟨Hh, HO, Hp, Hr⟩
  ihave #Hi := (show Sites.rides0 EC (parts m) c ⊢ cells m from by unfold Sites.rides0 AllReduce.Dat.rides; iintro ⟨Hi, -⟩; iexact Hi) $$ Hr
  isplitl [Hh]; · iexact Hh
  isplitr []
  · isplitl [HO]; · iexact HO
    isplitl [Hp]; · iexact Hp
    iexact Hr
  iexact Hi

theorem total_post (c : Dev nD) : (total m).post c ⊢ iprop(StableHlo.held (c : Thread nD τ) (Pipeline.ucRefs τ sig) (V4 m (outs m) c) ∗ along m 2 c) :=
  Sites.post0' EC Variants.none (parts m) (fun _ => cells m) c _ (V4_outs m c)

/-! ## The launch and the end -/

/-- The launch element. -/
def start : UU := (initOf (Pipeline.cells cfgs cellOf_inj) (Pipeline.launchToks cfgs cellOf_inj), Sites.uC (U := UU) (parts m))

theorem start_split : (ownU (start m) : sProp 𝕄) ⊢ |={Set.univ}=> iprop(BI.own (EP (F := F) (initOf (Pipeline.cells cfgs cellOf_inj) (Pipeline.launchToks cfgs cellOf_inj)))
    ∗ bigSep Finset.univ (Sites.G EC (parts m))) := by
  unfold start
  iintro Hu
  ihave H := (ownU_pair _ _) $$ Hu
  icases H with ⟨HP, HX⟩
  imodintro
  isplitl [HP]; · iexact HP
  rw [Sites.bigSep_G]; iexact HX

/-- At the end the sum's counters are at zero. -/
theorem end_zero (c : Dev nD) (s' : Phys nD τ sig (Elt F)) : iprop((Sites.Ghost0 EC c ∗ cells m) ∗ SI s')
    ⊢ (|={Set.univ}=> iprop(⌜∀ sm : SemLoc sig, sm.isScoped .tc = false → s'.mem.sem ((c.tc : Thread nD τ), sm) = 0⌝ ∗ SI s') : sProp 𝕄) := by
  iintro ⟨⟨Hg, Hi⟩, HSI⟩
  imod ((AllReduce.Dat.once (ar0 (F := F)) (parts m)).ghostAfter_read (Sites.E0 EC) c (k := 0) le_rfl s') $$ [Hg Hi HSI] with ⟨%h, HSI⟩
  · isplitr [HSI]
    · isplitl [Hi] <;> iassumption
    iexact HSI
  imodintro
  isplitr
  · ipureintro
    intro sm hsm
    have hl : ∀ sm : SemLoc sig, sm.isScoped .tc = false → sm = .reg ar0_barrier ∨ sm = .dma ar0_recv ∨ sm = .dma ar0_send := by decide
    rcases hl sm hsm with rfl | rfl | rfl
    exacts [h.1, h.2.1, h.2.2]
  iexact HSI

/-- The run. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
      ∧ (∀ c : Dev nD, ∀ b ∈ Pipeline.ucRefs τ sig, r.2.mem ((c : Thread nD τ).1, b) = V4 m (outs m) c b)
      ∧ r.2.sem = fun _ => 0) :=
  frame_condRQ m EP 0 Variants.none L lv Sites.hL ρ (outs m) (dats m) (fun c => Sites.O0 (F := F) c) (Sites.G EC (parts m)) (start m) (start_split m)
    (along m) (Sites.hE0 EC (parts m) ρ) (fun c => iprop(Sites.Ghost0 EC c ∗ cells m))
    (fun c => by
      dsimp only [along]
      iintro ⟨HE, Hg⟩
      isplitl [Hg]; · iexact Hg
      iapply (Sites.hE_last EC (parts m) c); iexact HE)
    (end_zero m) (region m) (region_pre m) (region_post m) (total m) rfl (total_pre m) (total_post m)

end Cert.LossAll

end
-- ==== Proof.LossAll.Grid.lean ====
/-
  The call on one device over its sixteen row tiles, and what the device contributes to the loss: the sum of the squared errors of its rows, halved
  and divided by the number of columns.
-/
module

public import proofs.«01_k».proof.Proof.LossAll.Rows
public import proofs.«01_k».proof.Proof.LossAll.Launch
public import Idealize.ShloMosaic.Lib.Pipeline.ReadBack

@[expose] public section

noncomputable section

namespace Cert.LossAll

open Cert.LossAllIdeal Cert.LossAllIdeal.Gen Cert.LossAll.Body Idealize.ShloMosaic Idealize.ShloMosaic.TcCoe Idealize.SL.Sem
open Cert.Ext Cert.CallMergeF
open Idealize.ShloMosaic.Pipeline (Dat Cfg Window)

/-- The sum over a tile continues the sum over the tiles before it. -/
theorem sq_step (X T G : ℕ → ℕ → EReal) (n j : ℕ) : sq X T G (512 * n) j + sq (fun i => X (512 * n + i)) (fun i => T (512 * n + i)) G 512 j = sq X T G (512 * (n + 1)) j := by
  rw [show 512 * (n + 1) = 512 * n + 512 by omega, sq_add, sq.eq_def (fun i => X (512 * n + i)), Finset.sum_range]
  rfl

/-- The array of rank 1 with entries `g j`. -/
def row1 (g : ℕ → EReal) : FVec Ideal S1024 .f32 := fun i => g (i 0).val

variable (m : (ℓ : Loc nD τ sig) → Buf (Elt Ideal) ℓ) (c : Dev nD) (X T : ℕ → ℕ → EReal) (g : ℕ → EReal)

/-- The device's arguments by their entries. -/
structure Holds : Prop where
  h0 : m ((c : Thread nD τ).loc main_arg0) = (ev3 (φ := .f32) fun _ => X : FVec Ideal S1x8192x1024 .f32)
  h1 : m ((c : Thread nD τ).loc main_arg1) = (ev3 (φ := .f32) fun _ => T : FVec Ideal S1x8192x1024 .f32)
  h2 : m ((c : Thread nD τ).loc main_arg2) = row1 g

/-- Where each window's block lies. -/
theorem idx : ∀ t : Fin grid0.N, win0_0.index t = ![t.val, 0] ∧ win0_1.index t = ![t.val, 0] ∧ win0_2.index t = ![0, 0] ∧ win0_4.index t = ![0, 0] := by decide +kernel

theorem flush4 : ∀ t : Fin cfg0.N, ((cfg0.win 4).flush t = true ↔ t.val = 15) := by decide +kernel

theorem drop_8192 (f : ℕ → ℕ → ℕ → EReal) (h : (⟨3, ![1, 8192, 1024]⟩ : Shape).ShapeCasts ⟨2, ![8192, 1024]⟩) :
    shapeCast ⟨2, ![8192, 1024]⟩ (ev3 f : FVec Ideal ⟨3, ![1, 8192, 1024]⟩ .f32) h = ev fun i j => f 0 i j := by
  funext i; pointwise; rfl

/-- The host's half of the sum of a row over the number of columns. -/
theorem host_part (a : ℕ → ℕ → EReal) : (Host.divf (mulf (constant (F := Ideal) S_ .f32 0x3F000000#32)
      (Host.reduceAdd (ev a : FVec Ideal S1x1024 .f32) (constant (F := Ideal) S_ .f32 0x00000000#32) reducesTo_S1x1024_S_d0_1 h_S_))
      (constant (F := Ideal) S_ .f32 0x44800000#32) : FVec Ideal S_ .f32)
    = fun _ => Ideal.div (Ideal.ofBits .f32 0x3F000000#32 * ∑ j : Fin 1024, a 0 j) (Ideal.ofBits .f32 0x44800000#32) := by
  funext i
  refine congrArg (fun x => Ideal.div (Ideal.ofBits .f32 0x3F000000#32 * x) _) ?_
  rw [ValueIdx.hostReduceAdd_apply, Ideal.hostReduceAdd_total reducesTo_S1x1024_S_d0_1 (fun b => b.elim0), ValueIdx.sum_idx2, Fin.sum_univ_one]
  exact start_sum fun j => rfl

variable {m c X T g} (H : Holds m c X T g)
include H

/-! ## What the host hands over -/

theorem entry0 : V1 m c main_v1 = (ev (φ := .f32) X : FVec Ideal S8192x1024 .f32) := by
  have e : V1 m c main_v1 = shapeCast S8192x1024 (m ((c : Thread nD τ).loc main_arg0)) shapeCasts_S1x8192x1024_S8192x1024 := by
    unfold V1
    entry_read
    rfl
  rw [e, H.h0]
  exact drop_8192 _ _

theorem entry1 : V1 m c main_v2 = (ev (φ := .f32) T : FVec Ideal S8192x1024 .f32) := by
  have e : V1 m c main_v2 = shapeCast S8192x1024 (m ((c : Thread nD τ).loc main_arg1)) shapeCasts_S1x8192x1024_S8192x1024 := by
    unfold V1
    entry_read
    rfl
  rw [e, H.h1]
  exact drop_8192 _ _

theorem entry2 : V1 m c main_v3 = (ev (φ := .f32) fun _ j => g j : FVec Ideal S1x1024 .f32) := by
  have e : V1 m c main_v3 = broadcastInDim S1x1024 ![1] bcast_S1024_S1x1024_1 (m ((c : Thread nD τ).loc main_arg2)) := by
    unfold V1
    entry_read
    rfl
  rw [e, H.h2]
  funext i
  exact broadcastInDim_apply _ bcast_S1024_S1x1024_1 (row1 g) i (ValueIdx.ix1 ⟨(i 1).val, (i 1).isLt⟩) (fun a => match a with | ⟨0, _⟩ => by first | rfl | simp)

/-! ## The tiles -/

variable (t : Fin cfg0.N)

theorem block0 : iblk m c 0 t = (ev (φ := .f32) fun i j => X (512 * t.val + i) j : FVec Ideal S512x1024 .f32) := by
  funext y
  blk_simp [iblk]
  rw [entry0 H]
  simp only [ev_apply]
  blk_simp [(idx t).1]
  simp only [Nat.mul_comm]

theorem block1 : iblk m c 1 t = (ev (φ := .f32) fun i j => T (512 * t.val + i) j : FVec Ideal S512x1024 .f32) := by
  funext y
  blk_simp [iblk]
  rw [entry1 H]
  simp only [ev_apply]
  blk_simp [(idx t).2.1]
  simp only [Nat.mul_comm]

theorem block2 : iblk m c 2 t = (ev (φ := .f32) fun _ j => g j : FVec Ideal S1x1024 .f32) := by
  funext y
  blk_simp [iblk]
  rw [entry2 H]
  simp only [ev_apply]
  blk_simp [(idx t).2.2.1]

/-- What a point that continues leaves, from what the point before it left. -/
theorem later (h : ¬t.val % 16 = 0) (s : ℕ → ℕ → EReal) (hp : ∀ h', (outsAt0 m c (t.val - 1) h').2.1 = (ev s : R1)) : (outsAt0 m c t.val t.isLt).2.1
    = (ev fun i j => s i j + sq (fun i => X (512 * t.val + i)) (fun i => T (512 * t.val + i)) (fun _ j => g j) 512 j : R1) := by
  refine (congrArg (fun p => p.2.1) (outsAt0_B m c t h)).trans ?_
  dsimp only [atB]
  rw [hp, later4, block0 H, block1 H, block2 H]
  exact acc_tile _ _ _ s

/-- What the first point leaves. -/
theorem first (h : t.val % 16 = 0) : (outsAt0 m c t.val t.isLt).2.1
    = (ev fun _ j => 0 + sq (fun i => X (512 * t.val + i)) (fun i => T (512 * t.val + i)) (fun _ j => g j) 512 j : R1) := by
  refine (congrArg (fun p => p.2.1) (outsAt0_A m c t h)).trans ?_
  dsimp only [atA]
  rw [first4, block0 H, block1 H, block2 H, zero1_ev]
  exact acc_tile _ _ _ fun _ _ => 0

/-- What the buffer of the squared errors holds after point `n`. -/
theorem outs4 (n : ℕ) (hn : n < cfg0.N) : (outsAt0 m c n hn).2.1 = (ev fun _ j => sq X T (fun _ j => g j) (512 * (n + 1)) j : R1) := by
  induction n with
  | zero =>
    refine (first H ⟨0, hn⟩ rfl).trans (congrArg ev (funext fun _ => funext fun j => ?_))
    exact sq_step X T _ 0 j
  | succ n ih =>
    have h16 : n + 1 < 16 := hn
    refine (later H ⟨n + 1, hn⟩ (show ¬(n + 1) % 16 = 0 by omega) _ (fun _ => ih (Nat.lt_of_succ_lt hn))).trans (congrArg ev (funext fun _ => funext fun j => ?_))
    exact sq_step X T _ (n + 1) j

/-- The columns of the squared errors. -/
theorem final4 : (dats m 0 c).arrAt 4 cfg0.N = (ev (φ := .f32) fun _ j => sq X T (fun _ j => g j) 8192 j : FVec Ideal S1x1024 .f32) := by
  refine (dats m 0 c).arrAt_eq_of_covers 4 _ (by decide +kernel) fun t hf y => ?_
  have hf' := (flush4 t).mp hf
  blk_simp
  rw [after0_4, outs4 H, hf']
  simp only [ev_apply]
  blk_simp [(idx t).2.2.2]

/-! ## What a device contributes -/

/-- Half the sum of the squared errors over the number of columns. -/
theorem part : parts m c main_v7
    = fun _ : S_.Idx => Ideal.div (Ideal.ofBits .f32 0x3F000000#32 * ∑ j : Fin 1024, sq X T (fun _ j => g j) 8192 j) (Ideal.ofBits .f32 0x44800000#32) := by
  have e : parts m c main_v7 = (Host.divf (mulf (constant (F := Ideal) S_ .f32 0x3F000000#32) (Host.reduceAdd ((dats m 0 c).arrAt 4 cfg0.N : FVec Ideal S1x1024 .f32) (constant (F := Ideal) S_ .f32 0x00000000#32) reducesTo_S1x1024_S_d0_1 h_S_))
      (constant (F := Ideal) S_ .f32 0x44800000#32) : FVec Ideal S_ .f32) := by
    have e4 : V2 m (outs m) c main_v4_1 = (dats m 0 c).arrAt 4 cfg0.N :=
      (V2_outs m c _ (arrs_sub (F := Ideal) (by decide))).trans (Pipeline.afterRegion_arr (dats m 0 c) (V1 m c) launch0.win.arr_inj 4)
    rw [← e4, ← V3_outs]
    unfold V3
    entry_read
    rfl
  rw [e, final4 H]
  exact host_part _

end Cert.LossAll

end
-- ==== Proof.LossAll.Sum.lean ====
/-
  The loss: half the sum, over the eight sequences, of the rows' mean squared errors. The eight devices' contributions add up to it, and the reference
  computes it. A positive real factor may be taken out of a sum of extended reals, so nothing is asked of the entries.
-/
module

public import proofs.«01_k».proof.Proof.LossAll.Grid
public import proofs.«01_k».proof.Proof.Gen.RefLossAllIdeal.Read

@[expose] public section

noncomputable section

namespace Cert.LossAll

open Idealize.ShloMosaic Idealize.ShloMosaic.TcCoe Idealize.SL.Sem
open Cert.Ext
open Cert.Mem (inv nrm)

/-- The mean squared error of a row. -/
def rowLoss (X T G : ℕ → ℕ → EReal) (s : ℕ) : EReal := Ideal.div (∑ j : Fin 1024, err2 X T G s j) (Ideal.ofBits .f32 0x44800000#32)
/-- The loss. -/
def loss (X T : ℕ → ℕ → ℕ → EReal) (G : ℕ → ℕ → EReal) : EReal :=
  Ideal.ofBits .f32 0x3F000000#32 * ∑ c : Fin 8, ∑ s : Fin 8192, rowLoss (X c) (T c) G s

/-! ## The constants -/

theorem half : Ideal.ofBits .f32 0x3F000000#32 = ((1 / 2 : ℝ) : EReal) := by
  simp [Ideal.ofBits, Ideal.ieee, -EReal.coe_mul]; norm_num
theorem cols : Ideal.ofBits .f32 0x44800000#32 = ((1024 : ℝ) : EReal) := by
  simp [Ideal.ofBits, Ideal.ieee, -EReal.coe_mul]; norm_num

/-- A factor that is real and not negative goes into a sum. -/
theorem mul_sum_real {n : ℕ} {a : ℝ} (ha : 0 ≤ a) (f : Fin n → EReal) : (a : EReal) * ∑ k, f k = ∑ k, (a : EReal) * f k :=
  map_sum (⟨⟨fun x => (a : EReal) * x, mul_zero _⟩, fun x y => EReal.left_distrib_of_nonneg_of_ne_top (EReal.coe_nonneg.mpr ha) (EReal.coe_ne_top a) x y⟩ : EReal →+ EReal) f _

/-! ## The devices' contributions -/

/-- A device's contribution is half the sum of its rows' losses. -/
theorem part_eq (X T G : ℕ → ℕ → EReal) : Ideal.div (Ideal.ofBits .f32 0x3F000000#32 * ∑ j : Fin 1024, sq X T G 8192 j) (Ideal.ofBits .f32 0x44800000#32)
    = Ideal.ofBits .f32 0x3F000000#32 * ∑ s : Fin 8192, rowLoss X T G s := by
  have e : ∑ j : Fin 1024, sq X T G 8192 j = ∑ s : Fin 8192, ∑ j : Fin 1024, err2 X T G s j := by
    refine (Finset.sum_congr rfl fun j _ => ?_).trans Finset.sum_comm
    exact Finset.sum_range fun s => err2 X T G s j
  rw [e]
  simp only [rowLoss, cols, Ideal.div_coe (show (1024 : ℝ) ≠ 0 by norm_num)]
  rw [mul_assoc]
  refine congrArg (_ * ·) ?_
  rw [mul_comm, mul_sum_real (by norm_num)]
  exact Finset.sum_congr rfl fun s _ => mul_comm _ _

theorem parts_sum (X T : ℕ → ℕ → ℕ → EReal) (G : ℕ → ℕ → EReal) :
    ∑ c : Fin 8, Ideal.ofBits .f32 0x3F000000#32 * ∑ s : Fin 8192, rowLoss (X c) (T c) G s = loss X T G := by
  unfold loss
  rw [half, mul_sum_real (by norm_num)]

/-! ## The sum over the devices -/

section
open Cert.LossAllIdeal Cert.LossAllIdeal.Gen

theorem total_eq (v : Fin 8 → FVec Ideal S_ .f32) : (ar0 (F := Ideal)).toResult ((ar0 (F := Ideal)).foldGroup v) = (fun i => ∑ j : Fin 8, v j i : FVec Ideal S_ .f32) := by
  funext i
  rw [Fin.sum_univ_eight]
  rfl

/-- All the devices take part, in their order. -/
theorem peer_eq (c : Dev nD) (j : Fin 8) : (ar0 (F := Ideal)).peer c j = j := (show ∀ c j : Fin 8, ar0_mem ((ar0_pos c).1, j) = j by decide) c j

variable {m : (ℓ : Loc nD τ sig) → Buf (Elt Ideal) ℓ} {X T : ℕ → ℕ → ℕ → EReal} {g : ℕ → EReal}

/-- What every device ends with. -/
theorem result (H : ∀ c : Dev nD, Holds m c (X c.val) (T c.val) g) (c : Dev nD) : V4 m (outs m) c main_v8 = (fun _ => loss X T fun _ j => g j : FVec Ideal S_ .f32) := by
  refine (V4_outs m c _ (Finset.mem_filter.mpr ⟨Finset.mem_map.mpr ⟨main_v8, Finset.mem_univ _, rfl⟩, by decide⟩)).trans ?_
  refine ((ar0 (F := Ideal)).after₀_result (V3 m (outs m)) c).trans ((total_eq _).trans (funext fun i => ?_))
  refine (Finset.sum_congr rfl fun j _ => ?_).trans (parts_sum X T fun _ j => g j)
  rw [peer_eq, V3_outs, part (H j)]
  exact part_eq _ _ _

end

/-! ## The reference -/

section
open Cert.RefLossAllIdeal Cert.RefLossAllIdeal.Read

variable (X T : ℕ → ℕ → ℕ → EReal) (g : ℕ → EReal)

/-- The reference's arguments by their entries. -/
abbrev y0 (X : ℕ → ℕ → ℕ → EReal) : FVec Ideal S8x8192x1024 .f32 := ev3 X
abbrev y2 : FVec Ideal S1024 .f32 := fun i => g (i 0).val

theorem r1 (i : S8x8192.Idx) : val_main_v1 (F := Ideal) (y0 X) i = ∑ k : Fin 1024, X (i 0).val (i 1).val k * X (i 0).val (i 1).val k := by
  rw [val_main_v1_apply]
  exact start_sum fun k => rfl

theorem r7 (i : S8x8192x1.Idx) : val_main_v7 (F := Ideal) (y0 X) i = inv (X (i 0).val) (i 1).val := by
  rw [val_main_v7_apply, val_main_v6_apply, val_main_v4_apply, val_main_v2_apply, val_main_v3_apply, val_main_v5_apply, r1]
  rfl

theorem r14 (i : S8x8192x1024.Idx) : val_main_v14 (F := Ideal) (y0 X) (y0 T) (y2 g) i = err2 (X (i 0).val) (T (i 0).val) (fun _ j => g j) (i 1).val (i 2).val := by
  rw [val_main_v14_apply, val_main_v13_apply, val_main_v12_apply, val_main_v9_apply, val_main_v8_apply, r7, val_main_v11_apply, val_main_v10_apply]
  rfl

theorem r17 (i : S8x8192.Idx) : val_main_v17 (F := Ideal) (y0 X) (y0 T) (y2 g) i = rowLoss (X (i 0).val) (T (i 0).val) (fun _ j => g j) (i 1).val := by
  rw [val_main_v17_apply, val_main_v15_apply, val_main_v16_apply]
  refine congrArg (Ideal.div · _) ?_
  exact start_sum fun k => r14 X T g _

theorem r19 : val_main_v19 (F := Ideal) (y0 X) (y0 T) (y2 g) = (fun _ => loss X T fun _ j => g j : FVec Ideal S_ .f32) := by
  funext i
  rw [val_main_v19_apply, val_main_v18_apply, ValueIdx.sum_idx2]
  refine congrArg (Ideal.ofBits .f32 0x3F000000#32 * ·) ?_
  refine start_sum fun c => Finset.sum_congr rfl fun s _ => r17 X T g _

end

end Cert.LossAll

end
-- ==== Proof.LossAll.lean ====
/-
  The claims of the loss over the eight devices. The two frames of the kernel are one run, over any float values.
-/
module

public import proofs.«01_k».proof.Defs
public import proofs.«01_k».proof.Proof.LossAll.Sum
public import proofs.«01_k».proof.Proof.Gen.LossAll
public import proofs.«01_k».proof.Proof.Gen.RefLossAllIdeal.Run

@[expose] public section

noncomputable section

namespace Cert.LossAll

open Cert.LossAllIdeal.Gen Cert.Ext Idealize.ShloMosaic Idealize.ShloMosaic.TcCoe Idealize.SL.Sem

variable {F : FTy → Type} [FloatOps F]

theorem runArgs (m : (ℓ : Loc Cert.LossAllIdeal.nD Cert.LossAllIdeal.τ Cert.LossAllIdeal.sig) → Buf (Elt F) ℓ) (ρ : Dev Cert.LossAllIdeal.nD → PrngReg) :
    θ_run (Cert.LossAllIdeal.defs (F := F)) (onTc (τ := Cert.LossAllIdeal.τ) (Cert.LossAllIdeal.main (F := F))) ⟨m, fun _ => 0, ρ⟩ (fun r => (∀ c : Dev Cert.LossAllIdeal.nD,
      r.2.mem ((c.tc : Thread Cert.LossAllIdeal.nD Cert.LossAllIdeal.τ).loc Cert.LossAllIdeal.main_arg0) = m ((c.tc : Thread Cert.LossAllIdeal.nD Cert.LossAllIdeal.τ).loc Cert.LossAllIdeal.main_arg0)
      ∧ r.2.mem ((c.tc : Thread Cert.LossAllIdeal.nD Cert.LossAllIdeal.τ).loc Cert.LossAllIdeal.main_arg1) = m ((c.tc : Thread Cert.LossAllIdeal.nD Cert.LossAllIdeal.τ).loc Cert.LossAllIdeal.main_arg1)
      ∧ r.2.mem ((c.tc : Thread Cert.LossAllIdeal.nD Cert.LossAllIdeal.τ).loc Cert.LossAllIdeal.main_arg2) = m ((c.tc : Thread Cert.LossAllIdeal.nD Cert.LossAllIdeal.τ).loc Cert.LossAllIdeal.main_arg2))
      ∧ r.2.sem = fun _ => 0) :=
  (θ_run Cert.LossAllIdeal.defs _ _).mono (fun _ h => ⟨h.1, h.2.2⟩) (run m ρ)

/-! The kernel and its idealized reading have the same text, so the run is a run of both. -/

theorem body_same : Cert.LossAll.cc0_loss_bwd (F := F) = Cert.LossAllIdeal.cc0_loss_bwd (F := F) := rfl

theorem table_same : Cert.LossAll.defs₀ (F := F) = Cert.LossAllIdeal.defs₀ (F := F) := by
  unfold Cert.LossAll.defs₀ Cert.LossAllIdeal.defs₀
  refine congrArg (Defs.onTc (Λ := Cert.LossAllIdeal.Λ₀)) (funext fun l => funext fun a => ?_)
  obtain ⟨l, hl⟩ := l
  cases l with
  | zero => dsimp only; rw [body_same]; rfl
  | succ l => exact absurd hl (by omega)

theorem defs_same : Cert.LossAll.defs (F := F) = Cert.LossAllIdeal.defs (F := F) :=
  congrArg (Pipeline.defs Cert.LossAllIdeal.pcfgs) table_same

theorem frame : Cert.quiescent_LossAll := by
  intro m ρ _
  rw [defs_same]
  exact runArgs (F := Bits) m ρ
theorem frameIdeal : Cert.quiescent_LossAllIdeal := fun m ρ _ => runArgs (F := Ideal) m ρ

/-- The reference is a straight line of host operations and declares no semaphore. -/
theorem frameRef : Cert.quiescent_RefLossAllIdeal := fun m ρ _ =>
  (θ_run Cert.RefLossAllIdeal.defs _ _).mono (fun r h => ⟨fun c => (h c).2, sem_eq_zero_of_no_sems (by decide) r.2⟩)
    (Cert.RefLossAllIdeal.Value.run (F := Ideal) m ρ)

/-- Device `c`'s block of an array by its entries. -/
theorem block_ev3 (f : ℕ → ℕ → ℕ → EReal) (c : Fin 8) : Layout.block ⟨3, ![1, 8192, 1024]⟩ ⟨3, ![8, 8192, 1024]⟩ 0 8 c (ev3 f : FVec Ideal ⟨3, ![8, 8192, 1024]⟩ .f32)
    = (ev3 fun _ => f c.val : FVec Ideal ⟨3, ![1, 8192, 1024]⟩ .f32) := by
  funext i
  have h0 : (i 0).val = 0 := Nat.lt_one_iff.mp (i 0).isLt
  show f (c.val * 1 + (i 0).val) (i 1).val (i 2).val = f c.val (i 1).val (i 2).val
  rw [h0, Nat.mul_one, Nat.add_zero]

/-- Every array of rank 1 is given by its entries. -/
theorem exists_row1 (x : FVec Ideal Cert.LossAllIdeal.S1024 .f32) : ∃ g, x = row1 g := by
  refine ⟨fun j => if h : j < 1024 then x (ValueIdx.ix1 ⟨j, h⟩) else 0, funext fun i => ?_⟩
  show x i = dite _ _ _
  rw [dif_pos (show (i 0).val < 1024 from (i 0).isLt)]
  exact congrArg x (funext fun a => match a with | ⟨0, _⟩ => rfl)

/-- Every device ends with the loss, and so does the reference. -/
theorem algebraic : Cert.algebraic_LossAllIdeal_RefLossAllIdeal := by
  intro m ρ m' ρ' _ hagree
  obtain ⟨X, hX⟩ := exists_ev3 (φ := .f32) (m' (((0 : Dev Cert.RefLossAllIdeal.nD).tc : Thread Cert.RefLossAllIdeal.nD Cert.RefLossAllIdeal.τ).loc Cert.RefLossAllIdeal.main_arg0))
  obtain ⟨T, hT⟩ := exists_ev3 (φ := .f32) (m' (((0 : Dev Cert.RefLossAllIdeal.nD).tc : Thread Cert.RefLossAllIdeal.nD Cert.RefLossAllIdeal.τ).loc Cert.RefLossAllIdeal.main_arg1))
  obtain ⟨g, hg⟩ := exists_row1 (m' (((0 : Dev Cert.RefLossAllIdeal.nD).tc : Thread Cert.RefLossAllIdeal.nD Cert.RefLossAllIdeal.τ).loc Cert.RefLossAllIdeal.main_arg2))
  have H : ∀ c : Dev Cert.LossAllIdeal.nD, Holds m c (X c.val) (T c.val) g := fun c =>
    ⟨(hagree c).1.trans ((congrArg (Layout.block _ _ 0 8 c) hX).trans (block_ev3 X c)), (hagree c).2.1.trans ((congrArg (Layout.block _ _ 0 8 c) hT).trans (block_ev3 T c)),
      (hagree c).2.2.trans hg⟩
  refine ⟨(fun _ => loss X T fun _ j => g j : FVec Ideal Cert.LossAllIdeal.S_ .f32), (θ_run Cert.LossAllIdeal.defs _ _).mono (fun r h c => ⟨?_, h.1 c⟩) (run m ρ),
    (θ_run Cert.RefLossAllIdeal.defs _ _).mono (fun r h => ⟨?_, (h 0).2⟩) (Cert.RefLossAllIdeal.Value.run (F := Ideal) m' ρ')⟩
  · exact (h.2.1 c _ (Finset.mem_filter.mpr ⟨Finset.mem_map.mpr ⟨Cert.LossAllIdeal.main_v8, Finset.mem_univ _, rfl⟩, by decide⟩)).trans (result H c)
  · refine (h 0).1.trans ?_
    rw [Cert.RefLossAllIdeal.Read.val_main_v19_eq, hX, hT, hg]
    exact r19 X T g

end Cert.LossAll

end
-- ==== Proof.lean ====
/-
  The claims: the kernel and its idealization run and leave their arguments alone, the reference runs, and, where every argument is finite, the
  idealized kernel and the reference end with equal results; and the same of the eight calls that compute weight gradients, without a precondition
  (`CallInA` … `CallOut`), of the call that passes the input projection's gradient back, where its arguments are finite (`CallInDx`), and of the
  forward merge, the optimiser's nine calls, the memory's projection forward and backward, the forward attention and the loss summed over the
  devices, without a precondition (`CallMergeF`, `Adam`, `Mem`, `LossAll`), and of the loss head on one device, where its arguments are finite (`Loss`). The attention's backward value claim is `Arrays` (the kernel's three result arrays) beside `RefValue` (the
  reference's), both in terms of the real functions of `Model`.
-/
module

public import proofs.«01_k».proof.Proof.Gen.Kernel.Frame
public import proofs.«01_k».proof.Proof.Gen.Pre_finite
public import proofs.«01_k».proof.Proof.Arrays
public import proofs.«01_k».proof.Proof.RefValue
public import Idealize.ShloMosaic.Adequacy
public import Idealize.ShloMosaic.Init
public import proofs.«01_k».proof.Proof.CallInA
public import proofs.«01_k».proof.Proof.CallInB
public import proofs.«01_k».proof.Proof.CallInC
public import proofs.«01_k».proof.Proof.CallInM
public import proofs.«01_k».proof.Proof.CallBrA
public import proofs.«01_k».proof.Proof.CallBrB
public import proofs.«01_k».proof.Proof.CallBrC
public import proofs.«01_k».proof.Proof.CallOut
public import proofs.«01_k».proof.Proof.CallInDx.Claim
public import proofs.«01_k».proof.Proof.CallMergeF.Claim
public import proofs.«01_k».proof.Proof.Adam.In
public import proofs.«01_k».proof.Proof.Adam.Kv
public import proofs.«01_k».proof.Proof.Adam.Br
public import proofs.«01_k».proof.Proof.Adam.Out
public import proofs.«01_k».proof.Proof.Adam.Mix
public import proofs.«01_k».proof.Proof.Adam.Bias
public import proofs.«01_k».proof.Proof.Adam.Conv
public import proofs.«01_k».proof.Proof.Adam.Row
public import proofs.«01_k».proof.Proof.Adam.Final
public import proofs.«01_k».proof.Proof.Mem.AttF
public import proofs.«01_k».proof.Proof.Mem.KvB
public import proofs.«01_k».proof.Proof.Loss
public import proofs.«01_k».proof.Proof.LossAll

@[expose] public section

noncomputable section

namespace Cert.Proof

open Idealize.ShloMosaic Idealize.ShloMosaic.TcCoe Idealize.SL.Sem Cert.Finite

local instance : Cert.Pre_finite.Facts := Cert.Pre_finite.Gen.facts

/-- Where the precondition holds the arguments are finite arrays. -/
theorem holds (m : (ℓ : Loc Cert.KernelIdeal.nD Cert.KernelIdeal.τ Cert.KernelIdeal.sig) → Buf (Elt Ideal) ℓ) (hp : Cert.Pre_KernelIdeal_finite m)
    (c : Dev Cert.KernelIdeal.nD) : ∃ A D K, Cert.Arrays.Holds m c A D K := by
  have h0 := congrFun (hp c) (Shape.Idx.first Cert.Pre_finite.Facts.h_S_)
  obtain ⟨h1, hk⟩ := bits_of_and _ _ h0
  obtain ⟨hz, hd⟩ := bits_of_and _ _ h1
  obtain ⟨A, hA⟩ := exists_cv (φ := .f32) (m ((c : Thread Cert.KernelIdeal.nD Cert.KernelIdeal.τ).loc Cert.KernelIdeal.main_arg0)) (entries _ _ _ _ _ hz)
  obtain ⟨D, hD⟩ := exists_cv3 (φ := .f32) (m ((c : Thread Cert.KernelIdeal.nD Cert.KernelIdeal.τ).loc Cert.KernelIdeal.main_arg1)) (entries _ _ _ _ _ hd)
  obtain ⟨K, hK⟩ := exists_cv (φ := .bf16) (m ((c : Thread Cert.KernelIdeal.nD Cert.KernelIdeal.τ).loc Cert.KernelIdeal.main_arg2)) (entries _ _ _ _ _ hk)
  exact ⟨A, D, K, hA, hD, hK⟩

theorem frame_kernel : Cert.quiescent_Kernel := fun m g _ => Cert.Kernel.Gen.frame m g

theorem frame_kernelIdeal : Cert.quiescent_KernelIdeal := fun m g _ => Cert.KernelIdeal.Gen.frame m g

theorem frame_kernelIdeal_finite : Cert.quiescent_KernelIdeal_pre_finite := fun m g _ => Cert.KernelIdeal.Gen.frame m g

/-- The reference is a straight line of host operations and declares no semaphore. -/
theorem frame_referenceIdeal : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

theorem frame_referenceIdeal_finite : Cert.quiescent_ReferenceIdeal_pre_finite := fun m g _ => frame_referenceIdeal m g trivial

/-- The results of the two programs, from arguments that agree and are finite. -/
theorem algebraic : Cert.algebraic_KernelIdeal_ReferenceIdeal_pre_finite := by
  intro m g m' g' hp hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨A, D, K, H⟩ := holds m hp c
  have hz := (hagree c).1.trans H.z
  have hd := (hagree c).2.1.trans H.d
  have hk := (hagree c).2.2.trans H.k
  refine ⟨(h c).1.trans ?_, (h c).2.1.trans ?_, (h c).2.2.1.trans ?_, (h c).2.2.2⟩
  · rw [Cert.ReferenceIdeal.Read.val_main_v76_eq, hz, hd, hk]
    exact (Cert.RefValue.v76_cv A D K).trans (Cert.Arrays.final7 H).symm
  · rw [Cert.ReferenceIdeal.Read.val_main_v73_eq, hz, hd, hk]
    exact (Cert.RefValue.v73_cv A D K).trans (Cert.Arrays.final8 H).symm
  · rw [Cert.ReferenceIdeal.Read.val_main_v72_eq, hz, hd, hk]
    exact (Cert.RefValue.v72_cv A D K).trans (Cert.Arrays.final9 H).symm

theorem claim : Cert.Claim := ⟨Cert.Kernel.Gen.facts, Cert.KernelIdeal.Gen.facts, Cert.ReferenceIdeal.Gen.facts,
  Cert.InA.Gen.facts, Cert.InAIdeal.Gen.facts, Cert.RefInAIdeal.Gen.facts, Cert.InB.Gen.facts, Cert.InBIdeal.Gen.facts, Cert.RefInBIdeal.Gen.facts, Cert.InC.Gen.facts, Cert.InCIdeal.Gen.facts, Cert.RefInCIdeal.Gen.facts, Cert.InM.Gen.facts, Cert.InMIdeal.Gen.facts, Cert.RefInMIdeal.Gen.facts, Cert.BrA.Gen.facts, Cert.BrAIdeal.Gen.facts, Cert.RefBrAIdeal.Gen.facts, Cert.BrB.Gen.facts, Cert.BrBIdeal.Gen.facts, Cert.RefBrBIdeal.Gen.facts, Cert.BrC.Gen.facts, Cert.BrCIdeal.Gen.facts, Cert.RefBrCIdeal.Gen.facts, Cert.Out.Gen.facts, Cert.OutIdeal.Gen.facts, Cert.RefOutIdeal.Gen.facts, Cert.InDx.Gen.facts, Cert.InDxIdeal.Gen.facts,
  Cert.RefInDxIdeal.Gen.facts, Cert.MergeF.Gen.facts, Cert.MergeFIdeal.Gen.facts, Cert.RefMergeFIdeal.Gen.facts,
  Cert.AdIn.Gen.facts, Cert.AdInIdeal.Gen.facts, Cert.RefAdInIdeal.Gen.facts,
  Cert.AdKv.Gen.facts, Cert.AdKvIdeal.Gen.facts, Cert.RefAdKvIdeal.Gen.facts,
  Cert.AdBr.Gen.facts, Cert.AdBrIdeal.Gen.facts, Cert.RefAdBrIdeal.Gen.facts,
  Cert.AdOut.Gen.facts, Cert.AdOutIdeal.Gen.facts, Cert.RefAdOutIdeal.Gen.facts,
  Cert.AdMix.Gen.facts, Cert.AdMixIdeal.Gen.facts, Cert.RefAdMixIdeal.Gen.facts,
  Cert.AdBias.Gen.facts, Cert.AdBiasIdeal.Gen.facts, Cert.RefAdBiasIdeal.Gen.facts,
  Cert.AdConv.Gen.facts, Cert.AdConvIdeal.Gen.facts, Cert.RefAdConvIdeal.Gen.facts,
  Cert.AdRow.Gen.facts, Cert.AdRowIdeal.Gen.facts, Cert.RefAdRowIdeal.Gen.facts,
  Cert.AdFinal.Gen.facts, Cert.AdFinalIdeal.Gen.facts, Cert.RefAdFinalIdeal.Gen.facts,
  Cert.KvF.Gen.facts, Cert.KvFIdeal.Gen.facts, Cert.RefKvFIdeal.Gen.facts,
  Cert.AttF.Gen.facts, Cert.AttFIdeal.Gen.facts, Cert.RefAttFIdeal.Gen.facts,
  Cert.KvB.Gen.facts, Cert.KvBIdeal.Gen.facts, Cert.RefKvBIdeal.Gen.facts,
  Cert.Loss.Gen.facts, Cert.LossIdeal.Gen.facts, Cert.RefLossIdeal.Gen.facts,
  Cert.LossAll.Gen.facts, Cert.LossAllIdeal.Gen.facts, Cert.RefLossAllIdeal.Gen.facts,
  Cert.Pre_finite.Gen.facts, Cert.Pre_finite_dx.Gen.facts, Cert.Pre_finite_loss.Gen.facts,
  frame_kernel, frame_kernelIdeal, frame_kernelIdeal_finite, frame_referenceIdeal, frame_referenceIdeal_finite,
  Cert.CallInA.frame, Cert.CallInA.frameIdeal, Cert.CallInA.frameRef,
  Cert.CallInB.frame, Cert.CallInB.frameIdeal, Cert.CallInB.frameRef,
  Cert.CallInC.frame, Cert.CallInC.frameIdeal, Cert.CallInC.frameRef,
  Cert.CallInM.frame, Cert.CallInM.frameIdeal, Cert.CallInM.frameRef,
  Cert.CallBrA.frame, Cert.CallBrA.frameIdeal, Cert.CallBrA.frameRef,
  Cert.CallBrB.frame, Cert.CallBrB.frameIdeal, Cert.CallBrB.frameRef,
  Cert.CallBrC.frame, Cert.CallBrC.frameIdeal, Cert.CallBrC.frameRef,
  Cert.CallOut.frame, Cert.CallOut.frameIdeal, Cert.CallOut.frameRef,
  Cert.CallInDx.frame, Cert.CallInDx.frameIdeal, Cert.CallInDx.frameIdeal_finite, Cert.CallInDx.frameRef, Cert.CallInDx.frameRef_finite,
  Cert.CallMergeF.frame, Cert.CallMergeF.frameIdeal, Cert.CallMergeF.frameRef,
  Cert.Adam.In.frame, Cert.Adam.In.frameIdeal, Cert.Adam.In.frameRef,
  Cert.Adam.Kv.frame, Cert.Adam.Kv.frameIdeal, Cert.Adam.Kv.frameRef,
  Cert.Adam.Br.frame, Cert.Adam.Br.frameIdeal, Cert.Adam.Br.frameRef,
  Cert.Adam.Out.frame, Cert.Adam.Out.frameIdeal, Cert.Adam.Out.frameRef,
  Cert.Adam.Mix.frame, Cert.Adam.Mix.frameIdeal, Cert.Adam.Mix.frameRef,
  Cert.Adam.Bias.frame, Cert.Adam.Bias.frameIdeal, Cert.Adam.Bias.frameRef,
  Cert.Adam.Conv.frame, Cert.Adam.Conv.frameIdeal, Cert.Adam.Conv.frameRef,
  Cert.Adam.Row.frame, Cert.Adam.Row.frameIdeal, Cert.Adam.Row.frameRef,
  Cert.Adam.Final.frame, Cert.Adam.Final.frameIdeal, Cert.Adam.Final.frameRef,
  Cert.Mem.KvF.frame, Cert.Mem.KvF.frameIdeal, Cert.Mem.KvF.frameRef,
  Cert.Mem.AttF.frame, Cert.Mem.AttF.frameIdeal, Cert.Mem.AttF.frameRef,
  Cert.Mem.KvB.frame, Cert.Mem.KvB.frameIdeal, Cert.Mem.KvB.frameRef,
  Cert.Loss.frame, Cert.Loss.frameIdeal, Cert.Loss.frameIdeal_finite, Cert.Loss.frameRef, Cert.Loss.frameRef_finite,
  Cert.LossAll.frame, Cert.LossAll.frameIdeal, Cert.LossAll.frameRef,
  trivial, algebraic, trivial, Cert.CallInA.algebraic, trivial, Cert.CallInB.algebraic, trivial, Cert.CallInC.algebraic, trivial, Cert.CallInM.algebraic, trivial, Cert.CallBrA.algebraic, trivial, Cert.CallBrB.algebraic, trivial, Cert.CallBrC.algebraic, trivial, Cert.CallOut.algebraic,
  trivial, Cert.CallInDx.algebraic, trivial, Cert.CallMergeF.algebraic,
  trivial, Cert.Adam.In.algebraic, trivial, Cert.Adam.Kv.algebraic, trivial, Cert.Adam.Br.algebraic, trivial, Cert.Adam.Out.algebraic, trivial, Cert.Adam.Mix.algebraic, trivial, Cert.Adam.Bias.algebraic, trivial, Cert.Adam.Conv.algebraic, trivial, Cert.Adam.Row.algebraic, trivial, Cert.Adam.Final.algebraic,
  trivial, Cert.Mem.KvF.algebraic, trivial, Cert.Mem.AttF.algebraic, trivial, Cert.Mem.KvB.algebraic, trivial, Cert.Loss.algebraic,
  trivial, Cert.LossAll.algebraic⟩

end Cert.Proof

end
